-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_pairs" .f32 0x3A842108#32 ((1 / 992 : ℝ) : EReal)

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S2x32x512x512 : Shape := ⟨4, ![2, 32, 512, 512]⟩
abbrev S2x1x512x512 : Shape := ⟨4, ![2, 1, 512, 512]⟩
abbrev S_ : Shape := ⟨0, ![]⟩

class Facts : Prop where
  bcast_S_S2x1x512x512 : S_.BroadcastsInDim S2x1x512x512 (![] : Fin 0 → Fin S2x1x512x512.rank)
  reducesTo_S2x1x512x512_S_d0_1_2_3 : S2x1x512x512.ReducesTo [0, 1, 2, 3] S_
  h_S_ : 0 < S_.numel

variable [Facts]

def fn {F : FTy → Type} [FloatOps F] (main_arg0 : FVec F S2x32x512x512 .f32) (main_arg1 : IVec S2x1x512x512 32) : IVec S_ 1 :=
  let main_c : IVec S_ 32 := constantI S_ 32 0#32
  let main_v0 : IVec S2x1x512x512 32 := broadcastInDim S2x1x512x512 ![] bcast_S_S2x1x512x512 main_c
  let main_v1 : IVec S2x1x512x512 1 := cmpi .sge main_arg1 main_v0
  let main_c_0 : IVec S_ 1 := constantI S_ 1 1#1
  let main_v2 : IVec S_ 1 := (fun x v => Host.reduce IntOp.andi x v reducesTo_S2x1x512x512_S_d0_1_2_3 h_S_) main_v1 main_c_0
  let main_c_1 : IVec S_ 32 := constantI S_ 32 32#32
  let main_v3 : IVec S2x1x512x512 32 := broadcastInDim S2x1x512x512 ![] bcast_S_S2x1x512x512 main_c_1
  let main_v4 : IVec S2x1x512x512 1 := cmpi .slt main_arg1 main_v3
  let main_c_2 : IVec S_ 1 := constantI S_ 1 1#1
  let main_v5 : IVec S_ 1 := (fun x v => Host.reduce IntOp.andi x v reducesTo_S2x1x512x512_S_d0_1_2_3 h_S_) main_v4 main_c_2
  let main_v6 : IVec S_ 1 := andi main_v2 main_v5
  main_v6
-- ==== Kernel.lean ====
abbrev S2x32x512x512 : Shape := ⟨4, ![2, 32, 512, 512]⟩
abbrev S2x1x512x512 : Shape := ⟨4, ![2, 1, 512, 512]⟩
abbrev S2x32x262144 : Shape := ⟨3, ![2, 32, 262144]⟩
abbrev S2x262144 : Shape := ⟨2, ![2, 262144]⟩
abbrev S2x16 : Shape := ⟨2, ![2, 16]⟩
abbrev S2x32x1024 : Shape := ⟨3, ![2, 32, 1024]⟩
abbrev S2x1024 : Shape := ⟨2, ![2, 1024]⟩
abbrev S4352 : Shape := ⟨1, ![4352]⟩
abbrev S1088 : Shape := ⟨1, ![1088]⟩
abbrev S1024 : Shape := ⟨1, ![1024]⟩
abbrev S4096 : Shape := ⟨1, ![4096]⟩
abbrev S16x1088 : Shape := ⟨2, ![16, 1088]⟩
abbrev S16 : Shape := ⟨1, ![16]⟩
abbrev S2 : Shape := ⟨1, ![2]⟩
abbrev S1x32x1024 : Shape := ⟨3, ![1, 32, 1024]⟩
abbrev S32x1024 : Shape := ⟨2, ![32, 1024]⟩
abbrev S1 : Shape := ⟨1, ![1]⟩
abbrev S_ : Shape := ⟨0, ![]⟩
abbrev S1x1024 : Shape := ⟨2, ![1, 1024]⟩
abbrev S1x16 : Shape := ⟨2, ![1, 16]⟩
abbrev S1x1x16 : Shape := ⟨3, ![1, 1, 16]⟩
abbrev S1x1088 : Shape := ⟨2, ![1, 1088]⟩
abbrev S1x1 : Shape := ⟨2, ![1, 1]⟩

abbrev nBuf : Table → Nat
  | .hbm => 12
  | .shared => 2
  | .local .scVector .vmem => 13
  | _ => 0

abbrev bufTy : (tb : Table) → Fin (nBuf tb) → BufTy
  | .hbm, ⟨0, _⟩ => ⟨S2x32x512x512, .f32⟩
  | .hbm, ⟨1, _⟩ => ⟨S2x1x512x512, .i32⟩
  | .hbm, ⟨2, _⟩ => ⟨S2x32x262144, .f32⟩
  | .hbm, ⟨3, _⟩ => ⟨S2x262144, .i32⟩
  | .hbm, ⟨4, _⟩ => ⟨S2x16, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .shared, ⟨0, _⟩ => ⟨S16x1088, .f32⟩
  | .shared, ⟨1, _⟩ => ⟨S1024, .f32⟩
  | .local .scVector .vmem, ⟨0, _⟩ => ⟨S2x32x1024, .f32⟩
  | .local .scVector .vmem, ⟨1, _⟩ => ⟨S2x1024, .i32⟩
  | .local .scVector .vmem, ⟨2, _⟩ => ⟨S4352, .f32⟩
  | .local .scVector .vmem, ⟨3, _⟩ => ⟨S4352, .f32⟩
  | .local .scVector .vmem, ⟨4, _⟩ => ⟨S4352, .f32⟩
  | .local .scVector .vmem, ⟨5, _⟩ => ⟨S4352, .f32⟩
  | .local .scVector .vmem, ⟨6, _⟩ => ⟨S1088, .f32⟩
  | .local .scVector .vmem, ⟨7, _⟩ => ⟨S1024, .f32⟩
  | .local .scVector .vmem, ⟨8, _⟩ => ⟨S4096, .f32⟩
  | .local .scVector .vmem, ⟨9, _⟩ => ⟨S1024, .f32⟩
  | .local .scVector .vmem, ⟨10, _⟩ => ⟨S1088, .f32⟩
  | .local .scVector .vmem, ⟨11, _⟩ => ⟨S16x1088, .f32⟩
  | .local .scVector .vmem, ⟨12, _⟩ => ⟨S16, .f32⟩
  | _, _ => ⟨S2x32x512x512, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 5 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch15 : Ref sig .scVector := ⟨.shared, 0, rfl⟩
abbrev cc0_scratch16 : Ref sig .scVector := ⟨.shared, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c272_i32 : BitVec 32 := 272#32
  let v4 : BitVec 32 := Scalar.addi c0_i32_1 c272_i32
  let c1_i32 : BitVec 32 := 1#32
  ⟨c0_i32_1, v4, c1_i32⟩
def k0_off1 (k0_t1 : Fin k0_t1_loop.trips) : Fin 1 → Nat :=
  let c0_i32_1 : BitVec 32 := 0#32
  let c1_i32 : BitVec 32 := 1#32
  let arg22 : BitVec 32 := Scf.iv c0_i32_1 c1_i32 k0_t1
  let c16_i32_57 : BitVec 32 := 16#32
  let v68 : BitVec 32 := Scalar.muli arg22 c16_i32_57
  let v69 : Index := Scalar.indexCast v68
  ![v69.toNat]
def k0_off2 (i : grid0.Coords) : Fin 3 → Nat :=
  let arg0 : BitVec 32 := BitVec.ofNat 32 (i 0).val
  let c0_i32_8 : BitVec 32 := 0#32
  let arg1 : BitVec 32 := BitVec.ofNat 32 (i 1).val
  let c16384_i32 : BitVec 32 := 16384#32
  let v0 : BitVec 32 := Scalar.muli arg1 c16384_i32
  let c0_i32_3 : BitVec 32 := 0#32
  let v8 : BitVec 32 := Scalar.addi v0 c0_i32_3
  ![arg0.toNat, 0, v8.toNat]
def k0_off3 (i : grid0.Coords) : Fin 2 → Nat :=
  let arg0 : BitVec 32 := BitVec.ofNat 32 (i 0).val
  let arg1 : BitVec 32 := BitVec.ofNat 32 (i 1).val
  let c16384_i32 : BitVec 32 := 16384#32
  let v0 : BitVec 32 := Scalar.muli arg1 c16384_i32
  let c0_i32_3 : BitVec 32 := 0#32
  let v8 : BitVec 32 := Scalar.addi v0 c0_i32_3
  ![arg0.toNat, v8.toNat]
@[reducible] def k0_t2_loop : Scf.Loop 32 :=
  let c0_i32_17 : BitVec 32 := 0#32
  let c16_i32 : BitVec 32 := 16#32
  let v29 : BitVec 32 := Scalar.addi c0_i32_17 c16_i32
  let c1_i32_18 : BitVec 32 := 1#32
  ⟨c0_i32_17, v29, c1_i32_18⟩
def k0_cond1 (k0_t2 : Fin k0_t2_loop.trips) : BitVec 1 :=
  let c0_i32_17 : BitVec 32 := 0#32
  let c1_i32_18 : BitVec 32 := 1#32
  let arg22 : BitVec 32 := Scf.iv c0_i32_17 c1_i32_18 k0_t2
  let c1_i32_59 : BitVec 32 := 1#32
  let v70 : BitVec 32 := Scalar.addi arg22 c1_i32_59
  let c16_i32_60 : BitVec 32 := 16#32
  let v71 : BitVec 1 := Scalar.cmpi .slt v70 c16_i32_60
  let v72 : BitVec 32 := Scalar.extui v71
  let c0_i32_61 : BitVec 32 := 0#32
  let v73 : BitVec 1 := Scalar.cmpi .ne v72 c0_i32_61
  v73

def k0_off4 (k0_t2 : Fin k0_t2_loop.trips) : Fin 3 → Nat :=
  let c1_i32_58 : BitVec 32 := 1#32
  let c0_i32_17 : BitVec 32 := 0#32
  let c1_i32_18 : BitVec 32 := 1#32
  let arg22 : BitVec 32 := Scf.iv c0_i32_17 c1_i32_18 k0_t2
  let c1_i32_57 : BitVec 32 := 1#32
  let v68 : BitVec 32 := Scalar.andi arg22 c1_i32_57
  let v69 : BitVec 32 := Scalar.subi c1_i32_58 v68
  let c0_i32_76 : BitVec 32 := 0#32
  let c0_i32_77 : BitVec 32 := 0#32
  ![v69.toNat, 0, 0]
def k0_off5 (i : grid0.Coords) (k0_t2 : Fin k0_t2_loop.trips) : Fin 3 → Nat :=
  let arg0 : BitVec 32 := BitVec.ofNat 32 (i 0).val
  let c0_i32_78 : BitVec 32 := 0#32
  let arg1 : BitVec 32 := BitVec.ofNat 32 (i 1).val
  let c16384_i32 : BitVec 32 := 16384#32
  let v0 : BitVec 32 := Scalar.muli arg1 c16384_i32
  let c0_i32_17 : BitVec 32 := 0#32
  let c1_i32_18 : BitVec 32 := 1#32
  let arg22 : BitVec 32 := Scf.iv c0_i32_17 c1_i32_18 k0_t2
  let c1_i32_74 : BitVec 32 := 1#32
  let v97 : BitVec 32 := Scalar.addi arg22 c1_i32_74
  let c1024_i32_75 : BitVec 32 := 1024#32
  let v98 : BitVec 32 := Scalar.muli v97 c1024_i32_75
  let v99 : BitVec 32 := Scalar.addi v0 v98
  ![arg0.toNat, 0, v99.toNat]
def k0_off6 (k0_t2 : Fin k0_t2_loop.trips) : Fin 1 → Nat :=
  let c1_i32_58 : BitVec 32 := 1#32
  let c0_i32_17 : BitVec 32 := 0#32
  let c1_i32_18 : BitVec 32 := 1#32
  let arg22 : BitVec 32 := Scf.iv c0_i32_17 c1_i32_18 k0_t2
  let c1_i32_57 : BitVec 32 := 1#32
  let v68 : BitVec 32 := Scalar.andi arg22 c1_i32_57
  let v69 : BitVec 32 := Scalar.subi c1_i32_58 v68
  ![v69.toNat]
def k0_off7 (k0_t2 : Fin k0_t2_loop.trips) : Fin 2 → Nat :=
  let c1_i32_58 : BitVec 32 := 1#32
  let c0_i32_17 : BitVec 32 := 0#32
  let c1_i32_18 : BitVec 32 := 1#32
  let arg22 : BitVec 32 := Scf.iv c0_i32_17 c1_i32_18 k0_t2
  let c1_i32_57 : BitVec 32 := 1#32
  let v68 : BitVec 32 := Scalar.andi arg22 c1_i32_57
  let v69 : BitVec 32 := Scalar.subi c1_i32_58 v68
  let c0_i32_82 : BitVec 32 := 0#32
  ![v69.toNat, 0]
def k0_off8 (i : grid0.Coords) (k0_t2 : Fin k0_t2_loop.trips) : Fin 2 → Nat :=
  let arg0 : BitVec 32 := BitVec.ofNat 32 (i 0).val
  let arg1 : BitVec 32 := BitVec.ofNat 32 (i 1).val
  let c16384_i32 : BitVec 32 := 16384#32
  let v0 : BitVec 32 := Scalar.muli arg1 c16384_i32
  let c0_i32_17 : BitVec 32 := 0#32
  let c1_i32_18 : BitVec 32 := 1#32
  let arg22 : BitVec 32 := Scf.iv c0_i32_17 c1_i32_18 k0_t2
  let c1_i32_74 : BitVec 32 := 1#32
  let v97 : BitVec 32 := Scalar.addi arg22 c1_i32_74
  let c1024_i32_75 : BitVec 32 := 1024#32
  let v98 : BitVec 32 := Scalar.muli v97 c1024_i32_75
  let v99 : BitVec 32 := Scalar.addi v0 v98
  ![arg0.toNat, v99.toNat]
def k0_off9 (k0_t2 : Fin k0_t2_loop.trips) : Fin 3 → Nat :=
  let c0_i32_17 : BitVec 32 := 0#32
  let c1_i32_18 : BitVec 32 := 1#32
  let arg22 : BitVec 32 := Scf.iv c0_i32_17 c1_i32_18 k0_t2
  let c1_i32_57 : BitVec 32 := 1#32
  let v68 : BitVec 32 := Scalar.andi arg22 c1_i32_57
  let c0_i32_62 : BitVec 32 := 0#32
  let c0_i32_63 : BitVec 32 := 0#32
  ![v68.toNat, 0, 0]
def k0_off10 (i : grid0.Coords) (k0_t2 : Fin k0_t2_loop.trips) : Fin 3 → Nat :=
  let arg0 : BitVec 32 := BitVec.ofNat 32 (i 0).val
  let c0_i32_64 : BitVec 32 := 0#32
  let arg1 : BitVec 32 := BitVec.ofNat 32 (i 1).val
  let c16384_i32 : BitVec 32 := 16384#32
  let v0 : BitVec 32 := Scalar.muli arg1 c16384_i32
  let c0_i32_17 : BitVec 32 := 0#32
  let c1_i32_18 : BitVec 32 := 1#32
  let arg22 : BitVec 32 := Scf.iv c0_i32_17 c1_i32_18 k0_t2
  let c1024_i32 : BitVec 32 := 1024#32
  let v74 : BitVec 32 := Scalar.muli arg22 c1024_i32
  let v75 : BitVec 32 := Scalar.addi v0 v74
  ![arg0.toNat, 0, v75.toNat]
def k0_off11 (k0_t2 : Fin k0_t2_loop.trips) : Fin 1 → Nat :=
  let c0_i32_17 : BitVec 32 := 0#32
  let c1_i32_18 : BitVec 32 := 1#32
  let arg22 : BitVec 32 := Scf.iv c0_i32_17 c1_i32_18 k0_t2
  let c1_i32_57 : BitVec 32 := 1#32
  let v68 : BitVec 32 := Scalar.andi arg22 c1_i32_57
  ![v68.toNat]
def k0_off12 (k0_t2 : Fin k0_t2_loop.trips) : Fin 2 → Nat :=
  let c0_i32_17 : BitVec 32 := 0#32
  let c1_i32_18 : BitVec 32 := 1#32
  let arg22 : BitVec 32 := Scf.iv c0_i32_17 c1_i32_18 k0_t2
  let c1_i32_57 : BitVec 32 := 1#32
  let v68 : BitVec 32 := Scalar.andi arg22 c1_i32_57
  let c0_i32_68 : BitVec 32 := 0#32
  ![v68.toNat, 0]
def k0_off13 (i : grid0.Coords) (k0_t2 : Fin k0_t2_loop.trips) : Fin 2 → Nat :=
  let arg0 : BitVec 32 := BitVec.ofNat 32 (i 0).val
  let arg1 : BitVec 32 := BitVec.ofNat 32 (i 1).val
  let c16384_i32 : BitVec 32 := 16384#32
  let v0 : BitVec 32 := Scalar.muli arg1 c16384_i32
  let c0_i32_17 : BitVec 32 := 0#32
  let c1_i32_18 : BitVec 32 := 1#32
  let arg22 : BitVec 32 := Scf.iv c0_i32_17 c1_i32_18 k0_t2
  let c1024_i32 : BitVec 32 := 1024#32
  let v74 : BitVec 32 := Scalar.muli arg22 c1024_i32
  let v75 : BitVec 32 := Scalar.addi v0 v74
  ![arg0.toNat, v75.toNat]
@[reducible] def k0_t3_loop : Scf.Loop 32 :=
  let c0_i32_70 : BitVec 32 := 0#32
  let c64_i32 : BitVec 32 := 64#32
  let v96 : BitVec 32 := Scalar.addi c0_i32_70 c64_i32
  let c1_i32_71 : BitVec 32 := 1#32
  ⟨c0_i32_70, v96, c1_i32_71⟩
def k0_off14 (k0_t2 : Fin k0_t2_loop.trips) (k0_t3 : Fin k0_t3_loop.trips) : Fin 2 → Nat :=
  let c0_i32_17 : BitVec 32 := 0#32
  let c1_i32_18 : BitVec 32 := 1#32
  let arg22 : BitVec 32 := Scf.iv c0_i32_17 c1_i32_18 k0_t2
  let c1_i32_57 : BitVec 32 := 1#32
  let v68 : BitVec 32 := Scalar.andi arg22 c1_i32_57
  let v100 : Index := Scalar.indexCast v68
  let c0_i32_75 : BitVec 32 := 0#32
  let c0_i32_70 : BitVec 32 := 0#32
  let c1_i32_71 : BitVec 32 := 1#32
  let arg24 : BitVec 32 := Scf.iv c0_i32_70 c1_i32_71 k0_t3
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v101 : Index := Scalar.indexCast v99
  ![v100.toNat, v101.toNat]

def k0_chk1 (v110 : IVec S16 32) : Prop :=
  (∀ a x, ((![v110] : Fin 1 → IVec S16 32) a x).toNat < S4352.size a)
theorem k0_idx1_inb : ∀ (v110 : IVec S16 32) (k0_hw1 : k0_chk1 v110), ∀ a x, ((![v110] : Fin 1 → IVec S16 32) a x).toNat < S4352.size a := fun v110 k0_hw1 => k0_hw1
def k0_off15 (k0_t2 : Fin k0_t2_loop.trips) (k0_t3 : Fin k0_t3_loop.trips) : Fin 3 → Nat :=
  let c0_i32_17 : BitVec 32 := 0#32
  let c1_i32_18 : BitVec 32 := 1#32
  let arg22 : BitVec 32 := Scf.iv c0_i32_17 c1_i32_18 k0_t2
  let c1_i32_57 : BitVec 32 := 1#32
  let v68 : BitVec 32 := Scalar.andi arg22 c1_i32_57
  let v111 : Index := Scalar.indexCast v68
  let c0_i32_78 : BitVec 32 := 0#32
  let v112 : Index := Scalar.indexCast c0_i32_78
  let c0_i32_75 : BitVec 32 := 0#32
  let c0_i32_70 : BitVec 32 := 0#32
  let c1_i32_71 : BitVec 32 := 1#32
  let arg24 : BitVec 32 := Scf.iv c0_i32_70 c1_i32_71 k0_t3
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v113 : Index := Scalar.indexCast v99
  ![v111.toNat, 0, v113.toNat]

def k0_chk2 (v116 : IVec S16 32) : Prop :=
  (∀ a x, ((![v116] : Fin 1 → IVec S16 32) a x).toNat < S4352.size a)
theorem k0_idx2_inb : ∀ (v116 : IVec S16 32) (k0_hw2 : k0_chk2 v116), ∀ a x, ((![v116] : Fin 1 → IVec S16 32) a x).toNat < S4352.size a := fun v116 k0_hw2 => k0_hw2
def k0_off16 (k0_t2 : Fin k0_t2_loop.trips) (k0_t3 : Fin k0_t3_loop.trips) : Fin 3 → Nat :=
  let c0_i32_17 : BitVec 32 := 0#32
  let c1_i32_18 : BitVec 32 := 1#32
  let arg22 : BitVec 32 := Scf.iv c0_i32_17 c1_i32_18 k0_t2
  let c1_i32_57 : BitVec 32 := 1#32
  let v68 : BitVec 32 := Scalar.andi arg22 c1_i32_57
  let v117 : Index := Scalar.indexCast v68
  let c1_i32_80 : BitVec 32 := 1#32
  let v118 : Index := Scalar.indexCast c1_i32_80
  let c0_i32_75 : BitVec 32 := 0#32
  let c0_i32_70 : BitVec 32 := 0#32
  let c1_i32_71 : BitVec 32 := 1#32
  let arg24 : BitVec 32 := Scf.iv c0_i32_70 c1_i32_71 k0_t3
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v119 : Index := Scalar.indexCast v99
  ![v117.toNat, 1, v119.toNat]

def k0_chk3 (v122 : IVec S16 32) : Prop :=
  (∀ a x, ((![v122] : Fin 1 → IVec S16 32) a x).toNat < S4352.size a)
theorem k0_idx3_inb : ∀ (v122 : IVec S16 32) (k0_hw3 : k0_chk3 v122), ∀ a x, ((![v122] : Fin 1 → IVec S16 32) a x).toNat < S4352.size a := fun v122 k0_hw3 => k0_hw3
def k0_off17 (k0_t2 : Fin k0_t2_loop.trips) (k0_t3 : Fin k0_t3_loop.trips) : Fin 3 → Nat :=
  let c0_i32_17 : BitVec 32 := 0#32
  let c1_i32_18 : BitVec 32 := 1#32
  let arg22 : BitVec 32 := Scf.iv c0_i32_17 c1_i32_18 k0_t2
  let c1_i32_57 : BitVec 32 := 1#32
  let v68 : BitVec 32 := Scalar.andi arg22 c1_i32_57
  let v123 : Index := Scalar.indexCast v68
  let c2_i32 : BitVec 32 := 2#32
  let v124 : Index := Scalar.indexCast c2_i32
  let c0_i32_75 : BitVec 32 := 0#32
  let c0_i32_70 : BitVec 32 := 0#32
  let c1_i32_71 : BitVec 32 := 1#32
  let arg24 : BitVec 32 := Scf.iv c0_i32_70 c1_i32_71 k0_t3
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v125 : Index := Scalar.indexCast v99
  ![v123.toNat, 2, v125.toNat]

def k0_chk4 (v128 : IVec S16 32) : Prop :=
  (∀ a x, ((![v128] : Fin 1 → IVec S16 32) a x).toNat < S4352.size a)
theorem k0_idx4_inb : ∀ (v128 : IVec S16 32) (k0_hw4 : k0_chk4 v128), ∀ a x, ((![v128] : Fin 1 → IVec S16 32) a x).toNat < S4352.size a := fun v128 k0_hw4 => k0_hw4
def k0_off18 (k0_t2 : Fin k0_t2_loop.trips) (k0_t3 : Fin k0_t3_loop.trips) : Fin 3 → Nat :=
  let c0_i32_17 : BitVec 32 := 0#32
  let c1_i32_18 : BitVec 32 := 1#32
  let arg22 : BitVec 32 := Scf.iv c0_i32_17 c1_i32_18 k0_t2
  let c1_i32_57 : BitVec 32 := 1#32
  let v68 : BitVec 32 := Scalar.andi arg22 c1_i32_57
  let v129 : Index := Scalar.indexCast v68
  let c3_i32_82 : BitVec 32 := 3#32
  let v130 : Index := Scalar.indexCast c3_i32_82
  let c0_i32_75 : BitVec 32 := 0#32
  let c0_i32_70 : BitVec 32 := 0#32
  let c1_i32_71 : BitVec 32 := 1#32
  let arg24 : BitVec 32 := Scf.iv c0_i32_70 c1_i32_71 k0_t3
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v131 : Index := Scalar.indexCast v99
  ![v129.toNat, 3, v131.toNat]

def k0_chk5 (v134 : IVec S16 32) : Prop :=
  (∀ a x, ((![v134] : Fin 1 → IVec S16 32) a x).toNat < S4352.size a)
theorem k0_idx5_inb : ∀ (v134 : IVec S16 32) (k0_hw5 : k0_chk5 v134), ∀ a x, ((![v134] : Fin 1 → IVec S16 32) a x).toNat < S4352.size a := fun v134 k0_hw5 => k0_hw5
def k0_off19 (k0_t2 : Fin k0_t2_loop.trips) (k0_t3 : Fin k0_t3_loop.trips) : Fin 3 → Nat :=
  let c0_i32_17 : BitVec 32 := 0#32
  let c1_i32_18 : BitVec 32 := 1#32
  let arg22 : BitVec 32 := Scf.iv c0_i32_17 c1_i32_18 k0_t2
  let c1_i32_57 : BitVec 32 := 1#32
  let v68 : BitVec 32 := Scalar.andi arg22 c1_i32_57
  let v135 : Index := Scalar.indexCast v68
  let c4_i32_83 : BitVec 32 := 4#32
  let v136 : Index := Scalar.indexCast c4_i32_83
  let c0_i32_75 : BitVec 32 := 0#32
  let c0_i32_70 : BitVec 32 := 0#32
  let c1_i32_71 : BitVec 32 := 1#32
  let arg24 : BitVec 32 := Scf.iv c0_i32_70 c1_i32_71 k0_t3
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v137 : Index := Scalar.indexCast v99
  ![v135.toNat, 4, v137.toNat]

def k0_chk6 (v140 : IVec S16 32) : Prop :=
  (∀ a x, ((![v140] : Fin 1 → IVec S16 32) a x).toNat < S4352.size a)
theorem k0_idx6_inb : ∀ (v140 : IVec S16 32) (k0_hw6 : k0_chk6 v140), ∀ a x, ((![v140] : Fin 1 → IVec S16 32) a x).toNat < S4352.size a := fun v140 k0_hw6 => k0_hw6
def k0_off20 (k0_t2 : Fin k0_t2_loop.trips) (k0_t3 : Fin k0_t3_loop.trips) : Fin 3 → Nat :=
  let c0_i32_17 : BitVec 32 := 0#32
  let c1_i32_18 : BitVec 32 := 1#32
  let arg22 : BitVec 32 := Scf.iv c0_i32_17 c1_i32_18 k0_t2
  let c1_i32_57 : BitVec 32 := 1#32
  let v68 : BitVec 32 := Scalar.andi arg22 c1_i32_57
  let v141 : Index := Scalar.indexCast v68
  let c5_i32 : BitVec 32 := 5#32
  let v142 : Index := Scalar.indexCast c5_i32
  let c0_i32_75 : BitVec 32 := 0#32
  let c0_i32_70 : BitVec 32 := 0#32
  let c1_i32_71 : BitVec 32 := 1#32
  let arg24 : BitVec 32 := Scf.iv c0_i32_70 c1_i32_71 k0_t3
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v143 : Index := Scalar.indexCast v99
  ![v141.toNat, 5, v143.toNat]

def k0_chk7 (v146 : IVec S16 32) : Prop :=
  (∀ a x, ((![v146] : Fin 1 → IVec S16 32) a x).toNat < S4352.size a)
theorem k0_idx7_inb : ∀ (v146 : IVec S16 32) (k0_hw7 : k0_chk7 v146), ∀ a x, ((![v146] : Fin 1 → IVec S16 32) a x).toNat < S4352.size a := fun v146 k0_hw7 => k0_hw7
def k0_off21 (k0_t2 : Fin k0_t2_loop.trips) (k0_t3 : Fin k0_t3_loop.trips) : Fin 3 → Nat :=
  let c0_i32_17 : BitVec 32 := 0#32
  let c1_i32_18 : BitVec 32 := 1#32
  let arg22 : BitVec 32 := Scf.iv c0_i32_17 c1_i32_18 k0_t2
  let c1_i32_57 : BitVec 32 := 1#32
  let v68 : BitVec 32 := Scalar.andi arg22 c1_i32_57
  let v147 : Index := Scalar.indexCast v68
  let c6_i32 : BitVec 32 := 6#32
  let v148 : Index := Scalar.indexCast c6_i32
  let c0_i32_75 : BitVec 32 := 0#32
  let c0_i32_70 : BitVec 32 := 0#32
  let c1_i32_71 : BitVec 32 := 1#32
  let arg24 : BitVec 32 := Scf.iv c0_i32_70 c1_i32_71 k0_t3
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v149 : Index := Scalar.indexCast v99
  ![v147.toNat, 6, v149.toNat]

def k0_chk8 (v152 : IVec S16 32) : Prop :=
  (∀ a x, ((![v152] : Fin 1 → IVec S16 32) a x).toNat < S4352.size a)
theorem k0_idx8_inb : ∀ (v152 : IVec S16 32) (k0_hw8 : k0_chk8 v152), ∀ a x, ((![v152] : Fin 1 → IVec S16 32) a x).toNat < S4352.size a := fun v152 k0_hw8 => k0_hw8
def k0_off22 (k0_t2 : Fin k0_t2_loop.trips) (k0_t3 : Fin k0_t3_loop.trips) : Fin 3 → Nat :=
  let c0_i32_17 : BitVec 32 := 0#32
  let c1_i32_18 : BitVec 32 := 1#32
  let arg22 : BitVec 32 := Scf.iv c0_i32_17 c1_i32_18 k0_t2
  let c1_i32_57 : BitVec 32 := 1#32
  let v68 : BitVec 32 := Scalar.andi arg22 c1_i32_57
  let v153 : Index := Scalar.indexCast v68
  let c7_i32 : BitVec 32 := 7#32
  let v154 : Index := Scalar.indexCast c7_i32
  let c0_i32_75 : BitVec 32 := 0#32
  let c0_i32_70 : BitVec 32 := 0#32
  let c1_i32_71 : BitVec 32 := 1#32
  let arg24 : BitVec 32 := Scf.iv c0_i32_70 c1_i32_71 k0_t3
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v155 : Index := Scalar.indexCast v99
  ![v153.toNat, 7, v155.toNat]

def k0_chk9 (v158 : IVec S16 32) : Prop :=
  (∀ a x, ((![v158] : Fin 1 → IVec S16 32) a x).toNat < S4352.size a)
theorem k0_idx9_inb : ∀ (v158 : IVec S16 32) (k0_hw9 : k0_chk9 v158), ∀ a x, ((![v158] : Fin 1 → IVec S16 32) a x).toNat < S4352.size a := fun v158 k0_hw9 => k0_hw9
def k0_off23 (k0_t2 : Fin k0_t2_loop.trips) (k0_t3 : Fin k0_t3_loop.trips) : Fin 3 → Nat :=
  let c0_i32_17 : BitVec 32 := 0#32
  let c1_i32_18 : BitVec 32 := 1#32
  let arg22 : BitVec 32 := Scf.iv c0_i32_17 c1_i32_18 k0_t2
  let c1_i32_57 : BitVec 32 := 1#32
  let v68 : BitVec 32 := Scalar.andi arg22 c1_i32_57
  let v159 : Index := Scalar.indexCast v68
  let c8_i32_85 : BitVec 32 := 8#32
  let v160 : Index := Scalar.indexCast c8_i32_85
  let c0_i32_75 : BitVec 32 := 0#32
  let c0_i32_70 : BitVec 32 := 0#32
  let c1_i32_71 : BitVec 32 := 1#32
  let arg24 : BitVec 32 := Scf.iv c0_i32_70 c1_i32_71 k0_t3
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v161 : Index := Scalar.indexCast v99
  ![v159.toNat, 8, v161.toNat]

def k0_chk10 (v164 : IVec S16 32) : Prop :=
  (∀ a x, ((![v164] : Fin 1 → IVec S16 32) a x).toNat < S4352.size a)
theorem k0_idx10_inb : ∀ (v164 : IVec S16 32) (k0_hw10 : k0_chk10 v164), ∀ a x, ((![v164] : Fin 1 → IVec S16 32) a x).toNat < S4352.size a := fun v164 k0_hw10 => k0_hw10
def k0_off24 (k0_t2 : Fin k0_t2_loop.trips) (k0_t3 : Fin k0_t3_loop.trips) : Fin 3 → Nat :=
  let c0_i32_17 : BitVec 32 := 0#32
  let c1_i32_18 : BitVec 32 := 1#32
  let arg22 : BitVec 32 := Scf.iv c0_i32_17 c1_i32_18 k0_t2
  let c1_i32_57 : BitVec 32 := 1#32
  let v68 : BitVec 32 := Scalar.andi arg22 c1_i32_57
  let v165 : Index := Scalar.indexCast v68
  let c9_i32 : BitVec 32 := 9#32
  let v166 : Index := Scalar.indexCast c9_i32
  let c0_i32_75 : BitVec 32 := 0#32
  let c0_i32_70 : BitVec 32 := 0#32
  let c1_i32_71 : BitVec 32 := 1#32
  let arg24 : BitVec 32 := Scf.iv c0_i32_70 c1_i32_71 k0_t3
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v167 : Index := Scalar.indexCast v99
  ![v165.toNat, 9, v167.toNat]

def k0_chk11 (v170 : IVec S16 32) : Prop :=
  (∀ a x, ((![v170] : Fin 1 → IVec S16 32) a x).toNat < S4352.size a)
theorem k0_idx11_inb : ∀ (v170 : IVec S16 32) (k0_hw11 : k0_chk11 v170), ∀ a x, ((![v170] : Fin 1 → IVec S16 32) a x).toNat < S4352.size a := fun v170 k0_hw11 => k0_hw11
def k0_off25 (k0_t2 : Fin k0_t2_loop.trips) (k0_t3 : Fin k0_t3_loop.trips) : Fin 3 → Nat :=
  let c0_i32_17 : BitVec 32 := 0#32
  let c1_i32_18 : BitVec 32 := 1#32
  let arg22 : BitVec 32 := Scf.iv c0_i32_17 c1_i32_18 k0_t2
  let c1_i32_57 : BitVec 32 := 1#32
  let v68 : BitVec 32 := Scalar.andi arg22 c1_i32_57
  let v171 : Index := Scalar.indexCast v68
  let c10_i32 : BitVec 32 := 10#32
  let v172 : Index := Scalar.indexCast c10_i32
  let c0_i32_75 : BitVec 32 := 0#32
  let c0_i32_70 : BitVec 32 := 0#32
  let c1_i32_71 : BitVec 32 := 1#32
  let arg24 : BitVec 32 := Scf.iv c0_i32_70 c1_i32_71 k0_t3
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v173 : Index := Scalar.indexCast v99
  ![v171.toNat, 10, v173.toNat]

def k0_chk12 (v176 : IVec S16 32) : Prop :=
  (∀ a x, ((![v176] : Fin 1 → IVec S16 32) a x).toNat < S4352.size a)
theorem k0_idx12_inb : ∀ (v176 : IVec S16 32) (k0_hw12 : k0_chk12 v176), ∀ a x, ((![v176] : Fin 1 → IVec S16 32) a x).toNat < S4352.size a := fun v176 k0_hw12 => k0_hw12
def k0_off26 (k0_t2 : Fin k0_t2_loop.trips) (k0_t3 : Fin k0_t3_loop.trips) : Fin 3 → Nat :=
  let c0_i32_17 : BitVec 32 := 0#32
  let c1_i32_18 : BitVec 32 := 1#32
  let arg22 : BitVec 32 := Scf.iv c0_i32_17 c1_i32_18 k0_t2
  let c1_i32_57 : BitVec 32 := 1#32
  let v68 : BitVec 32 := Scalar.andi arg22 c1_i32_57
  let v177 : Index := Scalar.indexCast v68
  let c11_i32 : BitVec 32 := 11#32
  let v178 : Index := Scalar.indexCast c11_i32
  let c0_i32_75 : BitVec 32 := 0#32
  let c0_i32_70 : BitVec 32 := 0#32
  let c1_i32_71 : BitVec 32 := 1#32
  let arg24 : BitVec 32 := Scf.iv c0_i32_70 c1_i32_71 k0_t3
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v179 : Index := Scalar.indexCast v99
  ![v177.toNat, 11, v179.toNat]

def k0_chk13 (v182 : IVec S16 32) : Prop :=
  (∀ a x, ((![v182] : Fin 1 → IVec S16 32) a x).toNat < S4352.size a)
theorem k0_idx13_inb : ∀ (v182 : IVec S16 32) (k0_hw13 : k0_chk13 v182), ∀ a x, ((![v182] : Fin 1 → IVec S16 32) a x).toNat < S4352.size a := fun v182 k0_hw13 => k0_hw13
def k0_off27 (k0_t2 : Fin k0_t2_loop.trips) (k0_t3 : Fin k0_t3_loop.trips) : Fin 3 → Nat :=
  let c0_i32_17 : BitVec 32 := 0#32
  let c1_i32_18 : BitVec 32 := 1#32
  let arg22 : BitVec 32 := Scf.iv c0_i32_17 c1_i32_18 k0_t2
  let c1_i32_57 : BitVec 32 := 1#32
  let v68 : BitVec 32 := Scalar.andi arg22 c1_i32_57
  let v183 : Index := Scalar.indexCast v68
  let c12_i32_86 : BitVec 32 := 12#32
  let v184 : Index := Scalar.indexCast c12_i32_86
  let c0_i32_75 : BitVec 32 := 0#32
  let c0_i32_70 : BitVec 32 := 0#32
  let c1_i32_71 : BitVec 32 := 1#32
  let arg24 : BitVec 32 := Scf.iv c0_i32_70 c1_i32_71 k0_t3
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v185 : Index := Scalar.indexCast v99
  ![v183.toNat, 12, v185.toNat]

def k0_chk14 (v188 : IVec S16 32) : Prop :=
  (∀ a x, ((![v188] : Fin 1 → IVec S16 32) a x).toNat < S4352.size a)
theorem k0_idx14_inb : ∀ (v188 : IVec S16 32) (k0_hw14 : k0_chk14 v188), ∀ a x, ((![v188] : Fin 1 → IVec S16 32) a x).toNat < S4352.size a := fun v188 k0_hw14 => k0_hw14
def k0_off28 (k0_t2 : Fin k0_t2_loop.trips) (k0_t3 : Fin k0_t3_loop.trips) : Fin 3 → Nat :=
  let c0_i32_17 : BitVec 32 := 0#32
  let c1_i32_18 : BitVec 32 := 1#32
  let arg22 : BitVec 32 := Scf.iv c0_i32_17 c1_i32_18 k0_t2
  let c1_i32_57 : BitVec 32 := 1#32
  let v68 : BitVec 32 := Scalar.andi arg22 c1_i32_57
  let v189 : Index := Scalar.indexCast v68
  let c13_i32 : BitVec 32 := 13#32
  let v190 : Index := Scalar.indexCast c13_i32
  let c0_i32_75 : BitVec 32 := 0#32
  let c0_i32_70 : BitVec 32 := 0#32
  let c1_i32_71 : BitVec 32 := 1#32
  let arg24 : BitVec 32 := Scf.iv c0_i32_70 c1_i32_71 k0_t3
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v191 : Index := Scalar.indexCast v99
  ![v189.toNat, 13, v191.toNat]

def k0_chk15 (v194 : IVec S16 32) : Prop :=
  (∀ a x, ((![v194] : Fin 1 → IVec S16 32) a x).toNat < S4352.size a)
theorem k0_idx15_inb : ∀ (v194 : IVec S16 32) (k0_hw15 : k0_chk15 v194), ∀ a x, ((![v194] : Fin 1 → IVec S16 32) a x).toNat < S4352.size a := fun v194 k0_hw15 => k0_hw15
def k0_off29 (k0_t2 : Fin k0_t2_loop.trips) (k0_t3 : Fin k0_t3_loop.trips) : Fin 3 → Nat :=
  let c0_i32_17 : BitVec 32 := 0#32
  let c1_i32_18 : BitVec 32 := 1#32
  let arg22 : BitVec 32 := Scf.iv c0_i32_17 c1_i32_18 k0_t2
  let c1_i32_57 : BitVec 32 := 1#32
  let v68 : BitVec 32 := Scalar.andi arg22 c1_i32_57
  let v195 : Index := Scalar.indexCast v68
  let c14_i32 : BitVec 32 := 14#32
  let v196 : Index := Scalar.indexCast c14_i32
  let c0_i32_75 : BitVec 32 := 0#32
  let c0_i32_70 : BitVec 32 := 0#32
  let c1_i32_71 : BitVec 32 := 1#32
  let arg24 : BitVec 32 := Scf.iv c0_i32_70 c1_i32_71 k0_t3
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v197 : Index := Scalar.indexCast v99
  ![v195.toNat, 14, v197.toNat]

def k0_chk16 (v200 : IVec S16 32) : Prop :=
  (∀ a x, ((![v200] : Fin 1 → IVec S16 32) a x).toNat < S4352.size a)
theorem k0_idx16_inb : ∀ (v200 : IVec S16 32) (k0_hw16 : k0_chk16 v200), ∀ a x, ((![v200] : Fin 1 → IVec S16 32) a x).toNat < S4352.size a := fun v200 k0_hw16 => k0_hw16
def k0_off30 (k0_t2 : Fin k0_t2_loop.trips) (k0_t3 : Fin k0_t3_loop.trips) : Fin 3 → Nat :=
  let c0_i32_17 : BitVec 32 := 0#32
  let c1_i32_18 : BitVec 32 := 1#32
  let arg22 : BitVec 32 := Scf.iv c0_i32_17 c1_i32_18 k0_t2
  let c1_i32_57 : BitVec 32 := 1#32
  let v68 : BitVec 32 := Scalar.andi arg22 c1_i32_57
  let v201 : Index := Scalar.indexCast v68
  let c15_i32 : BitVec 32 := 15#32
  let v202 : Index := Scalar.indexCast c15_i32
  let c0_i32_75 : BitVec 32 := 0#32
  let c0_i32_70 : BitVec 32 := 0#32
  let c1_i32_71 : BitVec 32 := 1#32
  let arg24 : BitVec 32 := Scf.iv c0_i32_70 c1_i32_71 k0_t3
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v203 : Index := Scalar.indexCast v99
  ![v201.toNat, 15, v203.toNat]

def k0_chk17 (v206 : IVec S16 32) : Prop :=
  (∀ a x, ((![v206] : Fin 1 → IVec S16 32) a x).toNat < S4352.size a)
theorem k0_idx17_inb : ∀ (v206 : IVec S16 32) (k0_hw17 : k0_chk17 v206), ∀ a x, ((![v206] : Fin 1 → IVec S16 32) a x).toNat < S4352.size a := fun v206 k0_hw17 => k0_hw17
def k0_off31 (k0_t2 : Fin k0_t2_loop.trips) (k0_t3 : Fin k0_t3_loop.trips) : Fin 3 → Nat :=
  let c0_i32_17 : BitVec 32 := 0#32
  let c1_i32_18 : BitVec 32 := 1#32
  let arg22 : BitVec 32 := Scf.iv c0_i32_17 c1_i32_18 k0_t2
  let c1_i32_57 : BitVec 32 := 1#32
  let v68 : BitVec 32 := Scalar.andi arg22 c1_i32_57
  let v207 : Index := Scalar.indexCast v68
  let c16_i32_87 : BitVec 32 := 16#32
  let v208 : Index := Scalar.indexCast c16_i32_87
  let c0_i32_75 : BitVec 32 := 0#32
  let c0_i32_70 : BitVec 32 := 0#32
  let c1_i32_71 : BitVec 32 := 1#32
  let arg24 : BitVec 32 := Scf.iv c0_i32_70 c1_i32_71 k0_t3
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v209 : Index := Scalar.indexCast v99
  ![v207.toNat, 16, v209.toNat]

def k0_chk18 (v212 : IVec S16 32) : Prop :=
  (∀ a x, ((![v212] : Fin 1 → IVec S16 32) a x).toNat < S4352.size a)
theorem k0_idx18_inb : ∀ (v212 : IVec S16 32) (k0_hw18 : k0_chk18 v212), ∀ a x, ((![v212] : Fin 1 → IVec S16 32) a x).toNat < S4352.size a := fun v212 k0_hw18 => k0_hw18
def k0_off32 (k0_t2 : Fin k0_t2_loop.trips) (k0_t3 : Fin k0_t3_loop.trips) : Fin 3 → Nat :=
  let c0_i32_17 : BitVec 32 := 0#32
  let c1_i32_18 : BitVec 32 := 1#32
  let arg22 : BitVec 32 := Scf.iv c0_i32_17 c1_i32_18 k0_t2
  let c1_i32_57 : BitVec 32 := 1#32
  let v68 : BitVec 32 := Scalar.andi arg22 c1_i32_57
  let v213 : Index := Scalar.indexCast v68
  let c17_i32 : BitVec 32 := 17#32
  let v214 : Index := Scalar.indexCast c17_i32
  let c0_i32_75 : BitVec 32 := 0#32
  let c0_i32_70 : BitVec 32 := 0#32
  let c1_i32_71 : BitVec 32 := 1#32
  let arg24 : BitVec 32 := Scf.iv c0_i32_70 c1_i32_71 k0_t3
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v215 : Index := Scalar.indexCast v99
  ![v213.toNat, 17, v215.toNat]

def k0_chk19 (v218 : IVec S16 32) : Prop :=
  (∀ a x, ((![v218] : Fin 1 → IVec S16 32) a x).toNat < S4352.size a)
theorem k0_idx19_inb : ∀ (v218 : IVec S16 32) (k0_hw19 : k0_chk19 v218), ∀ a x, ((![v218] : Fin 1 → IVec S16 32) a x).toNat < S4352.size a := fun v218 k0_hw19 => k0_hw19
def k0_off33 (k0_t2 : Fin k0_t2_loop.trips) (k0_t3 : Fin k0_t3_loop.trips) : Fin 3 → Nat :=
  let c0_i32_17 : BitVec 32 := 0#32
  let c1_i32_18 : BitVec 32 := 1#32
  let arg22 : BitVec 32 := Scf.iv c0_i32_17 c1_i32_18 k0_t2
  let c1_i32_57 : BitVec 32 := 1#32
  let v68 : BitVec 32 := Scalar.andi arg22 c1_i32_57
  let v219 : Index := Scalar.indexCast v68
  let c18_i32 : BitVec 32 := 18#32
  let v220 : Index := Scalar.indexCast c18_i32
  let c0_i32_75 : BitVec 32 := 0#32
  let c0_i32_70 : BitVec 32 := 0#32
  let c1_i32_71 : BitVec 32 := 1#32
  let arg24 : BitVec 32 := Scf.iv c0_i32_70 c1_i32_71 k0_t3
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v221 : Index := Scalar.indexCast v99
  ![v219.toNat, 18, v221.toNat]

def k0_chk20 (v224 : IVec S16 32) : Prop :=
  (∀ a x, ((![v224] : Fin 1 → IVec S16 32) a x).toNat < S4352.size a)
theorem k0_idx20_inb : ∀ (v224 : IVec S16 32) (k0_hw20 : k0_chk20 v224), ∀ a x, ((![v224] : Fin 1 → IVec S16 32) a x).toNat < S4352.size a := fun v224 k0_hw20 => k0_hw20
def k0_off34 (k0_t2 : Fin k0_t2_loop.trips) (k0_t3 : Fin k0_t3_loop.trips) : Fin 3 → Nat :=
  let c0_i32_17 : BitVec 32 := 0#32
  let c1_i32_18 : BitVec 32 := 1#32
  let arg22 : BitVec 32 := Scf.iv c0_i32_17 c1_i32_18 k0_t2
  let c1_i32_57 : BitVec 32 := 1#32
  let v68 : BitVec 32 := Scalar.andi arg22 c1_i32_57
  let v225 : Index := Scalar.indexCast v68
  let c19_i32 : BitVec 32 := 19#32
  let v226 : Index := Scalar.indexCast c19_i32
  let c0_i32_75 : BitVec 32 := 0#32
  let c0_i32_70 : BitVec 32 := 0#32
  let c1_i32_71 : BitVec 32 := 1#32
  let arg24 : BitVec 32 := Scf.iv c0_i32_70 c1_i32_71 k0_t3
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v227 : Index := Scalar.indexCast v99
  ![v225.toNat, 19, v227.toNat]

def k0_chk21 (v230 : IVec S16 32) : Prop :=
  (∀ a x, ((![v230] : Fin 1 → IVec S16 32) a x).toNat < S4352.size a)
theorem k0_idx21_inb : ∀ (v230 : IVec S16 32) (k0_hw21 : k0_chk21 v230), ∀ a x, ((![v230] : Fin 1 → IVec S16 32) a x).toNat < S4352.size a := fun v230 k0_hw21 => k0_hw21
def k0_off35 (k0_t2 : Fin k0_t2_loop.trips) (k0_t3 : Fin k0_t3_loop.trips) : Fin 3 → Nat :=
  let c0_i32_17 : BitVec 32 := 0#32
  let c1_i32_18 : BitVec 32 := 1#32
  let arg22 : BitVec 32 := Scf.iv c0_i32_17 c1_i32_18 k0_t2
  let c1_i32_57 : BitVec 32 := 1#32
  let v68 : BitVec 32 := Scalar.andi arg22 c1_i32_57
  let v231 : Index := Scalar.indexCast v68
  let c20_i32_90 : BitVec 32 := 20#32
  let v232 : Index := Scalar.indexCast c20_i32_90
  let c0_i32_75 : BitVec 32 := 0#32
  let c0_i32_70 : BitVec 32 := 0#32
  let c1_i32_71 : BitVec 32 := 1#32
  let arg24 : BitVec 32 := Scf.iv c0_i32_70 c1_i32_71 k0_t3
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v233 : Index := Scalar.indexCast v99
  ![v231.toNat, 20, v233.toNat]

def k0_chk22 (v236 : IVec S16 32) : Prop :=
  (∀ a x, ((![v236] : Fin 1 → IVec S16 32) a x).toNat < S4352.size a)
theorem k0_idx22_inb : ∀ (v236 : IVec S16 32) (k0_hw22 : k0_chk22 v236), ∀ a x, ((![v236] : Fin 1 → IVec S16 32) a x).toNat < S4352.size a := fun v236 k0_hw22 => k0_hw22
def k0_off36 (k0_t2 : Fin k0_t2_loop.trips) (k0_t3 : Fin k0_t3_loop.trips) : Fin 3 → Nat :=
  let c0_i32_17 : BitVec 32 := 0#32
  let c1_i32_18 : BitVec 32 := 1#32
  let arg22 : BitVec 32 := Scf.iv c0_i32_17 c1_i32_18 k0_t2
  let c1_i32_57 : BitVec 32 := 1#32
  let v68 : BitVec 32 := Scalar.andi arg22 c1_i32_57
  let v237 : Index := Scalar.indexCast v68
  let c21_i32 : BitVec 32 := 21#32
  let v238 : Index := Scalar.indexCast c21_i32
  let c0_i32_75 : BitVec 32 := 0#32
  let c0_i32_70 : BitVec 32 := 0#32
  let c1_i32_71 : BitVec 32 := 1#32
  let arg24 : BitVec 32 := Scf.iv c0_i32_70 c1_i32_71 k0_t3
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v239 : Index := Scalar.indexCast v99
  ![v237.toNat, 21, v239.toNat]

def k0_chk23 (v242 : IVec S16 32) : Prop :=
  (∀ a x, ((![v242] : Fin 1 → IVec S16 32) a x).toNat < S4352.size a)
theorem k0_idx23_inb : ∀ (v242 : IVec S16 32) (k0_hw23 : k0_chk23 v242), ∀ a x, ((![v242] : Fin 1 → IVec S16 32) a x).toNat < S4352.size a := fun v242 k0_hw23 => k0_hw23
def k0_off37 (k0_t2 : Fin k0_t2_loop.trips) (k0_t3 : Fin k0_t3_loop.trips) : Fin 3 → Nat :=
  let c0_i32_17 : BitVec 32 := 0#32
  let c1_i32_18 : BitVec 32 := 1#32
  let arg22 : BitVec 32 := Scf.iv c0_i32_17 c1_i32_18 k0_t2
  let c1_i32_57 : BitVec 32 := 1#32
  let v68 : BitVec 32 := Scalar.andi arg22 c1_i32_57
  let v243 : Index := Scalar.indexCast v68
  let c22_i32 : BitVec 32 := 22#32
  let v244 : Index := Scalar.indexCast c22_i32
  let c0_i32_75 : BitVec 32 := 0#32
  let c0_i32_70 : BitVec 32 := 0#32
  let c1_i32_71 : BitVec 32 := 1#32
  let arg24 : BitVec 32 := Scf.iv c0_i32_70 c1_i32_71 k0_t3
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v245 : Index := Scalar.indexCast v99
  ![v243.toNat, 22, v245.toNat]

def k0_chk24 (v248 : IVec S16 32) : Prop :=
  (∀ a x, ((![v248] : Fin 1 → IVec S16 32) a x).toNat < S4352.size a)
theorem k0_idx24_inb : ∀ (v248 : IVec S16 32) (k0_hw24 : k0_chk24 v248), ∀ a x, ((![v248] : Fin 1 → IVec S16 32) a x).toNat < S4352.size a := fun v248 k0_hw24 => k0_hw24
def k0_off38 (k0_t2 : Fin k0_t2_loop.trips) (k0_t3 : Fin k0_t3_loop.trips) : Fin 3 → Nat :=
  let c0_i32_17 : BitVec 32 := 0#32
  let c1_i32_18 : BitVec 32 := 1#32
  let arg22 : BitVec 32 := Scf.iv c0_i32_17 c1_i32_18 k0_t2
  let c1_i32_57 : BitVec 32 := 1#32
  let v68 : BitVec 32 := Scalar.andi arg22 c1_i32_57
  let v249 : Index := Scalar.indexCast v68
  let c23_i32 : BitVec 32 := 23#32
  let v250 : Index := Scalar.indexCast c23_i32
  let c0_i32_75 : BitVec 32 := 0#32
  let c0_i32_70 : BitVec 32 := 0#32
  let c1_i32_71 : BitVec 32 := 1#32
  let arg24 : BitVec 32 := Scf.iv c0_i32_70 c1_i32_71 k0_t3
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v251 : Index := Scalar.indexCast v99
  ![v249.toNat, 23, v251.toNat]

def k0_chk25 (v254 : IVec S16 32) : Prop :=
  (∀ a x, ((![v254] : Fin 1 → IVec S16 32) a x).toNat < S4352.size a)
theorem k0_idx25_inb : ∀ (v254 : IVec S16 32) (k0_hw25 : k0_chk25 v254), ∀ a x, ((![v254] : Fin 1 → IVec S16 32) a x).toNat < S4352.size a := fun v254 k0_hw25 => k0_hw25
def k0_off39 (k0_t2 : Fin k0_t2_loop.trips) (k0_t3 : Fin k0_t3_loop.trips) : Fin 3 → Nat :=
  let c0_i32_17 : BitVec 32 := 0#32
  let c1_i32_18 : BitVec 32 := 1#32
  let arg22 : BitVec 32 := Scf.iv c0_i32_17 c1_i32_18 k0_t2
  let c1_i32_57 : BitVec 32 := 1#32
  let v68 : BitVec 32 := Scalar.andi arg22 c1_i32_57
  let v255 : Index := Scalar.indexCast v68
  let c24_i32_91 : BitVec 32 := 24#32
  let v256 : Index := Scalar.indexCast c24_i32_91
  let c0_i32_75 : BitVec 32 := 0#32
  let c0_i32_70 : BitVec 32 := 0#32
  let c1_i32_71 : BitVec 32 := 1#32
  let arg24 : BitVec 32 := Scf.iv c0_i32_70 c1_i32_71 k0_t3
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v257 : Index := Scalar.indexCast v99
  ![v255.toNat, 24, v257.toNat]

def k0_chk26 (v260 : IVec S16 32) : Prop :=
  (∀ a x, ((![v260] : Fin 1 → IVec S16 32) a x).toNat < S4352.size a)
theorem k0_idx26_inb : ∀ (v260 : IVec S16 32) (k0_hw26 : k0_chk26 v260), ∀ a x, ((![v260] : Fin 1 → IVec S16 32) a x).toNat < S4352.size a := fun v260 k0_hw26 => k0_hw26
def k0_off40 (k0_t2 : Fin k0_t2_loop.trips) (k0_t3 : Fin k0_t3_loop.trips) : Fin 3 → Nat :=
  let c0_i32_17 : BitVec 32 := 0#32
  let c1_i32_18 : BitVec 32 := 1#32
  let arg22 : BitVec 32 := Scf.iv c0_i32_17 c1_i32_18 k0_t2
  let c1_i32_57 : BitVec 32 := 1#32
  let v68 : BitVec 32 := Scalar.andi arg22 c1_i32_57
  let v261 : Index := Scalar.indexCast v68
  let c25_i32 : BitVec 32 := 25#32
  let v262 : Index := Scalar.indexCast c25_i32
  let c0_i32_75 : BitVec 32 := 0#32
  let c0_i32_70 : BitVec 32 := 0#32
  let c1_i32_71 : BitVec 32 := 1#32
  let arg24 : BitVec 32 := Scf.iv c0_i32_70 c1_i32_71 k0_t3
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v263 : Index := Scalar.indexCast v99
  ![v261.toNat, 25, v263.toNat]

def k0_chk27 (v266 : IVec S16 32) : Prop :=
  (∀ a x, ((![v266] : Fin 1 → IVec S16 32) a x).toNat < S4352.size a)
theorem k0_idx27_inb : ∀ (v266 : IVec S16 32) (k0_hw27 : k0_chk27 v266), ∀ a x, ((![v266] : Fin 1 → IVec S16 32) a x).toNat < S4352.size a := fun v266 k0_hw27 => k0_hw27
def k0_off41 (k0_t2 : Fin k0_t2_loop.trips) (k0_t3 : Fin k0_t3_loop.trips) : Fin 3 → Nat :=
  let c0_i32_17 : BitVec 32 := 0#32
  let c1_i32_18 : BitVec 32 := 1#32
  let arg22 : BitVec 32 := Scf.iv c0_i32_17 c1_i32_18 k0_t2
  let c1_i32_57 : BitVec 32 := 1#32
  let v68 : BitVec 32 := Scalar.andi arg22 c1_i32_57
  let v267 : Index := Scalar.indexCast v68
  let c26_i32 : BitVec 32 := 26#32
  let v268 : Index := Scalar.indexCast c26_i32
  let c0_i32_75 : BitVec 32 := 0#32
  let c0_i32_70 : BitVec 32 := 0#32
  let c1_i32_71 : BitVec 32 := 1#32
  let arg24 : BitVec 32 := Scf.iv c0_i32_70 c1_i32_71 k0_t3
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v269 : Index := Scalar.indexCast v99
  ![v267.toNat, 26, v269.toNat]

def k0_chk28 (v272 : IVec S16 32) : Prop :=
  (∀ a x, ((![v272] : Fin 1 → IVec S16 32) a x).toNat < S4352.size a)
theorem k0_idx28_inb : ∀ (v272 : IVec S16 32) (k0_hw28 : k0_chk28 v272), ∀ a x, ((![v272] : Fin 1 → IVec S16 32) a x).toNat < S4352.size a := fun v272 k0_hw28 => k0_hw28
def k0_off42 (k0_t2 : Fin k0_t2_loop.trips) (k0_t3 : Fin k0_t3_loop.trips) : Fin 3 → Nat :=
  let c0_i32_17 : BitVec 32 := 0#32
  let c1_i32_18 : BitVec 32 := 1#32
  let arg22 : BitVec 32 := Scf.iv c0_i32_17 c1_i32_18 k0_t2
  let c1_i32_57 : BitVec 32 := 1#32
  let v68 : BitVec 32 := Scalar.andi arg22 c1_i32_57
  let v273 : Index := Scalar.indexCast v68
  let c27_i32 : BitVec 32 := 27#32
  let v274 : Index := Scalar.indexCast c27_i32
  let c0_i32_75 : BitVec 32 := 0#32
  let c0_i32_70 : BitVec 32 := 0#32
  let c1_i32_71 : BitVec 32 := 1#32
  let arg24 : BitVec 32 := Scf.iv c0_i32_70 c1_i32_71 k0_t3
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v275 : Index := Scalar.indexCast v99
  ![v273.toNat, 27, v275.toNat]

def k0_chk29 (v278 : IVec S16 32) : Prop :=
  (∀ a x, ((![v278] : Fin 1 → IVec S16 32) a x).toNat < S4352.size a)
theorem k0_idx29_inb : ∀ (v278 : IVec S16 32) (k0_hw29 : k0_chk29 v278), ∀ a x, ((![v278] : Fin 1 → IVec S16 32) a x).toNat < S4352.size a := fun v278 k0_hw29 => k0_hw29
def k0_off43 (k0_t2 : Fin k0_t2_loop.trips) (k0_t3 : Fin k0_t3_loop.trips) : Fin 3 → Nat :=
  let c0_i32_17 : BitVec 32 := 0#32
  let c1_i32_18 : BitVec 32 := 1#32
  let arg22 : BitVec 32 := Scf.iv c0_i32_17 c1_i32_18 k0_t2
  let c1_i32_57 : BitVec 32 := 1#32
  let v68 : BitVec 32 := Scalar.andi arg22 c1_i32_57
  let v279 : Index := Scalar.indexCast v68
  let c28_i32_92 : BitVec 32 := 28#32
  let v280 : Index := Scalar.indexCast c28_i32_92
  let c0_i32_75 : BitVec 32 := 0#32
  let c0_i32_70 : BitVec 32 := 0#32
  let c1_i32_71 : BitVec 32 := 1#32
  let arg24 : BitVec 32 := Scf.iv c0_i32_70 c1_i32_71 k0_t3
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v281 : Index := Scalar.indexCast v99
  ![v279.toNat, 28, v281.toNat]

def k0_chk30 (v284 : IVec S16 32) : Prop :=
  (∀ a x, ((![v284] : Fin 1 → IVec S16 32) a x).toNat < S4352.size a)
theorem k0_idx30_inb : ∀ (v284 : IVec S16 32) (k0_hw30 : k0_chk30 v284), ∀ a x, ((![v284] : Fin 1 → IVec S16 32) a x).toNat < S4352.size a := fun v284 k0_hw30 => k0_hw30
def k0_off44 (k0_t2 : Fin k0_t2_loop.trips) (k0_t3 : Fin k0_t3_loop.trips) : Fin 3 → Nat :=
  let c0_i32_17 : BitVec 32 := 0#32
  let c1_i32_18 : BitVec 32 := 1#32
  let arg22 : BitVec 32 := Scf.iv c0_i32_17 c1_i32_18 k0_t2
  let c1_i32_57 : BitVec 32 := 1#32
  let v68 : BitVec 32 := Scalar.andi arg22 c1_i32_57
  let v285 : Index := Scalar.indexCast v68
  let c29_i32 : BitVec 32 := 29#32
  let v286 : Index := Scalar.indexCast c29_i32
  let c0_i32_75 : BitVec 32 := 0#32
  let c0_i32_70 : BitVec 32 := 0#32
  let c1_i32_71 : BitVec 32 := 1#32
  let arg24 : BitVec 32 := Scf.iv c0_i32_70 c1_i32_71 k0_t3
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v287 : Index := Scalar.indexCast v99
  ![v285.toNat, 29, v287.toNat]

def k0_chk31 (v290 : IVec S16 32) : Prop :=
  (∀ a x, ((![v290] : Fin 1 → IVec S16 32) a x).toNat < S4352.size a)
theorem k0_idx31_inb : ∀ (v290 : IVec S16 32) (k0_hw31 : k0_chk31 v290), ∀ a x, ((![v290] : Fin 1 → IVec S16 32) a x).toNat < S4352.size a := fun v290 k0_hw31 => k0_hw31
def k0_off45 (k0_t2 : Fin k0_t2_loop.trips) (k0_t3 : Fin k0_t3_loop.trips) : Fin 3 → Nat :=
  let c0_i32_17 : BitVec 32 := 0#32
  let c1_i32_18 : BitVec 32 := 1#32
  let arg22 : BitVec 32 := Scf.iv c0_i32_17 c1_i32_18 k0_t2
  let c1_i32_57 : BitVec 32 := 1#32
  let v68 : BitVec 32 := Scalar.andi arg22 c1_i32_57
  let v291 : Index := Scalar.indexCast v68
  let c30_i32 : BitVec 32 := 30#32
  let v292 : Index := Scalar.indexCast c30_i32
  let c0_i32_75 : BitVec 32 := 0#32
  let c0_i32_70 : BitVec 32 := 0#32
  let c1_i32_71 : BitVec 32 := 1#32
  let arg24 : BitVec 32 := Scf.iv c0_i32_70 c1_i32_71 k0_t3
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v293 : Index := Scalar.indexCast v99
  ![v291.toNat, 30, v293.toNat]

def k0_chk32 (v296 : IVec S16 32) : Prop :=
  (∀ a x, ((![v296] : Fin 1 → IVec S16 32) a x).toNat < S4352.size a)
theorem k0_idx32_inb : ∀ (v296 : IVec S16 32) (k0_hw32 : k0_chk32 v296), ∀ a x, ((![v296] : Fin 1 → IVec S16 32) a x).toNat < S4352.size a := fun v296 k0_hw32 => k0_hw32
def k0_off46 (k0_t2 : Fin k0_t2_loop.trips) (k0_t3 : Fin k0_t3_loop.trips) : Fin 3 → Nat :=
  let c0_i32_17 : BitVec 32 := 0#32
  let c1_i32_18 : BitVec 32 := 1#32
  let arg22 : BitVec 32 := Scf.iv c0_i32_17 c1_i32_18 k0_t2
  let c1_i32_57 : BitVec 32 := 1#32
  let v68 : BitVec 32 := Scalar.andi arg22 c1_i32_57
  let v297 : Index := Scalar.indexCast v68
  let c31_i32 : BitVec 32 := 31#32
  let v298 : Index := Scalar.indexCast c31_i32
  let c0_i32_75 : BitVec 32 := 0#32
  let c0_i32_70 : BitVec 32 := 0#32
  let c1_i32_71 : BitVec 32 := 1#32
  let arg24 : BitVec 32 := Scf.iv c0_i32_70 c1_i32_71 k0_t3
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v299 : Index := Scalar.indexCast v99
  ![v297.toNat, 31, v299.toNat]

def k0_chk33 (v302 : IVec S16 32) : Prop :=
  (∀ a x, ((![v302] : Fin 1 → IVec S16 32) a x).toNat < S4352.size a)
theorem k0_idx33_inb : ∀ (v302 : IVec S16 32) (k0_hw33 : k0_chk33 v302), ∀ a x, ((![v302] : Fin 1 → IVec S16 32) a x).toNat < S4352.size a := fun v302 k0_hw33 => k0_hw33
@[reducible] def k0_t4_loop : Scf.Loop 32 :=
  let c0_i32_21 : BitVec 32 := 0#32
  let c68_i32 : BitVec 32 := 68#32
  let v33 : BitVec 32 := Scalar.addi c0_i32_21 c68_i32
  let c1_i32_22 : BitVec 32 := 1#32
  ⟨c0_i32_21, v33, c1_i32_22⟩

def k0_chk34 (v71 : IVec S16 32) : Prop :=
  (∀ a x, ((![v71] : Fin 1 → IVec S16 32) a x).toNat < S4352.size a) ∧
  (∀ a x, ((![v71] : Fin 1 → IVec S16 32) a x).toNat < S4352.size a) ∧
  (∀ a x, ((![v71] : Fin 1 → IVec S16 32) a x).toNat < S4352.size a) ∧
  (∀ a x, ((![v71] : Fin 1 → IVec S16 32) a x).toNat < S4352.size a)
theorem k0_idx34_inb : ∀ (v71 : IVec S16 32) (k0_hw34 : k0_chk34 v71), ∀ a x, ((![v71] : Fin 1 → IVec S16 32) a x).toNat < S4352.size a := fun v71 k0_hw34 => k0_hw34.1
theorem k0_idx35_inb : ∀ (v71 : IVec S16 32) (k0_hw34 : k0_chk34 v71), ∀ a x, ((![v71] : Fin 1 → IVec S16 32) a x).toNat < S4352.size a := fun v71 k0_hw34 => k0_hw34.2.1
theorem k0_idx36_inb : ∀ (v71 : IVec S16 32) (k0_hw34 : k0_chk34 v71), ∀ a x, ((![v71] : Fin 1 → IVec S16 32) a x).toNat < S4352.size a := fun v71 k0_hw34 => k0_hw34.2.2.1
theorem k0_idx37_inb : ∀ (v71 : IVec S16 32) (k0_hw34 : k0_chk34 v71), ∀ a x, ((![v71] : Fin 1 → IVec S16 32) a x).toNat < S4352.size a := fun v71 k0_hw34 => k0_hw34.2.2.2

def k0_chk35 (v83 : IVec S16 32) : Prop :=
  (∀ a x, ((![v83] : Fin 1 → IVec S16 32) a x).toNat < S4352.size a) ∧
  (∀ a x, ((![v83] : Fin 1 → IVec S16 32) a x).toNat < S4352.size a) ∧
  (∀ a x, ((![v83] : Fin 1 → IVec S16 32) a x).toNat < S4352.size a) ∧
  (∀ a x, ((![v83] : Fin 1 → IVec S16 32) a x).toNat < S4352.size a)
theorem k0_idx38_inb : ∀ (v83 : IVec S16 32) (k0_hw35 : k0_chk35 v83), ∀ a x, ((![v83] : Fin 1 → IVec S16 32) a x).toNat < S4352.size a := fun v83 k0_hw35 => k0_hw35.1
theorem k0_idx39_inb : ∀ (v83 : IVec S16 32) (k0_hw35 : k0_chk35 v83), ∀ a x, ((![v83] : Fin 1 → IVec S16 32) a x).toNat < S4352.size a := fun v83 k0_hw35 => k0_hw35.2.1
theorem k0_idx40_inb : ∀ (v83 : IVec S16 32) (k0_hw35 : k0_chk35 v83), ∀ a x, ((![v83] : Fin 1 → IVec S16 32) a x).toNat < S4352.size a := fun v83 k0_hw35 => k0_hw35.2.2.1
theorem k0_idx41_inb : ∀ (v83 : IVec S16 32) (k0_hw35 : k0_chk35 v83), ∀ a x, ((![v83] : Fin 1 → IVec S16 32) a x).toNat < S4352.size a := fun v83 k0_hw35 => k0_hw35.2.2.2

def k0_chk36 (v95 : IVec S16 32) : Prop :=
  (∀ a x, ((![v95] : Fin 1 → IVec S16 32) a x).toNat < S4352.size a) ∧
  (∀ a x, ((![v95] : Fin 1 → IVec S16 32) a x).toNat < S4352.size a) ∧
  (∀ a x, ((![v95] : Fin 1 → IVec S16 32) a x).toNat < S4352.size a) ∧
  (∀ a x, ((![v95] : Fin 1 → IVec S16 32) a x).toNat < S4352.size a)
theorem k0_idx42_inb : ∀ (v95 : IVec S16 32) (k0_hw36 : k0_chk36 v95), ∀ a x, ((![v95] : Fin 1 → IVec S16 32) a x).toNat < S4352.size a := fun v95 k0_hw36 => k0_hw36.1
theorem k0_idx43_inb : ∀ (v95 : IVec S16 32) (k0_hw36 : k0_chk36 v95), ∀ a x, ((![v95] : Fin 1 → IVec S16 32) a x).toNat < S4352.size a := fun v95 k0_hw36 => k0_hw36.2.1
theorem k0_idx44_inb : ∀ (v95 : IVec S16 32) (k0_hw36 : k0_chk36 v95), ∀ a x, ((![v95] : Fin 1 → IVec S16 32) a x).toNat < S4352.size a := fun v95 k0_hw36 => k0_hw36.2.2.1
theorem k0_idx45_inb : ∀ (v95 : IVec S16 32) (k0_hw36 : k0_chk36 v95), ∀ a x, ((![v95] : Fin 1 → IVec S16 32) a x).toNat < S4352.size a := fun v95 k0_hw36 => k0_hw36.2.2.2

def k0_chk37 (v107 : IVec S16 32) : Prop :=
  (∀ a x, ((![v107] : Fin 1 → IVec S16 32) a x).toNat < S4352.size a) ∧
  (∀ a x, ((![v107] : Fin 1 → IVec S16 32) a x).toNat < S4352.size a) ∧
  (∀ a x, ((![v107] : Fin 1 → IVec S16 32) a x).toNat < S4352.size a) ∧
  (∀ a x, ((![v107] : Fin 1 → IVec S16 32) a x).toNat < S4352.size a)
theorem k0_idx46_inb : ∀ (v107 : IVec S16 32) (k0_hw37 : k0_chk37 v107), ∀ a x, ((![v107] : Fin 1 → IVec S16 32) a x).toNat < S4352.size a := fun v107 k0_hw37 => k0_hw37.1
theorem k0_idx47_inb : ∀ (v107 : IVec S16 32) (k0_hw37 : k0_chk37 v107), ∀ a x, ((![v107] : Fin 1 → IVec S16 32) a x).toNat < S4352.size a := fun v107 k0_hw37 => k0_hw37.2.1
theorem k0_idx48_inb : ∀ (v107 : IVec S16 32) (k0_hw37 : k0_chk37 v107), ∀ a x, ((![v107] : Fin 1 → IVec S16 32) a x).toNat < S4352.size a := fun v107 k0_hw37 => k0_hw37.2.2.1
theorem k0_idx49_inb : ∀ (v107 : IVec S16 32) (k0_hw37 : k0_chk37 v107), ∀ a x, ((![v107] : Fin 1 → IVec S16 32) a x).toNat < S4352.size a := fun v107 k0_hw37 => k0_hw37.2.2.2
def k0_off47 (k0_t4 : Fin k0_t4_loop.trips) : Fin 1 → Nat :=
  let c0_i32_21 : BitVec 32 := 0#32
  let c1_i32_22 : BitVec 32 := 1#32
  let arg22 : BitVec 32 := Scf.iv c0_i32_21 c1_i32_22 k0_t4
  let c16_i32_63 : BitVec 32 := 16#32
  let v116 : BitVec 32 := Scalar.muli arg22 c16_i32_63
  let v117 : Index := Scalar.indexCast v116
  ![v117.toNat]
def k0_off48 (i : grid0.Coords) : Fin 2 → Nat :=
  let arg1 : BitVec 32 := BitVec.ofNat 32 (i 1).val
  let c0_i32_57_r0 : BitVec 32 := 0#32
  ![arg1.toNat, 0]
def k0_cond2 (i : grid0.Coords) : BitVec 1 :=
  let arg1 : BitVec 32 := BitVec.ofNat 32 (i 1).val
  let c0_i32_24 : BitVec 32 := 0#32
  let v35 : BitVec 1 := Scalar.cmpi .eq arg1 c0_i32_24
  let v36 : BitVec 32 := Scalar.extui v35
  let c0_i32_25 : BitVec 32 := 0#32
  let v37 : BitVec 1 := Scalar.cmpi .ne v36 c0_i32_25
  v37

@[reducible] def k0_t5_loop : Scf.Loop 32 :=
  let c0_i32_58 : BitVec 32 := 0#32
  let c68_i32_59 : BitVec 32 := 68#32
  let v68 : BitVec 32 := Scalar.addi c0_i32_58 c68_i32_59
  let c1_i32_60 : BitVec 32 := 1#32
  ⟨c0_i32_58, v68, c1_i32_60⟩
def k0_off49 (k0_t5 : Fin k0_t5_loop.trips) : Fin 2 → Nat :=
  let c0_i32_288 : BitVec 32 := 0#32
  let v647 : Index := Scalar.indexCast c0_i32_288
  let c0_i32_58 : BitVec 32 := 0#32
  let c1_i32_60 : BitVec 32 := 1#32
  let arg22 : BitVec 32 := Scf.iv c0_i32_58 c1_i32_60 k0_t5
  let c16_i32_287 : BitVec 32 := 16#32
  let v646 : BitVec 32 := Scalar.muli arg22 c16_i32_287
  let v648 : Index := Scalar.indexCast v646
  ![0, v648.toNat]
def k0_off50 (k0_t5 : Fin k0_t5_loop.trips) : Fin 2 → Nat :=
  let c1_i32_289 : BitVec 32 := 1#32
  let v651 : Index := Scalar.indexCast c1_i32_289
  let c0_i32_58 : BitVec 32 := 0#32
  let c1_i32_60 : BitVec 32 := 1#32
  let arg22 : BitVec 32 := Scf.iv c0_i32_58 c1_i32_60 k0_t5
  let c16_i32_287 : BitVec 32 := 16#32
  let v646 : BitVec 32 := Scalar.muli arg22 c16_i32_287
  let v652 : Index := Scalar.indexCast v646
  ![1, v652.toNat]
def k0_off51 (k0_t5 : Fin k0_t5_loop.trips) : Fin 2 → Nat :=
  let c2_i32 : BitVec 32 := 2#32
  let v655 : Index := Scalar.indexCast c2_i32
  let c0_i32_58 : BitVec 32 := 0#32
  let c1_i32_60 : BitVec 32 := 1#32
  let arg22 : BitVec 32 := Scf.iv c0_i32_58 c1_i32_60 k0_t5
  let c16_i32_287 : BitVec 32 := 16#32
  let v646 : BitVec 32 := Scalar.muli arg22 c16_i32_287
  let v656 : Index := Scalar.indexCast v646
  ![2, v656.toNat]
def k0_off52 (k0_t5 : Fin k0_t5_loop.trips) : Fin 2 → Nat :=
  let c3_i32_290 : BitVec 32 := 3#32
  let v659 : Index := Scalar.indexCast c3_i32_290
  let c0_i32_58 : BitVec 32 := 0#32
  let c1_i32_60 : BitVec 32 := 1#32
  let arg22 : BitVec 32 := Scf.iv c0_i32_58 c1_i32_60 k0_t5
  let c16_i32_287 : BitVec 32 := 16#32
  let v646 : BitVec 32 := Scalar.muli arg22 c16_i32_287
  let v660 : Index := Scalar.indexCast v646
  ![3, v660.toNat]
def k0_off53 (k0_t5 : Fin k0_t5_loop.trips) : Fin 2 → Nat :=
  let c4_i32_291 : BitVec 32 := 4#32
  let v663 : Index := Scalar.indexCast c4_i32_291
  let c0_i32_58 : BitVec 32 := 0#32
  let c1_i32_60 : BitVec 32 := 1#32
  let arg22 : BitVec 32 := Scf.iv c0_i32_58 c1_i32_60 k0_t5
  let c16_i32_287 : BitVec 32 := 16#32
  let v646 : BitVec 32 := Scalar.muli arg22 c16_i32_287
  let v664 : Index := Scalar.indexCast v646
  ![4, v664.toNat]
def k0_off54 (k0_t5 : Fin k0_t5_loop.trips) : Fin 2 → Nat :=
  let c5_i32 : BitVec 32 := 5#32
  let v667 : Index := Scalar.indexCast c5_i32
  let c0_i32_58 : BitVec 32 := 0#32
  let c1_i32_60 : BitVec 32 := 1#32
  let arg22 : BitVec 32 := Scf.iv c0_i32_58 c1_i32_60 k0_t5
  let c16_i32_287 : BitVec 32 := 16#32
  let v646 : BitVec 32 := Scalar.muli arg22 c16_i32_287
  let v668 : Index := Scalar.indexCast v646
  ![5, v668.toNat]
def k0_off55 (k0_t5 : Fin k0_t5_loop.trips) : Fin 2 → Nat :=
  let c6_i32 : BitVec 32 := 6#32
  let v671 : Index := Scalar.indexCast c6_i32
  let c0_i32_58 : BitVec 32 := 0#32
  let c1_i32_60 : BitVec 32 := 1#32
  let arg22 : BitVec 32 := Scf.iv c0_i32_58 c1_i32_60 k0_t5
  let c16_i32_287 : BitVec 32 := 16#32
  let v646 : BitVec 32 := Scalar.muli arg22 c16_i32_287
  let v672 : Index := Scalar.indexCast v646
  ![6, v672.toNat]
def k0_off56 (k0_t5 : Fin k0_t5_loop.trips) : Fin 2 → Nat :=
  let c7_i32 : BitVec 32 := 7#32
  let v675 : Index := Scalar.indexCast c7_i32
  let c0_i32_58 : BitVec 32 := 0#32
  let c1_i32_60 : BitVec 32 := 1#32
  let arg22 : BitVec 32 := Scf.iv c0_i32_58 c1_i32_60 k0_t5
  let c16_i32_287 : BitVec 32 := 16#32
  let v646 : BitVec 32 := Scalar.muli arg22 c16_i32_287
  let v676 : Index := Scalar.indexCast v646
  ![7, v676.toNat]
def k0_off57 (k0_t5 : Fin k0_t5_loop.trips) : Fin 2 → Nat :=
  let c8_i32 : BitVec 32 := 8#32
  let v679 : Index := Scalar.indexCast c8_i32
  let c0_i32_58 : BitVec 32 := 0#32
  let c1_i32_60 : BitVec 32 := 1#32
  let arg22 : BitVec 32 := Scf.iv c0_i32_58 c1_i32_60 k0_t5
  let c16_i32_287 : BitVec 32 := 16#32
  let v646 : BitVec 32 := Scalar.muli arg22 c16_i32_287
  let v680 : Index := Scalar.indexCast v646
  ![8, v680.toNat]
def k0_off58 (k0_t5 : Fin k0_t5_loop.trips) : Fin 2 → Nat :=
  let c9_i32 : BitVec 32 := 9#32
  let v683 : Index := Scalar.indexCast c9_i32
  let c0_i32_58 : BitVec 32 := 0#32
  let c1_i32_60 : BitVec 32 := 1#32
  let arg22 : BitVec 32 := Scf.iv c0_i32_58 c1_i32_60 k0_t5
  let c16_i32_287 : BitVec 32 := 16#32
  let v646 : BitVec 32 := Scalar.muli arg22 c16_i32_287
  let v684 : Index := Scalar.indexCast v646
  ![9, v684.toNat]
def k0_off59 (k0_t5 : Fin k0_t5_loop.trips) : Fin 2 → Nat :=
  let c10_i32 : BitVec 32 := 10#32
  let v687 : Index := Scalar.indexCast c10_i32
  let c0_i32_58 : BitVec 32 := 0#32
  let c1_i32_60 : BitVec 32 := 1#32
  let arg22 : BitVec 32 := Scf.iv c0_i32_58 c1_i32_60 k0_t5
  let c16_i32_287 : BitVec 32 := 16#32
  let v646 : BitVec 32 := Scalar.muli arg22 c16_i32_287
  let v688 : Index := Scalar.indexCast v646
  ![10, v688.toNat]
def k0_off60 (k0_t5 : Fin k0_t5_loop.trips) : Fin 2 → Nat :=
  let c11_i32 : BitVec 32 := 11#32
  let v691 : Index := Scalar.indexCast c11_i32
  let c0_i32_58 : BitVec 32 := 0#32
  let c1_i32_60 : BitVec 32 := 1#32
  let arg22 : BitVec 32 := Scf.iv c0_i32_58 c1_i32_60 k0_t5
  let c16_i32_287 : BitVec 32 := 16#32
  let v646 : BitVec 32 := Scalar.muli arg22 c16_i32_287
  let v692 : Index := Scalar.indexCast v646
  ![11, v692.toNat]
def k0_off61 (k0_t5 : Fin k0_t5_loop.trips) : Fin 2 → Nat :=
  let c12_i32 : BitVec 32 := 12#32
  let v695 : Index := Scalar.indexCast c12_i32
  let c0_i32_58 : BitVec 32 := 0#32
  let c1_i32_60 : BitVec 32 := 1#32
  let arg22 : BitVec 32 := Scf.iv c0_i32_58 c1_i32_60 k0_t5
  let c16_i32_287 : BitVec 32 := 16#32
  let v646 : BitVec 32 := Scalar.muli arg22 c16_i32_287
  let v696 : Index := Scalar.indexCast v646
  ![12, v696.toNat]
def k0_off62 (k0_t5 : Fin k0_t5_loop.trips) : Fin 2 → Nat :=
  let c13_i32 : BitVec 32 := 13#32
  let v699 : Index := Scalar.indexCast c13_i32
  let c0_i32_58 : BitVec 32 := 0#32
  let c1_i32_60 : BitVec 32 := 1#32
  let arg22 : BitVec 32 := Scf.iv c0_i32_58 c1_i32_60 k0_t5
  let c16_i32_287 : BitVec 32 := 16#32
  let v646 : BitVec 32 := Scalar.muli arg22 c16_i32_287
  let v700 : Index := Scalar.indexCast v646
  ![13, v700.toNat]
def k0_off63 (k0_t5 : Fin k0_t5_loop.trips) : Fin 2 → Nat :=
  let c14_i32 : BitVec 32 := 14#32
  let v703 : Index := Scalar.indexCast c14_i32
  let c0_i32_58 : BitVec 32 := 0#32
  let c1_i32_60 : BitVec 32 := 1#32
  let arg22 : BitVec 32 := Scf.iv c0_i32_58 c1_i32_60 k0_t5
  let c16_i32_287 : BitVec 32 := 16#32
  let v646 : BitVec 32 := Scalar.muli arg22 c16_i32_287
  let v704 : Index := Scalar.indexCast v646
  ![14, v704.toNat]
def k0_off64 (k0_t5 : Fin k0_t5_loop.trips) : Fin 2 → Nat :=
  let c15_i32 : BitVec 32 := 15#32
  let v707 : Index := Scalar.indexCast c15_i32
  let c0_i32_58 : BitVec 32 := 0#32
  let c1_i32_60 : BitVec 32 := 1#32
  let arg22 : BitVec 32 := Scf.iv c0_i32_58 c1_i32_60 k0_t5
  let c16_i32_287 : BitVec 32 := 16#32
  let v646 : BitVec 32 := Scalar.muli arg22 c16_i32_287
  let v708 : Index := Scalar.indexCast v646
  ![15, v708.toNat]
def k0_off65 (k0_t5 : Fin k0_t5_loop.trips) : Fin 1 → Nat :=
  let c0_i32_58 : BitVec 32 := 0#32
  let c1_i32_60 : BitVec 32 := 1#32
  let arg22 : BitVec 32 := Scf.iv c0_i32_58 c1_i32_60 k0_t5
  let c16_i32_287 : BitVec 32 := 16#32
  let v646 : BitVec 32 := Scalar.muli arg22 c16_i32_287
  let v711 : Index := Scalar.indexCast v646
  ![v711.toNat]

def k0_chk38 (i : grid0.Coords) (v70 : IVec S16 32) : Prop :=
  (∀ (k0_h2 : k0_cond2 i = 1#1), ∀ a x, ((![v70] : Fin 1 → IVec S16 32) a x).toNat < S1088.size a)
theorem k0_idx50_inb : ∀ (i : grid0.Coords) (v70 : IVec S16 32) (k0_hw38 : k0_chk38 i v70), ∀ (k0_h2 : k0_cond2 i = 1#1), ∀ a x, ((![v70] : Fin 1 → IVec S16 32) a x).toNat < S1088.size a := fun i v70 k0_hw38 k0_h2 => k0_hw38 k0_h2

def k0_chk39 (i : grid0.Coords) (v79 : IVec S16 32) : Prop :=
  (∀ (k0_h2 : k0_cond2 i = 1#1), ∀ a x, ((![v79] : Fin 1 → IVec S16 32) a x).toNat < S1088.size a)
theorem k0_idx51_inb : ∀ (i : grid0.Coords) (v79 : IVec S16 32) (k0_hw39 : k0_chk39 i v79), ∀ (k0_h2 : k0_cond2 i = 1#1), ∀ a x, ((![v79] : Fin 1 → IVec S16 32) a x).toNat < S1088.size a := fun i v79 k0_hw39 k0_h2 => k0_hw39 k0_h2

def k0_chk40 (i : grid0.Coords) (v88 : IVec S16 32) : Prop :=
  (∀ (k0_h2 : k0_cond2 i = 1#1), ∀ a x, ((![v88] : Fin 1 → IVec S16 32) a x).toNat < S1088.size a)
theorem k0_idx52_inb : ∀ (i : grid0.Coords) (v88 : IVec S16 32) (k0_hw40 : k0_chk40 i v88), ∀ (k0_h2 : k0_cond2 i = 1#1), ∀ a x, ((![v88] : Fin 1 → IVec S16 32) a x).toNat < S1088.size a := fun i v88 k0_hw40 k0_h2 => k0_hw40 k0_h2

def k0_chk41 (i : grid0.Coords) (v97 : IVec S16 32) : Prop :=
  (∀ (k0_h2 : k0_cond2 i = 1#1), ∀ a x, ((![v97] : Fin 1 → IVec S16 32) a x).toNat < S1088.size a)
theorem k0_idx53_inb : ∀ (i : grid0.Coords) (v97 : IVec S16 32) (k0_hw41 : k0_chk41 i v97), ∀ (k0_h2 : k0_cond2 i = 1#1), ∀ a x, ((![v97] : Fin 1 → IVec S16 32) a x).toNat < S1088.size a := fun i v97 k0_hw41 k0_h2 => k0_hw41 k0_h2

def k0_chk42 (i : grid0.Coords) (v106 : IVec S16 32) : Prop :=
  (∀ (k0_h2 : k0_cond2 i = 1#1), ∀ a x, ((![v106] : Fin 1 → IVec S16 32) a x).toNat < S1088.size a)
theorem k0_idx54_inb : ∀ (i : grid0.Coords) (v106 : IVec S16 32) (k0_hw42 : k0_chk42 i v106), ∀ (k0_h2 : k0_cond2 i = 1#1), ∀ a x, ((![v106] : Fin 1 → IVec S16 32) a x).toNat < S1088.size a := fun i v106 k0_hw42 k0_h2 => k0_hw42 k0_h2

def k0_chk43 (i : grid0.Coords) (v115 : IVec S16 32) : Prop :=
  (∀ (k0_h2 : k0_cond2 i = 1#1), ∀ a x, ((![v115] : Fin 1 → IVec S16 32) a x).toNat < S1088.size a)
theorem k0_idx55_inb : ∀ (i : grid0.Coords) (v115 : IVec S16 32) (k0_hw43 : k0_chk43 i v115), ∀ (k0_h2 : k0_cond2 i = 1#1), ∀ a x, ((![v115] : Fin 1 → IVec S16 32) a x).toNat < S1088.size a := fun i v115 k0_hw43 k0_h2 => k0_hw43 k0_h2

def k0_chk44 (i : grid0.Coords) (v124 : IVec S16 32) : Prop :=
  (∀ (k0_h2 : k0_cond2 i = 1#1), ∀ a x, ((![v124] : Fin 1 → IVec S16 32) a x).toNat < S1088.size a)
theorem k0_idx56_inb : ∀ (i : grid0.Coords) (v124 : IVec S16 32) (k0_hw44 : k0_chk44 i v124), ∀ (k0_h2 : k0_cond2 i = 1#1), ∀ a x, ((![v124] : Fin 1 → IVec S16 32) a x).toNat < S1088.size a := fun i v124 k0_hw44 k0_h2 => k0_hw44 k0_h2

def k0_chk45 (i : grid0.Coords) (v133 : IVec S16 32) : Prop :=
  (∀ (k0_h2 : k0_cond2 i = 1#1), ∀ a x, ((![v133] : Fin 1 → IVec S16 32) a x).toNat < S1088.size a)
theorem k0_idx57_inb : ∀ (i : grid0.Coords) (v133 : IVec S16 32) (k0_hw45 : k0_chk45 i v133), ∀ (k0_h2 : k0_cond2 i = 1#1), ∀ a x, ((![v133] : Fin 1 → IVec S16 32) a x).toNat < S1088.size a := fun i v133 k0_hw45 k0_h2 => k0_hw45 k0_h2

def k0_chk46 (i : grid0.Coords) (v142 : IVec S16 32) : Prop :=
  (∀ (k0_h2 : k0_cond2 i = 1#1), ∀ a x, ((![v142] : Fin 1 → IVec S16 32) a x).toNat < S1088.size a)
theorem k0_idx58_inb : ∀ (i : grid0.Coords) (v142 : IVec S16 32) (k0_hw46 : k0_chk46 i v142), ∀ (k0_h2 : k0_cond2 i = 1#1), ∀ a x, ((![v142] : Fin 1 → IVec S16 32) a x).toNat < S1088.size a := fun i v142 k0_hw46 k0_h2 => k0_hw46 k0_h2

def k0_chk47 (i : grid0.Coords) (v151 : IVec S16 32) : Prop :=
  (∀ (k0_h2 : k0_cond2 i = 1#1), ∀ a x, ((![v151] : Fin 1 → IVec S16 32) a x).toNat < S1088.size a)
theorem k0_idx59_inb : ∀ (i : grid0.Coords) (v151 : IVec S16 32) (k0_hw47 : k0_chk47 i v151), ∀ (k0_h2 : k0_cond2 i = 1#1), ∀ a x, ((![v151] : Fin 1 → IVec S16 32) a x).toNat < S1088.size a := fun i v151 k0_hw47 k0_h2 => k0_hw47 k0_h2

def k0_chk48 (i : grid0.Coords) (v160 : IVec S16 32) : Prop :=
  (∀ (k0_h2 : k0_cond2 i = 1#1), ∀ a x, ((![v160] : Fin 1 → IVec S16 32) a x).toNat < S1088.size a)
theorem k0_idx60_inb : ∀ (i : grid0.Coords) (v160 : IVec S16 32) (k0_hw48 : k0_chk48 i v160), ∀ (k0_h2 : k0_cond2 i = 1#1), ∀ a x, ((![v160] : Fin 1 → IVec S16 32) a x).toNat < S1088.size a := fun i v160 k0_hw48 k0_h2 => k0_hw48 k0_h2

def k0_chk49 (i : grid0.Coords) (v169 : IVec S16 32) : Prop :=
  (∀ (k0_h2 : k0_cond2 i = 1#1), ∀ a x, ((![v169] : Fin 1 → IVec S16 32) a x).toNat < S1088.size a)
theorem k0_idx61_inb : ∀ (i : grid0.Coords) (v169 : IVec S16 32) (k0_hw49 : k0_chk49 i v169), ∀ (k0_h2 : k0_cond2 i = 1#1), ∀ a x, ((![v169] : Fin 1 → IVec S16 32) a x).toNat < S1088.size a := fun i v169 k0_hw49 k0_h2 => k0_hw49 k0_h2

def k0_chk50 (i : grid0.Coords) (v178 : IVec S16 32) : Prop :=
  (∀ (k0_h2 : k0_cond2 i = 1#1), ∀ a x, ((![v178] : Fin 1 → IVec S16 32) a x).toNat < S1088.size a)
theorem k0_idx62_inb : ∀ (i : grid0.Coords) (v178 : IVec S16 32) (k0_hw50 : k0_chk50 i v178), ∀ (k0_h2 : k0_cond2 i = 1#1), ∀ a x, ((![v178] : Fin 1 → IVec S16 32) a x).toNat < S1088.size a := fun i v178 k0_hw50 k0_h2 => k0_hw50 k0_h2

def k0_chk51 (i : grid0.Coords) (v187 : IVec S16 32) : Prop :=
  (∀ (k0_h2 : k0_cond2 i = 1#1), ∀ a x, ((![v187] : Fin 1 → IVec S16 32) a x).toNat < S1088.size a)
theorem k0_idx63_inb : ∀ (i : grid0.Coords) (v187 : IVec S16 32) (k0_hw51 : k0_chk51 i v187), ∀ (k0_h2 : k0_cond2 i = 1#1), ∀ a x, ((![v187] : Fin 1 → IVec S16 32) a x).toNat < S1088.size a := fun i v187 k0_hw51 k0_h2 => k0_hw51 k0_h2

def k0_chk52 (i : grid0.Coords) (v196 : IVec S16 32) : Prop :=
  (∀ (k0_h2 : k0_cond2 i = 1#1), ∀ a x, ((![v196] : Fin 1 → IVec S16 32) a x).toNat < S1088.size a)
theorem k0_idx64_inb : ∀ (i : grid0.Coords) (v196 : IVec S16 32) (k0_hw52 : k0_chk52 i v196), ∀ (k0_h2 : k0_cond2 i = 1#1), ∀ a x, ((![v196] : Fin 1 → IVec S16 32) a x).toNat < S1088.size a := fun i v196 k0_hw52 k0_h2 => k0_hw52 k0_h2

def k0_chk53 (i : grid0.Coords) (v205 : IVec S16 32) : Prop :=
  (∀ (k0_h2 : k0_cond2 i = 1#1), ∀ a x, ((![v205] : Fin 1 → IVec S16 32) a x).toNat < S1088.size a)
theorem k0_idx65_inb : ∀ (i : grid0.Coords) (v205 : IVec S16 32) (k0_hw53 : k0_chk53 i v205), ∀ (k0_h2 : k0_cond2 i = 1#1), ∀ a x, ((![v205] : Fin 1 → IVec S16 32) a x).toNat < S1088.size a := fun i v205 k0_hw53 k0_h2 => k0_hw53 k0_h2

def k0_chk54 (i : grid0.Coords) (v214 : IVec S16 32) : Prop :=
  (∀ (k0_h2 : k0_cond2 i = 1#1), ∀ a x, ((![v214] : Fin 1 → IVec S16 32) a x).toNat < S1088.size a)
theorem k0_idx66_inb : ∀ (i : grid0.Coords) (v214 : IVec S16 32) (k0_hw54 : k0_chk54 i v214), ∀ (k0_h2 : k0_cond2 i = 1#1), ∀ a x, ((![v214] : Fin 1 → IVec S16 32) a x).toNat < S1088.size a := fun i v214 k0_hw54 k0_h2 => k0_hw54 k0_h2

def k0_chk55 (i : grid0.Coords) (v223 : IVec S16 32) : Prop :=
  (∀ (k0_h2 : k0_cond2 i = 1#1), ∀ a x, ((![v223] : Fin 1 → IVec S16 32) a x).toNat < S1088.size a)
theorem k0_idx67_inb : ∀ (i : grid0.Coords) (v223 : IVec S16 32) (k0_hw55 : k0_chk55 i v223), ∀ (k0_h2 : k0_cond2 i = 1#1), ∀ a x, ((![v223] : Fin 1 → IVec S16 32) a x).toNat < S1088.size a := fun i v223 k0_hw55 k0_h2 => k0_hw55 k0_h2

def k0_chk56 (i : grid0.Coords) (v232 : IVec S16 32) : Prop :=
  (∀ (k0_h2 : k0_cond2 i = 1#1), ∀ a x, ((![v232] : Fin 1 → IVec S16 32) a x).toNat < S1088.size a)
theorem k0_idx68_inb : ∀ (i : grid0.Coords) (v232 : IVec S16 32) (k0_hw56 : k0_chk56 i v232), ∀ (k0_h2 : k0_cond2 i = 1#1), ∀ a x, ((![v232] : Fin 1 → IVec S16 32) a x).toNat < S1088.size a := fun i v232 k0_hw56 k0_h2 => k0_hw56 k0_h2

def k0_chk57 (i : grid0.Coords) (v241 : IVec S16 32) : Prop :=
  (∀ (k0_h2 : k0_cond2 i = 1#1), ∀ a x, ((![v241] : Fin 1 → IVec S16 32) a x).toNat < S1088.size a)
theorem k0_idx69_inb : ∀ (i : grid0.Coords) (v241 : IVec S16 32) (k0_hw57 : k0_chk57 i v241), ∀ (k0_h2 : k0_cond2 i = 1#1), ∀ a x, ((![v241] : Fin 1 → IVec S16 32) a x).toNat < S1088.size a := fun i v241 k0_hw57 k0_h2 => k0_hw57 k0_h2

def k0_chk58 (i : grid0.Coords) (v250 : IVec S16 32) : Prop :=
  (∀ (k0_h2 : k0_cond2 i = 1#1), ∀ a x, ((![v250] : Fin 1 → IVec S16 32) a x).toNat < S1088.size a)
theorem k0_idx70_inb : ∀ (i : grid0.Coords) (v250 : IVec S16 32) (k0_hw58 : k0_chk58 i v250), ∀ (k0_h2 : k0_cond2 i = 1#1), ∀ a x, ((![v250] : Fin 1 → IVec S16 32) a x).toNat < S1088.size a := fun i v250 k0_hw58 k0_h2 => k0_hw58 k0_h2

def k0_chk59 (i : grid0.Coords) (v259 : IVec S16 32) : Prop :=
  (∀ (k0_h2 : k0_cond2 i = 1#1), ∀ a x, ((![v259] : Fin 1 → IVec S16 32) a x).toNat < S1088.size a)
theorem k0_idx71_inb : ∀ (i : grid0.Coords) (v259 : IVec S16 32) (k0_hw59 : k0_chk59 i v259), ∀ (k0_h2 : k0_cond2 i = 1#1), ∀ a x, ((![v259] : Fin 1 → IVec S16 32) a x).toNat < S1088.size a := fun i v259 k0_hw59 k0_h2 => k0_hw59 k0_h2

def k0_chk60 (i : grid0.Coords) (v268 : IVec S16 32) : Prop :=
  (∀ (k0_h2 : k0_cond2 i = 1#1), ∀ a x, ((![v268] : Fin 1 → IVec S16 32) a x).toNat < S1088.size a)
theorem k0_idx72_inb : ∀ (i : grid0.Coords) (v268 : IVec S16 32) (k0_hw60 : k0_chk60 i v268), ∀ (k0_h2 : k0_cond2 i = 1#1), ∀ a x, ((![v268] : Fin 1 → IVec S16 32) a x).toNat < S1088.size a := fun i v268 k0_hw60 k0_h2 => k0_hw60 k0_h2

def k0_chk61 (i : grid0.Coords) (v277 : IVec S16 32) : Prop :=
  (∀ (k0_h2 : k0_cond2 i = 1#1), ∀ a x, ((![v277] : Fin 1 → IVec S16 32) a x).toNat < S1088.size a)
theorem k0_idx73_inb : ∀ (i : grid0.Coords) (v277 : IVec S16 32) (k0_hw61 : k0_chk61 i v277), ∀ (k0_h2 : k0_cond2 i = 1#1), ∀ a x, ((![v277] : Fin 1 → IVec S16 32) a x).toNat < S1088.size a := fun i v277 k0_hw61 k0_h2 => k0_hw61 k0_h2

def k0_chk62 (i : grid0.Coords) (v286 : IVec S16 32) : Prop :=
  (∀ (k0_h2 : k0_cond2 i = 1#1), ∀ a x, ((![v286] : Fin 1 → IVec S16 32) a x).toNat < S1088.size a)
theorem k0_idx74_inb : ∀ (i : grid0.Coords) (v286 : IVec S16 32) (k0_hw62 : k0_chk62 i v286), ∀ (k0_h2 : k0_cond2 i = 1#1), ∀ a x, ((![v286] : Fin 1 → IVec S16 32) a x).toNat < S1088.size a := fun i v286 k0_hw62 k0_h2 => k0_hw62 k0_h2

def k0_chk63 (i : grid0.Coords) (v295 : IVec S16 32) : Prop :=
  (∀ (k0_h2 : k0_cond2 i = 1#1), ∀ a x, ((![v295] : Fin 1 → IVec S16 32) a x).toNat < S1088.size a)
theorem k0_idx75_inb : ∀ (i : grid0.Coords) (v295 : IVec S16 32) (k0_hw63 : k0_chk63 i v295), ∀ (k0_h2 : k0_cond2 i = 1#1), ∀ a x, ((![v295] : Fin 1 → IVec S16 32) a x).toNat < S1088.size a := fun i v295 k0_hw63 k0_h2 => k0_hw63 k0_h2

def k0_chk64 (i : grid0.Coords) (v304 : IVec S16 32) : Prop :=
  (∀ (k0_h2 : k0_cond2 i = 1#1), ∀ a x, ((![v304] : Fin 1 → IVec S16 32) a x).toNat < S1088.size a)
theorem k0_idx76_inb : ∀ (i : grid0.Coords) (v304 : IVec S16 32) (k0_hw64 : k0_chk64 i v304), ∀ (k0_h2 : k0_cond2 i = 1#1), ∀ a x, ((![v304] : Fin 1 → IVec S16 32) a x).toNat < S1088.size a := fun i v304 k0_hw64 k0_h2 => k0_hw64 k0_h2

def k0_chk65 (i : grid0.Coords) (v313 : IVec S16 32) : Prop :=
  (∀ (k0_h2 : k0_cond2 i = 1#1), ∀ a x, ((![v313] : Fin 1 → IVec S16 32) a x).toNat < S1088.size a)
theorem k0_idx77_inb : ∀ (i : grid0.Coords) (v313 : IVec S16 32) (k0_hw65 : k0_chk65 i v313), ∀ (k0_h2 : k0_cond2 i = 1#1), ∀ a x, ((![v313] : Fin 1 → IVec S16 32) a x).toNat < S1088.size a := fun i v313 k0_hw65 k0_h2 => k0_hw65 k0_h2

def k0_chk66 (i : grid0.Coords) (v322 : IVec S16 32) : Prop :=
  (∀ (k0_h2 : k0_cond2 i = 1#1), ∀ a x, ((![v322] : Fin 1 → IVec S16 32) a x).toNat < S1088.size a)
theorem k0_idx78_inb : ∀ (i : grid0.Coords) (v322 : IVec S16 32) (k0_hw66 : k0_chk66 i v322), ∀ (k0_h2 : k0_cond2 i = 1#1), ∀ a x, ((![v322] : Fin 1 → IVec S16 32) a x).toNat < S1088.size a := fun i v322 k0_hw66 k0_h2 => k0_hw66 k0_h2

def k0_chk67 (i : grid0.Coords) (v331 : IVec S16 32) : Prop :=
  (∀ (k0_h2 : k0_cond2 i = 1#1), ∀ a x, ((![v331] : Fin 1 → IVec S16 32) a x).toNat < S1088.size a)
theorem k0_idx79_inb : ∀ (i : grid0.Coords) (v331 : IVec S16 32) (k0_hw67 : k0_chk67 i v331), ∀ (k0_h2 : k0_cond2 i = 1#1), ∀ a x, ((![v331] : Fin 1 → IVec S16 32) a x).toNat < S1088.size a := fun i v331 k0_hw67 k0_h2 => k0_hw67 k0_h2

def k0_chk68 (i : grid0.Coords) (v340 : IVec S16 32) : Prop :=
  (∀ (k0_h2 : k0_cond2 i = 1#1), ∀ a x, ((![v340] : Fin 1 → IVec S16 32) a x).toNat < S1088.size a)
theorem k0_idx80_inb : ∀ (i : grid0.Coords) (v340 : IVec S16 32) (k0_hw68 : k0_chk68 i v340), ∀ (k0_h2 : k0_cond2 i = 1#1), ∀ a x, ((![v340] : Fin 1 → IVec S16 32) a x).toNat < S1088.size a := fun i v340 k0_hw68 k0_h2 => k0_hw68 k0_h2

def k0_chk69 (i : grid0.Coords) (v349 : IVec S16 32) : Prop :=
  (∀ (k0_h2 : k0_cond2 i = 1#1), ∀ a x, ((![v349] : Fin 1 → IVec S16 32) a x).toNat < S1088.size a)
theorem k0_idx81_inb : ∀ (i : grid0.Coords) (v349 : IVec S16 32) (k0_hw69 : k0_chk69 i v349), ∀ (k0_h2 : k0_cond2 i = 1#1), ∀ a x, ((![v349] : Fin 1 → IVec S16 32) a x).toNat < S1088.size a := fun i v349 k0_hw69 k0_h2 => k0_hw69 k0_h2

def k0_chk70 (i : grid0.Coords) (v358 : IVec S16 32) : Prop :=
  (∀ (k0_h2 : k0_cond2 i = 1#1), ∀ a x, ((![v358] : Fin 1 → IVec S16 32) a x).toNat < S1088.size a)
theorem k0_idx82_inb : ∀ (i : grid0.Coords) (v358 : IVec S16 32) (k0_hw70 : k0_chk70 i v358), ∀ (k0_h2 : k0_cond2 i = 1#1), ∀ a x, ((![v358] : Fin 1 → IVec S16 32) a x).toNat < S1088.size a := fun i v358 k0_hw70 k0_h2 => k0_hw70 k0_h2

def k0_chk71 (i : grid0.Coords) (v367 : IVec S16 32) : Prop :=
  (∀ (k0_h2 : k0_cond2 i = 1#1), ∀ a x, ((![v367] : Fin 1 → IVec S16 32) a x).toNat < S1088.size a)
theorem k0_idx83_inb : ∀ (i : grid0.Coords) (v367 : IVec S16 32) (k0_hw71 : k0_chk71 i v367), ∀ (k0_h2 : k0_cond2 i = 1#1), ∀ a x, ((![v367] : Fin 1 → IVec S16 32) a x).toNat < S1088.size a := fun i v367 k0_hw71 k0_h2 => k0_hw71 k0_h2

def k0_chk72 (i : grid0.Coords) (v376 : IVec S16 32) : Prop :=
  (∀ (k0_h2 : k0_cond2 i = 1#1), ∀ a x, ((![v376] : Fin 1 → IVec S16 32) a x).toNat < S1088.size a)
theorem k0_idx84_inb : ∀ (i : grid0.Coords) (v376 : IVec S16 32) (k0_hw72 : k0_chk72 i v376), ∀ (k0_h2 : k0_cond2 i = 1#1), ∀ a x, ((![v376] : Fin 1 → IVec S16 32) a x).toNat < S1088.size a := fun i v376 k0_hw72 k0_h2 => k0_hw72 k0_h2

def k0_chk73 (i : grid0.Coords) (v385 : IVec S16 32) : Prop :=
  (∀ (k0_h2 : k0_cond2 i = 1#1), ∀ a x, ((![v385] : Fin 1 → IVec S16 32) a x).toNat < S1088.size a)
theorem k0_idx85_inb : ∀ (i : grid0.Coords) (v385 : IVec S16 32) (k0_hw73 : k0_chk73 i v385), ∀ (k0_h2 : k0_cond2 i = 1#1), ∀ a x, ((![v385] : Fin 1 → IVec S16 32) a x).toNat < S1088.size a := fun i v385 k0_hw73 k0_h2 => k0_hw73 k0_h2

def k0_chk74 (i : grid0.Coords) (v394 : IVec S16 32) : Prop :=
  (∀ (k0_h2 : k0_cond2 i = 1#1), ∀ a x, ((![v394] : Fin 1 → IVec S16 32) a x).toNat < S1088.size a)
theorem k0_idx86_inb : ∀ (i : grid0.Coords) (v394 : IVec S16 32) (k0_hw74 : k0_chk74 i v394), ∀ (k0_h2 : k0_cond2 i = 1#1), ∀ a x, ((![v394] : Fin 1 → IVec S16 32) a x).toNat < S1088.size a := fun i v394 k0_hw74 k0_h2 => k0_hw74 k0_h2

def k0_chk75 (i : grid0.Coords) (v403 : IVec S16 32) : Prop :=
  (∀ (k0_h2 : k0_cond2 i = 1#1), ∀ a x, ((![v403] : Fin 1 → IVec S16 32) a x).toNat < S1088.size a)
theorem k0_idx87_inb : ∀ (i : grid0.Coords) (v403 : IVec S16 32) (k0_hw75 : k0_chk75 i v403), ∀ (k0_h2 : k0_cond2 i = 1#1), ∀ a x, ((![v403] : Fin 1 → IVec S16 32) a x).toNat < S1088.size a := fun i v403 k0_hw75 k0_h2 => k0_hw75 k0_h2

def k0_chk76 (i : grid0.Coords) (v412 : IVec S16 32) : Prop :=
  (∀ (k0_h2 : k0_cond2 i = 1#1), ∀ a x, ((![v412] : Fin 1 → IVec S16 32) a x).toNat < S1088.size a)
theorem k0_idx88_inb : ∀ (i : grid0.Coords) (v412 : IVec S16 32) (k0_hw76 : k0_chk76 i v412), ∀ (k0_h2 : k0_cond2 i = 1#1), ∀ a x, ((![v412] : Fin 1 → IVec S16 32) a x).toNat < S1088.size a := fun i v412 k0_hw76 k0_h2 => k0_hw76 k0_h2

def k0_chk77 (i : grid0.Coords) (v421 : IVec S16 32) : Prop :=
  (∀ (k0_h2 : k0_cond2 i = 1#1), ∀ a x, ((![v421] : Fin 1 → IVec S16 32) a x).toNat < S1088.size a)
theorem k0_idx89_inb : ∀ (i : grid0.Coords) (v421 : IVec S16 32) (k0_hw77 : k0_chk77 i v421), ∀ (k0_h2 : k0_cond2 i = 1#1), ∀ a x, ((![v421] : Fin 1 → IVec S16 32) a x).toNat < S1088.size a := fun i v421 k0_hw77 k0_h2 => k0_hw77 k0_h2

def k0_chk78 (i : grid0.Coords) (v430 : IVec S16 32) : Prop :=
  (∀ (k0_h2 : k0_cond2 i = 1#1), ∀ a x, ((![v430] : Fin 1 → IVec S16 32) a x).toNat < S1088.size a)
theorem k0_idx90_inb : ∀ (i : grid0.Coords) (v430 : IVec S16 32) (k0_hw78 : k0_chk78 i v430), ∀ (k0_h2 : k0_cond2 i = 1#1), ∀ a x, ((![v430] : Fin 1 → IVec S16 32) a x).toNat < S1088.size a := fun i v430 k0_hw78 k0_h2 => k0_hw78 k0_h2

def k0_chk79 (i : grid0.Coords) (v439 : IVec S16 32) : Prop :=
  (∀ (k0_h2 : k0_cond2 i = 1#1), ∀ a x, ((![v439] : Fin 1 → IVec S16 32) a x).toNat < S1088.size a)
theorem k0_idx91_inb : ∀ (i : grid0.Coords) (v439 : IVec S16 32) (k0_hw79 : k0_chk79 i v439), ∀ (k0_h2 : k0_cond2 i = 1#1), ∀ a x, ((![v439] : Fin 1 → IVec S16 32) a x).toNat < S1088.size a := fun i v439 k0_hw79 k0_h2 => k0_hw79 k0_h2

def k0_chk80 (i : grid0.Coords) (v448 : IVec S16 32) : Prop :=
  (∀ (k0_h2 : k0_cond2 i = 1#1), ∀ a x, ((![v448] : Fin 1 → IVec S16 32) a x).toNat < S1088.size a)
theorem k0_idx92_inb : ∀ (i : grid0.Coords) (v448 : IVec S16 32) (k0_hw80 : k0_chk80 i v448), ∀ (k0_h2 : k0_cond2 i = 1#1), ∀ a x, ((![v448] : Fin 1 → IVec S16 32) a x).toNat < S1088.size a := fun i v448 k0_hw80 k0_h2 => k0_hw80 k0_h2

def k0_chk81 (i : grid0.Coords) (v457 : IVec S16 32) : Prop :=
  (∀ (k0_h2 : k0_cond2 i = 1#1), ∀ a x, ((![v457] : Fin 1 → IVec S16 32) a x).toNat < S1088.size a)
theorem k0_idx93_inb : ∀ (i : grid0.Coords) (v457 : IVec S16 32) (k0_hw81 : k0_chk81 i v457), ∀ (k0_h2 : k0_cond2 i = 1#1), ∀ a x, ((![v457] : Fin 1 → IVec S16 32) a x).toNat < S1088.size a := fun i v457 k0_hw81 k0_h2 => k0_hw81 k0_h2

def k0_chk82 (i : grid0.Coords) (v466 : IVec S16 32) : Prop :=
  (∀ (k0_h2 : k0_cond2 i = 1#1), ∀ a x, ((![v466] : Fin 1 → IVec S16 32) a x).toNat < S1088.size a)
theorem k0_idx94_inb : ∀ (i : grid0.Coords) (v466 : IVec S16 32) (k0_hw82 : k0_chk82 i v466), ∀ (k0_h2 : k0_cond2 i = 1#1), ∀ a x, ((![v466] : Fin 1 → IVec S16 32) a x).toNat < S1088.size a := fun i v466 k0_hw82 k0_h2 => k0_hw82 k0_h2

def k0_chk83 (i : grid0.Coords) (v475 : IVec S16 32) : Prop :=
  (∀ (k0_h2 : k0_cond2 i = 1#1), ∀ a x, ((![v475] : Fin 1 → IVec S16 32) a x).toNat < S1088.size a)
theorem k0_idx95_inb : ∀ (i : grid0.Coords) (v475 : IVec S16 32) (k0_hw83 : k0_chk83 i v475), ∀ (k0_h2 : k0_cond2 i = 1#1), ∀ a x, ((![v475] : Fin 1 → IVec S16 32) a x).toNat < S1088.size a := fun i v475 k0_hw83 k0_h2 => k0_hw83 k0_h2

def k0_chk84 (i : grid0.Coords) (v484 : IVec S16 32) : Prop :=
  (∀ (k0_h2 : k0_cond2 i = 1#1), ∀ a x, ((![v484] : Fin 1 → IVec S16 32) a x).toNat < S1088.size a)
theorem k0_idx96_inb : ∀ (i : grid0.Coords) (v484 : IVec S16 32) (k0_hw84 : k0_chk84 i v484), ∀ (k0_h2 : k0_cond2 i = 1#1), ∀ a x, ((![v484] : Fin 1 → IVec S16 32) a x).toNat < S1088.size a := fun i v484 k0_hw84 k0_h2 => k0_hw84 k0_h2

def k0_chk85 (i : grid0.Coords) (v493 : IVec S16 32) : Prop :=
  (∀ (k0_h2 : k0_cond2 i = 1#1), ∀ a x, ((![v493] : Fin 1 → IVec S16 32) a x).toNat < S1088.size a)
theorem k0_idx97_inb : ∀ (i : grid0.Coords) (v493 : IVec S16 32) (k0_hw85 : k0_chk85 i v493), ∀ (k0_h2 : k0_cond2 i = 1#1), ∀ a x, ((![v493] : Fin 1 → IVec S16 32) a x).toNat < S1088.size a := fun i v493 k0_hw85 k0_h2 => k0_hw85 k0_h2

def k0_chk86 (i : grid0.Coords) (v502 : IVec S16 32) : Prop :=
  (∀ (k0_h2 : k0_cond2 i = 1#1), ∀ a x, ((![v502] : Fin 1 → IVec S16 32) a x).toNat < S1088.size a)
theorem k0_idx98_inb : ∀ (i : grid0.Coords) (v502 : IVec S16 32) (k0_hw86 : k0_chk86 i v502), ∀ (k0_h2 : k0_cond2 i = 1#1), ∀ a x, ((![v502] : Fin 1 → IVec S16 32) a x).toNat < S1088.size a := fun i v502 k0_hw86 k0_h2 => k0_hw86 k0_h2

def k0_chk87 (i : grid0.Coords) (v511 : IVec S16 32) : Prop :=
  (∀ (k0_h2 : k0_cond2 i = 1#1), ∀ a x, ((![v511] : Fin 1 → IVec S16 32) a x).toNat < S1088.size a)
theorem k0_idx99_inb : ∀ (i : grid0.Coords) (v511 : IVec S16 32) (k0_hw87 : k0_chk87 i v511), ∀ (k0_h2 : k0_cond2 i = 1#1), ∀ a x, ((![v511] : Fin 1 → IVec S16 32) a x).toNat < S1088.size a := fun i v511 k0_hw87 k0_h2 => k0_hw87 k0_h2

def k0_chk88 (i : grid0.Coords) (v520 : IVec S16 32) : Prop :=
  (∀ (k0_h2 : k0_cond2 i = 1#1), ∀ a x, ((![v520] : Fin 1 → IVec S16 32) a x).toNat < S1088.size a)
theorem k0_idx100_inb : ∀ (i : grid0.Coords) (v520 : IVec S16 32) (k0_hw88 : k0_chk88 i v520), ∀ (k0_h2 : k0_cond2 i = 1#1), ∀ a x, ((![v520] : Fin 1 → IVec S16 32) a x).toNat < S1088.size a := fun i v520 k0_hw88 k0_h2 => k0_hw88 k0_h2

def k0_chk89 (i : grid0.Coords) (v529 : IVec S16 32) : Prop :=
  (∀ (k0_h2 : k0_cond2 i = 1#1), ∀ a x, ((![v529] : Fin 1 → IVec S16 32) a x).toNat < S1088.size a)
theorem k0_idx101_inb : ∀ (i : grid0.Coords) (v529 : IVec S16 32) (k0_hw89 : k0_chk89 i v529), ∀ (k0_h2 : k0_cond2 i = 1#1), ∀ a x, ((![v529] : Fin 1 → IVec S16 32) a x).toNat < S1088.size a := fun i v529 k0_hw89 k0_h2 => k0_hw89 k0_h2

def k0_chk90 (i : grid0.Coords) (v538 : IVec S16 32) : Prop :=
  (∀ (k0_h2 : k0_cond2 i = 1#1), ∀ a x, ((![v538] : Fin 1 → IVec S16 32) a x).toNat < S1088.size a)
theorem k0_idx102_inb : ∀ (i : grid0.Coords) (v538 : IVec S16 32) (k0_hw90 : k0_chk90 i v538), ∀ (k0_h2 : k0_cond2 i = 1#1), ∀ a x, ((![v538] : Fin 1 → IVec S16 32) a x).toNat < S1088.size a := fun i v538 k0_hw90 k0_h2 => k0_hw90 k0_h2

def k0_chk91 (i : grid0.Coords) (v547 : IVec S16 32) : Prop :=
  (∀ (k0_h2 : k0_cond2 i = 1#1), ∀ a x, ((![v547] : Fin 1 → IVec S16 32) a x).toNat < S1088.size a)
theorem k0_idx103_inb : ∀ (i : grid0.Coords) (v547 : IVec S16 32) (k0_hw91 : k0_chk91 i v547), ∀ (k0_h2 : k0_cond2 i = 1#1), ∀ a x, ((![v547] : Fin 1 → IVec S16 32) a x).toNat < S1088.size a := fun i v547 k0_hw91 k0_h2 => k0_hw91 k0_h2

def k0_chk92 (i : grid0.Coords) (v556 : IVec S16 32) : Prop :=
  (∀ (k0_h2 : k0_cond2 i = 1#1), ∀ a x, ((![v556] : Fin 1 → IVec S16 32) a x).toNat < S1088.size a)
theorem k0_idx104_inb : ∀ (i : grid0.Coords) (v556 : IVec S16 32) (k0_hw92 : k0_chk92 i v556), ∀ (k0_h2 : k0_cond2 i = 1#1), ∀ a x, ((![v556] : Fin 1 → IVec S16 32) a x).toNat < S1088.size a := fun i v556 k0_hw92 k0_h2 => k0_hw92 k0_h2

def k0_chk93 (i : grid0.Coords) (v565 : IVec S16 32) : Prop :=
  (∀ (k0_h2 : k0_cond2 i = 1#1), ∀ a x, ((![v565] : Fin 1 → IVec S16 32) a x).toNat < S1088.size a)
theorem k0_idx105_inb : ∀ (i : grid0.Coords) (v565 : IVec S16 32) (k0_hw93 : k0_chk93 i v565), ∀ (k0_h2 : k0_cond2 i = 1#1), ∀ a x, ((![v565] : Fin 1 → IVec S16 32) a x).toNat < S1088.size a := fun i v565 k0_hw93 k0_h2 => k0_hw93 k0_h2

def k0_chk94 (i : grid0.Coords) (v574 : IVec S16 32) : Prop :=
  (∀ (k0_h2 : k0_cond2 i = 1#1), ∀ a x, ((![v574] : Fin 1 → IVec S16 32) a x).toNat < S1088.size a)
theorem k0_idx106_inb : ∀ (i : grid0.Coords) (v574 : IVec S16 32) (k0_hw94 : k0_chk94 i v574), ∀ (k0_h2 : k0_cond2 i = 1#1), ∀ a x, ((![v574] : Fin 1 → IVec S16 32) a x).toNat < S1088.size a := fun i v574 k0_hw94 k0_h2 => k0_hw94 k0_h2

def k0_chk95 (i : grid0.Coords) (v583 : IVec S16 32) : Prop :=
  (∀ (k0_h2 : k0_cond2 i = 1#1), ∀ a x, ((![v583] : Fin 1 → IVec S16 32) a x).toNat < S1088.size a)
theorem k0_idx107_inb : ∀ (i : grid0.Coords) (v583 : IVec S16 32) (k0_hw95 : k0_chk95 i v583), ∀ (k0_h2 : k0_cond2 i = 1#1), ∀ a x, ((![v583] : Fin 1 → IVec S16 32) a x).toNat < S1088.size a := fun i v583 k0_hw95 k0_h2 => k0_hw95 k0_h2

def k0_chk96 (i : grid0.Coords) (v592 : IVec S16 32) : Prop :=
  (∀ (k0_h2 : k0_cond2 i = 1#1), ∀ a x, ((![v592] : Fin 1 → IVec S16 32) a x).toNat < S1088.size a)
theorem k0_idx108_inb : ∀ (i : grid0.Coords) (v592 : IVec S16 32) (k0_hw96 : k0_chk96 i v592), ∀ (k0_h2 : k0_cond2 i = 1#1), ∀ a x, ((![v592] : Fin 1 → IVec S16 32) a x).toNat < S1088.size a := fun i v592 k0_hw96 k0_h2 => k0_hw96 k0_h2

def k0_chk97 (i : grid0.Coords) (v601 : IVec S16 32) : Prop :=
  (∀ (k0_h2 : k0_cond2 i = 1#1), ∀ a x, ((![v601] : Fin 1 → IVec S16 32) a x).toNat < S1088.size a)
theorem k0_idx109_inb : ∀ (i : grid0.Coords) (v601 : IVec S16 32) (k0_hw97 : k0_chk97 i v601), ∀ (k0_h2 : k0_cond2 i = 1#1), ∀ a x, ((![v601] : Fin 1 → IVec S16 32) a x).toNat < S1088.size a := fun i v601 k0_hw97 k0_h2 => k0_hw97 k0_h2

def k0_chk98 (i : grid0.Coords) (v610 : IVec S16 32) : Prop :=
  (∀ (k0_h2 : k0_cond2 i = 1#1), ∀ a x, ((![v610] : Fin 1 → IVec S16 32) a x).toNat < S1088.size a)
theorem k0_idx110_inb : ∀ (i : grid0.Coords) (v610 : IVec S16 32) (k0_hw98 : k0_chk98 i v610), ∀ (k0_h2 : k0_cond2 i = 1#1), ∀ a x, ((![v610] : Fin 1 → IVec S16 32) a x).toNat < S1088.size a := fun i v610 k0_hw98 k0_h2 => k0_hw98 k0_h2

def k0_chk99 (i : grid0.Coords) (v619 : IVec S16 32) : Prop :=
  (∀ (k0_h2 : k0_cond2 i = 1#1), ∀ a x, ((![v619] : Fin 1 → IVec S16 32) a x).toNat < S1088.size a)
theorem k0_idx111_inb : ∀ (i : grid0.Coords) (v619 : IVec S16 32) (k0_hw99 : k0_chk99 i v619), ∀ (k0_h2 : k0_cond2 i = 1#1), ∀ a x, ((![v619] : Fin 1 → IVec S16 32) a x).toNat < S1088.size a := fun i v619 k0_hw99 k0_h2 => k0_hw99 k0_h2

def k0_chk100 (i : grid0.Coords) (v628 : IVec S16 32) : Prop :=
  (∀ (k0_h2 : k0_cond2 i = 1#1), ∀ a x, ((![v628] : Fin 1 → IVec S16 32) a x).toNat < S1088.size a)
theorem k0_idx112_inb : ∀ (i : grid0.Coords) (v628 : IVec S16 32) (k0_hw100 : k0_chk100 i v628), ∀ (k0_h2 : k0_cond2 i = 1#1), ∀ a x, ((![v628] : Fin 1 → IVec S16 32) a x).toNat < S1088.size a := fun i v628 k0_hw100 k0_h2 => k0_hw100 k0_h2

def k0_chk101 (i : grid0.Coords) (v637 : IVec S16 32) : Prop :=
  (∀ (k0_h2 : k0_cond2 i = 1#1), ∀ a x, ((![v637] : Fin 1 → IVec S16 32) a x).toNat < S1088.size a)
theorem k0_idx113_inb : ∀ (i : grid0.Coords) (v637 : IVec S16 32) (k0_hw101 : k0_chk101 i v637), ∀ (k0_h2 : k0_cond2 i = 1#1), ∀ a x, ((![v637] : Fin 1 → IVec S16 32) a x).toNat < S1088.size a := fun i v637 k0_hw101 k0_h2 => k0_hw101 k0_h2
@[reducible] def k0_t6_loop : Scf.Loop 32 :=
  let c0_i32_28 : BitVec 32 := 0#32
  let c256_i32 : BitVec 32 := 256#32
  let v38 : BitVec 32 := Scalar.addi c0_i32_28 c256_i32
  let c1_i32_29 : BitVec 32 := 1#32
  ⟨c0_i32_28, v38, c1_i32_29⟩

def k0_chk102 (v72 : IVec S16 32) : Prop :=
  (∀ a x, ((![v72] : Fin 1 → IVec S16 32) a x).toNat < S1024.size a)
theorem k0_idx114_inb : ∀ (v72 : IVec S16 32) (k0_hw102 : k0_chk102 v72), ∀ a x, ((![v72] : Fin 1 → IVec S16 32) a x).toNat < S1024.size a := fun v72 k0_hw102 => k0_hw102
def k0_off66 (k0_t6 : Fin k0_t6_loop.trips) : Fin 1 → Nat :=
  let c16_i32_58 : BitVec 32 := 16#32
  let c0_i32_28 : BitVec 32 := 0#32
  let c1_i32_29 : BitVec 32 := 1#32
  let arg22 : BitVec 32 := Scf.iv c0_i32_28 c1_i32_29 k0_t6
  let v74 : BitVec 32 := Scalar.muli c16_i32_58 arg22
  let v75 : Index := Scalar.indexCast v74
  ![v75.toNat]
@[reducible] def k0_t7_loop : Scf.Loop 32 :=
  let c0_i32_45 : BitVec 32 := 0#32
  let c16_i32_46 : BitVec 32 := 16#32
  let v61 : BitVec 32 := Scalar.addi c0_i32_45 c16_i32_46
  let c1_i32_47 : BitVec 32 := 1#32
  ⟨c0_i32_45, v61, c1_i32_47⟩
def k0_cond3 (k0_t7 : Fin k0_t7_loop.trips) : BitVec 1 :=
  let c0_i32_45 : BitVec 32 := 0#32
  let c1_i32_47 : BitVec 32 := 1#32
  let arg22 : BitVec 32 := Scf.iv c0_i32_45 c1_i32_47 k0_t7
  let c1_i32_59 : BitVec 32 := 1#32
  let v70 : BitVec 32 := Scalar.addi arg22 c1_i32_59
  let c16_i32_60 : BitVec 32 := 16#32
  let v71 : BitVec 1 := Scalar.cmpi .slt v70 c16_i32_60
  let v72 : BitVec 32 := Scalar.extui v71
  let c0_i32_61 : BitVec 32 := 0#32
  let v73 : BitVec 1 := Scalar.cmpi .ne v72 c0_i32_61
  v73

def k0_off67 (k0_t7 : Fin k0_t7_loop.trips) : Fin 3 → Nat :=
  let c1_i32_58 : BitVec 32 := 1#32
  let c0_i32_45 : BitVec 32 := 0#32
  let c1_i32_47 : BitVec 32 := 1#32
  let arg22 : BitVec 32 := Scf.iv c0_i32_45 c1_i32_47 k0_t7
  let c1_i32_57 : BitVec 32 := 1#32
  let v68 : BitVec 32 := Scalar.andi arg22 c1_i32_57
  let v69 : BitVec 32 := Scalar.subi c1_i32_58 v68
  let c0_i32_76 : BitVec 32 := 0#32
  let c0_i32_77 : BitVec 32 := 0#32
  ![v69.toNat, 0, 0]
def k0_off68 (i : grid0.Coords) (k0_t7 : Fin k0_t7_loop.trips) : Fin 3 → Nat :=
  let arg0 : BitVec 32 := BitVec.ofNat 32 (i 0).val
  let c0_i32_78 : BitVec 32 := 0#32
  let arg1 : BitVec 32 := BitVec.ofNat 32 (i 1).val
  let c16384_i32 : BitVec 32 := 16384#32
  let v0 : BitVec 32 := Scalar.muli arg1 c16384_i32
  let c0_i32_45 : BitVec 32 := 0#32
  let c1_i32_47 : BitVec 32 := 1#32
  let arg22 : BitVec 32 := Scf.iv c0_i32_45 c1_i32_47 k0_t7
  let c1_i32_74 : BitVec 32 := 1#32
  let v97 : BitVec 32 := Scalar.addi arg22 c1_i32_74
  let c1024_i32_75 : BitVec 32 := 1024#32
  let v98 : BitVec 32 := Scalar.muli v97 c1024_i32_75
  let v99 : BitVec 32 := Scalar.addi v0 v98
  ![arg0.toNat, 0, v99.toNat]
def k0_off69 (k0_t7 : Fin k0_t7_loop.trips) : Fin 1 → Nat :=
  let c1_i32_58 : BitVec 32 := 1#32
  let c0_i32_45 : BitVec 32 := 0#32
  let c1_i32_47 : BitVec 32 := 1#32
  let arg22 : BitVec 32 := Scf.iv c0_i32_45 c1_i32_47 k0_t7
  let c1_i32_57 : BitVec 32 := 1#32
  let v68 : BitVec 32 := Scalar.andi arg22 c1_i32_57
  let v69 : BitVec 32 := Scalar.subi c1_i32_58 v68
  ![v69.toNat]
def k0_off70 (k0_t7 : Fin k0_t7_loop.trips) : Fin 2 → Nat :=
  let c1_i32_58 : BitVec 32 := 1#32
  let c0_i32_45 : BitVec 32 := 0#32
  let c1_i32_47 : BitVec 32 := 1#32
  let arg22 : BitVec 32 := Scf.iv c0_i32_45 c1_i32_47 k0_t7
  let c1_i32_57 : BitVec 32 := 1#32
  let v68 : BitVec 32 := Scalar.andi arg22 c1_i32_57
  let v69 : BitVec 32 := Scalar.subi c1_i32_58 v68
  let c0_i32_82 : BitVec 32 := 0#32
  ![v69.toNat, 0]
def k0_off71 (i : grid0.Coords) (k0_t7 : Fin k0_t7_loop.trips) : Fin 2 → Nat :=
  let arg0 : BitVec 32 := BitVec.ofNat 32 (i 0).val
  let arg1 : BitVec 32 := BitVec.ofNat 32 (i 1).val
  let c16384_i32 : BitVec 32 := 16384#32
  let v0 : BitVec 32 := Scalar.muli arg1 c16384_i32
  let c0_i32_45 : BitVec 32 := 0#32
  let c1_i32_47 : BitVec 32 := 1#32
  let arg22 : BitVec 32 := Scf.iv c0_i32_45 c1_i32_47 k0_t7
  let c1_i32_74 : BitVec 32 := 1#32
  let v97 : BitVec 32 := Scalar.addi arg22 c1_i32_74
  let c1024_i32_75 : BitVec 32 := 1024#32
  let v98 : BitVec 32 := Scalar.muli v97 c1024_i32_75
  let v99 : BitVec 32 := Scalar.addi v0 v98
  ![arg0.toNat, v99.toNat]
def k0_off72 (k0_t7 : Fin k0_t7_loop.trips) : Fin 3 → Nat :=
  let c0_i32_45 : BitVec 32 := 0#32
  let c1_i32_47 : BitVec 32 := 1#32
  let arg22 : BitVec 32 := Scf.iv c0_i32_45 c1_i32_47 k0_t7
  let c1_i32_57 : BitVec 32 := 1#32
  let v68 : BitVec 32 := Scalar.andi arg22 c1_i32_57
  let c0_i32_62 : BitVec 32 := 0#32
  let c0_i32_63 : BitVec 32 := 0#32
  ![v68.toNat, 0, 0]
def k0_off73 (i : grid0.Coords) (k0_t7 : Fin k0_t7_loop.trips) : Fin 3 → Nat :=
  let arg0 : BitVec 32 := BitVec.ofNat 32 (i 0).val
  let c0_i32_64 : BitVec 32 := 0#32
  let arg1 : BitVec 32 := BitVec.ofNat 32 (i 1).val
  let c16384_i32 : BitVec 32 := 16384#32
  let v0 : BitVec 32 := Scalar.muli arg1 c16384_i32
  let c0_i32_45 : BitVec 32 := 0#32
  let c1_i32_47 : BitVec 32 := 1#32
  let arg22 : BitVec 32 := Scf.iv c0_i32_45 c1_i32_47 k0_t7
  let c1024_i32 : BitVec 32 := 1024#32
  let v74 : BitVec 32 := Scalar.muli arg22 c1024_i32
  let v75 : BitVec 32 := Scalar.addi v0 v74
  ![arg0.toNat, 0, v75.toNat]
def k0_off74 (k0_t7 : Fin k0_t7_loop.trips) : Fin 1 → Nat :=
  let c0_i32_45 : BitVec 32 := 0#32
  let c1_i32_47 : BitVec 32 := 1#32
  let arg22 : BitVec 32 := Scf.iv c0_i32_45 c1_i32_47 k0_t7
  let c1_i32_57 : BitVec 32 := 1#32
  let v68 : BitVec 32 := Scalar.andi arg22 c1_i32_57
  ![v68.toNat]
def k0_off75 (k0_t7 : Fin k0_t7_loop.trips) : Fin 2 → Nat :=
  let c0_i32_45 : BitVec 32 := 0#32
  let c1_i32_47 : BitVec 32 := 1#32
  let arg22 : BitVec 32 := Scf.iv c0_i32_45 c1_i32_47 k0_t7
  let c1_i32_57 : BitVec 32 := 1#32
  let v68 : BitVec 32 := Scalar.andi arg22 c1_i32_57
  let c0_i32_68 : BitVec 32 := 0#32
  ![v68.toNat, 0]
def k0_off76 (i : grid0.Coords) (k0_t7 : Fin k0_t7_loop.trips) : Fin 2 → Nat :=
  let arg0 : BitVec 32 := BitVec.ofNat 32 (i 0).val
  let arg1 : BitVec 32 := BitVec.ofNat 32 (i 1).val
  let c16384_i32 : BitVec 32 := 16384#32
  let v0 : BitVec 32 := Scalar.muli arg1 c16384_i32
  let c0_i32_45 : BitVec 32 := 0#32
  let c1_i32_47 : BitVec 32 := 1#32
  let arg22 : BitVec 32 := Scf.iv c0_i32_45 c1_i32_47 k0_t7
  let c1024_i32 : BitVec 32 := 1024#32
  let v74 : BitVec 32 := Scalar.muli arg22 c1024_i32
  let v75 : BitVec 32 := Scalar.addi v0 v74
  ![arg0.toNat, v75.toNat]
@[reducible] def k0_t8_loop : Scf.Loop 32 :=
  let c0_i32_70 : BitVec 32 := 0#32
  let c64_i32 : BitVec 32 := 64#32
  let v96 : BitVec 32 := Scalar.addi c0_i32_70 c64_i32
  let c1_i32_71 : BitVec 32 := 1#32
  ⟨c0_i32_70, v96, c1_i32_71⟩
def k0_off77 (k0_t7 : Fin k0_t7_loop.trips) (k0_t8 : Fin k0_t8_loop.trips) : Fin 2 → Nat :=
  let c0_i32_45 : BitVec 32 := 0#32
  let c1_i32_47 : BitVec 32 := 1#32
  let arg22 : BitVec 32 := Scf.iv c0_i32_45 c1_i32_47 k0_t7
  let c1_i32_57 : BitVec 32 := 1#32
  let v68 : BitVec 32 := Scalar.andi arg22 c1_i32_57
  let v100 : Index := Scalar.indexCast v68
  let c0_i32_75 : BitVec 32 := 0#32
  let c0_i32_70 : BitVec 32 := 0#32
  let c1_i32_71 : BitVec 32 := 1#32
  let arg24 : BitVec 32 := Scf.iv c0_i32_70 c1_i32_71 k0_t8
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v101 : Index := Scalar.indexCast v99
  ![v100.toNat, v101.toNat]
def k0_off78 (k0_t7 : Fin k0_t7_loop.trips) (k0_t8 : Fin k0_t8_loop.trips) : Fin 3 → Nat :=
  let c0_i32_45 : BitVec 32 := 0#32
  let c1_i32_47 : BitVec 32 := 1#32
  let arg22 : BitVec 32 := Scf.iv c0_i32_45 c1_i32_47 k0_t7
  let c1_i32_57 : BitVec 32 := 1#32
  let v68 : BitVec 32 := Scalar.andi arg22 c1_i32_57
  let v106 : Index := Scalar.indexCast v68
  let c0_i32_77 : BitVec 32 := 0#32
  let v107 : Index := Scalar.indexCast c0_i32_77
  let c0_i32_75 : BitVec 32 := 0#32
  let c0_i32_70 : BitVec 32 := 0#32
  let c1_i32_71 : BitVec 32 := 1#32
  let arg24 : BitVec 32 := Scf.iv c0_i32_70 c1_i32_71 k0_t8
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v108 : Index := Scalar.indexCast v99
  ![v106.toNat, 0, v108.toNat]

def k0_chk103 (v111 : IVec S16 32) : Prop :=
  (∀ a x, ((![v111] : Fin 1 → IVec S16 32) a x).toNat < S4096.size a)
theorem k0_idx115_inb : ∀ (v111 : IVec S16 32) (k0_hw103 : k0_chk103 v111), ∀ a x, ((![v111] : Fin 1 → IVec S16 32) a x).toNat < S4096.size a := fun v111 k0_hw103 => k0_hw103
def k0_off79 (k0_t7 : Fin k0_t7_loop.trips) (k0_t8 : Fin k0_t8_loop.trips) : Fin 3 → Nat :=
  let c0_i32_45 : BitVec 32 := 0#32
  let c1_i32_47 : BitVec 32 := 1#32
  let arg22 : BitVec 32 := Scf.iv c0_i32_45 c1_i32_47 k0_t7
  let c1_i32_57 : BitVec 32 := 1#32
  let v68 : BitVec 32 := Scalar.andi arg22 c1_i32_57
  let v116 : Index := Scalar.indexCast v68
  let c1_i32_79 : BitVec 32 := 1#32
  let v117 : Index := Scalar.indexCast c1_i32_79
  let c0_i32_75 : BitVec 32 := 0#32
  let c0_i32_70 : BitVec 32 := 0#32
  let c1_i32_71 : BitVec 32 := 1#32
  let arg24 : BitVec 32 := Scf.iv c0_i32_70 c1_i32_71 k0_t8
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v118 : Index := Scalar.indexCast v99
  ![v116.toNat, 1, v118.toNat]

def k0_chk104 (v121 : IVec S16 32) : Prop :=
  (∀ a x, ((![v121] : Fin 1 → IVec S16 32) a x).toNat < S4096.size a)
theorem k0_idx116_inb : ∀ (v121 : IVec S16 32) (k0_hw104 : k0_chk104 v121), ∀ a x, ((![v121] : Fin 1 → IVec S16 32) a x).toNat < S4096.size a := fun v121 k0_hw104 => k0_hw104
def k0_off80 (k0_t7 : Fin k0_t7_loop.trips) (k0_t8 : Fin k0_t8_loop.trips) : Fin 3 → Nat :=
  let c0_i32_45 : BitVec 32 := 0#32
  let c1_i32_47 : BitVec 32 := 1#32
  let arg22 : BitVec 32 := Scf.iv c0_i32_45 c1_i32_47 k0_t7
  let c1_i32_57 : BitVec 32 := 1#32
  let v68 : BitVec 32 := Scalar.andi arg22 c1_i32_57
  let v126 : Index := Scalar.indexCast v68
  let c2_i32 : BitVec 32 := 2#32
  let v127 : Index := Scalar.indexCast c2_i32
  let c0_i32_75 : BitVec 32 := 0#32
  let c0_i32_70 : BitVec 32 := 0#32
  let c1_i32_71 : BitVec 32 := 1#32
  let arg24 : BitVec 32 := Scf.iv c0_i32_70 c1_i32_71 k0_t8
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v128 : Index := Scalar.indexCast v99
  ![v126.toNat, 2, v128.toNat]

def k0_chk105 (v131 : IVec S16 32) : Prop :=
  (∀ a x, ((![v131] : Fin 1 → IVec S16 32) a x).toNat < S4096.size a)
theorem k0_idx117_inb : ∀ (v131 : IVec S16 32) (k0_hw105 : k0_chk105 v131), ∀ a x, ((![v131] : Fin 1 → IVec S16 32) a x).toNat < S4096.size a := fun v131 k0_hw105 => k0_hw105
def k0_off81 (k0_t7 : Fin k0_t7_loop.trips) (k0_t8 : Fin k0_t8_loop.trips) : Fin 3 → Nat :=
  let c0_i32_45 : BitVec 32 := 0#32
  let c1_i32_47 : BitVec 32 := 1#32
  let arg22 : BitVec 32 := Scf.iv c0_i32_45 c1_i32_47 k0_t7
  let c1_i32_57 : BitVec 32 := 1#32
  let v68 : BitVec 32 := Scalar.andi arg22 c1_i32_57
  let v136 : Index := Scalar.indexCast v68
  let c3_i32_81 : BitVec 32 := 3#32
  let v137 : Index := Scalar.indexCast c3_i32_81
  let c0_i32_75 : BitVec 32 := 0#32
  let c0_i32_70 : BitVec 32 := 0#32
  let c1_i32_71 : BitVec 32 := 1#32
  let arg24 : BitVec 32 := Scf.iv c0_i32_70 c1_i32_71 k0_t8
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v138 : Index := Scalar.indexCast v99
  ![v136.toNat, 3, v138.toNat]

def k0_chk106 (v141 : IVec S16 32) : Prop :=
  (∀ a x, ((![v141] : Fin 1 → IVec S16 32) a x).toNat < S4096.size a)
theorem k0_idx118_inb : ∀ (v141 : IVec S16 32) (k0_hw106 : k0_chk106 v141), ∀ a x, ((![v141] : Fin 1 → IVec S16 32) a x).toNat < S4096.size a := fun v141 k0_hw106 => k0_hw106
def k0_off82 (k0_t7 : Fin k0_t7_loop.trips) (k0_t8 : Fin k0_t8_loop.trips) : Fin 3 → Nat :=
  let c0_i32_45 : BitVec 32 := 0#32
  let c1_i32_47 : BitVec 32 := 1#32
  let arg22 : BitVec 32 := Scf.iv c0_i32_45 c1_i32_47 k0_t7
  let c1_i32_57 : BitVec 32 := 1#32
  let v68 : BitVec 32 := Scalar.andi arg22 c1_i32_57
  let v146 : Index := Scalar.indexCast v68
  let c4_i32_82 : BitVec 32 := 4#32
  let v147 : Index := Scalar.indexCast c4_i32_82
  let c0_i32_75 : BitVec 32 := 0#32
  let c0_i32_70 : BitVec 32 := 0#32
  let c1_i32_71 : BitVec 32 := 1#32
  let arg24 : BitVec 32 := Scf.iv c0_i32_70 c1_i32_71 k0_t8
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v148 : Index := Scalar.indexCast v99
  ![v146.toNat, 4, v148.toNat]

def k0_chk107 (v151 : IVec S16 32) : Prop :=
  (∀ a x, ((![v151] : Fin 1 → IVec S16 32) a x).toNat < S4096.size a)
theorem k0_idx119_inb : ∀ (v151 : IVec S16 32) (k0_hw107 : k0_chk107 v151), ∀ a x, ((![v151] : Fin 1 → IVec S16 32) a x).toNat < S4096.size a := fun v151 k0_hw107 => k0_hw107
def k0_off83 (k0_t7 : Fin k0_t7_loop.trips) (k0_t8 : Fin k0_t8_loop.trips) : Fin 3 → Nat :=
  let c0_i32_45 : BitVec 32 := 0#32
  let c1_i32_47 : BitVec 32 := 1#32
  let arg22 : BitVec 32 := Scf.iv c0_i32_45 c1_i32_47 k0_t7
  let c1_i32_57 : BitVec 32 := 1#32
  let v68 : BitVec 32 := Scalar.andi arg22 c1_i32_57
  let v156 : Index := Scalar.indexCast v68
  let c5_i32 : BitVec 32 := 5#32
  let v157 : Index := Scalar.indexCast c5_i32
  let c0_i32_75 : BitVec 32 := 0#32
  let c0_i32_70 : BitVec 32 := 0#32
  let c1_i32_71 : BitVec 32 := 1#32
  let arg24 : BitVec 32 := Scf.iv c0_i32_70 c1_i32_71 k0_t8
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v158 : Index := Scalar.indexCast v99
  ![v156.toNat, 5, v158.toNat]

def k0_chk108 (v161 : IVec S16 32) : Prop :=
  (∀ a x, ((![v161] : Fin 1 → IVec S16 32) a x).toNat < S4096.size a)
theorem k0_idx120_inb : ∀ (v161 : IVec S16 32) (k0_hw108 : k0_chk108 v161), ∀ a x, ((![v161] : Fin 1 → IVec S16 32) a x).toNat < S4096.size a := fun v161 k0_hw108 => k0_hw108
def k0_off84 (k0_t7 : Fin k0_t7_loop.trips) (k0_t8 : Fin k0_t8_loop.trips) : Fin 3 → Nat :=
  let c0_i32_45 : BitVec 32 := 0#32
  let c1_i32_47 : BitVec 32 := 1#32
  let arg22 : BitVec 32 := Scf.iv c0_i32_45 c1_i32_47 k0_t7
  let c1_i32_57 : BitVec 32 := 1#32
  let v68 : BitVec 32 := Scalar.andi arg22 c1_i32_57
  let v166 : Index := Scalar.indexCast v68
  let c6_i32 : BitVec 32 := 6#32
  let v167 : Index := Scalar.indexCast c6_i32
  let c0_i32_75 : BitVec 32 := 0#32
  let c0_i32_70 : BitVec 32 := 0#32
  let c1_i32_71 : BitVec 32 := 1#32
  let arg24 : BitVec 32 := Scf.iv c0_i32_70 c1_i32_71 k0_t8
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v168 : Index := Scalar.indexCast v99
  ![v166.toNat, 6, v168.toNat]

def k0_chk109 (v171 : IVec S16 32) : Prop :=
  (∀ a x, ((![v171] : Fin 1 → IVec S16 32) a x).toNat < S4096.size a)
theorem k0_idx121_inb : ∀ (v171 : IVec S16 32) (k0_hw109 : k0_chk109 v171), ∀ a x, ((![v171] : Fin 1 → IVec S16 32) a x).toNat < S4096.size a := fun v171 k0_hw109 => k0_hw109
def k0_off85 (k0_t7 : Fin k0_t7_loop.trips) (k0_t8 : Fin k0_t8_loop.trips) : Fin 3 → Nat :=
  let c0_i32_45 : BitVec 32 := 0#32
  let c1_i32_47 : BitVec 32 := 1#32
  let arg22 : BitVec 32 := Scf.iv c0_i32_45 c1_i32_47 k0_t7
  let c1_i32_57 : BitVec 32 := 1#32
  let v68 : BitVec 32 := Scalar.andi arg22 c1_i32_57
  let v176 : Index := Scalar.indexCast v68
  let c7_i32 : BitVec 32 := 7#32
  let v177 : Index := Scalar.indexCast c7_i32
  let c0_i32_75 : BitVec 32 := 0#32
  let c0_i32_70 : BitVec 32 := 0#32
  let c1_i32_71 : BitVec 32 := 1#32
  let arg24 : BitVec 32 := Scf.iv c0_i32_70 c1_i32_71 k0_t8
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v178 : Index := Scalar.indexCast v99
  ![v176.toNat, 7, v178.toNat]

def k0_chk110 (v181 : IVec S16 32) : Prop :=
  (∀ a x, ((![v181] : Fin 1 → IVec S16 32) a x).toNat < S4096.size a)
theorem k0_idx122_inb : ∀ (v181 : IVec S16 32) (k0_hw110 : k0_chk110 v181), ∀ a x, ((![v181] : Fin 1 → IVec S16 32) a x).toNat < S4096.size a := fun v181 k0_hw110 => k0_hw110
def k0_off86 (k0_t7 : Fin k0_t7_loop.trips) (k0_t8 : Fin k0_t8_loop.trips) : Fin 3 → Nat :=
  let c0_i32_45 : BitVec 32 := 0#32
  let c1_i32_47 : BitVec 32 := 1#32
  let arg22 : BitVec 32 := Scf.iv c0_i32_45 c1_i32_47 k0_t7
  let c1_i32_57 : BitVec 32 := 1#32
  let v68 : BitVec 32 := Scalar.andi arg22 c1_i32_57
  let v186 : Index := Scalar.indexCast v68
  let c8_i32_84 : BitVec 32 := 8#32
  let v187 : Index := Scalar.indexCast c8_i32_84
  let c0_i32_75 : BitVec 32 := 0#32
  let c0_i32_70 : BitVec 32 := 0#32
  let c1_i32_71 : BitVec 32 := 1#32
  let arg24 : BitVec 32 := Scf.iv c0_i32_70 c1_i32_71 k0_t8
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v188 : Index := Scalar.indexCast v99
  ![v186.toNat, 8, v188.toNat]

def k0_chk111 (v191 : IVec S16 32) : Prop :=
  (∀ a x, ((![v191] : Fin 1 → IVec S16 32) a x).toNat < S4096.size a)
theorem k0_idx123_inb : ∀ (v191 : IVec S16 32) (k0_hw111 : k0_chk111 v191), ∀ a x, ((![v191] : Fin 1 → IVec S16 32) a x).toNat < S4096.size a := fun v191 k0_hw111 => k0_hw111
def k0_off87 (k0_t7 : Fin k0_t7_loop.trips) (k0_t8 : Fin k0_t8_loop.trips) : Fin 3 → Nat :=
  let c0_i32_45 : BitVec 32 := 0#32
  let c1_i32_47 : BitVec 32 := 1#32
  let arg22 : BitVec 32 := Scf.iv c0_i32_45 c1_i32_47 k0_t7
  let c1_i32_57 : BitVec 32 := 1#32
  let v68 : BitVec 32 := Scalar.andi arg22 c1_i32_57
  let v196 : Index := Scalar.indexCast v68
  let c9_i32 : BitVec 32 := 9#32
  let v197 : Index := Scalar.indexCast c9_i32
  let c0_i32_75 : BitVec 32 := 0#32
  let c0_i32_70 : BitVec 32 := 0#32
  let c1_i32_71 : BitVec 32 := 1#32
  let arg24 : BitVec 32 := Scf.iv c0_i32_70 c1_i32_71 k0_t8
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v198 : Index := Scalar.indexCast v99
  ![v196.toNat, 9, v198.toNat]

def k0_chk112 (v201 : IVec S16 32) : Prop :=
  (∀ a x, ((![v201] : Fin 1 → IVec S16 32) a x).toNat < S4096.size a)
theorem k0_idx124_inb : ∀ (v201 : IVec S16 32) (k0_hw112 : k0_chk112 v201), ∀ a x, ((![v201] : Fin 1 → IVec S16 32) a x).toNat < S4096.size a := fun v201 k0_hw112 => k0_hw112
def k0_off88 (k0_t7 : Fin k0_t7_loop.trips) (k0_t8 : Fin k0_t8_loop.trips) : Fin 3 → Nat :=
  let c0_i32_45 : BitVec 32 := 0#32
  let c1_i32_47 : BitVec 32 := 1#32
  let arg22 : BitVec 32 := Scf.iv c0_i32_45 c1_i32_47 k0_t7
  let c1_i32_57 : BitVec 32 := 1#32
  let v68 : BitVec 32 := Scalar.andi arg22 c1_i32_57
  let v206 : Index := Scalar.indexCast v68
  let c10_i32 : BitVec 32 := 10#32
  let v207 : Index := Scalar.indexCast c10_i32
  let c0_i32_75 : BitVec 32 := 0#32
  let c0_i32_70 : BitVec 32 := 0#32
  let c1_i32_71 : BitVec 32 := 1#32
  let arg24 : BitVec 32 := Scf.iv c0_i32_70 c1_i32_71 k0_t8
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v208 : Index := Scalar.indexCast v99
  ![v206.toNat, 10, v208.toNat]

def k0_chk113 (v211 : IVec S16 32) : Prop :=
  (∀ a x, ((![v211] : Fin 1 → IVec S16 32) a x).toNat < S4096.size a)
theorem k0_idx125_inb : ∀ (v211 : IVec S16 32) (k0_hw113 : k0_chk113 v211), ∀ a x, ((![v211] : Fin 1 → IVec S16 32) a x).toNat < S4096.size a := fun v211 k0_hw113 => k0_hw113
def k0_off89 (k0_t7 : Fin k0_t7_loop.trips) (k0_t8 : Fin k0_t8_loop.trips) : Fin 3 → Nat :=
  let c0_i32_45 : BitVec 32 := 0#32
  let c1_i32_47 : BitVec 32 := 1#32
  let arg22 : BitVec 32 := Scf.iv c0_i32_45 c1_i32_47 k0_t7
  let c1_i32_57 : BitVec 32 := 1#32
  let v68 : BitVec 32 := Scalar.andi arg22 c1_i32_57
  let v216 : Index := Scalar.indexCast v68
  let c11_i32 : BitVec 32 := 11#32
  let v217 : Index := Scalar.indexCast c11_i32
  let c0_i32_75 : BitVec 32 := 0#32
  let c0_i32_70 : BitVec 32 := 0#32
  let c1_i32_71 : BitVec 32 := 1#32
  let arg24 : BitVec 32 := Scf.iv c0_i32_70 c1_i32_71 k0_t8
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v218 : Index := Scalar.indexCast v99
  ![v216.toNat, 11, v218.toNat]

def k0_chk114 (v221 : IVec S16 32) : Prop :=
  (∀ a x, ((![v221] : Fin 1 → IVec S16 32) a x).toNat < S4096.size a)
theorem k0_idx126_inb : ∀ (v221 : IVec S16 32) (k0_hw114 : k0_chk114 v221), ∀ a x, ((![v221] : Fin 1 → IVec S16 32) a x).toNat < S4096.size a := fun v221 k0_hw114 => k0_hw114
def k0_off90 (k0_t7 : Fin k0_t7_loop.trips) (k0_t8 : Fin k0_t8_loop.trips) : Fin 3 → Nat :=
  let c0_i32_45 : BitVec 32 := 0#32
  let c1_i32_47 : BitVec 32 := 1#32
  let arg22 : BitVec 32 := Scf.iv c0_i32_45 c1_i32_47 k0_t7
  let c1_i32_57 : BitVec 32 := 1#32
  let v68 : BitVec 32 := Scalar.andi arg22 c1_i32_57
  let v226 : Index := Scalar.indexCast v68
  let c12_i32_85 : BitVec 32 := 12#32
  let v227 : Index := Scalar.indexCast c12_i32_85
  let c0_i32_75 : BitVec 32 := 0#32
  let c0_i32_70 : BitVec 32 := 0#32
  let c1_i32_71 : BitVec 32 := 1#32
  let arg24 : BitVec 32 := Scf.iv c0_i32_70 c1_i32_71 k0_t8
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v228 : Index := Scalar.indexCast v99
  ![v226.toNat, 12, v228.toNat]

def k0_chk115 (v231 : IVec S16 32) : Prop :=
  (∀ a x, ((![v231] : Fin 1 → IVec S16 32) a x).toNat < S4096.size a)
theorem k0_idx127_inb : ∀ (v231 : IVec S16 32) (k0_hw115 : k0_chk115 v231), ∀ a x, ((![v231] : Fin 1 → IVec S16 32) a x).toNat < S4096.size a := fun v231 k0_hw115 => k0_hw115
def k0_off91 (k0_t7 : Fin k0_t7_loop.trips) (k0_t8 : Fin k0_t8_loop.trips) : Fin 3 → Nat :=
  let c0_i32_45 : BitVec 32 := 0#32
  let c1_i32_47 : BitVec 32 := 1#32
  let arg22 : BitVec 32 := Scf.iv c0_i32_45 c1_i32_47 k0_t7
  let c1_i32_57 : BitVec 32 := 1#32
  let v68 : BitVec 32 := Scalar.andi arg22 c1_i32_57
  let v236 : Index := Scalar.indexCast v68
  let c13_i32 : BitVec 32 := 13#32
  let v237 : Index := Scalar.indexCast c13_i32
  let c0_i32_75 : BitVec 32 := 0#32
  let c0_i32_70 : BitVec 32 := 0#32
  let c1_i32_71 : BitVec 32 := 1#32
  let arg24 : BitVec 32 := Scf.iv c0_i32_70 c1_i32_71 k0_t8
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v238 : Index := Scalar.indexCast v99
  ![v236.toNat, 13, v238.toNat]

def k0_chk116 (v241 : IVec S16 32) : Prop :=
  (∀ a x, ((![v241] : Fin 1 → IVec S16 32) a x).toNat < S4096.size a)
theorem k0_idx128_inb : ∀ (v241 : IVec S16 32) (k0_hw116 : k0_chk116 v241), ∀ a x, ((![v241] : Fin 1 → IVec S16 32) a x).toNat < S4096.size a := fun v241 k0_hw116 => k0_hw116
def k0_off92 (k0_t7 : Fin k0_t7_loop.trips) (k0_t8 : Fin k0_t8_loop.trips) : Fin 3 → Nat :=
  let c0_i32_45 : BitVec 32 := 0#32
  let c1_i32_47 : BitVec 32 := 1#32
  let arg22 : BitVec 32 := Scf.iv c0_i32_45 c1_i32_47 k0_t7
  let c1_i32_57 : BitVec 32 := 1#32
  let v68 : BitVec 32 := Scalar.andi arg22 c1_i32_57
  let v246 : Index := Scalar.indexCast v68
  let c14_i32 : BitVec 32 := 14#32
  let v247 : Index := Scalar.indexCast c14_i32
  let c0_i32_75 : BitVec 32 := 0#32
  let c0_i32_70 : BitVec 32 := 0#32
  let c1_i32_71 : BitVec 32 := 1#32
  let arg24 : BitVec 32 := Scf.iv c0_i32_70 c1_i32_71 k0_t8
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v248 : Index := Scalar.indexCast v99
  ![v246.toNat, 14, v248.toNat]

def k0_chk117 (v251 : IVec S16 32) : Prop :=
  (∀ a x, ((![v251] : Fin 1 → IVec S16 32) a x).toNat < S4096.size a)
theorem k0_idx129_inb : ∀ (v251 : IVec S16 32) (k0_hw117 : k0_chk117 v251), ∀ a x, ((![v251] : Fin 1 → IVec S16 32) a x).toNat < S4096.size a := fun v251 k0_hw117 => k0_hw117
def k0_off93 (k0_t7 : Fin k0_t7_loop.trips) (k0_t8 : Fin k0_t8_loop.trips) : Fin 3 → Nat :=
  let c0_i32_45 : BitVec 32 := 0#32
  let c1_i32_47 : BitVec 32 := 1#32
  let arg22 : BitVec 32 := Scf.iv c0_i32_45 c1_i32_47 k0_t7
  let c1_i32_57 : BitVec 32 := 1#32
  let v68 : BitVec 32 := Scalar.andi arg22 c1_i32_57
  let v256 : Index := Scalar.indexCast v68
  let c15_i32 : BitVec 32 := 15#32
  let v257 : Index := Scalar.indexCast c15_i32
  let c0_i32_75 : BitVec 32 := 0#32
  let c0_i32_70 : BitVec 32 := 0#32
  let c1_i32_71 : BitVec 32 := 1#32
  let arg24 : BitVec 32 := Scf.iv c0_i32_70 c1_i32_71 k0_t8
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v258 : Index := Scalar.indexCast v99
  ![v256.toNat, 15, v258.toNat]

def k0_chk118 (v261 : IVec S16 32) : Prop :=
  (∀ a x, ((![v261] : Fin 1 → IVec S16 32) a x).toNat < S4096.size a)
theorem k0_idx130_inb : ∀ (v261 : IVec S16 32) (k0_hw118 : k0_chk118 v261), ∀ a x, ((![v261] : Fin 1 → IVec S16 32) a x).toNat < S4096.size a := fun v261 k0_hw118 => k0_hw118
def k0_off94 (k0_t7 : Fin k0_t7_loop.trips) (k0_t8 : Fin k0_t8_loop.trips) : Fin 3 → Nat :=
  let c0_i32_45 : BitVec 32 := 0#32
  let c1_i32_47 : BitVec 32 := 1#32
  let arg22 : BitVec 32 := Scf.iv c0_i32_45 c1_i32_47 k0_t7
  let c1_i32_57 : BitVec 32 := 1#32
  let v68 : BitVec 32 := Scalar.andi arg22 c1_i32_57
  let v266 : Index := Scalar.indexCast v68
  let c16_i32_86 : BitVec 32 := 16#32
  let v267 : Index := Scalar.indexCast c16_i32_86
  let c0_i32_75 : BitVec 32 := 0#32
  let c0_i32_70 : BitVec 32 := 0#32
  let c1_i32_71 : BitVec 32 := 1#32
  let arg24 : BitVec 32 := Scf.iv c0_i32_70 c1_i32_71 k0_t8
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v268 : Index := Scalar.indexCast v99
  ![v266.toNat, 16, v268.toNat]

def k0_chk119 (v271 : IVec S16 32) : Prop :=
  (∀ a x, ((![v271] : Fin 1 → IVec S16 32) a x).toNat < S4096.size a)
theorem k0_idx131_inb : ∀ (v271 : IVec S16 32) (k0_hw119 : k0_chk119 v271), ∀ a x, ((![v271] : Fin 1 → IVec S16 32) a x).toNat < S4096.size a := fun v271 k0_hw119 => k0_hw119
def k0_off95 (k0_t7 : Fin k0_t7_loop.trips) (k0_t8 : Fin k0_t8_loop.trips) : Fin 3 → Nat :=
  let c0_i32_45 : BitVec 32 := 0#32
  let c1_i32_47 : BitVec 32 := 1#32
  let arg22 : BitVec 32 := Scf.iv c0_i32_45 c1_i32_47 k0_t7
  let c1_i32_57 : BitVec 32 := 1#32
  let v68 : BitVec 32 := Scalar.andi arg22 c1_i32_57
  let v276 : Index := Scalar.indexCast v68
  let c17_i32 : BitVec 32 := 17#32
  let v277 : Index := Scalar.indexCast c17_i32
  let c0_i32_75 : BitVec 32 := 0#32
  let c0_i32_70 : BitVec 32 := 0#32
  let c1_i32_71 : BitVec 32 := 1#32
  let arg24 : BitVec 32 := Scf.iv c0_i32_70 c1_i32_71 k0_t8
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v278 : Index := Scalar.indexCast v99
  ![v276.toNat, 17, v278.toNat]

def k0_chk120 (v281 : IVec S16 32) : Prop :=
  (∀ a x, ((![v281] : Fin 1 → IVec S16 32) a x).toNat < S4096.size a)
theorem k0_idx132_inb : ∀ (v281 : IVec S16 32) (k0_hw120 : k0_chk120 v281), ∀ a x, ((![v281] : Fin 1 → IVec S16 32) a x).toNat < S4096.size a := fun v281 k0_hw120 => k0_hw120
def k0_off96 (k0_t7 : Fin k0_t7_loop.trips) (k0_t8 : Fin k0_t8_loop.trips) : Fin 3 → Nat :=
  let c0_i32_45 : BitVec 32 := 0#32
  let c1_i32_47 : BitVec 32 := 1#32
  let arg22 : BitVec 32 := Scf.iv c0_i32_45 c1_i32_47 k0_t7
  let c1_i32_57 : BitVec 32 := 1#32
  let v68 : BitVec 32 := Scalar.andi arg22 c1_i32_57
  let v286 : Index := Scalar.indexCast v68
  let c18_i32 : BitVec 32 := 18#32
  let v287 : Index := Scalar.indexCast c18_i32
  let c0_i32_75 : BitVec 32 := 0#32
  let c0_i32_70 : BitVec 32 := 0#32
  let c1_i32_71 : BitVec 32 := 1#32
  let arg24 : BitVec 32 := Scf.iv c0_i32_70 c1_i32_71 k0_t8
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v288 : Index := Scalar.indexCast v99
  ![v286.toNat, 18, v288.toNat]

def k0_chk121 (v291 : IVec S16 32) : Prop :=
  (∀ a x, ((![v291] : Fin 1 → IVec S16 32) a x).toNat < S4096.size a)
theorem k0_idx133_inb : ∀ (v291 : IVec S16 32) (k0_hw121 : k0_chk121 v291), ∀ a x, ((![v291] : Fin 1 → IVec S16 32) a x).toNat < S4096.size a := fun v291 k0_hw121 => k0_hw121
def k0_off97 (k0_t7 : Fin k0_t7_loop.trips) (k0_t8 : Fin k0_t8_loop.trips) : Fin 3 → Nat :=
  let c0_i32_45 : BitVec 32 := 0#32
  let c1_i32_47 : BitVec 32 := 1#32
  let arg22 : BitVec 32 := Scf.iv c0_i32_45 c1_i32_47 k0_t7
  let c1_i32_57 : BitVec 32 := 1#32
  let v68 : BitVec 32 := Scalar.andi arg22 c1_i32_57
  let v296 : Index := Scalar.indexCast v68
  let c19_i32 : BitVec 32 := 19#32
  let v297 : Index := Scalar.indexCast c19_i32
  let c0_i32_75 : BitVec 32 := 0#32
  let c0_i32_70 : BitVec 32 := 0#32
  let c1_i32_71 : BitVec 32 := 1#32
  let arg24 : BitVec 32 := Scf.iv c0_i32_70 c1_i32_71 k0_t8
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v298 : Index := Scalar.indexCast v99
  ![v296.toNat, 19, v298.toNat]

def k0_chk122 (v301 : IVec S16 32) : Prop :=
  (∀ a x, ((![v301] : Fin 1 → IVec S16 32) a x).toNat < S4096.size a)
theorem k0_idx134_inb : ∀ (v301 : IVec S16 32) (k0_hw122 : k0_chk122 v301), ∀ a x, ((![v301] : Fin 1 → IVec S16 32) a x).toNat < S4096.size a := fun v301 k0_hw122 => k0_hw122
def k0_off98 (k0_t7 : Fin k0_t7_loop.trips) (k0_t8 : Fin k0_t8_loop.trips) : Fin 3 → Nat :=
  let c0_i32_45 : BitVec 32 := 0#32
  let c1_i32_47 : BitVec 32 := 1#32
  let arg22 : BitVec 32 := Scf.iv c0_i32_45 c1_i32_47 k0_t7
  let c1_i32_57 : BitVec 32 := 1#32
  let v68 : BitVec 32 := Scalar.andi arg22 c1_i32_57
  let v306 : Index := Scalar.indexCast v68
  let c20_i32_89 : BitVec 32 := 20#32
  let v307 : Index := Scalar.indexCast c20_i32_89
  let c0_i32_75 : BitVec 32 := 0#32
  let c0_i32_70 : BitVec 32 := 0#32
  let c1_i32_71 : BitVec 32 := 1#32
  let arg24 : BitVec 32 := Scf.iv c0_i32_70 c1_i32_71 k0_t8
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v308 : Index := Scalar.indexCast v99
  ![v306.toNat, 20, v308.toNat]

def k0_chk123 (v311 : IVec S16 32) : Prop :=
  (∀ a x, ((![v311] : Fin 1 → IVec S16 32) a x).toNat < S4096.size a)
theorem k0_idx135_inb : ∀ (v311 : IVec S16 32) (k0_hw123 : k0_chk123 v311), ∀ a x, ((![v311] : Fin 1 → IVec S16 32) a x).toNat < S4096.size a := fun v311 k0_hw123 => k0_hw123
def k0_off99 (k0_t7 : Fin k0_t7_loop.trips) (k0_t8 : Fin k0_t8_loop.trips) : Fin 3 → Nat :=
  let c0_i32_45 : BitVec 32 := 0#32
  let c1_i32_47 : BitVec 32 := 1#32
  let arg22 : BitVec 32 := Scf.iv c0_i32_45 c1_i32_47 k0_t7
  let c1_i32_57 : BitVec 32 := 1#32
  let v68 : BitVec 32 := Scalar.andi arg22 c1_i32_57
  let v316 : Index := Scalar.indexCast v68
  let c21_i32 : BitVec 32 := 21#32
  let v317 : Index := Scalar.indexCast c21_i32
  let c0_i32_75 : BitVec 32 := 0#32
  let c0_i32_70 : BitVec 32 := 0#32
  let c1_i32_71 : BitVec 32 := 1#32
  let arg24 : BitVec 32 := Scf.iv c0_i32_70 c1_i32_71 k0_t8
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v318 : Index := Scalar.indexCast v99
  ![v316.toNat, 21, v318.toNat]

def k0_chk124 (v321 : IVec S16 32) : Prop :=
  (∀ a x, ((![v321] : Fin 1 → IVec S16 32) a x).toNat < S4096.size a)
theorem k0_idx136_inb : ∀ (v321 : IVec S16 32) (k0_hw124 : k0_chk124 v321), ∀ a x, ((![v321] : Fin 1 → IVec S16 32) a x).toNat < S4096.size a := fun v321 k0_hw124 => k0_hw124
def k0_off100 (k0_t7 : Fin k0_t7_loop.trips) (k0_t8 : Fin k0_t8_loop.trips) : Fin 3 → Nat :=
  let c0_i32_45 : BitVec 32 := 0#32
  let c1_i32_47 : BitVec 32 := 1#32
  let arg22 : BitVec 32 := Scf.iv c0_i32_45 c1_i32_47 k0_t7
  let c1_i32_57 : BitVec 32 := 1#32
  let v68 : BitVec 32 := Scalar.andi arg22 c1_i32_57
  let v326 : Index := Scalar.indexCast v68
  let c22_i32 : BitVec 32 := 22#32
  let v327 : Index := Scalar.indexCast c22_i32
  let c0_i32_75 : BitVec 32 := 0#32
  let c0_i32_70 : BitVec 32 := 0#32
  let c1_i32_71 : BitVec 32 := 1#32
  let arg24 : BitVec 32 := Scf.iv c0_i32_70 c1_i32_71 k0_t8
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v328 : Index := Scalar.indexCast v99
  ![v326.toNat, 22, v328.toNat]

def k0_chk125 (v331 : IVec S16 32) : Prop :=
  (∀ a x, ((![v331] : Fin 1 → IVec S16 32) a x).toNat < S4096.size a)
theorem k0_idx137_inb : ∀ (v331 : IVec S16 32) (k0_hw125 : k0_chk125 v331), ∀ a x, ((![v331] : Fin 1 → IVec S16 32) a x).toNat < S4096.size a := fun v331 k0_hw125 => k0_hw125
def k0_off101 (k0_t7 : Fin k0_t7_loop.trips) (k0_t8 : Fin k0_t8_loop.trips) : Fin 3 → Nat :=
  let c0_i32_45 : BitVec 32 := 0#32
  let c1_i32_47 : BitVec 32 := 1#32
  let arg22 : BitVec 32 := Scf.iv c0_i32_45 c1_i32_47 k0_t7
  let c1_i32_57 : BitVec 32 := 1#32
  let v68 : BitVec 32 := Scalar.andi arg22 c1_i32_57
  let v336 : Index := Scalar.indexCast v68
  let c23_i32 : BitVec 32 := 23#32
  let v337 : Index := Scalar.indexCast c23_i32
  let c0_i32_75 : BitVec 32 := 0#32
  let c0_i32_70 : BitVec 32 := 0#32
  let c1_i32_71 : BitVec 32 := 1#32
  let arg24 : BitVec 32 := Scf.iv c0_i32_70 c1_i32_71 k0_t8
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v338 : Index := Scalar.indexCast v99
  ![v336.toNat, 23, v338.toNat]

def k0_chk126 (v341 : IVec S16 32) : Prop :=
  (∀ a x, ((![v341] : Fin 1 → IVec S16 32) a x).toNat < S4096.size a)
theorem k0_idx138_inb : ∀ (v341 : IVec S16 32) (k0_hw126 : k0_chk126 v341), ∀ a x, ((![v341] : Fin 1 → IVec S16 32) a x).toNat < S4096.size a := fun v341 k0_hw126 => k0_hw126
def k0_off102 (k0_t7 : Fin k0_t7_loop.trips) (k0_t8 : Fin k0_t8_loop.trips) : Fin 3 → Nat :=
  let c0_i32_45 : BitVec 32 := 0#32
  let c1_i32_47 : BitVec 32 := 1#32
  let arg22 : BitVec 32 := Scf.iv c0_i32_45 c1_i32_47 k0_t7
  let c1_i32_57 : BitVec 32 := 1#32
  let v68 : BitVec 32 := Scalar.andi arg22 c1_i32_57
  let v346 : Index := Scalar.indexCast v68
  let c24_i32_90 : BitVec 32 := 24#32
  let v347 : Index := Scalar.indexCast c24_i32_90
  let c0_i32_75 : BitVec 32 := 0#32
  let c0_i32_70 : BitVec 32 := 0#32
  let c1_i32_71 : BitVec 32 := 1#32
  let arg24 : BitVec 32 := Scf.iv c0_i32_70 c1_i32_71 k0_t8
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v348 : Index := Scalar.indexCast v99
  ![v346.toNat, 24, v348.toNat]

def k0_chk127 (v351 : IVec S16 32) : Prop :=
  (∀ a x, ((![v351] : Fin 1 → IVec S16 32) a x).toNat < S4096.size a)
theorem k0_idx139_inb : ∀ (v351 : IVec S16 32) (k0_hw127 : k0_chk127 v351), ∀ a x, ((![v351] : Fin 1 → IVec S16 32) a x).toNat < S4096.size a := fun v351 k0_hw127 => k0_hw127
def k0_off103 (k0_t7 : Fin k0_t7_loop.trips) (k0_t8 : Fin k0_t8_loop.trips) : Fin 3 → Nat :=
  let c0_i32_45 : BitVec 32 := 0#32
  let c1_i32_47 : BitVec 32 := 1#32
  let arg22 : BitVec 32 := Scf.iv c0_i32_45 c1_i32_47 k0_t7
  let c1_i32_57 : BitVec 32 := 1#32
  let v68 : BitVec 32 := Scalar.andi arg22 c1_i32_57
  let v356 : Index := Scalar.indexCast v68
  let c25_i32 : BitVec 32 := 25#32
  let v357 : Index := Scalar.indexCast c25_i32
  let c0_i32_75 : BitVec 32 := 0#32
  let c0_i32_70 : BitVec 32 := 0#32
  let c1_i32_71 : BitVec 32 := 1#32
  let arg24 : BitVec 32 := Scf.iv c0_i32_70 c1_i32_71 k0_t8
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v358 : Index := Scalar.indexCast v99
  ![v356.toNat, 25, v358.toNat]

def k0_chk128 (v361 : IVec S16 32) : Prop :=
  (∀ a x, ((![v361] : Fin 1 → IVec S16 32) a x).toNat < S4096.size a)
theorem k0_idx140_inb : ∀ (v361 : IVec S16 32) (k0_hw128 : k0_chk128 v361), ∀ a x, ((![v361] : Fin 1 → IVec S16 32) a x).toNat < S4096.size a := fun v361 k0_hw128 => k0_hw128
def k0_off104 (k0_t7 : Fin k0_t7_loop.trips) (k0_t8 : Fin k0_t8_loop.trips) : Fin 3 → Nat :=
  let c0_i32_45 : BitVec 32 := 0#32
  let c1_i32_47 : BitVec 32 := 1#32
  let arg22 : BitVec 32 := Scf.iv c0_i32_45 c1_i32_47 k0_t7
  let c1_i32_57 : BitVec 32 := 1#32
  let v68 : BitVec 32 := Scalar.andi arg22 c1_i32_57
  let v366 : Index := Scalar.indexCast v68
  let c26_i32 : BitVec 32 := 26#32
  let v367 : Index := Scalar.indexCast c26_i32
  let c0_i32_75 : BitVec 32 := 0#32
  let c0_i32_70 : BitVec 32 := 0#32
  let c1_i32_71 : BitVec 32 := 1#32
  let arg24 : BitVec 32 := Scf.iv c0_i32_70 c1_i32_71 k0_t8
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v368 : Index := Scalar.indexCast v99
  ![v366.toNat, 26, v368.toNat]

def k0_chk129 (v371 : IVec S16 32) : Prop :=
  (∀ a x, ((![v371] : Fin 1 → IVec S16 32) a x).toNat < S4096.size a)
theorem k0_idx141_inb : ∀ (v371 : IVec S16 32) (k0_hw129 : k0_chk129 v371), ∀ a x, ((![v371] : Fin 1 → IVec S16 32) a x).toNat < S4096.size a := fun v371 k0_hw129 => k0_hw129
def k0_off105 (k0_t7 : Fin k0_t7_loop.trips) (k0_t8 : Fin k0_t8_loop.trips) : Fin 3 → Nat :=
  let c0_i32_45 : BitVec 32 := 0#32
  let c1_i32_47 : BitVec 32 := 1#32
  let arg22 : BitVec 32 := Scf.iv c0_i32_45 c1_i32_47 k0_t7
  let c1_i32_57 : BitVec 32 := 1#32
  let v68 : BitVec 32 := Scalar.andi arg22 c1_i32_57
  let v376 : Index := Scalar.indexCast v68
  let c27_i32 : BitVec 32 := 27#32
  let v377 : Index := Scalar.indexCast c27_i32
  let c0_i32_75 : BitVec 32 := 0#32
  let c0_i32_70 : BitVec 32 := 0#32
  let c1_i32_71 : BitVec 32 := 1#32
  let arg24 : BitVec 32 := Scf.iv c0_i32_70 c1_i32_71 k0_t8
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v378 : Index := Scalar.indexCast v99
  ![v376.toNat, 27, v378.toNat]

def k0_chk130 (v381 : IVec S16 32) : Prop :=
  (∀ a x, ((![v381] : Fin 1 → IVec S16 32) a x).toNat < S4096.size a)
theorem k0_idx142_inb : ∀ (v381 : IVec S16 32) (k0_hw130 : k0_chk130 v381), ∀ a x, ((![v381] : Fin 1 → IVec S16 32) a x).toNat < S4096.size a := fun v381 k0_hw130 => k0_hw130
def k0_off106 (k0_t7 : Fin k0_t7_loop.trips) (k0_t8 : Fin k0_t8_loop.trips) : Fin 3 → Nat :=
  let c0_i32_45 : BitVec 32 := 0#32
  let c1_i32_47 : BitVec 32 := 1#32
  let arg22 : BitVec 32 := Scf.iv c0_i32_45 c1_i32_47 k0_t7
  let c1_i32_57 : BitVec 32 := 1#32
  let v68 : BitVec 32 := Scalar.andi arg22 c1_i32_57
  let v386 : Index := Scalar.indexCast v68
  let c28_i32_91 : BitVec 32 := 28#32
  let v387 : Index := Scalar.indexCast c28_i32_91
  let c0_i32_75 : BitVec 32 := 0#32
  let c0_i32_70 : BitVec 32 := 0#32
  let c1_i32_71 : BitVec 32 := 1#32
  let arg24 : BitVec 32 := Scf.iv c0_i32_70 c1_i32_71 k0_t8
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v388 : Index := Scalar.indexCast v99
  ![v386.toNat, 28, v388.toNat]

def k0_chk131 (v391 : IVec S16 32) : Prop :=
  (∀ a x, ((![v391] : Fin 1 → IVec S16 32) a x).toNat < S4096.size a)
theorem k0_idx143_inb : ∀ (v391 : IVec S16 32) (k0_hw131 : k0_chk131 v391), ∀ a x, ((![v391] : Fin 1 → IVec S16 32) a x).toNat < S4096.size a := fun v391 k0_hw131 => k0_hw131
def k0_off107 (k0_t7 : Fin k0_t7_loop.trips) (k0_t8 : Fin k0_t8_loop.trips) : Fin 3 → Nat :=
  let c0_i32_45 : BitVec 32 := 0#32
  let c1_i32_47 : BitVec 32 := 1#32
  let arg22 : BitVec 32 := Scf.iv c0_i32_45 c1_i32_47 k0_t7
  let c1_i32_57 : BitVec 32 := 1#32
  let v68 : BitVec 32 := Scalar.andi arg22 c1_i32_57
  let v396 : Index := Scalar.indexCast v68
  let c29_i32 : BitVec 32 := 29#32
  let v397 : Index := Scalar.indexCast c29_i32
  let c0_i32_75 : BitVec 32 := 0#32
  let c0_i32_70 : BitVec 32 := 0#32
  let c1_i32_71 : BitVec 32 := 1#32
  let arg24 : BitVec 32 := Scf.iv c0_i32_70 c1_i32_71 k0_t8
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v398 : Index := Scalar.indexCast v99
  ![v396.toNat, 29, v398.toNat]

def k0_chk132 (v401 : IVec S16 32) : Prop :=
  (∀ a x, ((![v401] : Fin 1 → IVec S16 32) a x).toNat < S4096.size a)
theorem k0_idx144_inb : ∀ (v401 : IVec S16 32) (k0_hw132 : k0_chk132 v401), ∀ a x, ((![v401] : Fin 1 → IVec S16 32) a x).toNat < S4096.size a := fun v401 k0_hw132 => k0_hw132
def k0_off108 (k0_t7 : Fin k0_t7_loop.trips) (k0_t8 : Fin k0_t8_loop.trips) : Fin 3 → Nat :=
  let c0_i32_45 : BitVec 32 := 0#32
  let c1_i32_47 : BitVec 32 := 1#32
  let arg22 : BitVec 32 := Scf.iv c0_i32_45 c1_i32_47 k0_t7
  let c1_i32_57 : BitVec 32 := 1#32
  let v68 : BitVec 32 := Scalar.andi arg22 c1_i32_57
  let v406 : Index := Scalar.indexCast v68
  let c30_i32 : BitVec 32 := 30#32
  let v407 : Index := Scalar.indexCast c30_i32
  let c0_i32_75 : BitVec 32 := 0#32
  let c0_i32_70 : BitVec 32 := 0#32
  let c1_i32_71 : BitVec 32 := 1#32
  let arg24 : BitVec 32 := Scf.iv c0_i32_70 c1_i32_71 k0_t8
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v408 : Index := Scalar.indexCast v99
  ![v406.toNat, 30, v408.toNat]

def k0_chk133 (v411 : IVec S16 32) : Prop :=
  (∀ a x, ((![v411] : Fin 1 → IVec S16 32) a x).toNat < S4096.size a)
theorem k0_idx145_inb : ∀ (v411 : IVec S16 32) (k0_hw133 : k0_chk133 v411), ∀ a x, ((![v411] : Fin 1 → IVec S16 32) a x).toNat < S4096.size a := fun v411 k0_hw133 => k0_hw133
def k0_off109 (k0_t7 : Fin k0_t7_loop.trips) (k0_t8 : Fin k0_t8_loop.trips) : Fin 3 → Nat :=
  let c0_i32_45 : BitVec 32 := 0#32
  let c1_i32_47 : BitVec 32 := 1#32
  let arg22 : BitVec 32 := Scf.iv c0_i32_45 c1_i32_47 k0_t7
  let c1_i32_57 : BitVec 32 := 1#32
  let v68 : BitVec 32 := Scalar.andi arg22 c1_i32_57
  let v416 : Index := Scalar.indexCast v68
  let c31_i32 : BitVec 32 := 31#32
  let v417 : Index := Scalar.indexCast c31_i32
  let c0_i32_75 : BitVec 32 := 0#32
  let c0_i32_70 : BitVec 32 := 0#32
  let c1_i32_71 : BitVec 32 := 1#32
  let arg24 : BitVec 32 := Scf.iv c0_i32_70 c1_i32_71 k0_t8
  let c1_i32_74 : BitVec 32 := 1#32
  let v97 : BitVec 32 := Scalar.muli arg24 c1_i32_74
  let v98 : BitVec 32 := Scalar.addi c0_i32_75 v97
  let c16_i32_76 : BitVec 32 := 16#32
  let v99 : BitVec 32 := Scalar.muli v98 c16_i32_76
  let v418 : Index := Scalar.indexCast v99
  ![v416.toNat, 31, v418.toNat]

def k0_chk134 (v421 : IVec S16 32) : Prop :=
  (∀ a x, ((![v421] : Fin 1 → IVec S16 32) a x).toNat < S4096.size a)
theorem k0_idx146_inb : ∀ (v421 : IVec S16 32) (k0_hw134 : k0_chk134 v421), ∀ a x, ((![v421] : Fin 1 → IVec S16 32) a x).toNat < S4096.size a := fun v421 k0_hw134 => k0_hw134

def k0_chk135 (v440 : IVec S16 32) : Prop :=
  (∀ a x, ((![v440] : Fin 1 → IVec S16 32) a x).toNat < S4352.size a)
theorem k0_idx147_inb : ∀ (v440 : IVec S16 32) (k0_hw135 : k0_chk135 v440), ∀ a x, ((![v440] : Fin 1 → IVec S16 32) a x).toNat < S4352.size a := fun v440 k0_hw135 => k0_hw135
@[reducible] def k0_t9_loop : Scf.Loop 32 :=
  let c0_i32_50 : BitVec 32 := 0#32
  let c68_i32_51 : BitVec 32 := 68#32
  let v63 : BitVec 32 := Scalar.addi c0_i32_50 c68_i32_51
  let c1_i32_52 : BitVec 32 := 1#32
  ⟨c0_i32_50, v63, c1_i32_52⟩

def k0_chk136 (v71 : IVec S16 32) : Prop :=
  (∀ a x, ((![v71] : Fin 1 → IVec S16 32) a x).toNat < S4352.size a) ∧
  (∀ a x, ((![v71] : Fin 1 → IVec S16 32) a x).toNat < S4352.size a) ∧
  (∀ a x, ((![v71] : Fin 1 → IVec S16 32) a x).toNat < S4352.size a) ∧
  (∀ a x, ((![v71] : Fin 1 → IVec S16 32) a x).toNat < S4352.size a)
theorem k0_idx148_inb : ∀ (v71 : IVec S16 32) (k0_hw136 : k0_chk136 v71), ∀ a x, ((![v71] : Fin 1 → IVec S16 32) a x).toNat < S4352.size a := fun v71 k0_hw136 => k0_hw136.1
theorem k0_idx149_inb : ∀ (v71 : IVec S16 32) (k0_hw136 : k0_chk136 v71), ∀ a x, ((![v71] : Fin 1 → IVec S16 32) a x).toNat < S4352.size a := fun v71 k0_hw136 => k0_hw136.2.1
theorem k0_idx150_inb : ∀ (v71 : IVec S16 32) (k0_hw136 : k0_chk136 v71), ∀ a x, ((![v71] : Fin 1 → IVec S16 32) a x).toNat < S4352.size a := fun v71 k0_hw136 => k0_hw136.2.2.1
theorem k0_idx151_inb : ∀ (v71 : IVec S16 32) (k0_hw136 : k0_chk136 v71), ∀ a x, ((![v71] : Fin 1 → IVec S16 32) a x).toNat < S4352.size a := fun v71 k0_hw136 => k0_hw136.2.2.2

def k0_chk137 (v83 : IVec S16 32) : Prop :=
  (∀ a x, ((![v83] : Fin 1 → IVec S16 32) a x).toNat < S4352.size a) ∧
  (∀ a x, ((![v83] : Fin 1 → IVec S16 32) a x).toNat < S4352.size a) ∧
  (∀ a x, ((![v83] : Fin 1 → IVec S16 32) a x).toNat < S4352.size a) ∧
  (∀ a x, ((![v83] : Fin 1 → IVec S16 32) a x).toNat < S4352.size a)
theorem k0_idx152_inb : ∀ (v83 : IVec S16 32) (k0_hw137 : k0_chk137 v83), ∀ a x, ((![v83] : Fin 1 → IVec S16 32) a x).toNat < S4352.size a := fun v83 k0_hw137 => k0_hw137.1
theorem k0_idx153_inb : ∀ (v83 : IVec S16 32) (k0_hw137 : k0_chk137 v83), ∀ a x, ((![v83] : Fin 1 → IVec S16 32) a x).toNat < S4352.size a := fun v83 k0_hw137 => k0_hw137.2.1
theorem k0_idx154_inb : ∀ (v83 : IVec S16 32) (k0_hw137 : k0_chk137 v83), ∀ a x, ((![v83] : Fin 1 → IVec S16 32) a x).toNat < S4352.size a := fun v83 k0_hw137 => k0_hw137.2.2.1
theorem k0_idx155_inb : ∀ (v83 : IVec S16 32) (k0_hw137 : k0_chk137 v83), ∀ a x, ((![v83] : Fin 1 → IVec S16 32) a x).toNat < S4352.size a := fun v83 k0_hw137 => k0_hw137.2.2.2

def k0_chk138 (v95 : IVec S16 32) : Prop :=
  (∀ a x, ((![v95] : Fin 1 → IVec S16 32) a x).toNat < S4352.size a) ∧
  (∀ a x, ((![v95] : Fin 1 → IVec S16 32) a x).toNat < S4352.size a) ∧
  (∀ a x, ((![v95] : Fin 1 → IVec S16 32) a x).toNat < S4352.size a) ∧
  (∀ a x, ((![v95] : Fin 1 → IVec S16 32) a x).toNat < S4352.size a)
theorem k0_idx156_inb : ∀ (v95 : IVec S16 32) (k0_hw138 : k0_chk138 v95), ∀ a x, ((![v95] : Fin 1 → IVec S16 32) a x).toNat < S4352.size a := fun v95 k0_hw138 => k0_hw138.1
theorem k0_idx157_inb : ∀ (v95 : IVec S16 32) (k0_hw138 : k0_chk138 v95), ∀ a x, ((![v95] : Fin 1 → IVec S16 32) a x).toNat < S4352.size a := fun v95 k0_hw138 => k0_hw138.2.1
theorem k0_idx158_inb : ∀ (v95 : IVec S16 32) (k0_hw138 : k0_chk138 v95), ∀ a x, ((![v95] : Fin 1 → IVec S16 32) a x).toNat < S4352.size a := fun v95 k0_hw138 => k0_hw138.2.2.1
theorem k0_idx159_inb : ∀ (v95 : IVec S16 32) (k0_hw138 : k0_chk138 v95), ∀ a x, ((![v95] : Fin 1 → IVec S16 32) a x).toNat < S4352.size a := fun v95 k0_hw138 => k0_hw138.2.2.2

def k0_chk139 (v107 : IVec S16 32) : Prop :=
  (∀ a x, ((![v107] : Fin 1 → IVec S16 32) a x).toNat < S4352.size a) ∧
  (∀ a x, ((![v107] : Fin 1 → IVec S16 32) a x).toNat < S4352.size a) ∧
  (∀ a x, ((![v107] : Fin 1 → IVec S16 32) a x).toNat < S4352.size a) ∧
  (∀ a x, ((![v107] : Fin 1 → IVec S16 32) a x).toNat < S4352.size a)
theorem k0_idx160_inb : ∀ (v107 : IVec S16 32) (k0_hw139 : k0_chk139 v107), ∀ a x, ((![v107] : Fin 1 → IVec S16 32) a x).toNat < S4352.size a := fun v107 k0_hw139 => k0_hw139.1
theorem k0_idx161_inb : ∀ (v107 : IVec S16 32) (k0_hw139 : k0_chk139 v107), ∀ a x, ((![v107] : Fin 1 → IVec S16 32) a x).toNat < S4352.size a := fun v107 k0_hw139 => k0_hw139.2.1
theorem k0_idx162_inb : ∀ (v107 : IVec S16 32) (k0_hw139 : k0_chk139 v107), ∀ a x, ((![v107] : Fin 1 → IVec S16 32) a x).toNat < S4352.size a := fun v107 k0_hw139 => k0_hw139.2.2.1
theorem k0_idx163_inb : ∀ (v107 : IVec S16 32) (k0_hw139 : k0_chk139 v107), ∀ a x, ((![v107] : Fin 1 → IVec S16 32) a x).toNat < S4352.size a := fun v107 k0_hw139 => k0_hw139.2.2.2
def k0_off110 (k0_t9 : Fin k0_t9_loop.trips) : Fin 1 → Nat :=
  let c0_i32_50 : BitVec 32 := 0#32
  let c1_i32_52 : BitVec 32 := 1#32
  let arg22 : BitVec 32 := Scf.iv c0_i32_50 c1_i32_52 k0_t9
  let c16_i32_63 : BitVec 32 := 16#32
  let v116 : BitVec 32 := Scalar.muli arg22 c16_i32_63
  let v117 : Index := Scalar.indexCast v116
  ![v117.toNat]
def k0_cond4 (i : grid0.Coords) : BitVec 1 :=
  let arg1 : BitVec 32 := BitVec.ofNat 32 (i 1).val
  let c0_i32_55 : BitVec 32 := 0#32
  let v65 : BitVec 1 := Scalar.cmpi .eq arg1 c0_i32_55
  let v66 : BitVec 32 := Scalar.extui v65
  let c0_i32_56 : BitVec 32 := 0#32
  let v67 : BitVec 1 := Scalar.cmpi .ne v66 c0_i32_56
  v67

def k0_chk140 (i : grid0.Coords) (v273 : IVec S16 32) : Prop :=
  (∀ (k0_h4 : k0_cond4 i = 1#1), ∀ a x, ((![v273] : Fin 1 → IVec S16 32) a x).toNat < S1024.size a)
theorem k0_idx164_inb : ∀ (i : grid0.Coords) (v273 : IVec S16 32) (k0_hw140 : k0_chk140 i v273), ∀ (k0_h4 : k0_cond4 i = 1#1), ∀ a x, ((![v273] : Fin 1 → IVec S16 32) a x).toNat < S1024.size a := fun i v273 k0_hw140 k0_h4 => k0_hw140 k0_h4

def k0_chk141 (i : grid0.Coords) (v281 : IVec S16 32) : Prop :=
  (∀ (k0_h4 : k0_cond4 i = 1#1), ∀ a x, ((![v281] : Fin 1 → IVec S16 32) a x).toNat < S1024.size a)
theorem k0_idx165_inb : ∀ (i : grid0.Coords) (v281 : IVec S16 32) (k0_hw141 : k0_chk141 i v281), ∀ (k0_h4 : k0_cond4 i = 1#1), ∀ a x, ((![v281] : Fin 1 → IVec S16 32) a x).toNat < S1024.size a := fun i v281 k0_hw141 k0_h4 => k0_hw141 k0_h4

def k0_chk142 (i : grid0.Coords) (v289 : IVec S16 32) : Prop :=
  (∀ (k0_h4 : k0_cond4 i = 1#1), ∀ a x, ((![v289] : Fin 1 → IVec S16 32) a x).toNat < S1024.size a)
theorem k0_idx166_inb : ∀ (i : grid0.Coords) (v289 : IVec S16 32) (k0_hw142 : k0_chk142 i v289), ∀ (k0_h4 : k0_cond4 i = 1#1), ∀ a x, ((![v289] : Fin 1 → IVec S16 32) a x).toNat < S1024.size a := fun i v289 k0_hw142 k0_h4 => k0_hw142 k0_h4

def k0_chk143 (i : grid0.Coords) (v297 : IVec S16 32) : Prop :=
  (∀ (k0_h4 : k0_cond4 i = 1#1), ∀ a x, ((![v297] : Fin 1 → IVec S16 32) a x).toNat < S1024.size a)
theorem k0_idx167_inb : ∀ (i : grid0.Coords) (v297 : IVec S16 32) (k0_hw143 : k0_chk143 i v297), ∀ (k0_h4 : k0_cond4 i = 1#1), ∀ a x, ((![v297] : Fin 1 → IVec S16 32) a x).toNat < S1024.size a := fun i v297 k0_hw143 k0_h4 => k0_hw143 k0_h4

def k0_chk144 (i : grid0.Coords) (v305 : IVec S16 32) : Prop :=
  (∀ (k0_h4 : k0_cond4 i = 1#1), ∀ a x, ((![v305] : Fin 1 → IVec S16 32) a x).toNat < S1024.size a)
theorem k0_idx168_inb : ∀ (i : grid0.Coords) (v305 : IVec S16 32) (k0_hw144 : k0_chk144 i v305), ∀ (k0_h4 : k0_cond4 i = 1#1), ∀ a x, ((![v305] : Fin 1 → IVec S16 32) a x).toNat < S1024.size a := fun i v305 k0_hw144 k0_h4 => k0_hw144 k0_h4

def k0_chk145 (i : grid0.Coords) (v313 : IVec S16 32) : Prop :=
  (∀ (k0_h4 : k0_cond4 i = 1#1), ∀ a x, ((![v313] : Fin 1 → IVec S16 32) a x).toNat < S1024.size a)
theorem k0_idx169_inb : ∀ (i : grid0.Coords) (v313 : IVec S16 32) (k0_hw145 : k0_chk145 i v313), ∀ (k0_h4 : k0_cond4 i = 1#1), ∀ a x, ((![v313] : Fin 1 → IVec S16 32) a x).toNat < S1024.size a := fun i v313 k0_hw145 k0_h4 => k0_hw145 k0_h4

def k0_chk146 (i : grid0.Coords) (v321 : IVec S16 32) : Prop :=
  (∀ (k0_h4 : k0_cond4 i = 1#1), ∀ a x, ((![v321] : Fin 1 → IVec S16 32) a x).toNat < S1024.size a)
theorem k0_idx170_inb : ∀ (i : grid0.Coords) (v321 : IVec S16 32) (k0_hw146 : k0_chk146 i v321), ∀ (k0_h4 : k0_cond4 i = 1#1), ∀ a x, ((![v321] : Fin 1 → IVec S16 32) a x).toNat < S1024.size a := fun i v321 k0_hw146 k0_h4 => k0_hw146 k0_h4

def k0_chk147 (i : grid0.Coords) (v329 : IVec S16 32) : Prop :=
  (∀ (k0_h4 : k0_cond4 i = 1#1), ∀ a x, ((![v329] : Fin 1 → IVec S16 32) a x).toNat < S1024.size a)
theorem k0_idx171_inb : ∀ (i : grid0.Coords) (v329 : IVec S16 32) (k0_hw147 : k0_chk147 i v329), ∀ (k0_h4 : k0_cond4 i = 1#1), ∀ a x, ((![v329] : Fin 1 → IVec S16 32) a x).toNat < S1024.size a := fun i v329 k0_hw147 k0_h4 => k0_hw147 k0_h4

def k0_chk148 (i : grid0.Coords) (v337 : IVec S16 32) : Prop :=
  (∀ (k0_h4 : k0_cond4 i = 1#1), ∀ a x, ((![v337] : Fin 1 → IVec S16 32) a x).toNat < S1024.size a)
theorem k0_idx172_inb : ∀ (i : grid0.Coords) (v337 : IVec S16 32) (k0_hw148 : k0_chk148 i v337), ∀ (k0_h4 : k0_cond4 i = 1#1), ∀ a x, ((![v337] : Fin 1 → IVec S16 32) a x).toNat < S1024.size a := fun i v337 k0_hw148 k0_h4 => k0_hw148 k0_h4

def k0_chk149 (i : grid0.Coords) (v345 : IVec S16 32) : Prop :=
  (∀ (k0_h4 : k0_cond4 i = 1#1), ∀ a x, ((![v345] : Fin 1 → IVec S16 32) a x).toNat < S1024.size a)
theorem k0_idx173_inb : ∀ (i : grid0.Coords) (v345 : IVec S16 32) (k0_hw149 : k0_chk149 i v345), ∀ (k0_h4 : k0_cond4 i = 1#1), ∀ a x, ((![v345] : Fin 1 → IVec S16 32) a x).toNat < S1024.size a := fun i v345 k0_hw149 k0_h4 => k0_hw149 k0_h4

def k0_chk150 (i : grid0.Coords) (v353 : IVec S16 32) : Prop :=
  (∀ (k0_h4 : k0_cond4 i = 1#1), ∀ a x, ((![v353] : Fin 1 → IVec S16 32) a x).toNat < S1024.size a)
theorem k0_idx174_inb : ∀ (i : grid0.Coords) (v353 : IVec S16 32) (k0_hw150 : k0_chk150 i v353), ∀ (k0_h4 : k0_cond4 i = 1#1), ∀ a x, ((![v353] : Fin 1 → IVec S16 32) a x).toNat < S1024.size a := fun i v353 k0_hw150 k0_h4 => k0_hw150 k0_h4

def k0_chk151 (i : grid0.Coords) (v361 : IVec S16 32) : Prop :=
  (∀ (k0_h4 : k0_cond4 i = 1#1), ∀ a x, ((![v361] : Fin 1 → IVec S16 32) a x).toNat < S1024.size a)
theorem k0_idx175_inb : ∀ (i : grid0.Coords) (v361 : IVec S16 32) (k0_hw151 : k0_chk151 i v361), ∀ (k0_h4 : k0_cond4 i = 1#1), ∀ a x, ((![v361] : Fin 1 → IVec S16 32) a x).toNat < S1024.size a := fun i v361 k0_hw151 k0_h4 => k0_hw151 k0_h4

def k0_chk152 (i : grid0.Coords) (v369 : IVec S16 32) : Prop :=
  (∀ (k0_h4 : k0_cond4 i = 1#1), ∀ a x, ((![v369] : Fin 1 → IVec S16 32) a x).toNat < S1024.size a)
theorem k0_idx176_inb : ∀ (i : grid0.Coords) (v369 : IVec S16 32) (k0_hw152 : k0_chk152 i v369), ∀ (k0_h4 : k0_cond4 i = 1#1), ∀ a x, ((![v369] : Fin 1 → IVec S16 32) a x).toNat < S1024.size a := fun i v369 k0_hw152 k0_h4 => k0_hw152 k0_h4

def k0_chk153 (i : grid0.Coords) (v377 : IVec S16 32) : Prop :=
  (∀ (k0_h4 : k0_cond4 i = 1#1), ∀ a x, ((![v377] : Fin 1 → IVec S16 32) a x).toNat < S1024.size a)
theorem k0_idx177_inb : ∀ (i : grid0.Coords) (v377 : IVec S16 32) (k0_hw153 : k0_chk153 i v377), ∀ (k0_h4 : k0_cond4 i = 1#1), ∀ a x, ((![v377] : Fin 1 → IVec S16 32) a x).toNat < S1024.size a := fun i v377 k0_hw153 k0_h4 => k0_hw153 k0_h4

def k0_chk154 (i : grid0.Coords) (v385 : IVec S16 32) : Prop :=
  (∀ (k0_h4 : k0_cond4 i = 1#1), ∀ a x, ((![v385] : Fin 1 → IVec S16 32) a x).toNat < S1024.size a)
theorem k0_idx178_inb : ∀ (i : grid0.Coords) (v385 : IVec S16 32) (k0_hw154 : k0_chk154 i v385), ∀ (k0_h4 : k0_cond4 i = 1#1), ∀ a x, ((![v385] : Fin 1 → IVec S16 32) a x).toNat < S1024.size a := fun i v385 k0_hw154 k0_h4 => k0_hw154 k0_h4

def k0_chk155 (i : grid0.Coords) (v393 : IVec S16 32) : Prop :=
  (∀ (k0_h4 : k0_cond4 i = 1#1), ∀ a x, ((![v393] : Fin 1 → IVec S16 32) a x).toNat < S1024.size a)
theorem k0_idx179_inb : ∀ (i : grid0.Coords) (v393 : IVec S16 32) (k0_hw155 : k0_chk155 i v393), ∀ (k0_h4 : k0_cond4 i = 1#1), ∀ a x, ((![v393] : Fin 1 → IVec S16 32) a x).toNat < S1024.size a := fun i v393 k0_hw155 k0_h4 => k0_hw155 k0_h4

def k0_chk156 (i : grid0.Coords) (v401 : IVec S16 32) : Prop :=
  (∀ (k0_h4 : k0_cond4 i = 1#1), ∀ a x, ((![v401] : Fin 1 → IVec S16 32) a x).toNat < S1024.size a)
theorem k0_idx180_inb : ∀ (i : grid0.Coords) (v401 : IVec S16 32) (k0_hw156 : k0_chk156 i v401), ∀ (k0_h4 : k0_cond4 i = 1#1), ∀ a x, ((![v401] : Fin 1 → IVec S16 32) a x).toNat < S1024.size a := fun i v401 k0_hw156 k0_h4 => k0_hw156 k0_h4

def k0_chk157 (i : grid0.Coords) (v409 : IVec S16 32) : Prop :=
  (∀ (k0_h4 : k0_cond4 i = 1#1), ∀ a x, ((![v409] : Fin 1 → IVec S16 32) a x).toNat < S1024.size a)
theorem k0_idx181_inb : ∀ (i : grid0.Coords) (v409 : IVec S16 32) (k0_hw157 : k0_chk157 i v409), ∀ (k0_h4 : k0_cond4 i = 1#1), ∀ a x, ((![v409] : Fin 1 → IVec S16 32) a x).toNat < S1024.size a := fun i v409 k0_hw157 k0_h4 => k0_hw157 k0_h4

def k0_chk158 (i : grid0.Coords) (v417 : IVec S16 32) : Prop :=
  (∀ (k0_h4 : k0_cond4 i = 1#1), ∀ a x, ((![v417] : Fin 1 → IVec S16 32) a x).toNat < S1024.size a)
theorem k0_idx182_inb : ∀ (i : grid0.Coords) (v417 : IVec S16 32) (k0_hw158 : k0_chk158 i v417), ∀ (k0_h4 : k0_cond4 i = 1#1), ∀ a x, ((![v417] : Fin 1 → IVec S16 32) a x).toNat < S1024.size a := fun i v417 k0_hw158 k0_h4 => k0_hw158 k0_h4

def k0_chk159 (i : grid0.Coords) (v425 : IVec S16 32) : Prop :=
  (∀ (k0_h4 : k0_cond4 i = 1#1), ∀ a x, ((![v425] : Fin 1 → IVec S16 32) a x).toNat < S1024.size a)
theorem k0_idx183_inb : ∀ (i : grid0.Coords) (v425 : IVec S16 32) (k0_hw159 : k0_chk159 i v425), ∀ (k0_h4 : k0_cond4 i = 1#1), ∀ a x, ((![v425] : Fin 1 → IVec S16 32) a x).toNat < S1024.size a := fun i v425 k0_hw159 k0_h4 => k0_hw159 k0_h4

def k0_chk160 (i : grid0.Coords) (v433 : IVec S16 32) : Prop :=
  (∀ (k0_h4 : k0_cond4 i = 1#1), ∀ a x, ((![v433] : Fin 1 → IVec S16 32) a x).toNat < S1024.size a)
theorem k0_idx184_inb : ∀ (i : grid0.Coords) (v433 : IVec S16 32) (k0_hw160 : k0_chk160 i v433), ∀ (k0_h4 : k0_cond4 i = 1#1), ∀ a x, ((![v433] : Fin 1 → IVec S16 32) a x).toNat < S1024.size a := fun i v433 k0_hw160 k0_h4 => k0_hw160 k0_h4

def k0_chk161 (i : grid0.Coords) (v441 : IVec S16 32) : Prop :=
  (∀ (k0_h4 : k0_cond4 i = 1#1), ∀ a x, ((![v441] : Fin 1 → IVec S16 32) a x).toNat < S1024.size a)
theorem k0_idx185_inb : ∀ (i : grid0.Coords) (v441 : IVec S16 32) (k0_hw161 : k0_chk161 i v441), ∀ (k0_h4 : k0_cond4 i = 1#1), ∀ a x, ((![v441] : Fin 1 → IVec S16 32) a x).toNat < S1024.size a := fun i v441 k0_hw161 k0_h4 => k0_hw161 k0_h4

def k0_chk162 (i : grid0.Coords) (v449 : IVec S16 32) : Prop :=
  (∀ (k0_h4 : k0_cond4 i = 1#1), ∀ a x, ((![v449] : Fin 1 → IVec S16 32) a x).toNat < S1024.size a)
theorem k0_idx186_inb : ∀ (i : grid0.Coords) (v449 : IVec S16 32) (k0_hw162 : k0_chk162 i v449), ∀ (k0_h4 : k0_cond4 i = 1#1), ∀ a x, ((![v449] : Fin 1 → IVec S16 32) a x).toNat < S1024.size a := fun i v449 k0_hw162 k0_h4 => k0_hw162 k0_h4

def k0_chk163 (i : grid0.Coords) (v457 : IVec S16 32) : Prop :=
  (∀ (k0_h4 : k0_cond4 i = 1#1), ∀ a x, ((![v457] : Fin 1 → IVec S16 32) a x).toNat < S1024.size a)
theorem k0_idx187_inb : ∀ (i : grid0.Coords) (v457 : IVec S16 32) (k0_hw163 : k0_chk163 i v457), ∀ (k0_h4 : k0_cond4 i = 1#1), ∀ a x, ((![v457] : Fin 1 → IVec S16 32) a x).toNat < S1024.size a := fun i v457 k0_hw163 k0_h4 => k0_hw163 k0_h4

def k0_chk164 (i : grid0.Coords) (v465 : IVec S16 32) : Prop :=
  (∀ (k0_h4 : k0_cond4 i = 1#1), ∀ a x, ((![v465] : Fin 1 → IVec S16 32) a x).toNat < S1024.size a)
theorem k0_idx188_inb : ∀ (i : grid0.Coords) (v465 : IVec S16 32) (k0_hw164 : k0_chk164 i v465), ∀ (k0_h4 : k0_cond4 i = 1#1), ∀ a x, ((![v465] : Fin 1 → IVec S16 32) a x).toNat < S1024.size a := fun i v465 k0_hw164 k0_h4 => k0_hw164 k0_h4

def k0_chk165 (i : grid0.Coords) (v473 : IVec S16 32) : Prop :=
  (∀ (k0_h4 : k0_cond4 i = 1#1), ∀ a x, ((![v473] : Fin 1 → IVec S16 32) a x).toNat < S1024.size a)
theorem k0_idx189_inb : ∀ (i : grid0.Coords) (v473 : IVec S16 32) (k0_hw165 : k0_chk165 i v473), ∀ (k0_h4 : k0_cond4 i = 1#1), ∀ a x, ((![v473] : Fin 1 → IVec S16 32) a x).toNat < S1024.size a := fun i v473 k0_hw165 k0_h4 => k0_hw165 k0_h4

def k0_chk166 (i : grid0.Coords) (v481 : IVec S16 32) : Prop :=
  (∀ (k0_h4 : k0_cond4 i = 1#1), ∀ a x, ((![v481] : Fin 1 → IVec S16 32) a x).toNat < S1024.size a)
theorem k0_idx190_inb : ∀ (i : grid0.Coords) (v481 : IVec S16 32) (k0_hw166 : k0_chk166 i v481), ∀ (k0_h4 : k0_cond4 i = 1#1), ∀ a x, ((![v481] : Fin 1 → IVec S16 32) a x).toNat < S1024.size a := fun i v481 k0_hw166 k0_h4 => k0_hw166 k0_h4

def k0_chk167 (i : grid0.Coords) (v489 : IVec S16 32) : Prop :=
  (∀ (k0_h4 : k0_cond4 i = 1#1), ∀ a x, ((![v489] : Fin 1 → IVec S16 32) a x).toNat < S1024.size a)
theorem k0_idx191_inb : ∀ (i : grid0.Coords) (v489 : IVec S16 32) (k0_hw167 : k0_chk167 i v489), ∀ (k0_h4 : k0_cond4 i = 1#1), ∀ a x, ((![v489] : Fin 1 → IVec S16 32) a x).toNat < S1024.size a := fun i v489 k0_hw167 k0_h4 => k0_hw167 k0_h4

def k0_chk168 (i : grid0.Coords) (v497 : IVec S16 32) : Prop :=
  (∀ (k0_h4 : k0_cond4 i = 1#1), ∀ a x, ((![v497] : Fin 1 → IVec S16 32) a x).toNat < S1024.size a)
theorem k0_idx192_inb : ∀ (i : grid0.Coords) (v497 : IVec S16 32) (k0_hw168 : k0_chk168 i v497), ∀ (k0_h4 : k0_cond4 i = 1#1), ∀ a x, ((![v497] : Fin 1 → IVec S16 32) a x).toNat < S1024.size a := fun i v497 k0_hw168 k0_h4 => k0_hw168 k0_h4

def k0_chk169 (i : grid0.Coords) (v505 : IVec S16 32) : Prop :=
  (∀ (k0_h4 : k0_cond4 i = 1#1), ∀ a x, ((![v505] : Fin 1 → IVec S16 32) a x).toNat < S1024.size a)
theorem k0_idx193_inb : ∀ (i : grid0.Coords) (v505 : IVec S16 32) (k0_hw169 : k0_chk169 i v505), ∀ (k0_h4 : k0_cond4 i = 1#1), ∀ a x, ((![v505] : Fin 1 → IVec S16 32) a x).toNat < S1024.size a := fun i v505 k0_hw169 k0_h4 => k0_hw169 k0_h4

def k0_chk170 (i : grid0.Coords) (v513 : IVec S16 32) : Prop :=
  (∀ (k0_h4 : k0_cond4 i = 1#1), ∀ a x, ((![v513] : Fin 1 → IVec S16 32) a x).toNat < S1024.size a)
theorem k0_idx194_inb : ∀ (i : grid0.Coords) (v513 : IVec S16 32) (k0_hw170 : k0_chk170 i v513), ∀ (k0_h4 : k0_cond4 i = 1#1), ∀ a x, ((![v513] : Fin 1 → IVec S16 32) a x).toNat < S1024.size a := fun i v513 k0_hw170 k0_h4 => k0_hw170 k0_h4

def k0_chk171 (i : grid0.Coords) (v521 : IVec S16 32) : Prop :=
  (∀ (k0_h4 : k0_cond4 i = 1#1), ∀ a x, ((![v521] : Fin 1 → IVec S16 32) a x).toNat < S1024.size a)
theorem k0_idx195_inb : ∀ (i : grid0.Coords) (v521 : IVec S16 32) (k0_hw171 : k0_chk171 i v521), ∀ (k0_h4 : k0_cond4 i = 1#1), ∀ a x, ((![v521] : Fin 1 → IVec S16 32) a x).toNat < S1024.size a := fun i v521 k0_hw171 k0_h4 => k0_hw171 k0_h4

def k0_chk172 (i : grid0.Coords) (v529 : IVec S16 32) : Prop :=
  (∀ (k0_h4 : k0_cond4 i = 1#1), ∀ a x, ((![v529] : Fin 1 → IVec S16 32) a x).toNat < S1024.size a)
theorem k0_idx196_inb : ∀ (i : grid0.Coords) (v529 : IVec S16 32) (k0_hw172 : k0_chk172 i v529), ∀ (k0_h4 : k0_cond4 i = 1#1), ∀ a x, ((![v529] : Fin 1 → IVec S16 32) a x).toNat < S1024.size a := fun i v529 k0_hw172 k0_h4 => k0_hw172 k0_h4

def k0_chk173 (i : grid0.Coords) (v537 : IVec S16 32) : Prop :=
  (∀ (k0_h4 : k0_cond4 i = 1#1), ∀ a x, ((![v537] : Fin 1 → IVec S16 32) a x).toNat < S1024.size a)
theorem k0_idx197_inb : ∀ (i : grid0.Coords) (v537 : IVec S16 32) (k0_hw173 : k0_chk173 i v537), ∀ (k0_h4 : k0_cond4 i = 1#1), ∀ a x, ((![v537] : Fin 1 → IVec S16 32) a x).toNat < S1024.size a := fun i v537 k0_hw173 k0_h4 => k0_hw173 k0_h4

def k0_chk174 (i : grid0.Coords) (v545 : IVec S16 32) : Prop :=
  (∀ (k0_h4 : k0_cond4 i = 1#1), ∀ a x, ((![v545] : Fin 1 → IVec S16 32) a x).toNat < S1024.size a)
theorem k0_idx198_inb : ∀ (i : grid0.Coords) (v545 : IVec S16 32) (k0_hw174 : k0_chk174 i v545), ∀ (k0_h4 : k0_cond4 i = 1#1), ∀ a x, ((![v545] : Fin 1 → IVec S16 32) a x).toNat < S1024.size a := fun i v545 k0_hw174 k0_h4 => k0_hw174 k0_h4

def k0_chk175 (i : grid0.Coords) (v553 : IVec S16 32) : Prop :=
  (∀ (k0_h4 : k0_cond4 i = 1#1), ∀ a x, ((![v553] : Fin 1 → IVec S16 32) a x).toNat < S1024.size a)
theorem k0_idx199_inb : ∀ (i : grid0.Coords) (v553 : IVec S16 32) (k0_hw175 : k0_chk175 i v553), ∀ (k0_h4 : k0_cond4 i = 1#1), ∀ a x, ((![v553] : Fin 1 → IVec S16 32) a x).toNat < S1024.size a := fun i v553 k0_hw175 k0_h4 => k0_hw175 k0_h4

def k0_chk176 (i : grid0.Coords) (v561 : IVec S16 32) : Prop :=
  (∀ (k0_h4 : k0_cond4 i = 1#1), ∀ a x, ((![v561] : Fin 1 → IVec S16 32) a x).toNat < S1024.size a)
theorem k0_idx200_inb : ∀ (i : grid0.Coords) (v561 : IVec S16 32) (k0_hw176 : k0_chk176 i v561), ∀ (k0_h4 : k0_cond4 i = 1#1), ∀ a x, ((![v561] : Fin 1 → IVec S16 32) a x).toNat < S1024.size a := fun i v561 k0_hw176 k0_h4 => k0_hw176 k0_h4

def k0_chk177 (i : grid0.Coords) (v569 : IVec S16 32) : Prop :=
  (∀ (k0_h4 : k0_cond4 i = 1#1), ∀ a x, ((![v569] : Fin 1 → IVec S16 32) a x).toNat < S1024.size a)
theorem k0_idx201_inb : ∀ (i : grid0.Coords) (v569 : IVec S16 32) (k0_hw177 : k0_chk177 i v569), ∀ (k0_h4 : k0_cond4 i = 1#1), ∀ a x, ((![v569] : Fin 1 → IVec S16 32) a x).toNat < S1024.size a := fun i v569 k0_hw177 k0_h4 => k0_hw177 k0_h4

def k0_chk178 (i : grid0.Coords) (v577 : IVec S16 32) : Prop :=
  (∀ (k0_h4 : k0_cond4 i = 1#1), ∀ a x, ((![v577] : Fin 1 → IVec S16 32) a x).toNat < S1024.size a)
theorem k0_idx202_inb : ∀ (i : grid0.Coords) (v577 : IVec S16 32) (k0_hw178 : k0_chk178 i v577), ∀ (k0_h4 : k0_cond4 i = 1#1), ∀ a x, ((![v577] : Fin 1 → IVec S16 32) a x).toNat < S1024.size a := fun i v577 k0_hw178 k0_h4 => k0_hw178 k0_h4

def k0_chk179 (i : grid0.Coords) (v585 : IVec S16 32) : Prop :=
  (∀ (k0_h4 : k0_cond4 i = 1#1), ∀ a x, ((![v585] : Fin 1 → IVec S16 32) a x).toNat < S1024.size a)
theorem k0_idx203_inb : ∀ (i : grid0.Coords) (v585 : IVec S16 32) (k0_hw179 : k0_chk179 i v585), ∀ (k0_h4 : k0_cond4 i = 1#1), ∀ a x, ((![v585] : Fin 1 → IVec S16 32) a x).toNat < S1024.size a := fun i v585 k0_hw179 k0_h4 => k0_hw179 k0_h4

def k0_chk180 (i : grid0.Coords) (v593 : IVec S16 32) : Prop :=
  (∀ (k0_h4 : k0_cond4 i = 1#1), ∀ a x, ((![v593] : Fin 1 → IVec S16 32) a x).toNat < S1024.size a)
theorem k0_idx204_inb : ∀ (i : grid0.Coords) (v593 : IVec S16 32) (k0_hw180 : k0_chk180 i v593), ∀ (k0_h4 : k0_cond4 i = 1#1), ∀ a x, ((![v593] : Fin 1 → IVec S16 32) a x).toNat < S1024.size a := fun i v593 k0_hw180 k0_h4 => k0_hw180 k0_h4

def k0_chk181 (i : grid0.Coords) (v601 : IVec S16 32) : Prop :=
  (∀ (k0_h4 : k0_cond4 i = 1#1), ∀ a x, ((![v601] : Fin 1 → IVec S16 32) a x).toNat < S1024.size a)
theorem k0_idx205_inb : ∀ (i : grid0.Coords) (v601 : IVec S16 32) (k0_hw181 : k0_chk181 i v601), ∀ (k0_h4 : k0_cond4 i = 1#1), ∀ a x, ((![v601] : Fin 1 → IVec S16 32) a x).toNat < S1024.size a := fun i v601 k0_hw181 k0_h4 => k0_hw181 k0_h4

def k0_chk182 (i : grid0.Coords) (v609 : IVec S16 32) : Prop :=
  (∀ (k0_h4 : k0_cond4 i = 1#1), ∀ a x, ((![v609] : Fin 1 → IVec S16 32) a x).toNat < S1024.size a)
theorem k0_idx206_inb : ∀ (i : grid0.Coords) (v609 : IVec S16 32) (k0_hw182 : k0_chk182 i v609), ∀ (k0_h4 : k0_cond4 i = 1#1), ∀ a x, ((![v609] : Fin 1 → IVec S16 32) a x).toNat < S1024.size a := fun i v609 k0_hw182 k0_h4 => k0_hw182 k0_h4

def k0_chk183 (i : grid0.Coords) (v617 : IVec S16 32) : Prop :=
  (∀ (k0_h4 : k0_cond4 i = 1#1), ∀ a x, ((![v617] : Fin 1 → IVec S16 32) a x).toNat < S1024.size a)
theorem k0_idx207_inb : ∀ (i : grid0.Coords) (v617 : IVec S16 32) (k0_hw183 : k0_chk183 i v617), ∀ (k0_h4 : k0_cond4 i = 1#1), ∀ a x, ((![v617] : Fin 1 → IVec S16 32) a x).toNat < S1024.size a := fun i v617 k0_hw183 k0_h4 => k0_hw183 k0_h4

def k0_chk184 (i : grid0.Coords) (v625 : IVec S16 32) : Prop :=
  (∀ (k0_h4 : k0_cond4 i = 1#1), ∀ a x, ((![v625] : Fin 1 → IVec S16 32) a x).toNat < S1024.size a)
theorem k0_idx208_inb : ∀ (i : grid0.Coords) (v625 : IVec S16 32) (k0_hw184 : k0_chk184 i v625), ∀ (k0_h4 : k0_cond4 i = 1#1), ∀ a x, ((![v625] : Fin 1 → IVec S16 32) a x).toNat < S1024.size a := fun i v625 k0_hw184 k0_h4 => k0_hw184 k0_h4

def k0_chk185 (i : grid0.Coords) (v633 : IVec S16 32) : Prop :=
  (∀ (k0_h4 : k0_cond4 i = 1#1), ∀ a x, ((![v633] : Fin 1 → IVec S16 32) a x).toNat < S1024.size a)
theorem k0_idx209_inb : ∀ (i : grid0.Coords) (v633 : IVec S16 32) (k0_hw185 : k0_chk185 i v633), ∀ (k0_h4 : k0_cond4 i = 1#1), ∀ a x, ((![v633] : Fin 1 → IVec S16 32) a x).toNat < S1024.size a := fun i v633 k0_hw185 k0_h4 => k0_hw185 k0_h4

def k0_chk186 (i : grid0.Coords) (v641 : IVec S16 32) : Prop :=
  (∀ (k0_h4 : k0_cond4 i = 1#1), ∀ a x, ((![v641] : Fin 1 → IVec S16 32) a x).toNat < S1024.size a)
theorem k0_idx210_inb : ∀ (i : grid0.Coords) (v641 : IVec S16 32) (k0_hw186 : k0_chk186 i v641), ∀ (k0_h4 : k0_cond4 i = 1#1), ∀ a x, ((![v641] : Fin 1 → IVec S16 32) a x).toNat < S1024.size a := fun i v641 k0_hw186 k0_h4 => k0_hw186 k0_h4

def k0_chk187 (i : grid0.Coords) (v649 : IVec S16 32) : Prop :=
  (∀ (k0_h4 : k0_cond4 i = 1#1), ∀ a x, ((![v649] : Fin 1 → IVec S16 32) a x).toNat < S1024.size a)
theorem k0_idx211_inb : ∀ (i : grid0.Coords) (v649 : IVec S16 32) (k0_hw187 : k0_chk187 i v649), ∀ (k0_h4 : k0_cond4 i = 1#1), ∀ a x, ((![v649] : Fin 1 → IVec S16 32) a x).toNat < S1024.size a := fun i v649 k0_hw187 k0_h4 => k0_hw187 k0_h4

def k0_chk188 (i : grid0.Coords) (v657 : IVec S16 32) : Prop :=
  (∀ (k0_h4 : k0_cond4 i = 1#1), ∀ a x, ((![v657] : Fin 1 → IVec S16 32) a x).toNat < S1024.size a)
theorem k0_idx212_inb : ∀ (i : grid0.Coords) (v657 : IVec S16 32) (k0_hw188 : k0_chk188 i v657), ∀ (k0_h4 : k0_cond4 i = 1#1), ∀ a x, ((![v657] : Fin 1 → IVec S16 32) a x).toNat < S1024.size a := fun i v657 k0_hw188 k0_h4 => k0_hw188 k0_h4

def k0_chk189 (i : grid0.Coords) (v665 : IVec S16 32) : Prop :=
  (∀ (k0_h4 : k0_cond4 i = 1#1), ∀ a x, ((![v665] : Fin 1 → IVec S16 32) a x).toNat < S1024.size a)
theorem k0_idx213_inb : ∀ (i : grid0.Coords) (v665 : IVec S16 32) (k0_hw189 : k0_chk189 i v665), ∀ (k0_h4 : k0_cond4 i = 1#1), ∀ a x, ((![v665] : Fin 1 → IVec S16 32) a x).toNat < S1024.size a := fun i v665 k0_hw189 k0_h4 => k0_hw189 k0_h4

def k0_chk190 (i : grid0.Coords) (v673 : IVec S16 32) : Prop :=
  (∀ (k0_h4 : k0_cond4 i = 1#1), ∀ a x, ((![v673] : Fin 1 → IVec S16 32) a x).toNat < S1024.size a)
theorem k0_idx214_inb : ∀ (i : grid0.Coords) (v673 : IVec S16 32) (k0_hw190 : k0_chk190 i v673), ∀ (k0_h4 : k0_cond4 i = 1#1), ∀ a x, ((![v673] : Fin 1 → IVec S16 32) a x).toNat < S1024.size a := fun i v673 k0_hw190 k0_h4 => k0_hw190 k0_h4

def k0_chk191 (i : grid0.Coords) (v681 : IVec S16 32) : Prop :=
  (∀ (k0_h4 : k0_cond4 i = 1#1), ∀ a x, ((![v681] : Fin 1 → IVec S16 32) a x).toNat < S1024.size a)
theorem k0_idx215_inb : ∀ (i : grid0.Coords) (v681 : IVec S16 32) (k0_hw191 : k0_chk191 i v681), ∀ (k0_h4 : k0_cond4 i = 1#1), ∀ a x, ((![v681] : Fin 1 → IVec S16 32) a x).toNat < S1024.size a := fun i v681 k0_hw191 k0_h4 => k0_hw191 k0_h4

def k0_chk192 (i : grid0.Coords) (v689 : IVec S16 32) : Prop :=
  (∀ (k0_h4 : k0_cond4 i = 1#1), ∀ a x, ((![v689] : Fin 1 → IVec S16 32) a x).toNat < S1024.size a)
theorem k0_idx216_inb : ∀ (i : grid0.Coords) (v689 : IVec S16 32) (k0_hw192 : k0_chk192 i v689), ∀ (k0_h4 : k0_cond4 i = 1#1), ∀ a x, ((![v689] : Fin 1 → IVec S16 32) a x).toNat < S1024.size a := fun i v689 k0_hw192 k0_h4 => k0_hw192 k0_h4

def k0_chk193 (i : grid0.Coords) (v697 : IVec S16 32) : Prop :=
  (∀ (k0_h4 : k0_cond4 i = 1#1), ∀ a x, ((![v697] : Fin 1 → IVec S16 32) a x).toNat < S1024.size a)
theorem k0_idx217_inb : ∀ (i : grid0.Coords) (v697 : IVec S16 32) (k0_hw193 : k0_chk193 i v697), ∀ (k0_h4 : k0_cond4 i = 1#1), ∀ a x, ((![v697] : Fin 1 → IVec S16 32) a x).toNat < S1024.size a := fun i v697 k0_hw193 k0_h4 => k0_hw193 k0_h4

def k0_chk194 (i : grid0.Coords) (v705 : IVec S16 32) : Prop :=
  (∀ (k0_h4 : k0_cond4 i = 1#1), ∀ a x, ((![v705] : Fin 1 → IVec S16 32) a x).toNat < S1024.size a)
theorem k0_idx218_inb : ∀ (i : grid0.Coords) (v705 : IVec S16 32) (k0_hw194 : k0_chk194 i v705), ∀ (k0_h4 : k0_cond4 i = 1#1), ∀ a x, ((![v705] : Fin 1 → IVec S16 32) a x).toNat < S1024.size a := fun i v705 k0_hw194 k0_h4 => k0_hw194 k0_h4

def k0_chk195 (i : grid0.Coords) (v713 : IVec S16 32) : Prop :=
  (∀ (k0_h4 : k0_cond4 i = 1#1), ∀ a x, ((![v713] : Fin 1 → IVec S16 32) a x).toNat < S1024.size a)
theorem k0_idx219_inb : ∀ (i : grid0.Coords) (v713 : IVec S16 32) (k0_hw195 : k0_chk195 i v713), ∀ (k0_h4 : k0_cond4 i = 1#1), ∀ a x, ((![v713] : Fin 1 → IVec S16 32) a x).toNat < S1024.size a := fun i v713 k0_hw195 k0_h4 => k0_hw195 k0_h4

def k0_chk196 (i : grid0.Coords) (v721 : IVec S16 32) : Prop :=
  (∀ (k0_h4 : k0_cond4 i = 1#1), ∀ a x, ((![v721] : Fin 1 → IVec S16 32) a x).toNat < S1024.size a)
theorem k0_idx220_inb : ∀ (i : grid0.Coords) (v721 : IVec S16 32) (k0_hw196 : k0_chk196 i v721), ∀ (k0_h4 : k0_cond4 i = 1#1), ∀ a x, ((![v721] : Fin 1 → IVec S16 32) a x).toNat < S1024.size a := fun i v721 k0_hw196 k0_h4 => k0_hw196 k0_h4

def k0_chk197 (i : grid0.Coords) (v729 : IVec S16 32) : Prop :=
  (∀ (k0_h4 : k0_cond4 i = 1#1), ∀ a x, ((![v729] : Fin 1 → IVec S16 32) a x).toNat < S1024.size a)
theorem k0_idx221_inb : ∀ (i : grid0.Coords) (v729 : IVec S16 32) (k0_hw197 : k0_chk197 i v729), ∀ (k0_h4 : k0_cond4 i = 1#1), ∀ a x, ((![v729] : Fin 1 → IVec S16 32) a x).toNat < S1024.size a := fun i v729 k0_hw197 k0_h4 => k0_hw197 k0_h4

def k0_chk198 (i : grid0.Coords) (v737 : IVec S16 32) : Prop :=
  (∀ (k0_h4 : k0_cond4 i = 1#1), ∀ a x, ((![v737] : Fin 1 → IVec S16 32) a x).toNat < S1024.size a)
theorem k0_idx222_inb : ∀ (i : grid0.Coords) (v737 : IVec S16 32) (k0_hw198 : k0_chk198 i v737), ∀ (k0_h4 : k0_cond4 i = 1#1), ∀ a x, ((![v737] : Fin 1 → IVec S16 32) a x).toNat < S1024.size a := fun i v737 k0_hw198 k0_h4 => k0_hw198 k0_h4

def k0_chk199 (i : grid0.Coords) (v745 : IVec S16 32) : Prop :=
  (∀ (k0_h4 : k0_cond4 i = 1#1), ∀ a x, ((![v745] : Fin 1 → IVec S16 32) a x).toNat < S1024.size a)
theorem k0_idx223_inb : ∀ (i : grid0.Coords) (v745 : IVec S16 32) (k0_hw199 : k0_chk199 i v745), ∀ (k0_h4 : k0_cond4 i = 1#1), ∀ a x, ((![v745] : Fin 1 → IVec S16 32) a x).toNat < S1024.size a := fun i v745 k0_hw199 k0_h4 => k0_hw199 k0_h4

def k0_chk200 (i : grid0.Coords) (v753 : IVec S16 32) : Prop :=
  (∀ (k0_h4 : k0_cond4 i = 1#1), ∀ a x, ((![v753] : Fin 1 → IVec S16 32) a x).toNat < S1024.size a)
theorem k0_idx224_inb : ∀ (i : grid0.Coords) (v753 : IVec S16 32) (k0_hw200 : k0_chk200 i v753), ∀ (k0_h4 : k0_cond4 i = 1#1), ∀ a x, ((![v753] : Fin 1 → IVec S16 32) a x).toNat < S1024.size a := fun i v753 k0_hw200 k0_h4 => k0_hw200 k0_h4

def k0_chk201 (i : grid0.Coords) (v761 : IVec S16 32) : Prop :=
  (∀ (k0_h4 : k0_cond4 i = 1#1), ∀ a x, ((![v761] : Fin 1 → IVec S16 32) a x).toNat < S1024.size a)
theorem k0_idx225_inb : ∀ (i : grid0.Coords) (v761 : IVec S16 32) (k0_hw201 : k0_chk201 i v761), ∀ (k0_h4 : k0_cond4 i = 1#1), ∀ a x, ((![v761] : Fin 1 → IVec S16 32) a x).toNat < S1024.size a := fun i v761 k0_hw201 k0_h4 => k0_hw201 k0_h4

def k0_chk202 (i : grid0.Coords) (v769 : IVec S16 32) : Prop :=
  (∀ (k0_h4 : k0_cond4 i = 1#1), ∀ a x, ((![v769] : Fin 1 → IVec S16 32) a x).toNat < S1024.size a)
theorem k0_idx226_inb : ∀ (i : grid0.Coords) (v769 : IVec S16 32) (k0_hw202 : k0_chk202 i v769), ∀ (k0_h4 : k0_cond4 i = 1#1), ∀ a x, ((![v769] : Fin 1 → IVec S16 32) a x).toNat < S1024.size a := fun i v769 k0_hw202 k0_h4 => k0_hw202 k0_h4

def k0_chk203 (i : grid0.Coords) (v777 : IVec S16 32) : Prop :=
  (∀ (k0_h4 : k0_cond4 i = 1#1), ∀ a x, ((![v777] : Fin 1 → IVec S16 32) a x).toNat < S1024.size a)
theorem k0_idx227_inb : ∀ (i : grid0.Coords) (v777 : IVec S16 32) (k0_hw203 : k0_chk203 i v777), ∀ (k0_h4 : k0_cond4 i = 1#1), ∀ a x, ((![v777] : Fin 1 → IVec S16 32) a x).toNat < S1024.size a := fun i v777 k0_hw203 k0_h4 => k0_hw203 k0_h4
@[reducible] def k0_t10_loop : Scf.Loop 32 :=
  let c0_i32_355 : BitVec 32 := 0#32
  let c32_i32_356 : BitVec 32 := 32#32
  let v1074 : BitVec 32 := Scalar.addi c0_i32_355 c32_i32_356
  let c1_i32_357 : BitVec 32 := 1#32
  ⟨c0_i32_355, v1074, c1_i32_357⟩

def k0_chk204 (i : grid0.Coords) (v1093 : IVec S16 32) : Prop :=
  (∀ (k0_h4 : k0_cond4 i = 1#1), ∀ a x, ((![v1093] : Fin 1 → IVec S16 32) a x).toNat < S1024.size a)
theorem k0_idx228_inb : ∀ (i : grid0.Coords) (v1093 : IVec S16 32) (k0_hw204 : k0_chk204 i v1093), ∀ (k0_h4 : k0_cond4 i = 1#1), ∀ a x, ((![v1093] : Fin 1 → IVec S16 32) a x).toNat < S1024.size a := fun i v1093 k0_hw204 k0_h4 => k0_hw204 k0_h4

def k0_chk205 (i : grid0.Coords) (v1107 : IVec S16 32) : Prop :=
  (∀ (k0_h4 : k0_cond4 i = 1#1), ∀ a x, ((![v1107] : Fin 1 → IVec S16 32) a x).toNat < S1024.size a)
theorem k0_idx229_inb : ∀ (i : grid0.Coords) (v1107 : IVec S16 32) (k0_hw205 : k0_chk205 i v1107), ∀ (k0_h4 : k0_cond4 i = 1#1), ∀ a x, ((![v1107] : Fin 1 → IVec S16 32) a x).toNat < S1024.size a := fun i v1107 k0_hw205 k0_h4 => k0_hw205 k0_h4

def k0_chk206 (i : grid0.Coords) (v1121 : IVec S16 32) : Prop :=
  (∀ (k0_h4 : k0_cond4 i = 1#1), ∀ a x, ((![v1121] : Fin 1 → IVec S16 32) a x).toNat < S1024.size a)
theorem k0_idx230_inb : ∀ (i : grid0.Coords) (v1121 : IVec S16 32) (k0_hw206 : k0_chk206 i v1121), ∀ (k0_h4 : k0_cond4 i = 1#1), ∀ a x, ((![v1121] : Fin 1 → IVec S16 32) a x).toNat < S1024.size a := fun i v1121 k0_hw206 k0_h4 => k0_hw206 k0_h4

def k0_chk207 (i : grid0.Coords) (v1135 : IVec S16 32) : Prop :=
  (∀ (k0_h4 : k0_cond4 i = 1#1), ∀ a x, ((![v1135] : Fin 1 → IVec S16 32) a x).toNat < S1024.size a)
theorem k0_idx231_inb : ∀ (i : grid0.Coords) (v1135 : IVec S16 32) (k0_hw207 : k0_chk207 i v1135), ∀ (k0_h4 : k0_cond4 i = 1#1), ∀ a x, ((![v1135] : Fin 1 → IVec S16 32) a x).toNat < S1024.size a := fun i v1135 k0_hw207 k0_h4 => k0_hw207 k0_h4

def k0_chk208 (i : grid0.Coords) (v1149 : IVec S16 32) : Prop :=
  (∀ (k0_h4 : k0_cond4 i = 1#1), ∀ a x, ((![v1149] : Fin 1 → IVec S16 32) a x).toNat < S1024.size a)
theorem k0_idx232_inb : ∀ (i : grid0.Coords) (v1149 : IVec S16 32) (k0_hw208 : k0_chk208 i v1149), ∀ (k0_h4 : k0_cond4 i = 1#1), ∀ a x, ((![v1149] : Fin 1 → IVec S16 32) a x).toNat < S1024.size a := fun i v1149 k0_hw208 k0_h4 => k0_hw208 k0_h4

def k0_chk209 (i : grid0.Coords) (v1163 : IVec S16 32) : Prop :=
  (∀ (k0_h4 : k0_cond4 i = 1#1), ∀ a x, ((![v1163] : Fin 1 → IVec S16 32) a x).toNat < S1024.size a)
theorem k0_idx233_inb : ∀ (i : grid0.Coords) (v1163 : IVec S16 32) (k0_hw209 : k0_chk209 i v1163), ∀ (k0_h4 : k0_cond4 i = 1#1), ∀ a x, ((![v1163] : Fin 1 → IVec S16 32) a x).toNat < S1024.size a := fun i v1163 k0_hw209 k0_h4 => k0_hw209 k0_h4

def k0_chk210 (i : grid0.Coords) (v1177 : IVec S16 32) : Prop :=
  (∀ (k0_h4 : k0_cond4 i = 1#1), ∀ a x, ((![v1177] : Fin 1 → IVec S16 32) a x).toNat < S1024.size a)
theorem k0_idx234_inb : ∀ (i : grid0.Coords) (v1177 : IVec S16 32) (k0_hw210 : k0_chk210 i v1177), ∀ (k0_h4 : k0_cond4 i = 1#1), ∀ a x, ((![v1177] : Fin 1 → IVec S16 32) a x).toNat < S1024.size a := fun i v1177 k0_hw210 k0_h4 => k0_hw210 k0_h4

def k0_chk211 (i : grid0.Coords) (v1191 : IVec S16 32) : Prop :=
  (∀ (k0_h4 : k0_cond4 i = 1#1), ∀ a x, ((![v1191] : Fin 1 → IVec S16 32) a x).toNat < S1024.size a)
theorem k0_idx235_inb : ∀ (i : grid0.Coords) (v1191 : IVec S16 32) (k0_hw211 : k0_chk211 i v1191), ∀ (k0_h4 : k0_cond4 i = 1#1), ∀ a x, ((![v1191] : Fin 1 → IVec S16 32) a x).toNat < S1024.size a := fun i v1191 k0_hw211 k0_h4 => k0_hw211 k0_h4

def k0_chk212 (i : grid0.Coords) (v1205 : IVec S16 32) : Prop :=
  (∀ (k0_h4 : k0_cond4 i = 1#1), ∀ a x, ((![v1205] : Fin 1 → IVec S16 32) a x).toNat < S1024.size a)
theorem k0_idx236_inb : ∀ (i : grid0.Coords) (v1205 : IVec S16 32) (k0_hw212 : k0_chk212 i v1205), ∀ (k0_h4 : k0_cond4 i = 1#1), ∀ a x, ((![v1205] : Fin 1 → IVec S16 32) a x).toNat < S1024.size a := fun i v1205 k0_hw212 k0_h4 => k0_hw212 k0_h4

def k0_chk213 (i : grid0.Coords) (v1219 : IVec S16 32) : Prop :=
  (∀ (k0_h4 : k0_cond4 i = 1#1), ∀ a x, ((![v1219] : Fin 1 → IVec S16 32) a x).toNat < S1024.size a)
theorem k0_idx237_inb : ∀ (i : grid0.Coords) (v1219 : IVec S16 32) (k0_hw213 : k0_chk213 i v1219), ∀ (k0_h4 : k0_cond4 i = 1#1), ∀ a x, ((![v1219] : Fin 1 → IVec S16 32) a x).toNat < S1024.size a := fun i v1219 k0_hw213 k0_h4 => k0_hw213 k0_h4

def k0_chk214 (i : grid0.Coords) (v1233 : IVec S16 32) : Prop :=
  (∀ (k0_h4 : k0_cond4 i = 1#1), ∀ a x, ((![v1233] : Fin 1 → IVec S16 32) a x).toNat < S1024.size a)
theorem k0_idx238_inb : ∀ (i : grid0.Coords) (v1233 : IVec S16 32) (k0_hw214 : k0_chk214 i v1233), ∀ (k0_h4 : k0_cond4 i = 1#1), ∀ a x, ((![v1233] : Fin 1 → IVec S16 32) a x).toNat < S1024.size a := fun i v1233 k0_hw214 k0_h4 => k0_hw214 k0_h4

def k0_chk215 (i : grid0.Coords) (v1247 : IVec S16 32) : Prop :=
  (∀ (k0_h4 : k0_cond4 i = 1#1), ∀ a x, ((![v1247] : Fin 1 → IVec S16 32) a x).toNat < S1024.size a)
theorem k0_idx239_inb : ∀ (i : grid0.Coords) (v1247 : IVec S16 32) (k0_hw215 : k0_chk215 i v1247), ∀ (k0_h4 : k0_cond4 i = 1#1), ∀ a x, ((![v1247] : Fin 1 → IVec S16 32) a x).toNat < S1024.size a := fun i v1247 k0_hw215 k0_h4 => k0_hw215 k0_h4

def k0_chk216 (i : grid0.Coords) (v1261 : IVec S16 32) : Prop :=
  (∀ (k0_h4 : k0_cond4 i = 1#1), ∀ a x, ((![v1261] : Fin 1 → IVec S16 32) a x).toNat < S1024.size a)
theorem k0_idx240_inb : ∀ (i : grid0.Coords) (v1261 : IVec S16 32) (k0_hw216 : k0_chk216 i v1261), ∀ (k0_h4 : k0_cond4 i = 1#1), ∀ a x, ((![v1261] : Fin 1 → IVec S16 32) a x).toNat < S1024.size a := fun i v1261 k0_hw216 k0_h4 => k0_hw216 k0_h4

def k0_chk217 (i : grid0.Coords) (v1275 : IVec S16 32) : Prop :=
  (∀ (k0_h4 : k0_cond4 i = 1#1), ∀ a x, ((![v1275] : Fin 1 → IVec S16 32) a x).toNat < S1024.size a)
theorem k0_idx241_inb : ∀ (i : grid0.Coords) (v1275 : IVec S16 32) (k0_hw217 : k0_chk217 i v1275), ∀ (k0_h4 : k0_cond4 i = 1#1), ∀ a x, ((![v1275] : Fin 1 → IVec S16 32) a x).toNat < S1024.size a := fun i v1275 k0_hw217 k0_h4 => k0_hw217 k0_h4

def k0_chk218 (i : grid0.Coords) (v1289 : IVec S16 32) : Prop :=
  (∀ (k0_h4 : k0_cond4 i = 1#1), ∀ a x, ((![v1289] : Fin 1 → IVec S16 32) a x).toNat < S1024.size a)
theorem k0_idx242_inb : ∀ (i : grid0.Coords) (v1289 : IVec S16 32) (k0_hw218 : k0_chk218 i v1289), ∀ (k0_h4 : k0_cond4 i = 1#1), ∀ a x, ((![v1289] : Fin 1 → IVec S16 32) a x).toNat < S1024.size a := fun i v1289 k0_hw218 k0_h4 => k0_hw218 k0_h4

def k0_chk219 (i : grid0.Coords) (v1303 : IVec S16 32) : Prop :=
  (∀ (k0_h4 : k0_cond4 i = 1#1), ∀ a x, ((![v1303] : Fin 1 → IVec S16 32) a x).toNat < S1024.size a)
theorem k0_idx243_inb : ∀ (i : grid0.Coords) (v1303 : IVec S16 32) (k0_hw219 : k0_chk219 i v1303), ∀ (k0_h4 : k0_cond4 i = 1#1), ∀ a x, ((![v1303] : Fin 1 → IVec S16 32) a x).toNat < S1024.size a := fun i v1303 k0_hw219 k0_h4 => k0_hw219 k0_h4

def k0_chk220 (i : grid0.Coords) (v1317 : IVec S16 32) : Prop :=
  (∀ (k0_h4 : k0_cond4 i = 1#1), ∀ a x, ((![v1317] : Fin 1 → IVec S16 32) a x).toNat < S1024.size a)
theorem k0_idx244_inb : ∀ (i : grid0.Coords) (v1317 : IVec S16 32) (k0_hw220 : k0_chk220 i v1317), ∀ (k0_h4 : k0_cond4 i = 1#1), ∀ a x, ((![v1317] : Fin 1 → IVec S16 32) a x).toNat < S1024.size a := fun i v1317 k0_hw220 k0_h4 => k0_hw220 k0_h4

def k0_chk221 (i : grid0.Coords) (v1331 : IVec S16 32) : Prop :=
  (∀ (k0_h4 : k0_cond4 i = 1#1), ∀ a x, ((![v1331] : Fin 1 → IVec S16 32) a x).toNat < S1024.size a)
theorem k0_idx245_inb : ∀ (i : grid0.Coords) (v1331 : IVec S16 32) (k0_hw221 : k0_chk221 i v1331), ∀ (k0_h4 : k0_cond4 i = 1#1), ∀ a x, ((![v1331] : Fin 1 → IVec S16 32) a x).toNat < S1024.size a := fun i v1331 k0_hw221 k0_h4 => k0_hw221 k0_h4

def k0_chk222 (i : grid0.Coords) (v1345 : IVec S16 32) : Prop :=
  (∀ (k0_h4 : k0_cond4 i = 1#1), ∀ a x, ((![v1345] : Fin 1 → IVec S16 32) a x).toNat < S1024.size a)
theorem k0_idx246_inb : ∀ (i : grid0.Coords) (v1345 : IVec S16 32) (k0_hw222 : k0_chk222 i v1345), ∀ (k0_h4 : k0_cond4 i = 1#1), ∀ a x, ((![v1345] : Fin 1 → IVec S16 32) a x).toNat < S1024.size a := fun i v1345 k0_hw222 k0_h4 => k0_hw222 k0_h4

def k0_chk223 (i : grid0.Coords) (v1359 : IVec S16 32) : Prop :=
  (∀ (k0_h4 : k0_cond4 i = 1#1), ∀ a x, ((![v1359] : Fin 1 → IVec S16 32) a x).toNat < S1024.size a)
theorem k0_idx247_inb : ∀ (i : grid0.Coords) (v1359 : IVec S16 32) (k0_hw223 : k0_chk223 i v1359), ∀ (k0_h4 : k0_cond4 i = 1#1), ∀ a x, ((![v1359] : Fin 1 → IVec S16 32) a x).toNat < S1024.size a := fun i v1359 k0_hw223 k0_h4 => k0_hw223 k0_h4

def k0_chk224 (i : grid0.Coords) (v1373 : IVec S16 32) : Prop :=
  (∀ (k0_h4 : k0_cond4 i = 1#1), ∀ a x, ((![v1373] : Fin 1 → IVec S16 32) a x).toNat < S1024.size a)
theorem k0_idx248_inb : ∀ (i : grid0.Coords) (v1373 : IVec S16 32) (k0_hw224 : k0_chk224 i v1373), ∀ (k0_h4 : k0_cond4 i = 1#1), ∀ a x, ((![v1373] : Fin 1 → IVec S16 32) a x).toNat < S1024.size a := fun i v1373 k0_hw224 k0_h4 => k0_hw224 k0_h4

def k0_chk225 (i : grid0.Coords) (v1387 : IVec S16 32) : Prop :=
  (∀ (k0_h4 : k0_cond4 i = 1#1), ∀ a x, ((![v1387] : Fin 1 → IVec S16 32) a x).toNat < S1024.size a)
theorem k0_idx249_inb : ∀ (i : grid0.Coords) (v1387 : IVec S16 32) (k0_hw225 : k0_chk225 i v1387), ∀ (k0_h4 : k0_cond4 i = 1#1), ∀ a x, ((![v1387] : Fin 1 → IVec S16 32) a x).toNat < S1024.size a := fun i v1387 k0_hw225 k0_h4 => k0_hw225 k0_h4

def k0_chk226 (i : grid0.Coords) (v1401 : IVec S16 32) : Prop :=
  (∀ (k0_h4 : k0_cond4 i = 1#1), ∀ a x, ((![v1401] : Fin 1 → IVec S16 32) a x).toNat < S1024.size a)
theorem k0_idx250_inb : ∀ (i : grid0.Coords) (v1401 : IVec S16 32) (k0_hw226 : k0_chk226 i v1401), ∀ (k0_h4 : k0_cond4 i = 1#1), ∀ a x, ((![v1401] : Fin 1 → IVec S16 32) a x).toNat < S1024.size a := fun i v1401 k0_hw226 k0_h4 => k0_hw226 k0_h4

def k0_chk227 (i : grid0.Coords) (v1415 : IVec S16 32) : Prop :=
  (∀ (k0_h4 : k0_cond4 i = 1#1), ∀ a x, ((![v1415] : Fin 1 → IVec S16 32) a x).toNat < S1024.size a)
theorem k0_idx251_inb : ∀ (i : grid0.Coords) (v1415 : IVec S16 32) (k0_hw227 : k0_chk227 i v1415), ∀ (k0_h4 : k0_cond4 i = 1#1), ∀ a x, ((![v1415] : Fin 1 → IVec S16 32) a x).toNat < S1024.size a := fun i v1415 k0_hw227 k0_h4 => k0_hw227 k0_h4

def k0_chk228 (i : grid0.Coords) (v1429 : IVec S16 32) : Prop :=
  (∀ (k0_h4 : k0_cond4 i = 1#1), ∀ a x, ((![v1429] : Fin 1 → IVec S16 32) a x).toNat < S1024.size a)
theorem k0_idx252_inb : ∀ (i : grid0.Coords) (v1429 : IVec S16 32) (k0_hw228 : k0_chk228 i v1429), ∀ (k0_h4 : k0_cond4 i = 1#1), ∀ a x, ((![v1429] : Fin 1 → IVec S16 32) a x).toNat < S1024.size a := fun i v1429 k0_hw228 k0_h4 => k0_hw228 k0_h4

def k0_chk229 (i : grid0.Coords) (v1443 : IVec S16 32) : Prop :=
  (∀ (k0_h4 : k0_cond4 i = 1#1), ∀ a x, ((![v1443] : Fin 1 → IVec S16 32) a x).toNat < S1024.size a)
theorem k0_idx253_inb : ∀ (i : grid0.Coords) (v1443 : IVec S16 32) (k0_hw229 : k0_chk229 i v1443), ∀ (k0_h4 : k0_cond4 i = 1#1), ∀ a x, ((![v1443] : Fin 1 → IVec S16 32) a x).toNat < S1024.size a := fun i v1443 k0_hw229 k0_h4 => k0_hw229 k0_h4

def k0_chk230 (i : grid0.Coords) (v1457 : IVec S16 32) : Prop :=
  (∀ (k0_h4 : k0_cond4 i = 1#1), ∀ a x, ((![v1457] : Fin 1 → IVec S16 32) a x).toNat < S1024.size a)
theorem k0_idx254_inb : ∀ (i : grid0.Coords) (v1457 : IVec S16 32) (k0_hw230 : k0_chk230 i v1457), ∀ (k0_h4 : k0_cond4 i = 1#1), ∀ a x, ((![v1457] : Fin 1 → IVec S16 32) a x).toNat < S1024.size a := fun i v1457 k0_hw230 k0_h4 => k0_hw230 k0_h4

def k0_chk231 (i : grid0.Coords) (v1471 : IVec S16 32) : Prop :=
  (∀ (k0_h4 : k0_cond4 i = 1#1), ∀ a x, ((![v1471] : Fin 1 → IVec S16 32) a x).toNat < S1024.size a)
theorem k0_idx255_inb : ∀ (i : grid0.Coords) (v1471 : IVec S16 32) (k0_hw231 : k0_chk231 i v1471), ∀ (k0_h4 : k0_cond4 i = 1#1), ∀ a x, ((![v1471] : Fin 1 → IVec S16 32) a x).toNat < S1024.size a := fun i v1471 k0_hw231 k0_h4 => k0_hw231 k0_h4

def k0_chk232 (i : grid0.Coords) (v1485 : IVec S16 32) : Prop :=
  (∀ (k0_h4 : k0_cond4 i = 1#1), ∀ a x, ((![v1485] : Fin 1 → IVec S16 32) a x).toNat < S1024.size a)
theorem k0_idx256_inb : ∀ (i : grid0.Coords) (v1485 : IVec S16 32) (k0_hw232 : k0_chk232 i v1485), ∀ (k0_h4 : k0_cond4 i = 1#1), ∀ a x, ((![v1485] : Fin 1 → IVec S16 32) a x).toNat < S1024.size a := fun i v1485 k0_hw232 k0_h4 => k0_hw232 k0_h4

def k0_chk233 (i : grid0.Coords) (v1499 : IVec S16 32) : Prop :=
  (∀ (k0_h4 : k0_cond4 i = 1#1), ∀ a x, ((![v1499] : Fin 1 → IVec S16 32) a x).toNat < S1024.size a)
theorem k0_idx257_inb : ∀ (i : grid0.Coords) (v1499 : IVec S16 32) (k0_hw233 : k0_chk233 i v1499), ∀ (k0_h4 : k0_cond4 i = 1#1), ∀ a x, ((![v1499] : Fin 1 → IVec S16 32) a x).toNat < S1024.size a := fun i v1499 k0_hw233 k0_h4 => k0_hw233 k0_h4

def k0_chk234 (i : grid0.Coords) (v1513 : IVec S16 32) : Prop :=
  (∀ (k0_h4 : k0_cond4 i = 1#1), ∀ a x, ((![v1513] : Fin 1 → IVec S16 32) a x).toNat < S1024.size a)
theorem k0_idx258_inb : ∀ (i : grid0.Coords) (v1513 : IVec S16 32) (k0_hw234 : k0_chk234 i v1513), ∀ (k0_h4 : k0_cond4 i = 1#1), ∀ a x, ((![v1513] : Fin 1 → IVec S16 32) a x).toNat < S1024.size a := fun i v1513 k0_hw234 k0_h4 => k0_hw234 k0_h4

def k0_chk235 (i : grid0.Coords) (v1527 : IVec S16 32) : Prop :=
  (∀ (k0_h4 : k0_cond4 i = 1#1), ∀ a x, ((![v1527] : Fin 1 → IVec S16 32) a x).toNat < S1024.size a)
theorem k0_idx259_inb : ∀ (i : grid0.Coords) (v1527 : IVec S16 32) (k0_hw235 : k0_chk235 i v1527), ∀ (k0_h4 : k0_cond4 i = 1#1), ∀ a x, ((![v1527] : Fin 1 → IVec S16 32) a x).toNat < S1024.size a := fun i v1527 k0_hw235 k0_h4 => k0_hw235 k0_h4
def k0_off111 (i : grid0.Coords) : Fin 2 → Nat :=
  let arg0 : BitVec 32 := BitVec.ofNat 32 (i 0).val
  let c0_i32_366_r6 : BitVec 32 := 0#32
  ![arg0.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_pairs" => some ((1 / 992 : ℝ) : EReal)
  | _ => none
-- ==== ReferenceIdeal.lean ====
abbrev S2x32x512x512 : Shape := ⟨4, ![2, 32, 512, 512]⟩
abbrev S2x1x512x512 : Shape := ⟨4, ![2, 1, 512, 512]⟩
abbrev S1x32x512x512 : Shape := ⟨4, ![1, 32, 512, 512]⟩
abbrev S32x512x512 : Shape := ⟨3, ![32, 512, 512]⟩
abbrev S1x1x512x512 : Shape := ⟨4, ![1, 1, 512, 512]⟩
abbrev S1x512x512 : Shape := ⟨3, ![1, 512, 512]⟩
abbrev S32x262144 : Shape := ⟨2, ![32, 262144]⟩
abbrev S262144x32 : Shape := ⟨2, ![262144, 32]⟩
abbrev S262144 : Shape := ⟨1, ![262144]⟩
abbrev S_ : Shape := ⟨0, ![]⟩
abbrev S32 : Shape := ⟨1, ![32]⟩
abbrev S262144x1 : Shape := ⟨2, ![262144, 1]⟩
abbrev S32x32 : Shape := ⟨2, ![32, 32]⟩
abbrev S32x1 : Shape := ⟨2, ![32, 1]⟩
abbrev S32x1x32 : Shape := ⟨3, ![32, 1, 32]⟩
abbrev S1x32x32 : Shape := ⟨3, ![1, 32, 32]⟩
abbrev S32x32x32 : Shape := ⟨3, ![32, 32, 32]⟩

abbrev nBuf : Space → Nat
  | .hbm => 229
  | .vmem => 0
  | .smem => 0
  | _ => 0

abbrev hbmTy0_0 (i : Nat) : BufTy := match i % 128 with
  | 0 => ⟨S2x32x512x512, .f32⟩
  | 1 => ⟨S2x1x512x512, .i32⟩
  | 2 => ⟨S1x32x512x512, .f32⟩
  | 3 => ⟨S32x512x512, .f32⟩
  | 4 => ⟨S1x1x512x512, .i32⟩
  | 5 => ⟨S1x512x512, .i32⟩
  | 6 => ⟨S32x262144, .f32⟩
  | 7 => ⟨S262144x32, .f32⟩
  | 8 => ⟨S262144, .i32⟩
  | 9 => ⟨S_, .f32⟩
  | 10 => ⟨S262144, .f32⟩
  | 11 => ⟨S_, .f32⟩
  | 12 => ⟨S32, .f32⟩
  | 13 => ⟨S262144x1, .i32⟩
  | 14 => ⟨S32, .f32⟩
  | 15 => ⟨S_, .f32⟩
  | 16 => ⟨S32, .f32⟩
  | 17 => ⟨S32, .f32⟩
  | 18 => ⟨S_, .f32⟩
  | 19 => ⟨S32x32, .f32⟩
  | 20 => ⟨S262144x1, .i32⟩
  | 21 => ⟨S32x32, .f32⟩
  | 22 => ⟨S32x1, .f32⟩
  | 23 => ⟨S32x32, .f32⟩
  | 24 => ⟨S32x32, .f32⟩
  | 25 => ⟨S_, .i32⟩
  | 26 => ⟨S262144, .i32⟩
  | 27 => ⟨S262144, .i1⟩
  | 28 => ⟨S_, .i32⟩
  | 29 => ⟨S262144, .i32⟩
  | 30 => ⟨S262144, .i32⟩
  | 31 => ⟨S262144, .i32⟩
  | 32 => ⟨S262144x1, .i32⟩
  | 33 => ⟨S262144x32, .f32⟩
  | 34 => ⟨S262144x32, .f32⟩
  | 35 => ⟨S262144x32, .f32⟩
  | 36 => ⟨S_, .f32⟩
  | 37 => ⟨S262144, .f32⟩
  | 38 => ⟨S_, .f32⟩
  | 39 => ⟨S262144, .f32⟩
  | 40 => ⟨S262144, .f32⟩
  | 41 => ⟨S262144, .f32⟩
  | 42 => ⟨S_, .f32⟩
  | 43 => ⟨S262144, .f32⟩
  | 44 => ⟨S262144, .f32⟩
  | 45 => ⟨S_, .f32⟩
  | 46 => ⟨S_, .f32⟩
  | 47 => ⟨S262144, .f32⟩
  | 48 => ⟨S262144, .f32⟩
  | 49 => ⟨S262144, .f32⟩
  | 50 => ⟨S_, .f32⟩
  | 51 => ⟨S32, .f32⟩
  | 52 => ⟨S262144x1, .i32⟩
  | 53 => ⟨S32, .f32⟩
  | 54 => ⟨S32, .f32⟩
  | 55 => ⟨S_, .f32⟩
  | 56 => ⟨S_, .f32⟩
  | 57 => ⟨S_, .f32⟩
  | 58 => ⟨S_, .f32⟩
  | 59 => ⟨S32x1x32, .f32⟩
  | 60 => ⟨S1x32x32, .f32⟩
  | 61 => ⟨S32x32x32, .f32⟩
  | 62 => ⟨S32x32x32, .f32⟩
  | 63 => ⟨S32x32x32, .f32⟩
  | 64 => ⟨S32x32x32, .f32⟩
  | 65 => ⟨S_, .f32⟩
  | 66 => ⟨S32x32, .f32⟩
  | 67 => ⟨S_, .f32⟩
  | 68 => ⟨S32x32, .f32⟩
  | 69 => ⟨S32x32, .f32⟩
  | 70 => ⟨S32x32, .f32⟩
  | 71 => ⟨S_, .f32⟩
  | 72 => ⟨S32x32, .f32⟩
  | 73 => ⟨S32x32, .f32⟩
  | 74 => ⟨S_, .f32⟩
  | 75 => ⟨S_, .f32⟩
  | 76 => ⟨S32x32, .f32⟩
  | 77 => ⟨S32x32, .f32⟩
  | 78 => ⟨S32x32, .f32⟩
  | 79 => ⟨S32x32, .i32⟩
  | 80 => ⟨S32x32, .i32⟩
  | 81 => ⟨S_, .i32⟩
  | 82 => ⟨S32x32, .i32⟩
  | 83 => ⟨S32x32, .i32⟩
  | 84 => ⟨S32x32, .i1⟩
  | 85 => ⟨S32x32, .f32⟩
  | 86 => ⟨S_, .f32⟩
  | 87 => ⟨S32x32, .f32⟩
  | 88 => ⟨S32x32, .f32⟩
  | 89 => ⟨S32x32, .f32⟩
  | 90 => ⟨S_, .f32⟩
  | 91 => ⟨S_, .f32⟩
  | 92 => ⟨S_, .f32⟩
  | 93 => ⟨S_, .f32⟩
  | 94 => ⟨S32x32, .f32⟩
  | 95 => ⟨S_, .f32⟩
  | 96 => ⟨S32, .f32⟩
  | 97 => ⟨S_, .f32⟩
  | 98 => ⟨S32, .f32⟩
  | 99 => ⟨S32, .f32⟩
  | 100 => ⟨S32, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S1x32x512x512, .f32⟩
  | 116 => ⟨S32x512x512, .f32⟩
  | 117 => ⟨S1x1x512x512, .i32⟩
  | 118 => ⟨S1x512x512, .i32⟩
  | 119 => ⟨S32x262144, .f32⟩
  | 120 => ⟨S262144x32, .f32⟩
  | 121 => ⟨S262144, .i32⟩
  | 122 => ⟨S_, .f32⟩
  | 123 => ⟨S262144, .f32⟩
  | 124 => ⟨S_, .f32⟩
  | 125 => ⟨S32, .f32⟩
  | 126 => ⟨S262144x1, .i32⟩
  | 127 => ⟨S32, .f32⟩
  | _ => ⟨S2x32x512x512, .f32⟩

abbrev hbmTy0_1 (i : Nat) : BufTy := match i % 128 with
  | 0 => ⟨S_, .f32⟩
  | 1 => ⟨S32, .f32⟩
  | 2 => ⟨S32, .f32⟩
  | 3 => ⟨S_, .f32⟩
  | 4 => ⟨S32x32, .f32⟩
  | 5 => ⟨S262144x1, .i32⟩
  | 6 => ⟨S32x32, .f32⟩
  | 7 => ⟨S32x1, .f32⟩
  | 8 => ⟨S32x32, .f32⟩
  | 9 => ⟨S32x32, .f32⟩
  | 10 => ⟨S_, .i32⟩
  | 11 => ⟨S262144, .i32⟩
  | 12 => ⟨S262144, .i1⟩
  | 13 => ⟨S_, .i32⟩
  | 14 => ⟨S262144, .i32⟩
  | 15 => ⟨S262144, .i32⟩
  | 16 => ⟨S262144, .i32⟩
  | 17 => ⟨S262144x1, .i32⟩
  | 18 => ⟨S262144x32, .f32⟩
  | 19 => ⟨S262144x32, .f32⟩
  | 20 => ⟨S262144x32, .f32⟩
  | 21 => ⟨S_, .f32⟩
  | 22 => ⟨S262144, .f32⟩
  | 23 => ⟨S_, .f32⟩
  | 24 => ⟨S262144, .f32⟩
  | 25 => ⟨S262144, .f32⟩
  | 26 => ⟨S262144, .f32⟩
  | 27 => ⟨S_, .f32⟩
  | 28 => ⟨S262144, .f32⟩
  | 29 => ⟨S262144, .f32⟩
  | 30 => ⟨S_, .f32⟩
  | 31 => ⟨S_, .f32⟩
  | 32 => ⟨S262144, .f32⟩
  | 33 => ⟨S262144, .f32⟩
  | 34 => ⟨S262144, .f32⟩
  | 35 => ⟨S_, .f32⟩
  | 36 => ⟨S32, .f32⟩
  | 37 => ⟨S262144x1, .i32⟩
  | 38 => ⟨S32, .f32⟩
  | 39 => ⟨S32, .f32⟩
  | 40 => ⟨S_, .f32⟩
  | 41 => ⟨S_, .f32⟩
  | 42 => ⟨S_, .f32⟩
  | 43 => ⟨S_, .f32⟩
  | 44 => ⟨S32x1x32, .f32⟩
  | 45 => ⟨S1x32x32, .f32⟩
  | 46 => ⟨S32x32x32, .f32⟩
  | 47 => ⟨S32x32x32, .f32⟩
  | 48 => ⟨S32x32x32, .f32⟩
  | 49 => ⟨S32x32x32, .f32⟩
  | 50 => ⟨S_, .f32⟩
  | 51 => ⟨S32x32, .f32⟩
  | 52 => ⟨S_, .f32⟩
  | 53 => ⟨S32x32, .f32⟩
  | 54 => ⟨S32x32, .f32⟩
  | 55 => ⟨S32x32, .f32⟩
  | 56 => ⟨S_, .f32⟩
  | 57 => ⟨S32x32, .f32⟩
  | 58 => ⟨S32x32, .f32⟩
  | 59 => ⟨S_, .f32⟩
  | 60 => ⟨S_, .f32⟩
  | 61 => ⟨S32x32, .f32⟩
  | 62 => ⟨S32x32, .f32⟩
  | 63 => ⟨S32x32, .f32⟩
  | 64 => ⟨S32x32, .i32⟩
  | 65 => ⟨S32x32, .i32⟩
  | 66 => ⟨S_, .i32⟩
  | 67 => ⟨S32x32, .i32⟩
  | 68 => ⟨S32x32, .i32⟩
  | 69 => ⟨S32x32, .i1⟩
  | 70 => ⟨S32x32, .f32⟩
  | 71 => ⟨S_, .f32⟩
  | 72 => ⟨S32x32, .f32⟩
  | 73 => ⟨S32x32, .f32⟩
  | 74 => ⟨S32x32, .f32⟩
  | 75 => ⟨S_, .f32⟩
  | 76 => ⟨S_, .f32⟩
  | 77 => ⟨S_, .f32⟩
  | 78 => ⟨S_, .f32⟩
  | 79 => ⟨S32x32, .f32⟩
  | 80 => ⟨S_, .f32⟩
  | 81 => ⟨S32, .f32⟩
  | 82 => ⟨S_, .f32⟩
  | 83 => ⟨S32, .f32⟩
  | 84 => ⟨S32, .f32⟩
  | 85 => ⟨S32, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | _ => ⟨S2x32x512x512, .f32⟩

abbrev hbmTy (i : Nat) : BufTy := match i / 128 with
  | 0 => hbmTy0_0 i
  | 1 => hbmTy0_1 i
  | _ => ⟨S2x32x512x512, .f32⟩

abbrev bufTy : (tb : Table) → Fin (tcTables nBuf tb) → BufTy
  | .hbm, ⟨i, _⟩ => hbmTy i
  | _, _ => ⟨S2x32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_v20 : Ref sig .tc := ⟨.hbm, 27, rfl⟩
abbrev main_c_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩
abbrev main_cst_7 : Ref sig .tc := ⟨.hbm, 45, rfl⟩
abbrev main_call0_v0 : Ref sig .tc := ⟨.hbm, 46, rfl⟩
abbrev main_call0_v1 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_11 : Ref sig .tc := ⟨.hbm, 65, rfl⟩
abbrev main_v48 : Ref sig .tc := ⟨.hbm, 66, rfl⟩
abbrev main_cst_12 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_13 : Ref sig .tc := ⟨.hbm, 71, rfl⟩
abbrev main_v52 : Ref sig .tc := ⟨.hbm, 72, rfl⟩
abbrev main_v53 : Ref sig .tc := ⟨.hbm, 73, rfl⟩
abbrev main_cst_14 : Ref sig .tc := ⟨.hbm, 74, rfl⟩
abbrev main_call1_v0 : Ref sig .tc := ⟨.hbm, 75, rfl⟩
abbrev main_call1_v1 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_15 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_16 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_17 : Ref sig .tc := ⟨.hbm, 90, rfl⟩
abbrev main_v65 : Ref sig .tc := ⟨.hbm, 91, rfl⟩
abbrev main_cst_18 : Ref sig .tc := ⟨.hbm, 92, rfl⟩
abbrev main_v66 : Ref sig .tc := ⟨.hbm, 93, rfl⟩
abbrev main_v67 : Ref sig .tc := ⟨.hbm, 94, rfl⟩
abbrev main_cst_19 : Ref sig .tc := ⟨.hbm, 95, rfl⟩
abbrev main_v68 : Ref sig .tc := ⟨.hbm, 96, rfl⟩
abbrev main_cst_20 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_21 : Ref sig .tc := ⟨.hbm, 101, rfl⟩
abbrev main_v72 : Ref sig .tc := ⟨.hbm, 102, rfl⟩
abbrev main_cst_22 : Ref sig .tc := ⟨.hbm, 103, rfl⟩
abbrev main_v73 : Ref sig .tc := ⟨.hbm, 104, rfl⟩
abbrev main_cst_23 : Ref sig .tc := ⟨.hbm, 105, rfl⟩
abbrev main_v74 : Ref sig .tc := ⟨.hbm, 106, rfl⟩
abbrev main_cst_24 : Ref sig .tc := ⟨.hbm, 107, rfl⟩
abbrev main_v75 : Ref sig .tc := ⟨.hbm, 108, rfl⟩
abbrev main_v76 : Ref sig .tc := ⟨.hbm, 109, rfl⟩
abbrev main_cst_25 : Ref sig .tc := ⟨.hbm, 110, rfl⟩
abbrev main_v77 : Ref sig .tc := ⟨.hbm, 111, rfl⟩
abbrev main_v78 : Ref sig .tc := ⟨.hbm, 112, rfl⟩
abbrev main_cst_26 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_27 : Ref sig .tc := ⟨.hbm, 122, rfl⟩
abbrev main_v87 : Ref sig .tc := ⟨.hbm, 123, rfl⟩
abbrev main_cst_28 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_29 : Ref sig .tc := ⟨.hbm, 128, rfl⟩
abbrev main_v91 : Ref sig .tc := ⟨.hbm, 129, rfl⟩
abbrev main_v92 : Ref sig .tc := ⟨.hbm, 130, rfl⟩
abbrev main_cst_30 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_c_31 : Ref sig .tc := ⟨.hbm, 138, rfl⟩
abbrev main_v99 : Ref sig .tc := ⟨.hbm, 139, rfl⟩
abbrev main_v100 : Ref sig .tc := ⟨.hbm, 140, rfl⟩
abbrev main_c_32 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_cst_33 : Ref sig .tc := ⟨.hbm, 149, rfl⟩
abbrev main_v108 : Ref sig .tc := ⟨.hbm, 150, rfl⟩
abbrev main_cst_34 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_cst_35 : Ref sig .tc := ⟨.hbm, 155, rfl⟩
abbrev main_v112 : Ref sig .tc := ⟨.hbm, 156, rfl⟩
abbrev main_v113 : Ref sig .tc := ⟨.hbm, 157, rfl⟩
abbrev main_cst_36 : Ref sig .tc := ⟨.hbm, 158, rfl⟩
abbrev main_call2_v0 : Ref sig .tc := ⟨.hbm, 159, rfl⟩
abbrev main_call2_v1 : Ref sig .tc := ⟨.hbm, 160, rfl⟩
abbrev main_v114 : Ref sig .tc := ⟨.hbm, 161, rfl⟩
abbrev main_v115 : Ref sig .tc := ⟨.hbm, 162, rfl⟩
abbrev main_cst_37 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_cst_38 : Ref sig .tc := ⟨.hbm, 168, rfl⟩
abbrev main_v120 : Ref sig .tc := ⟨.hbm, 169, rfl⟩
abbrev main_cst_39 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_cst_40 : Ref sig .tc := ⟨.hbm, 178, rfl⟩
abbrev main_v128 : Ref sig .tc := ⟨.hbm, 179, rfl⟩
abbrev main_cst_41 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_cst_42 : Ref sig .tc := ⟨.hbm, 184, rfl⟩
abbrev main_v132 : Ref sig .tc := ⟨.hbm, 185, rfl⟩
abbrev main_v133 : Ref sig .tc := ⟨.hbm, 186, rfl⟩
abbrev main_cst_43 : Ref sig .tc := ⟨.hbm, 187, rfl⟩
abbrev main_call3_v0 : Ref sig .tc := ⟨.hbm, 188, rfl⟩
abbrev main_call3_v1 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_c_44 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_cst_45 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_cst_46 : Ref sig .tc := ⟨.hbm, 203, rfl⟩
abbrev main_v145 : Ref sig .tc := ⟨.hbm, 204, rfl⟩
abbrev main_cst_47 : Ref sig .tc := ⟨.hbm, 205, rfl⟩
abbrev main_v146 : Ref sig .tc := ⟨.hbm, 206, rfl⟩
abbrev main_v147 : Ref sig .tc := ⟨.hbm, 207, rfl⟩
abbrev main_cst_48 : Ref sig .tc := ⟨.hbm, 208, rfl⟩
abbrev main_v148 : Ref sig .tc := ⟨.hbm, 209, rfl⟩
abbrev main_cst_49 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_cst_50 : Ref sig .tc := ⟨.hbm, 214, rfl⟩
abbrev main_v152 : Ref sig .tc := ⟨.hbm, 215, rfl⟩
abbrev main_cst_51 : Ref sig .tc := ⟨.hbm, 216, rfl⟩
abbrev main_v153 : Ref sig .tc := ⟨.hbm, 217, rfl⟩
abbrev main_cst_52 : Ref sig .tc := ⟨.hbm, 218, rfl⟩
abbrev main_v154 : Ref sig .tc := ⟨.hbm, 219, rfl⟩
abbrev main_cst_53 : Ref sig .tc := ⟨.hbm, 220, rfl⟩
abbrev main_v155 : Ref sig .tc := ⟨.hbm, 221, rfl⟩
abbrev main_v156 : Ref sig .tc := ⟨.hbm, 222, rfl⟩
abbrev main_cst_54 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_cst_55 : Ref sig .tc := ⟨.hbm, 227, rfl⟩
abbrev main_v160 : Ref sig .tc := ⟨.hbm, 228, rfl⟩

abbrev nD : Nat := 1
abbrev τ : Topo := Topo.v7x

variable {F : FTy → Type} [FloatOps F]
-- ==== Proof.Base.lean ====
/-
  What the run of the SparseCore kernel is stated over: the program as the launch theorem sees it, the resource algebra,
  and the contents of one tile's own vector memory as ONE record (`St`), over which the kernel's loads, stores, gathers
  and scatters are steps of a plain judgement `T R σ p Q`: from the contents `σ` (and a frame `R`) the program `p` runs
  and leaves a result and contents that `Q` relates.
-/
module

public import proofs.«01_k».proof.Defs
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Transfers
public import Idealize.ShloMosaic.Lib.Tactic

@[expose] public section

set_option maxRecDepth 16384

noncomputable section

namespace Cert.Proof.Embed

open Cert.KernelIdeal Cert.KernelIdeal.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The call's stages: one for each of the three barriers -/

instance blocks : Blocks 1 3 where
  first := fun _ => 0
  last := fun _ => 2
  fst := fun k => if k = 0 then 0 else 3
  blk := fun _ ι => ∃ j, ι = some j
  first_le_last := fun _ => Fin.le_def.mpr (Nat.zero_le _)
  fst_val := fun q => by obtain rfl : q = 0 := Subsingleton.elim _ _; rfl
  fst_le := fun k q h => by
    obtain rfl : q = 0 := Subsingleton.elim _ _
    obtain rfl : k = 0 := Nat.le_zero.mp h
    exact le_rfl
  last_lt_fst := fun q => by obtain rfl : q = 0 := Subsingleton.elim _ _; exact Nat.lt_succ_self 2
  blk_iff := fun _ ι => ⟨fun ⟨j, h⟩ => ⟨j, Fin.le_def.mpr (Nat.zero_le _), Fin.le_def.mpr (Nat.le_of_lt_succ j.isLt), h⟩, fun ⟨j, _, _, h⟩ => ⟨j, h⟩⟩

/-! ## The resource algebra: the handshakes' rounds library, the barrier cells', the transfers' counters -/

abbrev UH : Type := URounds (GSem nD τ sig) ℕ
abbrev UB : Type := URounds (GSem nD τ sig) ℕ
abbrev UU : Type := UH × (UB × Counters)

local notation "𝕄" => MT nD τ sig (HIx 3) (Elt F) ℕ UU ℕ

abbrev EH : Emb UH (MT nD τ sig (HIx 3) (Elt F) ℕ UU ℕ) := embL
/-- The barrier cells' rounds library: the left half of the right factor. -/
def EB : Emb UB (MT nD τ sig (HIx 3) (Elt F) ℕ UU ℕ) :=
  ((Emb.inl : Emb UB (UB × Counters)).trans (Emb.inr : Emb (UB × Counters) UU)).trans
    (uEmb (nD := nD) (sig := sig) (Ix := HIx 3) (Val := Elt F) (Name := ℕ) (U := UU) (Lvl := ℕ)).toEmb
instance EB_landsIn : (EB : Emb UB 𝕄).LandsIn (upEmb : UEmb _ 𝕄) := by unfold EB; infer_instance

/-! ## One tile's own f32 buffers -/

/-- The names of a tile's own f32 buffers: the four accumulators, the staging row, the means (flat, and each four times), the
    transposed means, the reduced row, all rows, the output row. -/
inductive B | a0 | a1 | a2 | a3 | st | mf | m4 | mt | rd | sa | ob
  deriving DecidableEq

abbrev shp : B → Shape
  | .a0 => S4352 | .a1 => S4352 | .a2 => S4352 | .a3 => S4352 | .st => S1088 | .mf => S1024 | .m4 => S4096 | .mt => S1024
  | .rd => S1088 | .sa => S16x1088 | .ob => S16

/-- The contents of those buffers. -/
structure St (F : FTy → Type) where
  a0 : Vec F S4352 .f32
  a1 : Vec F S4352 .f32
  a2 : Vec F S4352 .f32
  a3 : Vec F S4352 .f32
  st : Vec F S1088 .f32
  mf : Vec F S1024 .f32
  m4 : Vec F S4096 .f32
  mt : Vec F S1024 .f32
  rd : Vec F S1088 .f32
  sa : Vec F S16x1088 .f32
  ob : Vec F S16 .f32

namespace St

/-- The contents of one buffer. -/
abbrev get (b : B) (σ : St F) : Vec F (shp b) .f32 :=
  match b with
  | .a0 => σ.a0 | .a1 => σ.a1 | .a2 => σ.a2 | .a3 => σ.a3 | .st => σ.st | .mf => σ.mf | .m4 => σ.m4 | .mt => σ.mt
  | .rd => σ.rd | .sa => σ.sa | .ob => σ.ob

/-- One buffer's contents rewritten. -/
def upd (b : B) (g : Vec F (shp b) .f32 → Vec F (shp b) .f32) (σ : St F) : St F :=
  match b, g with
  | .a0, g => { σ with a0 := g σ.a0 } | .a1, g => { σ with a1 := g σ.a1 } | .a2, g => { σ with a2 := g σ.a2 }
  | .a3, g => { σ with a3 := g σ.a3 } | .st, g => { σ with st := g σ.st } | .mf, g => { σ with mf := g σ.mf }
  | .m4, g => { σ with m4 := g σ.m4 } | .mt, g => { σ with mt := g σ.mt } | .rd, g => { σ with rd := g σ.rd }
  | .sa, g => { σ with sa := g σ.sa } | .ob, g => { σ with ob := g σ.ob }

end St

/-- The memref of a buffer. -/
abbrev mr : (b : B) → Memref sig .scVector .vmem (shp b) .f32
  | .a0 => Memref.whole cc0_scratch2 | .a1 => Memref.whole cc0_scratch3 | .a2 => Memref.whole cc0_scratch4
  | .a3 => Memref.whole cc0_scratch5 | .st => Memref.whole cc0_scratch6 | .mf => Memref.whole cc0_scratch7
  | .m4 => Memref.whole cc0_scratch8 | .mt => Memref.whole cc0_scratch9 | .rd => Memref.whole cc0_scratch10
  | .sa => Memref.whole cc0_scratch11 | .ob => Memref.whole cc0_scratch12

section Tile

variable (d : Dev nD) (cc : Fin τ.nSC) (jj : Fin τ.nSub)

/-- A buffer held outright at its contents. -/
def pt : (b : B) → Vec F (shp b) .f32 → sProp 𝕄
  | .a0, f => (V d cc jj).loc cc0_scratch2 ↦{fullShare} f
  | .a1, f => (V d cc jj).loc cc0_scratch3 ↦{fullShare} f
  | .a2, f => (V d cc jj).loc cc0_scratch4 ↦{fullShare} f
  | .a3, f => (V d cc jj).loc cc0_scratch5 ↦{fullShare} f
  | .st, f => (V d cc jj).loc cc0_scratch6 ↦{fullShare} f
  | .mf, f => (V d cc jj).loc cc0_scratch7 ↦{fullShare} f
  | .m4, f => (V d cc jj).loc cc0_scratch8 ↦{fullShare} f
  | .mt, f => (V d cc jj).loc cc0_scratch9 ↦{fullShare} f
  | .rd, f => (V d cc jj).loc cc0_scratch10 ↦{fullShare} f
  | .sa, f => (V d cc jj).loc cc0_scratch11 ↦{fullShare} f
  | .ob, f => (V d cc jj).loc cc0_scratch12 ↦{fullShare} f

/-- All of a tile's f32 buffers, at the contents `σ`. -/
def bufs (σ : St F) : sProp 𝕄 :=
  iprop(pt d cc jj .a0 σ.a0 ∗ pt d cc jj .a1 σ.a1 ∗ pt d cc jj .a2 σ.a2 ∗ pt d cc jj .a3 σ.a3 ∗ pt d cc jj .st σ.st
    ∗ pt d cc jj .mf σ.mf ∗ pt d cc jj .m4 σ.m4 ∗ pt d cc jj .mt σ.mt ∗ pt d cc jj .rd σ.rd ∗ pt d cc jj .sa σ.sa
    ∗ pt d cc jj .ob σ.ob)

/-- One buffer taken out of them, to be put back at other contents. -/
theorem bufs_acc (b : B) (σ : St F) :
    (bufs d cc jj σ : sProp 𝕄) ⊢ iprop(pt d cc jj b (σ.get b) ∗ ∀ g, pt d cc jj b (g (σ.get b)) -∗ bufs d cc jj (σ.upd b g)) := by
  unfold bufs
  iintro ⟨H0, H1, H2, H3, H4, H5, H6, H7, H8, H9, H10⟩
  cases b
  all_goals first
    | (isplitl [H0]; · iexact H0)
    | (isplitl [H1]; · iexact H1)
    | (isplitl [H2]; · iexact H2)
    | (isplitl [H3]; · iexact H3)
    | (isplitl [H4]; · iexact H4)
    | (isplitl [H5]; · iexact H5)
    | (isplitl [H6]; · iexact H6)
    | (isplitl [H7]; · iexact H7)
    | (isplitl [H8]; · iexact H8)
    | (isplitl [H9]; · iexact H9)
    | (isplitl [H10]; · iexact H10)
  all_goals
    iintro %g H
    simp only [St.upd]
  · isplitl [H]; · iexact H
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · isplitl [H0]; · iexact H0
    isplitl [H]; · iexact H
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · isplitl [H0]; · iexact H0
    isplitl [H1]; · iexact H1
    isplitl [H]; · iexact H
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · isplitl [H0]; · iexact H0
    isplitl [H1]; · iexact H1
    isplitl [H2]; · iexact H2
    isplitl [H]; · iexact H
    isplitl [H4]; · iexact H4
    isplitl [H5]; · iexact H5
    isplitl [H6]; · iexact H6
    isplitl [H7]; · iexact H7
    isplitl [H8]; · iexact H8
    isplitl [H9]; · iexact H9
    iexact H10
  · isplitl [H0]; · iexact H0
    isplitl [H1]; · iexact H1
    isplitl [H2]; · iexact H2
    isplitl [H3]; · iexact H3
    isplitl [H]; · iexact H
    isplitl [H5]; · iexact H5
    isplitl [H6]; · iexact H6
    isplitl [H7]; · iexact H7
    isplitl [H8]; · iexact H8
    isplitl [H9]; · iexact H9
    iexact H10
  · isplitl [H0]; · iexact H0
    isplitl [H1]; · iexact H1
    isplitl [H2]; · iexact H2
    isplitl [H3]; · iexact H3
    isplitl [H4]; · iexact H4
    isplitl [H]; · iexact H
    isplitl [H6]; · iexact H6
    isplitl [H7]; · iexact H7
    isplitl [H8]; · iexact H8
    isplitl [H9]; · iexact H9
    iexact H10
  · isplitl [H0]; · iexact H0
    isplitl [H1]; · iexact H1
    isplitl [H2]; · iexact H2
    isplitl [H3]; · iexact H3
    isplitl [H4]; · iexact H4
    isplitl [H5]; · iexact H5
    isplitl [H]; · iexact H
    isplitl [H7]; · iexact H7
    isplitl [H8]; · iexact H8
    isplitl [H9]; · iexact H9
    iexact H10
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H]; · iexact H
    isplitl [H8]; · iexact H8
    isplitl [H9]; · iexact H9
    iexact H10
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H]; · iexact H
    isplitl [H9]; · iexact H9
    iexact H10
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H]; · iexact H
    iexact H10
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H

end Tile

end Cert.Proof.Embed
-- ==== Proof.Rules.lean ====
/-
  The steps of one tile over its own buffers: the judgement `T`, and its rules for loads, stores, gathers, scatters, checks,
  sequencing and counted loops.
-/
module

public import proofs.«01_k».proof.Proof.Base

@[expose] public section

set_option maxRecDepth 16384

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 3) (Elt F) ℕ UU ℕ

/-- What a rectangle of a buffer holds. -/
abbrev ldr {s : Shape} {α : Type} (r : Rect s) (f : s.Idx → α) : r.shape.Idx → α := fun x => f (r.idx x)

/-- A buffer's contents after a rectangle of it is rewritten. -/
def wr {s : Shape} {α : Type} (r : Rect s) (w : r.shape.Idx → α) (f : s.Idx → α) : s.Idx → α :=
  fun i => match preimage? r.emb i with
    | some x => w x
    | none => f i

theorem wr_emb {s : Shape} {α : Type} (r : Rect s) (w : r.shape.Idx → α) (f : s.Idx → α) (x : r.shape.Idx) : wr r w f (r.emb x) = w x := by
  unfold wr
  rw [preimage?_emb]
theorem wr_off {s : Shape} {α : Type} (r : Rect s) (w : r.shape.Idx → α) (f : s.Idx → α) (i : s.Idx) (h : ∀ x, r.emb x ≠ i) : wr r w f i = f i := by
  unfold wr
  rw [preimage?_eq_none h]

theorem write_slice_whole {Val : EltTy → Type} {κ : Kind} (b : Ref sig κ) (r : Rect b.ty.shape) (f : b.ty.Contents Val)
    (w : r.shape.Idx → Val b.ty.elt) : ((View.whole b).slice r).write Val f w Finset.univ = wr r w f := by
  funext i
  by_cases hi : ∃ x, r.emb x = i
  · obtain ⟨x, rfl⟩ := hi
    exact (View.write_emb_of_mem (v := (View.whole b).slice r) f w (Finset.mem_univ x)).trans (wr_emb r w f x).symm
  · have hi' : ∀ x, r.emb x ≠ i := fun x hx => hi ⟨x, hx⟩
    refine (View.write_of_not_mem (v := (View.whole b).slice r) f w Finset.univ fun h => ?_).trans (wr_off r w f i hi').symm
    obtain ⟨x, -, hx⟩ := Finset.mem_map.mp h
    exact hi' x hx

section Tile

variable (d : Dev nD) (cc : Fin τ.nSC) (jj : Fin τ.nSub)

local notation "wpT" => wp frame (wpE (defs₀ (F := F)) 𝒱₀ (V d cc jj) none) Set.univ

theorem wp_st_m {s : Shape} (m : Memref sig .scVector .vmem s .f32) {α : Type} (r : Rect s) (w : Vec F r.shape .f32)
    (hx : (m.access r).Stores Finset.univ)
    (hm : (Finset.univ : Finset r.shape.Idx) = Finset.univ ∨ ∀ a, r.stride a = 1)
    (f : Buf (Elt F) ((m.access r).loc (V d cc jj)))
    (k : PUnit → Prog (TpuEff nD τ sig (Elt F) Λ₀ (V d cc jj).2) α) (Q : α → sProp 𝕄) :
    ((m.access r).loc (V d cc jj) ↦{fullShare} f : sProp 𝕄)
      ⊢ iprop((((m.access r).loc (V d cc jj) ↦{fullShare} ((m.access r).write (Elt F) f w Finset.univ)) -∗ wpT (k ⟨⟩) Q)
        -∗ wpT (.op (.store m r w Finset.univ hx hm) k) Q) :=
  wp_store 𝒱₀ (V d cc jj) none Set.univ (m := m) (r := r) (w := w) (Mk := Finset.univ) (hx := hx) (hm := hm) (k := k) (f := f) (S := Finset.univ) (Finset.subset_univ _)

theorem wp_ld_m {s : Shape} (m : Memref sig .scVector .vmem s .f32) {α : Type} (r : Rect s) (hl : m.view.LoadsAt r.toLoadRect)
    (f : Buf (Elt F) (m.view.loc (V d cc jj)))
    (k : Vec F r.shape .f32 → Prog (TpuEff nD τ sig (Elt F) Λ₀ (V d cc jj).2) α) (Q : α → sProp 𝕄) :
    (m.view.loc (V d cc jj) ↦{fullShare} f : sProp 𝕄)
      ⊢ iprop(((m.view.loc (V d cc jj) ↦{fullShare} f) -∗ wpT (k (m.view.readAt (Elt F) r.toLoadRect f)) Q) -∗ wpT (.op (.load m r.toLoadRect hl) k) Q) :=
  wp_load 𝒱₀ (V d cc jj) none Set.univ (S := Finset.univ) (Finset.subset_univ _)

theorem wp_st (b : B) {α : Type} (r : Rect (shp b)) (w : Vec F r.shape .f32) (hx : ((mr b).access r).Stores Finset.univ)
    (hm : (Finset.univ : Finset r.shape.Idx) = Finset.univ ∨ ∀ a, r.stride a = 1) (f : Vec F (shp b) .f32)
    (k : PUnit → Prog (TpuEff nD τ sig (Elt F) Λ₀ (V d cc jj).2) α) (Q : α → sProp 𝕄) :
    (pt d cc jj b f : sProp 𝕄) ⊢ iprop((pt d cc jj b (wr r w f) -∗ wpT (k ⟨⟩) Q) -∗ wpT (.op (.store (mr b) r w Finset.univ hx hm) k) Q) := by
  cases b
  · rw [← write_slice_whole cc0_scratch2 r f w]; exact wp_st_m d cc jj (Memref.whole cc0_scratch2) r w hx hm f k Q
  · rw [← write_slice_whole cc0_scratch3 r f w]; exact wp_st_m d cc jj (Memref.whole cc0_scratch3) r w hx hm f k Q
  · rw [← write_slice_whole cc0_scratch4 r f w]; exact wp_st_m d cc jj (Memref.whole cc0_scratch4) r w hx hm f k Q
  · rw [← write_slice_whole cc0_scratch5 r f w]; exact wp_st_m d cc jj (Memref.whole cc0_scratch5) r w hx hm f k Q
  · rw [← write_slice_whole cc0_scratch6 r f w]; exact wp_st_m d cc jj (Memref.whole cc0_scratch6) r w hx hm f k Q
  · rw [← write_slice_whole cc0_scratch7 r f w]; exact wp_st_m d cc jj (Memref.whole cc0_scratch7) r w hx hm f k Q
  · rw [← write_slice_whole cc0_scratch8 r f w]; exact wp_st_m d cc jj (Memref.whole cc0_scratch8) r w hx hm f k Q
  · rw [← write_slice_whole cc0_scratch9 r f w]; exact wp_st_m d cc jj (Memref.whole cc0_scratch9) r w hx hm f k Q
  · rw [← write_slice_whole cc0_scratch10 r f w]; exact wp_st_m d cc jj (Memref.whole cc0_scratch10) r w hx hm f k Q
  · rw [← write_slice_whole cc0_scratch11 r f w]; exact wp_st_m d cc jj (Memref.whole cc0_scratch11) r w hx hm f k Q
  · rw [← write_slice_whole cc0_scratch12 r f w]; exact wp_st_m d cc jj (Memref.whole cc0_scratch12) r w hx hm f k Q

theorem wp_ld (b : B) {α : Type} (r : Rect (shp b)) (hl : (mr b).view.LoadsAt r.toLoadRect) (f : Vec F (shp b) .f32)
    (k : Vec F r.shape .f32 → Prog (TpuEff nD τ sig (Elt F) Λ₀ (V d cc jj).2) α) (Q : α → sProp 𝕄) :
    (pt d cc jj b f : sProp 𝕄) ⊢ iprop((pt d cc jj b f -∗ wpT (k (ldr r f)) Q) -∗ wpT (.op (.load (mr b) r.toLoadRect hl) k) Q) := by
  cases b
  · exact wp_ld_m d cc jj (Memref.whole cc0_scratch2) r hl f k Q
  · exact wp_ld_m d cc jj (Memref.whole cc0_scratch3) r hl f k Q
  · exact wp_ld_m d cc jj (Memref.whole cc0_scratch4) r hl f k Q
  · exact wp_ld_m d cc jj (Memref.whole cc0_scratch5) r hl f k Q
  · exact wp_ld_m d cc jj (Memref.whole cc0_scratch6) r hl f k Q
  · exact wp_ld_m d cc jj (Memref.whole cc0_scratch7) r hl f k Q
  · exact wp_ld_m d cc jj (Memref.whole cc0_scratch8) r hl f k Q
  · exact wp_ld_m d cc jj (Memref.whole cc0_scratch9) r hl f k Q
  · exact wp_ld_m d cc jj (Memref.whole cc0_scratch10) r hl f k Q
  · exact wp_ld_m d cc jj (Memref.whole cc0_scratch11) r hl f k Q
  · exact wp_ld_m d cc jj (Memref.whole cc0_scratch12) r hl f k Q

theorem idx_whole (s : Shape) (j : s.Idx) : (Rect.whole s).idx j = j := by
  funext a
  exact Fin.ext (by show 0 + 1 * (j a).val = (j a).val; omega)

theorem ldr_whole {s : Shape} {α : Type} (f : s.Idx → α) : ldr (Rect.whole s) f = f := funext fun j => congrArg f (idx_whole s j)
theorem wr_whole {s : Shape} {α : Type} (w f : s.Idx → α) : wr (Rect.whole s) w f = w := by
  funext j
  have h := wr_emb (Rect.whole s) w f j
  rwa [show (Rect.whole s).emb j = j from idx_whole s j] at h

theorem wp_gat (b : B) {α : Type} {t : Shape} (idxs : Fin (shp b).rank → IVec t 32) (h : ∀ a x, (idxs a x).toNat < (shp b).size a)
    (hl : (mr b).view.Loads) (f : Vec F (shp b) .f32)
    (k : Vec F t .f32 → Prog (TpuEff nD τ sig (Elt F) Λ₀ (V d cc jj).2) α) (Q : α → sProp 𝕄) :
    (pt d cc jj b f : sProp 𝕄) ⊢ iprop((pt d cc jj b f -∗ wpT (k (loadIdx f idxs h)) Q) -∗ wpT (SparseCore.vectorLoadIdx (mr b) idxs h hl >>= k) Q) := by
  change _ ⊢ iprop(_ -∗ wpT (.op (.load (mr b) (Rect.whole (shp b)).toLoadRect (View.loadsAt_whole hl)) fun f => k (loadIdx f idxs h)) Q)
  refine (wp_ld d cc jj b (Rect.whole (shp b)) (View.loadsAt_whole hl) f (fun f => k (loadIdx f idxs h)) Q).trans ?_
  exact Entails.of_eq (by rw [ldr_whole f])

theorem wp_sca (b : B) {α : Type} {n : Fin 1 → ℕ} (idxs : Fin (shp b).rank → IVec ⟨1, n⟩ 32) (v : Vec F ⟨1, n⟩ .f32) (mask : IVec ⟨1, n⟩ 1) (add : Bool)
    (h : ∀ a x, (idxs a x).toNat < (shp b).size a) (hs : ((mr b).access (.whole (shp b))).Stores Finset.univ) (f : Vec F (shp b) .f32)
    (k : PUnit → Prog (TpuEff nD τ sig (Elt F) Λ₀ (V d cc jj).2) α) (Q : α → sProp 𝕄) :
    (pt d cc jj b f : sProp 𝕄) ⊢ iprop((pt d cc jj b (storeIdx f idxs v mask add h) -∗ wpT (k ⟨⟩) Q)
      -∗ wpT (SparseCore.vectorStoreIdx (mr b) idxs v mask add h hs >>= k) Q) := by
  change _ ⊢ iprop(_ -∗ wpT (.op (.load (mr b) (Rect.whole (shp b)).toLoadRect (View.loadsAt_rect hs.loads)) fun f =>
    .op (.store (mr b) (Rect.whole (shp b)) (storeIdx f idxs v mask add h) Finset.univ hs (.inl rfl)) k) Q)
  refine (wp_ld d cc jj b (Rect.whole (shp b)) (View.loadsAt_rect hs.loads) f (fun f =>
    .op (.store (mr b) (Rect.whole (shp b)) (storeIdx f idxs v mask add h) Finset.univ hs (.inl rfl)) k) Q).trans ?_
  have h2 := wp_st d cc jj b (Rect.whole (shp b)) (storeIdx f idxs v mask add h) hs (.inl rfl) f k Q
  rw [wr_whole] at h2
  rw [ldr_whole f]
  iintro H HK
  iapply H
  iintro Hp
  iapply h2 $$ Hp
  iexact HK

/-- One buffer taken out, to be put back as it was. -/
theorem bufs_peek (b : B) (σ : St F) : (bufs d cc jj σ : sProp 𝕄) ⊢ iprop(pt d cc jj b (σ.get b) ∗ (pt d cc jj b (σ.get b) -∗ bufs d cc jj σ)) := by
  refine (bufs_acc d cc jj b σ).trans ?_
  iintro ⟨Hp, HK⟩
  isplitl [Hp]; · iexact Hp
  iintro Hp
  have e : bufs d cc jj (σ.upd b id) = (bufs d cc jj σ : sProp 𝕄) := congrArg (bufs d cc jj) (by cases b <;> rfl)
  rw [← e]
  ispecialize HK $$ %id
  iapply HK
  iexact Hp

/-! ## The judgement -/

/-- From the contents `σ`, beside the frame `R`, `p` runs, and leaves a result and contents that `Q` relates. -/
def T (R : sProp 𝕄) (σ : St F) {α : Type} (p : Prog (TpuEff nD τ sig (Elt F) Λ₀ (V d cc jj).2) α) (Q : α → St F → Prop) : Prop :=
  iprop(R ∗ bufs d cc jj σ) ⊢ wpT p (fun r => iprop(∃ σ', ⌜Q r σ'⌝ ∗ R ∗ bufs d cc jj σ'))

variable {d cc jj} {R : sProp (MT nD τ sig (HIx 3) (Elt F) ℕ UU ℕ)} {σ : St F} {α β : Type}

theorem T_mono {p : Prog (TpuEff nD τ sig (Elt F) Λ₀ (V d cc jj).2) α} {Q Q' : α → St F → Prop} (h : T d cc jj R σ p Q)
    (hQ : ∀ a σ', Q a σ' → Q' a σ') : T d cc jj R σ p Q' := by
  unfold T at *
  refine h.trans (wp_mono _ _ _ fun a => ?_)
  iintro ⟨%σ', %hq, HR, HB⟩
  iexists σ'
  isplitr; · ipureintro; exact hQ a σ' hq
  isplitl [HR]; · iexact HR
  iexact HB

theorem T_pure {a : α} {Q : α → St F → Prop} (h : Q a σ) : T d cc jj R σ (pure a : Prog (TpuEff nD τ sig (Elt F) Λ₀ (V d cc jj).2) α) Q := by
  unfold T
  show _ ⊢ wp _ _ _ (.ret a) _
  rw [wp_ret]
  iintro ⟨HR, HB⟩
  imodintro
  iexists σ
  isplitr; · ipureintro; exact h
  isplitl [HR]; · iexact HR
  iexact HB

theorem T_bind {p : Prog (TpuEff nD τ sig (Elt F) Λ₀ (V d cc jj).2) α} {k : α → Prog (TpuEff nD τ sig (Elt F) Λ₀ (V d cc jj).2) β} {Q : β → St F → Prop}
    (h : T d cc jj R σ p (fun a σ' => T d cc jj R σ' (k a) Q)) : T d cc jj R σ (p >>= k) Q := by
  unfold T at *
  rw [wp_bind]
  refine h.trans (wp_mono _ _ _ fun a => ?_)
  iintro ⟨%σ', %hq, HR, HB⟩
  iapply hq
  isplitl [HR]; · iexact HR
  iexact HB

theorem T_ld (b : B) {r : Rect (shp b)} {hl : (mr b).view.LoadsAt r.toLoadRect}
    {k : Vec F r.shape .f32 → Prog (TpuEff nD τ sig (Elt F) Λ₀ (V d cc jj).2) α} {Q : α → St F → Prop}
    (h : T d cc jj R σ (k (ldr r (σ.get b))) Q) : T d cc jj R σ (Prog.lift (.load (mr b) r.toLoadRect hl) >>= k) Q := by
  unfold T at *
  rw [show (Prog.lift (.load (mr b) r.toLoadRect hl) >>= k) = .op (.load (mr b) r.toLoadRect hl) k from rfl]
  iintro ⟨HR, HB⟩
  ihave HB := (bufs_peek d cc jj b σ) $$ HB
  icases HB with ⟨Hp, HK⟩
  iapply (wp_ld d cc jj b r hl (σ.get b) k _) $$ Hp
  iintro Hp
  ihave HB := HK $$ Hp
  iapply h
  isplitl [HR]; · iexact HR
  iexact HB

theorem T_st (b : B) {r : Rect (shp b)} {w : Vec F r.shape .f32} {hx : ((mr b).access r).Stores Finset.univ}
    {hm : (Finset.univ : Finset r.shape.Idx) = Finset.univ ∨ ∀ a, r.stride a = 1}
    {k : PUnit → Prog (TpuEff nD τ sig (Elt F) Λ₀ (V d cc jj).2) α} {Q : α → St F → Prop}
    (h : T d cc jj R (σ.upd b (wr r w)) (k ⟨⟩) Q) : T d cc jj R σ (Prog.lift (.store (mr b) r w Finset.univ hx hm) >>= k) Q := by
  unfold T at *
  rw [show (Prog.lift (.store (mr b) r w Finset.univ hx hm) >>= k) = .op (.store (mr b) r w Finset.univ hx hm) k from rfl]
  iintro ⟨HR, HB⟩
  ihave HB := (bufs_acc d cc jj b σ) $$ HB
  icases HB with ⟨Hp, HK⟩
  iapply (wp_st d cc jj b r w hx hm (σ.get b) k _) $$ Hp
  iintro Hp
  ihave HB := HK $$ %(wr r w) Hp
  iapply h
  isplitl [HR]; · iexact HR
  iexact HB

theorem T_gat (b : B) {t : Shape} {idxs : Fin (shp b).rank → IVec t 32} {h : ∀ a x, (idxs a x).toNat < (shp b).size a}
    {hl : (mr b).view.Loads} {k : Vec F t .f32 → Prog (TpuEff nD τ sig (Elt F) Λ₀ (V d cc jj).2) α} {Q : α → St F → Prop}
    (hk : T d cc jj R σ (k (loadIdx (σ.get b) idxs h)) Q) : T d cc jj R σ (SparseCore.vectorLoadIdx (mr b) idxs h hl >>= k) Q := by
  unfold T at *
  iintro ⟨HR, HB⟩
  ihave HB := (bufs_peek d cc jj b σ) $$ HB
  icases HB with ⟨Hp, HK⟩
  iapply (wp_gat d cc jj b idxs h hl (σ.get b) k _) $$ Hp
  iintro Hp
  ihave HB := HK $$ Hp
  iapply hk
  isplitl [HR]; · iexact HR
  iexact HB

theorem T_sca (b : B) {n : Fin 1 → ℕ} {idxs : Fin (shp b).rank → IVec ⟨1, n⟩ 32} {v : Vec F ⟨1, n⟩ .f32} {mask : IVec ⟨1, n⟩ 1} {add : Bool}
    {h : ∀ a x, (idxs a x).toNat < (shp b).size a} {hs : ((mr b).access (.whole (shp b))).Stores Finset.univ}
    {k : PUnit → Prog (TpuEff nD τ sig (Elt F) Λ₀ (V d cc jj).2) α} {Q : α → St F → Prop}
    (hk : T d cc jj R (σ.upd b (fun f => storeIdx f idxs v mask add h)) (k ⟨⟩) Q) :
    T d cc jj R σ (SparseCore.vectorStoreIdx (mr b) idxs v mask add h hs >>= k) Q := by
  unfold T at *
  iintro ⟨HR, HB⟩
  ihave HB := (bufs_acc d cc jj b σ) $$ HB
  icases HB with ⟨Hp, HK⟩
  iapply (wp_sca d cc jj b idxs v mask add h hs (σ.get b) k _) $$ Hp
  iintro Hp
  ihave HB := HK $$ %(fun f => storeIdx f idxs v mask add h) Hp
  iapply hk
  isplitl [HR]; · iexact HR
  iexact HB

theorem T_assume {P : Prop} {dec : Decidable P} {k : PLift P → Prog (TpuEff nD τ sig (Elt F) Λ₀ (V d cc jj).2) α} {Q : α → St F → Prop}
    (hP : P) (h : T d cc jj R σ (k ⟨hP⟩) Q) : T d cc jj R σ (Prog.lift (TpuEff.assume P dec) >>= k) Q := by
  unfold T at *
  refine h.trans ?_
  exact wp_assume 𝒱₀ (V d cc jj) none Set.univ hP

/-- A load of a buffer kept in the frame. -/
theorem T_ldR {s : Shape} {e : EltTy} (m : Memref sig .scVector .vmem s e) (S : Finset (Idx (m.view.loc (V d cc jj)))) (f : Buf (Elt F) (m.view.loc (V d cc jj)))
    (hR : R ⊢ iprop((m.view.loc (V d cc jj) ↦[S]{fullShare} f) ∗ ((m.view.loc (V d cc jj) ↦[S]{fullShare} f) -∗ R)))
    {r : Rect s} {hl : m.view.LoadsAt r.toLoadRect} (hS : m.view.setOn r.toLoadRect.set ⊆ S)
    {k : Vec F r.shape e → Prog (TpuEff nD τ sig (Elt F) Λ₀ (V d cc jj).2) α} {Q : α → St F → Prop}
    {v : Vec F r.shape e} (hv : m.view.readAt (Elt F) r.toLoadRect f = v)
    (h : T d cc jj R σ (k v) Q) : T d cc jj R σ (Prog.lift (.load m r.toLoadRect hl) >>= k) Q := by
  subst hv
  unfold T at *
  rw [show (Prog.lift (.load m r.toLoadRect hl) >>= k) = .op (.load m r.toLoadRect hl) k from rfl]
  iintro ⟨HR, HB⟩
  ihave HR := hR $$ HR
  icases HR with ⟨Hp, HK⟩
  iapply (wp_load 𝒱₀ (V d cc jj) none Set.univ (m := m) (S := S) hS) $$ Hp
  iintro Hp
  ihave HR := HK $$ Hp
  iapply h
  isplitl [HR]; · iexact HR
  iexact HB

/-- A counted loop, by an invariant on the carried value and the contents. -/
theorem T_for {w : ℕ} {l : Scf.Loop w} {hok : l.OK} {init : β}
    {body : Fin l.trips → β → Prog (TpuEff nD τ sig (Elt F) Λ₀ (V d cc jj).2) β} (I : ℕ → β → St F → Prop)
    (hI : I 0 init σ) (hb : ∀ (k : Fin l.trips) (a : β) (σ' : St F), I k.val a σ' → T d cc jj R σ' (body k a) (I (k.val + 1))) :
    T d cc jj R σ (Scf.Loop.for l hok init body) (I l.trips) := by
  unfold T
  have h := Scf.wp_for (E := TpuEff nD τ sig (Elt F) Λ₀ (V d cc jj).2) frame (wpE (defs₀ (F := F)) 𝒱₀ (V d cc jj) none) Set.univ l.lb l.ub l.st hok init body
    (fun k a => iprop(∃ σ', ⌜I k a σ'⌝ ∗ R ∗ bufs d cc jj σ'))
    (fun k a => by
      iintro ⟨%σ', %hi, HR, HB⟩
      have hb' := hb k a σ' hi
      unfold T at hb'
      iapply hb'
      isplitl [HR]; · iexact HR
      iexact HB)
    (Q := fun a => iprop(∃ σ', ⌜I l.trips a σ'⌝ ∗ R ∗ bufs d cc jj σ'))
  iintro ⟨HR, HB⟩
  iapply h
  isplitl [HR HB]
  · iexists σ
    isplitr; · ipureintro; exact hI
    isplitl [HR]; · iexact HR
    iexact HB
  · iintro %a H
    iexact H

theorem T_forQ {w : ℕ} {l : Scf.Loop w} {hok : l.OK} {init : β} {Q : β → St F → Prop}
    {body : Fin l.trips → β → Prog (TpuEff nD τ sig (Elt F) Λ₀ (V d cc jj).2) β} (I : ℕ → β → St F → Prop)
    (hI : I 0 init σ) (hb : ∀ (k : Fin l.trips) (a : β) (σ' : St F), I k.val a σ' → T d cc jj R σ' (body k a) (I (k.val + 1)))
    (hk : ∀ a σ', I l.trips a σ' → Q a σ') :
    T d cc jj R σ (Scf.Loop.for l hok init body) Q :=
  T_mono (T_for I hI hb) hk

theorem T_for_bind {w : ℕ} {l : Scf.Loop w} {hok : l.OK} {init : β} {kk : β → Prog (TpuEff nD τ sig (Elt F) Λ₀ (V d cc jj).2) α} {Q : α → St F → Prop}
    {body : Fin l.trips → β → Prog (TpuEff nD τ sig (Elt F) Λ₀ (V d cc jj).2) β} (I : ℕ → β → St F → Prop)
    (hI : I 0 init σ) (hb : ∀ (k : Fin l.trips) (a : β) (σ' : St F), I k.val a σ' → T d cc jj R σ' (body k a) (I (k.val + 1)))
    (hk : ∀ a σ', I l.trips a σ' → T d cc jj R σ' (kk a) Q) :
    T d cc jj R σ (Scf.Loop.for l hok init body >>= kk) Q :=
  T_bind (T_mono (T_for I hI hb) hk)

end Tile

end Cert.Proof.Embed
-- ==== Proof.Steps.lean ====
/-
  The steps of a tile over its buffers, one rule for each buffer, with scatters and gathers as plain functions.
-/
module

public import proofs.«01_k».proof.Proof.Rules

@[expose] public section

set_option maxRecDepth 16384

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 3) (Elt F) ℕ UU ℕ

/-! ## Scatters and gathers as functions of what they read -/

/-- Scatter-add of sixteen lanes into a flat buffer. -/
def sadd {N : ℕ} (idx : IVec S16 32) (v : Vec F S16 .f32) (f : Vec F ⟨1, ![N]⟩ .f32) : Vec F ⟨1, ![N]⟩ .f32 := fun j =>
  (List.finRange 16).foldl (fun (a : F .f32) (k : Fin 16) =>
    if (idx (Shape.ofLane (d := ![16]) k)).toNat = (j 0).val then FloatOps.idxAddf a (v (Shape.ofLane (d := ![16]) k)) else a) (f j)

theorem foldl_pt {ι κ α : Type} (L : List κ) (g : (ι → α) → κ → ι → α) (h : α → κ → ι → α) (hg : ∀ f k j, g f k j = h (f j) k j) (f : ι → α) (j : ι) :
    L.foldl g f j = L.foldl (fun a k => h a k j) (f j) := by
  induction L generalizing f with
  | nil => rfl
  | cons k L ih =>
    rw [List.foldl_cons, List.foldl_cons, ih, hg]

theorem storeIdx_sadd {N : ℕ} (idx : IVec S16 32) (v : Vec F S16 .f32) (f : Vec F ⟨1, ![N]⟩ .f32)
    (h : ∀ a x, ((![idx] : Fin 1 → IVec S16 32) a x).toNat < (⟨1, ![N]⟩ : Shape).size a) :
    storeIdx (s := ⟨1, ![N]⟩) (d := ![16]) f ![idx] v (fun _ => 1#1) true h = sadd idx v f := by
  funext j
  unfold storeIdx sadd
  refine (foldl_pt (List.finRange 16) _ (fun a (k : Fin 16) (j : (⟨1, ![N]⟩ : Shape).Idx) =>
    if (idx (Shape.ofLane (d := ![16]) k)).toNat = (j 0).val then FloatOps.idxAddf a (v (Shape.ofLane (d := ![16]) k)) else a) ?_ f j)
  intro g k j
  have e1 : (1#1 : BitVec 1) = 1 := rfl
  simp only [e1, if_true]
  by_cases hj : (idx (Shape.ofLane (d := ![16]) k)).toNat = (j 0).val
  · have hj' : ∀ a, (j a).val = (idxAt (s := ⟨1, ![N]⟩) ![idx] h (Shape.ofLane (d := ![16]) k) a).val := by
      intro a; rw [Fin.eq_zero a]; exact hj.symm
    have hje : idxAt (s := ⟨1, ![N]⟩) ![idx] h (Shape.ofLane (d := ![16]) k) = j := funext fun a => Fin.ext (hj' a).symm
    rw [if_pos hj', if_pos hj, hje]
    rfl
  · rw [if_neg hj, if_neg]
    intro hj'
    exact hj (hj' 0).symm

/-- The index of a flat buffer at a natural number (its remainder). -/
def ixm (N : ℕ) [NeZero N] (n : ℕ) : (⟨1, ![N]⟩ : Shape).Idx := fun a => ⟨n % N, by
  rw [Fin.eq_zero a]; exact Nat.mod_lt _ (Nat.pos_of_ne_zero (NeZero.ne N))⟩

theorem ixm_val {N : ℕ} [NeZero N] (j : (⟨1, ![N]⟩ : Shape).Idx) : ixm N (j 0).val = j := by
  funext a
  rw [Fin.eq_zero a]
  exact Fin.ext (Nat.mod_eq_of_lt (j 0).isLt)

/-- The value a flat buffer holds at a natural number. -/
abbrev nv {α : Type} {N : ℕ} [NeZero N] (f : (⟨1, ![N]⟩ : Shape).Idx → α) (n : ℕ) : α := f (ixm N n)

/-- Gather of sixteen lanes out of a flat buffer. -/
def gat {N : ℕ} [NeZero N] (f : Vec F ⟨1, ![N]⟩ .f32) (idx : IVec S16 32) : Vec F S16 .f32 := fun x => nv f (idx x).toNat

theorem loadIdx_gat {N : ℕ} [NeZero N] (f : Vec F ⟨1, ![N]⟩ .f32) (idx : IVec S16 32)
    (h : ∀ a x, ((![idx] : Fin 1 → IVec S16 32) a x).toNat < (⟨1, ![N]⟩ : Shape).size a) :
    loadIdx (s := ⟨1, ![N]⟩) (t := S16) f ![idx] h = gat f idx := by
  funext x
  unfold loadIdx gat nv
  congr 1
  funext a
  rw [Fin.eq_zero a]
  exact Fin.ext (Nat.mod_eq_of_lt (h 0 x)).symm

/-! ## The rules, buffer by buffer -/

section Tile

variable {d : Dev nD} {cc : Fin τ.nSC} {jj : Fin τ.nSub} {R : sProp (MT nD τ sig (HIx 3) (Elt F) ℕ UU ℕ)} {α : Type}
  {a0 : Vec F (shp .a0) .f32}
  {a1 : Vec F (shp .a1) .f32}
  {a2 : Vec F (shp .a2) .f32}
  {a3 : Vec F (shp .a3) .f32}
  {st : Vec F (shp .st) .f32}
  {mf : Vec F (shp .mf) .f32}
  {m4 : Vec F (shp .m4) .f32}
  {mt : Vec F (shp .mt) .f32}
  {rd : Vec F (shp .rd) .f32}
  {sa : Vec F (shp .sa) .f32}
  {ob : Vec F (shp .ob) .f32}

theorem Tld_a0 {r : Rect (shp .a0)} {hl : (mr .a0).view.LoadsAt r.toLoadRect}
    {k : Vec F r.shape .f32 → Prog (TpuEff nD τ sig (Elt F) Λ₀ (V d cc jj).2) α} {Q : α → St F → Prop}
    (h : T d cc jj R ⟨a0, a1, a2, a3, st, mf, m4, mt, rd, sa, ob⟩ (k (ldr r a0)) Q) : T d cc jj R ⟨a0, a1, a2, a3, st, mf, m4, mt, rd, sa, ob⟩ (Prog.lift (.load (mr .a0) r.toLoadRect hl) >>= k) Q :=
  T_ld .a0 h

theorem Tst_a0 {r : Rect (shp .a0)} {w : Vec F r.shape .f32} {hx : ((mr .a0).access r).Stores Finset.univ}
    {hm : (Finset.univ : Finset r.shape.Idx) = Finset.univ ∨ ∀ a, r.stride a = 1}
    {k : PUnit → Prog (TpuEff nD τ sig (Elt F) Λ₀ (V d cc jj).2) α} {Q : α → St F → Prop}
    (h : T d cc jj R ⟨wr r w a0, a1, a2, a3, st, mf, m4, mt, rd, sa, ob⟩ (k ⟨⟩) Q) : T d cc jj R ⟨a0, a1, a2, a3, st, mf, m4, mt, rd, sa, ob⟩ (Prog.lift (.store (mr .a0) r w Finset.univ hx hm) >>= k) Q :=
  T_st .a0 h

theorem Tgat_a0 {idx : IVec S16 32} {h : ∀ a x, ((![idx] : Fin 1 → IVec S16 32) a x).toNat < (shp .a0).size a}
    {hl : (mr .a0).view.Loads} {k : Vec F S16 .f32 → Prog (TpuEff nD τ sig (Elt F) Λ₀ (V d cc jj).2) α} {Q : α → St F → Prop}
    (hk : T d cc jj R ⟨a0, a1, a2, a3, st, mf, m4, mt, rd, sa, ob⟩ (k (gat a0 idx)) Q) : T d cc jj R ⟨a0, a1, a2, a3, st, mf, m4, mt, rd, sa, ob⟩ (SparseCore.vectorLoadIdx (mr .a0) ![idx] h hl >>= k) Q :=
  T_gat .a0 (by
    have e := loadIdx_gat a0 idx h
    rw [← e] at hk
    exact hk)

theorem Tsca_a0 {idx : IVec S16 32} {v : Vec F S16 .f32} {h : ∀ a x, ((![idx] : Fin 1 → IVec S16 32) a x).toNat < (shp .a0).size a}
    {hs : ((mr .a0).access (.whole (shp .a0))).Stores Finset.univ}
    {k : PUnit → Prog (TpuEff nD τ sig (Elt F) Λ₀ (V d cc jj).2) α} {Q : α → St F → Prop}
    (hk : T d cc jj R ⟨sadd idx v a0, a1, a2, a3, st, mf, m4, mt, rd, sa, ob⟩ (k ⟨⟩) Q) :
    T d cc jj R ⟨a0, a1, a2, a3, st, mf, m4, mt, rd, sa, ob⟩ (SparseCore.vectorStoreIdx (mr .a0) ![idx] v (fun _ => 1#1) true h hs >>= k) Q :=
  T_sca .a0 (by
    have e := storeIdx_sadd idx v a0 h
    rw [← e] at hk
    exact hk)

theorem Tld_a1 {r : Rect (shp .a1)} {hl : (mr .a1).view.LoadsAt r.toLoadRect}
    {k : Vec F r.shape .f32 → Prog (TpuEff nD τ sig (Elt F) Λ₀ (V d cc jj).2) α} {Q : α → St F → Prop}
    (h : T d cc jj R ⟨a0, a1, a2, a3, st, mf, m4, mt, rd, sa, ob⟩ (k (ldr r a1)) Q) : T d cc jj R ⟨a0, a1, a2, a3, st, mf, m4, mt, rd, sa, ob⟩ (Prog.lift (.load (mr .a1) r.toLoadRect hl) >>= k) Q :=
  T_ld .a1 h

theorem Tst_a1 {r : Rect (shp .a1)} {w : Vec F r.shape .f32} {hx : ((mr .a1).access r).Stores Finset.univ}
    {hm : (Finset.univ : Finset r.shape.Idx) = Finset.univ ∨ ∀ a, r.stride a = 1}
    {k : PUnit → Prog (TpuEff nD τ sig (Elt F) Λ₀ (V d cc jj).2) α} {Q : α → St F → Prop}
    (h : T d cc jj R ⟨a0, wr r w a1, a2, a3, st, mf, m4, mt, rd, sa, ob⟩ (k ⟨⟩) Q) : T d cc jj R ⟨a0, a1, a2, a3, st, mf, m4, mt, rd, sa, ob⟩ (Prog.lift (.store (mr .a1) r w Finset.univ hx hm) >>= k) Q :=
  T_st .a1 h

theorem Tgat_a1 {idx : IVec S16 32} {h : ∀ a x, ((![idx] : Fin 1 → IVec S16 32) a x).toNat < (shp .a1).size a}
    {hl : (mr .a1).view.Loads} {k : Vec F S16 .f32 → Prog (TpuEff nD τ sig (Elt F) Λ₀ (V d cc jj).2) α} {Q : α → St F → Prop}
    (hk : T d cc jj R ⟨a0, a1, a2, a3, st, mf, m4, mt, rd, sa, ob⟩ (k (gat a1 idx)) Q) : T d cc jj R ⟨a0, a1, a2, a3, st, mf, m4, mt, rd, sa, ob⟩ (SparseCore.vectorLoadIdx (mr .a1) ![idx] h hl >>= k) Q :=
  T_gat .a1 (by
    have e := loadIdx_gat a1 idx h
    rw [← e] at hk
    exact hk)

theorem Tsca_a1 {idx : IVec S16 32} {v : Vec F S16 .f32} {h : ∀ a x, ((![idx] : Fin 1 → IVec S16 32) a x).toNat < (shp .a1).size a}
    {hs : ((mr .a1).access (.whole (shp .a1))).Stores Finset.univ}
    {k : PUnit → Prog (TpuEff nD τ sig (Elt F) Λ₀ (V d cc jj).2) α} {Q : α → St F → Prop}
    (hk : T d cc jj R ⟨a0, sadd idx v a1, a2, a3, st, mf, m4, mt, rd, sa, ob⟩ (k ⟨⟩) Q) :
    T d cc jj R ⟨a0, a1, a2, a3, st, mf, m4, mt, rd, sa, ob⟩ (SparseCore.vectorStoreIdx (mr .a1) ![idx] v (fun _ => 1#1) true h hs >>= k) Q :=
  T_sca .a1 (by
    have e := storeIdx_sadd idx v a1 h
    rw [← e] at hk
    exact hk)

theorem Tld_a2 {r : Rect (shp .a2)} {hl : (mr .a2).view.LoadsAt r.toLoadRect}
    {k : Vec F r.shape .f32 → Prog (TpuEff nD τ sig (Elt F) Λ₀ (V d cc jj).2) α} {Q : α → St F → Prop}
    (h : T d cc jj R ⟨a0, a1, a2, a3, st, mf, m4, mt, rd, sa, ob⟩ (k (ldr r a2)) Q) : T d cc jj R ⟨a0, a1, a2, a3, st, mf, m4, mt, rd, sa, ob⟩ (Prog.lift (.load (mr .a2) r.toLoadRect hl) >>= k) Q :=
  T_ld .a2 h

theorem Tst_a2 {r : Rect (shp .a2)} {w : Vec F r.shape .f32} {hx : ((mr .a2).access r).Stores Finset.univ}
    {hm : (Finset.univ : Finset r.shape.Idx) = Finset.univ ∨ ∀ a, r.stride a = 1}
    {k : PUnit → Prog (TpuEff nD τ sig (Elt F) Λ₀ (V d cc jj).2) α} {Q : α → St F → Prop}
    (h : T d cc jj R ⟨a0, a1, wr r w a2, a3, st, mf, m4, mt, rd, sa, ob⟩ (k ⟨⟩) Q) : T d cc jj R ⟨a0, a1, a2, a3, st, mf, m4, mt, rd, sa, ob⟩ (Prog.lift (.store (mr .a2) r w Finset.univ hx hm) >>= k) Q :=
  T_st .a2 h

theorem Tgat_a2 {idx : IVec S16 32} {h : ∀ a x, ((![idx] : Fin 1 → IVec S16 32) a x).toNat < (shp .a2).size a}
    {hl : (mr .a2).view.Loads} {k : Vec F S16 .f32 → Prog (TpuEff nD τ sig (Elt F) Λ₀ (V d cc jj).2) α} {Q : α → St F → Prop}
    (hk : T d cc jj R ⟨a0, a1, a2, a3, st, mf, m4, mt, rd, sa, ob⟩ (k (gat a2 idx)) Q) : T d cc jj R ⟨a0, a1, a2, a3, st, mf, m4, mt, rd, sa, ob⟩ (SparseCore.vectorLoadIdx (mr .a2) ![idx] h hl >>= k) Q :=
  T_gat .a2 (by
    have e := loadIdx_gat a2 idx h
    rw [← e] at hk
    exact hk)

theorem Tsca_a2 {idx : IVec S16 32} {v : Vec F S16 .f32} {h : ∀ a x, ((![idx] : Fin 1 → IVec S16 32) a x).toNat < (shp .a2).size a}
    {hs : ((mr .a2).access (.whole (shp .a2))).Stores Finset.univ}
    {k : PUnit → Prog (TpuEff nD τ sig (Elt F) Λ₀ (V d cc jj).2) α} {Q : α → St F → Prop}
    (hk : T d cc jj R ⟨a0, a1, sadd idx v a2, a3, st, mf, m4, mt, rd, sa, ob⟩ (k ⟨⟩) Q) :
    T d cc jj R ⟨a0, a1, a2, a3, st, mf, m4, mt, rd, sa, ob⟩ (SparseCore.vectorStoreIdx (mr .a2) ![idx] v (fun _ => 1#1) true h hs >>= k) Q :=
  T_sca .a2 (by
    have e := storeIdx_sadd idx v a2 h
    rw [← e] at hk
    exact hk)

theorem Tld_a3 {r : Rect (shp .a3)} {hl : (mr .a3).view.LoadsAt r.toLoadRect}
    {k : Vec F r.shape .f32 → Prog (TpuEff nD τ sig (Elt F) Λ₀ (V d cc jj).2) α} {Q : α → St F → Prop}
    (h : T d cc jj R ⟨a0, a1, a2, a3, st, mf, m4, mt, rd, sa, ob⟩ (k (ldr r a3)) Q) : T d cc jj R ⟨a0, a1, a2, a3, st, mf, m4, mt, rd, sa, ob⟩ (Prog.lift (.load (mr .a3) r.toLoadRect hl) >>= k) Q :=
  T_ld .a3 h

theorem Tst_a3 {r : Rect (shp .a3)} {w : Vec F r.shape .f32} {hx : ((mr .a3).access r).Stores Finset.univ}
    {hm : (Finset.univ : Finset r.shape.Idx) = Finset.univ ∨ ∀ a, r.stride a = 1}
    {k : PUnit → Prog (TpuEff nD τ sig (Elt F) Λ₀ (V d cc jj).2) α} {Q : α → St F → Prop}
    (h : T d cc jj R ⟨a0, a1, a2, wr r w a3, st, mf, m4, mt, rd, sa, ob⟩ (k ⟨⟩) Q) : T d cc jj R ⟨a0, a1, a2, a3, st, mf, m4, mt, rd, sa, ob⟩ (Prog.lift (.store (mr .a3) r w Finset.univ hx hm) >>= k) Q :=
  T_st .a3 h

theorem Tgat_a3 {idx : IVec S16 32} {h : ∀ a x, ((![idx] : Fin 1 → IVec S16 32) a x).toNat < (shp .a3).size a}
    {hl : (mr .a3).view.Loads} {k : Vec F S16 .f32 → Prog (TpuEff nD τ sig (Elt F) Λ₀ (V d cc jj).2) α} {Q : α → St F → Prop}
    (hk : T d cc jj R ⟨a0, a1, a2, a3, st, mf, m4, mt, rd, sa, ob⟩ (k (gat a3 idx)) Q) : T d cc jj R ⟨a0, a1, a2, a3, st, mf, m4, mt, rd, sa, ob⟩ (SparseCore.vectorLoadIdx (mr .a3) ![idx] h hl >>= k) Q :=
  T_gat .a3 (by
    have e := loadIdx_gat a3 idx h
    rw [← e] at hk
    exact hk)

theorem Tsca_a3 {idx : IVec S16 32} {v : Vec F S16 .f32} {h : ∀ a x, ((![idx] : Fin 1 → IVec S16 32) a x).toNat < (shp .a3).size a}
    {hs : ((mr .a3).access (.whole (shp .a3))).Stores Finset.univ}
    {k : PUnit → Prog (TpuEff nD τ sig (Elt F) Λ₀ (V d cc jj).2) α} {Q : α → St F → Prop}
    (hk : T d cc jj R ⟨a0, a1, a2, sadd idx v a3, st, mf, m4, mt, rd, sa, ob⟩ (k ⟨⟩) Q) :
    T d cc jj R ⟨a0, a1, a2, a3, st, mf, m4, mt, rd, sa, ob⟩ (SparseCore.vectorStoreIdx (mr .a3) ![idx] v (fun _ => 1#1) true h hs >>= k) Q :=
  T_sca .a3 (by
    have e := storeIdx_sadd idx v a3 h
    rw [← e] at hk
    exact hk)

theorem Tld_st {r : Rect (shp .st)} {hl : (mr .st).view.LoadsAt r.toLoadRect}
    {k : Vec F r.shape .f32 → Prog (TpuEff nD τ sig (Elt F) Λ₀ (V d cc jj).2) α} {Q : α → St F → Prop}
    (h : T d cc jj R ⟨a0, a1, a2, a3, st, mf, m4, mt, rd, sa, ob⟩ (k (ldr r st)) Q) : T d cc jj R ⟨a0, a1, a2, a3, st, mf, m4, mt, rd, sa, ob⟩ (Prog.lift (.load (mr .st) r.toLoadRect hl) >>= k) Q :=
  T_ld .st h

theorem Tst_st {r : Rect (shp .st)} {w : Vec F r.shape .f32} {hx : ((mr .st).access r).Stores Finset.univ}
    {hm : (Finset.univ : Finset r.shape.Idx) = Finset.univ ∨ ∀ a, r.stride a = 1}
    {k : PUnit → Prog (TpuEff nD τ sig (Elt F) Λ₀ (V d cc jj).2) α} {Q : α → St F → Prop}
    (h : T d cc jj R ⟨a0, a1, a2, a3, wr r w st, mf, m4, mt, rd, sa, ob⟩ (k ⟨⟩) Q) : T d cc jj R ⟨a0, a1, a2, a3, st, mf, m4, mt, rd, sa, ob⟩ (Prog.lift (.store (mr .st) r w Finset.univ hx hm) >>= k) Q :=
  T_st .st h

theorem Tgat_st {idx : IVec S16 32} {h : ∀ a x, ((![idx] : Fin 1 → IVec S16 32) a x).toNat < (shp .st).size a}
    {hl : (mr .st).view.Loads} {k : Vec F S16 .f32 → Prog (TpuEff nD τ sig (Elt F) Λ₀ (V d cc jj).2) α} {Q : α → St F → Prop}
    (hk : T d cc jj R ⟨a0, a1, a2, a3, st, mf, m4, mt, rd, sa, ob⟩ (k (gat st idx)) Q) : T d cc jj R ⟨a0, a1, a2, a3, st, mf, m4, mt, rd, sa, ob⟩ (SparseCore.vectorLoadIdx (mr .st) ![idx] h hl >>= k) Q :=
  T_gat .st (by
    have e := loadIdx_gat st idx h
    rw [← e] at hk
    exact hk)

theorem Tld_mf {r : Rect (shp .mf)} {hl : (mr .mf).view.LoadsAt r.toLoadRect}
    {k : Vec F r.shape .f32 → Prog (TpuEff nD τ sig (Elt F) Λ₀ (V d cc jj).2) α} {Q : α → St F → Prop}
    (h : T d cc jj R ⟨a0, a1, a2, a3, st, mf, m4, mt, rd, sa, ob⟩ (k (ldr r mf)) Q) : T d cc jj R ⟨a0, a1, a2, a3, st, mf, m4, mt, rd, sa, ob⟩ (Prog.lift (.load (mr .mf) r.toLoadRect hl) >>= k) Q :=
  T_ld .mf h

theorem Tst_mf {r : Rect (shp .mf)} {w : Vec F r.shape .f32} {hx : ((mr .mf).access r).Stores Finset.univ}
    {hm : (Finset.univ : Finset r.shape.Idx) = Finset.univ ∨ ∀ a, r.stride a = 1}
    {k : PUnit → Prog (TpuEff nD τ sig (Elt F) Λ₀ (V d cc jj).2) α} {Q : α → St F → Prop}
    (h : T d cc jj R ⟨a0, a1, a2, a3, st, wr r w mf, m4, mt, rd, sa, ob⟩ (k ⟨⟩) Q) : T d cc jj R ⟨a0, a1, a2, a3, st, mf, m4, mt, rd, sa, ob⟩ (Prog.lift (.store (mr .mf) r w Finset.univ hx hm) >>= k) Q :=
  T_st .mf h

theorem Tgat_mf {idx : IVec S16 32} {h : ∀ a x, ((![idx] : Fin 1 → IVec S16 32) a x).toNat < (shp .mf).size a}
    {hl : (mr .mf).view.Loads} {k : Vec F S16 .f32 → Prog (TpuEff nD τ sig (Elt F) Λ₀ (V d cc jj).2) α} {Q : α → St F → Prop}
    (hk : T d cc jj R ⟨a0, a1, a2, a3, st, mf, m4, mt, rd, sa, ob⟩ (k (gat mf idx)) Q) : T d cc jj R ⟨a0, a1, a2, a3, st, mf, m4, mt, rd, sa, ob⟩ (SparseCore.vectorLoadIdx (mr .mf) ![idx] h hl >>= k) Q :=
  T_gat .mf (by
    have e := loadIdx_gat mf idx h
    rw [← e] at hk
    exact hk)

theorem Tld_m4 {r : Rect (shp .m4)} {hl : (mr .m4).view.LoadsAt r.toLoadRect}
    {k : Vec F r.shape .f32 → Prog (TpuEff nD τ sig (Elt F) Λ₀ (V d cc jj).2) α} {Q : α → St F → Prop}
    (h : T d cc jj R ⟨a0, a1, a2, a3, st, mf, m4, mt, rd, sa, ob⟩ (k (ldr r m4)) Q) : T d cc jj R ⟨a0, a1, a2, a3, st, mf, m4, mt, rd, sa, ob⟩ (Prog.lift (.load (mr .m4) r.toLoadRect hl) >>= k) Q :=
  T_ld .m4 h

theorem Tst_m4 {r : Rect (shp .m4)} {w : Vec F r.shape .f32} {hx : ((mr .m4).access r).Stores Finset.univ}
    {hm : (Finset.univ : Finset r.shape.Idx) = Finset.univ ∨ ∀ a, r.stride a = 1}
    {k : PUnit → Prog (TpuEff nD τ sig (Elt F) Λ₀ (V d cc jj).2) α} {Q : α → St F → Prop}
    (h : T d cc jj R ⟨a0, a1, a2, a3, st, mf, wr r w m4, mt, rd, sa, ob⟩ (k ⟨⟩) Q) : T d cc jj R ⟨a0, a1, a2, a3, st, mf, m4, mt, rd, sa, ob⟩ (Prog.lift (.store (mr .m4) r w Finset.univ hx hm) >>= k) Q :=
  T_st .m4 h

theorem Tgat_m4 {idx : IVec S16 32} {h : ∀ a x, ((![idx] : Fin 1 → IVec S16 32) a x).toNat < (shp .m4).size a}
    {hl : (mr .m4).view.Loads} {k : Vec F S16 .f32 → Prog (TpuEff nD τ sig (Elt F) Λ₀ (V d cc jj).2) α} {Q : α → St F → Prop}
    (hk : T d cc jj R ⟨a0, a1, a2, a3, st, mf, m4, mt, rd, sa, ob⟩ (k (gat m4 idx)) Q) : T d cc jj R ⟨a0, a1, a2, a3, st, mf, m4, mt, rd, sa, ob⟩ (SparseCore.vectorLoadIdx (mr .m4) ![idx] h hl >>= k) Q :=
  T_gat .m4 (by
    have e := loadIdx_gat m4 idx h
    rw [← e] at hk
    exact hk)

theorem Tld_mt {r : Rect (shp .mt)} {hl : (mr .mt).view.LoadsAt r.toLoadRect}
    {k : Vec F r.shape .f32 → Prog (TpuEff nD τ sig (Elt F) Λ₀ (V d cc jj).2) α} {Q : α → St F → Prop}
    (h : T d cc jj R ⟨a0, a1, a2, a3, st, mf, m4, mt, rd, sa, ob⟩ (k (ldr r mt)) Q) : T d cc jj R ⟨a0, a1, a2, a3, st, mf, m4, mt, rd, sa, ob⟩ (Prog.lift (.load (mr .mt) r.toLoadRect hl) >>= k) Q :=
  T_ld .mt h

theorem Tst_mt {r : Rect (shp .mt)} {w : Vec F r.shape .f32} {hx : ((mr .mt).access r).Stores Finset.univ}
    {hm : (Finset.univ : Finset r.shape.Idx) = Finset.univ ∨ ∀ a, r.stride a = 1}
    {k : PUnit → Prog (TpuEff nD τ sig (Elt F) Λ₀ (V d cc jj).2) α} {Q : α → St F → Prop}
    (h : T d cc jj R ⟨a0, a1, a2, a3, st, mf, m4, wr r w mt, rd, sa, ob⟩ (k ⟨⟩) Q) : T d cc jj R ⟨a0, a1, a2, a3, st, mf, m4, mt, rd, sa, ob⟩ (Prog.lift (.store (mr .mt) r w Finset.univ hx hm) >>= k) Q :=
  T_st .mt h

theorem Tgat_mt {idx : IVec S16 32} {h : ∀ a x, ((![idx] : Fin 1 → IVec S16 32) a x).toNat < (shp .mt).size a}
    {hl : (mr .mt).view.Loads} {k : Vec F S16 .f32 → Prog (TpuEff nD τ sig (Elt F) Λ₀ (V d cc jj).2) α} {Q : α → St F → Prop}
    (hk : T d cc jj R ⟨a0, a1, a2, a3, st, mf, m4, mt, rd, sa, ob⟩ (k (gat mt idx)) Q) : T d cc jj R ⟨a0, a1, a2, a3, st, mf, m4, mt, rd, sa, ob⟩ (SparseCore.vectorLoadIdx (mr .mt) ![idx] h hl >>= k) Q :=
  T_gat .mt (by
    have e := loadIdx_gat mt idx h
    rw [← e] at hk
    exact hk)

theorem Tld_rd {r : Rect (shp .rd)} {hl : (mr .rd).view.LoadsAt r.toLoadRect}
    {k : Vec F r.shape .f32 → Prog (TpuEff nD τ sig (Elt F) Λ₀ (V d cc jj).2) α} {Q : α → St F → Prop}
    (h : T d cc jj R ⟨a0, a1, a2, a3, st, mf, m4, mt, rd, sa, ob⟩ (k (ldr r rd)) Q) : T d cc jj R ⟨a0, a1, a2, a3, st, mf, m4, mt, rd, sa, ob⟩ (Prog.lift (.load (mr .rd) r.toLoadRect hl) >>= k) Q :=
  T_ld .rd h

theorem Tst_rd {r : Rect (shp .rd)} {w : Vec F r.shape .f32} {hx : ((mr .rd).access r).Stores Finset.univ}
    {hm : (Finset.univ : Finset r.shape.Idx) = Finset.univ ∨ ∀ a, r.stride a = 1}
    {k : PUnit → Prog (TpuEff nD τ sig (Elt F) Λ₀ (V d cc jj).2) α} {Q : α → St F → Prop}
    (h : T d cc jj R ⟨a0, a1, a2, a3, st, mf, m4, mt, wr r w rd, sa, ob⟩ (k ⟨⟩) Q) : T d cc jj R ⟨a0, a1, a2, a3, st, mf, m4, mt, rd, sa, ob⟩ (Prog.lift (.store (mr .rd) r w Finset.univ hx hm) >>= k) Q :=
  T_st .rd h

theorem Tgat_rd {idx : IVec S16 32} {h : ∀ a x, ((![idx] : Fin 1 → IVec S16 32) a x).toNat < (shp .rd).size a}
    {hl : (mr .rd).view.Loads} {k : Vec F S16 .f32 → Prog (TpuEff nD τ sig (Elt F) Λ₀ (V d cc jj).2) α} {Q : α → St F → Prop}
    (hk : T d cc jj R ⟨a0, a1, a2, a3, st, mf, m4, mt, rd, sa, ob⟩ (k (gat rd idx)) Q) : T d cc jj R ⟨a0, a1, a2, a3, st, mf, m4, mt, rd, sa, ob⟩ (SparseCore.vectorLoadIdx (mr .rd) ![idx] h hl >>= k) Q :=
  T_gat .rd (by
    have e := loadIdx_gat rd idx h
    rw [← e] at hk
    exact hk)

theorem Tld_sa {r : Rect (shp .sa)} {hl : (mr .sa).view.LoadsAt r.toLoadRect}
    {k : Vec F r.shape .f32 → Prog (TpuEff nD τ sig (Elt F) Λ₀ (V d cc jj).2) α} {Q : α → St F → Prop}
    (h : T d cc jj R ⟨a0, a1, a2, a3, st, mf, m4, mt, rd, sa, ob⟩ (k (ldr r sa)) Q) : T d cc jj R ⟨a0, a1, a2, a3, st, mf, m4, mt, rd, sa, ob⟩ (Prog.lift (.load (mr .sa) r.toLoadRect hl) >>= k) Q :=
  T_ld .sa h

theorem Tst_sa {r : Rect (shp .sa)} {w : Vec F r.shape .f32} {hx : ((mr .sa).access r).Stores Finset.univ}
    {hm : (Finset.univ : Finset r.shape.Idx) = Finset.univ ∨ ∀ a, r.stride a = 1}
    {k : PUnit → Prog (TpuEff nD τ sig (Elt F) Λ₀ (V d cc jj).2) α} {Q : α → St F → Prop}
    (h : T d cc jj R ⟨a0, a1, a2, a3, st, mf, m4, mt, rd, wr r w sa, ob⟩ (k ⟨⟩) Q) : T d cc jj R ⟨a0, a1, a2, a3, st, mf, m4, mt, rd, sa, ob⟩ (Prog.lift (.store (mr .sa) r w Finset.univ hx hm) >>= k) Q :=
  T_st .sa h

theorem Tld_ob {r : Rect (shp .ob)} {hl : (mr .ob).view.LoadsAt r.toLoadRect}
    {k : Vec F r.shape .f32 → Prog (TpuEff nD τ sig (Elt F) Λ₀ (V d cc jj).2) α} {Q : α → St F → Prop}
    (h : T d cc jj R ⟨a0, a1, a2, a3, st, mf, m4, mt, rd, sa, ob⟩ (k (ldr r ob)) Q) : T d cc jj R ⟨a0, a1, a2, a3, st, mf, m4, mt, rd, sa, ob⟩ (Prog.lift (.load (mr .ob) r.toLoadRect hl) >>= k) Q :=
  T_ld .ob h

theorem Tst_ob {r : Rect (shp .ob)} {w : Vec F r.shape .f32} {hx : ((mr .ob).access r).Stores Finset.univ}
    {hm : (Finset.univ : Finset r.shape.Idx) = Finset.univ ∨ ∀ a, r.stride a = 1}
    {k : PUnit → Prog (TpuEff nD τ sig (Elt F) Λ₀ (V d cc jj).2) α} {Q : α → St F → Prop}
    (h : T d cc jj R ⟨a0, a1, a2, a3, st, mf, m4, mt, rd, sa, wr r w ob⟩ (k ⟨⟩) Q) : T d cc jj R ⟨a0, a1, a2, a3, st, mf, m4, mt, rd, sa, ob⟩ (Prog.lift (.store (mr .ob) r w Finset.univ hx hm) >>= k) Q :=
  T_st .ob h

end Tile

end Cert.Proof.Embed
-- ==== Proof.Loops.lean ====
/-
  The loops that rewrite a whole buffer in blocks of sixteen: zeroing the accumulators, merging them into the staging
  row, and writing each mean four times.
-/
module

public import proofs.«01_k».proof.Proof.Steps

@[expose] public section

set_option maxRecDepth 16384

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 3) (Elt F) ℕ UU ℕ

/-- The SparseCore and the tile that a grid point runs on. -/
abbrev cV (i : grid0.Coords) : Fin τ.nSC := Fin.castLE hcore0 (i 0)
abbrev jV (i : grid0.Coords) : Fin τ.nSub := Fin.castLE hsub0 (i 1)

/-! ## Buffers rewritten in blocks of sixteen -/

/-- A flat buffer whose first `n` blocks of sixteen are the blocks of `W`. -/
def blk {N : ℕ} (W : ℕ → Vec F S16 .f32) (n : ℕ) (f : Vec F ⟨1, ![N]⟩ .f32) : Vec F ⟨1, ![N]⟩ .f32 :=
  fun i => if (i 0).val < 16 * n then nv (W ((i 0).val / 16)) ((i 0).val % 16) else f i

/-- A flat buffer that is the blocks of `W`. -/
def full {N : ℕ} (W : ℕ → Vec F S16 .f32) : Vec F ⟨1, ![N]⟩ .f32 := fun i => nv (W ((i 0).val / 16)) ((i 0).val % 16)

theorem blk_zero {N : ℕ} (W : ℕ → Vec F S16 .f32) (f : Vec F ⟨1, ![N]⟩ .f32) : blk W 0 f = f := by
  funext i
  exact if_neg (by omega)

theorem blk_full {N n : ℕ} {W : ℕ → Vec F S16 .f32} {f : Vec F ⟨1, ![N]⟩ .f32} (h : N ≤ 16 * n) : blk W n f = full W := by
  funext i
  exact if_pos (lt_of_lt_of_le (i 0).isLt h)

/-- A rectangle of sixteen rewritten, read at an index. -/
theorem wr_apply {N n : ℕ} {off : Fin 1 → ℕ} {inb : ∀ a, off a + S16.size a ≤ (⟨1, ![N]⟩ : Shape).size a} (w : Vec F S16 .f32)
    (ho : off = ![n]) (f : Vec F ⟨1, ![N]⟩ .f32) (i : (⟨1, ![N]⟩ : Shape).Idx) :
    wr (Rect.unit (s := ⟨1, ![N]⟩) off S16.size inb) w f i = if n ≤ (i 0).val ∧ (i 0).val < n + 16 then nv w ((i 0).val - n) else f i := by
  subst ho
  split_ifs with h
  · have hi : (Rect.unit (s := ⟨1, ![N]⟩) ![n] S16.size inb).emb (ixm 16 ((i 0).val - n)) = i := by
      funext a
      rw [Fin.eq_zero a]
      apply Fin.ext
      rw [Rect.emb_apply]
      show n + 1 * (((i 0).val - n) % 16) = (i 0).val
      rw [Nat.mod_eq_of_lt (by omega)]
      omega
    conv_lhs => rw [← hi]
    exact wr_emb _ _ _ _
  · refine wr_off _ _ _ _ fun x hx => h ?_
    have e : n + 1 * (x 0).val = (i 0).val := by
      rw [← hx]; rfl
    have := (x 0).isLt
    change (x 0).val < 16 at this
    omega

theorem wr_blk {N n : ℕ} {off : Fin 1 → ℕ} {inb : ∀ a, off a + S16.size a ≤ (⟨1, ![N]⟩ : Shape).size a} (W : ℕ → Vec F S16 .f32)
    (ho : off = ![16 * n]) (f : Vec F ⟨1, ![N]⟩ .f32) :
    wr (Rect.unit (s := ⟨1, ![N]⟩) off S16.size inb) (W n) (blk W n f) = blk W (n + 1) f := by
  funext i
  rw [wr_apply (W n) ho]
  unfold blk
  by_cases h1 : (i 0).val < 16 * n
  · rw [if_neg (by omega), if_pos h1, if_pos (by omega)]
  · by_cases h2 : (i 0).val < 16 * n + 16
    · rw [if_pos ⟨by omega, h2⟩, if_pos (by omega), show (i 0).val / 16 = n by omega, show (i 0).val - 16 * n = (i 0).val % 16 by omega]
    · rw [if_neg (by omega), if_neg h1, if_neg (by omega)]

/-! ## The constant vectors -/

/-- The sixteen lanes' numbers. -/
abbrev io : IVec S16 32 := iota .scVector S16 32 [0] iota_S16_d0_w32_scVector

/-! ## Zeroing the accumulators -/

theorem T_t1 {d : Dev nD} {R : sProp 𝕄} {i : grid0.Coords}
  {h2 : (Memref.whole main_v0_scv).IsWhole}
  {h3 : (Memref.whole main_v1_scv).IsWhole}
  {h4 : (Memref.whole main_v2_scv).IsWhole}
  {h5 : (Memref.whole cc0_scratch0).IsWhole}
  {h6 : (Memref.whole cc0_scratch1).IsWhole}
  {h7 : (Memref.whole cc0_scratch2).IsWhole}
  {h8 : (Memref.whole cc0_scratch3).IsWhole}
  {h9 : (Memref.whole cc0_scratch4).IsWhole}
  {h10 : (Memref.whole cc0_scratch5).IsWhole}
  {h11 : (Memref.whole cc0_scratch6).IsWhole}
  {h12 : (Memref.whole cc0_scratch7).IsWhole}
  {h13 : (Memref.whole cc0_scratch8).IsWhole}
  {h14 : (Memref.whole cc0_scratch9).IsWhole}
  {h15 : (Memref.whole cc0_scratch10).IsWhole}
  {h16 : (Memref.whole cc0_scratch11).IsWhole}
  {h17 : (Memref.whole cc0_scratch12).IsWhole}
  {h20 : (Memref.whole cc0_scratch15).IsWhole}
  {h21 : (Memref.whole cc0_scratch16).IsWhole}
  {hok : k0_t1_loop.OK} (σ : St F) :
    T d (cV i) (jV i) R σ (Scf.Loop.for k0_t1_loop hok 0#32 (k0_t1_body i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6))
      (fun r σ' => σ' = { σ with a0 := full (fun _ => k0_pay386), a1 := full (fun _ => k0_pay386), a2 := full (fun _ => k0_pay386), a3 := full (fun _ => k0_pay386) }) := by
  obtain ⟨a0, a1, a2, a3, st, mf, m4, mt, rd, sa, ob⟩ := σ
  refine T_forQ (fun k _ σ' => σ' = ⟨blk (fun _ => k0_pay386) k a0, blk (fun _ => k0_pay386) k a1, blk (fun _ => k0_pay386) k a2, blk (fun _ => k0_pay386) k a3, st, mf, m4, mt, rd, sa, ob⟩) (by simp only [blk_zero]) ?_ ?_
  · intro t a σ' h
    subst h
    unfold k0_t1_body
    refine Tld_a0 ?_
    refine Tst_a0 ?_
    refine Tld_a1 ?_
    refine Tst_a1 ?_
    refine Tld_a2 ?_
    refine Tst_a2 ?_
    refine Tld_a3 ?_
    refine Tst_a3 ?_
    refine T_pure ?_
    rw [wr_blk (fun _ => k0_pay386) (k0_off1_eq t), wr_blk (fun _ => k0_pay386) (k0_off1_eq t), wr_blk (fun _ => k0_pay386) (k0_off1_eq t),
      wr_blk (fun _ => k0_pay386) (k0_off1_eq t)]
  · rintro a σ' rfl
    rw [show k0_t1_loop.trips = 272 by decide +kernel, blk_full (by norm_num), blk_full (by norm_num), blk_full (by norm_num), blk_full (by norm_num)]

/-! ## Merging the four accumulators into the staging row -/

/-- The indices the merge reads at trip `t` and position `m`. -/
def mix (t : ℕ) (m : BitVec 32) : IVec S16 32 := addi (k0_pay392 io) (broadcast S16 (Scalar.addi (Scalar.muli (BitVec.ofNat 32 t) 64#32) m))

/-- The merged block of trip `t`. -/
def mrg (a0 a1 a2 a3 : Vec F S4352 .f32) (t : ℕ) : Vec F S16 .f32 :=
  k0_pay393 (k0_pay71 k0_pay386 (gat a0 (mix t 0#32)) (gat a1 (mix t 0#32)) (gat a2 (mix t 0#32)) (gat a3 (mix t 0#32))
      (gat a0 (mix t 1#32)) (gat a1 (mix t 1#32)) (gat a2 (mix t 1#32)) (gat a3 (mix t 1#32))
      (gat a0 (mix t 2#32)) (gat a1 (mix t 2#32)) (gat a2 (mix t 2#32)) (gat a3 (mix t 2#32)))
    (k0_pay73 (gat a0 (mix t 3#32)) (gat a1 (mix t 3#32)) (gat a2 (mix t 3#32)) (gat a3 (mix t 3#32)))

theorem iv01 (n : ℕ) : Scf.iv 0#32 1#32 n = BitVec.ofNat 32 n := by
  unfold Scf.iv
  rw [BitVec.mul_one, BitVec.zero_add]

theorem pay68_mix (t : Fin k0_t4_loop.trips) : k0_pay68 (k0_pay392 io) 0#32 1#32 t = mix t.val 0#32 := by
  unfold k0_pay68 mix
  simp only [iv01]
theorem pay69_mix (t : Fin k0_t4_loop.trips) : k0_pay69 (k0_pay392 io) 0#32 1#32 t = mix t.val 1#32 := by
  unfold k0_pay69 mix
  simp only [iv01]
theorem pay70_mix (t : Fin k0_t4_loop.trips) : k0_pay70 (k0_pay392 io) 0#32 1#32 t = mix t.val 2#32 := by
  unfold k0_pay70 mix
  simp only [iv01]
theorem pay72_mix (t : Fin k0_t4_loop.trips) : k0_pay72 (k0_pay392 io) 0#32 1#32 t = mix t.val 3#32 := by
  unfold k0_pay72 mix
  simp only [iv01]
theorem pay214_mix (t : Fin k0_t9_loop.trips) : k0_pay214 (k0_pay392 io) 0#32 1#32 t = mix t.val 0#32 := by
  unfold k0_pay214 mix
  simp only [iv01]
theorem pay215_mix (t : Fin k0_t9_loop.trips) : k0_pay215 (k0_pay392 io) 0#32 1#32 t = mix t.val 1#32 := by
  unfold k0_pay215 mix
  simp only [iv01]
theorem pay216_mix (t : Fin k0_t9_loop.trips) : k0_pay216 (k0_pay392 io) 0#32 1#32 t = mix t.val 2#32 := by
  unfold k0_pay216 mix
  simp only [iv01]
theorem pay218_mix (t : Fin k0_t9_loop.trips) : k0_pay218 (k0_pay392 io) 0#32 1#32 t = mix t.val 3#32 := by
  unfold k0_pay218 mix
  simp only [iv01]
theorem chk34 : ∀ t : Fin k0_t4_loop.trips, k0_chk34 (k0_pay68 (k0_pay392 io) 0#32 1#32 t) := by decide +kernel
theorem chk35 : ∀ t : Fin k0_t4_loop.trips, k0_chk35 (k0_pay69 (k0_pay392 io) 0#32 1#32 t) := by decide +kernel
theorem chk36 : ∀ t : Fin k0_t4_loop.trips, k0_chk36 (k0_pay70 (k0_pay392 io) 0#32 1#32 t) := by decide +kernel
theorem chk37 : ∀ t : Fin k0_t4_loop.trips, k0_chk37 (k0_pay72 (k0_pay392 io) 0#32 1#32 t) := by decide +kernel
theorem chk136 : ∀ t : Fin k0_t9_loop.trips, k0_chk136 (k0_pay214 (k0_pay392 io) 0#32 1#32 t) := by decide +kernel
theorem chk137 : ∀ t : Fin k0_t9_loop.trips, k0_chk137 (k0_pay215 (k0_pay392 io) 0#32 1#32 t) := by decide +kernel
theorem chk138 : ∀ t : Fin k0_t9_loop.trips, k0_chk138 (k0_pay216 (k0_pay392 io) 0#32 1#32 t) := by decide +kernel
theorem chk139 : ∀ t : Fin k0_t9_loop.trips, k0_chk139 (k0_pay218 (k0_pay392 io) 0#32 1#32 t) := by decide +kernel

theorem T_t4 {d : Dev nD} {R : sProp 𝕄} {i : grid0.Coords}
  {h2 : (Memref.whole main_v0_scv).IsWhole}
  {h3 : (Memref.whole main_v1_scv).IsWhole}
  {h4 : (Memref.whole main_v2_scv).IsWhole}
  {h5 : (Memref.whole cc0_scratch0).IsWhole}
  {h6 : (Memref.whole cc0_scratch1).IsWhole}
  {h7 : (Memref.whole cc0_scratch2).IsWhole}
  {h8 : (Memref.whole cc0_scratch3).IsWhole}
  {h9 : (Memref.whole cc0_scratch4).IsWhole}
  {h10 : (Memref.whole cc0_scratch5).IsWhole}
  {h11 : (Memref.whole cc0_scratch6).IsWhole}
  {h12 : (Memref.whole cc0_scratch7).IsWhole}
  {h13 : (Memref.whole cc0_scratch8).IsWhole}
  {h14 : (Memref.whole cc0_scratch9).IsWhole}
  {h15 : (Memref.whole cc0_scratch10).IsWhole}
  {h16 : (Memref.whole cc0_scratch11).IsWhole}
  {h17 : (Memref.whole cc0_scratch12).IsWhole}
  {h20 : (Memref.whole cc0_scratch15).IsWhole}
  {h21 : (Memref.whole cc0_scratch16).IsWhole}
  {arg1 v0 : BitVec 32} {v2 : FVec F S16 .f32} {v7 : IVec S16 32} {c16 c17 c18 : BitVec 32} {hok : k0_t4_loop.OK} (σ : St F) :
    T d (cV i) (jV i) R σ (Scf.Loop.for k0_t4_loop hok 0#32 (k0_t4_body i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 arg1 v0 k0_pay386 v2 io v7 c16 c17 c18))
      (fun r σ' => σ' = { σ with st := full (mrg σ.a0 σ.a1 σ.a2 σ.a3) }) := by
  obtain ⟨a0, a1, a2, a3, st, mf, m4, mt, rd, sa, ob⟩ := σ
  refine T_forQ (fun k _ σ' => σ' = ⟨a0, a1, a2, a3, blk (mrg a0 a1 a2 a3) k st, mf, m4, mt, rd, sa, ob⟩) (by rw [blk_zero]) ?_ ?_
  · intro t a σ' h
    subst h
    unfold k0_t4_body
    rw [k0_part7_eq_skeleton]
    unfold k0_part7_skel
    simp only [bind_assoc]
    refine T_assume (chk34 t) ?_
    refine Tgat_a0 ?_
    refine Tgat_a1 ?_
    refine Tgat_a2 ?_
    refine Tgat_a3 ?_
    refine T_assume (chk35 t) ?_
    refine Tgat_a0 ?_
    refine Tgat_a1 ?_
    refine Tgat_a2 ?_
    refine Tgat_a3 ?_
    refine T_assume (chk36 t) ?_
    refine Tgat_a0 ?_
    refine Tgat_a1 ?_
    refine Tgat_a2 ?_
    refine Tgat_a3 ?_
    refine T_assume (chk37 t) ?_
    refine Tgat_a0 ?_
    refine Tgat_a1 ?_
    refine Tgat_a2 ?_
    refine Tgat_a3 ?_
    refine Tld_st ?_
    refine Tst_st ?_
    refine T_pure ?_
    rw [← wr_blk (mrg a0 a1 a2 a3) (k0_off47_eq t)]
    unfold mrg
    rw [← pay68_mix t, ← pay69_mix t, ← pay70_mix t, ← pay72_mix t]
    all_goals rfl
  · rintro a σ' rfl
    rw [show k0_t4_loop.trips = 68 by decide +kernel, blk_full (by norm_num)]

theorem T_t9 {d : Dev nD} {R : sProp 𝕄} {i : grid0.Coords}
  {h2 : (Memref.whole main_v0_scv).IsWhole}
  {h3 : (Memref.whole main_v1_scv).IsWhole}
  {h4 : (Memref.whole main_v2_scv).IsWhole}
  {h5 : (Memref.whole cc0_scratch0).IsWhole}
  {h6 : (Memref.whole cc0_scratch1).IsWhole}
  {h7 : (Memref.whole cc0_scratch2).IsWhole}
  {h8 : (Memref.whole cc0_scratch3).IsWhole}
  {h9 : (Memref.whole cc0_scratch4).IsWhole}
  {h10 : (Memref.whole cc0_scratch5).IsWhole}
  {h11 : (Memref.whole cc0_scratch6).IsWhole}
  {h12 : (Memref.whole cc0_scratch7).IsWhole}
  {h13 : (Memref.whole cc0_scratch8).IsWhole}
  {h14 : (Memref.whole cc0_scratch9).IsWhole}
  {h15 : (Memref.whole cc0_scratch10).IsWhole}
  {h16 : (Memref.whole cc0_scratch11).IsWhole}
  {h17 : (Memref.whole cc0_scratch12).IsWhole}
  {h20 : (Memref.whole cc0_scratch15).IsWhole}
  {h21 : (Memref.whole cc0_scratch16).IsWhole}
   {hok : k0_t9_loop.OK} (σ : St F) :
    T d (cV i) (jV i) R σ (Scf.Loop.for k0_t9_loop hok 0#32 (k0_t9_body i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 k0_pay386 (k0_pay392 io)))
      (fun r σ' => σ' = { σ with st := full (mrg σ.a0 σ.a1 σ.a2 σ.a3) }) := by
  obtain ⟨a0, a1, a2, a3, st, mf, m4, mt, rd, sa, ob⟩ := σ
  refine T_forQ (fun k _ σ' => σ' = ⟨a0, a1, a2, a3, blk (mrg a0 a1 a2 a3) k st, mf, m4, mt, rd, sa, ob⟩) (by rw [blk_zero]) ?_ ?_
  · intro t a σ' h
    subst h
    unfold k0_t9_body
    rw [k0_part34_eq_skeleton]
    unfold k0_part34_skel
    simp only [bind_assoc]
    refine T_assume (chk136 t) ?_
    refine Tgat_a0 ?_
    refine Tgat_a1 ?_
    refine Tgat_a2 ?_
    refine Tgat_a3 ?_
    refine T_assume (chk137 t) ?_
    refine Tgat_a0 ?_
    refine Tgat_a1 ?_
    refine Tgat_a2 ?_
    refine Tgat_a3 ?_
    refine T_assume (chk138 t) ?_
    refine Tgat_a0 ?_
    refine Tgat_a1 ?_
    refine Tgat_a2 ?_
    refine Tgat_a3 ?_
    refine T_assume (chk139 t) ?_
    refine Tgat_a0 ?_
    refine Tgat_a1 ?_
    refine Tgat_a2 ?_
    refine Tgat_a3 ?_
    refine Tld_st ?_
    refine Tst_st ?_
    refine T_pure ?_
    rw [← wr_blk (mrg a0 a1 a2 a3) (k0_off110_eq t)]
    unfold mrg
    rw [← pay214_mix t, ← pay215_mix t, ← pay216_mix t, ← pay218_mix t]
    all_goals rfl
  · rintro a σ' rfl
    rw [show k0_t9_loop.trips = 68 by decide +kernel, blk_full (by norm_num)]

/-! ## Each mean four times -/

theorem chk102 : ∀ t : Fin k0_t6_loop.trips, k0_chk102 (k0_pay395 io t) := by decide +kernel

/-- The indices that trip `t` gathers at: each four times. -/
def rix (t : ℕ) : IVec S16 32 := shrui (addi io (broadcast S16 (Scalar.muli 16#32 (BitVec.ofNat 32 t)))) (broadcast S16 2#32)

theorem pay395_rix (t : Fin k0_t6_loop.trips) : k0_pay395 io t = rix t.val := by
  unfold k0_pay395 rix
  simp only [iv01]

theorem T_t6 {d : Dev nD} {R : sProp 𝕄} {i : grid0.Coords}
  {h2 : (Memref.whole main_v0_scv).IsWhole}
  {h3 : (Memref.whole main_v1_scv).IsWhole}
  {h4 : (Memref.whole main_v2_scv).IsWhole}
  {h5 : (Memref.whole cc0_scratch0).IsWhole}
  {h6 : (Memref.whole cc0_scratch1).IsWhole}
  {h7 : (Memref.whole cc0_scratch2).IsWhole}
  {h8 : (Memref.whole cc0_scratch3).IsWhole}
  {h9 : (Memref.whole cc0_scratch4).IsWhole}
  {h10 : (Memref.whole cc0_scratch5).IsWhole}
  {h11 : (Memref.whole cc0_scratch6).IsWhole}
  {h12 : (Memref.whole cc0_scratch7).IsWhole}
  {h13 : (Memref.whole cc0_scratch8).IsWhole}
  {h14 : (Memref.whole cc0_scratch9).IsWhole}
  {h15 : (Memref.whole cc0_scratch10).IsWhole}
  {h16 : (Memref.whole cc0_scratch11).IsWhole}
  {h17 : (Memref.whole cc0_scratch12).IsWhole}
  {h20 : (Memref.whole cc0_scratch15).IsWhole}
  {h21 : (Memref.whole cc0_scratch16).IsWhole}
  {arg1 v0 : BitVec 32} {v1 v2 : FVec F S16 .f32} {v7 : IVec S16 32} {c16 c17 c18 : BitVec 32} {hok : k0_t6_loop.OK} (σ : St F) :
    T d (cV i) (jV i) R σ (Scf.Loop.for k0_t6_loop hok 0#32 (k0_t6_body i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 arg1 v0 v1 v2 io v7 c16 c17 c18))
      (fun r σ' => σ' = { σ with m4 := full fun t => gat σ.mf (rix t) }) := by
  obtain ⟨a0, a1, a2, a3, st, mf, m4, mt, rd, sa, ob⟩ := σ
  refine T_forQ (fun k _ σ' => σ' = ⟨a0, a1, a2, a3, st, mf, blk (fun t => gat mf (rix t)) k m4, mt, rd, sa, ob⟩) (by rw [blk_zero]) ?_ ?_
  · intro t a σ' h
    subst h
    unfold k0_t6_body
    refine T_assume (chk102 t) ?_
    refine Tgat_mf ?_
    refine Tld_m4 ?_
    refine Tst_m4 ?_
    refine T_pure ?_
    rw [← wr_blk (fun t => gat mf (rix t)) (k0_off66_eq t), ← pay395_rix t]
  · rintro a σ' rfl
    rw [show k0_t6_loop.trips = 256 by decide +kernel, blk_full (by norm_num)]

end Cert.Proof.Embed
-- ==== Proof.Slots.lean ====
/-
  The two slots that the chunks of pixels and ids are fetched into, and the loads of a group of sixteen pixels out of one.
-/
module

public import proofs.«01_k».proof.Proof.Loops

@[expose] public section

set_option maxRecDepth 16384

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 3) (Elt F) ℕ UU ℕ

/-- One slot of the pixel buffer, and of the id buffer. -/
def slotX (s : ℕ) : Finset S2x32x1024.Idx := Finset.univ.filter fun p => (p 0).val = s
def slotI (s : ℕ) : Finset S2x1024.Idx := Finset.univ.filter fun p => (p 0).val = s

/-- The buffers' contents where a chunk's values (by channel and pixel) and ids (by pixel) are laid in a slot. -/
abbrev bufX (xs : ℕ → ℕ → F .f32) : Vec F S2x32x1024 .f32 := fun p => xs (p 1).val (p 2).val
abbrev bufI (ids : ℕ → BitVec 32) : S2x1024.Idx → BitVec 32 := fun p => ids (p 1).val

/-- A chunk in slot `s`: its values and its ids. -/
def chunk (d : Dev nD) (i : grid0.Coords) (s : ℕ) (xs : ℕ → ℕ → F .f32) (ids : ℕ → BitVec 32) : sProp 𝕄 :=
  iprop(((V d (cV i) (jV i)).loc cc0_scratch0 ↦[slotX s]{fullShare} bufX xs) ∗ (V d (cV i) (jV i)).loc cc0_scratch1 ↦[slotI s]{fullShare} bufI ids)

variable {d : Dev nD} {i : grid0.Coords} {σ : St F} {α : Type} {s : ℕ} {xs : ℕ → ℕ → F .f32} {ids : ℕ → BitVec 32}

theorem T_ldx {off : Fin 3 → ℕ} {inb : ∀ a, off a + S1x1x16.size a ≤ S2x32x1024.size a} {c g : ℕ} (ho : off = ![s, c, g])
    {hl : (Memref.whole cc0_scratch0 : Memref sig .scVector .vmem S2x32x1024 .f32).view.LoadsAt (Rect.unit (s := S2x32x1024) off S1x1x16.size inb).toLoadRect}
    {k : Vec F S1x1x16 .f32 → Prog (TpuEff nD τ sig (Elt F) Λ₀ (V d (cV i) (jV i)).2) α} {Q : α → St F → Prop}
    (h : T d (cV i) (jV i) (chunk d i s xs ids) σ (k fun j => xs c (g + (j 2).val)) Q) :
    T d (cV i) (jV i) (chunk d i s xs ids) σ
      (Prog.lift (.load (Memref.whole cc0_scratch0) (Rect.unit (s := S2x32x1024) off S1x1x16.size inb).toLoadRect hl) >>= k) Q := by
  refine T_ldR (Memref.whole cc0_scratch0) (slotX s) (bufX xs) ?_ ?_ ?_ h
  · unfold chunk
    iintro ⟨H1, H2⟩
    isplitl [H1]; · iexact H1
    iintro H1
    isplitl [H1]; · iexact H1
    iexact H2
  · subst ho
    intro p hp
    obtain ⟨q, hq, rfl⟩ := Finset.mem_map.mp hp
    obtain ⟨j, hj, e⟩ := (LoadRect.mem_set _).mp hq 0
    refine Finset.mem_filter.mpr ⟨Finset.mem_univ _, ?_⟩
    change j < 1 at hj
    change (q 0).val = s + 1 * j at e
    show (q 0).val = s
    omega
  · subst ho
    funext j
    have := (j 1).isLt
    change (j 1).val < 1 at this
    show xs (c + 1 * (j 1).val) (g + 1 * (j 2).val) = xs c (g + (j 2).val)
    congr 1 <;> omega

theorem T_ldi {off : Fin 2 → ℕ} {inb : ∀ a, off a + S1x16.size a ≤ S2x1024.size a} {g : ℕ} (ho : off = ![s, g])
    {hl : (Memref.whole cc0_scratch1 : Memref sig .scVector .vmem S2x1024 .i32).view.LoadsAt (Rect.unit (s := S2x1024) off S1x16.size inb).toLoadRect}
    {k : Vec F S1x16 .i32 → Prog (TpuEff nD τ sig (Elt F) Λ₀ (V d (cV i) (jV i)).2) α} {Q : α → St F → Prop}
    (h : T d (cV i) (jV i) (chunk d i s xs ids) σ (k fun j => ids (g + (j 1).val)) Q) :
    T d (cV i) (jV i) (chunk d i s xs ids) σ
      (Prog.lift (.load (Memref.whole cc0_scratch1) (Rect.unit (s := S2x1024) off S1x16.size inb).toLoadRect hl) >>= k) Q := by
  refine T_ldR (Memref.whole cc0_scratch1) (slotI s) (bufI ids) ?_ ?_ ?_ h
  · unfold chunk
    iintro ⟨H1, H2⟩
    isplitl [H2]; · iexact H2
    iintro H2
    isplitl [H1]; · iexact H1
    iexact H2
  · subst ho
    intro p hp
    obtain ⟨q, hq, rfl⟩ := Finset.mem_map.mp hp
    obtain ⟨j, hj, e⟩ := (LoadRect.mem_set _).mp hq 0
    refine Finset.mem_filter.mpr ⟨Finset.mem_univ _, ?_⟩
    change j < 1 at hj
    change (q 0).val = s + 1 * j at e
    show (q 0).val = s
    omega
  · subst ho
    funext j
    show ids (g + 1 * (j 1).val) = ids (g + (j 1).val)
    congr 1; omega

/-- A word of a trip's slot and group. -/
theorem off_slot (t : ℕ) (ht : t < 16) : (Scalar.indexCast (Scalar.andi (Scf.iv 0#32 1#32 t) 1#32)).toNat = t % 2 := by
  revert t; decide +kernel
theorem off_group (t : ℕ) (ht : t < 64) :
    (Scalar.indexCast (Scalar.muli (Scalar.addi 0#32 (Scalar.muli (Scf.iv 0#32 1#32 t) 1#32)) 16#32)).toNat = 16 * t := by
  revert t; decide +kernel

theorem lt2 (t : Fin k0_t2_loop.trips) : t.val < 16 := t.isLt.trans_eq (by decide +kernel)
theorem lt3 (t : Fin k0_t3_loop.trips) : t.val < 64 := t.isLt.trans_eq (by decide +kernel)
theorem lt7 (t : Fin k0_t7_loop.trips) : t.val < 16 := t.isLt.trans_eq (by decide +kernel)
theorem lt8 (t : Fin k0_t8_loop.trips) : t.val < 64 := t.isLt.trans_eq (by decide +kernel)

theorem off14_eq (t : Fin k0_t2_loop.trips) (g : Fin k0_t3_loop.trips) : k0_off14 t g = ![t.val % 2, 16 * g.val] := by
  unfold k0_off14
  simp only [off_slot _ (lt2 t), off_group _ (lt3 g)]
theorem off15_eq (t : Fin k0_t2_loop.trips) (g : Fin k0_t3_loop.trips) : k0_off15 t g = ![t.val % 2, 0, 16 * g.val] := by
  unfold k0_off15
  simp only [off_slot _ (lt2 t), off_group _ (lt3 g)]
theorem off16_eq (t : Fin k0_t2_loop.trips) (g : Fin k0_t3_loop.trips) : k0_off16 t g = ![t.val % 2, 1, 16 * g.val] := by
  unfold k0_off16
  simp only [off_slot _ (lt2 t), off_group _ (lt3 g)]
theorem off17_eq (t : Fin k0_t2_loop.trips) (g : Fin k0_t3_loop.trips) : k0_off17 t g = ![t.val % 2, 2, 16 * g.val] := by
  unfold k0_off17
  simp only [off_slot _ (lt2 t), off_group _ (lt3 g)]
theorem off18_eq (t : Fin k0_t2_loop.trips) (g : Fin k0_t3_loop.trips) : k0_off18 t g = ![t.val % 2, 3, 16 * g.val] := by
  unfold k0_off18
  simp only [off_slot _ (lt2 t), off_group _ (lt3 g)]
theorem off19_eq (t : Fin k0_t2_loop.trips) (g : Fin k0_t3_loop.trips) : k0_off19 t g = ![t.val % 2, 4, 16 * g.val] := by
  unfold k0_off19
  simp only [off_slot _ (lt2 t), off_group _ (lt3 g)]
theorem off20_eq (t : Fin k0_t2_loop.trips) (g : Fin k0_t3_loop.trips) : k0_off20 t g = ![t.val % 2, 5, 16 * g.val] := by
  unfold k0_off20
  simp only [off_slot _ (lt2 t), off_group _ (lt3 g)]
theorem off21_eq (t : Fin k0_t2_loop.trips) (g : Fin k0_t3_loop.trips) : k0_off21 t g = ![t.val % 2, 6, 16 * g.val] := by
  unfold k0_off21
  simp only [off_slot _ (lt2 t), off_group _ (lt3 g)]
theorem off22_eq (t : Fin k0_t2_loop.trips) (g : Fin k0_t3_loop.trips) : k0_off22 t g = ![t.val % 2, 7, 16 * g.val] := by
  unfold k0_off22
  simp only [off_slot _ (lt2 t), off_group _ (lt3 g)]
theorem off23_eq (t : Fin k0_t2_loop.trips) (g : Fin k0_t3_loop.trips) : k0_off23 t g = ![t.val % 2, 8, 16 * g.val] := by
  unfold k0_off23
  simp only [off_slot _ (lt2 t), off_group _ (lt3 g)]
theorem off24_eq (t : Fin k0_t2_loop.trips) (g : Fin k0_t3_loop.trips) : k0_off24 t g = ![t.val % 2, 9, 16 * g.val] := by
  unfold k0_off24
  simp only [off_slot _ (lt2 t), off_group _ (lt3 g)]
theorem off25_eq (t : Fin k0_t2_loop.trips) (g : Fin k0_t3_loop.trips) : k0_off25 t g = ![t.val % 2, 10, 16 * g.val] := by
  unfold k0_off25
  simp only [off_slot _ (lt2 t), off_group _ (lt3 g)]
theorem off26_eq (t : Fin k0_t2_loop.trips) (g : Fin k0_t3_loop.trips) : k0_off26 t g = ![t.val % 2, 11, 16 * g.val] := by
  unfold k0_off26
  simp only [off_slot _ (lt2 t), off_group _ (lt3 g)]
theorem off27_eq (t : Fin k0_t2_loop.trips) (g : Fin k0_t3_loop.trips) : k0_off27 t g = ![t.val % 2, 12, 16 * g.val] := by
  unfold k0_off27
  simp only [off_slot _ (lt2 t), off_group _ (lt3 g)]
theorem off28_eq (t : Fin k0_t2_loop.trips) (g : Fin k0_t3_loop.trips) : k0_off28 t g = ![t.val % 2, 13, 16 * g.val] := by
  unfold k0_off28
  simp only [off_slot _ (lt2 t), off_group _ (lt3 g)]
theorem off29_eq (t : Fin k0_t2_loop.trips) (g : Fin k0_t3_loop.trips) : k0_off29 t g = ![t.val % 2, 14, 16 * g.val] := by
  unfold k0_off29
  simp only [off_slot _ (lt2 t), off_group _ (lt3 g)]
theorem off30_eq (t : Fin k0_t2_loop.trips) (g : Fin k0_t3_loop.trips) : k0_off30 t g = ![t.val % 2, 15, 16 * g.val] := by
  unfold k0_off30
  simp only [off_slot _ (lt2 t), off_group _ (lt3 g)]
theorem off31_eq (t : Fin k0_t2_loop.trips) (g : Fin k0_t3_loop.trips) : k0_off31 t g = ![t.val % 2, 16, 16 * g.val] := by
  unfold k0_off31
  simp only [off_slot _ (lt2 t), off_group _ (lt3 g)]
theorem off32_eq (t : Fin k0_t2_loop.trips) (g : Fin k0_t3_loop.trips) : k0_off32 t g = ![t.val % 2, 17, 16 * g.val] := by
  unfold k0_off32
  simp only [off_slot _ (lt2 t), off_group _ (lt3 g)]
theorem off33_eq (t : Fin k0_t2_loop.trips) (g : Fin k0_t3_loop.trips) : k0_off33 t g = ![t.val % 2, 18, 16 * g.val] := by
  unfold k0_off33
  simp only [off_slot _ (lt2 t), off_group _ (lt3 g)]
theorem off34_eq (t : Fin k0_t2_loop.trips) (g : Fin k0_t3_loop.trips) : k0_off34 t g = ![t.val % 2, 19, 16 * g.val] := by
  unfold k0_off34
  simp only [off_slot _ (lt2 t), off_group _ (lt3 g)]
theorem off35_eq (t : Fin k0_t2_loop.trips) (g : Fin k0_t3_loop.trips) : k0_off35 t g = ![t.val % 2, 20, 16 * g.val] := by
  unfold k0_off35
  simp only [off_slot _ (lt2 t), off_group _ (lt3 g)]
theorem off36_eq (t : Fin k0_t2_loop.trips) (g : Fin k0_t3_loop.trips) : k0_off36 t g = ![t.val % 2, 21, 16 * g.val] := by
  unfold k0_off36
  simp only [off_slot _ (lt2 t), off_group _ (lt3 g)]
theorem off37_eq (t : Fin k0_t2_loop.trips) (g : Fin k0_t3_loop.trips) : k0_off37 t g = ![t.val % 2, 22, 16 * g.val] := by
  unfold k0_off37
  simp only [off_slot _ (lt2 t), off_group _ (lt3 g)]
theorem off38_eq (t : Fin k0_t2_loop.trips) (g : Fin k0_t3_loop.trips) : k0_off38 t g = ![t.val % 2, 23, 16 * g.val] := by
  unfold k0_off38
  simp only [off_slot _ (lt2 t), off_group _ (lt3 g)]
theorem off39_eq (t : Fin k0_t2_loop.trips) (g : Fin k0_t3_loop.trips) : k0_off39 t g = ![t.val % 2, 24, 16 * g.val] := by
  unfold k0_off39
  simp only [off_slot _ (lt2 t), off_group _ (lt3 g)]
theorem off40_eq (t : Fin k0_t2_loop.trips) (g : Fin k0_t3_loop.trips) : k0_off40 t g = ![t.val % 2, 25, 16 * g.val] := by
  unfold k0_off40
  simp only [off_slot _ (lt2 t), off_group _ (lt3 g)]
theorem off41_eq (t : Fin k0_t2_loop.trips) (g : Fin k0_t3_loop.trips) : k0_off41 t g = ![t.val % 2, 26, 16 * g.val] := by
  unfold k0_off41
  simp only [off_slot _ (lt2 t), off_group _ (lt3 g)]
theorem off42_eq (t : Fin k0_t2_loop.trips) (g : Fin k0_t3_loop.trips) : k0_off42 t g = ![t.val % 2, 27, 16 * g.val] := by
  unfold k0_off42
  simp only [off_slot _ (lt2 t), off_group _ (lt3 g)]
theorem off43_eq (t : Fin k0_t2_loop.trips) (g : Fin k0_t3_loop.trips) : k0_off43 t g = ![t.val % 2, 28, 16 * g.val] := by
  unfold k0_off43
  simp only [off_slot _ (lt2 t), off_group _ (lt3 g)]
theorem off44_eq (t : Fin k0_t2_loop.trips) (g : Fin k0_t3_loop.trips) : k0_off44 t g = ![t.val % 2, 29, 16 * g.val] := by
  unfold k0_off44
  simp only [off_slot _ (lt2 t), off_group _ (lt3 g)]
theorem off45_eq (t : Fin k0_t2_loop.trips) (g : Fin k0_t3_loop.trips) : k0_off45 t g = ![t.val % 2, 30, 16 * g.val] := by
  unfold k0_off45
  simp only [off_slot _ (lt2 t), off_group _ (lt3 g)]
theorem off46_eq (t : Fin k0_t2_loop.trips) (g : Fin k0_t3_loop.trips) : k0_off46 t g = ![t.val % 2, 31, 16 * g.val] := by
  unfold k0_off46
  simp only [off_slot _ (lt2 t), off_group _ (lt3 g)]
theorem off77_eq (t : Fin k0_t7_loop.trips) (g : Fin k0_t8_loop.trips) : k0_off77 t g = ![t.val % 2, 16 * g.val] := by
  unfold k0_off77
  simp only [off_slot _ (lt7 t), off_group _ (lt8 g)]
theorem off78_eq (t : Fin k0_t7_loop.trips) (g : Fin k0_t8_loop.trips) : k0_off78 t g = ![t.val % 2, 0, 16 * g.val] := by
  unfold k0_off78
  simp only [off_slot _ (lt7 t), off_group _ (lt8 g)]
theorem off79_eq (t : Fin k0_t7_loop.trips) (g : Fin k0_t8_loop.trips) : k0_off79 t g = ![t.val % 2, 1, 16 * g.val] := by
  unfold k0_off79
  simp only [off_slot _ (lt7 t), off_group _ (lt8 g)]
theorem off80_eq (t : Fin k0_t7_loop.trips) (g : Fin k0_t8_loop.trips) : k0_off80 t g = ![t.val % 2, 2, 16 * g.val] := by
  unfold k0_off80
  simp only [off_slot _ (lt7 t), off_group _ (lt8 g)]
theorem off81_eq (t : Fin k0_t7_loop.trips) (g : Fin k0_t8_loop.trips) : k0_off81 t g = ![t.val % 2, 3, 16 * g.val] := by
  unfold k0_off81
  simp only [off_slot _ (lt7 t), off_group _ (lt8 g)]
theorem off82_eq (t : Fin k0_t7_loop.trips) (g : Fin k0_t8_loop.trips) : k0_off82 t g = ![t.val % 2, 4, 16 * g.val] := by
  unfold k0_off82
  simp only [off_slot _ (lt7 t), off_group _ (lt8 g)]
theorem off83_eq (t : Fin k0_t7_loop.trips) (g : Fin k0_t8_loop.trips) : k0_off83 t g = ![t.val % 2, 5, 16 * g.val] := by
  unfold k0_off83
  simp only [off_slot _ (lt7 t), off_group _ (lt8 g)]
theorem off84_eq (t : Fin k0_t7_loop.trips) (g : Fin k0_t8_loop.trips) : k0_off84 t g = ![t.val % 2, 6, 16 * g.val] := by
  unfold k0_off84
  simp only [off_slot _ (lt7 t), off_group _ (lt8 g)]
theorem off85_eq (t : Fin k0_t7_loop.trips) (g : Fin k0_t8_loop.trips) : k0_off85 t g = ![t.val % 2, 7, 16 * g.val] := by
  unfold k0_off85
  simp only [off_slot _ (lt7 t), off_group _ (lt8 g)]
theorem off86_eq (t : Fin k0_t7_loop.trips) (g : Fin k0_t8_loop.trips) : k0_off86 t g = ![t.val % 2, 8, 16 * g.val] := by
  unfold k0_off86
  simp only [off_slot _ (lt7 t), off_group _ (lt8 g)]
theorem off87_eq (t : Fin k0_t7_loop.trips) (g : Fin k0_t8_loop.trips) : k0_off87 t g = ![t.val % 2, 9, 16 * g.val] := by
  unfold k0_off87
  simp only [off_slot _ (lt7 t), off_group _ (lt8 g)]
theorem off88_eq (t : Fin k0_t7_loop.trips) (g : Fin k0_t8_loop.trips) : k0_off88 t g = ![t.val % 2, 10, 16 * g.val] := by
  unfold k0_off88
  simp only [off_slot _ (lt7 t), off_group _ (lt8 g)]
theorem off89_eq (t : Fin k0_t7_loop.trips) (g : Fin k0_t8_loop.trips) : k0_off89 t g = ![t.val % 2, 11, 16 * g.val] := by
  unfold k0_off89
  simp only [off_slot _ (lt7 t), off_group _ (lt8 g)]
theorem off90_eq (t : Fin k0_t7_loop.trips) (g : Fin k0_t8_loop.trips) : k0_off90 t g = ![t.val % 2, 12, 16 * g.val] := by
  unfold k0_off90
  simp only [off_slot _ (lt7 t), off_group _ (lt8 g)]
theorem off91_eq (t : Fin k0_t7_loop.trips) (g : Fin k0_t8_loop.trips) : k0_off91 t g = ![t.val % 2, 13, 16 * g.val] := by
  unfold k0_off91
  simp only [off_slot _ (lt7 t), off_group _ (lt8 g)]
theorem off92_eq (t : Fin k0_t7_loop.trips) (g : Fin k0_t8_loop.trips) : k0_off92 t g = ![t.val % 2, 14, 16 * g.val] := by
  unfold k0_off92
  simp only [off_slot _ (lt7 t), off_group _ (lt8 g)]
theorem off93_eq (t : Fin k0_t7_loop.trips) (g : Fin k0_t8_loop.trips) : k0_off93 t g = ![t.val % 2, 15, 16 * g.val] := by
  unfold k0_off93
  simp only [off_slot _ (lt7 t), off_group _ (lt8 g)]
theorem off94_eq (t : Fin k0_t7_loop.trips) (g : Fin k0_t8_loop.trips) : k0_off94 t g = ![t.val % 2, 16, 16 * g.val] := by
  unfold k0_off94
  simp only [off_slot _ (lt7 t), off_group _ (lt8 g)]
theorem off95_eq (t : Fin k0_t7_loop.trips) (g : Fin k0_t8_loop.trips) : k0_off95 t g = ![t.val % 2, 17, 16 * g.val] := by
  unfold k0_off95
  simp only [off_slot _ (lt7 t), off_group _ (lt8 g)]
theorem off96_eq (t : Fin k0_t7_loop.trips) (g : Fin k0_t8_loop.trips) : k0_off96 t g = ![t.val % 2, 18, 16 * g.val] := by
  unfold k0_off96
  simp only [off_slot _ (lt7 t), off_group _ (lt8 g)]
theorem off97_eq (t : Fin k0_t7_loop.trips) (g : Fin k0_t8_loop.trips) : k0_off97 t g = ![t.val % 2, 19, 16 * g.val] := by
  unfold k0_off97
  simp only [off_slot _ (lt7 t), off_group _ (lt8 g)]
theorem off98_eq (t : Fin k0_t7_loop.trips) (g : Fin k0_t8_loop.trips) : k0_off98 t g = ![t.val % 2, 20, 16 * g.val] := by
  unfold k0_off98
  simp only [off_slot _ (lt7 t), off_group _ (lt8 g)]
theorem off99_eq (t : Fin k0_t7_loop.trips) (g : Fin k0_t8_loop.trips) : k0_off99 t g = ![t.val % 2, 21, 16 * g.val] := by
  unfold k0_off99
  simp only [off_slot _ (lt7 t), off_group _ (lt8 g)]
theorem off100_eq (t : Fin k0_t7_loop.trips) (g : Fin k0_t8_loop.trips) : k0_off100 t g = ![t.val % 2, 22, 16 * g.val] := by
  unfold k0_off100
  simp only [off_slot _ (lt7 t), off_group _ (lt8 g)]
theorem off101_eq (t : Fin k0_t7_loop.trips) (g : Fin k0_t8_loop.trips) : k0_off101 t g = ![t.val % 2, 23, 16 * g.val] := by
  unfold k0_off101
  simp only [off_slot _ (lt7 t), off_group _ (lt8 g)]
theorem off102_eq (t : Fin k0_t7_loop.trips) (g : Fin k0_t8_loop.trips) : k0_off102 t g = ![t.val % 2, 24, 16 * g.val] := by
  unfold k0_off102
  simp only [off_slot _ (lt7 t), off_group _ (lt8 g)]
theorem off103_eq (t : Fin k0_t7_loop.trips) (g : Fin k0_t8_loop.trips) : k0_off103 t g = ![t.val % 2, 25, 16 * g.val] := by
  unfold k0_off103
  simp only [off_slot _ (lt7 t), off_group _ (lt8 g)]
theorem off104_eq (t : Fin k0_t7_loop.trips) (g : Fin k0_t8_loop.trips) : k0_off104 t g = ![t.val % 2, 26, 16 * g.val] := by
  unfold k0_off104
  simp only [off_slot _ (lt7 t), off_group _ (lt8 g)]
theorem off105_eq (t : Fin k0_t7_loop.trips) (g : Fin k0_t8_loop.trips) : k0_off105 t g = ![t.val % 2, 27, 16 * g.val] := by
  unfold k0_off105
  simp only [off_slot _ (lt7 t), off_group _ (lt8 g)]
theorem off106_eq (t : Fin k0_t7_loop.trips) (g : Fin k0_t8_loop.trips) : k0_off106 t g = ![t.val % 2, 28, 16 * g.val] := by
  unfold k0_off106
  simp only [off_slot _ (lt7 t), off_group _ (lt8 g)]
theorem off107_eq (t : Fin k0_t7_loop.trips) (g : Fin k0_t8_loop.trips) : k0_off107 t g = ![t.val % 2, 29, 16 * g.val] := by
  unfold k0_off107
  simp only [off_slot _ (lt7 t), off_group _ (lt8 g)]
theorem off108_eq (t : Fin k0_t7_loop.trips) (g : Fin k0_t8_loop.trips) : k0_off108 t g = ![t.val % 2, 30, 16 * g.val] := by
  unfold k0_off108
  simp only [off_slot _ (lt7 t), off_group _ (lt8 g)]
theorem off109_eq (t : Fin k0_t7_loop.trips) (g : Fin k0_t8_loop.trips) : k0_off109 t g = ![t.val % 2, 31, 16 * g.val] := by
  unfold k0_off109
  simp only [off_slot _ (lt7 t), off_group _ (lt8 g)]

end Cert.Proof.Embed
-- ==== Proof.Groups.lean ====
/-
  The two passes over a chunk: each takes its pixels in groups of sixteen and adds into the accumulators at places
  that the ids give.
-/
module

public import proofs.«01_k».proof.Proof.Slots

@[expose] public section

set_option maxRecDepth 16384

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 3) (Elt F) ℕ UU ℕ

/-- A function of the trip number applied for the first `n` trips, in order. -/
def iter {α : Type} (f : ℕ → α → α) : ℕ → α → α
  | 0, a => a
  | n + 1, a => f n (iter f n a)

/-- Sixteen ids from the `o`-th on, as a load gives them. -/
abbrev gids (ids : ℕ → BitVec 32) (o : ℕ) : S1x16.Idx → BitVec 32 := fun j => ids (o + (j 1).val)

/-- Sixteen values of a channel, as a load gives them and as a vector. -/
abbrev gxs (xs : ℕ → ℕ → F .f32) (c o : ℕ) : Vec F S1x1x16 .f32 := fun j => xs c (o + (j 2).val)
def xv (xs : ℕ → ℕ → F .f32) (c o : ℕ) : Vec F S16 .f32 := shapeCast S16 (gxs xs c o) shapeCasts_S1x1x16_S16

/-- The ids as a vector, the place of channel 0 of each lane's id, of channel `c`, and the places of its count and of its hinge sum. -/
def idv (ids : ℕ → BitVec 32) (o : ℕ) : IVec S16 32 := shapeCast S16 (gids ids o) shapeCasts_S1x16_S16
def gb (ids : ℕ → BitVec 32) (o : ℕ) : IVec S16 32 := addi (muli (idv ids o) (broadcast S16 128#32)) k0_pay388
def cix (b : IVec S16 32) (c : ℕ) : IVec S16 32 := addi b (broadcast S16 (BitVec.ofNat 32 (4 * c)))
def kix (ids : ℕ → BitVec 32) (o : ℕ) : IVec S16 32 := addi (addi (broadcast S16 4096#32) (muli (idv ids o) (broadcast S16 4#32))) k0_pay388
def hix (ids : ℕ → BitVec 32) (o : ℕ) : IVec S16 32 := addi (addi (broadcast S16 4224#32) (muli (idv ids o) (broadcast S16 4#32))) k0_pay388

theorem flat16 {α : Type} (φ : ℕ → α) (x : S16.Idx) :
    shapeCast S16 (fun j : S1x16.Idx => φ (j 1).val) shapeCasts_S1x16_S16 x = φ (x 0).val := by
  show φ _ = _
  congr 1
  revert x
  decide +kernel
theorem flat16' {α : Type} (φ : ℕ → α) (x : S16.Idx) :
    shapeCast S16 (fun j : S1x1x16.Idx => φ (j 2).val) shapeCasts_S1x1x16_S16 x = φ (x 0).val := by
  show φ _ = _
  congr 1
  revert x
  decide +kernel

theorem idv_apply (ids : ℕ → BitVec 32) (o : ℕ) (x : S16.Idx) : idv ids o x = ids (o + (x 0).val) := flat16 (fun n => ids (o + n)) x
theorem xv_apply (xs : ℕ → ℕ → F .f32) (c o : ℕ) (x : S16.Idx) : xv xs c o x = xs c (o + (x 0).val) := flat16' (fun n => xs c (o + n)) x

theorem lane4 (x : S16.Idx) : (k0_pay388 x).toNat = (x 0).val % 4 := by revert x; decide +kernel

theorem gb_toNat {ids : ℕ → BitVec 32} (hids : ∀ n, (ids n).toNat < 32) (o : ℕ) (x : S16.Idx) :
    (gb ids o x).toNat = 128 * (ids (o + (x 0).val)).toNat + (x 0).val % 4 := by
  have h1 := hids (o + (x 0).val)
  show (idv ids o x * 128#32 + k0_pay388 x).toNat = _
  rw [BitVec.toNat_add, BitVec.toNat_mul, idv_apply, lane4]
  show ((ids (o + (x 0).val)).toNat * 128 % 2 ^ 32 + (x 0).val % 4) % 2 ^ 32 = _
  omega
theorem cix_toNat {b : IVec S16 32} {x : S16.Idx} (hb : (b x).toNat < 3972) {c : ℕ} (hc : c < 32) : (cix b c x).toNat = (b x).toNat + 4 * c := by
  show (b x + BitVec.ofNat 32 (4 * c)).toNat = _
  rw [BitVec.toNat_add, BitVec.toNat_ofNat]
  omega
theorem kix_toNat {ids : ℕ → BitVec 32} (hids : ∀ n, (ids n).toNat < 32) (o : ℕ) (x : S16.Idx) :
    (kix ids o x).toNat = 4096 + 4 * (ids (o + (x 0).val)).toNat + (x 0).val % 4 := by
  have h1 := hids (o + (x 0).val)
  show (4096#32 + idv ids o x * 4#32 + k0_pay388 x).toNat = _
  rw [BitVec.toNat_add, BitVec.toNat_add, BitVec.toNat_mul, idv_apply, lane4]
  show ((4096 + (ids (o + (x 0).val)).toNat * 4 % 2 ^ 32) % 2 ^ 32 + (x 0).val % 4) % 2 ^ 32 = _
  omega
theorem hix_toNat {ids : ℕ → BitVec 32} (hids : ∀ n, (ids n).toNat < 32) (o : ℕ) (x : S16.Idx) :
    (hix ids o x).toNat = 4224 + 4 * (ids (o + (x 0).val)).toNat + (x 0).val % 4 := by
  have h1 := hids (o + (x 0).val)
  show (4224#32 + idv ids o x * 4#32 + k0_pay388 x).toNat = _
  rw [BitVec.toNat_add, BitVec.toNat_add, BitVec.toNat_mul, idv_apply, lane4]
  show ((4224 + (ids (o + (x 0).val)).toNat * 4 % 2 ^ 32) % 2 ^ 32 + (x 0).val % 4) % 2 ^ 32 = _
  omega

theorem gb_lt {ids : ℕ → BitVec 32} (hids : ∀ n, (ids n).toNat < 32) (o : ℕ) (x : S16.Idx) : (gb ids o x).toNat < 3972 := by
  rw [gb_toNat hids]; have := hids (o + (x 0).val); omega
theorem cix_lt {b : IVec S16 32} (hb : ∀ x, (b x).toNat < 3972) (c : ℕ) (hc : c < 32) : ∀ a x, ((![cix b c] : Fin 1 → IVec S16 32) a x).toNat < S4352.size a := by
  intro a x
  rw [Fin.eq_zero a]
  show (cix b c x).toNat < 4352
  have := hb x
  rw [cix_toNat this hc]; omega
theorem cix_lt4 {b : IVec S16 32} (hb : ∀ x, (b x).toNat < 3972) (c : ℕ) (hc : c < 32) : ∀ a x, ((![cix b c] : Fin 1 → IVec S16 32) a x).toNat < S4096.size a := by
  intro a x
  rw [Fin.eq_zero a]
  show (cix b c x).toNat < 4096
  have := hb x
  rw [cix_toNat this hc]; omega
theorem kix_lt {ids : ℕ → BitVec 32} (hids : ∀ n, (ids n).toNat < 32) (o : ℕ) : ∀ a x, ((![kix ids o] : Fin 1 → IVec S16 32) a x).toNat < S4352.size a := by
  intro a x
  rw [Fin.eq_zero a]
  show (kix ids o x).toNat < 4352
  rw [kix_toNat hids]; have := hids (o + (x 0).val); omega
theorem hix_lt {ids : ℕ → BitVec 32} (hids : ∀ n, (ids n).toNat < 32) (o : ℕ) : ∀ a x, ((![hix ids o] : Fin 1 → IVec S16 32) a x).toNat < S4352.size a := by
  intro a x
  rw [Fin.eq_zero a]
  show (hix ids o x).toNat < 4352
  rw [hix_toNat hids]; have := hids (o + (x 0).val); omega

/-! ## The first pass over a group -/

/-- The sixteen pixels' values of the channels `cs` added into an accumulator. -/
abbrev addL (b : IVec S16 32) (xs : ℕ → ℕ → F .f32) (o : ℕ) (cs : List ℕ) (f : Vec F S4352 .f32) : Vec F S4352 .f32 :=
  cs.foldl (fun f c => sadd (cix b c) (xv xs c o) f) f

/-- A group of the first pass: the counts, and every channel's values. -/
def grp1 (ids : ℕ → BitVec 32) (xs : ℕ → ℕ → F .f32) (o : ℕ) (σ : St F) : St F :=
  { σ with
    a0 := addL (gb ids o) xs o [0, 4, 8, 12, 16, 20, 24, 28] (sadd (kix ids o) k0_pay387 σ.a0)
    a1 := addL (gb ids o) xs o [1, 5, 9, 13, 17, 21, 25, 29] σ.a1
    a2 := addL (gb ids o) xs o [2, 6, 10, 14, 18, 22, 26, 30] σ.a2
    a3 := addL (gb ids o) xs o [3, 7, 11, 15, 19, 23, 27, 31] σ.a3 }

section Pass1

variable {d : Dev nD} {i : grid0.Coords} {xs : ℕ → ℕ → F .f32} {ids : ℕ → BitVec 32}
  {h2 : (Memref.whole main_v0_scv).IsWhole}
  {h3 : (Memref.whole main_v1_scv).IsWhole}
  {h4 : (Memref.whole main_v2_scv).IsWhole}
  {h5 : (Memref.whole cc0_scratch0).IsWhole}
  {h6 : (Memref.whole cc0_scratch1).IsWhole}
  {h7 : (Memref.whole cc0_scratch2).IsWhole}
  {h8 : (Memref.whole cc0_scratch3).IsWhole}
  {h9 : (Memref.whole cc0_scratch4).IsWhole}
  {h10 : (Memref.whole cc0_scratch5).IsWhole}
  {h11 : (Memref.whole cc0_scratch6).IsWhole}
  {h12 : (Memref.whole cc0_scratch7).IsWhole}
  {h13 : (Memref.whole cc0_scratch8).IsWhole}
  {h14 : (Memref.whole cc0_scratch9).IsWhole}
  {h15 : (Memref.whole cc0_scratch10).IsWhole}
  {h16 : (Memref.whole cc0_scratch11).IsWhole}
  {h17 : (Memref.whole cc0_scratch12).IsWhole}
  {h20 : (Memref.whole cc0_scratch15).IsWhole}
  {h21 : (Memref.whole cc0_scratch16).IsWhole}
  {a0 : Vec F (shp .a0) .f32}
  {a1 : Vec F (shp .a1) .f32}
  {a2 : Vec F (shp .a2) .f32}
  {a3 : Vec F (shp .a3) .f32}
  {st : Vec F (shp .st) .f32}
  {mf : Vec F (shp .mf) .f32}
  {m4 : Vec F (shp .m4) .f32}
  {mt : Vec F (shp .mt) .f32}
  {rd : Vec F (shp .rd) .f32}
  {sa : Vec F (shp .sa) .f32}
  {ob : Vec F (shp .ob) .f32}

theorem T_part1 (t : Fin k0_t2_loop.trips) (g : Fin k0_t3_loop.trips) (hids : ∀ n, (ids n).toNat < 32) {v68 : BitVec 32} :
    T d (cV i) (jV i) (chunk d i (t.val % 2) xs ids) ⟨a0, a1, a2, a3, st, mf, m4, mt, rd, sa, ob⟩ (k0_part1 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 k0_pay387 k0_pay388 t v68 0#32 1#32 g)
      (fun r σ' => r.2 = gb ids (16 * g.val) ∧ σ' = ⟨addL (gb ids (16 * g.val)) xs (16 * g.val) [0] (sadd (kix ids (16 * g.val)) k0_pay387 a0), addL (gb ids (16 * g.val)) xs (16 * g.val) [1] a1, addL (gb ids (16 * g.val)) xs (16 * g.val) [2] a2, a3, st, mf, m4, mt, rd, sa, ob⟩) := by
  rw [k0_part1_eq_skeleton]
  unfold k0_part1_skel
  have hb := gb_lt hids (16 * g.val)
  refine T_ldi (off14_eq t g) ?_
  refine T_assume (kix_lt hids (16 * g.val)) ?_
  refine Tsca_a0 ?_
  refine T_ldx (off15_eq t g) ?_
  refine T_assume (cix_lt hb 0 (by norm_num)) ?_
  refine Tsca_a0 ?_
  refine T_ldx (off16_eq t g) ?_
  refine T_assume (cix_lt hb 1 (by norm_num)) ?_
  refine Tsca_a1 ?_
  refine T_ldx (off17_eq t g) ?_
  refine T_assume (cix_lt hb 2 (by norm_num)) ?_
  refine Tsca_a2 ?_
  refine T_pure ⟨rfl, ?_⟩
  simp only [addL, List.foldl_cons, List.foldl_nil]
  rfl

theorem T_part2 (t : Fin k0_t2_loop.trips) (g : Fin k0_t3_loop.trips) (b : IVec S16 32) (hb : ∀ x, (b x).toNat < 3972) {v68 : BitVec 32} {v99 : BitVec 32} :
    T d (cV i) (jV i) (chunk d i (t.val % 2) xs ids) ⟨a0, a1, a2, a3, st, mf, m4, mt, rd, sa, ob⟩ (k0_part2 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 t v68 g v99 b)
      (fun r σ' => r = ⟨xv xs 8 (16 * g.val), k0_pay24⟩ ∧ σ' = ⟨addL b xs (16 * g.val) [4] a0, addL b xs (16 * g.val) [5] a1, addL b xs (16 * g.val) [6] a2, addL b xs (16 * g.val) [3, 7] a3, st, mf, m4, mt, rd, sa, ob⟩) := by
  rw [k0_part2_eq_skeleton]
  unfold k0_part2_skel
  refine T_ldx (off18_eq t g) ?_
  refine T_assume (cix_lt hb 3 (by norm_num)) ?_
  refine Tsca_a3 ?_
  refine T_ldx (off19_eq t g) ?_
  refine T_assume (cix_lt hb 4 (by norm_num)) ?_
  refine Tsca_a0 ?_
  refine T_ldx (off20_eq t g) ?_
  refine T_assume (cix_lt hb 5 (by norm_num)) ?_
  refine Tsca_a1 ?_
  refine T_ldx (off21_eq t g) ?_
  refine T_assume (cix_lt hb 6 (by norm_num)) ?_
  refine Tsca_a2 ?_
  refine T_ldx (off22_eq t g) ?_
  refine T_assume (cix_lt hb 7 (by norm_num)) ?_
  refine Tsca_a3 ?_
  refine T_ldx (off23_eq t g) ?_
  refine T_pure ⟨rfl, ?_⟩
  simp only [addL, List.foldl_cons, List.foldl_nil]
  rfl

theorem T_part3 (t : Fin k0_t2_loop.trips) (g : Fin k0_t3_loop.trips) (b : IVec S16 32) (hb : ∀ x, (b x).toNat < 3972) {v68 : BitVec 32} {v99 : BitVec 32} :
    T d (cV i) (jV i) (chunk d i (t.val % 2) xs ids) ⟨a0, a1, a2, a3, st, mf, m4, mt, rd, sa, ob⟩ (k0_part3 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 t v68 g v99 b (xv xs 8 (16 * g.val)) k0_pay24)
      (fun r σ' => r = 14#32 ∧ σ' = ⟨addL b xs (16 * g.val) [8, 12] a0, addL b xs (16 * g.val) [9, 13] a1, addL b xs (16 * g.val) [10] a2, addL b xs (16 * g.val) [11] a3, st, mf, m4, mt, rd, sa, ob⟩) := by
  rw [k0_part3_eq_skeleton]
  unfold k0_part3_skel
  refine T_assume (cix_lt hb 8 (by norm_num)) ?_
  refine Tsca_a0 ?_
  refine T_ldx (off24_eq t g) ?_
  refine T_assume (cix_lt hb 9 (by norm_num)) ?_
  refine Tsca_a1 ?_
  refine T_ldx (off25_eq t g) ?_
  refine T_assume (cix_lt hb 10 (by norm_num)) ?_
  refine Tsca_a2 ?_
  refine T_ldx (off26_eq t g) ?_
  refine T_assume (cix_lt hb 11 (by norm_num)) ?_
  refine Tsca_a3 ?_
  refine T_ldx (off27_eq t g) ?_
  refine T_assume (cix_lt hb 12 (by norm_num)) ?_
  refine Tsca_a0 ?_
  refine T_ldx (off28_eq t g) ?_
  refine T_assume (cix_lt hb 13 (by norm_num)) ?_
  refine Tsca_a1 ?_
  refine T_pure ⟨rfl, ?_⟩
  simp only [addL, List.foldl_cons, List.foldl_nil]
  rfl

theorem T_part4 (t : Fin k0_t2_loop.trips) (g : Fin k0_t3_loop.trips) (b : IVec S16 32) (hb : ∀ x, (b x).toNat < 3972) {v68 : BitVec 32} {v99 : BitVec 32} :
    T d (cV i) (jV i) (chunk d i (t.val % 2) xs ids) ⟨a0, a1, a2, a3, st, mf, m4, mt, rd, sa, ob⟩ (k0_part4 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 t v68 g v99 b 14#32)
      (fun r σ' => r = ⟨xv xs 19 (16 * g.val), 76#32⟩ ∧ σ' = ⟨addL b xs (16 * g.val) [16] a0, addL b xs (16 * g.val) [17] a1, addL b xs (16 * g.val) [14, 18] a2, addL b xs (16 * g.val) [15] a3, st, mf, m4, mt, rd, sa, ob⟩) := by
  rw [k0_part4_eq_skeleton]
  unfold k0_part4_skel
  refine T_ldx (off29_eq t g) ?_
  refine T_assume (cix_lt hb 14 (by norm_num)) ?_
  refine Tsca_a2 ?_
  refine T_ldx (off30_eq t g) ?_
  refine T_assume (cix_lt hb 15 (by norm_num)) ?_
  refine Tsca_a3 ?_
  refine T_ldx (off31_eq t g) ?_
  refine T_assume (cix_lt hb 16 (by norm_num)) ?_
  refine Tsca_a0 ?_
  refine T_ldx (off32_eq t g) ?_
  refine T_assume (cix_lt hb 17 (by norm_num)) ?_
  refine Tsca_a1 ?_
  refine T_ldx (off33_eq t g) ?_
  refine T_assume (cix_lt hb 18 (by norm_num)) ?_
  refine Tsca_a2 ?_
  refine T_ldx (off34_eq t g) ?_
  refine T_pure ⟨rfl, ?_⟩
  simp only [addL, List.foldl_cons, List.foldl_nil]
  rfl

theorem T_part5 (t : Fin k0_t2_loop.trips) (g : Fin k0_t3_loop.trips) (b : IVec S16 32) (hb : ∀ x, (b x).toNat < 3972) {v68 : BitVec 32} {v99 : BitVec 32} :
    T d (cV i) (jV i) (chunk d i (t.val % 2) xs ids) ⟨a0, a1, a2, a3, st, mf, m4, mt, rd, sa, ob⟩ (k0_part5 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 t v68 g v99 b (xv xs 19 (16 * g.val)) 76#32)
      (fun r σ' => r = 25#32 ∧ σ' = ⟨addL b xs (16 * g.val) [20, 24] a0, addL b xs (16 * g.val) [21] a1, addL b xs (16 * g.val) [22] a2, addL b xs (16 * g.val) [19, 23] a3, st, mf, m4, mt, rd, sa, ob⟩) := by
  rw [k0_part5_eq_skeleton]
  unfold k0_part5_skel
  refine T_assume (cix_lt hb 19 (by norm_num)) ?_
  refine Tsca_a3 ?_
  refine T_ldx (off35_eq t g) ?_
  refine T_assume (cix_lt hb 20 (by norm_num)) ?_
  refine Tsca_a0 ?_
  refine T_ldx (off36_eq t g) ?_
  refine T_assume (cix_lt hb 21 (by norm_num)) ?_
  refine Tsca_a1 ?_
  refine T_ldx (off37_eq t g) ?_
  refine T_assume (cix_lt hb 22 (by norm_num)) ?_
  refine Tsca_a2 ?_
  refine T_ldx (off38_eq t g) ?_
  refine T_assume (cix_lt hb 23 (by norm_num)) ?_
  refine Tsca_a3 ?_
  refine T_ldx (off39_eq t g) ?_
  refine T_assume (cix_lt hb 24 (by norm_num)) ?_
  refine Tsca_a0 ?_
  refine T_pure ⟨rfl, ?_⟩
  simp only [addL, List.foldl_cons, List.foldl_nil]
  rfl

theorem T_part6 (t : Fin k0_t2_loop.trips) (g : Fin k0_t3_loop.trips) (b : IVec S16 32) (hb : ∀ x, (b x).toNat < 3972) {v68 : BitVec 32} {v99 : BitVec 32} :
    T d (cV i) (jV i) (chunk d i (t.val % 2) xs ids) ⟨a0, a1, a2, a3, st, mf, m4, mt, rd, sa, ob⟩ (k0_part6 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 t v68 g v99 b 25#32)
      (fun r σ' => r = xv xs 30 (16 * g.val) ∧ σ' = ⟨addL b xs (16 * g.val) [28] a0, addL b xs (16 * g.val) [25, 29] a1, addL b xs (16 * g.val) [26] a2, addL b xs (16 * g.val) [27] a3, st, mf, m4, mt, rd, sa, ob⟩) := by
  rw [k0_part6_eq_skeleton]
  unfold k0_part6_skel
  refine T_ldx (off40_eq t g) ?_
  refine T_assume (cix_lt hb 25 (by norm_num)) ?_
  refine Tsca_a1 ?_
  refine T_ldx (off41_eq t g) ?_
  refine T_assume (cix_lt hb 26 (by norm_num)) ?_
  refine Tsca_a2 ?_
  refine T_ldx (off42_eq t g) ?_
  refine T_assume (cix_lt hb 27 (by norm_num)) ?_
  refine Tsca_a3 ?_
  refine T_ldx (off43_eq t g) ?_
  refine T_assume (cix_lt hb 28 (by norm_num)) ?_
  refine Tsca_a0 ?_
  refine T_ldx (off44_eq t g) ?_
  refine T_assume (cix_lt hb 29 (by norm_num)) ?_
  refine Tsca_a1 ?_
  refine T_ldx (off45_eq t g) ?_
  refine T_pure ⟨rfl, ?_⟩
  simp only [addL, List.foldl_cons, List.foldl_nil]
  rfl

theorem T_t3_body (t : Fin k0_t2_loop.trips) (g : Fin k0_t3_loop.trips) (u : Unit) (hids : ∀ n, (ids n).toNat < 32)
  {arg1 v0 v68 : BitVec 32} {v1 : FVec F S16 .f32} {c16 c17 c18 : BitVec 32} (σ : St F) :
    T d (cV i) (jV i) (chunk d i (t.val % 2) xs ids) σ (k0_t3_body i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 arg1 v0 v1 k0_pay387 io k0_pay388 c16 c17 c18 t v68 g u)
      (fun r σ' => σ' = grp1 ids xs (16 * g.val) σ) := by
  obtain ⟨a0, a1, a2, a3, st, mf, m4, mt, rd, sa, ob⟩ := σ
  have hb := gb_lt hids (16 * g.val)
  unfold k0_t3_body
  refine T_bind (T_mono (T_part1 t g hids) ?_)
  rintro ⟨r1, r2⟩ σ' ⟨rfl, rfl⟩
  refine T_bind (T_mono (T_part2 t g _ hb) ?_)
  rintro r σ' ⟨rfl, rfl⟩
  refine T_bind (T_mono (T_part3 t g _ hb) ?_)
  rintro r σ' ⟨rfl, rfl⟩
  refine T_bind (T_mono (T_part4 t g _ hb) ?_)
  rintro r σ' ⟨rfl, rfl⟩
  refine T_bind (T_mono (T_part5 t g _ hb) ?_)
  rintro r σ' ⟨rfl, rfl⟩
  refine T_bind (T_mono (T_part6 t g _ hb) ?_)
  rintro r σ' ⟨rfl, rfl⟩
  refine T_assume (cix_lt hb 30 (by norm_num)) ?_
  refine Tsca_a2 ?_
  refine T_ldx (off46_eq t g) ?_
  refine T_assume (cix_lt hb 31 (by norm_num)) ?_
  refine Tsca_a3 ?_
  refine T_pure ?_
  simp only [grp1, addL, List.foldl_cons, List.foldl_nil]
  rfl

/-- The first pass over a chunk. -/
theorem T_t3 (t : Fin k0_t2_loop.trips) (hids : ∀ n, (ids n).toNat < 32)
  {arg1 v0 v68 : BitVec 32} {v1 : FVec F S16 .f32} {c16 c17 c18 : BitVec 32} {hok : k0_t3_loop.OK} (σ : St F) :
    T d (cV i) (jV i) (chunk d i (t.val % 2) xs ids) σ (Scf.Loop.for k0_t3_loop hok ⟨⟩ (k0_t3_body i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 arg1 v0 v1 k0_pay387 io k0_pay388 c16 c17 c18 t v68))
      (fun r σ' => σ' = iter (fun g => grp1 ids xs (16 * g)) 64 σ) := by
  refine T_forQ (fun k _ σ' => σ' = iter (fun g => grp1 ids xs (16 * g)) k σ) rfl ?_ ?_
  · rintro g u σ' rfl
    exact T_t3_body t g u hids _
  · rintro u σ' rfl
    rw [show k0_t3_loop.trips = 64 by decide +kernel]

end Pass1

/-! ## The second pass over a group -/

/-- The squared distances over the channels `cs`, added up from the zero that the kernel starts with. -/
abbrev accL (b : IVec S16 32) (xs : ℕ → ℕ → F .f32) (o : ℕ) (m4 : Vec F S4096 .f32) (cs : List ℕ) : FVec F S16 .f32 :=
  cs.foldl (fun a c => addf a (mulf (subf (xv xs c o) (gat m4 (cix b c))) (subf (xv xs c o) (gat m4 (cix b c))))) k0_pay386

/-- The squared hinge of a distance whose square came in four sums. -/
def hng (A B C D : FVec F S16 .f32) : FVec F S16 .f32 :=
  let h := maximumf (subf (sqrt (addf (addf (addf A B) (addf C D)) (broadcast S16 (Scalar.ofBits .f32 0x2B8CBCCC#32)))) (broadcast S16 (Scalar.ofBits .f32 0x3F000000#32)))
    (broadcast S16 (Scalar.ofBits .f32 0x00000000#32))
  mulf h h

/-- A group of the second pass: the squared hinges, added to the sums of their ids. -/
def grp2 (ids : ℕ → BitVec 32) (xs : ℕ → ℕ → F .f32) (o : ℕ) (σ : St F) : St F :=
  { σ with
    a0 := sadd (hix ids o) (hng (accL (gb ids o) xs o σ.m4 [0, 4, 8, 12, 16, 20, 24, 28]) (accL (gb ids o) xs o σ.m4 [1, 5, 9, 13, 17, 21, 25, 29])
      (accL (gb ids o) xs o σ.m4 [2, 6, 10, 14, 18, 22, 26, 30]) (accL (gb ids o) xs o σ.m4 [3, 7, 11, 15, 19, 23, 27, 31])) σ.a0 }

section Pass2

variable {d : Dev nD} {i : grid0.Coords} {xs : ℕ → ℕ → F .f32} {ids : ℕ → BitVec 32}
  {h2 : (Memref.whole main_v0_scv).IsWhole}
  {h3 : (Memref.whole main_v1_scv).IsWhole}
  {h4 : (Memref.whole main_v2_scv).IsWhole}
  {h5 : (Memref.whole cc0_scratch0).IsWhole}
  {h6 : (Memref.whole cc0_scratch1).IsWhole}
  {h7 : (Memref.whole cc0_scratch2).IsWhole}
  {h8 : (Memref.whole cc0_scratch3).IsWhole}
  {h9 : (Memref.whole cc0_scratch4).IsWhole}
  {h10 : (Memref.whole cc0_scratch5).IsWhole}
  {h11 : (Memref.whole cc0_scratch6).IsWhole}
  {h12 : (Memref.whole cc0_scratch7).IsWhole}
  {h13 : (Memref.whole cc0_scratch8).IsWhole}
  {h14 : (Memref.whole cc0_scratch9).IsWhole}
  {h15 : (Memref.whole cc0_scratch10).IsWhole}
  {h16 : (Memref.whole cc0_scratch11).IsWhole}
  {h17 : (Memref.whole cc0_scratch12).IsWhole}
  {h20 : (Memref.whole cc0_scratch15).IsWhole}
  {h21 : (Memref.whole cc0_scratch16).IsWhole}
  {a0 : Vec F (shp .a0) .f32}
  {a1 : Vec F (shp .a1) .f32}
  {a2 : Vec F (shp .a2) .f32}
  {a3 : Vec F (shp .a3) .f32}
  {st : Vec F (shp .st) .f32}
  {mf : Vec F (shp .mf) .f32}
  {m4 : Vec F (shp .m4) .f32}
  {mt : Vec F (shp .mt) .f32}
  {rd : Vec F (shp .rd) .f32}
  {sa : Vec F (shp .sa) .f32}
  {ob : Vec F (shp .ob) .f32}

theorem T_part26 (t : Fin k0_t7_loop.trips) (g : Fin k0_t8_loop.trips) (hids : ∀ n, (ids n).toNat < 32) {v68 : BitVec 32} :
    T d (cV i) (jV i) (chunk d i (t.val % 2) xs ids) ⟨a0, a1, a2, a3, st, mf, m4, mt, rd, sa, ob⟩ (k0_part26 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 k0_pay386 k0_pay388 t v68 0#32 1#32 g)
      (fun r σ' => (r.2 = ⟨idv ids (16 * g.val), (gb ids (16 * g.val)), (accL (gb ids (16 * g.val)) xs (16 * g.val) m4 [0]), (accL (gb ids (16 * g.val)) xs (16 * g.val) m4 [1]), (accL (gb ids (16 * g.val)) xs (16 * g.val) m4 [2])⟩) ∧ σ' = ⟨a0, a1, a2, a3, st, mf, m4, mt, rd, sa, ob⟩) := by
  rw [k0_part26_eq_skeleton]
  unfold k0_part26_skel
  have hb := gb_lt hids (16 * g.val)
  refine T_ldi (off77_eq t g) ?_
  refine T_ldx (off78_eq t g) ?_
  refine T_assume (cix_lt4 hb 0 (by norm_num)) ?_
  refine Tgat_m4 ?_
  refine T_ldx (off79_eq t g) ?_
  refine T_assume (cix_lt4 hb 1 (by norm_num)) ?_
  refine Tgat_m4 ?_
  refine T_ldx (off80_eq t g) ?_
  refine T_assume (cix_lt4 hb 2 (by norm_num)) ?_
  refine Tgat_m4 ?_
  exact T_pure ⟨rfl, rfl⟩

theorem T_part27 (t : Fin k0_t7_loop.trips) (g : Fin k0_t8_loop.trips) (b : IVec S16 32) (hb : ∀ x, (b x).toNat < 3972) {v68 : BitVec 32} {v99 : BitVec 32} :
    T d (cV i) (jV i) (chunk d i (t.val % 2) xs ids) ⟨a0, a1, a2, a3, st, mf, m4, mt, rd, sa, ob⟩ (k0_part27 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 k0_pay386 t v68 g v99 b (accL b xs (16 * g.val) m4 [0]) (accL b xs (16 * g.val) m4 [1]) (accL b xs (16 * g.val) m4 [2]))
      (fun r σ' => (r = ⟨(accL b xs (16 * g.val) m4 [3]), (accL b xs (16 * g.val) m4 [0, 4]), (accL b xs (16 * g.val) m4 [1, 5]), (accL b xs (16 * g.val) m4 [2, 6]), (xv xs 7 (16 * g.val)), 28#32⟩) ∧ σ' = ⟨a0, a1, a2, a3, st, mf, m4, mt, rd, sa, ob⟩) := by
  rw [k0_part27_eq_skeleton]
  unfold k0_part27_skel
  refine T_ldx (off81_eq t g) ?_
  refine T_assume (cix_lt4 hb 3 (by norm_num)) ?_
  refine Tgat_m4 ?_
  refine T_ldx (off82_eq t g) ?_
  refine T_assume (cix_lt4 hb 4 (by norm_num)) ?_
  refine Tgat_m4 ?_
  refine T_ldx (off83_eq t g) ?_
  refine T_assume (cix_lt4 hb 5 (by norm_num)) ?_
  refine Tgat_m4 ?_
  refine T_ldx (off84_eq t g) ?_
  refine T_assume (cix_lt4 hb 6 (by norm_num)) ?_
  refine Tgat_m4 ?_
  refine T_ldx (off85_eq t g) ?_
  exact T_pure ⟨rfl, rfl⟩

theorem T_part28 (t : Fin k0_t7_loop.trips) (g : Fin k0_t8_loop.trips) (b : IVec S16 32) (hb : ∀ x, (b x).toNat < 3972) {v68 : BitVec 32} {v99 : BitVec 32} :
    T d (cV i) (jV i) (chunk d i (t.val % 2) xs ids) ⟨a0, a1, a2, a3, st, mf, m4, mt, rd, sa, ob⟩ (k0_part28 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 t v68 g v99 b (accL b xs (16 * g.val) m4 [3]) (accL b xs (16 * g.val) m4 [0, 4]) (accL b xs (16 * g.val) m4 [1, 5]) (accL b xs (16 * g.val) m4 [2, 6]) (xv xs 7 (16 * g.val)) 28#32)
      (fun r σ' => (r = ⟨(accL b xs (16 * g.val) m4 [3, 7]), (accL b xs (16 * g.val) m4 [0, 4, 8]), (accL b xs (16 * g.val) m4 [1, 5, 9]), (accL b xs (16 * g.val) m4 [2, 6, 10]), (xv xs 11 (16 * g.val)), (gat m4 (cix b 11))⟩) ∧ σ' = ⟨a0, a1, a2, a3, st, mf, m4, mt, rd, sa, ob⟩) := by
  rw [k0_part28_eq_skeleton]
  unfold k0_part28_skel
  refine T_assume (cix_lt4 hb 7 (by norm_num)) ?_
  refine Tgat_m4 ?_
  refine T_ldx (off86_eq t g) ?_
  refine T_assume (cix_lt4 hb 8 (by norm_num)) ?_
  refine Tgat_m4 ?_
  refine T_ldx (off87_eq t g) ?_
  refine T_assume (cix_lt4 hb 9 (by norm_num)) ?_
  refine Tgat_m4 ?_
  refine T_ldx (off88_eq t g) ?_
  refine T_assume (cix_lt4 hb 10 (by norm_num)) ?_
  refine Tgat_m4 ?_
  refine T_ldx (off89_eq t g) ?_
  refine T_assume (cix_lt4 hb 11 (by norm_num)) ?_
  refine Tgat_m4 ?_
  exact T_pure ⟨rfl, rfl⟩

theorem T_part29 (t : Fin k0_t7_loop.trips) (g : Fin k0_t8_loop.trips) (b : IVec S16 32) (hb : ∀ x, (b x).toNat < 3972) {v68 : BitVec 32} {v99 : BitVec 32} :
    T d (cV i) (jV i) (chunk d i (t.val % 2) xs ids) ⟨a0, a1, a2, a3, st, mf, m4, mt, rd, sa, ob⟩ (k0_part29 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 t v68 g v99 b (accL b xs (16 * g.val) m4 [3, 7]) (accL b xs (16 * g.val) m4 [0, 4, 8]) (accL b xs (16 * g.val) m4 [1, 5, 9]) (accL b xs (16 * g.val) m4 [2, 6, 10]) (xv xs 11 (16 * g.val)) (gat m4 (cix b 11)))
      (fun r σ' => (r = ⟨(accL b xs (16 * g.val) m4 [0, 4, 8, 12]), (accL b xs (16 * g.val) m4 [1, 5, 9, 13]), (accL b xs (16 * g.val) m4 [2, 6, 10, 14]), (accL b xs (16 * g.val) m4 [3, 7, 11, 15]), 16#32⟩) ∧ σ' = ⟨a0, a1, a2, a3, st, mf, m4, mt, rd, sa, ob⟩) := by
  rw [k0_part29_eq_skeleton]
  unfold k0_part29_skel
  refine T_ldx (off90_eq t g) ?_
  refine T_assume (cix_lt4 hb 12 (by norm_num)) ?_
  refine Tgat_m4 ?_
  refine T_ldx (off91_eq t g) ?_
  refine T_assume (cix_lt4 hb 13 (by norm_num)) ?_
  refine Tgat_m4 ?_
  refine T_ldx (off92_eq t g) ?_
  refine T_assume (cix_lt4 hb 14 (by norm_num)) ?_
  refine Tgat_m4 ?_
  refine T_ldx (off93_eq t g) ?_
  refine T_assume (cix_lt4 hb 15 (by norm_num)) ?_
  refine Tgat_m4 ?_
  exact T_pure ⟨rfl, rfl⟩

theorem T_part30 (t : Fin k0_t7_loop.trips) (g : Fin k0_t8_loop.trips) (b : IVec S16 32) (hb : ∀ x, (b x).toNat < 3972) {v68 : BitVec 32} {v99 : BitVec 32} :
    T d (cV i) (jV i) (chunk d i (t.val % 2) xs ids) ⟨a0, a1, a2, a3, st, mf, m4, mt, rd, sa, ob⟩ (k0_part30 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 t v68 g v99 b (accL b xs (16 * g.val) m4 [0, 4, 8, 12]) (accL b xs (16 * g.val) m4 [1, 5, 9, 13]) (accL b xs (16 * g.val) m4 [2, 6, 10, 14]) (accL b xs (16 * g.val) m4 [3, 7, 11, 15]) 16#32)
      (fun r σ' => (r = ⟨(accL b xs (16 * g.val) m4 [0, 4, 8, 12, 16]), (accL b xs (16 * g.val) m4 [1, 5, 9, 13, 17]), (accL b xs (16 * g.val) m4 [2, 6, 10, 14, 18]), (accL b xs (16 * g.val) m4 [3, 7, 11, 15, 19]), (gxs xs 20 (16 * g.val))⟩) ∧ σ' = ⟨a0, a1, a2, a3, st, mf, m4, mt, rd, sa, ob⟩) := by
  rw [k0_part30_eq_skeleton]
  unfold k0_part30_skel
  refine T_ldx (off94_eq t g) ?_
  refine T_assume (cix_lt4 hb 16 (by norm_num)) ?_
  refine Tgat_m4 ?_
  refine T_ldx (off95_eq t g) ?_
  refine T_assume (cix_lt4 hb 17 (by norm_num)) ?_
  refine Tgat_m4 ?_
  refine T_ldx (off96_eq t g) ?_
  refine T_assume (cix_lt4 hb 18 (by norm_num)) ?_
  refine Tgat_m4 ?_
  refine T_ldx (off97_eq t g) ?_
  refine T_assume (cix_lt4 hb 19 (by norm_num)) ?_
  refine Tgat_m4 ?_
  refine T_ldx (off98_eq t g) ?_
  exact T_pure ⟨rfl, rfl⟩

theorem T_part31 (t : Fin k0_t7_loop.trips) (g : Fin k0_t8_loop.trips) (b : IVec S16 32) (hb : ∀ x, (b x).toNat < 3972) {v68 : BitVec 32} {v99 : BitVec 32} :
    T d (cV i) (jV i) (chunk d i (t.val % 2) xs ids) ⟨a0, a1, a2, a3, st, mf, m4, mt, rd, sa, ob⟩ (k0_part31 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 t v68 g v99 b (accL b xs (16 * g.val) m4 [0, 4, 8, 12, 16]) (accL b xs (16 * g.val) m4 [1, 5, 9, 13, 17]) (accL b xs (16 * g.val) m4 [2, 6, 10, 14, 18]) (accL b xs (16 * g.val) m4 [3, 7, 11, 15, 19]) (gxs xs 20 (16 * g.val)))
      (fun r σ' => (r = ⟨(accL b xs (16 * g.val) m4 [0, 4, 8, 12, 16, 20]), (accL b xs (16 * g.val) m4 [1, 5, 9, 13, 17, 21]), (accL b xs (16 * g.val) m4 [2, 6, 10, 14, 18, 22]), (accL b xs (16 * g.val) m4 [3, 7, 11, 15, 19, 23]), (xv xs 24 (16 * g.val)), (cix b 24)⟩) ∧ σ' = ⟨a0, a1, a2, a3, st, mf, m4, mt, rd, sa, ob⟩) := by
  rw [k0_part31_eq_skeleton]
  unfold k0_part31_skel
  refine T_assume (cix_lt4 hb 20 (by norm_num)) ?_
  refine Tgat_m4 ?_
  refine T_ldx (off99_eq t g) ?_
  refine T_assume (cix_lt4 hb 21 (by norm_num)) ?_
  refine Tgat_m4 ?_
  refine T_ldx (off100_eq t g) ?_
  refine T_assume (cix_lt4 hb 22 (by norm_num)) ?_
  refine Tgat_m4 ?_
  refine T_ldx (off101_eq t g) ?_
  refine T_assume (cix_lt4 hb 23 (by norm_num)) ?_
  refine Tgat_m4 ?_
  refine T_ldx (off102_eq t g) ?_
  exact T_pure ⟨rfl, rfl⟩

theorem T_part32 (t : Fin k0_t7_loop.trips) (g : Fin k0_t8_loop.trips) (b : IVec S16 32) (hb : ∀ x, (b x).toNat < 3972) {v68 : BitVec 32} {v99 : BitVec 32} :
    T d (cV i) (jV i) (chunk d i (t.val % 2) xs ids) ⟨a0, a1, a2, a3, st, mf, m4, mt, rd, sa, ob⟩ (k0_part32 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 t v68 g v99 b (accL b xs (16 * g.val) m4 [0, 4, 8, 12, 16, 20]) (accL b xs (16 * g.val) m4 [1, 5, 9, 13, 17, 21]) (accL b xs (16 * g.val) m4 [2, 6, 10, 14, 18, 22]) (accL b xs (16 * g.val) m4 [3, 7, 11, 15, 19, 23]) (xv xs 24 (16 * g.val)) (cix b 24))
      (fun r σ' => (r = ⟨(accL b xs (16 * g.val) m4 [0, 4, 8, 12, 16, 20, 24]), (accL b xs (16 * g.val) m4 [1, 5, 9, 13, 17, 21, 25]), (accL b xs (16 * g.val) m4 [2, 6, 10, 14, 18, 22, 26]), (accL b xs (16 * g.val) m4 [3, 7, 11, 15, 19, 23, 27]), (mulf (subf (xv xs 28 (16 * g.val)) (gat m4 (cix b 28))) (subf (xv xs 28 (16 * g.val)) (gat m4 (cix b 28))))⟩) ∧ σ' = ⟨a0, a1, a2, a3, st, mf, m4, mt, rd, sa, ob⟩) := by
  rw [k0_part32_eq_skeleton]
  unfold k0_part32_skel
  refine T_assume (cix_lt4 hb 24 (by norm_num)) ?_
  refine Tgat_m4 ?_
  refine T_ldx (off103_eq t g) ?_
  refine T_assume (cix_lt4 hb 25 (by norm_num)) ?_
  refine Tgat_m4 ?_
  refine T_ldx (off104_eq t g) ?_
  refine T_assume (cix_lt4 hb 26 (by norm_num)) ?_
  refine Tgat_m4 ?_
  refine T_ldx (off105_eq t g) ?_
  refine T_assume (cix_lt4 hb 27 (by norm_num)) ?_
  refine Tgat_m4 ?_
  refine T_ldx (off106_eq t g) ?_
  refine T_assume (cix_lt4 hb 28 (by norm_num)) ?_
  refine Tgat_m4 ?_
  exact T_pure ⟨rfl, rfl⟩

theorem T_part33 (t : Fin k0_t7_loop.trips) (g : Fin k0_t8_loop.trips) (b : IVec S16 32) (hb : ∀ x, (b x).toNat < 3972) {v68 : BitVec 32} {v99 : BitVec 32} :
    T d (cV i) (jV i) (chunk d i (t.val % 2) xs ids) ⟨a0, a1, a2, a3, st, mf, m4, mt, rd, sa, ob⟩ (k0_part33 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 t v68 g v99 (idv ids (16 * g.val)) b (accL b xs (16 * g.val) m4 [0, 4, 8, 12, 16, 20, 24]) (accL b xs (16 * g.val) m4 [1, 5, 9, 13, 17, 21, 25]) (accL b xs (16 * g.val) m4 [2, 6, 10, 14, 18, 22, 26]) (accL b xs (16 * g.val) m4 [3, 7, 11, 15, 19, 23, 27]) (mulf (subf (xv xs 28 (16 * g.val)) (gat m4 (cix b 28))) (subf (xv xs 28 (16 * g.val)) (gat m4 (cix b 28)))))
      (fun r σ' => (∃ q, r = ⟨q, muli (idv ids (16 * g.val)) (broadcast S16 4#32), 4224#32⟩ ∧ mulf q q = hng (accL b xs (16 * g.val) m4 [0, 4, 8, 12, 16, 20, 24, 28]) (accL b xs (16 * g.val) m4 [1, 5, 9, 13, 17, 21, 25, 29]) (accL b xs (16 * g.val) m4 [2, 6, 10, 14, 18, 22, 26, 30]) (accL b xs (16 * g.val) m4 [3, 7, 11, 15, 19, 23, 27, 31])) ∧ σ' = ⟨a0, a1, a2, a3, st, mf, m4, mt, rd, sa, ob⟩) := by
  rw [k0_part33_eq_skeleton]
  unfold k0_part33_skel
  refine T_ldx (off107_eq t g) ?_
  refine T_assume (cix_lt4 hb 29 (by norm_num)) ?_
  refine Tgat_m4 ?_
  refine T_ldx (off108_eq t g) ?_
  refine T_assume (cix_lt4 hb 30 (by norm_num)) ?_
  refine Tgat_m4 ?_
  refine T_ldx (off109_eq t g) ?_
  refine T_assume (cix_lt4 hb 31 (by norm_num)) ?_
  refine Tgat_m4 ?_
  exact T_pure ⟨⟨_, rfl, rfl⟩, rfl⟩

theorem T_t8_body (t : Fin k0_t7_loop.trips) (g : Fin k0_t8_loop.trips) (u : Unit) (hids : ∀ n, (ids n).toNat < 32)
  {v68 : BitVec 32} (σ : St F) :
    T d (cV i) (jV i) (chunk d i (t.val % 2) xs ids) σ (k0_t8_body i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 k0_pay386 k0_pay388 t v68 g u)
      (fun r σ' => σ' = grp2 ids xs (16 * g.val) σ) := by
  obtain ⟨a0, a1, a2, a3, st, mf, m4, mt, rd, sa, ob⟩ := σ
  have hb := gb_lt hids (16 * g.val)
  unfold k0_t8_body
  refine T_bind (T_mono (T_part26 t g hids) ?_)
  rintro ⟨r1, r2⟩ σ' ⟨rfl, rfl⟩
  refine T_bind (T_mono (T_part27 t g _ hb) ?_)
  rintro r σ' ⟨rfl, rfl⟩
  refine T_bind (T_mono (T_part28 t g _ hb) ?_)
  rintro r σ' ⟨rfl, rfl⟩
  refine T_bind (T_mono (T_part29 t g _ hb) ?_)
  rintro r σ' ⟨rfl, rfl⟩
  refine T_bind (T_mono (T_part30 t g _ hb) ?_)
  rintro r σ' ⟨rfl, rfl⟩
  refine T_bind (T_mono (T_part31 t g _ hb) ?_)
  rintro r σ' ⟨rfl, rfl⟩
  refine T_bind (T_mono (T_part32 t g _ hb) ?_)
  rintro r σ' ⟨rfl, rfl⟩
  refine T_bind (T_mono (T_part33 t g _ hb) ?_)
  rintro r σ' ⟨⟨q, rfl, hq⟩, rfl⟩
  refine T_assume (hix_lt hids (16 * g.val)) ?_
  refine Tsca_a0 ?_
  refine T_pure ?_
  unfold grp2
  rw [← hq]
  rfl

/-- The second pass over a chunk. -/
theorem T_t8 (t : Fin k0_t7_loop.trips) (hids : ∀ n, (ids n).toNat < 32)
  {v68 : BitVec 32} {hok : k0_t8_loop.OK} (σ : St F) :
    T d (cV i) (jV i) (chunk d i (t.val % 2) xs ids) σ (Scf.Loop.for k0_t8_loop hok ⟨⟩ (k0_t8_body i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 k0_pay386 k0_pay388 t v68))
      (fun r σ' => σ' = iter (fun g => grp2 ids xs (16 * g)) 64 σ) := by
  refine T_forQ (fun k _ σ' => σ' = iter (fun g => grp2 ids xs (16 * g)) k σ) rfl ?_ ?_
  · rintro g u σ' rfl
    exact T_t8_body t g u hids _
  · rintro u σ' rfl
    rw [show k0_t8_loop.trips = 64 by decide +kernel]

end Pass2

end Cert.Proof.Embed
-- ==== Proof.Segs.lean ====
/-
  Sixteen lanes of a tile's buffers, loaded and stored at an offset; the copy of the shared table of rows.
-/
module

public import proofs.«01_k».proof.Proof.Groups

@[expose] public section

set_option maxRecDepth 16384

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 3) (Elt F) ℕ UU ℕ

/-! ## Sixteen lanes of a buffer, from an offset on -/

/-- Sixteen lanes of a flat buffer. -/
def seg {N : ℕ} [NeZero N] (f : Vec F ⟨1, ![N]⟩ .f32) (o : ℕ) : Vec F S16 .f32 := fun x => nv f (o + (x 0).val)

/-- An index of the table of rows. -/
def ix2 (r c : ℕ) : S16x1088.Idx := fun a => match a with
  | 0 => ⟨r % 16, Nat.mod_lt _ (by decide)⟩
  | 1 => ⟨c % 1088, Nat.mod_lt _ (by decide)⟩

/-- Sixteen lanes of a row of the table of rows. -/
def seg2 (f : Vec F S16x1088 .f32) (r o : ℕ) : Vec F S1x16 .f32 := fun x => f (ix2 r (o + (x 1).val))

theorem ldr_seg {N : ℕ} [NeZero N] {off : Fin 1 → ℕ} {inb : ∀ a, off a + S16.size a ≤ (⟨1, ![N]⟩ : Shape).size a} {o : ℕ} (ho : off = ![o])
    (f : Vec F ⟨1, ![N]⟩ .f32) : ldr (Rect.unit (s := ⟨1, ![N]⟩) off S16.size inb) f = seg f o := by
  subst ho
  funext x
  unfold ldr seg nv
  congr 1
  funext a
  rw [Fin.eq_zero a]
  have h := inb 0
  have hx : (x 0).val < 16 := (x 0).isLt
  have h' : o + 16 ≤ N := h
  apply Fin.ext
  show o + 1 * (x 0).val = (o + (x 0).val) % N
  rw [Nat.mod_eq_of_lt (by omega)]
  omega

theorem ldr_seg2 {off : Fin 2 → ℕ} {inb : ∀ a, off a + S1x16.size a ≤ S16x1088.size a} {r o : ℕ} (ho : off = ![r, o])
    (f : Vec F S16x1088 .f32) : ldr (Rect.unit (s := S16x1088) off S1x16.size inb) f = seg2 f r o := by
  subst ho
  funext x
  unfold ldr seg2
  congr 1
  have h0 : r + 1 ≤ 16 := inb 0
  have h1 : o + 16 ≤ 1088 := inb 1
  have hx0 : (x 0).val < 1 := (x 0).isLt
  have hx : (x 1).val < 16 := (x 1).isLt
  funext a
  apply Fin.ext
  match a with
  | 0 =>
    show r + 1 * (x 0).val = r % 16
    rw [Nat.mod_eq_of_lt (by omega)]
    omega
  | 1 =>
    show o + 1 * (x 1).val = (o + (x 1).val) % 1088
    rw [Nat.mod_eq_of_lt (by omega)]
    omega

theorem chkI {N : ℕ} {idx : IVec S16 32} (h : ∀ x : S16.Idx, (idx x).toNat < N) :
    ∀ a x, ((![idx] : Fin 1 → IVec S16 32) a x).toNat < (⟨1, ![N]⟩ : Shape).size a := by
  intro a x
  rw [Fin.eq_zero a]
  exact h x

section Tile

variable {d : Dev nD} {cc : Fin τ.nSC} {jj : Fin τ.nSub} {R : sProp (MT nD τ sig (HIx 3) (Elt F) ℕ UU ℕ)} {α : Type}
  {a0 : Vec F (shp .a0) .f32}
  {a1 : Vec F (shp .a1) .f32}
  {a2 : Vec F (shp .a2) .f32}
  {a3 : Vec F (shp .a3) .f32}
  {st : Vec F (shp .st) .f32}
  {mf : Vec F (shp .mf) .f32}
  {m4 : Vec F (shp .m4) .f32}
  {mt : Vec F (shp .mt) .f32}
  {rd : Vec F (shp .rd) .f32}
  {sa : Vec F (shp .sa) .f32}
  {ob : Vec F (shp .ob) .f32}

theorem Tseg_mf {off : Fin 1 → ℕ} {inb : ∀ a, off a + S16.size a ≤ (shp .mf).size a} {o : ℕ} (ho : off = ![o])
    {hl : (mr .mf).view.LoadsAt (Rect.unit (s := shp .mf) off S16.size inb).toLoadRect}
    {k : Vec F S16 .f32 → Prog (TpuEff nD τ sig (Elt F) Λ₀ (V d cc jj).2) α} {Q : α → St F → Prop}
    (h : T d cc jj R ⟨a0, a1, a2, a3, st, mf, m4, mt, rd, sa, ob⟩ (k (seg mf o)) Q) :
    T d cc jj R ⟨a0, a1, a2, a3, st, mf, m4, mt, rd, sa, ob⟩ (Prog.lift (.load (mr .mf) (Rect.unit (s := shp .mf) off S16.size inb).toLoadRect hl) >>= k) Q :=
  Tld_mf (by rw [show ldr (Rect.unit (s := shp .mf) off S16.size inb) mf = seg mf o from ldr_seg ho mf]; exact h)

theorem Tseg_mt {off : Fin 1 → ℕ} {inb : ∀ a, off a + S16.size a ≤ (shp .mt).size a} {o : ℕ} (ho : off = ![o])
    {hl : (mr .mt).view.LoadsAt (Rect.unit (s := shp .mt) off S16.size inb).toLoadRect}
    {k : Vec F S16 .f32 → Prog (TpuEff nD τ sig (Elt F) Λ₀ (V d cc jj).2) α} {Q : α → St F → Prop}
    (h : T d cc jj R ⟨a0, a1, a2, a3, st, mf, m4, mt, rd, sa, ob⟩ (k (seg mt o)) Q) :
    T d cc jj R ⟨a0, a1, a2, a3, st, mf, m4, mt, rd, sa, ob⟩ (Prog.lift (.load (mr .mt) (Rect.unit (s := shp .mt) off S16.size inb).toLoadRect hl) >>= k) Q :=
  Tld_mt (by rw [show ldr (Rect.unit (s := shp .mt) off S16.size inb) mt = seg mt o from ldr_seg ho mt]; exact h)

theorem Tseg_rd {off : Fin 1 → ℕ} {inb : ∀ a, off a + S16.size a ≤ (shp .rd).size a} {o : ℕ} (ho : off = ![o])
    {hl : (mr .rd).view.LoadsAt (Rect.unit (s := shp .rd) off S16.size inb).toLoadRect}
    {k : Vec F S16 .f32 → Prog (TpuEff nD τ sig (Elt F) Λ₀ (V d cc jj).2) α} {Q : α → St F → Prop}
    (h : T d cc jj R ⟨a0, a1, a2, a3, st, mf, m4, mt, rd, sa, ob⟩ (k (seg rd o)) Q) :
    T d cc jj R ⟨a0, a1, a2, a3, st, mf, m4, mt, rd, sa, ob⟩ (Prog.lift (.load (mr .rd) (Rect.unit (s := shp .rd) off S16.size inb).toLoadRect hl) >>= k) Q :=
  Tld_rd (by rw [show ldr (Rect.unit (s := shp .rd) off S16.size inb) rd = seg rd o from ldr_seg ho rd]; exact h)

theorem Tseg_ob {off : Fin 1 → ℕ} {inb : ∀ a, off a + S16.size a ≤ (shp .ob).size a} {o : ℕ} (ho : off = ![o])
    {hl : (mr .ob).view.LoadsAt (Rect.unit (s := shp .ob) off S16.size inb).toLoadRect}
    {k : Vec F S16 .f32 → Prog (TpuEff nD τ sig (Elt F) Λ₀ (V d cc jj).2) α} {Q : α → St F → Prop}
    (h : T d cc jj R ⟨a0, a1, a2, a3, st, mf, m4, mt, rd, sa, ob⟩ (k (seg ob o)) Q) :
    T d cc jj R ⟨a0, a1, a2, a3, st, mf, m4, mt, rd, sa, ob⟩ (Prog.lift (.load (mr .ob) (Rect.unit (s := shp .ob) off S16.size inb).toLoadRect hl) >>= k) Q :=
  Tld_ob (by rw [show ldr (Rect.unit (s := shp .ob) off S16.size inb) ob = seg ob o from ldr_seg ho ob]; exact h)

theorem Tseg_sa {off : Fin 2 → ℕ} {inb : ∀ a, off a + S1x16.size a ≤ (shp .sa).size a} {r o : ℕ} (ho : off = ![r, o])
    {hl : (mr .sa).view.LoadsAt (Rect.unit (s := shp .sa) off S1x16.size inb).toLoadRect}
    {k : Vec F S1x16 .f32 → Prog (TpuEff nD τ sig (Elt F) Λ₀ (V d cc jj).2) α} {Q : α → St F → Prop}
    (h : T d cc jj R ⟨a0, a1, a2, a3, st, mf, m4, mt, rd, sa, ob⟩ (k (seg2 sa r o)) Q) :
    T d cc jj R ⟨a0, a1, a2, a3, st, mf, m4, mt, rd, sa, ob⟩ (Prog.lift (.load (mr .sa) (Rect.unit (s := shp .sa) off S1x16.size inb).toLoadRect hl) >>= k) Q :=
  Tld_sa (by rw [show ldr (Rect.unit (s := shp .sa) off S1x16.size inb) sa = seg2 sa r o from ldr_seg2 ho sa]; exact h)

theorem Tblk_mf (W : ℕ → Vec F S16 .f32) (n : ℕ) {off : Fin 1 → ℕ} {inb : ∀ a, off a + S16.size a ≤ (shp .mf).size a} {w : Vec F S16 .f32}
    (ho : off = ![16 * n]) (hw : w = W n)
    {hx : ((mr .mf).access (Rect.unit (s := shp .mf) off S16.size inb)).Stores Finset.univ}
    {hm : (Finset.univ : Finset (Rect.unit (s := shp .mf) off S16.size inb).shape.Idx) = Finset.univ ∨ ∀ a, (Rect.unit (s := shp .mf) off S16.size inb).stride a = 1}
    {k : PUnit → Prog (TpuEff nD τ sig (Elt F) Λ₀ (V d cc jj).2) α} {Q : α → St F → Prop}
    (h : T d cc jj R ⟨a0, a1, a2, a3, st, blk W (n + 1) mf, m4, mt, rd, sa, ob⟩ (k ⟨⟩) Q) :
    T d cc jj R ⟨a0, a1, a2, a3, st, blk W n mf, m4, mt, rd, sa, ob⟩ (Prog.lift (.store (mr .mf) (Rect.unit (s := shp .mf) off S16.size inb) w Finset.univ hx hm) >>= k) Q := by
  subst hw
  refine Tst_mf ?_
  rw [show wr (Rect.unit (s := shp .mf) off S16.size inb) (W n) (blk W n mf) = blk W (n + 1) mf from wr_blk W ho mf]
  exact h

theorem Tblk_mt (W : ℕ → Vec F S16 .f32) (n : ℕ) {off : Fin 1 → ℕ} {inb : ∀ a, off a + S16.size a ≤ (shp .mt).size a} {w : Vec F S16 .f32}
    (ho : off = ![16 * n]) (hw : w = W n)
    {hx : ((mr .mt).access (Rect.unit (s := shp .mt) off S16.size inb)).Stores Finset.univ}
    {hm : (Finset.univ : Finset (Rect.unit (s := shp .mt) off S16.size inb).shape.Idx) = Finset.univ ∨ ∀ a, (Rect.unit (s := shp .mt) off S16.size inb).stride a = 1}
    {k : PUnit → Prog (TpuEff nD τ sig (Elt F) Λ₀ (V d cc jj).2) α} {Q : α → St F → Prop}
    (h : T d cc jj R ⟨a0, a1, a2, a3, st, mf, m4, blk W (n + 1) mt, rd, sa, ob⟩ (k ⟨⟩) Q) :
    T d cc jj R ⟨a0, a1, a2, a3, st, mf, m4, blk W n mt, rd, sa, ob⟩ (Prog.lift (.store (mr .mt) (Rect.unit (s := shp .mt) off S16.size inb) w Finset.univ hx hm) >>= k) Q := by
  subst hw
  refine Tst_mt ?_
  rw [show wr (Rect.unit (s := shp .mt) off S16.size inb) (W n) (blk W n mt) = blk W (n + 1) mt from wr_blk W ho mt]
  exact h

theorem Tblk_rd (W : ℕ → Vec F S16 .f32) (n : ℕ) {off : Fin 1 → ℕ} {inb : ∀ a, off a + S16.size a ≤ (shp .rd).size a} {w : Vec F S16 .f32}
    (ho : off = ![16 * n]) (hw : w = W n)
    {hx : ((mr .rd).access (Rect.unit (s := shp .rd) off S16.size inb)).Stores Finset.univ}
    {hm : (Finset.univ : Finset (Rect.unit (s := shp .rd) off S16.size inb).shape.Idx) = Finset.univ ∨ ∀ a, (Rect.unit (s := shp .rd) off S16.size inb).stride a = 1}
    {k : PUnit → Prog (TpuEff nD τ sig (Elt F) Λ₀ (V d cc jj).2) α} {Q : α → St F → Prop}
    (h : T d cc jj R ⟨a0, a1, a2, a3, st, mf, m4, mt, blk W (n + 1) rd, sa, ob⟩ (k ⟨⟩) Q) :
    T d cc jj R ⟨a0, a1, a2, a3, st, mf, m4, mt, blk W n rd, sa, ob⟩ (Prog.lift (.store (mr .rd) (Rect.unit (s := shp .rd) off S16.size inb) w Finset.univ hx hm) >>= k) Q := by
  subst hw
  refine Tst_rd ?_
  rw [show wr (Rect.unit (s := shp .rd) off S16.size inb) (W n) (blk W n rd) = blk W (n + 1) rd from wr_blk W ho rd]
  exact h

/-! ## All rows of the shared table, copied into the tile's own -/

/-- What a tile owes, the waits it has made since `W₀` being copies' or the barrier's. -/
def ow (d : Dev nD) (cc : Fin τ.nSC) (jj : Fin τ.nSub) (W₀ : Waits sig (HIx 3)) (O : CellTallies nD τ sig (HIx 3)) : sProp 𝕄 :=
  iprop(∃ W, ⌜∀ p ∈ W, p ∈ W₀ ∨ p.2 = none ∨ p.2 ≠ none⌝ ∗ owes (V d cc jj) O W)

/-- What the copy is made beside: the shared table, the copy's semaphore at zero, what the tile owes, and that it may wait. -/
def cpR (d : Dev nD) (cc : Fin τ.nSC) (jj : Fin τ.nSub) (sem : DmaSem sig) (W₀ : Waits sig (HIx 3)) (O : CellTallies nD τ sig (HIx 3)) (f : Vec F S16x1088 .f32) : sProp 𝕄 :=
  iprop(((V d cc jj).loc cc0_scratch15 ↦{fullShare} f) ∗ semVal (V d cc jj, .dma sem) 0 ∗ ow d cc jj W₀ O ∗ Transfers.MayWaits (V d cc jj) none O)

theorem T_copy_sa {sem : DmaSem sig} {W₀ : Waits sig (HIx 3)} {O : CellTallies nD τ sig (HIx 3)} {f : Vec F S16x1088 .f32}
    {w1 : (Memref.whole cc0_scratch15 : Memref sig .scVector .shared S16x1088 .f32).view.WordExact} {w2 : (Memref.whole cc0_scratch11 : Memref sig .scVector .vmem S16x1088 .f32).view.WordExact}
    {w3 : (Memref.whole cc0_scratch15 : Memref sig .scVector .shared S16x1088 .f32).view.WordExact} {w4 : (Memref.whole cc0_scratch11 : Memref sig .scVector .vmem S16x1088 .f32).view.WordExact}
    {hsem : (DmaTarget.here (Memref.whole cc0_scratch11) : DmaTarget nD τ sig (V d cc jj).2 .vmem S16x1088 .f32).Typed .shared (.dma sem)}
    {k : PUnit → Prog (TpuEff nD τ sig (Elt F) Λ₀ (V d cc jj).2) α} {Q : α → St F → Prop}
    (h : T d cc jj (cpR d cc jj sem W₀ O f) ⟨a0, a1, a2, a3, st, mf, m4, mt, rd, f, ob⟩ (k ⟨⟩) Q) :
    T d cc jj (cpR d cc jj sem W₀ O f) ⟨a0, a1, a2, a3, st, mf, m4, mt, rd, sa, ob⟩
      (Prog.lift (.enqueueDma (p := (V d cc jj).2) (Memref.whole cc0_scratch15) (.here (Memref.whole cc0_scratch11)) (.dma sem) w1 w2 hsem) >>= fun _ =>
        Prog.lift (.waitDma2 (p := (V d cc jj).2) sem (Memref.whole cc0_scratch15) (Memref.whole cc0_scratch11) w3 w4) >>= k) Q := by
  unfold T at *
  have e : (View.whole cc0_scratch11).write (Elt F) sa f Finset.univ = f := View.write_whole_univ _ _ _
  unfold cpR ow at *
  have es : (Memref.whole cc0_scratch15 : Memref sig .scVector .shared S16x1088 .f32).view.set = Finset.univ := View.set_whole _
  have hd := fun k Q => Transfers.wp_dmaLocal (α := α) (k := k) (Q := Q) (Lvl := ℕ) (Name := ℕ) (U := UU) (Ix := HIx 3) (defs := defs₀ (F := F)) countersEmb 𝒱₀ (V d cc jj) none (src := Memref.whole cc0_scratch15) (dst := Memref.whole cc0_scratch11)
    (hsrc := w1) (hdst := w2) (hsem := hsem) (q := fullShare)
    (via := .same) (fs := f) (fd := sa) (Sd := Finset.univ) none ((Memref.whole cc0_scratch11 : Memref sig .scVector .vmem S16x1088 .f32).view.dmaCredit) rfl (by decide +kernel) (Finset.subset_univ _)
  rw [es] at hd
  have e' : (Memref.whole cc0_scratch11 : Memref sig .scVector .vmem S16x1088 .f32).view.write (Elt F) sa ((ReadAs.same : ReadAs (Elt F) S16x1088 .f32 S16x1088 .f32).apply ((Memref.whole cc0_scratch15 : Memref sig .scVector .shared S16x1088 .f32).view.read (Elt F) f)) Finset.univ = f := View.write_whole_univ _ _ _
  rw [e'] at hd
  change _ ⊢ wp _ _ _ (.op (.enqueueDmaAs (Memref.whole cc0_scratch15) (.here (Memref.whole cc0_scratch11)) .same (.dma sem) w1 w2 hsem) fun _ =>
    .op (.waitDma2 (p := (V d cc jj).2) sem (Memref.whole cc0_scratch15) (Memref.whole cc0_scratch11) w3 w4) k) _
  iintro ⟨⟨Hs, Hv, ⟨%W, %hW, HO⟩, #HM⟩, HB⟩
  ihave HB := (bufs_acc d cc jj .sa _) $$ HB
  icases HB with ⟨Hp, HK⟩
  ihave Hp := (Entails.of_eq (show pt d cc jj .sa sa = ((Memref.whole cc0_scratch11 : Memref sig .scVector .vmem S16x1088 .f32).view.loc (V d cc jj) ↦{fullShare} sa : sProp 𝕄) from rfl)) $$ Hp
  iapply hd $$ [Hs Hp Hv]
  · isplitl [Hs]; · iexact Hs
    isplitl [Hp]; · iexact Hp
    iexact Hv
  iintro Hfl
  iapply (Transfers.wp_waitLocalO countersEmb 𝒱₀ (V d cc jj) none none rfl) $$ [Hfl HO]
  · isplitl [Hfl]; · iexact Hfl
    isplitl [HO]; · iexact HO
    iapply (Transfers.MayWaits.elim (SemLoc.dma sem)) $$ HM
  iintro ⟨⟨Hp, Hs⟩, Hv, HO⟩
  ihave HB := HK $$ %(fun _ => f) [Hp]
  · unfold pt
    iexact Hp
  iapply h
  isplitr [HB]
  · isplitl [Hs]; · iexact Hs
    isplitl [Hv]; · iexact Hv
    isplitl [HO]
    · iexists _; isplitr; swap; · iexact HO
      ipureintro; intro p hp
      rcases Finset.mem_insert.mp hp with hp | hp; · exact .inr (.inl (hp ▸ rfl))
      exact hW p hp
    iexact HM
  iexact HB

end Tile

end Cert.Proof.Embed
-- ==== Proof.Copies.lean ====
/-
  Copies between a tile's own vector memory and the memories that others see: a copy that is waited for at once, the fetch of a
  chunk of pixels and ids into one of the two slots, and the wait for it.
-/
module

public import proofs.«01_k».proof.Proof.Groups
public import proofs.«01_k».proof.Proof.Segs
public import Idealize.ShloMosaic.Lib.SparseCore.FromWhole

@[expose] public section

set_option maxRecDepth 16384

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 3) (Elt F) ℕ UU ℕ

/-- The thread of a grid point. -/
abbrev thr (d : Dev nD) (i : grid0.Coords) : Thread nD τ := V d (cV i) (jV i)

section Copy

variable {d : Dev nD} {i : grid0.Coords} {α : Type} {sp sp' : Space} {s : Shape} {e : EltTy}

/-- A copy and the wait for it. -/
theorem W_copy {src : Memref sig (thr d i).2.kind sp s e} {dst : Memref sig (thr d i).2.kind sp' s e} {sem : DmaSem sig}
    {W₀ : Waits sig (HIx 3)} {O : CellTallies nD τ sig (HIx 3)} {q : PosShare TreeShare}
    {fs : Buf (Elt F) (src.view.loc (thr d i))} {fd : Buf (Elt F) (dst.view.loc (thr d i))}
    {w1 w3 : src.view.WordExact} {w2 w4 : dst.view.WordExact}
    {hsem : (DmaTarget.here dst : DmaTarget nD τ sig (thr d i).2 sp' s e).Typed sp (.dma sem)}
    {k : PUnit → Prog (TpuEff nD τ sig (Elt F) Λ₀ (thr d i).2) α} {Φ : α → sProp 𝕄} (h0 : 0 < s.numel) :
    iprop((src.view.loc (thr d i) ↦[src.view.set]{q} fs) ∗ (dst.view.loc (thr d i) ↦[dst.view.set]{fullShare} fd) ∗ semVal (thr d i, .dma sem) 0
        ∗ ow d (cV i) (jV i) W₀ O ∗ Transfers.MayWaits (thr d i) none O)
      ⊢ iprop(((((src.view.loc (thr d i) ↦[src.view.set]{q} fs)
            ∗ (dst.view.loc (thr d i) ↦[dst.view.set]{fullShare} (dst.view.write (Elt F) fd (src.view.read (Elt F) fs) Finset.univ)))
            ∗ semVal (thr d i, .dma sem) 0 ∗ ow d (cV i) (jV i) W₀ O)
            -∗ wp frame (wpE (defs₀ (F := F)) 𝒱₀ (thr d i) none) Set.univ (k ⟨⟩) Φ)
          -∗ wp frame (wpE (defs₀ (F := F)) 𝒱₀ (thr d i) none) Set.univ
            (Prog.lift (.enqueueDma (p := (thr d i).2) src (.here dst) (.dma sem) w1 w2 hsem) >>= fun _ =>
              Prog.lift (.waitDma2 (p := (thr d i).2) sem src dst w3 w4) >>= k) Φ) := by
  have hd := fun k Q => Transfers.wp_dmaLocal (α := α) (k := k) (Q := Q) (Lvl := ℕ) (Name := ℕ) (U := UU) (Ix := HIx 3) (defs := defs₀ (F := F))
    countersEmb 𝒱₀ (thr d i) none (src := src) (dst := dst) (hsrc := w1) (hdst := w2) (hsem := hsem) (q := q)
    (via := .same) (fs := fs) (fd := fd) (Sd := dst.view.set) none (dst.view.dmaCredit) rfl (dst.view.dmaCredit_pos h0) (Finset.Subset.refl _)
  change _ ⊢ iprop(_ -∗ wp _ _ _ (.op (.enqueueDmaAs src (.here dst) .same (.dma sem) w1 w2 hsem) fun _ =>
    .op (.waitDma2 (p := (thr d i).2) sem src dst w3 w4) k) _)
  unfold ow
  iintro ⟨Hs, Hp, Hv, ⟨%W, %hW, HO⟩, #HM⟩ HK
  iapply hd $$ [Hs Hp Hv]
  · isplitl [Hs]; · iexact Hs
    isplitl [Hp]; · iexact Hp
    iexact Hv
  iintro Hfl
  iapply (Transfers.wp_waitLocalO countersEmb 𝒱₀ (thr d i) none none rfl) $$ [Hfl HO]
  · isplitl [Hfl]; · iexact Hfl
    isplitl [HO]; · iexact HO
    iapply (Transfers.MayWaits.elim (SemLoc.dma sem)) $$ HM
  iintro ⟨⟨Hp, Hs⟩, Hv, HO⟩
  iapply HK
  isplitl [Hp Hs]
  · isplitl [Hs]; · iexact Hs
    iexact Hp
  isplitl [Hv]; · iexact Hv
  iexists _; isplitr; swap; · iexact HO
  ipureintro; intro p hp
  rcases Finset.mem_insert.mp hp with hp | hp; · exact .inr (.inl (hp ▸ rfl))
  exact hW p hp

end Copy

/-! ## Chunks -/

/-- The pixel of batch `c`, channel `ch`, at position `p`, and its id. -/
def pxI (c : Fin 2) (ch p : ℕ) : S2x32x262144.Idx := fun a => match a with
  | ⟨0, _⟩ => c
  | ⟨1, _⟩ => ⟨ch % 32, Nat.mod_lt _ (by decide)⟩
  | ⟨2, _⟩ => ⟨p % 262144, Nat.mod_lt _ (by decide)⟩
def idI (c : Fin 2) (p : ℕ) : S2x262144.Idx := fun a => match a with
  | ⟨0, _⟩ => c
  | ⟨1, _⟩ => ⟨p % 262144, Nat.mod_lt _ (by decide)⟩

/-- Chunk `t` of tile `(c, s)`. -/
def xsOf (X : Vec F S2x32x262144 .f32) (c : Fin 2) (s t : ℕ) : ℕ → ℕ → F .f32 := fun ch p => X (pxI c ch (16384 * s + 1024 * t + p))
def idsOf (I : S2x262144.Idx → BitVec 32) (c : Fin 2) (s t : ℕ) : ℕ → BitVec 32 := fun p => I (idI c (16384 * s + 1024 * t + p))

/-- The semaphore of slot `s`. -/
def sX (s : ℕ) : DmaSem sig := cc0_scratch13.ix fun a => match a with | 0 => ⟨s % 2, Nat.mod_lt s (by decide : 0 < 2)⟩
def sI (s : ℕ) : DmaSem sig := cc0_scratch14.ix fun a => match a with | 0 => ⟨s % 2, Nat.mod_lt s (by decide : 0 < 2)⟩

theorem sX_eq {off : Fin 1 → ℕ} {inb : ∀ a, off a + S1.size a ≤ S2.size a} {s : ℕ} (hs : s < 2) (ho : off = ![s]) :
    ((cc0_scratch13.slice (Rect.unit (s := S2) off S1.size inb)).squeeze S_ squeezes_S1_S_).sem = sX s := by
  subst ho
  obtain rfl | rfl : s = 0 ∨ s = 1 := by omega
  all_goals (revert inb; decide)
theorem sI_eq {off : Fin 1 → ℕ} {inb : ∀ a, off a + S1.size a ≤ S2.size a} {s : ℕ} (hs : s < 2) (ho : off = ![s]) :
    ((cc0_scratch14.slice (Rect.unit (s := S2) off S1.size inb)).squeeze S_ squeezes_S1_S_).sem = sI s := by
  subst ho
  obtain rfl | rfl : s = 0 ∨ s = 1 := by omega
  all_goals (revert inb; decide)

section Views

/-- A chunk of pixels as a fetch reads it, and a slot as it writes it. -/
abbrev srcX (off : Fin 3 → ℕ) (inb : ∀ a, off a + S1x32x1024.size a ≤ S2x32x262144.size a) : Memref sig .scVector .hbm S32x1024 .f32 :=
  ((Memref.whole main_v0_scv : Memref sig .scVector .hbm S2x32x262144 .f32).slice (Rect.unit (s := S2x32x262144) off S1x32x1024.size inb) (fun _ => rfl)).squeeze S32x1024 squeezes_S1x32x1024_S32x1024
abbrev dstX (off : Fin 3 → ℕ) (inb : ∀ a, off a + S1x32x1024.size a ≤ S2x32x1024.size a) : Memref sig .scVector .vmem S32x1024 .f32 :=
  ((Memref.whole cc0_scratch0 : Memref sig .scVector .vmem S2x32x1024 .f32).slice (Rect.unit (s := S2x32x1024) off S1x32x1024.size inb) (fun _ => rfl)).squeeze S32x1024 squeezes_S1x32x1024_S32x1024
abbrev srcI (off : Fin 2 → ℕ) (inb : ∀ a, off a + S1x1024.size a ≤ S2x262144.size a) : Memref sig .scVector .hbm S1024 .i32 :=
  ((Memref.whole main_v1_scv : Memref sig .scVector .hbm S2x262144 .i32).slice (Rect.unit (s := S2x262144) off S1x1024.size inb) (fun _ => rfl)).squeeze S1024 squeezes_S1x1024_S1024
abbrev dstI (off : Fin 2 → ℕ) (inb : ∀ a, off a + S1x1024.size a ≤ S2x1024.size a) : Memref sig .scVector .vmem S1024 .i32 :=
  ((Memref.whole cc0_scratch1 : Memref sig .scVector .vmem S2x1024 .i32).slice (Rect.unit (s := S2x1024) off S1x1024.size inb) (fun _ => rfl)).squeeze S1024 squeezes_S1x1024_S1024

variable {s : ℕ}

theorem set_dstX {off : Fin 3 → ℕ} {inb : ∀ a, off a + S1x32x1024.size a ≤ S2x32x1024.size a} (ho : off = ![s, 0, 0]) : (dstX off inb).view.set = slotX s := by
  subst ho
  refine (View.set_reshape _ _).trans ((View.set_slice_whole _ _).trans ?_)
  ext p
  rw [Rect.mem_set_unit]
  simp only [slotX, Finset.mem_filter, Finset.mem_univ, true_and]
  constructor
  · intro h
    have h0 := h 0
    change s ≤ (p 0).val ∧ (p 0).val < s + 1 at h0
    omega
  · intro h a
    match a with
    | 0 => exact ⟨le_of_eq h.symm, by change (p 0).val < s + 1; omega⟩
    | 1 => exact ⟨Nat.zero_le _, by change (p 1).val < 0 + 32; have := (p 1).isLt; change (p 1).val < 32 at this; omega⟩
    | 2 => exact ⟨Nat.zero_le _, by change (p 2).val < 0 + 1024; have := (p 2).isLt; change (p 2).val < 1024 at this; omega⟩

theorem set_dstI {off : Fin 2 → ℕ} {inb : ∀ a, off a + S1x1024.size a ≤ S2x1024.size a} (ho : off = ![s, 0]) : (dstI off inb).view.set = slotI s := by
  subst ho
  refine (View.set_reshape _ _).trans ((View.set_slice_whole _ _).trans ?_)
  ext p
  rw [Rect.mem_set_unit]
  simp only [slotI, Finset.mem_filter, Finset.mem_univ, true_and]
  constructor
  · intro h
    have h0 := h 0
    change s ≤ (p 0).val ∧ (p 0).val < s + 1 at h0
    omega
  · intro h a
    match a with
    | 0 => exact ⟨le_of_eq h.symm, by change (p 0).val < s + 1; omega⟩
    | 1 => exact ⟨Nat.zero_le _, by change (p 1).val < 0 + 1024; have := (p 1).isLt; change (p 1).val < 1024 at this; omega⟩

/-- What a fetch leaves in its slot. -/
theorem fetX {off : Fin 3 → ℕ} {inb : ∀ a, off a + S1x32x1024.size a ≤ S2x32x1024.size a} {off' : Fin 3 → ℕ} {inb' : ∀ a, off' a + S1x32x1024.size a ≤ S2x32x262144.size a}
    {c : Fin 2} {o : ℕ} (ho : off = ![s, 0, 0]) (ho' : off' = ![c.val, 0, o]) (X : Vec F S2x32x262144 .f32) (f : Vec F S2x32x1024 .f32) :
    ∀ p ∈ (dstX off inb).view.set, (dstX off inb).view.write (Elt F) f ((srcX off' inb').view.read (Elt F) X) Finset.univ p = X (pxI c (p 1).val (o + (p 2).val)) := by
  intro p hp
  obtain ⟨x, -, rfl⟩ := Finset.mem_map.mp hp
  rw [View.write_emb_of_mem _ _ (Finset.mem_univ x)]
  have e : Shape.reshapeEquiv (squeezes_S1x32x1024_S32x1024.numel_eq) x = Fin.cons ⟨0, Nat.one_pos⟩ x := Shape.reshapeEquiv_cons_one _ x
  subst ho ho'
  change X ((Rect.unit (s := S2x32x262144) _ S1x32x1024.size inb').emb (Shape.reshapeEquiv (squeezes_S1x32x1024_S32x1024.numel_eq) x)) = X _
  have e1 : (((dstX ![s, 0, 0] inb).view.emb x) 1).val = (x 0).val := by
    change 0 + 1 * ((Shape.reshapeEquiv (squeezes_S1x32x1024_S32x1024.numel_eq) x) 1).val = _
    rw [e]; change 0 + 1 * (x 0).val = _; omega
  have e2 : (((dstX ![s, 0, 0] inb).view.emb x) 2).val = (x 1).val := by
    change 0 + 1 * ((Shape.reshapeEquiv (squeezes_S1x32x1024_S32x1024.numel_eq) x) 2).val = _
    rw [e]; change 0 + 1 * (x 1).val = _; omega
  have i2 := inb' 2
  change o + 1024 ≤ 262144 at i2
  have l0 := (x 0).isLt
  have l1 := (x 1).isLt
  change (x 0).val < 32 at l0
  change (x 1).val < 1024 at l1
  rw [e, e1, e2]
  congr 1
  funext a
  match a with
  | 0 => exact Fin.ext (by change c.val + 1 * 0 = c.val; omega)
  | 1 => exact Fin.ext (by change 0 + 1 * (x 0).val = (x 0).val % 32; omega)
  | 2 => exact Fin.ext (by change o + 1 * (x 1).val = (o + (x 1).val) % 262144; omega)

theorem fetI {off : Fin 2 → ℕ} {inb : ∀ a, off a + S1x1024.size a ≤ S2x1024.size a} {off' : Fin 2 → ℕ} {inb' : ∀ a, off' a + S1x1024.size a ≤ S2x262144.size a}
    {c : Fin 2} {o : ℕ} (ho : off = ![s, 0]) (ho' : off' = ![c.val, o]) (X : S2x262144.Idx → BitVec 32) (f : S2x1024.Idx → BitVec 32) :
    ∀ p ∈ (dstI off inb).view.set, (dstI off inb).view.write (Elt F) f ((srcI off' inb').view.read (Elt F) X) Finset.univ p = X (idI c (o + (p 1).val)) := by
  intro p hp
  obtain ⟨x, -, rfl⟩ := Finset.mem_map.mp hp
  rw [View.write_emb_of_mem _ _ (Finset.mem_univ x)]
  have e : Shape.reshapeEquiv (squeezes_S1x1024_S1024.numel_eq) x = Fin.cons ⟨0, Nat.one_pos⟩ x := Shape.reshapeEquiv_cons_one _ x
  subst ho ho'
  change X ((Rect.unit (s := S2x262144) _ S1x1024.size inb').emb (Shape.reshapeEquiv (squeezes_S1x1024_S1024.numel_eq) x)) = X _
  have e1 : (((dstI ![s, 0] inb).view.emb x) 1).val = (x 0).val := by
    change 0 + 1 * ((Shape.reshapeEquiv (squeezes_S1x1024_S1024.numel_eq) x) 1).val = _
    rw [e]; change 0 + 1 * (x 0).val = _; omega
  have i2 := inb' 1
  change o + 1024 ≤ 262144 at i2
  have l0 := (x 0).isLt
  change (x 0).val < 1024 at l0
  rw [e, e1]
  congr 1
  funext a
  match a with
  | 0 => exact Fin.ext (by change c.val + 1 * 0 = c.val; omega)
  | 1 => exact Fin.ext (by change o + 1 * (x 0).val = (o + (x 0).val) % 262144; omega)

end Views

section Fetch

variable {d : Dev nD} {i : grid0.Coords} {α : Type} {s t : ℕ} {q : PosShare TreeShare} {X : Vec F S2x32x262144 .f32} {I : S2x262144.Idx → BitVec 32}

/-- What a fetch credits its semaphore with. -/
def NX : ℕ := sig.dmaCredit Kind.scVector (Kind.scVector.table Space.vmem) (Memref.whole cc0_scratch0 : Memref sig .scVector .vmem S2x32x1024 .f32).view.buf S32x1024 .f32
def NI : ℕ := sig.dmaCredit Kind.scVector (Kind.scVector.table Space.vmem) (Memref.whole cc0_scratch1 : Memref sig .scVector .vmem S2x1024 .i32).view.buf S1024 .i32

/-- Slot `s` with no fetch under way, the tile's read share of pixels and ids for it beside it. -/
def idle (d : Dev nD) (i : grid0.Coords) (q : PosShare TreeShare) (X : Vec F S2x32x262144 .f32) (I : S2x262144.Idx → BitVec 32) (s : ℕ) : sProp 𝕄 :=
  iprop(((∃ f, (thr d i).loc cc0_scratch0 ↦[slotX s]{fullShare} f) ∗ ((thr d i).loc main_v0_scv ↦{q} X) ∗ semVal (thr d i, .dma (sX s)) 0)
    ∗ (∃ f, (thr d i).loc cc0_scratch1 ↦[slotI s]{fullShare} f) ∗ ((thr d i).loc main_v1_scv ↦{q} I) ∗ semVal (thr d i, .dma (sI s)) 0)
/-- Slot `s` with chunk `t` on its way into it. -/
def fly (d : Dev nD) (i : grid0.Coords) (q : PosShare TreeShare) (X : Vec F S2x32x262144 .f32) (I : S2x262144.Idx → BitVec 32) (s t : ℕ) : sProp 𝕄 :=
  iprop(Transfers.Flight countersEmb (thr d i) (.dma (sX s)) none NX
      iprop(((thr d i).loc cc0_scratch0 ↦[slotX s]{fullShare} bufX (xsOf X (i 0) (i 1).val t)) ∗ ((thr d i).loc main_v0_scv ↦{q} X))
    ∗ Transfers.Flight countersEmb (thr d i) (.dma (sI s)) none NI
      iprop(((thr d i).loc cc0_scratch1 ↦[slotI s]{fullShare} bufI (idsOf I (i 0) (i 1).val t)) ∗ ((thr d i).loc main_v1_scv ↦{q} I)))
/-- What a waited-for slot has beside its chunk. -/
def rest (d : Dev nD) (i : grid0.Coords) (q : PosShare TreeShare) (X : Vec F S2x32x262144 .f32) (I : S2x262144.Idx → BitVec 32) (s : ℕ) : sProp 𝕄 :=
  iprop((((thr d i).loc main_v0_scv ↦{q} X) ∗ semVal (thr d i, .dma (sX s)) 0) ∗ ((thr d i).loc main_v1_scv ↦{q} I) ∗ semVal (thr d i, .dma (sI s)) 0)

theorem got_idle {xs : ℕ → ℕ → F .f32} {ids : ℕ → BitVec 32} : iprop(chunk d i s xs ids ∗ rest d i q X I s) ⊢ (idle d i q X I s : sProp 𝕄) := by
  unfold chunk rest idle
  iintro ⟨⟨H1, H2⟩, ⟨H3, H4⟩, H5, H6⟩
  isplitl [H1 H3 H4]
  · isplitl [H1]; · iexists _; iexact H1
    isplitl [H3] <;> iassumption
  isplitl [H2]; · iexists _; iexact H2
  isplitl [H5] <;> iassumption

set_option maxHeartbeats 1000000 in
theorem W_fetch {offs offs' : Fin 1 → ℕ} {inbs : ∀ a, offs a + S1.size a ≤ S2.size a} {inbs' : ∀ a, offs' a + S1.size a ≤ S2.size a}
    {off : Fin 3 → ℕ} {inb : ∀ a, off a + S1x32x1024.size a ≤ S2x32x1024.size a} {off' : Fin 3 → ℕ} {inb' : ∀ a, off' a + S1x32x1024.size a ≤ S2x32x262144.size a}
    {ofi : Fin 2 → ℕ} {inbi : ∀ a, ofi a + S1x1024.size a ≤ S2x1024.size a} {ofi' : Fin 2 → ℕ} {inbi' : ∀ a, ofi' a + S1x1024.size a ≤ S2x262144.size a}
    (hs : s < 2) (hos : offs = ![s]) (hos' : offs' = ![s]) (ho : off = ![s, 0, 0]) (ho' : off' = ![(i 0).val, 0, 16384 * (i 1).val + 1024 * t])
    (hi : ofi = ![s, 0]) (hi' : ofi' = ![(i 0).val, 16384 * (i 1).val + 1024 * t])
    {w1 : (srcX off' inb').view.WordExact} {w2 : (dstX off inb).view.WordExact} {w3 : (srcI ofi' inbi').view.WordExact} {w4 : (dstI ofi inbi).view.WordExact}
    {hx : (DmaTarget.here (dstX off inb) : DmaTarget nD τ sig (thr d i).2 .vmem S32x1024 .f32).Typed .hbm (.dma ((cc0_scratch13.slice (Rect.unit (s := S2) offs S1.size inbs)).squeeze S_ squeezes_S1_S_).sem)}
    {hy : (DmaTarget.here (dstI ofi inbi) : DmaTarget nD τ sig (thr d i).2 .vmem S1024 .i32).Typed .hbm (.dma ((cc0_scratch14.slice (Rect.unit (s := S2) offs' S1.size inbs')).squeeze S_ squeezes_S1_S_).sem)}
    {k : PUnit → Prog (TpuEff nD τ sig (Elt F) Λ₀ (thr d i).2) α} {Φ : α → sProp 𝕄} :
    idle d i q X I s ⊢ iprop((fly d i q X I s t -∗ wp frame (wpE (defs₀ (F := F)) 𝒱₀ (thr d i) none) Set.univ (k ⟨⟩) Φ)
      -∗ wp frame (wpE (defs₀ (F := F)) 𝒱₀ (thr d i) none) Set.univ
        (Prog.lift (.enqueueDma (p := (thr d i).2) (srcX off' inb') (.here (dstX off inb)) (.dma ((cc0_scratch13.slice (Rect.unit (s := S2) offs S1.size inbs)).squeeze S_ squeezes_S1_S_).sem) w1 w2 hx) >>= fun _ =>
          Prog.lift (.enqueueDma (p := (thr d i).2) (srcI ofi' inbi') (.here (dstI ofi inbi)) (.dma ((cc0_scratch14.slice (Rect.unit (s := S2) offs' S1.size inbs')).squeeze S_ squeezes_S1_S_).sem) w3 w4 hy) >>= k) Φ) := by
  have ex := sX_eq (inb := inbs) hs hos
  have ey := sI_eq (inb := inbs') hs hos'
  generalize ((cc0_scratch13.slice (Rect.unit (s := S2) offs S1.size inbs)).squeeze S_ squeezes_S1_S_).sem = mx at hx ex ⊢
  generalize ((cc0_scratch14.slice (Rect.unit (s := S2) offs' S1.size inbs')).squeeze S_ squeezes_S1_S_).sem = my at hy ey ⊢
  subst ex ey
  have hd1 := fun f k Q => Transfers.wp_dmaFromWhole (α := α) (k := k) (Q := Q) (Lvl := ℕ) (Name := ℕ) (U := UU) (Ix := HIx 3) (defs := defs₀ (F := F))
    countersEmb 𝒱₀ (thr d i) none (src := srcX off' inb') (dst := dstX off inb) (hsrc := w1) (hdst := w2) (hsem := hx) (q := q)
    (via := .same) (fs := X) (fd := f) (Sd := (dstX off inb).view.set) none NX rfl ((dstX off inb).view.dmaCredit_pos (by decide)) (Finset.Subset.refl _)
  have hd2 := fun f k Q => Transfers.wp_dmaFromWhole (α := α) (k := k) (Q := Q) (Lvl := ℕ) (Name := ℕ) (U := UU) (Ix := HIx 3) (defs := defs₀ (F := F))
    countersEmb 𝒱₀ (thr d i) none (src := srcI ofi' inbi') (dst := dstI ofi inbi) (hsrc := w3) (hdst := w4) (hsem := hy) (q := q)
    (via := .same) (fs := I) (fd := f) (Sd := (dstI ofi inbi).view.set) none NI rfl ((dstI ofi inbi).view.dmaCredit_pos (by decide)) (Finset.Subset.refl _)
  have px : ∀ f : Vec F S2x32x1024 .f32, ((dstX off inb).view.loc (thr d i) ↦[(dstX off inb).view.set]{fullShare} ((dstX off inb).view.write (Elt F) f ((ReadAs.same : ReadAs (Elt F) S32x1024 .f32 S32x1024 .f32).apply ((srcX off' inb').view.read (Elt F) X)) Finset.univ) : sProp 𝕄)
      = ((thr d i).loc cc0_scratch0 ↦[slotX s]{fullShare} bufX (xsOf X (i 0) (i 1).val t)) := fun f =>
    (pointsTo_congr (fetX (inb := inb) (inb' := inb') (c := i 0) ho ho' X f)).trans (by rw [set_dstX ho]; rfl)
  have pi : ∀ f : S2x1024.Idx → BitVec 32, ((dstI ofi inbi).view.loc (thr d i) ↦[(dstI ofi inbi).view.set]{fullShare} ((dstI ofi inbi).view.write (Elt F) f ((ReadAs.same : ReadAs (Elt F) S1024 .i32 S1024 .i32).apply ((srcI ofi' inbi').view.read (Elt F) I)) Finset.univ) : sProp 𝕄)
      = ((thr d i).loc cc0_scratch1 ↦[slotI s]{fullShare} bufI (idsOf I (i 0) (i 1).val t)) := fun f =>
    (pointsTo_congr (fetI (F := F) (inb := inbi) (inb' := inbi') (c := i 0) hi hi' I f)).trans (by rw [set_dstI hi]; rfl)
  change _ ⊢ iprop(_ -∗ wp _ _ _ (.op (.enqueueDmaAs (srcX off' inb') (.here (dstX off inb)) .same (.dma (sX s)) w1 w2 hx) fun _ =>
    .op (.enqueueDmaAs (srcI ofi' inbi') (.here (dstI ofi inbi)) .same (.dma (sI s)) w3 w4 hy) k) _)
  unfold idle fly
  iintro ⟨⟨⟨%f, Hf⟩, Hx, Hs⟩, ⟨%g, Hg⟩, Hi, Hs'⟩ HK
  iapply (hd1 f) $$ [Hf Hx Hs]
  · isplitl [Hx]; · iexact Hx
    isplitl [Hf]; · iapply (Entails.of_eq (show ((thr d i).loc cc0_scratch0 ↦[slotX s]{fullShare} f : sProp 𝕄) = ((dstX off inb).view.loc (thr d i) ↦[(dstX off inb).view.set]{fullShare} f) from by rw [set_dstX ho])); iexact Hf
    iexact Hs
  iintro Hfl
  iapply (hd2 g) $$ [Hg Hi Hs']
  · isplitl [Hi]; · iexact Hi
    isplitl [Hg]; · iapply (Entails.of_eq (show ((thr d i).loc cc0_scratch1 ↦[slotI s]{fullShare} g : sProp 𝕄) = ((dstI ofi inbi).view.loc (thr d i) ↦[(dstI ofi inbi).view.set]{fullShare} g) from by rw [set_dstI hi])); iexact Hg
    iexact Hs'
  iintro Hgl
  iapply HK
  rw [← px f, ← pi g]
  isplitl [Hfl]; · iexact Hfl
  iexact Hgl

set_option maxHeartbeats 1000000 in
theorem W_wait {offs offs' : Fin 1 → ℕ} {inbs : ∀ a, offs a + S1.size a ≤ S2.size a} {inbs' : ∀ a, offs' a + S1.size a ≤ S2.size a}
    {off : Fin 3 → ℕ} {inb : ∀ a, off a + S1x32x1024.size a ≤ S2x32x1024.size a} {off' : Fin 3 → ℕ} {inb' : ∀ a, off' a + S1x32x1024.size a ≤ S2x32x262144.size a}
    {ofi : Fin 2 → ℕ} {inbi : ∀ a, ofi a + S1x1024.size a ≤ S2x1024.size a} {ofi' : Fin 2 → ℕ} {inbi' : ∀ a, ofi' a + S1x1024.size a ≤ S2x262144.size a}
    (hs : s < 2) (hos : offs = ![s]) (hos' : offs' = ![s])
    {w1 : (srcX off' inb').view.WordExact} {w2 : (dstX off inb).view.WordExact} {w3 : (srcI ofi' inbi').view.WordExact} {w4 : (dstI ofi inbi).view.WordExact}
    {W₀ : Waits sig (HIx 3)} {O : CellTallies nD τ sig (HIx 3)}
    {k : PUnit → Prog (TpuEff nD τ sig (Elt F) Λ₀ (thr d i).2) α} {Φ : α → sProp 𝕄} :
    iprop(fly d i q X I s t ∗ ow d (cV i) (jV i) W₀ O ∗ Transfers.MayWaits (thr d i) none O)
      ⊢ iprop(((chunk d i s (xsOf X (i 0) (i 1).val t) (idsOf I (i 0) (i 1).val t) ∗ rest d i q X I s ∗ ow d (cV i) (jV i) W₀ O)
          -∗ wp frame (wpE (defs₀ (F := F)) 𝒱₀ (thr d i) none) Set.univ (k ⟨⟩) Φ)
      -∗ wp frame (wpE (defs₀ (F := F)) 𝒱₀ (thr d i) none) Set.univ
        (Prog.lift (.waitDma2 (p := (thr d i).2) ((cc0_scratch13.slice (Rect.unit (s := S2) offs S1.size inbs)).squeeze S_ squeezes_S1_S_).sem (srcX off' inb') (dstX off inb) w1 w2) >>= fun _ =>
          Prog.lift (.waitDma2 (p := (thr d i).2) ((cc0_scratch14.slice (Rect.unit (s := S2) offs' S1.size inbs')).squeeze S_ squeezes_S1_S_).sem (srcI ofi' inbi') (dstI ofi inbi) w3 w4) >>= k) Φ) := by
  rw [sX_eq (inb := inbs) hs hos, sI_eq (inb := inbs') hs hos']
  change _ ⊢ iprop(_ -∗ wp _ _ _ (.op (.waitDma2 (sX s) (srcX off' inb') (dstX off inb) w1 w2) fun _ =>
    .op (.waitDma2 (sI s) (srcI ofi' inbi') (dstI ofi inbi) w3 w4) k) _)
  unfold fly ow chunk rest
  iintro ⟨⟨Hfl, Hgl⟩, ⟨%W, %hW, HO⟩, #HM⟩ HK
  iapply (Transfers.wp_waitLocalO countersEmb 𝒱₀ (thr d i) none none rfl) $$ [Hfl HO]
  · isplitl [Hfl]; · iexact Hfl
    isplitl [HO]; · iexact HO
    iapply (Transfers.MayWaits.elim (SemLoc.dma (sX s))) $$ HM
  iintro ⟨⟨Hp, Hx⟩, Hv, HO⟩
  iapply (Transfers.wp_waitLocalO countersEmb 𝒱₀ (thr d i) none none rfl) $$ [Hgl HO]
  · isplitl [Hgl]; · iexact Hgl
    isplitl [HO]; · iexact HO
    iapply (Transfers.MayWaits.elim (SemLoc.dma (sI s))) $$ HM
  iintro ⟨⟨Hp', Hi⟩, Hv', HO⟩
  iapply HK
  isplitl [Hp Hp']
  · isplitl [Hp]; · iexact Hp
    iexact Hp'
  isplitl [Hx Hv Hi Hv']
  · isplitl [Hx Hv]
    · isplitl [Hx] <;> iassumption
    isplitl [Hi] <;> iassumption
  iexists _; isplitr; swap; · iexact HO
  ipureintro; intro p hp
  rcases Finset.mem_insert.mp hp with hp | hp; · exact .inr (.inl (hp ▸ rfl))
  rcases Finset.mem_insert.mp hp with hp | hp; · exact .inr (.inl (hp ▸ rfl))
  exact hW p hp

end Fetch

end Cert.Proof.Embed
-- ==== Proof.Pairs.lean ====
/-
  Tile 0's repulsion between the clusters' means.
-/
module

public import proofs.«01_k».proof.Proof.Segs

@[expose] public section

set_option maxRecDepth 16384

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 3) (Elt F) ℕ UU ℕ

/-- Where channel `c` of cluster `t`'s mean stands, in every lane. -/
def pix (t c : ℕ) : IVec S16 32 :=
  addi (muli io (broadcast S16 0#32)) (broadcast S16 (Scalar.addi (Scalar.muli (Scf.iv 0#32 1#32 t) 32#32) (BitVec.ofNat 32 c)))

theorem pix_lt' : ∀ t : Fin 32, ∀ c : Fin 32, ∀ x : S16.Idx, (pix t.val c.val x).toNat < 1024 := by decide +kernel
theorem pix_lt (t : Fin k0_t10_loop.trips) (c : ℕ) (hc : c < 32) (x : S16.Idx) : (pix t.val c x).toNat < 1024 :=
  pix_lt' ⟨t.val, lt_of_lt_of_le t.isLt (by decide +kernel)⟩ ⟨c, hc⟩ x

/-- Where channel `n / 2` of the clusters of half `n % 2` stands, lane by lane. -/
def tix (n : ℕ) : IVec S16 32 :=
  addi (muli (addi io (broadcast S16 (BitVec.ofNat 32 (16 * (n % 2))))) (broadcast S16 32#32)) (broadcast S16 (BitVec.ofNat 32 (n / 2)))

/-- The means transposed: block `n` is channel `n / 2` of sixteen clusters. -/
def mtW (mf : Vec F S1024 .f32) (n : ℕ) : Vec F S16 .f32 := gat mf (tix n)

/-- The squared distance of cluster `t`'s mean from the means of half `h` of the clusters, over the first channels. -/
def pacc (mf mt : Vec F S1024 .f32) (h t : ℕ) : Vec F S16 .f32 :=
  [0, 1, 2, 3, 4, 5, 6, 7, 8, 9, 10, 11, 12, 13, 14, 15, 16, 17, 18, 19, 20, 21, 22, 23, 24, 25, 26, 27, 28, 29, 30].foldl
    (fun a c => addf a (mulf (subf (seg mt (32 * c + 16 * h)) (gat mf (pix t c))) (subf (seg mt (32 * c + 16 * h)) (gat mf (pix t c))))) k0_pay386

/-- One cluster's repulsion from all the others, added to `a`. -/
def prow (mf mt : Vec F S1024 .f32) (t : ℕ) (a : F .f32) : F .f32 :=
  k0_pay384 (k0_pay281 io (Scf.iv 0#32 1#32 t) (pacc mf mt 1 t) (gat mf (pix t 31)) (seg mt 1008))
    (k0_pay283 a (k0_pay280 io (Scf.iv 0#32 1#32 t) (pacc mf mt 0 t) (gat mf (pix t 31)) (seg mt 992))
      (k0_pay282 io (Scf.iv 0#32 1#32 t) (pacc mf mt 0 t) (gat mf (pix t 31)) (seg mt 992)))
    (k0_pay284 (k0_pay281 io (Scf.iv 0#32 1#32 t) (pacc mf mt 1 t) (gat mf (pix t 31)) (seg mt 1008)))

/-- The repulsion of the first `n` clusters. -/
def ploss (mf mt : Vec F S1024 .f32) : ℕ → F .f32
  | 0 => Scalar.ofBits .f32 0x00000000#32
  | n + 1 => prow mf mt n (ploss mf mt n)

section Tile

variable {d : Dev nD} {i : grid0.Coords} {R : sProp (MT nD τ sig (HIx 3) (Elt F) ℕ UU ℕ)} {α : Type}
  {a0 : Vec F (shp .a0) .f32}
  {a1 : Vec F (shp .a1) .f32}
  {a2 : Vec F (shp .a2) .f32}
  {a3 : Vec F (shp .a3) .f32}
  {st : Vec F (shp .st) .f32}
  {mf : Vec F (shp .mf) .f32}
  {m4 : Vec F (shp .m4) .f32}
  {mt : Vec F (shp .mt) .f32}
  {rd : Vec F (shp .rd) .f32}
  {sa : Vec F (shp .sa) .f32}
  {ob : Vec F (shp .ob) .f32}
  {h2 : (Memref.whole main_v0_scv).IsWhole}
  {h3 : (Memref.whole main_v1_scv).IsWhole}
  {h4 : (Memref.whole main_v2_scv).IsWhole}
  {h5 : (Memref.whole cc0_scratch0).IsWhole}
  {h6 : (Memref.whole cc0_scratch1).IsWhole}
  {h7 : (Memref.whole cc0_scratch2).IsWhole}
  {h8 : (Memref.whole cc0_scratch3).IsWhole}
  {h9 : (Memref.whole cc0_scratch4).IsWhole}
  {h10 : (Memref.whole cc0_scratch5).IsWhole}
  {h11 : (Memref.whole cc0_scratch6).IsWhole}
  {h12 : (Memref.whole cc0_scratch7).IsWhole}
  {h13 : (Memref.whole cc0_scratch8).IsWhole}
  {h14 : (Memref.whole cc0_scratch9).IsWhole}
  {h15 : (Memref.whole cc0_scratch10).IsWhole}
  {h16 : (Memref.whole cc0_scratch11).IsWhole}
  {h17 : (Memref.whole cc0_scratch12).IsWhole}
  {h20 : (Memref.whole cc0_scratch15).IsWhole}
  {h21 : (Memref.whole cc0_scratch16).IsWhole}

theorem T_part35 (h4' : k0_cond4 i = 1#1) (t : Fin k0_t10_loop.trips)  :
    T d (cV i) (jV i) R ⟨a0, a1, a2, a3, st, mf, m4, mt, rd, sa, ob⟩ (k0_part35 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 (k0_pay386) (io) h4' (0#32) (1#32) (t))
      (fun r σ' => r = ⟨(Scf.iv (0#32) (1#32) t), (Scalar.muli (Scf.iv (0#32) (1#32) t) 32#32), k0_pay223 (k0_pay386) (gat mf (k0_pay220 (io) (0#32) (1#32) t)) (seg mt 0) (gat mf (k0_pay221 (io) (0#32) (1#32) t)) (seg mt 32) (gat mf (k0_pay222 (io) (0#32) (1#32) t)) (seg mt 64), k0_pay224 (k0_pay386) (gat mf (k0_pay220 (io) (0#32) (1#32) t)) (seg mt 16) (gat mf (k0_pay221 (io) (0#32) (1#32) t)) (seg mt 48) (gat mf (k0_pay222 (io) (0#32) (1#32) t)) (seg mt 80)⟩ ∧ σ' = ⟨a0, a1, a2, a3, st, mf, m4, mt, rd, sa, ob⟩) := by
  rw [k0_part35_eq_skeleton]
  unfold k0_part35_skel
  refine T_assume (fun _ => chkI (N := 1024) (pix_lt t 0 (by norm_num))) ?_
  refine Tgat_mf ?_
  refine Tseg_mt rfl ?_
  refine Tseg_mt rfl ?_
  refine T_assume (fun _ => chkI (N := 1024) (pix_lt t 1 (by norm_num))) ?_
  refine Tgat_mf ?_
  refine Tseg_mt rfl ?_
  refine Tseg_mt rfl ?_
  refine T_assume (fun _ => chkI (N := 1024) (pix_lt t 2 (by norm_num))) ?_
  refine Tgat_mf ?_
  refine Tseg_mt rfl ?_
  refine Tseg_mt rfl ?_
  exact T_pure ⟨rfl, rfl⟩

theorem T_part36 (h4' : k0_cond4 i = 1#1) (t : Fin k0_t10_loop.trips)  (v1128 : FVec F S16 .f32) (v1130 : FVec F S16 .f32) :
    T d (cV i) (jV i) R ⟨a0, a1, a2, a3, st, mf, m4, mt, rd, sa, ob⟩ (k0_part36 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 (io) h4' (Scalar.muli (Scf.iv (0#32) (1#32) t) 32#32) v1128 v1130)
      (fun r σ' => r = ⟨k0_pay228 v1128 (gat mf (k0_pay225 (io) (Scalar.muli (Scf.iv (0#32) (1#32) t) 32#32))) (seg mt 96) (gat mf (k0_pay226 (io) (Scalar.muli (Scf.iv (0#32) (1#32) t) 32#32))) (seg mt 128) (gat mf (k0_pay227 (io) (Scalar.muli (Scf.iv (0#32) (1#32) t) 32#32))) (seg mt 160), k0_pay229 v1130 (gat mf (k0_pay225 (io) (Scalar.muli (Scf.iv (0#32) (1#32) t) 32#32))) (seg mt 112) (gat mf (k0_pay226 (io) (Scalar.muli (Scf.iv (0#32) (1#32) t) 32#32))) (seg mt 144) (gat mf (k0_pay227 (io) (Scalar.muli (Scf.iv (0#32) (1#32) t) 32#32))) (seg mt 176), k0_pay230 (io)⟩ ∧ σ' = ⟨a0, a1, a2, a3, st, mf, m4, mt, rd, sa, ob⟩) := by
  rw [k0_part36_eq_skeleton]
  unfold k0_part36_skel
  refine T_assume (fun _ => chkI (N := 1024) (pix_lt t 3 (by norm_num))) ?_
  refine Tgat_mf ?_
  refine Tseg_mt rfl ?_
  refine Tseg_mt rfl ?_
  refine T_assume (fun _ => chkI (N := 1024) (pix_lt t 4 (by norm_num))) ?_
  refine Tgat_mf ?_
  refine Tseg_mt rfl ?_
  refine Tseg_mt rfl ?_
  refine T_assume (fun _ => chkI (N := 1024) (pix_lt t 5 (by norm_num))) ?_
  refine Tgat_mf ?_
  refine Tseg_mt rfl ?_
  refine Tseg_mt rfl ?_
  exact T_pure ⟨rfl, rfl⟩

theorem T_part37 (h4' : k0_cond4 i = 1#1) (t : Fin k0_t10_loop.trips)  (v1170 : FVec F S16 .f32) (v1172 : FVec F S16 .f32) :
    T d (cV i) (jV i) R ⟨a0, a1, a2, a3, st, mf, m4, mt, rd, sa, ob⟩ (k0_part37 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 (io) h4' (Scalar.muli (Scf.iv (0#32) (1#32) t) 32#32) v1170 v1172 (k0_pay230 (io)))
      (fun r σ' => r = ⟨k0_pay234 v1170 (gat mf (k0_pay231 (Scalar.muli (Scf.iv (0#32) (1#32) t) 32#32) (k0_pay230 (io)))) (seg mt 192) (gat mf (k0_pay232 (io) (Scalar.muli (Scf.iv (0#32) (1#32) t) 32#32))) (seg mt 224) (gat mf (k0_pay233 (io) (Scalar.muli (Scf.iv (0#32) (1#32) t) 32#32))) (seg mt 256), k0_pay235 v1172 (gat mf (k0_pay231 (Scalar.muli (Scf.iv (0#32) (1#32) t) 32#32) (k0_pay230 (io)))) (seg mt 208) (gat mf (k0_pay232 (io) (Scalar.muli (Scf.iv (0#32) (1#32) t) 32#32))) (seg mt 240) (gat mf (k0_pay233 (io) (Scalar.muli (Scf.iv (0#32) (1#32) t) 32#32))) (seg mt 272), k0_pay236 (io), k0_pay237 (Scalar.muli (Scf.iv (0#32) (1#32) t) 32#32)⟩ ∧ σ' = ⟨a0, a1, a2, a3, st, mf, m4, mt, rd, sa, ob⟩) := by
  rw [k0_part37_eq_skeleton]
  unfold k0_part37_skel
  refine T_assume (fun _ => chkI (N := 1024) (pix_lt t 6 (by norm_num))) ?_
  refine Tgat_mf ?_
  refine Tseg_mt rfl ?_
  refine Tseg_mt rfl ?_
  refine T_assume (fun _ => chkI (N := 1024) (pix_lt t 7 (by norm_num))) ?_
  refine Tgat_mf ?_
  refine Tseg_mt rfl ?_
  refine Tseg_mt rfl ?_
  refine T_assume (fun _ => chkI (N := 1024) (pix_lt t 8 (by norm_num))) ?_
  refine Tgat_mf ?_
  refine Tseg_mt rfl ?_
  refine Tseg_mt rfl ?_
  exact T_pure ⟨rfl, rfl⟩

theorem T_part38 (h4' : k0_cond4 i = 1#1) (t : Fin k0_t10_loop.trips)  (v1212 : FVec F S16 .f32) (v1214 : FVec F S16 .f32) :
    T d (cV i) (jV i) R ⟨a0, a1, a2, a3, st, mf, m4, mt, rd, sa, ob⟩ (k0_part38 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 (io) h4' (Scalar.muli (Scf.iv (0#32) (1#32) t) 32#32) v1212 v1214 (k0_pay236 (io)) (k0_pay237 (Scalar.muli (Scf.iv (0#32) (1#32) t) 32#32)))
      (fun r σ' => r = ⟨k0_pay240 v1212 (gat mf (addi (k0_pay236 (io)) (k0_pay237 (Scalar.muli (Scf.iv (0#32) (1#32) t) 32#32)))) (seg mt 288) (gat mf (k0_pay238 (io) (Scalar.muli (Scf.iv (0#32) (1#32) t) 32#32))) (seg mt 320) (gat mf (k0_pay239 (io) (Scalar.muli (Scf.iv (0#32) (1#32) t) 32#32))) (seg mt 352), k0_pay241 v1214 (gat mf (addi (k0_pay236 (io)) (k0_pay237 (Scalar.muli (Scf.iv (0#32) (1#32) t) 32#32)))) (seg mt 304) (gat mf (k0_pay238 (io) (Scalar.muli (Scf.iv (0#32) (1#32) t) 32#32))) (seg mt 336) (gat mf (k0_pay239 (io) (Scalar.muli (Scf.iv (0#32) (1#32) t) 32#32))) (seg mt 368), (gat mf (k0_pay242 (io) (Scalar.muli (Scf.iv (0#32) (1#32) t) 32#32)))⟩ ∧ σ' = ⟨a0, a1, a2, a3, st, mf, m4, mt, rd, sa, ob⟩) := by
  rw [k0_part38_eq_skeleton]
  unfold k0_part38_skel
  refine T_assume (fun _ => chkI (N := 1024) (pix_lt t 9 (by norm_num))) ?_
  refine Tgat_mf ?_
  refine Tseg_mt rfl ?_
  refine Tseg_mt rfl ?_
  refine T_assume (fun _ => chkI (N := 1024) (pix_lt t 10 (by norm_num))) ?_
  refine Tgat_mf ?_
  refine Tseg_mt rfl ?_
  refine Tseg_mt rfl ?_
  refine T_assume (fun _ => chkI (N := 1024) (pix_lt t 11 (by norm_num))) ?_
  refine Tgat_mf ?_
  refine Tseg_mt rfl ?_
  refine Tseg_mt rfl ?_
  refine T_assume (fun _ => chkI (N := 1024) (pix_lt t 12 (by norm_num))) ?_
  refine Tgat_mf ?_
  exact T_pure ⟨rfl, rfl⟩

theorem T_part39 (h4' : k0_cond4 i = 1#1) (t : Fin k0_t10_loop.trips)  (v1254 : FVec F S16 .f32) (v1256 : FVec F S16 .f32) (v1262 : Vec F S16 .f32) :
    T d (cV i) (jV i) R ⟨a0, a1, a2, a3, st, mf, m4, mt, rd, sa, ob⟩ (k0_part39 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 (io) h4' (Scalar.muli (Scf.iv (0#32) (1#32) t) 32#32) v1254 v1256 v1262)
      (fun r σ' => r = ⟨k0_pay245 v1254 v1262 (seg mt 384) (gat mf (k0_pay243 (io) (Scalar.muli (Scf.iv (0#32) (1#32) t) 32#32))) (seg mt 416) (gat mf (k0_pay244 (io) (Scalar.muli (Scf.iv (0#32) (1#32) t) 32#32))) (seg mt 448), k0_pay246 v1256 v1262 (seg mt 400) (gat mf (k0_pay243 (io) (Scalar.muli (Scf.iv (0#32) (1#32) t) 32#32))) (seg mt 432) (gat mf (k0_pay244 (io) (Scalar.muli (Scf.iv (0#32) (1#32) t) 32#32))) (seg mt 464), (gat mf (k0_pay247 (io) (Scalar.muli (Scf.iv (0#32) (1#32) t) 32#32))), k0_pay248 (gat mf (k0_pay247 (io) (Scalar.muli (Scf.iv (0#32) (1#32) t) 32#32))) (seg mt 480)⟩ ∧ σ' = ⟨a0, a1, a2, a3, st, mf, m4, mt, rd, sa, ob⟩) := by
  rw [k0_part39_eq_skeleton]
  unfold k0_part39_skel
  refine Tseg_mt rfl ?_
  refine Tseg_mt rfl ?_
  refine T_assume (fun _ => chkI (N := 1024) (pix_lt t 13 (by norm_num))) ?_
  refine Tgat_mf ?_
  refine Tseg_mt rfl ?_
  refine Tseg_mt rfl ?_
  refine T_assume (fun _ => chkI (N := 1024) (pix_lt t 14 (by norm_num))) ?_
  refine Tgat_mf ?_
  refine Tseg_mt rfl ?_
  refine Tseg_mt rfl ?_
  refine T_assume (fun _ => chkI (N := 1024) (pix_lt t 15 (by norm_num))) ?_
  refine Tgat_mf ?_
  refine Tseg_mt rfl ?_
  exact T_pure ⟨rfl, rfl⟩

theorem T_part40 (h4' : k0_cond4 i = 1#1) (t : Fin k0_t10_loop.trips)  (v1296 : FVec F S16 .f32) (v1298 : FVec F S16 .f32) (v1304 : Vec F S16 .f32) (v1306 : FVec F S16 .f32) :
    T d (cV i) (jV i) R ⟨a0, a1, a2, a3, st, mf, m4, mt, rd, sa, ob⟩ (k0_part40 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 (io) h4' (Scalar.muli (Scf.iv (0#32) (1#32) t) 32#32) v1296 v1298 v1304 v1306)
      (fun r σ' => r = ⟨k0_pay251 v1296 v1306 (gat mf (k0_pay249 (io) (Scalar.muli (Scf.iv (0#32) (1#32) t) 32#32))) (seg mt 512) (gat mf (k0_pay250 (io) (Scalar.muli (Scf.iv (0#32) (1#32) t) 32#32))) (seg mt 544), k0_pay252 v1298 v1304 (seg mt 496) (gat mf (k0_pay249 (io) (Scalar.muli (Scf.iv (0#32) (1#32) t) 32#32))) (seg mt 528) (gat mf (k0_pay250 (io) (Scalar.muli (Scf.iv (0#32) (1#32) t) 32#32))) (seg mt 560), k0_pay254 (gat mf (k0_pay253 (io) (Scalar.muli (Scf.iv (0#32) (1#32) t) 32#32))) (seg mt 576), k0_pay255 (gat mf (k0_pay253 (io) (Scalar.muli (Scf.iv (0#32) (1#32) t) 32#32))) (seg mt 592)⟩ ∧ σ' = ⟨a0, a1, a2, a3, st, mf, m4, mt, rd, sa, ob⟩) := by
  rw [k0_part40_eq_skeleton]
  unfold k0_part40_skel
  refine Tseg_mt rfl ?_
  refine T_assume (fun _ => chkI (N := 1024) (pix_lt t 16 (by norm_num))) ?_
  refine Tgat_mf ?_
  refine Tseg_mt rfl ?_
  refine Tseg_mt rfl ?_
  refine T_assume (fun _ => chkI (N := 1024) (pix_lt t 17 (by norm_num))) ?_
  refine Tgat_mf ?_
  refine Tseg_mt rfl ?_
  refine Tseg_mt rfl ?_
  refine T_assume (fun _ => chkI (N := 1024) (pix_lt t 18 (by norm_num))) ?_
  refine Tgat_mf ?_
  refine Tseg_mt rfl ?_
  refine Tseg_mt rfl ?_
  exact T_pure ⟨rfl, rfl⟩

theorem T_part41 (h4' : k0_cond4 i = 1#1) (t : Fin k0_t10_loop.trips)  (v1338 : FVec F S16 .f32) (v1340 : FVec F S16 .f32) (v1348 : FVec F S16 .f32) (v1350 : FVec F S16 .f32) :
    T d (cV i) (jV i) R ⟨a0, a1, a2, a3, st, mf, m4, mt, rd, sa, ob⟩ (k0_part41 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 (io) h4' (Scalar.muli (Scf.iv (0#32) (1#32) t) 32#32) v1338 v1340 v1348 v1350)
      (fun r σ' => r = ⟨k0_pay258 v1340 v1350 (gat mf (k0_pay256 (io) (Scalar.muli (Scf.iv (0#32) (1#32) t) 32#32))) (seg mt 624) (gat mf (k0_pay257 (io) (Scalar.muli (Scf.iv (0#32) (1#32) t) 32#32))) (seg mt 656), k0_pay260 v1338 v1348 (gat mf (k0_pay256 (io) (Scalar.muli (Scf.iv (0#32) (1#32) t) 32#32))) (seg mt 608) (gat mf (k0_pay257 (io) (Scalar.muli (Scf.iv (0#32) (1#32) t) 32#32))) (seg mt 640) (gat mf (k0_pay259 (io) (Scalar.muli (Scf.iv (0#32) (1#32) t) 32#32))) (seg mt 672), k0_pay261 (gat mf (k0_pay259 (io) (Scalar.muli (Scf.iv (0#32) (1#32) t) 32#32))) (seg mt 688)⟩ ∧ σ' = ⟨a0, a1, a2, a3, st, mf, m4, mt, rd, sa, ob⟩) := by
  rw [k0_part41_eq_skeleton]
  unfold k0_part41_skel
  refine T_assume (fun _ => chkI (N := 1024) (pix_lt t 19 (by norm_num))) ?_
  refine Tgat_mf ?_
  refine Tseg_mt rfl ?_
  refine Tseg_mt rfl ?_
  refine T_assume (fun _ => chkI (N := 1024) (pix_lt t 20 (by norm_num))) ?_
  refine Tgat_mf ?_
  refine Tseg_mt rfl ?_
  refine Tseg_mt rfl ?_
  refine T_assume (fun _ => chkI (N := 1024) (pix_lt t 21 (by norm_num))) ?_
  refine Tgat_mf ?_
  refine Tseg_mt rfl ?_
  refine Tseg_mt rfl ?_
  exact T_pure ⟨rfl, rfl⟩

theorem T_part42 (h4' : k0_cond4 i = 1#1) (t : Fin k0_t10_loop.trips)  (v1382 : FVec F S16 .f32) (v1394 : FVec F S16 .f32) (v1395 : FVec F S16 .f32) :
    T d (cV i) (jV i) R ⟨a0, a1, a2, a3, st, mf, m4, mt, rd, sa, ob⟩ (k0_part42 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 (io) h4' (Scalar.muli (Scf.iv (0#32) (1#32) t) 32#32) v1382 v1394 v1395)
      (fun r σ' => r = ⟨k0_pay265 v1394 (gat mf (k0_pay262 (io) (Scalar.muli (Scf.iv (0#32) (1#32) t) 32#32))) (seg mt 704) (gat mf (k0_pay263 (io) (Scalar.muli (Scf.iv (0#32) (1#32) t) 32#32))) (seg mt 736) (gat mf (k0_pay264 (io) (Scalar.muli (Scf.iv (0#32) (1#32) t) 32#32))) (seg mt 768), k0_pay266 v1382 v1395 (gat mf (k0_pay262 (io) (Scalar.muli (Scf.iv (0#32) (1#32) t) 32#32))) (seg mt 720) (gat mf (k0_pay263 (io) (Scalar.muli (Scf.iv (0#32) (1#32) t) 32#32))) (seg mt 752) (gat mf (k0_pay264 (io) (Scalar.muli (Scf.iv (0#32) (1#32) t) 32#32))) (seg mt 784), k0_pay267⟩ ∧ σ' = ⟨a0, a1, a2, a3, st, mf, m4, mt, rd, sa, ob⟩) := by
  rw [k0_part42_eq_skeleton]
  unfold k0_part42_skel
  refine T_assume (fun _ => chkI (N := 1024) (pix_lt t 22 (by norm_num))) ?_
  refine Tgat_mf ?_
  refine Tseg_mt rfl ?_
  refine Tseg_mt rfl ?_
  refine T_assume (fun _ => chkI (N := 1024) (pix_lt t 23 (by norm_num))) ?_
  refine Tgat_mf ?_
  refine Tseg_mt rfl ?_
  refine Tseg_mt rfl ?_
  refine T_assume (fun _ => chkI (N := 1024) (pix_lt t 24 (by norm_num))) ?_
  refine Tgat_mf ?_
  refine Tseg_mt rfl ?_
  refine Tseg_mt rfl ?_
  exact T_pure ⟨rfl, rfl⟩

theorem T_part43 (h4' : k0_cond4 i = 1#1) (t : Fin k0_t10_loop.trips)  (v1436 : FVec F S16 .f32) (v1438 : FVec F S16 .f32) :
    T d (cV i) (jV i) R ⟨a0, a1, a2, a3, st, mf, m4, mt, rd, sa, ob⟩ (k0_part43 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 (io) h4' (Scalar.muli (Scf.iv (0#32) (1#32) t) 32#32) v1436 v1438 (k0_pay267))
      (fun r σ' => r = ⟨k0_pay271 v1436 (gat mf (k0_pay268 (io) (Scalar.muli (Scf.iv (0#32) (1#32) t) 32#32) (k0_pay267))) (seg mt 800) (gat mf (k0_pay269 (io) (Scalar.muli (Scf.iv (0#32) (1#32) t) 32#32))) (seg mt 832) (gat mf (k0_pay270 (io) (Scalar.muli (Scf.iv (0#32) (1#32) t) 32#32))) (seg mt 864), k0_pay272 v1438 (gat mf (k0_pay268 (io) (Scalar.muli (Scf.iv (0#32) (1#32) t) 32#32) (k0_pay267))) (seg mt 816) (gat mf (k0_pay269 (io) (Scalar.muli (Scf.iv (0#32) (1#32) t) 32#32))) (seg mt 848) (gat mf (k0_pay270 (io) (Scalar.muli (Scf.iv (0#32) (1#32) t) 32#32))) (seg mt 880), k0_pay273 (io), (Scalar.addi (Scalar.muli (Scf.iv (0#32) (1#32) t) 32#32) 28#32)⟩ ∧ σ' = ⟨a0, a1, a2, a3, st, mf, m4, mt, rd, sa, ob⟩) := by
  rw [k0_part43_eq_skeleton]
  unfold k0_part43_skel
  refine T_assume (fun _ => chkI (N := 1024) (pix_lt t 25 (by norm_num))) ?_
  refine Tgat_mf ?_
  refine Tseg_mt rfl ?_
  refine Tseg_mt rfl ?_
  refine T_assume (fun _ => chkI (N := 1024) (pix_lt t 26 (by norm_num))) ?_
  refine Tgat_mf ?_
  refine Tseg_mt rfl ?_
  refine Tseg_mt rfl ?_
  refine T_assume (fun _ => chkI (N := 1024) (pix_lt t 27 (by norm_num))) ?_
  refine Tgat_mf ?_
  refine Tseg_mt rfl ?_
  refine Tseg_mt rfl ?_
  exact T_pure ⟨rfl, rfl⟩

theorem T_part44 (h4' : k0_cond4 i = 1#1) (t : Fin k0_t10_loop.trips)  (v1478 : FVec F S16 .f32) (v1480 : FVec F S16 .f32) :
    T d (cV i) (jV i) R ⟨a0, a1, a2, a3, st, mf, m4, mt, rd, sa, ob⟩ (k0_part44 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 (io) h4' (Scalar.muli (Scf.iv (0#32) (1#32) t) 32#32) v1478 v1480 (k0_pay273 (io)) (Scalar.addi (Scalar.muli (Scf.iv (0#32) (1#32) t) 32#32) 28#32))
      (fun r σ' => ∃ hw, r = ⟨k0_pay277 v1478 (gat mf (k0_pay274 (k0_pay273 (io)) (Scalar.addi (Scalar.muli (Scf.iv (0#32) (1#32) t) 32#32) 28#32))) (seg mt 896) (gat mf (k0_pay275 (io) (Scalar.muli (Scf.iv (0#32) (1#32) t) 32#32))) (seg mt 928) (gat mf (k0_pay276 (io) (Scalar.muli (Scf.iv (0#32) (1#32) t) 32#32))) (seg mt 960), k0_pay278 v1480 (gat mf (k0_pay274 (k0_pay273 (io)) (Scalar.addi (Scalar.muli (Scf.iv (0#32) (1#32) t) 32#32) 28#32))) (seg mt 912) (gat mf (k0_pay275 (io) (Scalar.muli (Scf.iv (0#32) (1#32) t) 32#32))) (seg mt 944) (gat mf (k0_pay276 (io) (Scalar.muli (Scf.iv (0#32) (1#32) t) 32#32))) (seg mt 976), (k0_pay279 (io) (Scalar.muli (Scf.iv (0#32) (1#32) t) 32#32)), hw⟩ ∧ σ' = ⟨a0, a1, a2, a3, st, mf, m4, mt, rd, sa, ob⟩) := by
  rw [k0_part44_eq_skeleton]
  unfold k0_part44_skel
  refine T_assume (fun _ => chkI (N := 1024) (pix_lt t 28 (by norm_num))) ?_
  refine Tgat_mf ?_
  refine Tseg_mt rfl ?_
  refine Tseg_mt rfl ?_
  refine T_assume (fun _ => chkI (N := 1024) (pix_lt t 29 (by norm_num))) ?_
  refine Tgat_mf ?_
  refine Tseg_mt rfl ?_
  refine Tseg_mt rfl ?_
  refine T_assume (fun _ => chkI (N := 1024) (pix_lt t 30 (by norm_num))) ?_
  refine Tgat_mf ?_
  refine Tseg_mt rfl ?_
  refine Tseg_mt rfl ?_
  refine T_assume (fun _ => chkI (N := 1024) (pix_lt t 31 (by norm_num))) ?_
  exact T_pure ⟨_, rfl, rfl⟩

theorem T_part45 (h4' : k0_cond4 i = 1#1) (t : Fin k0_t10_loop.trips)  (v1520 : FVec F S16 .f32) (v1522 : FVec F S16 .f32) (hw : k0_chk235 i (k0_pay279 (io) (Scalar.muli (Scf.iv (0#32) (1#32) t) 32#32))) :
    T d (cV i) (jV i) R ⟨a0, a1, a2, a3, st, mf, m4, mt, rd, sa, ob⟩ (k0_part45 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 (io) h4' (Scf.iv (0#32) (1#32) t) v1520 v1522 (k0_pay279 (io) (Scalar.muli (Scf.iv (0#32) (1#32) t) 32#32)) hw)
      (fun r σ' => r = ⟨k0_pay280 (io) (Scf.iv (0#32) (1#32) t) v1520 (gat mf (k0_pay279 (io) (Scalar.muli (Scf.iv (0#32) (1#32) t) 32#32))) (seg mt 992), k0_pay281 (io) (Scf.iv (0#32) (1#32) t) v1522 (gat mf (k0_pay279 (io) (Scalar.muli (Scf.iv (0#32) (1#32) t) 32#32))) (seg mt 1008), k0_pay282 (io) (Scf.iv (0#32) (1#32) t) v1520 (gat mf (k0_pay279 (io) (Scalar.muli (Scf.iv (0#32) (1#32) t) 32#32))) (seg mt 992)⟩ ∧ σ' = ⟨a0, a1, a2, a3, st, mf, m4, mt, rd, sa, ob⟩) := by
  rw [k0_part45_eq_skeleton]
  unfold k0_part45_skel
  refine Tgat_mf ?_
  refine Tseg_mt rfl ?_
  refine Tseg_mt rfl ?_
  exact T_pure ⟨rfl, rfl⟩

theorem T_part46 (h4' : k0_cond4 i = 1#1) (t : Fin k0_t10_loop.trips)  (arg23 : F .f32) (v1556 : FVec F S16 .f32) (v1562 : FVec F S16 .f32) (v1576 : F .f32) :
    T d (cV i) (jV i) R ⟨a0, a1, a2, a3, st, mf, m4, mt, rd, sa, ob⟩ (k0_part46 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 arg23 v1556 v1562 v1576)
      (fun r σ' => r = ⟨k0_pay283 arg23 v1556 v1576, k0_pay284 v1562⟩ ∧ σ' = ⟨a0, a1, a2, a3, st, mf, m4, mt, rd, sa, ob⟩) := by
  rw [k0_part46_eq_skeleton]
  unfold k0_part46_skel
  exact T_pure ⟨rfl, rfl⟩

theorem T_t10_body (h4' : k0_cond4 i = 1#1) (t : Fin k0_t10_loop.trips) (a : F .f32) :
    T d (cV i) (jV i) R ⟨a0, a1, a2, a3, st, mf, m4, mt, rd, sa, ob⟩ (k0_t10_body i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 k0_pay386 io h4' t a)
      (fun r σ' => r = prow mf mt t.val a ∧ σ' = ⟨a0, a1, a2, a3, st, mf, m4, mt, rd, sa, ob⟩) := by
  unfold k0_t10_body
  refine T_bind (T_mono (T_part35 h4' t ) ?_)
  rintro _ _ ⟨rfl, rfl⟩
  refine T_bind (T_mono (T_part36 h4' t _ _) ?_)
  rintro _ _ ⟨rfl, rfl⟩
  refine T_bind (T_mono (T_part37 h4' t _ _) ?_)
  rintro _ _ ⟨rfl, rfl⟩
  refine T_bind (T_mono (T_part38 h4' t _ _) ?_)
  rintro _ _ ⟨rfl, rfl⟩
  refine T_bind (T_mono (T_part39 h4' t _ _ _) ?_)
  rintro _ _ ⟨rfl, rfl⟩
  refine T_bind (T_mono (T_part40 h4' t _ _ _ _) ?_)
  rintro _ _ ⟨rfl, rfl⟩
  refine T_bind (T_mono (T_part41 h4' t _ _ _ _) ?_)
  rintro _ _ ⟨rfl, rfl⟩
  refine T_bind (T_mono (T_part42 h4' t _ _ _) ?_)
  rintro _ _ ⟨rfl, rfl⟩
  refine T_bind (T_mono (T_part43 h4' t _ _) ?_)
  rintro _ _ ⟨rfl, rfl⟩
  refine T_bind (T_mono (T_part44 h4' t _ _) ?_)
  rintro _ _ ⟨hw, rfl, rfl⟩
  refine T_bind (T_mono (T_part45 h4' t _ _ _) ?_)
  rintro _ _ ⟨rfl, rfl⟩
  refine T_bind (T_mono (T_part46 h4' t _ _ _ _) ?_)
  rintro _ _ ⟨rfl, rfl⟩
  refine T_pure ⟨?_, rfl⟩
  simp only [prow, pacc, List.foldl_cons, List.foldl_nil]
  rfl

theorem T_t10 (h4' : k0_cond4 i = 1#1) {hok : k0_t10_loop.OK} :
    T d (cV i) (jV i) R ⟨a0, a1, a2, a3, st, mf, m4, mt, rd, sa, ob⟩ (Scf.Loop.for k0_t10_loop hok (Scalar.ofBits .f32 0x00000000#32) (k0_t10_body i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 k0_pay386 io h4'))
      (fun r σ' => r = ploss mf mt 32 ∧ σ' = ⟨a0, a1, a2, a3, st, mf, m4, mt, rd, sa, ob⟩) := by
  refine T_forQ (fun k a σ' => a = ploss mf mt k ∧ σ' = ⟨a0, a1, a2, a3, st, mf, m4, mt, rd, sa, ob⟩) ⟨rfl, rfl⟩ ?_ ?_
  · rintro t a σ' ⟨rfl, rfl⟩
    exact T_t10_body h4' t _
  · rintro a σ' ⟨rfl, rfl⟩
    exact ⟨by rw [show k0_t10_loop.trips = 32 by decide +kernel], rfl⟩

end Tile

end Cert.Proof.Embed
-- ==== Proof.Final.lean ====
/-
  Tile 0's last phase: the pull and regularisation terms, the means transposed.
-/
module

public import proofs.«01_k».proof.Proof.Pairs

@[expose] public section

set_option maxRecDepth 16384

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 3) (Elt F) ℕ UU ℕ

/-- The pull term of one core, from the hinge sums in the table of rows and the counts in the reduced row. -/
def varT (sa : Vec F S16x1088 .f32) (rd : Vec F S1088 .f32) : F .f32 := (k0_pay297 (k0_pay295 (k0_pay293 (k0_pay290 (k0_pay288 (k0_pay286 (k0_pay386) (seg2 sa 0 1056) (seg2 sa 1 1056) (seg2 sa 2 1056) (seg2 sa 3 1056) (seg2 sa 4 1056)) (seg2 sa 5 1056) (seg2 sa 6 1056) (seg2 sa 7 1056) (seg2 sa 8 1056) (seg2 sa 9 1056)) (seg2 sa 10 1056) (seg2 sa 11 1056) (seg2 sa 12 1056) (seg2 sa 13 1056) (seg2 sa 14 1056)) (seg2 sa 15 1056) (seg rd 1024)) (k0_pay294 (k0_pay290 (k0_pay288 (k0_pay286 (k0_pay386) (seg2 sa 0 1056) (seg2 sa 1 1056) (seg2 sa 2 1056) (seg2 sa 3 1056) (seg2 sa 4 1056)) (seg2 sa 5 1056) (seg2 sa 6 1056) (seg2 sa 7 1056) (seg2 sa 8 1056) (seg2 sa 9 1056)) (seg2 sa 10 1056) (seg2 sa 11 1056) (seg2 sa 12 1056) (seg2 sa 13 1056) (seg2 sa 14 1056)) (seg2 sa 15 1056) (seg rd 1024))) (k0_pay296 (k0_pay291 (k0_pay289 (k0_pay287 (k0_pay285 (k0_pay386) (seg2 sa 0 1072) (seg2 sa 1 1072) (seg2 sa 2 1072) (seg2 sa 3 1072)) ((seg2 sa 4 1072)) (seg2 sa 5 1072) (seg2 sa 6 1072) (seg2 sa 7 1072) (seg2 sa 8 1072)) ((seg2 sa 9 1072)) (seg2 sa 10 1072) (seg2 sa 11 1072) (seg2 sa 12 1072) (seg2 sa 13 1072)) ((seg2 sa 14 1072)) (seg2 sa 15 1072)) (k0_pay292 (seg rd 1040))))

/-- The regularisation term of one core, from the transposed means. -/
def regT (mt : Vec F S1024 .f32) : F .f32 := (k0_pay383 (k0_pay380 (k0_pay379 (k0_pay376 (k0_pay374 (k0_pay371 (k0_pay386) (seg mt 16) (seg mt 48) (seg mt 80) (seg mt 112) (seg mt 144) (seg mt 176) (seg mt 208)) ((seg mt 240)) (seg mt 272) (seg mt 304) (seg mt 336) (seg mt 368) (seg mt 400) (seg mt 432) (seg mt 464)) (seg mt 496) (seg mt 528) (seg mt 560) (seg mt 592) (seg mt 624) (seg mt 656) (seg mt 688)) ((seg mt 720)) (seg mt 752) (seg mt 784) (seg mt 816) (seg mt 848) (seg mt 880) (seg mt 912) (seg mt 944)) (seg mt 976) (seg mt 1008)) (k0_pay381 (k0_pay378 (k0_pay375 (k0_pay373 (k0_pay370 (k0_pay386) (seg mt 0) (seg mt 32) (seg mt 64) (seg mt 96) (seg mt 128) (seg mt 160) (seg mt 192)) (k0_pay372 (seg mt 224)) (seg mt 256) (seg mt 288) (seg mt 320) (seg mt 352) (seg mt 384) (seg mt 416) (seg mt 448)) (seg mt 480) (seg mt 512) (seg mt 544) (seg mt 576) (seg mt 608) (seg mt 640) (seg mt 672)) (k0_pay377 (seg mt 704)) (seg mt 736) (seg mt 768) (seg mt 800) (seg mt 832) (seg mt 864) (seg mt 896) (seg mt 928)) (seg mt 960) (seg mt 992)) (k0_pay382 (k0_pay378 (k0_pay375 (k0_pay373 (k0_pay370 (k0_pay386) (seg mt 0) (seg mt 32) (seg mt 64) (seg mt 96) (seg mt 128) (seg mt 160) (seg mt 192)) (k0_pay372 (seg mt 224)) (seg mt 256) (seg mt 288) (seg mt 320) (seg mt 352) (seg mt 384) (seg mt 416) (seg mt 448)) (seg mt 480) (seg mt 512) (seg mt 544) (seg mt 576) (seg mt 608) (seg mt 640) (seg mt 672)) (k0_pay377 (seg mt 704)) (seg mt 736) (seg mt 768) (seg mt 800) (seg mt 832) (seg mt 864) (seg mt 896) (seg mt 928)) (seg mt 960) (seg mt 992)))

theorem W_seq {d : Dev nD} {cc : Fin τ.nSC} {jj : Fin τ.nSub} {R : sProp 𝕄} {σ : St F} {α β : Type} {p : Prog (TpuEff nD τ sig (Elt F) Λ₀ (V d cc jj).2) α} {Q : α → St F → Prop}
    {k : α → Prog (TpuEff nD τ sig (Elt F) Λ₀ (V d cc jj).2) β} {Φ : β → sProp 𝕄} (h : T d cc jj R σ p Q)
    (hk : ∀ r σ', Q r σ' → iprop(R ∗ bufs d cc jj σ') ⊢ wp frame (wpE (defs₀ (F := F)) 𝒱₀ (V d cc jj) none) Set.univ (k r) Φ) :
    iprop(R ∗ bufs d cc jj σ) ⊢ wp frame (wpE (defs₀ (F := F)) 𝒱₀ (V d cc jj) none) Set.univ (p >>= k) Φ := by
  unfold T at h
  rw [wp_bind]
  refine h.trans (wp_mono _ _ _ fun a => ?_)
  iintro ⟨%σ', %hq, HR, HB⟩
  iapply (hk a σ' hq)
  isplitl [HR]; · iexact HR
  iexact HB

section Tile

variable {d : Dev nD} {i : grid0.Coords} {R : sProp (MT nD τ sig (HIx 3) (Elt F) ℕ UU ℕ)} {α : Type}
  {a0 : Vec F (shp .a0) .f32}
  {a1 : Vec F (shp .a1) .f32}
  {a2 : Vec F (shp .a2) .f32}
  {a3 : Vec F (shp .a3) .f32}
  {st : Vec F (shp .st) .f32}
  {mf : Vec F (shp .mf) .f32}
  {m4 : Vec F (shp .m4) .f32}
  {mt : Vec F (shp .mt) .f32}
  {rd : Vec F (shp .rd) .f32}
  {sa : Vec F (shp .sa) .f32}
  {ob : Vec F (shp .ob) .f32}
  {h2 : (Memref.whole main_v0_scv).IsWhole}
  {h3 : (Memref.whole main_v1_scv).IsWhole}
  {h4 : (Memref.whole main_v2_scv).IsWhole}
  {h5 : (Memref.whole cc0_scratch0).IsWhole}
  {h6 : (Memref.whole cc0_scratch1).IsWhole}
  {h7 : (Memref.whole cc0_scratch2).IsWhole}
  {h8 : (Memref.whole cc0_scratch3).IsWhole}
  {h9 : (Memref.whole cc0_scratch4).IsWhole}
  {h10 : (Memref.whole cc0_scratch5).IsWhole}
  {h11 : (Memref.whole cc0_scratch6).IsWhole}
  {h12 : (Memref.whole cc0_scratch7).IsWhole}
  {h13 : (Memref.whole cc0_scratch8).IsWhole}
  {h14 : (Memref.whole cc0_scratch9).IsWhole}
  {h15 : (Memref.whole cc0_scratch10).IsWhole}
  {h16 : (Memref.whole cc0_scratch11).IsWhole}
  {h17 : (Memref.whole cc0_scratch12).IsWhole}
  {h20 : (Memref.whole cc0_scratch15).IsWhole}
  {h21 : (Memref.whole cc0_scratch16).IsWhole}

theorem Tgat_mf_last {idx : IVec S16 32} {h : ∀ a x, ((![idx] : Fin 1 → IVec S16 32) a x).toNat < (shp .mf).size a}
    {hl : (mr .mf).view.Loads} {Q : Vec F S16 .f32 → St F → Prop} (hk : Q (gat mf idx) ⟨a0, a1, a2, a3, st, mf, m4, mt, rd, sa, ob⟩) :
    T d (cV i) (jV i) R ⟨a0, a1, a2, a3, st, mf, m4, mt, rd, sa, ob⟩ (SparseCore.vectorLoadIdx (mr .mf) ![idx] h hl) Q := by
  have e := Tgat_mf (d := d) (cc := cV i) (jj := jV i) (R := R) (h := h) (hl := hl) (k := pure) (T_pure hk)
  rwa [bind_pure] at e

theorem T_part47 (h4' : k0_cond4 i = 1#1) {W₀ : Waits sig (HIx 3)} {O : CellTallies nD τ sig (HIx 3)} {f : Vec F S16x1088 .f32}  :
    T d (cV i) (jV i) (cpR d (cV i) (jV i) cc0_scoped5.sem W₀ O f) ⟨a0, a1, a2, a3, st, mf, m4, mt, rd, sa, ob⟩ (k0_part47 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 (k0_pay386))
      (fun r σ' => r = ⟨k0_pay285 (k0_pay386) (seg2 f 0 1072) (seg2 f 1 1072) (seg2 f 2 1072) (seg2 f 3 1072), k0_pay286 (k0_pay386) (seg2 f 0 1056) (seg2 f 1 1056) (seg2 f 2 1056) (seg2 f 3 1056) (seg2 f 4 1056), (seg2 f 4 1072)⟩ ∧ σ' = ⟨a0, a1, a2, a3, st, mf, m4, mt, rd, f, ob⟩) := by
  rw [k0_part47_eq_skeleton]
  unfold k0_part47_skel
  refine T_copy_sa ?_
  refine Tseg_sa rfl ?_
  refine Tseg_sa rfl ?_
  refine Tseg_sa rfl ?_
  refine Tseg_sa rfl ?_
  refine Tseg_sa rfl ?_
  refine Tseg_sa rfl ?_
  refine Tseg_sa rfl ?_
  refine Tseg_sa rfl ?_
  refine Tseg_sa rfl ?_
  refine Tseg_sa rfl ?_
  exact T_pure ⟨rfl, rfl⟩

theorem T_part48 (h4' : k0_cond4 i = 1#1)  (v91 : FVec F S16 .f32) (v94 : FVec F S16 .f32) (v96_ld : Vec F S1x16 .f32) :
    T d (cV i) (jV i) R ⟨a0, a1, a2, a3, st, mf, m4, mt, rd, sa, ob⟩ (k0_part48 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 v91 v94 v96_ld)
      (fun r σ' => r = ⟨k0_pay287 v91 v96_ld (seg2 sa 5 1072) (seg2 sa 6 1072) (seg2 sa 7 1072) (seg2 sa 8 1072), k0_pay288 v94 (seg2 sa 5 1056) (seg2 sa 6 1056) (seg2 sa 7 1056) (seg2 sa 8 1056) (seg2 sa 9 1056), (seg2 sa 9 1072)⟩ ∧ σ' = ⟨a0, a1, a2, a3, st, mf, m4, mt, rd, sa, ob⟩) := by
  rw [k0_part48_eq_skeleton]
  unfold k0_part48_skel
  refine Tseg_sa rfl ?_
  refine Tseg_sa rfl ?_
  refine Tseg_sa rfl ?_
  refine Tseg_sa rfl ?_
  refine Tseg_sa rfl ?_
  refine Tseg_sa rfl ?_
  refine Tseg_sa rfl ?_
  refine Tseg_sa rfl ?_
  refine Tseg_sa rfl ?_
  refine Tseg_sa rfl ?_
  exact T_pure ⟨rfl, rfl⟩

theorem T_part49 (h4' : k0_cond4 i = 1#1)  (v121 : FVec F S16 .f32) (v124 : FVec F S16 .f32) (v126_ld : Vec F S1x16 .f32) :
    T d (cV i) (jV i) R ⟨a0, a1, a2, a3, st, mf, m4, mt, rd, sa, ob⟩ (k0_part49 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 v121 v124 v126_ld)
      (fun r σ' => r = ⟨k0_pay289 v121 v126_ld (seg2 sa 10 1072) (seg2 sa 11 1072) (seg2 sa 12 1072) (seg2 sa 13 1072), k0_pay290 v124 (seg2 sa 10 1056) (seg2 sa 11 1056) (seg2 sa 12 1056) (seg2 sa 13 1056) (seg2 sa 14 1056), (seg2 sa 14 1072)⟩ ∧ σ' = ⟨a0, a1, a2, a3, st, mf, m4, mt, rd, sa, ob⟩) := by
  rw [k0_part49_eq_skeleton]
  unfold k0_part49_skel
  refine Tseg_sa rfl ?_
  refine Tseg_sa rfl ?_
  refine Tseg_sa rfl ?_
  refine Tseg_sa rfl ?_
  refine Tseg_sa rfl ?_
  refine Tseg_sa rfl ?_
  refine Tseg_sa rfl ?_
  refine Tseg_sa rfl ?_
  refine Tseg_sa rfl ?_
  refine Tseg_sa rfl ?_
  exact T_pure ⟨rfl, rfl⟩

theorem T_part50 (h4' : k0_cond4 i = 1#1)  (v151 : FVec F S16 .f32) (v154 : FVec F S16 .f32) (v156_ld : Vec F S1x16 .f32) :
    T d (cV i) (jV i) R ⟨a0, a1, a2, a3, st, mf, m4, mt, rd, sa, ob⟩ (k0_part50 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 v151 v154 v156_ld)
      (fun r σ' => r = ⟨k0_pay291 v151 v156_ld (seg2 sa 15 1072), k0_pay292 (seg rd 1040), k0_pay293 v154 (seg2 sa 15 1056) (seg rd 1024), k0_pay294 v154 (seg2 sa 15 1056) (seg rd 1024)⟩ ∧ σ' = ⟨a0, a1, a2, a3, st, mf, m4, mt, rd, sa, ob⟩) := by
  rw [k0_part50_eq_skeleton]
  unfold k0_part50_skel
  refine Tseg_sa rfl ?_
  refine Tseg_sa rfl ?_
  refine Tseg_rd rfl ?_
  refine Tseg_rd rfl ?_
  exact T_pure ⟨rfl, rfl⟩

theorem T_part51 (h4' : k0_cond4 i = 1#1)  (v163 : FVec F S16 .f32) (v169 : FVec F S16 .f32) (v170 : FVec F S16 .f32) (v205 : F .f32) :
    T d (cV i) (jV i) R ⟨a0, a1, a2, a3, st, mf, m4, mt, rd, sa, ob⟩ (k0_part51 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 v163 v169 v170 v205)
      (fun r σ' => r = ⟨k0_pay295 v170 v205, k0_pay296 v163 v169⟩ ∧ σ' = ⟨a0, a1, a2, a3, st, mf, m4, mt, rd, sa, ob⟩) := by
  rw [k0_part51_eq_skeleton]
  unfold k0_part51_skel
  exact T_pure ⟨rfl, rfl⟩

theorem T_part52 (h4' : k0_cond4 i = 1#1)  (v217 : F .f32) (v265 : F .f32) :
    T d (cV i) (jV i) R ⟨a0, a1, a2, a3, st, mf, m4, mt, rd, sa, ob⟩ (k0_part52 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 (io) h4' v217 v265)
      (fun r σ' => r = ⟨k0_pay297 v217 v265, 0#32⟩ ∧ σ' = ⟨a0, a1, a2, a3, st, mf, m4, blk (mtW mf) 4 mt, rd, sa, ob⟩) := by
  rw [k0_part52_eq_skeleton]
  unfold k0_part52_skel
  rw [show ⟨a0, a1, a2, a3, st, mf, m4, mt, rd, sa, ob⟩ = (⟨a0, a1, a2, a3, st, mf, m4, blk (mtW mf) 0 mt, rd, sa, ob⟩ : St F) by rw [blk_zero]]
  refine T_assume (fun _ => chkI (N := 1024) (by decide +kernel)) ?_
  refine Tgat_mf ?_
  refine Tseg_mt rfl ?_
  refine Tblk_mt (mtW mf) 0 rfl rfl ?_
  refine T_assume (fun _ => chkI (N := 1024) (by decide +kernel)) ?_
  refine Tgat_mf ?_
  refine Tseg_mt rfl ?_
  refine Tblk_mt (mtW mf) 1 rfl rfl ?_
  refine T_assume (fun _ => chkI (N := 1024) (by decide +kernel)) ?_
  refine Tgat_mf ?_
  refine Tseg_mt rfl ?_
  refine Tblk_mt (mtW mf) 2 rfl rfl ?_
  refine T_assume (fun _ => chkI (N := 1024) (by decide +kernel)) ?_
  refine Tgat_mf ?_
  refine Tseg_mt rfl ?_
  refine Tblk_mt (mtW mf) 3 rfl rfl ?_
  exact T_pure ⟨rfl, rfl⟩

theorem T_part53 (h4' : k0_cond4 i = 1#1)  :
    T d (cV i) (jV i) R ⟨a0, a1, a2, a3, st, mf, m4, blk (mtW mf) 4 mt, rd, sa, ob⟩ (k0_part53 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 (io) h4' (0#32))
      (fun r σ' => r = ⟨k0_pay306 (io), k0_pay307⟩ ∧ σ' = ⟨a0, a1, a2, a3, st, mf, m4, blk (mtW mf) 8 mt, rd, sa, ob⟩) := by
  rw [k0_part53_eq_skeleton]
  unfold k0_part53_skel
  refine T_assume (fun _ => chkI (N := 1024) (by decide +kernel)) ?_
  refine Tgat_mf ?_
  refine Tseg_mt rfl ?_
  refine Tblk_mt (mtW mf) 4 rfl rfl ?_
  refine T_assume (fun _ => chkI (N := 1024) (by decide +kernel)) ?_
  refine Tgat_mf ?_
  refine Tseg_mt rfl ?_
  refine Tblk_mt (mtW mf) 5 rfl rfl ?_
  refine T_assume (fun _ => chkI (N := 1024) (by decide +kernel)) ?_
  refine Tgat_mf ?_
  refine Tseg_mt rfl ?_
  refine Tblk_mt (mtW mf) 6 rfl rfl ?_
  refine T_assume (fun _ => chkI (N := 1024) (by decide +kernel)) ?_
  refine Tgat_mf ?_
  refine Tseg_mt rfl ?_
  refine Tblk_mt (mtW mf) 7 rfl rfl ?_
  exact T_pure ⟨rfl, rfl⟩

theorem T_part54 (h4' : k0_cond4 i = 1#1)  :
    T d (cV i) (jV i) R ⟨a0, a1, a2, a3, st, mf, m4, blk (mtW mf) 8 mt, rd, sa, ob⟩ (k0_part54 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 (io) h4' (k0_pay306 (io)) (k0_pay307))
      (fun r σ' => r = k0_pay312 (io) ∧ σ' = ⟨a0, a1, a2, a3, st, mf, m4, blk (mtW mf) 12 mt, rd, sa, ob⟩) := by
  rw [k0_part54_eq_skeleton]
  unfold k0_part54_skel
  refine T_assume (fun _ => chkI (N := 1024) (by decide +kernel)) ?_
  refine Tgat_mf ?_
  refine Tseg_mt rfl ?_
  refine Tblk_mt (mtW mf) 8 rfl rfl ?_
  refine T_assume (fun _ => chkI (N := 1024) (by decide +kernel)) ?_
  refine Tgat_mf ?_
  refine Tseg_mt rfl ?_
  refine Tblk_mt (mtW mf) 9 rfl rfl ?_
  refine T_assume (fun _ => chkI (N := 1024) (by decide +kernel)) ?_
  refine Tgat_mf ?_
  refine Tseg_mt rfl ?_
  refine Tblk_mt (mtW mf) 10 rfl rfl ?_
  refine T_assume (fun _ => chkI (N := 1024) (by decide +kernel)) ?_
  refine Tgat_mf ?_
  refine Tseg_mt rfl ?_
  refine Tblk_mt (mtW mf) 11 rfl rfl ?_
  exact T_pure ⟨rfl, rfl⟩

theorem T_part55 (h4' : k0_cond4 i = 1#1)  :
    T d (cV i) (jV i) R ⟨a0, a1, a2, a3, st, mf, m4, blk (mtW mf) 12 mt, rd, sa, ob⟩ (k0_part55 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 (io) h4' (k0_pay312 (io)))
      (fun r σ' => r = (gat mf (k0_pay316 (io))) ∧ σ' = ⟨a0, a1, a2, a3, st, mf, m4, blk (mtW mf) 16 mt, rd, sa, ob⟩) := by
  rw [k0_part55_eq_skeleton]
  unfold k0_part55_skel
  refine T_assume (fun _ => chkI (N := 1024) (by decide +kernel)) ?_
  refine Tgat_mf ?_
  refine Tseg_mt rfl ?_
  refine Tblk_mt (mtW mf) 12 rfl rfl ?_
  refine T_assume (fun _ => chkI (N := 1024) (by decide +kernel)) ?_
  refine Tgat_mf ?_
  refine Tseg_mt rfl ?_
  refine Tblk_mt (mtW mf) 13 rfl rfl ?_
  refine T_assume (fun _ => chkI (N := 1024) (by decide +kernel)) ?_
  refine Tgat_mf ?_
  refine Tseg_mt rfl ?_
  refine Tblk_mt (mtW mf) 14 rfl rfl ?_
  refine T_assume (fun _ => chkI (N := 1024) (by decide +kernel)) ?_
  refine Tgat_mf ?_
  refine Tseg_mt rfl ?_
  refine Tblk_mt (mtW mf) 15 rfl rfl ?_
  refine T_assume (fun _ => chkI (N := 1024) (by decide +kernel)) ?_
  refine Tgat_mf ?_
  refine Tseg_mt rfl ?_
  exact T_pure ⟨rfl, rfl⟩

theorem T_part56 (h4' : k0_cond4 i = 1#1)  :
    T d (cV i) (jV i) R ⟨a0, a1, a2, a3, st, mf, m4, blk (mtW mf) 16 mt, rd, sa, ob⟩ (k0_part56 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 (io) h4' (gat mf (k0_pay316 (io))))
      (fun r σ' => r = k0_pay321 (io) ∧ σ' = ⟨a0, a1, a2, a3, st, mf, m4, blk (mtW mf) 21 mt, rd, sa, ob⟩) := by
  rw [k0_part56_eq_skeleton]
  unfold k0_part56_skel
  refine Tblk_mt (mtW mf) 16 rfl rfl ?_
  refine T_assume (fun _ => chkI (N := 1024) (by decide +kernel)) ?_
  refine Tgat_mf ?_
  refine Tseg_mt rfl ?_
  refine Tblk_mt (mtW mf) 17 rfl rfl ?_
  refine T_assume (fun _ => chkI (N := 1024) (by decide +kernel)) ?_
  refine Tgat_mf ?_
  refine Tseg_mt rfl ?_
  refine Tblk_mt (mtW mf) 18 rfl rfl ?_
  refine T_assume (fun _ => chkI (N := 1024) (by decide +kernel)) ?_
  refine Tgat_mf ?_
  refine Tseg_mt rfl ?_
  refine Tblk_mt (mtW mf) 19 rfl rfl ?_
  refine T_assume (fun _ => chkI (N := 1024) (by decide +kernel)) ?_
  refine Tgat_mf ?_
  refine Tseg_mt rfl ?_
  refine Tblk_mt (mtW mf) 20 rfl rfl ?_
  exact T_pure ⟨rfl, rfl⟩

theorem T_part57 (h4' : k0_cond4 i = 1#1)  :
    T d (cV i) (jV i) R ⟨a0, a1, a2, a3, st, mf, m4, blk (mtW mf) 21 mt, rd, sa, ob⟩ (k0_part57 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 (io) h4' (k0_pay321 (io)))
      (fun r σ' => r = ⟨k0_pay326 (io), 12#32⟩ ∧ σ' = ⟨a0, a1, a2, a3, st, mf, m4, blk (mtW mf) 25 mt, rd, sa, ob⟩) := by
  rw [k0_part57_eq_skeleton]
  unfold k0_part57_skel
  refine T_assume (fun _ => chkI (N := 1024) (by decide +kernel)) ?_
  refine Tgat_mf ?_
  refine Tseg_mt rfl ?_
  refine Tblk_mt (mtW mf) 21 rfl rfl ?_
  refine T_assume (fun _ => chkI (N := 1024) (by decide +kernel)) ?_
  refine Tgat_mf ?_
  refine Tseg_mt rfl ?_
  refine Tblk_mt (mtW mf) 22 rfl rfl ?_
  refine T_assume (fun _ => chkI (N := 1024) (by decide +kernel)) ?_
  refine Tgat_mf ?_
  refine Tseg_mt rfl ?_
  refine Tblk_mt (mtW mf) 23 rfl rfl ?_
  refine T_assume (fun _ => chkI (N := 1024) (by decide +kernel)) ?_
  refine Tgat_mf ?_
  refine Tseg_mt rfl ?_
  refine Tblk_mt (mtW mf) 24 rfl rfl ?_
  exact T_pure ⟨rfl, rfl⟩

theorem T_part58 (h4' : k0_cond4 i = 1#1)  :
    T d (cV i) (jV i) R ⟨a0, a1, a2, a3, st, mf, m4, blk (mtW mf) 25 mt, rd, sa, ob⟩ (k0_part58 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 (io) h4' (k0_pay326 (io)) (12#32))
      (fun r σ' => r = (gat mf (k0_pay331 (io))) ∧ σ' = ⟨a0, a1, a2, a3, st, mf, m4, blk (mtW mf) 29 mt, rd, sa, ob⟩) := by
  rw [k0_part58_eq_skeleton]
  unfold k0_part58_skel
  refine T_assume (fun _ => chkI (N := 1024) (by decide +kernel)) ?_
  refine Tgat_mf ?_
  refine Tseg_mt rfl ?_
  refine Tblk_mt (mtW mf) 25 rfl rfl ?_
  refine T_assume (fun _ => chkI (N := 1024) (by decide +kernel)) ?_
  refine Tgat_mf ?_
  refine Tseg_mt rfl ?_
  refine Tblk_mt (mtW mf) 26 rfl rfl ?_
  refine T_assume (fun _ => chkI (N := 1024) (by decide +kernel)) ?_
  refine Tgat_mf ?_
  refine Tseg_mt rfl ?_
  refine Tblk_mt (mtW mf) 27 rfl rfl ?_
  refine T_assume (fun _ => chkI (N := 1024) (by decide +kernel)) ?_
  refine Tgat_mf ?_
  refine Tseg_mt rfl ?_
  refine Tblk_mt (mtW mf) 28 rfl rfl ?_
  refine T_assume (fun _ => chkI (N := 1024) (by decide +kernel)) ?_
  refine Tgat_mf_last ?_
  exact ⟨rfl, rfl⟩

theorem T_part59 (h4' : k0_cond4 i = 1#1)  :
    T d (cV i) (jV i) R ⟨a0, a1, a2, a3, st, mf, m4, blk (mtW mf) 29 mt, rd, sa, ob⟩ (k0_part59 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 (io) h4' (gat mf (k0_pay331 (io))))
      (fun r σ' => r = 0#32 ∧ σ' = ⟨a0, a1, a2, a3, st, mf, m4, blk (mtW mf) 34 mt, rd, sa, ob⟩) := by
  rw [k0_part59_eq_skeleton]
  unfold k0_part59_skel
  refine Tseg_mt rfl ?_
  refine Tblk_mt (mtW mf) 29 rfl rfl ?_
  refine T_assume (fun _ => chkI (N := 1024) (by decide +kernel)) ?_
  refine Tgat_mf ?_
  refine Tseg_mt rfl ?_
  refine Tblk_mt (mtW mf) 30 rfl rfl ?_
  refine T_assume (fun _ => chkI (N := 1024) (by decide +kernel)) ?_
  refine Tgat_mf ?_
  refine Tseg_mt rfl ?_
  refine Tblk_mt (mtW mf) 31 rfl rfl ?_
  refine T_assume (fun _ => chkI (N := 1024) (by decide +kernel)) ?_
  refine Tgat_mf ?_
  refine Tseg_mt rfl ?_
  refine Tblk_mt (mtW mf) 32 rfl rfl ?_
  refine T_assume (fun _ => chkI (N := 1024) (by decide +kernel)) ?_
  refine Tgat_mf ?_
  refine Tseg_mt rfl ?_
  refine Tblk_mt (mtW mf) 33 rfl rfl ?_
  exact T_pure ⟨rfl, rfl⟩

theorem T_part60 (h4' : k0_cond4 i = 1#1)  :
    T d (cV i) (jV i) R ⟨a0, a1, a2, a3, st, mf, m4, blk (mtW mf) 34 mt, rd, sa, ob⟩ (k0_part60 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 (io) h4' (0#32))
      (fun r σ' => r = ⟨k0_pay340 (io), k0_pay341⟩ ∧ σ' = ⟨a0, a1, a2, a3, st, mf, m4, blk (mtW mf) 38 mt, rd, sa, ob⟩) := by
  rw [k0_part60_eq_skeleton]
  unfold k0_part60_skel
  refine T_assume (fun _ => chkI (N := 1024) (by decide +kernel)) ?_
  refine Tgat_mf ?_
  refine Tseg_mt rfl ?_
  refine Tblk_mt (mtW mf) 34 rfl rfl ?_
  refine T_assume (fun _ => chkI (N := 1024) (by decide +kernel)) ?_
  refine Tgat_mf ?_
  refine Tseg_mt rfl ?_
  refine Tblk_mt (mtW mf) 35 rfl rfl ?_
  refine T_assume (fun _ => chkI (N := 1024) (by decide +kernel)) ?_
  refine Tgat_mf ?_
  refine Tseg_mt rfl ?_
  refine Tblk_mt (mtW mf) 36 rfl rfl ?_
  refine T_assume (fun _ => chkI (N := 1024) (by decide +kernel)) ?_
  refine Tgat_mf ?_
  refine Tseg_mt rfl ?_
  refine Tblk_mt (mtW mf) 37 rfl rfl ?_
  exact T_pure ⟨rfl, rfl⟩

theorem T_part61 (h4' : k0_cond4 i = 1#1)  :
    T d (cV i) (jV i) R ⟨a0, a1, a2, a3, st, mf, m4, blk (mtW mf) 38 mt, rd, sa, ob⟩ (k0_part61 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 (io) h4' (k0_pay340 (io)) (k0_pay341))
      (fun r σ' => r = k0_pay346 (io) ∧ σ' = ⟨a0, a1, a2, a3, st, mf, m4, blk (mtW mf) 42 mt, rd, sa, ob⟩) := by
  rw [k0_part61_eq_skeleton]
  unfold k0_part61_skel
  refine T_assume (fun _ => chkI (N := 1024) (by decide +kernel)) ?_
  refine Tgat_mf ?_
  refine Tseg_mt rfl ?_
  refine Tblk_mt (mtW mf) 38 rfl rfl ?_
  refine T_assume (fun _ => chkI (N := 1024) (by decide +kernel)) ?_
  refine Tgat_mf ?_
  refine Tseg_mt rfl ?_
  refine Tblk_mt (mtW mf) 39 rfl rfl ?_
  refine T_assume (fun _ => chkI (N := 1024) (by decide +kernel)) ?_
  refine Tgat_mf ?_
  refine Tseg_mt rfl ?_
  refine Tblk_mt (mtW mf) 40 rfl rfl ?_
  refine T_assume (fun _ => chkI (N := 1024) (by decide +kernel)) ?_
  refine Tgat_mf ?_
  refine Tseg_mt rfl ?_
  refine Tblk_mt (mtW mf) 41 rfl rfl ?_
  exact T_pure ⟨rfl, rfl⟩

theorem T_part62 (h4' : k0_cond4 i = 1#1)  :
    T d (cV i) (jV i) R ⟨a0, a1, a2, a3, st, mf, m4, blk (mtW mf) 42 mt, rd, sa, ob⟩ (k0_part62 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 (io) h4' (k0_pay346 (io)))
      (fun r σ' => r = (gat mf (k0_pay350 (io))) ∧ σ' = ⟨a0, a1, a2, a3, st, mf, m4, blk (mtW mf) 46 mt, rd, sa, ob⟩) := by
  rw [k0_part62_eq_skeleton]
  unfold k0_part62_skel
  refine T_assume (fun _ => chkI (N := 1024) (by decide +kernel)) ?_
  refine Tgat_mf ?_
  refine Tseg_mt rfl ?_
  refine Tblk_mt (mtW mf) 42 rfl rfl ?_
  refine T_assume (fun _ => chkI (N := 1024) (by decide +kernel)) ?_
  refine Tgat_mf ?_
  refine Tseg_mt rfl ?_
  refine Tblk_mt (mtW mf) 43 rfl rfl ?_
  refine T_assume (fun _ => chkI (N := 1024) (by decide +kernel)) ?_
  refine Tgat_mf ?_
  refine Tseg_mt rfl ?_
  refine Tblk_mt (mtW mf) 44 rfl rfl ?_
  refine T_assume (fun _ => chkI (N := 1024) (by decide +kernel)) ?_
  refine Tgat_mf ?_
  refine Tseg_mt rfl ?_
  refine Tblk_mt (mtW mf) 45 rfl rfl ?_
  refine T_assume (fun _ => chkI (N := 1024) (by decide +kernel)) ?_
  refine Tgat_mf ?_
  refine Tseg_mt rfl ?_
  exact T_pure ⟨rfl, rfl⟩

theorem T_part63 (h4' : k0_cond4 i = 1#1)  :
    T d (cV i) (jV i) R ⟨a0, a1, a2, a3, st, mf, m4, blk (mtW mf) 46 mt, rd, sa, ob⟩ (k0_part63 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 (io) h4' (gat mf (k0_pay350 (io))))
      (fun r σ' => r = k0_pay355 (io) ∧ σ' = ⟨a0, a1, a2, a3, st, mf, m4, blk (mtW mf) 51 mt, rd, sa, ob⟩) := by
  rw [k0_part63_eq_skeleton]
  unfold k0_part63_skel
  refine Tblk_mt (mtW mf) 46 rfl rfl ?_
  refine T_assume (fun _ => chkI (N := 1024) (by decide +kernel)) ?_
  refine Tgat_mf ?_
  refine Tseg_mt rfl ?_
  refine Tblk_mt (mtW mf) 47 rfl rfl ?_
  refine T_assume (fun _ => chkI (N := 1024) (by decide +kernel)) ?_
  refine Tgat_mf ?_
  refine Tseg_mt rfl ?_
  refine Tblk_mt (mtW mf) 48 rfl rfl ?_
  refine T_assume (fun _ => chkI (N := 1024) (by decide +kernel)) ?_
  refine Tgat_mf ?_
  refine Tseg_mt rfl ?_
  refine Tblk_mt (mtW mf) 49 rfl rfl ?_
  refine T_assume (fun _ => chkI (N := 1024) (by decide +kernel)) ?_
  refine Tgat_mf ?_
  refine Tseg_mt rfl ?_
  refine Tblk_mt (mtW mf) 50 rfl rfl ?_
  exact T_pure ⟨rfl, rfl⟩

theorem T_part64 (h4' : k0_cond4 i = 1#1)  :
    T d (cV i) (jV i) R ⟨a0, a1, a2, a3, st, mf, m4, blk (mtW mf) 51 mt, rd, sa, ob⟩ (k0_part64 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 (io) h4' (k0_pay355 (io)))
      (fun r σ' => r = ⟨k0_pay360 (io), 27#32⟩ ∧ σ' = ⟨a0, a1, a2, a3, st, mf, m4, blk (mtW mf) 55 mt, rd, sa, ob⟩) := by
  rw [k0_part64_eq_skeleton]
  unfold k0_part64_skel
  refine T_assume (fun _ => chkI (N := 1024) (by decide +kernel)) ?_
  refine Tgat_mf ?_
  refine Tseg_mt rfl ?_
  refine Tblk_mt (mtW mf) 51 rfl rfl ?_
  refine T_assume (fun _ => chkI (N := 1024) (by decide +kernel)) ?_
  refine Tgat_mf ?_
  refine Tseg_mt rfl ?_
  refine Tblk_mt (mtW mf) 52 rfl rfl ?_
  refine T_assume (fun _ => chkI (N := 1024) (by decide +kernel)) ?_
  refine Tgat_mf ?_
  refine Tseg_mt rfl ?_
  refine Tblk_mt (mtW mf) 53 rfl rfl ?_
  refine T_assume (fun _ => chkI (N := 1024) (by decide +kernel)) ?_
  refine Tgat_mf ?_
  refine Tseg_mt rfl ?_
  refine Tblk_mt (mtW mf) 54 rfl rfl ?_
  exact T_pure ⟨rfl, rfl⟩

theorem T_part65 (h4' : k0_cond4 i = 1#1)  :
    T d (cV i) (jV i) R ⟨a0, a1, a2, a3, st, mf, m4, blk (mtW mf) 55 mt, rd, sa, ob⟩ (k0_part65 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 (io) h4' (k0_pay360 (io)) (27#32))
      (fun r σ' => r = (gat mf (k0_pay365 (io))) ∧ σ' = ⟨a0, a1, a2, a3, st, mf, m4, blk (mtW mf) 59 mt, rd, sa, ob⟩) := by
  rw [k0_part65_eq_skeleton]
  unfold k0_part65_skel
  refine T_assume (fun _ => chkI (N := 1024) (by decide +kernel)) ?_
  refine Tgat_mf ?_
  refine Tseg_mt rfl ?_
  refine Tblk_mt (mtW mf) 55 rfl rfl ?_
  refine T_assume (fun _ => chkI (N := 1024) (by decide +kernel)) ?_
  refine Tgat_mf ?_
  refine Tseg_mt rfl ?_
  refine Tblk_mt (mtW mf) 56 rfl rfl ?_
  refine T_assume (fun _ => chkI (N := 1024) (by decide +kernel)) ?_
  refine Tgat_mf ?_
  refine Tseg_mt rfl ?_
  refine Tblk_mt (mtW mf) 57 rfl rfl ?_
  refine T_assume (fun _ => chkI (N := 1024) (by decide +kernel)) ?_
  refine Tgat_mf ?_
  refine Tseg_mt rfl ?_
  refine Tblk_mt (mtW mf) 58 rfl rfl ?_
  refine T_assume (fun _ => chkI (N := 1024) (by decide +kernel)) ?_
  refine Tgat_mf_last ?_
  exact ⟨rfl, rfl⟩

theorem T_part66 (h4' : k0_cond4 i = 1#1)  :
    T d (cV i) (jV i) R ⟨a0, a1, a2, a3, st, mf, m4, blk (mtW mf) 59 mt, rd, sa, ob⟩ (k0_part66 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 (io) h4' (gat mf (k0_pay365 (io))))
      (fun r σ' => σ' = ⟨a0, a1, a2, a3, st, mf, m4, blk (mtW mf) 64 mt, rd, sa, ob⟩) := by
  rw [k0_part66_eq_skeleton]
  unfold k0_part66_skel
  refine Tseg_mt rfl ?_
  refine Tblk_mt (mtW mf) 59 rfl rfl ?_
  refine T_assume (fun _ => chkI (N := 1024) (by decide +kernel)) ?_
  refine Tgat_mf ?_
  refine Tseg_mt rfl ?_
  refine Tblk_mt (mtW mf) 60 rfl rfl ?_
  refine T_assume (fun _ => chkI (N := 1024) (by decide +kernel)) ?_
  refine Tgat_mf ?_
  refine Tseg_mt rfl ?_
  refine Tblk_mt (mtW mf) 61 rfl rfl ?_
  refine T_assume (fun _ => chkI (N := 1024) (by decide +kernel)) ?_
  refine Tgat_mf ?_
  refine Tseg_mt rfl ?_
  refine Tblk_mt (mtW mf) 62 rfl rfl ?_
  refine T_assume (fun _ => chkI (N := 1024) (by decide +kernel)) ?_
  refine Tgat_mf ?_
  refine Tseg_mt rfl ?_
  refine Tblk_mt (mtW mf) 63 rfl rfl ?_
  exact T_pure rfl

theorem T_part67 (h4' : k0_cond4 i = 1#1)  :
    T d (cV i) (jV i) R ⟨a0, a1, a2, a3, st, mf, m4, mt, rd, sa, ob⟩ (k0_part67 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 (k0_pay386))
      (fun r σ' => r = ⟨k0_pay370 (k0_pay386) (seg mt 0) (seg mt 32) (seg mt 64) (seg mt 96) (seg mt 128) (seg mt 160) (seg mt 192), k0_pay371 (k0_pay386) (seg mt 16) (seg mt 48) (seg mt 80) (seg mt 112) (seg mt 144) (seg mt 176) (seg mt 208), (seg mt 240), k0_pay372 (seg mt 224)⟩ ∧ σ' = ⟨a0, a1, a2, a3, st, mf, m4, mt, rd, sa, ob⟩) := by
  rw [k0_part67_eq_skeleton]
  unfold k0_part67_skel
  refine Tseg_mt rfl ?_
  refine Tseg_mt rfl ?_
  refine Tseg_mt rfl ?_
  refine Tseg_mt rfl ?_
  refine Tseg_mt rfl ?_
  refine Tseg_mt rfl ?_
  refine Tseg_mt rfl ?_
  refine Tseg_mt rfl ?_
  refine Tseg_mt rfl ?_
  refine Tseg_mt rfl ?_
  refine Tseg_mt rfl ?_
  refine Tseg_mt rfl ?_
  refine Tseg_mt rfl ?_
  refine Tseg_mt rfl ?_
  refine Tseg_mt rfl ?_
  refine Tseg_mt rfl ?_
  exact T_pure ⟨rfl, rfl⟩

theorem T_part68 (h4' : k0_cond4 i = 1#1)  (v819 : FVec F S16 .f32) (v821 : FVec F S16 .f32) (v823 : Vec F S16 .f32) (v824 : FVec F S16 .f32) :
    T d (cV i) (jV i) R ⟨a0, a1, a2, a3, st, mf, m4, mt, rd, sa, ob⟩ (k0_part68 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 v819 v821 v823 v824)
      (fun r σ' => r = ⟨k0_pay373 v819 v824 (seg mt 256) (seg mt 288) (seg mt 320) (seg mt 352) (seg mt 384) (seg mt 416) (seg mt 448), k0_pay374 v821 v823 (seg mt 272) (seg mt 304) (seg mt 336) (seg mt 368) (seg mt 400) (seg mt 432) (seg mt 464)⟩ ∧ σ' = ⟨a0, a1, a2, a3, st, mf, m4, mt, rd, sa, ob⟩) := by
  rw [k0_part68_eq_skeleton]
  unfold k0_part68_skel
  refine Tseg_mt rfl ?_
  refine Tseg_mt rfl ?_
  refine Tseg_mt rfl ?_
  refine Tseg_mt rfl ?_
  refine Tseg_mt rfl ?_
  refine Tseg_mt rfl ?_
  refine Tseg_mt rfl ?_
  refine Tseg_mt rfl ?_
  refine Tseg_mt rfl ?_
  refine Tseg_mt rfl ?_
  refine Tseg_mt rfl ?_
  refine Tseg_mt rfl ?_
  refine Tseg_mt rfl ?_
  refine Tseg_mt rfl ?_
  exact T_pure ⟨rfl, rfl⟩

theorem T_part69 (h4' : k0_cond4 i = 1#1)  (v867 : FVec F S16 .f32) (v869 : FVec F S16 .f32) :
    T d (cV i) (jV i) R ⟨a0, a1, a2, a3, st, mf, m4, mt, rd, sa, ob⟩ (k0_part69 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 v867 v869)
      (fun r σ' => r = ⟨k0_pay375 v867 (seg mt 480) (seg mt 512) (seg mt 544) (seg mt 576) (seg mt 608) (seg mt 640) (seg mt 672), k0_pay376 v869 (seg mt 496) (seg mt 528) (seg mt 560) (seg mt 592) (seg mt 624) (seg mt 656) (seg mt 688), (seg mt 720), k0_pay377 (seg mt 704)⟩ ∧ σ' = ⟨a0, a1, a2, a3, st, mf, m4, mt, rd, sa, ob⟩) := by
  rw [k0_part69_eq_skeleton]
  unfold k0_part69_skel
  refine Tseg_mt rfl ?_
  refine Tseg_mt rfl ?_
  refine Tseg_mt rfl ?_
  refine Tseg_mt rfl ?_
  refine Tseg_mt rfl ?_
  refine Tseg_mt rfl ?_
  refine Tseg_mt rfl ?_
  refine Tseg_mt rfl ?_
  refine Tseg_mt rfl ?_
  refine Tseg_mt rfl ?_
  refine Tseg_mt rfl ?_
  refine Tseg_mt rfl ?_
  refine Tseg_mt rfl ?_
  refine Tseg_mt rfl ?_
  refine Tseg_mt rfl ?_
  refine Tseg_mt rfl ?_
  exact T_pure ⟨rfl, rfl⟩

theorem T_part70 (h4' : k0_cond4 i = 1#1)  (v909 : FVec F S16 .f32) (v911 : FVec F S16 .f32) (v913 : Vec F S16 .f32) (v914 : FVec F S16 .f32) :
    T d (cV i) (jV i) R ⟨a0, a1, a2, a3, st, mf, m4, mt, rd, sa, ob⟩ (k0_part70 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 v909 v911 v913 v914)
      (fun r σ' => r = ⟨k0_pay378 v909 v914 (seg mt 736) (seg mt 768) (seg mt 800) (seg mt 832) (seg mt 864) (seg mt 896) (seg mt 928), k0_pay379 v911 v913 (seg mt 752) (seg mt 784) (seg mt 816) (seg mt 848) (seg mt 880) (seg mt 912) (seg mt 944)⟩ ∧ σ' = ⟨a0, a1, a2, a3, st, mf, m4, mt, rd, sa, ob⟩) := by
  rw [k0_part70_eq_skeleton]
  unfold k0_part70_skel
  refine Tseg_mt rfl ?_
  refine Tseg_mt rfl ?_
  refine Tseg_mt rfl ?_
  refine Tseg_mt rfl ?_
  refine Tseg_mt rfl ?_
  refine Tseg_mt rfl ?_
  refine Tseg_mt rfl ?_
  refine Tseg_mt rfl ?_
  refine Tseg_mt rfl ?_
  refine Tseg_mt rfl ?_
  refine Tseg_mt rfl ?_
  refine Tseg_mt rfl ?_
  refine Tseg_mt rfl ?_
  refine Tseg_mt rfl ?_
  exact T_pure ⟨rfl, rfl⟩

theorem T_part71 (h4' : k0_cond4 i = 1#1)  (v957 : FVec F S16 .f32) (v959 : FVec F S16 .f32) :
    T d (cV i) (jV i) R ⟨a0, a1, a2, a3, st, mf, m4, mt, rd, sa, ob⟩ (k0_part71 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 v957 v959)
      (fun r σ' => r = ⟨k0_pay380 v959 (seg mt 976) (seg mt 1008), k0_pay381 v957 (seg mt 960) (seg mt 992), k0_pay382 v957 (seg mt 960) (seg mt 992)⟩ ∧ σ' = ⟨a0, a1, a2, a3, st, mf, m4, mt, rd, sa, ob⟩) := by
  rw [k0_part71_eq_skeleton]
  unfold k0_part71_skel
  refine Tseg_mt rfl ?_
  refine Tseg_mt rfl ?_
  refine Tseg_mt rfl ?_
  refine Tseg_mt rfl ?_
  exact T_pure ⟨rfl, rfl⟩

theorem T_part72 (h4' : k0_cond4 i = 1#1)  (v971 : FVec F S16 .f32) (v974 : FVec F S16 .f32) (v1015 : F .f32) :
    T d (cV i) (jV i) R ⟨a0, a1, a2, a3, st, mf, m4, mt, rd, sa, ob⟩ (k0_part72 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 v971 v974 v1015)
      (fun r σ' => r = k0_pay383 v971 v974 v1015 ∧ σ' = ⟨a0, a1, a2, a3, st, mf, m4, mt, rd, sa, ob⟩) := by
  rw [k0_part72_eq_skeleton]
  unfold k0_part72_skel
  exact T_pure ⟨rfl, rfl⟩

end Tile

end Cert.Proof.Embed
-- ==== Proof.Chunks.lean ====
/-
  The two loops over a tile's sixteen chunks: while a chunk is worked on, the next one is on its way into the other slot.
-/
module

public import proofs.«01_k».proof.Proof.Copies
public import proofs.«01_k».proof.Proof.Final

@[expose] public section

set_option maxRecDepth 16384

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 3) (Elt F) ℕ UU ℕ

/-! ## What the two passes compute -/

/-- Accumulators put in place. -/
abbrev setA (σ : St F) (a b c e : Vec F S4352 .f32) : St F := { σ with a0 := a, a1 := b, a2 := c, a3 := e }

/-- Chunk `t` in pass 1 and in pass 2. -/
def chk1 (X : Vec F S2x32x262144 .f32) (I : S2x262144.Idx → BitVec 32) (c : Fin 2) (s t : ℕ) (σ : St F) : St F :=
  iter (fun g => grp1 (idsOf I c s t) (xsOf X c s t) (16 * g)) 64 σ
def chk2 (X : Vec F S2x32x262144 .f32) (I : S2x262144.Idx → BitVec 32) (c : Fin 2) (s t : ℕ) (σ : St F) : St F :=
  iter (fun g => grp2 (idsOf I c s t) (xsOf X c s t) (16 * g)) 64 σ

theorem iter_succ {α : Type} (f : ℕ → α → α) (n : ℕ) (a : α) : iter f (n + 1) a = f n (iter f n a) := rfl
theorem chk1_def (X : Vec F S2x32x262144 .f32) (I : S2x262144.Idx → BitVec 32) (c : Fin 2) (s t : ℕ) (σ : St F) :
    chk1 X I c s t σ = iter (fun g => grp1 (idsOf I c s t) (xsOf X c s t) (16 * g)) 64 σ := by unfold chk1; with_reducible rfl
theorem chk1_succ (X : Vec F S2x32x262144 .f32) (I : S2x262144.Idx → BitVec 32) (c : Fin 2) (s t : ℕ) (σ : St F) :
    iter (chk1 X I c s) (t + 1) σ = iter (fun g => grp1 (idsOf I c s t) (xsOf X c s t) (16 * g)) 64 (iter (chk1 X I c s) t σ) :=
  (iter_succ (chk1 X I c s) t σ).trans (chk1_def X I c s t _)
theorem chk2_def (X : Vec F S2x32x262144 .f32) (I : S2x262144.Idx → BitVec 32) (c : Fin 2) (s t : ℕ) (σ : St F) :
    chk2 X I c s t σ = iter (fun g => grp2 (idsOf I c s t) (xsOf X c s t) (16 * g)) 64 σ := by unfold chk2; with_reducible rfl
theorem chk2_succ (X : Vec F S2x32x262144 .f32) (I : S2x262144.Idx → BitVec 32) (c : Fin 2) (s t : ℕ) (σ : St F) :
    iter (chk2 X I c s) (t + 1) σ = iter (fun g => grp2 (idsOf I c s t) (xsOf X c s t) (16 * g)) 64 (iter (chk2 X I c s) t σ) :=
  (iter_succ (chk2 X I c s) t σ).trans (chk2_def X I c s t _)

theorem idsOf_lt {I : S2x262144.Idx → BitVec 32} (hI : ∀ j, (I j).toNat < 32) (c : Fin 2) (s t n : ℕ) : (idsOf I c s t n).toNat < 32 := hI _

section Loop

variable {d : Dev nD} {i : grid0.Coords} {X : Vec F S2x32x262144 .f32} {I : S2x262144.Idx → BitVec 32} {q : PosShare TreeShare}
  {h2 : (Memref.whole main_v0_scv).IsWhole}
  {h3 : (Memref.whole main_v1_scv).IsWhole}
  {h4 : (Memref.whole main_v2_scv).IsWhole}
  {h5 : (Memref.whole cc0_scratch0).IsWhole}
  {h6 : (Memref.whole cc0_scratch1).IsWhole}
  {h7 : (Memref.whole cc0_scratch2).IsWhole}
  {h8 : (Memref.whole cc0_scratch3).IsWhole}
  {h9 : (Memref.whole cc0_scratch4).IsWhole}
  {h10 : (Memref.whole cc0_scratch5).IsWhole}
  {h11 : (Memref.whole cc0_scratch6).IsWhole}
  {h12 : (Memref.whole cc0_scratch7).IsWhole}
  {h13 : (Memref.whole cc0_scratch8).IsWhole}
  {h14 : (Memref.whole cc0_scratch9).IsWhole}
  {h15 : (Memref.whole cc0_scratch10).IsWhole}
  {h16 : (Memref.whole cc0_scratch11).IsWhole}
  {h17 : (Memref.whole cc0_scratch12).IsWhole}
  {h20 : (Memref.whole cc0_scratch15).IsWhole}
  {h21 : (Memref.whole cc0_scratch16).IsWhole}

/-- The share of pixels and ids that the fetches into a slot read. -/
def qs (q : PosShare TreeShare) (s : ℕ) : PosShare TreeShare := if s = 0 then q.left else q.right

/-- Before chunk `n`: it is on its way into its slot, the other slot is idle. -/
def chInv (d : Dev nD) (i : grid0.Coords) (q : PosShare TreeShare) (X : Vec F S2x32x262144 .f32) (I : S2x262144.Idx → BitVec 32)
    (W₀ : Waits sig (HIx 3)) (O : CellTallies nD τ sig (HIx 3)) (step : ℕ → St F → St F) (σ : St F) (n : ℕ) : sProp 𝕄 :=
  iprop((if n < 16 then fly d i (qs q (n % 2)) X I (n % 2) n else idle d i (qs q (n % 2)) X I (n % 2)) ∗ idle d i (qs q ((n + 1) % 2)) X I ((n + 1) % 2)
    ∗ bufs d (cV i) (jV i) (iter step n σ) ∗ ow d (cV i) (jV i) W₀ O ∗ Transfers.MayWaits (thr d i) none O)

theorem k0_off4_s : ∀ t : Fin k0_t2_loop.trips, k0_off4 t = ![(t.val + 1) % 2, 0, 0] := by decide +kernel
theorem k0_off6_s : ∀ t : Fin k0_t2_loop.trips, k0_off6 t = ![(t.val + 1) % 2] := by decide +kernel
theorem k0_off7_s : ∀ t : Fin k0_t2_loop.trips, k0_off7 t = ![(t.val + 1) % 2, 0] := by decide +kernel
theorem k0_off9_s : ∀ t : Fin k0_t2_loop.trips, k0_off9 t = ![t.val % 2, 0, 0] := by decide +kernel
theorem k0_off11_s : ∀ t : Fin k0_t2_loop.trips, k0_off11 t = ![t.val % 2] := by decide +kernel
theorem k0_off12_s : ∀ t : Fin k0_t2_loop.trips, k0_off12 t = ![t.val % 2, 0] := by decide +kernel
theorem k0_cond1_s : ∀ t : Fin k0_t2_loop.trips, k0_cond1 t = 1#1 ↔ t.val + 1 < 16 := by decide +kernel
theorem t2_trips : k0_t2_loop.trips = 16 := by decide +kernel

set_option maxHeartbeats 1000000 in
theorem W_t2_step (hI : ∀ j, (I j).toNat < 32) (t : Fin k0_t2_loop.trips) (u : BitVec 32) (σ : St F) {W₀ : Waits sig (HIx 3)} {O : CellTallies nD τ sig (HIx 3)} {arg1 v0 : BitVec 32} {c16 c17 c18 : BitVec 32} :
    chInv d i q X I W₀ O (chk1 X I (i 0) (i 1).val) σ t.val ⊢ wp frame (wpE (defs₀ (F := F)) 𝒱₀ (thr d i) none) Set.univ
      (k0_t2_body i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 arg1 v0 k0_pay386 k0_pay387 io k0_pay388 c16 c17 c18 t u) (fun _ => chInv d i q X I W₀ O (chk1 X I (i 0) (i 1).val) σ (t.val + 1)) := by
  have ht : t.val < 16 := lt_of_lt_of_eq t.isLt t2_trips
  have hf : chInv d i q X I W₀ O (chk1 X I (i 0) (i 1).val) σ t.val = (iprop(fly d i (qs q (t.val % 2)) X I (t.val % 2) t.val ∗ idle d i (qs q ((t.val + 1) % 2)) X I ((t.val + 1) % 2)
    ∗ bufs d (cV i) (jV i) (iter (chk1 X I (i 0) (i 1).val) t.val σ) ∗ ow d (cV i) (jV i) W₀ O ∗ Transfers.MayWaits (thr d i) none O) : sProp 𝕄) := by
    unfold chInv; rw [if_pos ht]
  rw [hf]
  have hT := T_t3 (d := d) (i := i) (xs := xsOf X (i 0) (i 1).val t.val) (h2 := h2) (h3 := h3) (h4 := h4) (h5 := h5) (h6 := h6) (h7 := h7) (h8 := h8) (h9 := h9) (h10 := h10) (h11 := h11)
    (h12 := h12) (h13 := h13) (h14 := h14) (h15 := h15) (h16 := h16) (h17 := h17) (h20 := h20) (h21 := h21) t (idsOf_lt hI (i 0) (i 1).val t.val)
    (hok := k0_t3_ok) (arg1 := arg1) (v0 := v0) (v68 := Scalar.andi (Scf.iv c17 c18 t) 1#32) (v1 := k0_pay386) (c16 := c16) (c17 := c17) (c18 := c18) (iter (chk1 X I (i 0) (i 1).val) t.val σ)
  unfold T at hT
  unfold k0_t2_body
  dsimp only
  split
  · rename_i h
    have h1 := (k0_cond1_s t).mp h
    iintro ⟨Hf, Hi, HB, HO, #HM⟩
    iapply (W_fetch (t := t.val + 1) (Nat.mod_lt _ (by decide)) (k0_off6_s t) (k0_off6_s t) (k0_off4_s t) (by rw [k0_off5_eq]; simp only [Nat.mul_add, Nat.mul_one, Nat.add_assoc])
      (k0_off7_s t) (by rw [k0_off8_eq]; simp only [Nat.mul_add, Nat.mul_one, Nat.add_assoc])) $$ Hi
    iintro Hg
    iapply (W_wait (Nat.mod_lt _ (by decide)) (k0_off11_s t) (k0_off11_s t)) $$ [Hf HO]
    · isplitl [Hf]; · iexact Hf
      isplitl [HO]; · iexact HO
      iexact HM
    iintro ⟨Hc, Hr, HO⟩
    rw [wp_bind]
    iapply (wp_wand_r frame (wpE (defs₀ (F := F)) 𝒱₀ (thr d i) none) Set.univ)
    isplitl [Hc HB]
    · iapply hT
      isplitl [Hc] <;> iassumption
    iintro %_ ⟨%σ', %hσ, Hc, HB⟩
    have hσ' := hσ.trans (chk1_succ X I (i 0) (i 1).val t.val σ).symm
    subst hσ'
    rw [wp_pure]
    imodintro
    unfold chInv
    rw [if_pos h1, show (t.val + 1 + 1) % 2 = t.val % 2 by omega]
    isplitl [Hg]; · iexact Hg
    isplitl [Hc Hr]
    · iapply got_idle
      isplitl [Hc] <;> iassumption
    isplitl [HB]; · iexact HB
    isplitl [HO]; · iexact HO
    iexact HM
  · rename_i h
    have h1 : ¬ t.val + 1 < 16 := fun hh => h ((k0_cond1_s t).mpr hh)
    iintro ⟨Hf, Hi, HB, HO, #HM⟩
    iapply (W_wait (Nat.mod_lt _ (by decide)) (k0_off11_s t) (k0_off11_s t)) $$ [Hf HO]
    · isplitl [Hf]; · iexact Hf
      isplitl [HO]; · iexact HO
      iexact HM
    iintro ⟨Hc, Hr, HO⟩
    rw [wp_bind]
    iapply (wp_wand_r frame (wpE (defs₀ (F := F)) 𝒱₀ (thr d i) none) Set.univ)
    isplitl [Hc HB]
    · iapply hT
      isplitl [Hc] <;> iassumption
    iintro %_ ⟨%σ', %hσ, Hc, HB⟩
    have hσ' := hσ.trans (chk1_succ X I (i 0) (i 1).val t.val σ).symm
    subst hσ'
    rw [wp_pure]
    imodintro
    unfold chInv
    rw [if_neg h1, show (t.val + 1 + 1) % 2 = t.val % 2 by omega]
    isplitl [Hi]; · iexact Hi
    isplitl [Hc Hr]
    · iapply got_idle
      isplitl [Hc] <;> iassumption
    isplitl [HB]; · iexact HB
    isplitl [HO]; · iexact HO
    iexact HM

theorem k0_off67_s : ∀ t : Fin k0_t7_loop.trips, k0_off67 t = ![(t.val + 1) % 2, 0, 0] := by decide +kernel
theorem k0_off69_s : ∀ t : Fin k0_t7_loop.trips, k0_off69 t = ![(t.val + 1) % 2] := by decide +kernel
theorem k0_off70_s : ∀ t : Fin k0_t7_loop.trips, k0_off70 t = ![(t.val + 1) % 2, 0] := by decide +kernel
theorem k0_off72_s : ∀ t : Fin k0_t7_loop.trips, k0_off72 t = ![t.val % 2, 0, 0] := by decide +kernel
theorem k0_off74_s : ∀ t : Fin k0_t7_loop.trips, k0_off74 t = ![t.val % 2] := by decide +kernel
theorem k0_off75_s : ∀ t : Fin k0_t7_loop.trips, k0_off75 t = ![t.val % 2, 0] := by decide +kernel
theorem k0_cond3_s : ∀ t : Fin k0_t7_loop.trips, k0_cond3 t = 1#1 ↔ t.val + 1 < 16 := by decide +kernel
theorem t7_trips : k0_t7_loop.trips = 16 := by decide +kernel

set_option maxHeartbeats 1000000 in
theorem W_t7_step (hI : ∀ j, (I j).toNat < 32) (t : Fin k0_t7_loop.trips) (u : BitVec 32) (σ : St F) {W₀ : Waits sig (HIx 3)} {O : CellTallies nD τ sig (HIx 3)} :
    chInv d i q X I W₀ O (chk2 X I (i 0) (i 1).val) σ t.val ⊢ wp frame (wpE (defs₀ (F := F)) 𝒱₀ (thr d i) none) Set.univ
      (k0_t7_body i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 k0_pay386 k0_pay388 t u) (fun _ => chInv d i q X I W₀ O (chk2 X I (i 0) (i 1).val) σ (t.val + 1)) := by
  have ht : t.val < 16 := lt_of_lt_of_eq t.isLt t7_trips
  have hf : chInv d i q X I W₀ O (chk2 X I (i 0) (i 1).val) σ t.val = (iprop(fly d i (qs q (t.val % 2)) X I (t.val % 2) t.val ∗ idle d i (qs q ((t.val + 1) % 2)) X I ((t.val + 1) % 2)
    ∗ bufs d (cV i) (jV i) (iter (chk2 X I (i 0) (i 1).val) t.val σ) ∗ ow d (cV i) (jV i) W₀ O ∗ Transfers.MayWaits (thr d i) none O) : sProp 𝕄) := by
    unfold chInv; rw [if_pos ht]
  rw [hf]
  have hT := T_t8 (d := d) (i := i) (xs := xsOf X (i 0) (i 1).val t.val) (h2 := h2) (h3 := h3) (h4 := h4) (h5 := h5) (h6 := h6) (h7 := h7) (h8 := h8) (h9 := h9) (h10 := h10) (h11 := h11)
    (h12 := h12) (h13 := h13) (h14 := h14) (h15 := h15) (h16 := h16) (h17 := h17) (h20 := h20) (h21 := h21) t (idsOf_lt hI (i 0) (i 1).val t.val)
    (hok := k0_t8_ok) (v68 := Scalar.andi (Scf.iv 0#32 1#32 t) 1#32) (iter (chk2 X I (i 0) (i 1).val) t.val σ)
  unfold T at hT
  unfold k0_t7_body
  dsimp only
  split
  · rename_i h
    have h1 := (k0_cond3_s t).mp h
    iintro ⟨Hf, Hi, HB, HO, #HM⟩
    iapply (W_fetch (t := t.val + 1) (Nat.mod_lt _ (by decide)) (k0_off69_s t) (k0_off69_s t) (k0_off67_s t) (by rw [k0_off68_eq]; simp only [Nat.mul_add, Nat.mul_one, Nat.add_assoc])
      (k0_off70_s t) (by rw [k0_off71_eq]; simp only [Nat.mul_add, Nat.mul_one, Nat.add_assoc])) $$ Hi
    iintro Hg
    iapply (W_wait (Nat.mod_lt _ (by decide)) (k0_off74_s t) (k0_off74_s t)) $$ [Hf HO]
    · isplitl [Hf]; · iexact Hf
      isplitl [HO]; · iexact HO
      iexact HM
    iintro ⟨Hc, Hr, HO⟩
    rw [wp_bind]
    iapply (wp_wand_r frame (wpE (defs₀ (F := F)) 𝒱₀ (thr d i) none) Set.univ)
    isplitl [Hc HB]
    · iapply hT
      isplitl [Hc] <;> iassumption
    iintro %_ ⟨%σ', %hσ, Hc, HB⟩
    have hσ' := hσ.trans (chk2_succ X I (i 0) (i 1).val t.val σ).symm
    subst hσ'
    rw [wp_pure]
    imodintro
    unfold chInv
    rw [if_pos h1, show (t.val + 1 + 1) % 2 = t.val % 2 by omega]
    isplitl [Hg]; · iexact Hg
    isplitl [Hc Hr]
    · iapply got_idle
      isplitl [Hc] <;> iassumption
    isplitl [HB]; · iexact HB
    isplitl [HO]; · iexact HO
    iexact HM
  · rename_i h
    have h1 : ¬ t.val + 1 < 16 := fun hh => h ((k0_cond3_s t).mpr hh)
    iintro ⟨Hf, Hi, HB, HO, #HM⟩
    iapply (W_wait (Nat.mod_lt _ (by decide)) (k0_off74_s t) (k0_off74_s t)) $$ [Hf HO]
    · isplitl [Hf]; · iexact Hf
      isplitl [HO]; · iexact HO
      iexact HM
    iintro ⟨Hc, Hr, HO⟩
    rw [wp_bind]
    iapply (wp_wand_r frame (wpE (defs₀ (F := F)) 𝒱₀ (thr d i) none) Set.univ)
    isplitl [Hc HB]
    · iapply hT
      isplitl [Hc] <;> iassumption
    iintro %_ ⟨%σ', %hσ, Hc, HB⟩
    have hσ' := hσ.trans (chk2_succ X I (i 0) (i 1).val t.val σ).symm
    subst hσ'
    rw [wp_pure]
    imodintro
    unfold chInv
    rw [if_neg h1, show (t.val + 1 + 1) % 2 = t.val % 2 by omega]
    isplitl [Hi]; · iexact Hi
    isplitl [Hc Hr]
    · iapply got_idle
      isplitl [Hc] <;> iassumption
    isplitl [HB]; · iexact HB
    isplitl [HO]; · iexact HO
    iexact HM

end Loop

end Cert.Proof.Embed
-- ==== Proof.Rendez.lean ====
/-
  The three meetings of a SparseCore's sixteen tiles. Every tile signals every tile's cell once per meeting and waits for sixteen
  units of its own, so a tile may leave a meeting on units of a later one; a unit of a later meeting shows that its sender left the
  earlier one, hence that all had arrived there. A cell has one round of 48 duties; what is handed over lies in invariants that
  the arrivals record, each against a token of its receiver.
-/
module

public import proofs.«01_k».proof.Proof.Slots
public import Idealize.ShloMosaic.Lib.SparseCore.Ops

@[expose] public section

set_option maxRecDepth 16384

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 3) (Elt F) ℕ UU ℕ

section Esc

variable {R τk : sProp (MT nD τ sig (HIx 3) (Elt F) ℕ UU ℕ)} {g : GSem nD τ sig}

/-- A place where `R` is left for whoever holds the token: empty, or filled and perhaps taken from; the standing of `g`, a name
    in the ghost state and no more, says which. -/
def escB (g : GSem nD τ sig) (R τk : sProp (MT nD τ sig (HIx 3) (Elt F) ℕ UU ℕ)) : sProp 𝕄 :=
  iprop((roundAuth EB g 0 ∅ 0 ∗ atPos EB g 0 ∅ 0) ∨ (roundAuth EB g 1 ∅ 0 ∗ (R ∨ τk)))
def Esc (g : GSem nD τ sig) (R τk : sProp (MT nD τ sig (HIx 3) (Elt F) ℕ UU ℕ)) : sProp 𝕄 := iprop(∃ κ : ℕ, inv κ (escB g R τk))

instance Esc_persistent : BI.Persistent (Esc g R τk) := by unfold Esc; infer_instance

theorem Esc_alloc [BI.Storable (upEmb : UEmb _ 𝕄) R] [BI.Storable (upEmb : UEmb _ 𝕄) τk] :
    iprop(roundAuth EB g 0 ∅ 0 ∗ atPos EB g 0 ∅ 0) ⊢ iprop(|={Set.univ}=> Esc g R τk) := by
  haveI : BI.Storable (upEmb : UEmb _ 𝕄) (escB g R τk) := by unfold escB; infer_instance
  unfold Esc
  iintro H
  iapply (inv_alloc (P := escB g R τk))
  unfold escB
  ileft; iexact H

theorem Esc_put : iprop(Esc g R τk ∗ R) ⊢ iprop(|={Set.univ}=> reached EB g 1) := by
  unfold Esc
  iintro ⟨⟨%κ, #Hi⟩, HR⟩
  imod (inv_acc (Set.mem_univ κ)) $$ Hi with ⟨Hb, Hc⟩
  unfold escB
  icases Hb with (⟨Ha, Hp⟩ | ⟨Ha, Ht⟩)
  · imod (roundAuth_atPos_move EB 1 ∅ 0 (Nat.zero_le 1)) $$ [Ha Hp] with ⟨Ha, -⟩
    · isplitl [Ha] <;> iassumption
    imod (roundAuth_witness EB) $$ Ha with ⟨Ha, #Hr⟩
    ihave Hc := Hc $$ [Ha HR]
    · iright
      isplitl [Ha]; · iexact Ha
      ileft; iexact HR
    imod Hc
    imodintro
    iexact Hr
  · imod (roundAuth_witness EB) $$ Ha with ⟨Ha, #Hr⟩
    ihave Hc := Hc $$ [Ha Ht]
    · iright
      isplitl [Ha] <;> iassumption
    imod Hc
    imodintro
    iexact Hr

theorem Esc_take (h : iprop(τk ∗ τk) ⊢ (False : sProp 𝕄)) : iprop(Esc g R τk ∗ reached EB g 1 ∗ τk) ⊢ iprop(|={Set.univ}=> R) := by
  unfold Esc
  iintro ⟨⟨%κ, #Hi⟩, Hr, Ht⟩
  imod (inv_acc (Set.mem_univ κ)) $$ Hi with ⟨Hb, Hc⟩
  unfold escB
  icases Hb with (⟨Ha, Hp⟩ | ⟨Ha, (HR | Ht')⟩)
  · ihave %h := (roundAuth_reached_le EB) $$ [Ha Hr]
    · isplitl [Ha] <;> iassumption
    exact absurd h (by decide)
  · ihave Hc := Hc $$ [Ha Ht]
    · iright
      isplitl [Ha]; · iexact Ha
      iright; iexact Ht
    imod Hc
    imodintro
    iexact HR
  · iexfalso; iapply h; isplitl [Ht] <;> iassumption

end Esc

/-! ## What the meetings hand over -/

/-- What the two passes leave of a SparseCore: every tile's sums of pass 1, of pass 2, the means. -/
structure BV (F : FTy → Type) where
  t1 : Dev nD → Fin τ.nSC → Vec F S16x1088 .f32
  t2 : Dev nD → Fin τ.nSC → Vec F S16x1088 .f32
  mf : Dev nD → Fin τ.nSC → Vec F S1024 .f32

abbrev shLoc (d : Dev nD) (c : Fin τ.nSC) : Loc nD τ sig := (d, ⟨.shared, ⟨0, by decide⟩, c⟩)
abbrev smLoc (d : Dev nD) (c : Fin τ.nSC) : Loc nD τ sig := (d, ⟨.shared, ⟨1, by decide⟩, c⟩)

/-- Row `n` of the SparseCore's shared rows; tile `n`'s share of its means. -/
def rowS (n : ℕ) : Finset S16x1088.Idx := Finset.univ.filter fun p => (p 0).val = n
def q16 (j : Fin 16) : PosShare TreeShare := Transfers.dealOf fullShare (Finset.univ : Finset (Fin 16)) j
abbrev rowP (d : Dev nD) (c : Fin τ.nSC) (n : ℕ) (f : Vec F S16x1088 .f32) : sProp 𝕄 := shLoc d c ↦[rowS n]{fullShare} (f : Buf (Elt F) (shLoc d c))
abbrev meanP (d : Dev nD) (c : Fin τ.nSC) (j : Fin 16) (f : Vec F S1024 .f32) : sProp 𝕄 := smLoc d c ↦{q16 j} (f : Buf (Elt F) (smLoc d c))

abbrev bcell (d : Dev nD) (c : Fin τ.nSC) (j : Fin 16) : GSem nD τ sig := (V d c (j.castLE hsub0), .reg sc_bar0)
abbrev etok (d : Dev nD) (c : Fin τ.nSC) (j : Fin 16) (r : ℕ) : sProp 𝕄 := dutyTok EB (bcell d c j) 1 r

/-- The name of the place that tile `j` has to do with at meeting `e`. -/
abbrev ecell (d : Dev nD) (c : Fin τ.nSC) (j : Fin 16) (e : Fin 3) : GSem nD τ sig := (V d c (j.castLE hsub0), .dma (e.castLE (by decide)))

/-- Tile `j` has come to the first meeting, its row left for tile 0. -/
def A0 (d : Dev nD) (c : Fin τ.nSC) (j : Fin 16) : sProp 𝕄 := reached EB (ecell d c j 0) 1
def C0 (d : Dev nD) (c : Fin τ.nSC) : sProp 𝕄 := bigSep Finset.univ fun j : Fin 16 => A0 (F := F) d c j
/-- Tile 0 has left every tile its row and a share of the means. -/
def M1 (d : Dev nD) (c : Fin τ.nSC) : sProp 𝕄 := bigSep Finset.univ fun j : Fin 16 => reached EB (ecell d c j 1) 1
def A1 (d : Dev nD) (c : Fin τ.nSC) (j : Fin 16) : sProp 𝕄 := iprop(C0 (F := F) d c ∗ if j = 0 then M1 (F := F) d c else emp)
def C1 (d : Dev nD) (c : Fin τ.nSC) : sProp 𝕄 := bigSep Finset.univ fun j : Fin 16 => A1 (F := F) d c j
/-- Tile `j` has come to the last, its row and its share of the means left for tile 0. -/
def A2 (d : Dev nD) (c : Fin τ.nSC) (j : Fin 16) : sProp 𝕄 := iprop(C1 (F := F) d c ∗ reached EB (ecell d c j 2) 1)
def C2 (d : Dev nD) (c : Fin τ.nSC) : sProp 𝕄 := bigSep Finset.univ fun j : Fin 16 => A2 (F := F) d c j

/-- The three places of tile `j`. -/
def escs (v : BV F) (d : Dev nD) (c : Fin τ.nSC) (j : Fin 16) : sProp 𝕄 :=
  iprop(Esc (ecell d c j 0) (rowP d c j.val (v.t1 d c)) (etok d c j 0)
    ∗ Esc (ecell d c j 1) iprop(rowP d c j.val (v.t1 d c) ∗ meanP d c j (v.mf d c)) (etok d c j 1)
    ∗ Esc (ecell d c j 2) iprop(rowP d c j.val (v.t2 d c) ∗ meanP d c j (v.mf d c)) (etok d c j 2))
instance escs_p (v : BV F) (d : Dev nD) (c : Fin τ.nSC) (j : Fin 16) : BI.Persistent (escs v d c j) := by unfold escs; infer_instance

def Ar (d : Dev nD) (c : Fin τ.nSC) (r : ℕ) (j : Fin 16) : sProp 𝕄 := match r with
  | 0 => A0 (F := F) d c j
  | 1 => A1 (F := F) d c j
  | _ => A2 (F := F) d c j
def Cr (d : Dev nD) (c : Fin τ.nSC) (r : ℕ) : sProp 𝕄 := match r with
  | 0 => C0 (F := F) d c
  | 1 => C1 (F := F) d c
  | _ => C2 (F := F) d c

section
variable (d : Dev nD) (c : Fin τ.nSC) (j : Fin 16) (r : ℕ)
instance A0_p : BI.Persistent (A0 (F := F) d c j) := by unfold A0; infer_instance
instance A0_s : BI.Storable (upEmb : UEmb _ 𝕄) (A0 (F := F) d c j) := by unfold A0; infer_instance
instance C0_p : BI.Persistent (C0 (F := F) d c) := by unfold C0; infer_instance
instance C0_s : BI.Storable (upEmb : UEmb _ 𝕄) (C0 (F := F) d c) := by unfold C0; infer_instance
instance M1_p : BI.Persistent (M1 (F := F) d c) := by unfold M1; infer_instance
instance M1_s : BI.Storable (upEmb : UEmb _ 𝕄) (M1 (F := F) d c) := by unfold M1; infer_instance
instance A1_p : BI.Persistent (A1 (F := F) d c j) := by unfold A1; split <;> infer_instance
instance A1_s : BI.Storable (upEmb : UEmb _ 𝕄) (A1 (F := F) d c j) := by unfold A1; split <;> infer_instance
instance C1_p : BI.Persistent (C1 (F := F) d c) := by unfold C1; infer_instance
instance C1_s : BI.Storable (upEmb : UEmb _ 𝕄) (C1 (F := F) d c) := by unfold C1; infer_instance
instance A2_p : BI.Persistent (A2 (F := F) d c j) := by unfold A2; infer_instance
instance A2_s : BI.Storable (upEmb : UEmb _ 𝕄) (A2 (F := F) d c j) := by unfold A2; infer_instance
instance C2_p : BI.Persistent (C2 (F := F) d c) := by unfold C2; infer_instance
instance Ar_p : BI.Persistent (Ar (F := F) d c r j) := by unfold Ar; split <;> infer_instance
instance Ar_s : BI.Storable (upEmb : UEmb _ 𝕄) (Ar (F := F) d c r j) := by unfold Ar; split <;> infer_instance
instance Cr_p : BI.Persistent (Cr (F := F) d c r) := by unfold Cr; split <;> infer_instance
end

/-! ## The cells' schedule -/

def isBar (g : GSem nD τ sig) : Bool :=
  match g with
  | ((_, .scVector _ _), sm) => decide (sm = .reg sc_bar0)
  | _ => false

@[simp] theorem isBar_bcell (d : Dev nD) (c : Fin τ.nSC) (j : Fin 16) : isBar (bcell d c j) = true := by simp [isBar]

/-- Duty `n`: the arrival of tile `n % 16` at meeting `n / 16`. -/
def bPay (g : GSem nD τ sig) (n : ℕ) : sProp 𝕄 :=
  match g with
  | ((d, .scVector c _), _) => Ar (F := F) d c (n / 16) ⟨n % 16, Nat.mod_lt _ (by decide)⟩
  | _ => iprop(emp)

def bRd : Rounds.Schedule (GSem nD τ sig) ℕ 𝕄 where
  duties g r := if isBar g ∧ r = 0 then Finset.range 48 else ∅
  amount _ _ _ := 1
  payload g _ n := bPay (F := F) g n
  amount_pos _ _ _ _ := Nat.one_pos

instance bRd_payload_storable (g : GSem nD τ sig) (r n : ℕ) : BI.Storable (upEmb : UEmb _ 𝕄) ((bRd (F := F)).payload g r n) := by
  show BI.Storable upEmb (bPay (F := F) g n)
  unfold bPay
  rcases g with ⟨⟨d, _ | c | ⟨c, i⟩⟩, sm⟩ <;> dsimp only <;> infer_instance

instance bRd_payload_persistent (g : GSem nD τ sig) (r n : ℕ) : BI.Persistent ((bRd (F := F)).payload g r n) := by
  show BI.Persistent (bPay (F := F) g n)
  unfold bPay
  rcases g with ⟨⟨d, _ | c | ⟨c, i⟩⟩, sm⟩ <;> dsimp only <;> infer_instance

theorem bRd_duties₀ (d : Dev nD) (c : Fin τ.nSC) (j : Fin 16) : (bRd (F := F)).duties (bcell d c j) 0 = Finset.range 48 := by
  simp [bRd, isBar]
theorem bRd_duties_succ (g : GSem nD τ sig) (r : ℕ) (hr : 1 ≤ r) : (bRd (F := F)).duties g r = ∅ :=
  if_neg fun h => absurd h.2 (Nat.ne_of_gt hr)
theorem bRd_expect (d : Dev nD) (c : Fin τ.nSC) (j : Fin 16) : (bRd (F := F)).expect (bcell d c j) 0 = 48 := by
  unfold Rounds.Schedule.expect; rw [bRd_duties₀]
  show ∑ x ∈ Finset.range 48, 1 = 48
  simp
theorem bRd_payload (d : Dev nD) (c : Fin τ.nSC) (j k : Fin 16) (r : ℕ) : (bRd (F := F)).payload (bcell d c j) 0 (16 * r + k.val) = Ar (F := F) d c r k := by
  show Ar (F := F) d c ((16 * r + k.val) / 16) ⟨(16 * r + k.val) % 16, _⟩ = _
  have h1 : (16 * r + k.val) / 16 = r := by have := k.isLt; omega
  have h2 : (⟨(16 * r + k.val) % 16, Nat.mod_lt _ (by decide)⟩ : Fin 16) = k := Fin.ext (by have := k.isLt; simp only; omega)
  rw [h1, h2]

/-! ## Sixteen units show that all had arrived -/

abbrev pay (d : Dev nD) (c : Fin τ.nSC) (n : ℕ) : sProp 𝕄 := Ar (F := F) d c (n / 16) ⟨n % 16, Nat.mod_lt _ (by decide)⟩

theorem A1_C0 (d : Dev nD) (c : Fin τ.nSC) (j : Fin 16) : A1 (F := F) d c j ⊢ C0 (F := F) d c := by unfold A1; iintro ⟨H, -⟩; iexact H
theorem A2_C1 (d : Dev nD) (c : Fin τ.nSC) (j : Fin 16) : A2 (F := F) d c j ⊢ C1 (F := F) d c := by unfold A2; iintro ⟨H, -⟩; iexact H
theorem C1_C0 (d : Dev nD) (c : Fin τ.nSC) : C1 (F := F) d c ⊢ C0 (F := F) d c := by
  have e : C1 (F := F) d c ⊢ A1 (F := F) d c 0 := BI.bigSep_elim (Finset.mem_univ (0 : Fin 16))
  exact e.trans (A1_C0 d c 0)

theorem knows0 (d : Dev nD) (c : Fin τ.nSC) {S : Finset ℕ} (hS : S ⊆ Finset.range 48) (h : 16 ≤ S.card) : (bigSep S fun n => pay (F := F) d c n) ⊢ C0 (F := F) d c := by
  by_cases hx : ∃ n ∈ S, 16 ≤ n
  · obtain ⟨n, hn, h16⟩ := hx
    have hlt := Finset.mem_range.mp (hS hn)
    have e : (bigSep S fun n => pay (F := F) d c n) ⊢ pay (F := F) d c n := BI.bigSep_elim hn
    refine e.trans ?_
    obtain h1 | h2 : n / 16 = 1 ∨ n / 16 = 2 := by omega
    · show Ar (F := F) d c (n / 16) _ ⊢ _
      rw [h1]; exact A1_C0 d c _
    · show Ar (F := F) d c (n / 16) _ ⊢ _
      rw [h2]; exact (A2_C1 d c _).trans (C1_C0 d c)
  · have e : S = Finset.range 16 := Finset.eq_of_subset_of_card_le (fun n hn => Finset.mem_range.mpr (by by_contra hc; exact hx ⟨n, hn, by omega⟩)) (by simpa using h)
    subst e
    unfold C0
    refine bigSep_intro_persistent fun j _ => ?_
    have e : (bigSep (Finset.range 16) fun n => pay (F := F) d c n) ⊢ pay (F := F) d c j.val := BI.bigSep_elim (Finset.mem_range.mpr j.isLt)
    refine e.trans ?_
    show Ar (F := F) d c (j.val / 16) ⟨j.val % 16, _⟩ ⊢ _
    have h1 : j.val / 16 = 0 := by have := j.isLt; omega
    have h2 : (⟨j.val % 16, Nat.mod_lt _ (by decide)⟩ : Fin 16) = j := Fin.ext (by have := j.isLt; simp only; omega)
    rw [h1, h2]; exact Entails.refl _

theorem knows1 (d : Dev nD) (c : Fin τ.nSC) {S : Finset ℕ} (hS : S ⊆ Finset.range 48) (h : 32 ≤ S.card) : (bigSep S fun n => pay (F := F) d c n) ⊢ C1 (F := F) d c := by
  by_cases hx : ∃ n ∈ S, 32 ≤ n
  · obtain ⟨n, hn, h16⟩ := hx
    have hlt := Finset.mem_range.mp (hS hn)
    have e : (bigSep S fun n => pay (F := F) d c n) ⊢ pay (F := F) d c n := BI.bigSep_elim hn
    refine e.trans ?_
    have h2 : n / 16 = 2 := by omega
    show Ar (F := F) d c (n / 16) _ ⊢ _
    rw [h2]; exact A2_C1 d c _
  · have e : S = Finset.range 32 := Finset.eq_of_subset_of_card_le (fun n hn => Finset.mem_range.mpr (by by_contra hc; exact hx ⟨n, hn, by omega⟩)) (by simpa using h)
    subst e
    unfold C1
    refine bigSep_intro_persistent fun j _ => ?_
    have e : (bigSep (Finset.range 32) fun n => pay (F := F) d c n) ⊢ pay (F := F) d c (16 + j.val) := BI.bigSep_elim (Finset.mem_range.mpr (by have := j.isLt; omega))
    refine e.trans ?_
    show Ar (F := F) d c ((16 + j.val) / 16) ⟨(16 + j.val) % 16, _⟩ ⊢ _
    have h1 : (16 + j.val) / 16 = 1 := by have := j.isLt; omega
    have h2 : (⟨(16 + j.val) % 16, Nat.mod_lt _ (by decide)⟩ : Fin 16) = j := Fin.ext (by have := j.isLt; simp only; omega)
    rw [h1, h2]; exact Entails.refl _

theorem knows2 (d : Dev nD) (c : Fin τ.nSC) : (bigSep (Finset.range 48) fun n => pay (F := F) d c n) ⊢ C2 (F := F) d c := by
  unfold C2
  refine bigSep_intro_persistent fun j _ => ?_
  have e : (bigSep (Finset.range 48) fun n => pay (F := F) d c n) ⊢ pay (F := F) d c (32 + j.val) := BI.bigSep_elim (Finset.mem_range.mpr (by have := j.isLt; omega))
  refine e.trans ?_
  show Ar (F := F) d c ((32 + j.val) / 16) ⟨(32 + j.val) % 16, _⟩ ⊢ _
  have h1 : (32 + j.val) / 16 = 2 := by have := j.isLt; omega
  have h2 : (⟨(32 + j.val) % 16, Nat.mod_lt _ (by decide)⟩ : Fin 16) = j := Fin.ext (by have := j.isLt; simp only; omega)
  rw [h1, h2]; exact Entails.refl _

/-! ## A meeting -/

/-- A tile's standing before meeting `r`: it has taken `16 r` units, the payloads of some duties with them. -/
def Pos (d : Dev nD) (c : Fin τ.nSC) (j : Fin 16) (r : ℕ) : sProp 𝕄 :=
  iprop(∃ S : Finset ℕ, ⌜S ⊆ Finset.range 48 ∧ 16 * r ≤ S.card⌝ ∗ atPos EB (bcell d c j) 0 S (16 * r) ∗ bigSep S fun n => pay (F := F) d c n)

/-- What a tile owes at meeting `r`. -/
def oxR (d : Dev nD) (c : Fin τ.nSC) (r : Fin 3) : CellTallies nD τ sig (HIx 3) := ∑ j : Fin 16, tallyAt (bcell d c j) (some r) 1

/-- Every cell's invariant, and that round 0 of it is reached. -/
def cells (κ : GSem nD τ sig → ℕ) (d : Dev nD) (c : Fin τ.nSC) : sProp 𝕄 :=
  bigSep Finset.univ fun j : Fin 16 => iprop(cellInv EB (bRd (F := F)) (κ (bcell d c j)) (bcell d c j) ∗ reached EB (bcell d c j) 0)
instance cells_p (κ : GSem nD τ sig → ℕ) (d : Dev nD) (c : Fin τ.nSC) : BI.Persistent (cells (F := F) κ d c) := by unfold cells; infer_instance
def toks (d : Dev nD) (c : Fin τ.nSC) (me : Fin 16) (r : ℕ) : sProp 𝕄 :=
  bigSep Finset.univ fun j : Fin 16 => dutyTok EB (bcell d c j) 0 (16 * r + me.val)

variable {α : Type}

theorem W_signals (κ : GSem nD τ sig → ℕ) (d : Dev nD) (c : Fin τ.nSC) (me : Fin 16) (r : Fin 3) (O : CellTallies nD τ sig (HIx 3)) (W : Waits sig (HIx 3))
    {k : PUnit → Prog (TpuEff nD τ sig (Elt F) Λ₀ (V d c (me.castLE hsub0)).2) α} {Φ : α → sProp 𝕄} :
    iprop(cells (F := F) κ d c ∗ owes (V d c (me.castLE hsub0)) (O + oxR d c r) W ∗ toks d c me r.val ∗ Ar (F := F) d c r.val me)
      ⊢ iprop((owes (V d c (me.castLE hsub0)) O W -∗ wp frame (wpE (defs₀ (F := F)) 𝒱₀ (V d c (me.castLE hsub0)) none) Set.univ (.op (TpuEff.semWait sc_bar0 16) k) Φ)
        -∗ wp frame (wpE (defs₀ (F := F)) 𝒱₀ (V d c (me.castLE hsub0)) none) Set.univ (SparseCore.subcoreBarrier sc_bar0 (grid0.bound 1) hsub0 >>= k) Φ) := by
  rw [SparseCore.subcoreBarrier_bind, show (wp frame (wpE (defs₀ (F := F)) 𝒱₀ (V d c (me.castLE hsub0)) none) Set.univ (.op .deviceId _) Φ : sProp 𝕄) = _ from wp_deviceId 𝒱₀ (V d c (me.castLE hsub0)) none Set.univ]
  have step : ∀ l : List (Fin 16), l.Nodup →
      iprop(cells (F := F) κ d c ∗ owes (V d c (me.castLE hsub0)) (O + ∑ j ∈ l.toFinset, tallyAt (bcell d c j) (some r) 1) W
          ∗ (bigSep l.toFinset fun j : Fin 16 => dutyTok EB (bcell d c j) 0 (16 * r.val + me.val)) ∗ Ar (F := F) d c r.val me
          ∗ (owes (V d c (me.castLE hsub0)) O W -∗ wp frame (wpE (defs₀ (F := F)) 𝒱₀ (V d c (me.castLE hsub0)) none) Set.univ (.op (TpuEff.semWait sc_bar0 16) k) Φ))
        ⊢ wp frame (wpE (defs₀ (F := F)) 𝒱₀ (V d c (me.castLE hsub0)) none) Set.univ
            (l.foldr (fun j r => .op (TpuEff.semSignal (d, .scVector c (j.castLE hsub0)) sc_bar0 1) fun _ => r) (.op (TpuEff.semWait sc_bar0 16) k)) Φ := by
    intro l hl
    induction l with
    | nil =>
      rw [List.toFinset_nil, List.foldr_nil, Finset.sum_empty, add_zero]
      iintro ⟨-, HO, -, -, Hk⟩; iapply Hk; iexact HO
    | cons j l ih =>
      have hj : j ∉ l.toFinset := fun h => (List.nodup_cons.mp hl).1 (List.mem_toFinset.mp h)
      rw [List.toFinset_cons, List.foldr_cons, Finset.sum_insert hj]
      have eb : (bigSep (insert j l.toFinset) fun j : Fin 16 => dutyTok EB (bcell d c j) 0 (16 * r.val + me.val)) = (iprop(dutyTok EB (bcell d c j) 0 (16 * r.val + me.val) ∗ bigSep l.toFinset fun j : Fin 16 => dutyTok EB (bcell d c j) 0 (16 * r.val + me.val)) : sProp 𝕄) :=
        BI.bigSep_insert hj
      rw [eb]
      have hc : cells (F := F) κ d c ⊢ iprop(cellInv EB (bRd (F := F)) (κ (bcell d c j)) (bcell d c j) ∗ reached EB (bcell d c j) 0) := by
        unfold cells; exact BI.bigSep_elim (Finset.mem_univ j)
      have hmem : 16 * r.val + me.val ∈ (bRd (F := F)).duties (bcell d c j) 0 := by
        rw [bRd_duties₀]; exact Finset.mem_range.mpr (by have := r.isLt; have := me.isLt; omega)
      iintro ⟨#Hc, HO, ⟨Ht, Hts⟩, #HA, Hk⟩
      ihave Hcj := hc $$ Hc
      icases Hcj with ⟨#Hi, #Hr⟩
      iapply (Rounds.wp_signal 𝒱₀ EB (bRd (F := F)) (V d c (me.castLE hsub0)) none (dst := V d c (j.castLE hsub0)) (sem := sc_bar0) (r := 0) (d := 16 * r.val + me.val) (k' := 1)
          (κ := κ (bcell d c j)) hmem rfl (some r)
          (O₀ := O + (tallyAt (bcell d c j) (some r) 1 + ∑ j ∈ l.toFinset, tallyAt (bcell d c j) (some r) 1))
          (O := O + ∑ j ∈ l.toFinset, tallyAt (bcell d c j) (some r) 1)
          (by rw [add_comm (tallyAt _ _ _) _, ← add_assoc]) (W := W)) $$ [HO Ht]
      · isplitr; · iexact Hi
        isplitl [HO]; · iexact HO
        isplitl [Ht]; · iexact Ht
        isplitr; · rw [bRd_payload]; iexact HA
        iexact Hr
      iintro HO
      iapply (ih (List.nodup_cons.mp hl).2)
      isplitr; · iexact Hc
      isplitl [HO]; · iexact HO
      isplitl [Hts]; · iexact Hts
      isplitr; · iexact HA
      iexact Hk
  have := step (List.finRange 16) (List.nodup_finRange 16)
  rw [List.toFinset_finRange] at this
  iintro ⟨Hc, HO, Ht, HA⟩ Hk
  iapply this
  isplitl [Hc]; · iexact Hc
  isplitl [HO]; · iexact HO
  isplitl [Ht]; · unfold toks; iexact Ht
  isplitl [HA]; · iexact HA
  iexact Hk

theorem W_meet (κ : GSem nD τ sig → ℕ) (d : Dev nD) (c : Fin τ.nSC) (me : Fin 16) (r : Fin 3) (hr : r.val < 2) (O : CellTallies nD τ sig (HIx 3)) (W : Waits sig (HIx 3))
    {k : PUnit → Prog (TpuEff nD τ sig (Elt F) Λ₀ (V d c (me.castLE hsub0)).2) α} {Φ : α → sProp 𝕄} :
    iprop(cells (F := F) κ d c ∗ owes (V d c (me.castLE hsub0)) (O + oxR d c r) W ∗ toks d c me r.val ∗ Ar (F := F) d c r.val me
        ∗ cred (tallyAt (bcell d c me) (some r) 16) ∗ Pos (F := F) d c me r.val ∗ MayOwe (V d c (me.castLE hsub0)) {(SemLoc.reg sc_bar0, some r)} O)
      ⊢ iprop((iprop(owes (V d c (me.castLE hsub0)) O (W ∪ {(SemLoc.reg sc_bar0, some r)}) ∗ Pos (F := F) d c me (r.val + 1) ∗ Cr (F := F) d c r.val)
            -∗ wp frame (wpE (defs₀ (F := F)) 𝒱₀ (V d c (me.castLE hsub0)) none) Set.univ (k ⟨⟩) Φ)
        -∗ wp frame (wpE (defs₀ (F := F)) 𝒱₀ (V d c (me.castLE hsub0)) none) Set.univ (SparseCore.subcoreBarrier sc_bar0 (grid0.bound 1) hsub0 >>= k) Φ) := by
  have hc : cells (F := F) κ d c ⊢ iprop(cellInv EB (bRd (F := F)) (κ (bcell d c me)) (bcell d c me) ∗ reached EB (bcell d c me) 0) := by
    unfold cells; exact BI.bigSep_elim (Finset.mem_univ me)
  have hkn : ∀ S : Finset ℕ, S ⊆ Finset.range 48 → 16 * (r.val + 1) ≤ S.card → (bigSep S fun n => pay (F := F) d c n) ⊢ Cr (F := F) d c r.val := by
    intro S hS h
    obtain h0 | h1 : r.val = 0 ∨ r.val = 1 := by omega
    · rw [h0] at h ⊢; exact knows0 d c hS (by omega)
    · rw [h1] at h ⊢; exact knows1 d c hS (by omega)
  unfold Pos
  iintro ⟨#Hc, HO, Ht, HA, Hcr, ⟨%S, %hS, Hat, #HS⟩, HM⟩ Hk
  ihave Hcj := hc $$ Hc
  icases Hcj with ⟨#Hi, -⟩
  iapply (W_signals κ d c me r O W) $$ [HO Ht HA]
  · isplitr; · iexact Hc
    isplitl [HO]; · iexact HO
    isplitl [Ht] <;> iassumption
  iintro HO
  iapply (Rounds.wp_wait 𝒱₀ EB (bRd (F := F)) (V d c (me.castLE hsub0)) none (sm := .reg sc_bar0) (k' := 16) (κ := κ (bcell d c me))
      (wpE_semWait_eq 𝒱₀ (V d c (me.castLE hsub0)) none Set.univ) (Set.mem_univ _) (cr := Finsupp.single (some r) 16) (O := O) (W := W)
      {(SemLoc.reg sc_bar0, some r)} (R := 0) (m := 16 * r.val) (T := S) (by rw [Util.total_single]) (image_single_subset (.reg sc_bar0) (some r) 16)) $$ [Hcr HO HM Hat]
  · isplitr; · iexact Hi
    isplitl [Hcr]; · iexact Hcr
    isplitl [HO]; · iexact HO
    isplitl [HM] <;> iassumption
  iintro %S' ⟨%hS', HO, Hat, #HP⟩
  obtain ⟨h1, h2, h3⟩ := hS'
  rw [bRd_expect, bRd_duties₀] at h3
  rw [bRd_duties₀] at h2
  have hcard : 16 * (r.val + 1) ≤ S'.card := by
    have := Finset.card_sdiff_add_card_eq_card h2
    rw [Finset.card_range] at this
    omega
  have hu : S' = S ∪ (S' \ S) := (Finset.union_sdiff_of_subset h1).symm
  have hb : (bigSep S' fun n => pay (F := F) d c n) = (iprop((bigSep S fun n => pay (F := F) d c n) ∗ bigSep (S' \ S) fun n => pay (F := F) d c n) : sProp 𝕄) := by
    conv_lhs => rw [hu]
    exact BI.bigSep_union Finset.disjoint_sdiff
  have hpd : (bigSep (S' \ S) fun n => (bRd (F := F)).payload (V d c (me.castLE hsub0), SemLoc.reg sc_bar0) 0 n) = (bigSep (S' \ S) fun n => pay (F := F) d c n : sProp 𝕄) := rfl
  ihave #HA := (show iprop((bigSep S fun n => pay (F := F) d c n) ∗ bigSep (S' \ S) fun n => (bRd (F := F)).payload (V d c (me.castLE hsub0), SemLoc.reg sc_bar0) 0 n) ⊢ (bigSep S' fun n => pay (F := F) d c n) from by rw [hb, hpd]) $$ []
  · isplitr; · iexact HS
    iexact HP
  iapply Hk
  isplitl [HO]; · iexact HO
  isplitl [Hat]
  · iexists S'
    isplitr; · ipureintro; exact ⟨h2, hcard⟩
    isplitl [Hat]; · rw [show 16 * (r.val + 1) = 16 * r.val + 16 from by omega]; iexact Hat
    iexact HA
  iapply (hkn S' h2 hcard) $$ HA

theorem W_last (κ : GSem nD τ sig → ℕ) (d : Dev nD) (c : Fin τ.nSC) (me : Fin 16) (O : CellTallies nD τ sig (HIx 3)) (W : Waits sig (HIx 3))
    {k : PUnit → Prog (TpuEff nD τ sig (Elt F) Λ₀ (V d c (me.castLE hsub0)).2) α} {Φ : α → sProp 𝕄} :
    iprop(cells (F := F) κ d c ∗ owes (V d c (me.castLE hsub0)) (O + oxR d c 2) W ∗ toks d c me 2 ∗ A2 (F := F) d c me
        ∗ cred (tallyAt (bcell d c me) (some 2) 16) ∗ Pos (F := F) d c me 2 ∗ MayOwe (V d c (me.castLE hsub0)) {(SemLoc.reg sc_bar0, some 2)} O)
      ⊢ iprop((iprop(owes (V d c (me.castLE hsub0)) O (W ∪ {(SemLoc.reg sc_bar0, some 2)}) ∗ semVal (bcell d c me) 0 ∗ C2 (F := F) d c)
            -∗ wp frame (wpE (defs₀ (F := F)) 𝒱₀ (V d c (me.castLE hsub0)) none) Set.univ (k ⟨⟩) Φ)
        -∗ wp frame (wpE (defs₀ (F := F)) 𝒱₀ (V d c (me.castLE hsub0)) none) Set.univ (SparseCore.subcoreBarrier sc_bar0 (grid0.bound 1) hsub0 >>= k) Φ) := by
  have hc : cells (F := F) κ d c ⊢ iprop(cellInv EB (bRd (F := F)) (κ (bcell d c me)) (bcell d c me) ∗ reached EB (bcell d c me) 0) := by
    unfold cells; exact BI.bigSep_elim (Finset.mem_univ me)
  unfold Pos
  iintro ⟨#Hc, HO, Ht, HA, Hcr, ⟨%S, %hS, Hat, #HS⟩, HM⟩ Hk
  ihave Hcj := hc $$ Hc
  icases Hcj with ⟨#Hi, -⟩
  iapply (W_signals κ d c me 2 O W) $$ [HO Ht HA]
  · isplitr; · iexact Hc
    isplitl [HO]; · iexact HO
    isplitl [Ht]; · iexact Ht
    iapply (Entails.of_eq (show A2 (F := F) d c me = Ar (F := F) d c (2 : Fin 3).val me from rfl)); iexact HA
  iintro HO
  iapply (Rounds.wp_wait_rest 𝒱₀ EB (bRd (F := F)) (V d c (me.castLE hsub0)) none (sm := .reg sc_bar0) (k' := 16) (κ := κ (bcell d c me))
      (wpE_semWait_eq 𝒱₀ (V d c (me.castLE hsub0)) none Set.univ) (Set.mem_univ _) (cr := Finsupp.single (some 2) 16) (O := O) (W := W)
      {(SemLoc.reg sc_bar0, some 2)} (R := 0) (m := 16 * 2) (T := S) (by rw [bRd_expect]) (by rw [Util.total_single]) (image_single_subset (.reg sc_bar0) (some 2) 16)) $$ [Hcr HO HM Hat]
  · isplitr; · iexact Hi
    isplitl [Hcr]; · iexact Hcr
    isplitl [HO]; · iexact HO
    isplitl [HM] <;> iassumption
  iintro ⟨HO, Hat, -, #HP⟩
  have hu : Finset.range 48 = S ∪ (Finset.range 48 \ S) := (Finset.union_sdiff_of_subset hS.1).symm
  have hb : (bigSep (Finset.range 48) fun n => pay (F := F) d c n) = (iprop((bigSep S fun n => pay (F := F) d c n) ∗ bigSep (Finset.range 48 \ S) fun n => pay (F := F) d c n) : sProp 𝕄) := by
    conv_lhs => rw [hu]
    exact BI.bigSep_union Finset.disjoint_sdiff
  have hpd : (bigSep ((bRd (F := F)).duties (V d c (me.castLE hsub0), SemLoc.reg sc_bar0) 0 \ S) fun n => (bRd (F := F)).payload (V d c (me.castLE hsub0), SemLoc.reg sc_bar0) 0 n)
      = (bigSep (Finset.range 48 \ S) fun n => pay (F := F) d c n : sProp 𝕄) := by rw [bRd_duties₀]; rfl
  ihave #HA := (show iprop((bigSep S fun n => pay (F := F) d c n) ∗ bigSep ((bRd (F := F)).duties (V d c (me.castLE hsub0), SemLoc.reg sc_bar0) 0 \ S) fun n => (bRd (F := F)).payload (V d c (me.castLE hsub0), SemLoc.reg sc_bar0) 0 n) ⊢ (bigSep (Finset.range 48) fun n => pay (F := F) d c n) from by rw [hb, hpd]) $$ []
  · isplitr; · iexact HS
    iexact HP
  imod (Rounds.cell_close EB (bRd (F := F)) (g := bcell d c me) (κ := κ (bcell d c me)) (Set.mem_univ _) (fun h => h) (R := 1) (bRd_duties_succ (bcell d c me))) $$ [Hat] with Hv
  · isplitr; · iexact Hi
    iexact Hat
  iapply Hk
  isplitl [HO]; · iexact HO
  isplitl [Hv]; · iexact Hv
  iapply (knows2 d c) $$ HA

end Cert.Proof.Embed
-- ==== Proof.Means.lean ====
/-
  Tile 0's sums over all tiles, and the means of the clusters.
-/
module

public import proofs.«01_k».proof.Proof.Segs

@[expose] public section

set_option maxRecDepth 16384

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 3) (Elt F) ℕ UU ℕ

/-- The reduced row's block `t`: the sum over all sixteen rows of the table. -/
def redW (sa : Vec F S16x1088 .f32) (t : ℕ) : Vec F S16 .f32 :=
  k0_pay75 (k0_pay74 k0_pay386 (seg2 sa 0 (16 * t)) (seg2 sa 1 (16 * t)) (seg2 sa 2 (16 * t)) (seg2 sa 3 (16 * t)) (seg2 sa 4 (16 * t)) (seg2 sa 5 (16 * t))
    (seg2 sa 6 (16 * t)) (seg2 sa 7 (16 * t)) (seg2 sa 8 (16 * t))) (seg2 sa 9 (16 * t)) (seg2 sa 10 (16 * t)) (seg2 sa 11 (16 * t)) (seg2 sa 12 (16 * t))
    (seg2 sa 13 (16 * t)) (seg2 sa 14 (16 * t)) (seg2 sa 15 (16 * t))

/-- Block `n` of the means: half the channels of a cluster's sum over its count (at least one). -/
def meanW (rd : Vec F S1088 .f32) (n : ℕ) : Vec F S16 .f32 :=
  mulf (seg rd (16 * n)) (divf (broadcast S16 (Scalar.ofBits .f32 0x3F800000#32))
    (maximumf (gat rd (broadcast S16 (BitVec.ofNat 32 (1024 + n / 2)))) (broadcast S16 (Scalar.ofBits .f32 0x3F800000#32))))

theorem k0_off49_e : ∀ t : Fin k0_t5_loop.trips, k0_off49 t = ![0, 16 * t.val] := by decide +kernel
theorem k0_off50_e : ∀ t : Fin k0_t5_loop.trips, k0_off50 t = ![1, 16 * t.val] := by decide +kernel
theorem k0_off51_e : ∀ t : Fin k0_t5_loop.trips, k0_off51 t = ![2, 16 * t.val] := by decide +kernel
theorem k0_off52_e : ∀ t : Fin k0_t5_loop.trips, k0_off52 t = ![3, 16 * t.val] := by decide +kernel
theorem k0_off53_e : ∀ t : Fin k0_t5_loop.trips, k0_off53 t = ![4, 16 * t.val] := by decide +kernel
theorem k0_off54_e : ∀ t : Fin k0_t5_loop.trips, k0_off54 t = ![5, 16 * t.val] := by decide +kernel
theorem k0_off55_e : ∀ t : Fin k0_t5_loop.trips, k0_off55 t = ![6, 16 * t.val] := by decide +kernel
theorem k0_off56_e : ∀ t : Fin k0_t5_loop.trips, k0_off56 t = ![7, 16 * t.val] := by decide +kernel
theorem k0_off57_e : ∀ t : Fin k0_t5_loop.trips, k0_off57 t = ![8, 16 * t.val] := by decide +kernel
theorem k0_off58_e : ∀ t : Fin k0_t5_loop.trips, k0_off58 t = ![9, 16 * t.val] := by decide +kernel
theorem k0_off59_e : ∀ t : Fin k0_t5_loop.trips, k0_off59 t = ![10, 16 * t.val] := by decide +kernel
theorem k0_off60_e : ∀ t : Fin k0_t5_loop.trips, k0_off60 t = ![11, 16 * t.val] := by decide +kernel
theorem k0_off61_e : ∀ t : Fin k0_t5_loop.trips, k0_off61 t = ![12, 16 * t.val] := by decide +kernel
theorem k0_off62_e : ∀ t : Fin k0_t5_loop.trips, k0_off62 t = ![13, 16 * t.val] := by decide +kernel
theorem k0_off63_e : ∀ t : Fin k0_t5_loop.trips, k0_off63 t = ![14, 16 * t.val] := by decide +kernel
theorem k0_off64_e : ∀ t : Fin k0_t5_loop.trips, k0_off64 t = ![15, 16 * t.val] := by decide +kernel
theorem k0_off65_e : ∀ t : Fin k0_t5_loop.trips, k0_off65 t = ![16 * t.val] := by decide +kernel

section Tile

variable {d : Dev nD} {i : grid0.Coords} {R : sProp (MT nD τ sig (HIx 3) (Elt F) ℕ UU ℕ)} {α : Type}
  {a0 : Vec F (shp .a0) .f32}
  {a1 : Vec F (shp .a1) .f32}
  {a2 : Vec F (shp .a2) .f32}
  {a3 : Vec F (shp .a3) .f32}
  {st : Vec F (shp .st) .f32}
  {mf : Vec F (shp .mf) .f32}
  {m4 : Vec F (shp .m4) .f32}
  {mt : Vec F (shp .mt) .f32}
  {rd : Vec F (shp .rd) .f32}
  {sa : Vec F (shp .sa) .f32}
  {ob : Vec F (shp .ob) .f32}
  {h2 : (Memref.whole main_v0_scv).IsWhole}
  {h3 : (Memref.whole main_v1_scv).IsWhole}
  {h4 : (Memref.whole main_v2_scv).IsWhole}
  {h5 : (Memref.whole cc0_scratch0).IsWhole}
  {h6 : (Memref.whole cc0_scratch1).IsWhole}
  {h7 : (Memref.whole cc0_scratch2).IsWhole}
  {h8 : (Memref.whole cc0_scratch3).IsWhole}
  {h9 : (Memref.whole cc0_scratch4).IsWhole}
  {h10 : (Memref.whole cc0_scratch5).IsWhole}
  {h11 : (Memref.whole cc0_scratch6).IsWhole}
  {h12 : (Memref.whole cc0_scratch7).IsWhole}
  {h13 : (Memref.whole cc0_scratch8).IsWhole}
  {h14 : (Memref.whole cc0_scratch9).IsWhole}
  {h15 : (Memref.whole cc0_scratch10).IsWhole}
  {h16 : (Memref.whole cc0_scratch11).IsWhole}
  {h17 : (Memref.whole cc0_scratch12).IsWhole}
  {h20 : (Memref.whole cc0_scratch15).IsWhole}
  {h21 : (Memref.whole cc0_scratch16).IsWhole}

theorem T_t5_body (h2' : k0_cond2 i = 1#1) (t : Fin k0_t5_loop.trips) (a : BitVec 32) :
    T d (cV i) (jV i) R ⟨a0, a1, a2, a3, st, mf, m4, mt, blk (redW sa) t.val rd, sa, ob⟩ (k0_t5_body i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 k0_pay386 h2' t a)
      (fun _ σ' => σ' = ⟨a0, a1, a2, a3, st, mf, m4, mt, blk (redW sa) (t.val + 1) rd, sa, ob⟩) := by
  unfold k0_t5_body
  refine T_bind ?_
  rw [k0_part8_eq_skeleton]
  unfold k0_part8_skel
  refine Tseg_sa (k0_off49_e t) ?_
  refine Tseg_sa (k0_off50_e t) ?_
  refine Tseg_sa (k0_off51_e t) ?_
  refine Tseg_sa (k0_off52_e t) ?_
  refine Tseg_sa (k0_off53_e t) ?_
  refine Tseg_sa (k0_off54_e t) ?_
  refine Tseg_sa (k0_off55_e t) ?_
  refine Tseg_sa (k0_off56_e t) ?_
  refine Tseg_sa (k0_off57_e t) ?_
  refine T_pure ?_
  refine Tseg_sa (k0_off58_e t) ?_
  refine Tseg_sa (k0_off59_e t) ?_
  refine Tseg_sa (k0_off60_e t) ?_
  refine Tseg_sa (k0_off61_e t) ?_
  refine Tseg_sa (k0_off62_e t) ?_
  refine Tseg_sa (k0_off63_e t) ?_
  refine Tseg_sa (k0_off64_e t) ?_
  refine Tseg_rd (k0_off65_e t) ?_
  refine Tblk_rd (redW sa) t.val (k0_off65_e t) rfl ?_
  exact T_pure rfl

theorem T_t5 (h2' : k0_cond2 i = 1#1) {hok : k0_t5_loop.OK} :
    T d (cV i) (jV i) R ⟨a0, a1, a2, a3, st, mf, m4, mt, rd, sa, ob⟩ (Scf.Loop.for k0_t5_loop hok 0#32 (k0_t5_body i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 k0_pay386 h2'))
      (fun _ σ' => σ' = ⟨a0, a1, a2, a3, st, mf, m4, mt, full (redW sa), sa, ob⟩) := by
  refine T_forQ (fun k _ σ' => σ' = ⟨a0, a1, a2, a3, st, mf, m4, mt, blk (redW sa) k rd, sa, ob⟩) (by rw [blk_zero]) ?_ ?_
  · intro t a σ' h
    subst h
    exact T_t5_body h2' t a
  · intro a σ' h
    rw [h, blk_full (by decide +kernel)]

theorem T_part9 (h2' : k0_cond2 i = 1#1) {W₀ : Waits sig (HIx 3)} {O : CellTallies nD τ sig (HIx 3)} {f : Vec F S16x1088 .f32}  :
    T d (cV i) (jV i) (cpR d (cV i) (jV i) cc0_scoped1.sem W₀ O f) ⟨a0, a1, a2, a3, st, mf, m4, mt, rd, sa, ob⟩ (k0_part9 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 k0_pay386 h2')
      (fun r σ' => ∃ hw, r = ⟨(broadcast S16 1025#32), hw⟩ ∧ σ' = ⟨a0, a1, a2, a3, st, blk (meanW (full (redW f))) 3 mf, m4, mt, full (redW f), f, ob⟩) := by
  rw [k0_part9_eq_skeleton]
  unfold k0_part9_skel
  refine T_copy_sa ?_
  refine T_bind (T_mono (T_t5 h2') ?_)
  intro _ _ h
  subst h
  rw [show ⟨a0, a1, a2, a3, st, mf, m4, mt, full (redW f), f, ob⟩ = (⟨a0, a1, a2, a3, st, blk (meanW (full (redW f))) 0 mf, m4, mt, full (redW f), f, ob⟩ : St F) by rw [blk_zero]]
  refine T_assume (fun _ => chkI (N := 1088) (by decide +kernel)) ?_
  refine Tgat_rd ?_
  refine Tseg_rd rfl ?_
  refine Tseg_mf rfl ?_
  refine Tblk_mf (meanW (full (redW f))) 0 rfl rfl ?_
  refine T_assume (fun _ => chkI (N := 1088) (by decide +kernel)) ?_
  refine Tgat_rd ?_
  refine Tseg_rd rfl ?_
  refine Tseg_mf rfl ?_
  refine Tblk_mf (meanW (full (redW f))) 1 rfl rfl ?_
  refine T_assume (fun _ => chkI (N := 1088) (by decide +kernel)) ?_
  refine Tgat_rd ?_
  refine Tseg_rd rfl ?_
  refine Tseg_mf rfl ?_
  refine Tblk_mf (meanW (full (redW f))) 2 rfl rfl ?_
  refine T_assume (fun _ => chkI (N := 1088) (by decide +kernel)) ?_
  exact T_pure ⟨_, rfl, rfl⟩

theorem T_part10 (h2' : k0_cond2 i = 1#1)  (hw : k0_chk41 i ((broadcast S16 1025#32))) :
    T d (cV i) (jV i) R ⟨a0, a1, a2, a3, st, blk (meanW rd) 3 mf, m4, mt, rd, sa, ob⟩ (k0_part10 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 h2' ((broadcast S16 1025#32)) hw)
      (fun r σ' => r = k0_pay82 (gat rd (broadcast S16 1027#32)) (seg rd 96) ∧ σ' = ⟨a0, a1, a2, a3, st, blk (meanW rd) 6 mf, m4, mt, rd, sa, ob⟩) := by
  rw [k0_part10_eq_skeleton]
  unfold k0_part10_skel
  refine Tgat_rd ?_
  refine Tseg_rd rfl ?_
  refine Tseg_mf rfl ?_
  refine Tblk_mf (meanW rd) 3 rfl rfl ?_
  refine T_assume (fun _ => chkI (N := 1088) (by decide +kernel)) ?_
  refine Tgat_rd ?_
  refine Tseg_rd rfl ?_
  refine Tseg_mf rfl ?_
  refine Tblk_mf (meanW rd) 4 rfl rfl ?_
  refine T_assume (fun _ => chkI (N := 1088) (by decide +kernel)) ?_
  refine Tgat_rd ?_
  refine Tseg_rd rfl ?_
  refine Tseg_mf rfl ?_
  refine Tblk_mf (meanW rd) 5 rfl rfl ?_
  refine T_assume (fun _ => chkI (N := 1088) (by decide +kernel)) ?_
  refine Tgat_rd ?_
  refine Tseg_rd rfl ?_
  refine Tseg_mf rfl ?_
  exact T_pure ⟨rfl, rfl⟩

theorem T_part11 (h2' : k0_cond2 i = 1#1)  :
    T d (cV i) (jV i) R ⟨a0, a1, a2, a3, st, blk (meanW rd) 6 mf, m4, mt, rd, sa, ob⟩ (k0_part11 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 h2' (k0_pay82 (gat rd (broadcast S16 1027#32)) (seg rd 96)))
      (fun r σ' => r = k0_pay86 (gat rd (broadcast S16 1029#32)) ∧ σ' = ⟨a0, a1, a2, a3, st, blk (meanW rd) 10 mf, m4, mt, rd, sa, ob⟩) := by
  rw [k0_part11_eq_skeleton]
  unfold k0_part11_skel
  refine Tblk_mf (meanW rd) 6 rfl rfl ?_
  refine T_assume (fun _ => chkI (N := 1088) (by decide +kernel)) ?_
  refine Tgat_rd ?_
  refine Tseg_rd rfl ?_
  refine Tseg_mf rfl ?_
  refine Tblk_mf (meanW rd) 7 rfl rfl ?_
  refine T_assume (fun _ => chkI (N := 1088) (by decide +kernel)) ?_
  refine Tgat_rd ?_
  refine Tseg_rd rfl ?_
  refine Tseg_mf rfl ?_
  refine Tblk_mf (meanW rd) 8 rfl rfl ?_
  refine T_assume (fun _ => chkI (N := 1088) (by decide +kernel)) ?_
  refine Tgat_rd ?_
  refine Tseg_rd rfl ?_
  refine Tseg_mf rfl ?_
  refine Tblk_mf (meanW rd) 9 rfl rfl ?_
  refine T_assume (fun _ => chkI (N := 1088) (by decide +kernel)) ?_
  refine Tgat_rd ?_
  exact T_pure ⟨rfl, rfl⟩

theorem T_part12 (h2' : k0_cond2 i = 1#1)  :
    T d (cV i) (jV i) R ⟨a0, a1, a2, a3, st, blk (meanW rd) 10 mf, m4, mt, rd, sa, ob⟩ (k0_part12 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 h2' (k0_pay86 (gat rd (broadcast S16 1029#32))))
      (fun r σ' => r = k0_pay91 (gat rd (broadcast S16 1031#32)) ∧ σ' = ⟨a0, a1, a2, a3, st, blk (meanW rd) 14 mf, m4, mt, rd, sa, ob⟩) := by
  rw [k0_part12_eq_skeleton]
  unfold k0_part12_skel
  refine Tseg_rd rfl ?_
  refine Tseg_mf rfl ?_
  refine Tblk_mf (meanW rd) 10 rfl rfl ?_
  refine T_assume (fun _ => chkI (N := 1088) (by decide +kernel)) ?_
  refine Tgat_rd ?_
  refine Tseg_rd rfl ?_
  refine Tseg_mf rfl ?_
  refine Tblk_mf (meanW rd) 11 rfl rfl ?_
  refine T_assume (fun _ => chkI (N := 1088) (by decide +kernel)) ?_
  refine Tgat_rd ?_
  refine Tseg_rd rfl ?_
  refine Tseg_mf rfl ?_
  refine Tblk_mf (meanW rd) 12 rfl rfl ?_
  refine T_assume (fun _ => chkI (N := 1088) (by decide +kernel)) ?_
  refine Tgat_rd ?_
  refine Tseg_rd rfl ?_
  refine Tseg_mf rfl ?_
  refine Tblk_mf (meanW rd) 13 rfl rfl ?_
  refine T_assume (fun _ => chkI (N := 1088) (by decide +kernel)) ?_
  refine Tgat_rd ?_
  exact T_pure ⟨rfl, rfl⟩

theorem T_part13 (h2' : k0_cond2 i = 1#1)  :
    T d (cV i) (jV i) R ⟨a0, a1, a2, a3, st, blk (meanW rd) 14 mf, m4, mt, rd, sa, ob⟩ (k0_part13 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 h2' (k0_pay91 (gat rd (broadcast S16 1031#32))))
      (fun r σ' => ∃ hw, r = ⟨(broadcast S16 1033#32), hw⟩ ∧ σ' = ⟨a0, a1, a2, a3, st, blk (meanW rd) 18 mf, m4, mt, rd, sa, ob⟩) := by
  rw [k0_part13_eq_skeleton]
  unfold k0_part13_skel
  refine Tseg_rd rfl ?_
  refine Tseg_mf rfl ?_
  refine Tblk_mf (meanW rd) 14 rfl rfl ?_
  refine T_assume (fun _ => chkI (N := 1088) (by decide +kernel)) ?_
  refine Tgat_rd ?_
  refine Tseg_rd rfl ?_
  refine Tseg_mf rfl ?_
  refine Tblk_mf (meanW rd) 15 rfl rfl ?_
  refine T_assume (fun _ => chkI (N := 1088) (by decide +kernel)) ?_
  refine Tgat_rd ?_
  refine Tseg_rd rfl ?_
  refine Tseg_mf rfl ?_
  refine Tblk_mf (meanW rd) 16 rfl rfl ?_
  refine T_assume (fun _ => chkI (N := 1088) (by decide +kernel)) ?_
  refine Tgat_rd ?_
  refine Tseg_rd rfl ?_
  refine Tseg_mf rfl ?_
  refine Tblk_mf (meanW rd) 17 rfl rfl ?_
  refine T_assume (fun _ => chkI (N := 1088) (by decide +kernel)) ?_
  exact T_pure ⟨_, rfl, rfl⟩

theorem T_part14 (h2' : k0_cond2 i = 1#1)  (hw : k0_chk56 i ((broadcast S16 1033#32))) :
    T d (cV i) (jV i) R ⟨a0, a1, a2, a3, st, blk (meanW rd) 18 mf, m4, mt, rd, sa, ob⟩ (k0_part14 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 h2' ((broadcast S16 1033#32)) hw)
      (fun r σ' => r = k0_pay99 (gat rd (broadcast S16 1034#32)) (seg rd 336) ∧ σ' = ⟨a0, a1, a2, a3, st, blk (meanW rd) 21 mf, m4, mt, rd, sa, ob⟩) := by
  rw [k0_part14_eq_skeleton]
  unfold k0_part14_skel
  refine Tgat_rd ?_
  refine Tseg_rd rfl ?_
  refine Tseg_mf rfl ?_
  refine Tblk_mf (meanW rd) 18 rfl rfl ?_
  refine T_assume (fun _ => chkI (N := 1088) (by decide +kernel)) ?_
  refine Tgat_rd ?_
  refine Tseg_rd rfl ?_
  refine Tseg_mf rfl ?_
  refine Tblk_mf (meanW rd) 19 rfl rfl ?_
  refine T_assume (fun _ => chkI (N := 1088) (by decide +kernel)) ?_
  refine Tgat_rd ?_
  refine Tseg_rd rfl ?_
  refine Tseg_mf rfl ?_
  refine Tblk_mf (meanW rd) 20 rfl rfl ?_
  refine T_assume (fun _ => chkI (N := 1088) (by decide +kernel)) ?_
  refine Tgat_rd ?_
  refine Tseg_rd rfl ?_
  refine Tseg_mf rfl ?_
  exact T_pure ⟨rfl, rfl⟩

theorem T_part15 (h2' : k0_cond2 i = 1#1)  :
    T d (cV i) (jV i) R ⟨a0, a1, a2, a3, st, blk (meanW rd) 21 mf, m4, mt, rd, sa, ob⟩ (k0_part15 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 h2' (k0_pay99 (gat rd (broadcast S16 1034#32)) (seg rd 336)))
      (fun r σ' => r = k0_pay103 (gat rd (broadcast S16 1036#32)) ∧ σ' = ⟨a0, a1, a2, a3, st, blk (meanW rd) 25 mf, m4, mt, rd, sa, ob⟩) := by
  rw [k0_part15_eq_skeleton]
  unfold k0_part15_skel
  refine Tblk_mf (meanW rd) 21 rfl rfl ?_
  refine T_assume (fun _ => chkI (N := 1088) (by decide +kernel)) ?_
  refine Tgat_rd ?_
  refine Tseg_rd rfl ?_
  refine Tseg_mf rfl ?_
  refine Tblk_mf (meanW rd) 22 rfl rfl ?_
  refine T_assume (fun _ => chkI (N := 1088) (by decide +kernel)) ?_
  refine Tgat_rd ?_
  refine Tseg_rd rfl ?_
  refine Tseg_mf rfl ?_
  refine Tblk_mf (meanW rd) 23 rfl rfl ?_
  refine T_assume (fun _ => chkI (N := 1088) (by decide +kernel)) ?_
  refine Tgat_rd ?_
  refine Tseg_rd rfl ?_
  refine Tseg_mf rfl ?_
  refine Tblk_mf (meanW rd) 24 rfl rfl ?_
  refine T_assume (fun _ => chkI (N := 1088) (by decide +kernel)) ?_
  refine Tgat_rd ?_
  exact T_pure ⟨rfl, rfl⟩

theorem T_part16 (h2' : k0_cond2 i = 1#1)  :
    T d (cV i) (jV i) R ⟨a0, a1, a2, a3, st, blk (meanW rd) 25 mf, m4, mt, rd, sa, ob⟩ (k0_part16 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 h2' (k0_pay103 (gat rd (broadcast S16 1036#32))))
      (fun r σ' => r = k0_pay108 (gat rd (broadcast S16 1038#32)) ∧ σ' = ⟨a0, a1, a2, a3, st, blk (meanW rd) 29 mf, m4, mt, rd, sa, ob⟩) := by
  rw [k0_part16_eq_skeleton]
  unfold k0_part16_skel
  refine Tseg_rd rfl ?_
  refine Tseg_mf rfl ?_
  refine Tblk_mf (meanW rd) 25 rfl rfl ?_
  refine T_assume (fun _ => chkI (N := 1088) (by decide +kernel)) ?_
  refine Tgat_rd ?_
  refine Tseg_rd rfl ?_
  refine Tseg_mf rfl ?_
  refine Tblk_mf (meanW rd) 26 rfl rfl ?_
  refine T_assume (fun _ => chkI (N := 1088) (by decide +kernel)) ?_
  refine Tgat_rd ?_
  refine Tseg_rd rfl ?_
  refine Tseg_mf rfl ?_
  refine Tblk_mf (meanW rd) 27 rfl rfl ?_
  refine T_assume (fun _ => chkI (N := 1088) (by decide +kernel)) ?_
  refine Tgat_rd ?_
  refine Tseg_rd rfl ?_
  refine Tseg_mf rfl ?_
  refine Tblk_mf (meanW rd) 28 rfl rfl ?_
  refine T_assume (fun _ => chkI (N := 1088) (by decide +kernel)) ?_
  refine Tgat_rd ?_
  exact T_pure ⟨rfl, rfl⟩

theorem T_part17 (h2' : k0_cond2 i = 1#1)  :
    T d (cV i) (jV i) R ⟨a0, a1, a2, a3, st, blk (meanW rd) 29 mf, m4, mt, rd, sa, ob⟩ (k0_part17 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 h2' (k0_pay108 (gat rd (broadcast S16 1038#32))))
      (fun r σ' => ∃ hw, r = ⟨(broadcast S16 1040#32), hw⟩ ∧ σ' = ⟨a0, a1, a2, a3, st, blk (meanW rd) 33 mf, m4, mt, rd, sa, ob⟩) := by
  rw [k0_part17_eq_skeleton]
  unfold k0_part17_skel
  refine Tseg_rd rfl ?_
  refine Tseg_mf rfl ?_
  refine Tblk_mf (meanW rd) 29 rfl rfl ?_
  refine T_assume (fun _ => chkI (N := 1088) (by decide +kernel)) ?_
  refine Tgat_rd ?_
  refine Tseg_rd rfl ?_
  refine Tseg_mf rfl ?_
  refine Tblk_mf (meanW rd) 30 rfl rfl ?_
  refine T_assume (fun _ => chkI (N := 1088) (by decide +kernel)) ?_
  refine Tgat_rd ?_
  refine Tseg_rd rfl ?_
  refine Tseg_mf rfl ?_
  refine Tblk_mf (meanW rd) 31 rfl rfl ?_
  refine T_assume (fun _ => chkI (N := 1088) (by decide +kernel)) ?_
  refine Tgat_rd ?_
  refine Tseg_rd rfl ?_
  refine Tseg_mf rfl ?_
  refine Tblk_mf (meanW rd) 32 rfl rfl ?_
  refine T_assume (fun _ => chkI (N := 1088) (by decide +kernel)) ?_
  exact T_pure ⟨_, rfl, rfl⟩

theorem T_part18 (h2' : k0_cond2 i = 1#1)  (hw : k0_chk71 i ((broadcast S16 1040#32))) :
    T d (cV i) (jV i) R ⟨a0, a1, a2, a3, st, blk (meanW rd) 33 mf, m4, mt, rd, sa, ob⟩ (k0_part18 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 h2' ((broadcast S16 1040#32)) hw)
      (fun r σ' => r = k0_pay116 (gat rd (broadcast S16 1042#32)) (seg rd 576) ∧ σ' = ⟨a0, a1, a2, a3, st, blk (meanW rd) 36 mf, m4, mt, rd, sa, ob⟩) := by
  rw [k0_part18_eq_skeleton]
  unfold k0_part18_skel
  refine Tgat_rd ?_
  refine Tseg_rd rfl ?_
  refine Tseg_mf rfl ?_
  refine Tblk_mf (meanW rd) 33 rfl rfl ?_
  refine T_assume (fun _ => chkI (N := 1088) (by decide +kernel)) ?_
  refine Tgat_rd ?_
  refine Tseg_rd rfl ?_
  refine Tseg_mf rfl ?_
  refine Tblk_mf (meanW rd) 34 rfl rfl ?_
  refine T_assume (fun _ => chkI (N := 1088) (by decide +kernel)) ?_
  refine Tgat_rd ?_
  refine Tseg_rd rfl ?_
  refine Tseg_mf rfl ?_
  refine Tblk_mf (meanW rd) 35 rfl rfl ?_
  refine T_assume (fun _ => chkI (N := 1088) (by decide +kernel)) ?_
  refine Tgat_rd ?_
  refine Tseg_rd rfl ?_
  refine Tseg_mf rfl ?_
  exact T_pure ⟨rfl, rfl⟩

theorem T_part19 (h2' : k0_cond2 i = 1#1)  :
    T d (cV i) (jV i) R ⟨a0, a1, a2, a3, st, blk (meanW rd) 36 mf, m4, mt, rd, sa, ob⟩ (k0_part19 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 h2' (k0_pay116 (gat rd (broadcast S16 1042#32)) (seg rd 576)))
      (fun r σ' => r = k0_pay120 (gat rd (broadcast S16 1044#32)) ∧ σ' = ⟨a0, a1, a2, a3, st, blk (meanW rd) 40 mf, m4, mt, rd, sa, ob⟩) := by
  rw [k0_part19_eq_skeleton]
  unfold k0_part19_skel
  refine Tblk_mf (meanW rd) 36 rfl rfl ?_
  refine T_assume (fun _ => chkI (N := 1088) (by decide +kernel)) ?_
  refine Tgat_rd ?_
  refine Tseg_rd rfl ?_
  refine Tseg_mf rfl ?_
  refine Tblk_mf (meanW rd) 37 rfl rfl ?_
  refine T_assume (fun _ => chkI (N := 1088) (by decide +kernel)) ?_
  refine Tgat_rd ?_
  refine Tseg_rd rfl ?_
  refine Tseg_mf rfl ?_
  refine Tblk_mf (meanW rd) 38 rfl rfl ?_
  refine T_assume (fun _ => chkI (N := 1088) (by decide +kernel)) ?_
  refine Tgat_rd ?_
  refine Tseg_rd rfl ?_
  refine Tseg_mf rfl ?_
  refine Tblk_mf (meanW rd) 39 rfl rfl ?_
  refine T_assume (fun _ => chkI (N := 1088) (by decide +kernel)) ?_
  refine Tgat_rd ?_
  exact T_pure ⟨rfl, rfl⟩

theorem T_part20 (h2' : k0_cond2 i = 1#1)  :
    T d (cV i) (jV i) R ⟨a0, a1, a2, a3, st, blk (meanW rd) 40 mf, m4, mt, rd, sa, ob⟩ (k0_part20 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 h2' (k0_pay120 (gat rd (broadcast S16 1044#32))))
      (fun r σ' => r = k0_pay125 (gat rd (broadcast S16 1046#32)) ∧ σ' = ⟨a0, a1, a2, a3, st, blk (meanW rd) 44 mf, m4, mt, rd, sa, ob⟩) := by
  rw [k0_part20_eq_skeleton]
  unfold k0_part20_skel
  refine Tseg_rd rfl ?_
  refine Tseg_mf rfl ?_
  refine Tblk_mf (meanW rd) 40 rfl rfl ?_
  refine T_assume (fun _ => chkI (N := 1088) (by decide +kernel)) ?_
  refine Tgat_rd ?_
  refine Tseg_rd rfl ?_
  refine Tseg_mf rfl ?_
  refine Tblk_mf (meanW rd) 41 rfl rfl ?_
  refine T_assume (fun _ => chkI (N := 1088) (by decide +kernel)) ?_
  refine Tgat_rd ?_
  refine Tseg_rd rfl ?_
  refine Tseg_mf rfl ?_
  refine Tblk_mf (meanW rd) 42 rfl rfl ?_
  refine T_assume (fun _ => chkI (N := 1088) (by decide +kernel)) ?_
  refine Tgat_rd ?_
  refine Tseg_rd rfl ?_
  refine Tseg_mf rfl ?_
  refine Tblk_mf (meanW rd) 43 rfl rfl ?_
  refine T_assume (fun _ => chkI (N := 1088) (by decide +kernel)) ?_
  refine Tgat_rd ?_
  exact T_pure ⟨rfl, rfl⟩

theorem T_part21 (h2' : k0_cond2 i = 1#1)  :
    T d (cV i) (jV i) R ⟨a0, a1, a2, a3, st, blk (meanW rd) 44 mf, m4, mt, rd, sa, ob⟩ (k0_part21 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 h2' (k0_pay125 (gat rd (broadcast S16 1046#32))))
      (fun r σ' => ∃ hw, r = ⟨(broadcast S16 1048#32), hw⟩ ∧ σ' = ⟨a0, a1, a2, a3, st, blk (meanW rd) 48 mf, m4, mt, rd, sa, ob⟩) := by
  rw [k0_part21_eq_skeleton]
  unfold k0_part21_skel
  refine Tseg_rd rfl ?_
  refine Tseg_mf rfl ?_
  refine Tblk_mf (meanW rd) 44 rfl rfl ?_
  refine T_assume (fun _ => chkI (N := 1088) (by decide +kernel)) ?_
  refine Tgat_rd ?_
  refine Tseg_rd rfl ?_
  refine Tseg_mf rfl ?_
  refine Tblk_mf (meanW rd) 45 rfl rfl ?_
  refine T_assume (fun _ => chkI (N := 1088) (by decide +kernel)) ?_
  refine Tgat_rd ?_
  refine Tseg_rd rfl ?_
  refine Tseg_mf rfl ?_
  refine Tblk_mf (meanW rd) 46 rfl rfl ?_
  refine T_assume (fun _ => chkI (N := 1088) (by decide +kernel)) ?_
  refine Tgat_rd ?_
  refine Tseg_rd rfl ?_
  refine Tseg_mf rfl ?_
  refine Tblk_mf (meanW rd) 47 rfl rfl ?_
  refine T_assume (fun _ => chkI (N := 1088) (by decide +kernel)) ?_
  exact T_pure ⟨_, rfl, rfl⟩

theorem T_part22 (h2' : k0_cond2 i = 1#1)  (hw : k0_chk86 i ((broadcast S16 1048#32))) :
    T d (cV i) (jV i) R ⟨a0, a1, a2, a3, st, blk (meanW rd) 48 mf, m4, mt, rd, sa, ob⟩ (k0_part22 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 h2' ((broadcast S16 1048#32)) hw)
      (fun r σ' => r = k0_pay133 (gat rd (broadcast S16 1049#32)) (seg rd 816) ∧ σ' = ⟨a0, a1, a2, a3, st, blk (meanW rd) 51 mf, m4, mt, rd, sa, ob⟩) := by
  rw [k0_part22_eq_skeleton]
  unfold k0_part22_skel
  refine Tgat_rd ?_
  refine Tseg_rd rfl ?_
  refine Tseg_mf rfl ?_
  refine Tblk_mf (meanW rd) 48 rfl rfl ?_
  refine T_assume (fun _ => chkI (N := 1088) (by decide +kernel)) ?_
  refine Tgat_rd ?_
  refine Tseg_rd rfl ?_
  refine Tseg_mf rfl ?_
  refine Tblk_mf (meanW rd) 49 rfl rfl ?_
  refine T_assume (fun _ => chkI (N := 1088) (by decide +kernel)) ?_
  refine Tgat_rd ?_
  refine Tseg_rd rfl ?_
  refine Tseg_mf rfl ?_
  refine Tblk_mf (meanW rd) 50 rfl rfl ?_
  refine T_assume (fun _ => chkI (N := 1088) (by decide +kernel)) ?_
  refine Tgat_rd ?_
  refine Tseg_rd rfl ?_
  refine Tseg_mf rfl ?_
  exact T_pure ⟨rfl, rfl⟩

theorem T_part23 (h2' : k0_cond2 i = 1#1)  :
    T d (cV i) (jV i) R ⟨a0, a1, a2, a3, st, blk (meanW rd) 51 mf, m4, mt, rd, sa, ob⟩ (k0_part23 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 h2' (k0_pay133 (gat rd (broadcast S16 1049#32)) (seg rd 816)))
      (fun r σ' => r = k0_pay137 (gat rd (broadcast S16 1051#32)) ∧ σ' = ⟨a0, a1, a2, a3, st, blk (meanW rd) 55 mf, m4, mt, rd, sa, ob⟩) := by
  rw [k0_part23_eq_skeleton]
  unfold k0_part23_skel
  refine Tblk_mf (meanW rd) 51 rfl rfl ?_
  refine T_assume (fun _ => chkI (N := 1088) (by decide +kernel)) ?_
  refine Tgat_rd ?_
  refine Tseg_rd rfl ?_
  refine Tseg_mf rfl ?_
  refine Tblk_mf (meanW rd) 52 rfl rfl ?_
  refine T_assume (fun _ => chkI (N := 1088) (by decide +kernel)) ?_
  refine Tgat_rd ?_
  refine Tseg_rd rfl ?_
  refine Tseg_mf rfl ?_
  refine Tblk_mf (meanW rd) 53 rfl rfl ?_
  refine T_assume (fun _ => chkI (N := 1088) (by decide +kernel)) ?_
  refine Tgat_rd ?_
  refine Tseg_rd rfl ?_
  refine Tseg_mf rfl ?_
  refine Tblk_mf (meanW rd) 54 rfl rfl ?_
  refine T_assume (fun _ => chkI (N := 1088) (by decide +kernel)) ?_
  refine Tgat_rd ?_
  exact T_pure ⟨rfl, rfl⟩

theorem T_part24 (h2' : k0_cond2 i = 1#1)  :
    T d (cV i) (jV i) R ⟨a0, a1, a2, a3, st, blk (meanW rd) 55 mf, m4, mt, rd, sa, ob⟩ (k0_part24 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 h2' (k0_pay137 (gat rd (broadcast S16 1051#32))))
      (fun r σ' => r = k0_pay142 (gat rd (broadcast S16 1053#32)) ∧ σ' = ⟨a0, a1, a2, a3, st, blk (meanW rd) 59 mf, m4, mt, rd, sa, ob⟩) := by
  rw [k0_part24_eq_skeleton]
  unfold k0_part24_skel
  refine Tseg_rd rfl ?_
  refine Tseg_mf rfl ?_
  refine Tblk_mf (meanW rd) 55 rfl rfl ?_
  refine T_assume (fun _ => chkI (N := 1088) (by decide +kernel)) ?_
  refine Tgat_rd ?_
  refine Tseg_rd rfl ?_
  refine Tseg_mf rfl ?_
  refine Tblk_mf (meanW rd) 56 rfl rfl ?_
  refine T_assume (fun _ => chkI (N := 1088) (by decide +kernel)) ?_
  refine Tgat_rd ?_
  refine Tseg_rd rfl ?_
  refine Tseg_mf rfl ?_
  refine Tblk_mf (meanW rd) 57 rfl rfl ?_
  refine T_assume (fun _ => chkI (N := 1088) (by decide +kernel)) ?_
  refine Tgat_rd ?_
  refine Tseg_rd rfl ?_
  refine Tseg_mf rfl ?_
  refine Tblk_mf (meanW rd) 58 rfl rfl ?_
  refine T_assume (fun _ => chkI (N := 1088) (by decide +kernel)) ?_
  refine Tgat_rd ?_
  exact T_pure ⟨rfl, rfl⟩

theorem T_part25 (h2' : k0_cond2 i = 1#1)  :
    T d (cV i) (jV i) R ⟨a0, a1, a2, a3, st, blk (meanW rd) 59 mf, m4, mt, rd, sa, ob⟩ (k0_part25 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 h2' (k0_pay142 (gat rd (broadcast S16 1053#32))))
      (fun r σ' => ∃ hw, r = ⟨(broadcast S16 1055#32), hw⟩ ∧ σ' = ⟨a0, a1, a2, a3, st, blk (meanW rd) 63 mf, m4, mt, rd, sa, ob⟩) := by
  rw [k0_part25_eq_skeleton]
  unfold k0_part25_skel
  refine Tseg_rd rfl ?_
  refine Tseg_mf rfl ?_
  refine Tblk_mf (meanW rd) 59 rfl rfl ?_
  refine T_assume (fun _ => chkI (N := 1088) (by decide +kernel)) ?_
  refine Tgat_rd ?_
  refine Tseg_rd rfl ?_
  refine Tseg_mf rfl ?_
  refine Tblk_mf (meanW rd) 60 rfl rfl ?_
  refine T_assume (fun _ => chkI (N := 1088) (by decide +kernel)) ?_
  refine Tgat_rd ?_
  refine Tseg_rd rfl ?_
  refine Tseg_mf rfl ?_
  refine Tblk_mf (meanW rd) 61 rfl rfl ?_
  refine T_assume (fun _ => chkI (N := 1088) (by decide +kernel)) ?_
  refine Tgat_rd ?_
  refine Tseg_rd rfl ?_
  refine Tseg_mf rfl ?_
  refine Tblk_mf (meanW rd) 62 rfl rfl ?_
  refine T_assume (fun _ => chkI (N := 1088) (by decide +kernel)) ?_
  exact T_pure ⟨_, rfl, rfl⟩

end Tile

end Cert.Proof.Embed
-- ==== Proof.Vals.lean ====
/-
  What the two passes, the means and the loss come to, tile by tile and SparseCore by SparseCore; and the copies of a tile's row of
  sums and of the means.
-/
module

public import proofs.«01_k».proof.Proof.Chunks
public import proofs.«01_k».proof.Proof.Rendez
public import proofs.«01_k».proof.Proof.Means
public import proofs.«01_k».proof.Proof.Pairs
public import proofs.«01_k».proof.Proof.Final

@[expose] public section

set_option maxRecDepth 16384

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 3) (Elt F) ℕ UU ℕ

/-- A place of a flat buffer. -/
def ix1 {N : ℕ} (x : Fin N) : (⟨1, ![N]⟩ : Shape).Idx := fun a => match a with
  | ⟨0, _⟩ => x

/-! ## The values, SparseCore by SparseCore -/

section Vals

variable (X : Vec F S2x32x262144 .f32) (I : S2x262144.Idx → BitVec 32) (c : Fin 2)

/-- All zero. -/
abbrev zs {N : ℕ} : Vec F ⟨1, ![N]⟩ .f32 := full fun _ => k0_pay386
def z0 : St F := ⟨zs, zs, zs, zs, zs, zs, zs, zs, zs, fun _ => zs (N := 16) (ix1 0), zs⟩

/-- A tile's accumulators after pass 1. -/
def p1 (s : ℕ) : St F := iter (chk1 X I c s) 16 z0
/-- A tile's row of sums: the accumulators, merged. -/
def rowOf (σ : St F) : Vec F S1088 .f32 := full (mrg σ.a0 σ.a1 σ.a2 σ.a3)
/-- The rows of all tiles. -/
def tab1 : Vec F S16x1088 .f32 := fun p => rowOf (p1 X I c (p 0).val) (ix1 (p 1))
/-- Their sum, the clusters' means, and these laid out by fours. -/
def rdV : Vec F S1088 .f32 := full (redW (tab1 X I c))
def mfV : Vec F S1024 .f32 := full (meanW (rdV X I c))
def m4V : Vec F S4096 .f32 := full fun t => gat (mfV X I c) (rix t)
/-- A tile's accumulators after pass 2, and the rows of all tiles. -/
def p2 (s : ℕ) : St F := iter (chk2 X I c s) 16 { p1 X I c s with m4 := m4V X I c }
def tab2 : Vec F S16x1088 .f32 := fun p => rowOf (p2 X I c (p 0).val) (ix1 (p 1))
/-- What a SparseCore leaves in its row of the result. -/
def outV : Vec F S16 .f32 := k0_pay385 io (varT (tab2 X I c) (rdV X I c)) (regT (full (mtW (mfV X I c)))) (ploss (mfV X I c) (full (mtW (mfV X I c))) 32)

end Vals

/-! ## Passes touch the accumulators alone -/

/-- `τ` with the accumulators of `σ`. -/
abbrev ovA (τ σ : St F) : St F := { τ with a0 := σ.a0, a1 := σ.a1, a2 := σ.a2, a3 := σ.a3 }
/-- The same, the means by fours too. -/
abbrev ovM (τ σ : St F) : St F := { τ with a0 := σ.a0, a1 := σ.a1, a2 := σ.a2, a3 := σ.a3, m4 := σ.m4 }

theorem iter_ov {f : ℕ → St F → St F} (ov : St F → St F → St F) (h : ∀ n τ σ, f n (ov τ σ) = ov τ (f n σ)) (τ σ : St F) :
    ∀ n, iter f n (ov τ σ) = ov τ (iter f n σ)
  | 0 => rfl
  | n + 1 => by rw [iter_succ, iter_succ, iter_ov ov h τ σ n, h]

theorem pass1_ov (X : Vec F S2x32x262144 .f32) (I : S2x262144.Idx → BitVec 32) (c : Fin 2) (s n : ℕ) (σ : St F)
    (h0 : σ.a0 = zs) (h1 : σ.a1 = zs) (h2 : σ.a2 = zs) (h3 : σ.a3 = zs) :
    iter (chk1 X I c s) n σ = ovA σ (iter (chk1 X I c s) n z0) := by
  have e : σ = ovA σ z0 := by
    obtain ⟨_, _, _, _, _, _, _, _, _, _, _⟩ := σ
    dsimp only at h0 h1 h2 h3
    subst h0 h1 h2 h3
    rfl
  conv_lhs => rw [e]
  refine iter_ov ovA (fun t τ σ => ?_) σ z0 n
  rw [chk1_def, chk1_def]
  exact iter_ov ovA (fun g τ σ => rfl) τ σ 64

theorem pass2_ov (X : Vec F S2x32x262144 .f32) (I : S2x262144.Idx → BitVec 32) (c : Fin 2) (s n : ℕ) (σ ρ : St F)
    (h0 : σ.a0 = ρ.a0) (h1 : σ.a1 = ρ.a1) (h2 : σ.a2 = ρ.a2) (h3 : σ.a3 = ρ.a3) (h4 : σ.m4 = ρ.m4) :
    iter (chk2 X I c s) n σ = ovM σ (iter (chk2 X I c s) n ρ) := by
  have e : σ = ovM σ ρ := by
    obtain ⟨_, _, _, _, _, _, _, _, _, _, _⟩ := σ
    dsimp only at h0 h1 h2 h3 h4
    subst h0 h1 h2 h3 h4
    rfl
  conv_lhs => rw [e]
  refine iter_ov ovM (fun t τ σ => ?_) σ ρ n
  rw [chk2_def, chk2_def]
  exact iter_ov ovM (fun g τ σ => rfl) τ σ 64

/-! ## A tile's row, and a SparseCore's row of the result -/

abbrev rowV (off : Fin 2 → ℕ) (inb : ∀ a, off a + S1x1088.size a ≤ S16x1088.size a) : Memref sig .scVector .shared S1088 .f32 :=
  ((Memref.whole cc0_scratch15 : Memref sig .scVector .shared S16x1088 .f32).slice (Rect.unit (s := S16x1088) off S1x1088.size inb) (fun _ => rfl)).squeeze S1088 squeezes_S1x1088_S1088
abbrev outR (off : Fin 2 → ℕ) (inb : ∀ a, off a + S1x16.size a ≤ S2x16.size a) : Memref sig .scVector .hbm S16 .f32 :=
  ((Memref.whole main_v2_scv : Memref sig .scVector .hbm S2x16 .f32).slice (Rect.unit (s := S2x16) off S1x16.size inb) (fun _ => rfl)).squeeze S16 squeezes_S1x16_S16
def outS (n : ℕ) : Finset S2x16.Idx := Finset.univ.filter fun p => (p 0).val = n

theorem set_rowV {s : ℕ} {off : Fin 2 → ℕ} {inb : ∀ a, off a + S1x1088.size a ≤ S16x1088.size a} (ho : off = ![s, 0]) : (rowV off inb).view.set = rowS s := by
  subst ho
  refine (View.set_reshape _ _).trans ((View.set_slice_whole _ _).trans ?_)
  ext p
  rw [Rect.mem_set_unit]
  simp only [rowS, Finset.mem_filter, Finset.mem_univ, true_and]
  constructor
  · intro h
    have h0 := h 0
    change s ≤ (p 0).val ∧ (p 0).val < s + 1 at h0
    omega
  · intro h a
    match a with
    | 0 => exact ⟨le_of_eq h.symm, by change (p 0).val < s + 1; omega⟩
    | 1 => exact ⟨Nat.zero_le _, by change (p 1).val < 0 + 1088; have := (p 1).isLt; change (p 1).val < 1088 at this; omega⟩

theorem write_rowV {s : ℕ} {off : Fin 2 → ℕ} {inb : ∀ a, off a + S1x1088.size a ≤ S16x1088.size a} (ho : off = ![s, 0]) (f : Vec F S16x1088 .f32) (g : Vec F S1088 .f32) :
    ∀ p ∈ (rowV off inb).view.set, (rowV off inb).view.write (Elt F) f g Finset.univ p = g (ix1 (p 1)) := by
  intro p hp
  obtain ⟨x, -, rfl⟩ := Finset.mem_map.mp hp
  rw [View.write_emb_of_mem _ _ (Finset.mem_univ x)]
  have e : Shape.reshapeEquiv (squeezes_S1x1088_S1088.numel_eq) x = Fin.cons ⟨0, Nat.one_pos⟩ x := Shape.reshapeEquiv_cons_one _ x
  subst ho
  have e1 : (((rowV ![s, 0] inb).view.emb x) 1).val = (x 0).val := by
    change 0 + 1 * ((Shape.reshapeEquiv (squeezes_S1x1088_S1088.numel_eq) x) 1).val = _
    rw [e]; change 0 + 1 * (x 0).val = _; omega
  change g x = g _
  congr 1
  funext a
  match a with
  | 0 => exact Fin.ext e1.symm

theorem set_outR {s : ℕ} {off : Fin 2 → ℕ} {inb : ∀ a, off a + S1x16.size a ≤ S2x16.size a} (ho : off = ![s, 0]) : (outR off inb).view.set = outS s := by
  subst ho
  refine (View.set_reshape _ _).trans ((View.set_slice_whole _ _).trans ?_)
  ext p
  rw [Rect.mem_set_unit]
  simp only [outS, Finset.mem_filter, Finset.mem_univ, true_and]
  constructor
  · intro h
    have h0 := h 0
    change s ≤ (p 0).val ∧ (p 0).val < s + 1 at h0
    omega
  · intro h a
    match a with
    | 0 => exact ⟨le_of_eq h.symm, by change (p 0).val < s + 1; omega⟩
    | 1 => exact ⟨Nat.zero_le _, by change (p 1).val < 0 + 16; have := (p 1).isLt; change (p 1).val < 16 at this; omega⟩

theorem write_outR {s : ℕ} {off : Fin 2 → ℕ} {inb : ∀ a, off a + S1x16.size a ≤ S2x16.size a} (ho : off = ![s, 0]) (f : Vec F S2x16 .f32) (g : Vec F S16 .f32) :
    ∀ p ∈ (outR off inb).view.set, (outR off inb).view.write (Elt F) f g Finset.univ p = g (ix1 (p 1)) := by
  intro p hp
  obtain ⟨x, -, rfl⟩ := Finset.mem_map.mp hp
  rw [View.write_emb_of_mem _ _ (Finset.mem_univ x)]
  have e : Shape.reshapeEquiv (squeezes_S1x16_S16.numel_eq) x = Fin.cons ⟨0, Nat.one_pos⟩ x := Shape.reshapeEquiv_cons_one _ x
  subst ho
  have e1 : (((outR ![s, 0] inb).view.emb x) 1).val = (x 0).val := by
    change 0 + 1 * ((Shape.reshapeEquiv (squeezes_S1x16_S16.numel_eq) x) 1).val = _
    rw [e]; change 0 + 1 * (x 0).val = _; omega
  change g x = g _
  congr 1
  funext a
  match a with
  | 0 => exact Fin.ext e1.symm

section Tile

theorem bufs_same {d : Dev nD} {cc : Fin τ.nSC} {jj : Fin τ.nSub} {σ : St F} {b : B} : bufs d cc jj (σ.upd b fun f => f) ⊢ (bufs d cc jj σ : sProp 𝕄) :=
  Entails.of_eq (congrArg (bufs d cc jj) (by cases b <;> rfl))

variable {d : Dev nD} {i : grid0.Coords} {α : Type}
  {W₀ : Waits sig (HIx 3)} {O : CellTallies nD τ sig (HIx 3)} {σ : St F}
  {k : PUnit → Prog (TpuEff nD τ sig (Elt F) Λ₀ (thr d i).2) α} {Φ : α → sProp (MT nD τ sig (HIx 3) (Elt F) ℕ UU ℕ)}

/-- A tile writes its merged sums into its row. -/
theorem W_row {sem : DmaSem sig} {n : ℕ} {off : Fin 2 → ℕ} {inb : ∀ a, off a + S1x1088.size a ≤ S16x1088.size a} (ho : off = ![n, 0]) (g t : Vec F S16x1088 .f32)
    (ht : ∀ p ∈ rowS n, t p = σ.st (ix1 (p 1)))
    {w1 w3 : (Memref.whole cc0_scratch6 : Memref sig .scVector .vmem S1088 .f32).view.WordExact} {w2 w4 : (rowV off inb).view.WordExact}
    {hsem : (DmaTarget.here (rowV off inb) : DmaTarget nD τ sig (thr d i).2 .shared S1088 .f32).Typed .vmem (.dma sem)} :
    iprop(bufs d (cV i) (jV i) σ ∗ rowP d (cV i) n g ∗ semVal (thr d i, .dma sem) 0 ∗ ow d (cV i) (jV i) W₀ O ∗ Transfers.MayWaits (thr d i) none O)
      ⊢ iprop((iprop(bufs d (cV i) (jV i) σ ∗ rowP d (cV i) n t ∗ semVal (thr d i, .dma sem) 0 ∗ ow d (cV i) (jV i) W₀ O)
            -∗ wp frame (wpE (defs₀ (F := F)) 𝒱₀ (thr d i) none) Set.univ (k ⟨⟩) Φ)
          -∗ wp frame (wpE (defs₀ (F := F)) 𝒱₀ (thr d i) none) Set.univ
            (Prog.lift (.enqueueDma (p := (thr d i).2) (Memref.whole cc0_scratch6) (.here (rowV off inb)) (.dma sem) w1 w2 hsem) >>= fun _ =>
              Prog.lift (.waitDma2 (p := (thr d i).2) sem (Memref.whole cc0_scratch6) (rowV off inb) w3 w4) >>= k) Φ) := by
  have es : (Memref.whole cc0_scratch6 : Memref sig .scVector .vmem S1088 .f32).view.set = Finset.univ := View.set_whole _
  have hw := W_copy (d := d) (i := i) (α := α) (src := (Memref.whole cc0_scratch6 : Memref sig .scVector .vmem S1088 .f32)) (dst := rowV off inb) (sem := sem)
    (W₀ := W₀) (O := O) (q := fullShare) (fs := σ.st) (fd := g) (w1 := w1) (w2 := w2) (w3 := w3) (w4 := w4) (hsem := hsem) (k := k) (Φ := Φ) (by decide)
  rw [es] at hw
  have px : ((rowV off inb).view.loc (thr d i) ↦[(rowV off inb).view.set]{fullShare} ((rowV off inb).view.write (Elt F) g ((Memref.whole cc0_scratch6 : Memref sig .scVector .vmem S1088 .f32).view.read (Elt F) σ.st) Finset.univ) : sProp 𝕄)
      = rowP d (cV i) n t :=
    (pointsTo_congr (fun p hp => (write_rowV ho g _ p hp).trans (ht p (set_rowV (inb := inb) ho ▸ hp)).symm)).trans (by rw [set_rowV ho]; rfl)
  have pg : ((rowV off inb).view.loc (thr d i) ↦[(rowV off inb).view.set]{fullShare} g : sProp 𝕄) = rowP d (cV i) n g := by rw [set_rowV ho]; rfl
  rw [px, pg] at hw
  iintro ⟨HB, Hr, Hv, HO, HM⟩ HK
  ihave HB := (bufs_acc d (cV i) (jV i) .st _) $$ HB
  icases HB with ⟨Hp, HB⟩
  ihave Hp := (Entails.of_eq (show pt d (cV i) (jV i) .st σ.st = ((Memref.whole cc0_scratch6 : Memref sig .scVector .vmem S1088 .f32).view.loc (thr d i) ↦{fullShare} σ.st : sProp 𝕄) from rfl)) $$ Hp
  iapply hw $$ [Hp Hr Hv HO HM]
  · isplitl [Hp]; · iexact Hp
    isplitl [Hr]; · iexact Hr
    isplitl [Hv]; · iexact Hv
    isplitl [HO] <;> iassumption
  iintro ⟨⟨Hp, Hr⟩, Hv, HO⟩
  iapply HK
  isplitl [HB Hp]
  · iapply (bufs_same (b := .st))
    ihave HB := HB $$ %(fun f => f) [Hp]
    · unfold pt
      iexact Hp
    iexact HB
  isplitl [Hr]; · iexact Hr
  isplitl [Hv] <;> iassumption

/-- Tile 0 leaves the means in the shared memory. -/
theorem W_put {sem : DmaSem sig} (g : Vec F S1024 .f32)
    {w1 w3 : (Memref.whole cc0_scratch7 : Memref sig .scVector .vmem S1024 .f32).view.WordExact} {w2 w4 : (Memref.whole cc0_scratch16 : Memref sig .scVector .shared S1024 .f32).view.WordExact}
    {hsem : (DmaTarget.here (Memref.whole cc0_scratch16) : DmaTarget nD τ sig (thr d i).2 .shared S1024 .f32).Typed .vmem (.dma sem)} :
    iprop(bufs d (cV i) (jV i) σ ∗ (smLoc d (cV i) ↦{fullShare} (g : Buf (Elt F) (smLoc d (cV i)))) ∗ semVal (thr d i, .dma sem) 0 ∗ ow d (cV i) (jV i) W₀ O ∗ Transfers.MayWaits (thr d i) none O)
      ⊢ iprop((iprop(bufs d (cV i) (jV i) σ ∗ (smLoc d (cV i) ↦{fullShare} (σ.mf : Buf (Elt F) (smLoc d (cV i)))) ∗ semVal (thr d i, .dma sem) 0 ∗ ow d (cV i) (jV i) W₀ O)
            -∗ wp frame (wpE (defs₀ (F := F)) 𝒱₀ (thr d i) none) Set.univ (k ⟨⟩) Φ)
          -∗ wp frame (wpE (defs₀ (F := F)) 𝒱₀ (thr d i) none) Set.univ
            (Prog.lift (.enqueueDma (p := (thr d i).2) (Memref.whole cc0_scratch7) (.here (Memref.whole cc0_scratch16)) (.dma sem) w1 w2 hsem) >>= fun _ =>
              Prog.lift (.waitDma2 (p := (thr d i).2) sem (Memref.whole cc0_scratch7) (Memref.whole cc0_scratch16) w3 w4) >>= k) Φ) := by
  have es : (Memref.whole cc0_scratch7 : Memref sig .scVector .vmem S1024 .f32).view.set = Finset.univ := View.set_whole _
  have ed : (Memref.whole cc0_scratch16 : Memref sig .scVector .shared S1024 .f32).view.set = Finset.univ := View.set_whole _
  have hw := W_copy (d := d) (i := i) (α := α) (src := (Memref.whole cc0_scratch7 : Memref sig .scVector .vmem S1024 .f32)) (dst := (Memref.whole cc0_scratch16 : Memref sig .scVector .shared S1024 .f32)) (sem := sem)
    (W₀ := W₀) (O := O) (q := fullShare) (fs := σ.mf) (fd := g) (w1 := w1) (w2 := w2) (w3 := w3) (w4 := w4) (hsem := hsem) (k := k) (Φ := Φ) (by decide)
  have ew : (Memref.whole cc0_scratch16 : Memref sig .scVector .shared S1024 .f32).view.write (Elt F) g ((Memref.whole cc0_scratch7 : Memref sig .scVector .vmem S1024 .f32).view.read (Elt F) σ.mf) Finset.univ = σ.mf :=
    View.write_whole_univ _ _ _
  rw [es, ed, ew] at hw
  iintro ⟨HB, Hr, Hv, HO, HM⟩ HK
  ihave HB := (bufs_acc d (cV i) (jV i) .mf _) $$ HB
  icases HB with ⟨Hp, HB⟩
  ihave Hp := (Entails.of_eq (show pt d (cV i) (jV i) .mf σ.mf = ((Memref.whole cc0_scratch7 : Memref sig .scVector .vmem S1024 .f32).view.loc (thr d i) ↦{fullShare} σ.mf : sProp 𝕄) from rfl)) $$ Hp
  iapply hw $$ [Hp Hr Hv HO HM]
  · isplitl [Hp]; · iexact Hp
    isplitl [Hr]; · iexact Hr
    isplitl [Hv]; · iexact Hv
    isplitl [HO] <;> iassumption
  iintro ⟨⟨Hp, Hr⟩, Hv, HO⟩
  iapply HK
  isplitl [HB Hp]
  · iapply (bufs_same (b := .mf))
    ihave HB := HB $$ %(fun f => f) [Hp]
    · unfold pt
      iexact Hp
    iexact HB
  isplitl [Hr]; · iexact Hr
  isplitl [Hv] <;> iassumption

/-- A tile takes the means from the shared memory. -/
theorem W_take {sem : DmaSem sig} {q : PosShare TreeShare} (g : Vec F S1024 .f32)
    {w1 w3 : (Memref.whole cc0_scratch16 : Memref sig .scVector .shared S1024 .f32).view.WordExact} {w2 w4 : (Memref.whole cc0_scratch7 : Memref sig .scVector .vmem S1024 .f32).view.WordExact}
    {hsem : (DmaTarget.here (Memref.whole cc0_scratch7) : DmaTarget nD τ sig (thr d i).2 .vmem S1024 .f32).Typed .shared (.dma sem)} :
    iprop(bufs d (cV i) (jV i) σ ∗ (smLoc d (cV i) ↦{q} (g : Buf (Elt F) (smLoc d (cV i)))) ∗ semVal (thr d i, .dma sem) 0 ∗ ow d (cV i) (jV i) W₀ O ∗ Transfers.MayWaits (thr d i) none O)
      ⊢ iprop((iprop(bufs d (cV i) (jV i) { σ with mf := g } ∗ (smLoc d (cV i) ↦{q} (g : Buf (Elt F) (smLoc d (cV i)))) ∗ semVal (thr d i, .dma sem) 0 ∗ ow d (cV i) (jV i) W₀ O)
            -∗ wp frame (wpE (defs₀ (F := F)) 𝒱₀ (thr d i) none) Set.univ (k ⟨⟩) Φ)
          -∗ wp frame (wpE (defs₀ (F := F)) 𝒱₀ (thr d i) none) Set.univ
            (Prog.lift (.enqueueDma (p := (thr d i).2) (Memref.whole cc0_scratch16) (.here (Memref.whole cc0_scratch7)) (.dma sem) w1 w2 hsem) >>= fun _ =>
              Prog.lift (.waitDma2 (p := (thr d i).2) sem (Memref.whole cc0_scratch16) (Memref.whole cc0_scratch7) w3 w4) >>= k) Φ) := by
  have ed : (Memref.whole cc0_scratch7 : Memref sig .scVector .vmem S1024 .f32).view.set = Finset.univ := View.set_whole _
  have es : (Memref.whole cc0_scratch16 : Memref sig .scVector .shared S1024 .f32).view.set = Finset.univ := View.set_whole _
  have hw := W_copy (d := d) (i := i) (α := α) (src := (Memref.whole cc0_scratch16 : Memref sig .scVector .shared S1024 .f32)) (dst := (Memref.whole cc0_scratch7 : Memref sig .scVector .vmem S1024 .f32)) (sem := sem)
    (W₀ := W₀) (O := O) (q := q) (fs := g) (fd := σ.mf) (w1 := w1) (w2 := w2) (w3 := w3) (w4 := w4) (hsem := hsem) (k := k) (Φ := Φ) (by decide)
  have ew : (Memref.whole cc0_scratch7 : Memref sig .scVector .vmem S1024 .f32).view.write (Elt F) σ.mf ((Memref.whole cc0_scratch16 : Memref sig .scVector .shared S1024 .f32).view.read (Elt F) g) Finset.univ = g :=
    View.write_whole_univ _ _ _
  rw [es, ed, ew] at hw
  iintro ⟨HB, Hr, Hv, HO, HM⟩ HK
  ihave HB := (bufs_acc d (cV i) (jV i) .mf _) $$ HB
  icases HB with ⟨Hp, HB⟩
  ihave Hp := (Entails.of_eq (show pt d (cV i) (jV i) .mf σ.mf = ((Memref.whole cc0_scratch7 : Memref sig .scVector .vmem S1024 .f32).view.loc (thr d i) ↦{fullShare} σ.mf : sProp 𝕄) from rfl)) $$ Hp
  iapply hw $$ [Hp Hr Hv HO HM]
  · isplitl [Hr]; · iexact Hr
    isplitl [Hp]; · iexact Hp
    isplitl [Hv]; · iexact Hv
    isplitl [HO] <;> iassumption
  iintro ⟨⟨Hr, Hp⟩, Hv, HO⟩
  iapply HK
  isplitl [HB Hp]
  · ihave HB := HB $$ %(fun _ => g) [Hp]
    · unfold pt
      iexact Hp
    iexact HB
  isplitl [Hr]; · iexact Hr
  isplitl [Hv] <;> iassumption

end Tile

end Cert.Proof.Embed
-- ==== Proof.Halves.lean ====
/-
  A tile's start, and tile 0's last work: the terms of the loss.
-/
module

public import proofs.«01_k».proof.Proof.Vals

@[expose] public section

set_option maxRecDepth 16384

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 3) (Elt F) ℕ UU ℕ

/-- A row of the result, from its sixteen lanes. -/
def outP (w : Vec F S16 .f32) : Vec F S2x16 .f32 := fun p => full (N := 16) (fun _ => w) (ix1 (N := 16) (p 1))

section Tile

variable {d : Dev nD} {i : grid0.Coords} {α β : Type} {W₀ : Waits sig (HIx 3)} {O : CellTallies nD τ sig (HIx 3)}
  {h2 : (Memref.whole main_v0_scv).IsWhole}
  {h3 : (Memref.whole main_v1_scv).IsWhole}
  {h4 : (Memref.whole main_v2_scv).IsWhole}
  {h5 : (Memref.whole cc0_scratch0).IsWhole}
  {h6 : (Memref.whole cc0_scratch1).IsWhole}
  {h7 : (Memref.whole cc0_scratch2).IsWhole}
  {h8 : (Memref.whole cc0_scratch3).IsWhole}
  {h9 : (Memref.whole cc0_scratch4).IsWhole}
  {h10 : (Memref.whole cc0_scratch5).IsWhole}
  {h11 : (Memref.whole cc0_scratch6).IsWhole}
  {h12 : (Memref.whole cc0_scratch7).IsWhole}
  {h13 : (Memref.whole cc0_scratch8).IsWhole}
  {h14 : (Memref.whole cc0_scratch9).IsWhole}
  {h15 : (Memref.whole cc0_scratch10).IsWhole}
  {h16 : (Memref.whole cc0_scratch11).IsWhole}
  {h17 : (Memref.whole cc0_scratch12).IsWhole}
  {h20 : (Memref.whole cc0_scratch15).IsWhole}
  {h21 : (Memref.whole cc0_scratch16).IsWhole}
  {a0 : Vec F (shp .a0) .f32} {a1 : Vec F (shp .a1) .f32} {a2 : Vec F (shp .a2) .f32} {a3 : Vec F (shp .a3) .f32} {st : Vec F (shp .st) .f32}
  {mf : Vec F (shp .mf) .f32} {m4 : Vec F (shp .m4) .f32} {mt : Vec F (shp .mt) .f32} {rd : Vec F (shp .rd) .f32} {sa : Vec F (shp .sa) .f32} {ob : Vec F (shp .ob) .f32}

/-- A piece run beside `X`, which it leaves alone. -/
theorem W_seqX {X R : sProp 𝕄} {σ : St F} {p : Prog (TpuEff nD τ sig (Elt F) Λ₀ (thr d i).2) α} {Q : α → St F → Prop}
    {k : α → Prog (TpuEff nD τ sig (Elt F) Λ₀ (thr d i).2) β} {Φ : β → sProp 𝕄} (h : T d (cV i) (jV i) R σ p Q)
    (hk : ∀ r σ', Q r σ' → iprop(X ∗ R ∗ bufs d (cV i) (jV i) σ') ⊢ wp frame (wpE (defs₀ (F := F)) 𝒱₀ (thr d i) none) Set.univ (k r) Φ) :
    iprop(X ∗ R ∗ bufs d (cV i) (jV i) σ) ⊢ wp frame (wpE (defs₀ (F := F)) 𝒱₀ (thr d i) none) Set.univ (p >>= k) Φ := by
  unfold T at h
  rw [wp_bind]
  iintro ⟨HX, HR, HB⟩
  iapply (wp_wand_r frame (wpE (defs₀ (F := F)) 𝒱₀ (thr d i) none) Set.univ)
  isplitl [HR HB]
  · iapply h
    isplitl [HR] <;> iassumption
  iintro %a ⟨%σ', %hq, HR, HB⟩
  iapply (hk a σ' hq)
  isplitl [HX]; · iexact HX
  isplitl [HR] <;> iassumption

theorem Tgat_rd_last {R : sProp 𝕄} {idx : IVec S16 32} {h : ∀ a x, ((![idx] : Fin 1 → IVec S16 32) a x).toNat < (shp .rd).size a}
    {hl : (mr .rd).view.Loads} {Q : Vec F S16 .f32 → St F → Prop} (hk : Q (gat rd idx) ⟨a0, a1, a2, a3, st, mf, m4, mt, rd, sa, ob⟩) :
    T d (cV i) (jV i) R ⟨a0, a1, a2, a3, st, mf, m4, mt, rd, sa, ob⟩ (SparseCore.vectorLoadIdx (mr .rd) ![idx] h hl) Q := by
  have e := Tgat_rd (d := d) (cc := cV i) (jj := jV i) (R := R) (h := h) (hl := hl) (k := pure) (T_pure hk)
  rwa [bind_pure] at e

set_option maxHeartbeats 1000000 in
/-- Tile 0's last work: the terms of the loss, and the start of the copy of the result row. -/
theorem W_fin (hc : k0_cond4 i = 1#1) {X : sProp 𝕄} {f : Vec F S16x1088 .f32} (g : Vec F S2x16 .f32) :
    iprop((X ∗ ((thr d i).loc main_v2_scv ↦[outS (i 0).val]{fullShare} g) ∗ semVal (thr d i, .dma cc0_scoped6.sem) 0)
        ∗ cpR d (cV i) (jV i) cc0_scoped5.sem W₀ O f ∗ bufs d (cV i) (jV i) ⟨a0, a1, a2, a3, st, mf, m4, mt, rd, sa, ob⟩)
      ⊢ wp frame (wpE (defs₀ (F := F)) 𝒱₀ (thr d i) none) Set.univ (k0_part73 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 k0_pay386 io hc) (fun _ =>
        iprop(X ∗ cpR d (cV i) (jV i) cc0_scoped5.sem W₀ O f
          ∗ Transfers.Flight countersEmb (thr d i) (.dma cc0_scoped6.sem) none ((outR (k0_off111 i) (k0_off111_inb i hc)).view.dmaCredit)
            iprop(((thr d i).loc main_v2_scv ↦[outS (i 0).val]{fullShare} (outP (k0_pay385 io (varT f rd) (regT (full (mtW mf))) (ploss mf (full (mtW mf)) 32))))
              ∗ (thr d i).loc cc0_scratch12 ↦{fullShare} (full (N := 16) (fun _ => k0_pay385 io (varT f rd) (regT (full (mtW mf))) (ploss mf (full (mtW mf)) 32))))
          ∗ ∀ h : Vec F S16 .f32, ((thr d i).loc cc0_scratch12 ↦{fullShare} h) -∗ ∃ σ', bufs d (cV i) (jV i) σ')) := by
  rw [k0_part73_eq_skeleton]
  unfold k0_part73_skel
  dsimp only
  refine W_seqX (T_part47 hc ) ?_
  rintro _ _ ⟨rfl, rfl⟩
  refine W_seqX (T_part48 hc _ _ _) ?_
  rintro _ _ ⟨rfl, rfl⟩
  refine W_seqX (T_part49 hc _ _ _) ?_
  rintro _ _ ⟨rfl, rfl⟩
  refine W_seqX (T_part50 hc _ _ _) ?_
  rintro _ _ ⟨rfl, rfl⟩
  refine W_seqX (T_part51 hc _ _ _ _) ?_
  rintro _ _ ⟨rfl, rfl⟩
  refine W_seqX (T_part52 hc _ _) ?_
  rintro _ _ ⟨rfl, rfl⟩
  refine W_seqX (T_part53 hc ) ?_
  rintro _ _ ⟨rfl, rfl⟩
  refine W_seqX (T_part54 hc ) ?_
  rintro _ _ ⟨rfl, rfl⟩
  refine W_seqX (T_part55 hc ) ?_
  rintro _ _ ⟨rfl, rfl⟩
  refine W_seqX (T_part56 hc ) ?_
  rintro _ _ ⟨rfl, rfl⟩
  refine W_seqX (T_part57 hc ) ?_
  rintro _ _ ⟨rfl, rfl⟩
  refine W_seqX (T_part58 hc ) ?_
  rintro _ _ ⟨rfl, rfl⟩
  refine W_seqX (T_part59 hc ) ?_
  rintro _ _ ⟨rfl, rfl⟩
  refine W_seqX (T_part60 hc ) ?_
  rintro _ _ ⟨rfl, rfl⟩
  refine W_seqX (T_part61 hc ) ?_
  rintro _ _ ⟨rfl, rfl⟩
  refine W_seqX (T_part62 hc ) ?_
  rintro _ _ ⟨rfl, rfl⟩
  refine W_seqX (T_part63 hc ) ?_
  rintro _ _ ⟨rfl, rfl⟩
  refine W_seqX (T_part64 hc ) ?_
  rintro _ _ ⟨rfl, rfl⟩
  refine W_seqX (T_part65 hc ) ?_
  rintro _ _ ⟨rfl, rfl⟩
  refine W_seqX (T_part66 hc ) ?_
  rintro _ _ rfl
  rw [show blk (mtW mf) 64 mt = full (mtW mf) from blk_full (by decide)]
  refine W_seqX (T_part67 hc ) ?_
  rintro _ _ ⟨rfl, rfl⟩
  refine W_seqX (T_part68 hc _ _ _ _) ?_
  rintro _ _ ⟨rfl, rfl⟩
  refine W_seqX (T_part69 hc _ _) ?_
  rintro _ _ ⟨rfl, rfl⟩
  refine W_seqX (T_part70 hc _ _ _ _) ?_
  rintro _ _ ⟨rfl, rfl⟩
  refine W_seqX (T_part71 hc _ _) ?_
  rintro _ _ ⟨rfl, rfl⟩
  refine W_seqX (T_part72 hc _ _ _) ?_
  rintro _ _ ⟨rfl, rfl⟩
  refine W_seqX (T_t10 hc) ?_
  rintro _ _ ⟨rfl, rfl⟩
  refine W_seqX (Q := fun r σ' => σ' = ⟨a0, a1, a2, a3, st, mf, m4, full (mtW mf), rd, f, ob⟩)
    (Tseg_ob rfl (k := pure) (T_pure rfl)) ?_
  rintro _ _ rfl
  refine W_seqX (Q := fun r σ' => σ' = ⟨a0, a1, a2, a3, st, mf, m4, full (mtW mf), rd, f, full (N := 16) (fun _ => k0_pay385 io (varT f rd) (regT (full (mtW mf))) (ploss mf (full (mtW mf)) 32))⟩)
    (Tst_ob (k := pure) (T_pure ?_)) ?_
  · exact congrArg (fun o => (⟨a0, a1, a2, a3, st, mf, m4, full (mtW mf), rd, f, o⟩ : St F))
      ((wr_blk (n := 0) (fun _ => k0_pay385 io (varT f rd) (regT (full (mtW mf))) (ploss mf (full (mtW mf)) 32)) rfl ob).trans (blk_full (by decide)))
  rintro _ _ rfl
  generalize k0_pay385 io (varT f rd) (regT (full (mtW mf))) (ploss mf (full (mtW mf)) 32) = w
  have es : (Memref.whole cc0_scratch12 : Memref sig .scVector .vmem S16 .f32).view.set = Finset.univ := View.set_whole _
  have ho : k0_off111 i = ![(i 0).val, 0] := k0_off111_eq i
  have hd := fun k Q hw1 hw2 hsm => Transfers.wp_dmaLocal (α := PUnit) (k := k) (Q := Q) (Lvl := ℕ) (Name := ℕ) (U := UU) (Ix := HIx 3) (defs := defs₀ (F := F))
    countersEmb 𝒱₀ (thr d i) none (src := (Memref.whole cc0_scratch12 : Memref sig .scVector .vmem S16 .f32)) (dst := outR (k0_off111 i) (k0_off111_inb i hc)) (sm := .dma cc0_scoped6.sem) (hsrc := hw1) (hdst := hw2) (hsem := hsm) (q := fullShare)
    (via := .same) (fs := full (N := 16) (fun _ => w)) (fd := g) (Sd := (outR (k0_off111 i) (k0_off111_inb i hc)).view.set) none _ rfl ((outR (k0_off111 i) (k0_off111_inb i hc)).view.dmaCredit_pos (by decide)) (Finset.Subset.refl _)
  rw [es] at hd
  have px : ((outR (k0_off111 i) (k0_off111_inb i hc)).view.loc (thr d i) ↦[(outR (k0_off111 i) (k0_off111_inb i hc)).view.set]{fullShare} ((outR (k0_off111 i) (k0_off111_inb i hc)).view.write (Elt F) g ((ReadAs.same : ReadAs (Elt F) S16 .f32 S16 .f32).apply ((Memref.whole cc0_scratch12 : Memref sig .scVector .vmem S16 .f32).view.read (Elt F) (full (N := 16) (fun _ => w)))) Finset.univ) : sProp 𝕄)
      = ((thr d i).loc main_v2_scv ↦[outS (i 0).val]{fullShare} (outP w)) :=
    (pointsTo_congr (write_outR ho g (full (N := 16) (fun _ => w)))).trans (by rw [set_outR ho]; rfl)
  have pg : ((outR (k0_off111 i) (k0_off111_inb i hc)).view.loc (thr d i) ↦[(outR (k0_off111 i) (k0_off111_inb i hc)).view.set]{fullShare} g : sProp 𝕄)
      = ((thr d i).loc main_v2_scv ↦[outS (i 0).val]{fullShare} g) := by rw [set_outR ho]
  rw [px, pg] at hd
  iintro ⟨⟨HX, Hg, Hs⟩, HC, HB⟩
  ihave HB := (bufs_acc d (cV i) (jV i) .ob _) $$ HB
  icases HB with ⟨Hp, HB⟩
  ihave Hp := (Entails.of_eq (show pt d (cV i) (jV i) .ob (full (N := 16) (fun _ => w)) = ((Memref.whole cc0_scratch12 : Memref sig .scVector .vmem S16 .f32).view.loc (thr d i) ↦{fullShare} (full (N := 16) (fun _ => w)) : sProp 𝕄) from rfl)) $$ Hp
  iapply (hd (fun _ => Pure.pure PUnit.unit) _ _ _ _) $$ [Hg Hs Hp]
  · isplitl [Hp]; · iexact Hp
    isplitl [Hg]; · iexact Hg
    iexact Hs
  iintro Hfl
  rw [wp_pure]
  imodintro
  isplitl [HX]; · iexact HX
  isplitl [HC]; · iexact HC
  isplitl [Hfl]; · iexact Hfl
  iintro %h Hp
  iexists _
  ihave HB := HB $$ %(fun _ => h) [Hp]
  · unfold pt; iexact Hp
  iexact HB

set_option maxHeartbeats 1000000 in
/-- The start: the accumulators are cleared and the first chunk's copies leave. -/
theorem W_p74 {σ : St F} {q : PosShare TreeShare} {X : Vec F S2x32x262144 .f32} {I : S2x262144.Idx → BitVec 32} :
    iprop(idle d i q X I 0 ∗ bufs d (cV i) (jV i) σ)
      ⊢ wp frame (wpE (defs₀ (F := F)) 𝒱₀ (thr d i) none) Set.univ (k0_part74 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6) (fun r =>
        iprop(⌜r = ⟨BitVec.ofNat 32 (i 1).val, Scalar.muli (BitVec.ofNat 32 (i 1).val) 16384#32, k0_pay386, k0_pay387, io, k0_pay388, 0#32, 0#32, 1#32⟩⌝
          ∗ fly d i q X I 0 0
          ∗ bufs d (cV i) (jV i) { σ with a0 := full (fun _ => k0_pay386), a1 := full (fun _ => k0_pay386), a2 := full (fun _ => k0_pay386), a3 := full (fun _ => k0_pay386) })) := by
  rw [k0_part74_eq_skeleton]
  unfold k0_part74_skel
  dsimp only
  refine W_seq (T_t1 σ) ?_
  rintro _ _ rfl
  iintro ⟨HI, HB⟩
  iapply (W_fetch (t := 0) (by decide) rfl rfl rfl (k0_off2_eq i) rfl (k0_off3_eq i)) $$ HI
  iintro Hf
  rw [wp_pure]
  imodintro
  isplitr; · ipureintro; rfl
  isplitl [Hf] <;> iassumption

end Tile

end Cert.Proof.Embed
-- ==== Proof.Meet.lean ====
/-
  What the tiles exchange at their three meetings, and that each may wait there.
-/
module

public import proofs.«01_k».proof.Proof.Halves

@[expose] public section

set_option maxRecDepth 16384

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 3) (Elt F) ℕ UU ℕ

section Exchange

variable {d : Dev nD} {c : Fin τ.nSC} {v : BV F}

theorem rows_disj : ∀ i ∈ (Finset.univ : Finset (Fin 16)), ∀ j ∈ (Finset.univ : Finset (Fin 16)), i ≠ j → Disjoint (rowS i.val) (rowS j.val) := by
  intro i _ j _ h
  refine Finset.disjoint_left.mpr fun p hp hq => h (Fin.ext ?_)
  simp only [rowS, Finset.mem_filter, Finset.mem_univ, true_and] at hp hq
  exact hp.symm.trans hq
theorem rows_all : (Finset.univ : Finset (Fin 16)).biUnion (fun j => rowS j.val) = Finset.univ := by
  refine Finset.eq_univ_of_forall fun p => Finset.mem_biUnion.mpr ⟨p 0, Finset.mem_univ _, ?_⟩
  simp only [rowS, Finset.mem_filter, Finset.mem_univ, true_and]
theorem sh_rows (f : Vec F S16x1088 .f32) :
    (shLoc d c ↦{fullShare} (f : Buf (Elt F) (shLoc d c)) : sProp 𝕄) = bigSep Finset.univ fun j : Fin 16 => rowP d c j.val f := by
  rw [← pointsTo_biUnion Finset.univ (ℓ := shLoc d c) (fun j : Fin 16 => rowS j.val) rows_disj, rows_all]; try rfl
theorem sm_deal (f : Vec F S1024 .f32) :
    (smLoc d c ↦{fullShare} (f : Buf (Elt F) (smLoc d c)) : sProp 𝕄) = bigSep Finset.univ fun j : Fin 16 => meanP d c j f :=
  Transfers.pointsTo_deal Finset.univ Finset.univ_nonempty fullShare

theorem bigSep_fupd_mono {ι : Type} {S : Finset ι} {Φ Ψ : ι → sProp (MT nD τ sig (HIx 3) (Elt F) ℕ UU ℕ)} (h : ∀ j ∈ S, Φ j ⊢ iprop(|={Set.univ}=> Ψ j)) :
    bigSep S Φ ⊢ iprop(|={Set.univ}=> bigSep S Ψ) :=
  (bigSep_mono h).trans (bigSep_fupd S Ψ)

theorem tk_ne (g : GSem nD τ sig) (r n : ℕ) : iprop(dutyTok EB g r n ∗ dutyTok EB g r n) ⊢ (False : sProp 𝕄) := dutyTok_dutyTok_false EB

/-- Tile `j` leaves its row of pass 1. -/
theorem put0 (j : Fin 16) : iprop(escs v d c j ∗ rowP d c j.val (v.t1 d c)) ⊢ iprop(|={Set.univ}=> A0 (F := F) d c j) := by
  unfold escs A0
  iintro ⟨⟨H, -⟩, HR⟩
  iapply (Esc_put (R := rowP d c j.val (v.t1 d c)) (τk := etok d c j 0))
  isplitl [H] <;> iassumption
/-- Tile 0 takes them all. -/
theorem take0 : iprop((bigSep Finset.univ fun j => escs v d c j) ∗ C0 (F := F) d c ∗ bigSep Finset.univ fun j => etok d c j 0)
    ⊢ iprop(|={Set.univ}=> shLoc d c ↦{fullShare} (v.t1 d c : Buf (Elt F) (shLoc d c))) := by
  rw [sh_rows]
  unfold C0
  rw [← bigSep_sep', ← bigSep_sep']
  refine bigSep_fupd_mono fun j _ => ?_
  unfold escs A0
  iintro ⟨⟨H, -⟩, HA, HT⟩
  iapply (Esc_take (g := ecell d c j 0) (R := rowP d c j.val (v.t1 d c)) (τk := etok d c j 0) (tk_ne _ _ _))
  isplitl [H]; · iexact H
  isplitl [HA] <;> iassumption
/-- Tile 0 gives them back, each with a share of the means. -/
theorem put1 : iprop((bigSep Finset.univ fun j => escs v d c j) ∗ (shLoc d c ↦{fullShare} (v.t1 d c : Buf (Elt F) (shLoc d c))) ∗ (smLoc d c ↦{fullShare} (v.mf d c : Buf (Elt F) (smLoc d c))))
    ⊢ iprop(|={Set.univ}=> M1 (F := F) d c) := by
  rw [sh_rows, sm_deal]
  unfold M1
  rw [← bigSep_sep', ← bigSep_sep']
  refine bigSep_fupd_mono fun j _ => ?_
  unfold escs
  iintro ⟨⟨-, H, -⟩, HR⟩
  iapply (Esc_put (R := iprop(rowP d c j.val (v.t1 d c) ∗ meanP d c j (v.mf d c))) (τk := etok d c j 1))
  isplitl [H] <;> iassumption
theorem C1_M1 (j : Fin 16) : C1 (F := F) d c ⊢ reached EB (ecell d c j 1) 1 := by
  have h1 : C1 (F := F) d c ⊢ A1 (F := F) d c 0 := by unfold C1; exact BI.bigSep_elim (Finset.mem_univ 0)
  refine h1.trans ?_
  unfold A1
  rw [if_pos rfl]
  have h2 : M1 (F := F) d c ⊢ reached EB (ecell d c j 1) 1 := by unfold M1; exact BI.bigSep_elim (Finset.mem_univ j)
  iintro ⟨-, H⟩
  iapply h2; iexact H
theorem take1 (j : Fin 16) : iprop(escs v d c j ∗ C1 (F := F) d c ∗ etok d c j 1)
    ⊢ iprop(|={Set.univ}=> (rowP d c j.val (v.t1 d c) ∗ meanP d c j (v.mf d c))) := by
  unfold escs
  iintro ⟨⟨-, H, -⟩, HA, HT⟩
  iapply (Esc_take (g := ecell d c j 1) (R := iprop(rowP d c j.val (v.t1 d c) ∗ meanP d c j (v.mf d c))) (τk := etok d c j 1) (tk_ne _ _ _))
  isplitl [H]; · iexact H
  isplitl [HA]
  · iapply (C1_M1 j); iexact HA
  iexact HT
/-- Tile `j` leaves its row of pass 2, and its share. -/
theorem put2 (j : Fin 16) : iprop(escs v d c j ∗ rowP d c j.val (v.t2 d c) ∗ meanP d c j (v.mf d c)) ⊢ iprop(|={Set.univ}=> reached EB (ecell d c j 2) 1) := by
  unfold escs
  iintro ⟨⟨-, -, H⟩, HR⟩
  iapply (Esc_put (R := iprop(rowP d c j.val (v.t2 d c) ∗ meanP d c j (v.mf d c))) (τk := etok d c j 2))
  isplitl [H] <;> iassumption
theorem take2 : iprop((bigSep Finset.univ fun j => escs v d c j) ∗ C2 (F := F) d c ∗ bigSep Finset.univ fun j => etok d c j 2)
    ⊢ iprop(|={Set.univ}=> ((shLoc d c ↦{fullShare} (v.t2 d c : Buf (Elt F) (shLoc d c))) ∗ (smLoc d c ↦{fullShare} (v.mf d c : Buf (Elt F) (smLoc d c))))) := by
  rw [sh_rows, sm_deal]
  unfold C2
  rw [← bigSep_sep', ← bigSep_sep', ← bigSep_sep']
  refine bigSep_fupd_mono fun j _ => ?_
  unfold escs A2
  iintro ⟨⟨-, -, H⟩, ⟨-, HA⟩, HT⟩
  iapply (Esc_take (g := ecell d c j 2) (R := iprop(rowP d c j.val (v.t2 d c) ∗ meanP d c j (v.mf d c))) (τk := etok d c j 2) (tk_ne _ _ _))
  isplitl [H]; · iexact H
  isplitl [HA] <;> iassumption

end Exchange

theorem bar_ne_go : (sc_bar0 : Sem sig) ≠ sc_go := by decide

/-! ## What a tile owes, and that it may wait -/

theorem oxR_none (d : Dev nD) (c : Fin τ.nSC) (r : Fin 3) (g : GSem nD τ sig) : oxR d c r g none = 0 := by
  unfold oxR
  rw [Finset.sum_apply, Finsupp.finset_sum_apply]
  refine Finset.sum_eq_zero fun j _ => ?_
  rw [tallyAt_apply]; rw [if_neg]; rintro ⟨-, h⟩; exact absurd h (by simp)
theorem oxR_lev (d : Dev nD) (c : Fin τ.nSC) (r : Fin 3) (g : GSem nD τ sig) (ι : HIx 3) (h : 0 < oxR d c r g ι) : (K (F := F)).lev g ι = 8 * r.val + 3 := by
  unfold oxR at h
  rw [Finset.sum_apply, Finsupp.finset_sum_apply] at h
  obtain ⟨j, -, hj⟩ := Finset.exists_ne_zero_of_sum_ne_zero h.ne'
  rw [tallyAt_apply] at hj
  by_cases he : g = bcell d c j ∧ ι = some r
  · obtain ⟨rfl, rfl⟩ := he
    exact (K (F := F)).lev_V_reg d c (j.castLE hsub0) bar_ne_go r
  · rw [if_neg he] at hj; exact absurd rfl hj

/-- A debt above every level the meetings use. -/
structure High (O : CellTallies nD τ sig (HIx 3)) : Prop where
  none : ∀ g, O g none = 0
  lev : ∀ g ι, 0 < O g ι → 22 ≤ (K (F := F)).lev g ι

/-- What is owed before meeting `r`. -/
def owed (O : CellTallies nD τ sig (HIx 3)) (d : Dev nD) (c : Fin τ.nSC) (r : ℕ) : CellTallies nD τ sig (HIx 3) := match r with
  | 0 => O + oxR d c 2 + oxR d c 1 + oxR d c 0
  | 1 => O + oxR d c 2 + oxR d c 1
  | 2 => O + oxR d c 2
  | _ => O

theorem owed_lev {O : CellTallies nD τ sig (HIx 3)} (hO : High (F := F) O) (d : Dev nD) (c : Fin τ.nSC) (r : ℕ) (g : GSem nD τ sig) (ι : HIx 3) (h : 0 < owed O d c r g ι) :
    min 22 (8 * r + 3) ≤ (K (F := F)).lev g ι := by
  have a0 := oxR_lev (F := F) d c 0 g ι
  have a1 := oxR_lev (F := F) d c 1 g ι
  have a2 := oxR_lev (F := F) d c 2 g ι
  have a3 := hO.lev g ι
  unfold owed at h
  have e : (0 : Fin 3).val = 0 ∧ (1 : Fin 3).val = 1 ∧ (2 : Fin 3).val = 2 := ⟨rfl, rfl, rfl⟩
  split at h
  · simp only [Pi.add_apply, Finsupp.add_apply] at h
    omega
  · simp only [Pi.add_apply, Finsupp.add_apply] at h
    omega
  · simp only [Pi.add_apply, Finsupp.add_apply] at h
    omega
  · omega
theorem owed_none {O : CellTallies nD τ sig (HIx 3)} (hO : High (F := F) O) (d : Dev nD) (c : Fin τ.nSC) (r : ℕ) (g : GSem nD τ sig) : owed O d c r g none = 0 := by
  unfold owed
  split <;> simp only [Pi.add_apply, Finsupp.add_apply, oxR_none, hO.none]

theorem mayW {O : CellTallies nD τ sig (HIx 3)} (hO : High (F := F) O) (d : Dev nD) (i : grid0.Coords) (c : Fin τ.nSC) (r : ℕ) :
    levAts (K (F := F)).L (K (F := F)).lev ⊢ (Transfers.MayWaits (thr d i) none (owed O d c r) : sProp 𝕄) :=
  (K (F := F)).mayWaits_none (owed_none hO d c r)
theorem mayO {O : CellTallies nD τ sig (HIx 3)} (hO : High (F := F) O) (d : Dev nD) (c : Fin τ.nSC) (j : Fin 16) (r : Fin 3) :
    levAts (K (F := F)).L (K (F := F)).lev ⊢ (MayOwe (V d c (j.castLE hsub0)) {(SemLoc.reg sc_bar0, some r)} (owed O d c (r.val + 1)) : sProp 𝕄) := by
  refine (K (F := F)).mayOwe_of_bound (8 * r.val + 3) ?_ ?_
  · intro p hp
    rw [Finset.mem_singleton] at hp
    subst hp
    exact le_of_eq ((K (F := F)).lev_V_reg d c (j.castLE hsub0) bar_ne_go r)
  · intro g ι h
    have := owed_lev hO d c _ g ι h
    have := r.isLt
    omega

section Meet

variable {d : Dev nD} {i : grid0.Coords} {α : Type} {W₀ : Waits sig (HIx 3)} {O : CellTallies nD τ sig (HIx 3)}
  {k : PUnit → Prog (TpuEff nD τ sig (Elt F) Λ₀ (thr d i).2) α} {Φ : α → sProp (MT nD τ sig (HIx 3) (Elt F) ℕ UU ℕ)}

/-- Meeting `r` of the first two. -/
theorem W_meets (hO : High (F := F) O) (κ : GSem nD τ sig → ℕ) (r : Fin 3) (hr : r.val < 2) :
    iprop(levAts (K (F := F)).L (K (F := F)).lev ∗ cells (F := F) κ d (cV i) ∗ ow d (cV i) (jV i) W₀ (owed O d (cV i) r.val) ∗ toks d (cV i) (i 1) r.val ∗ Ar (F := F) d (cV i) r.val (i 1)
        ∗ cred (tallyAt (bcell d (cV i) (i 1)) (some r) 16) ∗ Pos (F := F) d (cV i) (i 1) r.val)
      ⊢ iprop((iprop(ow d (cV i) (jV i) W₀ (owed O d (cV i) (r.val + 1)) ∗ Pos (F := F) d (cV i) (i 1) (r.val + 1) ∗ Cr (F := F) d (cV i) r.val)
            -∗ wp frame (wpE (defs₀ (F := F)) 𝒱₀ (thr d i) none) Set.univ (k ⟨⟩) Φ)
        -∗ wp frame (wpE (defs₀ (F := F)) 𝒱₀ (thr d i) none) Set.univ (SparseCore.subcoreBarrier sc_bar0 (grid0.bound 1) hsub0 >>= k) Φ) := by
  have ho : owed O d (cV i) r.val = owed O d (cV i) (r.val + 1) + oxR d (cV i) r := by
    obtain ⟨r, h⟩ := r
    interval_cases r
    · rfl
    · rfl
  unfold ow
  rw [ho]
  iintro ⟨#HL, #Hc, ⟨%W, %hW, HO⟩, Ht, HA, Hcr, HP⟩ HK
  iapply (W_meet κ d (cV i) (i 1) r hr (owed O d (cV i) (r.val + 1)) W) $$ [HO Ht HA Hcr HP]
  · isplitr; · iexact Hc
    isplitl [HO]; · iexact HO
    isplitl [Ht]; · iexact Ht
    isplitl [HA]; · iexact HA
    isplitl [Hcr]; · iexact Hcr
    isplitl [HP]; · iexact HP
    iapply (mayO hO d (cV i) (i 1) r) $$ HL
  iintro ⟨HO, HP, HC⟩
  iapply HK
  isplitl [HO]
  · iexists _; isplitr; swap; · iexact HO
    ipureintro; intro p _; exact .inr (em _)
  isplitl [HP] <;> iassumption

/-- The last meeting. -/
theorem W_lasts (hO : High (F := F) O) (κ : GSem nD τ sig → ℕ) :
    iprop(levAts (K (F := F)).L (K (F := F)).lev ∗ cells (F := F) κ d (cV i) ∗ ow d (cV i) (jV i) W₀ (owed O d (cV i) 2) ∗ toks d (cV i) (i 1) 2 ∗ A2 (F := F) d (cV i) (i 1)
        ∗ cred (tallyAt (bcell d (cV i) (i 1)) (some 2) 16) ∗ Pos (F := F) d (cV i) (i 1) 2)
      ⊢ iprop((iprop(ow d (cV i) (jV i) W₀ O ∗ semVal (bcell d (cV i) (i 1)) 0 ∗ C2 (F := F) d (cV i))
            -∗ wp frame (wpE (defs₀ (F := F)) 𝒱₀ (thr d i) none) Set.univ (k ⟨⟩) Φ)
        -∗ wp frame (wpE (defs₀ (F := F)) 𝒱₀ (thr d i) none) Set.univ (SparseCore.subcoreBarrier sc_bar0 (grid0.bound 1) hsub0 >>= k) Φ) := by
  unfold ow
  rw [show owed O d (cV i) 2 = O + oxR d (cV i) 2 from rfl]
  iintro ⟨#HL, #Hc, ⟨%W, %hW, HO⟩, Ht, HA, Hcr, HP⟩ HK
  iapply (W_last κ d (cV i) (i 1) O W) $$ [HO Ht HA Hcr HP]
  · isplitr; · iexact Hc
    isplitl [HO]; · iexact HO
    isplitl [Ht]; · iexact Ht
    isplitl [HA]; · iexact HA
    isplitl [Hcr]; · iexact Hcr
    isplitl [HP]; · iexact HP
    iapply (mayO hO d (cV i) (i 1) 2) $$ HL
  iintro ⟨HO, HP, HC⟩
  iapply HK
  isplitl [HO]
  · iexists _; isplitr; swap; · iexact HO
    ipureintro; intro p _; exact .inr (em _)
  isplitl [HP] <;> iassumption

end Meet

end Cert.Proof.Embed
-- ==== Proof.Body.lean ====
/-
  A tile's two passes, and what follows its second meeting.
-/
module

public import proofs.«01_k».proof.Proof.Meet

@[expose] public section

set_option maxRecDepth 16384

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 3) (Elt F) ℕ UU ℕ

section Tile

variable {d : Dev nD} {i : grid0.Coords} {α β : Type} {W₀ : Waits sig (HIx 3)} {O : CellTallies nD τ sig (HIx 3)}
  {h2 : (Memref.whole main_v0_scv).IsWhole}
  {h3 : (Memref.whole main_v1_scv).IsWhole}
  {h4 : (Memref.whole main_v2_scv).IsWhole}
  {h5 : (Memref.whole cc0_scratch0).IsWhole}
  {h6 : (Memref.whole cc0_scratch1).IsWhole}
  {h7 : (Memref.whole cc0_scratch2).IsWhole}
  {h8 : (Memref.whole cc0_scratch3).IsWhole}
  {h9 : (Memref.whole cc0_scratch4).IsWhole}
  {h10 : (Memref.whole cc0_scratch5).IsWhole}
  {h11 : (Memref.whole cc0_scratch6).IsWhole}
  {h12 : (Memref.whole cc0_scratch7).IsWhole}
  {h13 : (Memref.whole cc0_scratch8).IsWhole}
  {h14 : (Memref.whole cc0_scratch9).IsWhole}
  {h15 : (Memref.whole cc0_scratch10).IsWhole}
  {h16 : (Memref.whole cc0_scratch11).IsWhole}
  {h17 : (Memref.whole cc0_scratch12).IsWhole}
  {h20 : (Memref.whole cc0_scratch15).IsWhole}
  {h21 : (Memref.whole cc0_scratch16).IsWhole}
  {X : Vec F S2x32x262144 .f32} {I : S2x262144.Idx → BitVec 32} {q : PosShare TreeShare} {σ : St F} {v : BV F}
  {Φ : α → sProp (MT nD τ sig (HIx 3) (Elt F) ℕ UU ℕ)}

abbrev LEV : sProp 𝕄 := levAts (K (F := F)).L (K (F := F)).lev
abbrev sv (d : Dev nD) (i : grid0.Coords) (s : DmaSems sig S_) : sProp 𝕄 := semVal (thr d i, .dma s.sem) 0
/-- What tile 0 alone has. -/
def tile0 (i : grid0.Coords) (P : sProp (MT nD τ sig (HIx 3) (Elt F) ℕ UU ℕ)) : sProp 𝕄 := if (i 1).val = 0 then P else iprop(emp)

theorem cond2_iff : ∀ i : grid0.Coords, k0_cond2 i = 1#1 ↔ (i 1).val = 0 := by decide +kernel
theorem cond4_iff : ∀ i : grid0.Coords, k0_cond4 i = 1#1 ↔ (i 1).val = 0 := by decide +kernel

/-- A piece run on the buffers alone. -/
theorem W_T {p : Prog (TpuEff nD τ sig (Elt F) Λ₀ (thr d i).2) β} {Q : β → St F → Prop} {k : β → Prog (TpuEff nD τ sig (Elt F) Λ₀ (thr d i).2) α} (h : T d (cV i) (jV i) iprop(⌜True⌝) σ p Q) :
    bufs d (cV i) (jV i) σ ⊢ iprop((∀ r σ', ⌜Q r σ'⌝ -∗ bufs d (cV i) (jV i) σ' -∗ wp frame (wpE (defs₀ (F := F)) 𝒱₀ (thr d i) none) Set.univ (k r) Φ) -∗ wp frame (wpE (defs₀ (F := F)) 𝒱₀ (thr d i) none) Set.univ (p >>= k) Φ) := by
  unfold T at h
  rw [wp_bind]
  iintro HB HK
  iapply (wp_wand_r frame (wpE (defs₀ (F := F)) 𝒱₀ (thr d i) none) Set.univ)
  isplitl [HB]
  · iapply h
    isplitr; · ipureintro; trivial
    iexact HB
  iintro %a ⟨%σ', %hq, -, HB⟩
  ispecialize HK $$ %a %σ' %hq HB
  iexact HK

/-- Pass 1 over the sixteen chunks. -/
theorem W_pass1 (hI : ∀ j, (I j).toNat < 32) {arg1 v0 c16 c17 c18 : BitVec 32} {k : BitVec 32 → Prog (TpuEff nD τ sig (Elt F) Λ₀ (thr d i).2) α} {u : BitVec 32} :
    iprop(fly d i (qs q 0) X I 0 0 ∗ idle d i (qs q 1) X I 1 ∗ bufs d (cV i) (jV i) σ ∗ ow d (cV i) (jV i) W₀ O ∗ Transfers.MayWaits (thr d i) none O)
      ⊢ iprop((∀ u, iprop(idle d i (qs q 0) X I 0 ∗ idle d i (qs q 1) X I 1 ∗ bufs d (cV i) (jV i) (iter (chk1 X I (i 0) (i 1).val) 16 σ) ∗ ow d (cV i) (jV i) W₀ O) -∗ wp frame (wpE (defs₀ (F := F)) 𝒱₀ (thr d i) none) Set.univ (k u) Φ)
        -∗ wp frame (wpE (defs₀ (F := F)) 𝒱₀ (thr d i) none) Set.univ (Scf.Loop.for k0_t2_loop k0_t2_ok u (k0_t2_body i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 arg1 v0 k0_pay386 k0_pay387 io k0_pay388 c16 c17 c18) >>= k) Φ) := by
  iintro ⟨Hf, Hi, HB, HO, HM⟩ HK
  have h0 : chInv d i q X I W₀ O (chk1 X I (i 0) (i 1).val) σ 0 = iprop(fly d i (qs q 0) X I 0 0 ∗ idle d i (qs q 1) X I 1 ∗ bufs d (cV i) (jV i) σ ∗ ow d (cV i) (jV i) W₀ O ∗ Transfers.MayWaits (thr d i) none O) := by
    unfold chInv; rfl
  have h1 : chInv d i q X I W₀ O (chk1 X I (i 0) (i 1).val) σ (k0_t2_loop.trips) ⊢ iprop(idle d i (qs q 0) X I 0 ∗ idle d i (qs q 1) X I 1 ∗ bufs d (cV i) (jV i) (iter (chk1 X I (i 0) (i 1).val) 16 σ) ∗ ow d (cV i) (jV i) W₀ O) := by
    rw [show k0_t2_loop.trips = 16 from t2_trips]
    unfold chInv
    rw [if_neg (by decide)]
    iintro ⟨H1, H2, H3, H4, -⟩
    isplitl [H1]; · iexact H1
    isplitl [H2]; · iexact H2
    isplitl [H3] <;> iassumption
  iapply (Scf.wp_for_bind (I := fun n _ => chInv d i q X I W₀ O (chk1 X I (i 0) (i 1).val) σ n) (hbody := fun t u => W_t2_step hI t u σ)) $$ [Hf Hi HB HO HM]
  · rw [h0]
    isplitl [Hf]; · iexact Hf
    isplitl [Hi]; · iexact Hi
    isplitl [HB]; · iexact HB
    isplitl [HO] <;> iassumption
  iintro %u' H
  iapply HK
  iapply h1
  iexact H

/-- Pass 2 over the sixteen chunks. -/
theorem W_pass2 (hI : ∀ j, (I j).toNat < 32) {k : BitVec 32 → Prog (TpuEff nD τ sig (Elt F) Λ₀ (thr d i).2) α} {u : BitVec 32} :
    iprop(fly d i (qs q 0) X I 0 0 ∗ idle d i (qs q 1) X I 1 ∗ bufs d (cV i) (jV i) σ ∗ ow d (cV i) (jV i) W₀ O ∗ Transfers.MayWaits (thr d i) none O)
      ⊢ iprop((∀ u, iprop(idle d i (qs q 0) X I 0 ∗ idle d i (qs q 1) X I 1 ∗ bufs d (cV i) (jV i) (iter (chk2 X I (i 0) (i 1).val) 16 σ) ∗ ow d (cV i) (jV i) W₀ O) -∗ wp frame (wpE (defs₀ (F := F)) 𝒱₀ (thr d i) none) Set.univ (k u) Φ)
        -∗ wp frame (wpE (defs₀ (F := F)) 𝒱₀ (thr d i) none) Set.univ (Scf.Loop.for k0_t7_loop k0_t7_ok u (k0_t7_body i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 k0_pay386 k0_pay388) >>= k) Φ) := by
  iintro ⟨Hf, Hi, HB, HO, HM⟩ HK
  have h0 : chInv d i q X I W₀ O (chk2 X I (i 0) (i 1).val) σ 0 = iprop(fly d i (qs q 0) X I 0 0 ∗ idle d i (qs q 1) X I 1 ∗ bufs d (cV i) (jV i) σ ∗ ow d (cV i) (jV i) W₀ O ∗ Transfers.MayWaits (thr d i) none O) := by
    unfold chInv; rfl
  have h1 : chInv d i q X I W₀ O (chk2 X I (i 0) (i 1).val) σ (k0_t7_loop.trips) ⊢ iprop(idle d i (qs q 0) X I 0 ∗ idle d i (qs q 1) X I 1 ∗ bufs d (cV i) (jV i) (iter (chk2 X I (i 0) (i 1).val) 16 σ) ∗ ow d (cV i) (jV i) W₀ O) := by
    rw [show k0_t7_loop.trips = 16 from t7_trips]
    unfold chInv
    rw [if_neg (by decide)]
    iintro ⟨H1, H2, H3, H4, -⟩
    isplitl [H1]; · iexact H1
    isplitl [H2]; · iexact H2
    isplitl [H3] <;> iassumption
  iapply (Scf.wp_for_bind (I := fun n _ => chInv d i q X I W₀ O (chk2 X I (i 0) (i 1).val) σ n) (hbody := fun t u => W_t7_step hI t u σ)) $$ [Hf Hi HB HO HM]
  · rw [h0]
    isplitl [Hf]; · iexact Hf
    isplitl [Hi]; · iexact Hi
    isplitl [HB]; · iexact HB
    isplitl [HO] <;> iassumption
  iintro %u' H
  iapply HK
  iapply h1
  iexact H

variable {κ : GSem nD τ sig → ℕ}

/-- From the second meeting on: every tile takes its row and the means, and lays these out by fours. -/
theorem W_tail75 (hO : High (F := F) O) {arg1 v0 c16 c17 c18 : BitVec 32} {v1 v2 : FVec F S16 .f32} {v7 : IVec S16 32} {Φ : IVec S16 32 → sProp (MT nD τ sig (HIx 3) (Elt F) ℕ UU ℕ)}
    {w1 w3 : (Memref.whole cc0_scratch16 : Memref sig .scVector .shared S1024 .f32).view.WordExact} {w2 w4 : (Memref.whole cc0_scratch7 : Memref sig .scVector .vmem S1024 .f32).view.WordExact}
    {hsem : (DmaTarget.here (Memref.whole cc0_scratch7) : DmaTarget nD τ sig (thr d i).2 .vmem S1024 .f32).Typed .shared (.dma cc0_scoped3.sem)} :
    iprop(LEV (F := F) ∗ cells (F := F) κ d (cV i) ∗ (bigSep Finset.univ fun j => escs v d (cV i) j)
        ∗ ow d (cV i) (jV i) W₀ (owed O d (cV i) 1) ∗ toks d (cV i) (i 1) 1 ∗ A1 (F := F) d (cV i) (i 1)
        ∗ cred (tallyAt (bcell d (cV i) (i 1)) (some 1) 16) ∗ Pos (F := F) d (cV i) (i 1) 1 ∗ etok d (cV i) (i 1) 1 ∗ sv d i cc0_scoped3
        ∗ bufs d (cV i) (jV i) σ)
      ⊢ iprop((iprop(ow d (cV i) (jV i) W₀ (owed O d (cV i) 2) ∗ Pos (F := F) d (cV i) (i 1) 2 ∗ C1 (F := F) d (cV i) ∗ sv d i cc0_scoped3
            ∗ rowP d (cV i) (i 1).val (v.t1 d (cV i)) ∗ meanP d (cV i) (i 1) (v.mf d (cV i))
            ∗ bufs d (cV i) (jV i) { σ with mf := v.mf d (cV i), m4 := full fun t => gat (v.mf d (cV i)) (rix t) }) -∗ Φ (k0_pay392 io))
        -∗ wp frame (wpE (defs₀ (F := F)) 𝒱₀ (thr d i) none) Set.univ (SparseCore.subcoreBarrier sc_bar0 (grid0.bound 1) hsub0 >>= fun _ =>
          Prog.lift (.enqueueDma (p := (thr d i).2) (Memref.whole cc0_scratch16) (.here (Memref.whole cc0_scratch7)) (.dma cc0_scoped3.sem) w1 w2 hsem) >>= fun _ =>
          Prog.lift (.waitDma2 (p := (thr d i).2) cc0_scoped3.sem (Memref.whole cc0_scratch16) (Memref.whole cc0_scratch7) w3 w4) >>= fun _ =>
          Scf.Loop.for k0_t6_loop k0_t6_ok 0#32 (k0_t6_body i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 arg1 v0 v1 v2 io v7 c16 c17 c18) >>= fun _ => pure (k0_pay392 io)) Φ) := by
  iintro ⟨#HL, #Hc, #HE, HO, Ht, HA, Hcr, HP, Htk, Hs, HB⟩ HK
  iapply (W_meets hO κ 1 (by decide)) $$ [HO Ht HA Hcr HP]
  · isplitr; · iexact HL
    isplitr; · iexact Hc
    isplitl [HO]; · iexact HO
    isplitl [Ht]; · iexact Ht
    isplitl [HA]; · unfold Ar; iexact HA
    isplitl [Hcr]; · iexact Hcr
    iexact HP
  iintro ⟨HO, HP, #HC⟩
  ihave HC1 := (Entails.of_eq (show Cr (F := F) d (cV i) (1 : Fin 3).val = C1 (F := F) d (cV i) from rfl)) $$ HC
  have he : (bigSep Finset.univ fun j => escs v d (cV i) j) ⊢ escs v d (cV i) (i 1) := BI.bigSep_elim (Finset.mem_univ (i 1))
  ihave HEi := he $$ HE
  imod (take1 (v := v) (i 1)) $$ [HEi Htk] with ⟨HR, Hm⟩
  · isplitl [HEi]; · iexact HEi
    isplitr; · iexact HC1
    iexact Htk
  iapply (W_take (v.mf d (cV i)) (q := q16 (i 1))) $$ [HB Hm Hs HO]
  · isplitl [HB]; · iexact HB
    isplitl [Hm]; · iexact Hm
    isplitl [Hs]; · iexact Hs
    isplitl [HO]; · iexact HO
    iapply (mayW hO d i (cV i) 2) $$ HL
  iintro ⟨HB, Hm, Hs, HO⟩
  iapply (W_T (T_t6 (d := d) (i := i) (h2 := h2) (h3 := h3) (h4 := h4) (h5 := h5) (h6 := h6) (h7 := h7) (h8 := h8) (h9 := h9) (h10 := h10) (h11 := h11)
    (h12 := h12) (h13 := h13) (h14 := h14) (h15 := h15) (h16 := h16) (h17 := h17) (h20 := h20) (h21 := h21) (R := iprop(⌜True⌝)) (hok := k0_t6_ok) (arg1 := arg1) (v0 := v0) (v1 := v1) (v2 := v2) (v7 := v7) (c16 := c16) (c17 := c17) (c18 := c18) { σ with mf := v.mf d (cV i) })) $$ [HB]
  · iexact HB
  iintro %a %σ' %hq HB
  subst hq
  rw [wp_pure]
  imodintro
  iapply HK
  isplitl [HO]; · iexact HO
  isplitl [HP]; · iexact HP
  isplitr; · iexact HC1
  isplitl [Hs]; · iexact Hs
  isplitl [HR]; · iexact HR
  isplitl [Hm]; · iexact Hm
  iexact HB

theorem ar0 (d : Dev nD) (c : Fin τ.nSC) (j : Fin 16) : Ar (F := F) d c (0 : Fin 3).val j = A0 d c j := rfl
theorem tab1_row (ht1 : v.t1 d (cV i) = tab1 X I (i 0)) (hst : σ.st = rowOf (p1 X I (i 0) (i 1).val)) : ∀ p ∈ rowS (i 1).val, v.t1 d (cV i) p = σ.st (ix1 (p 1)) := by
  intro p hp
  simp only [rowS, Finset.mem_filter, Finset.mem_univ, true_and] at hp
  rw [ht1, hst]
  unfold tab1
  rw [hp]
theorem tab2_row (ht2 : v.t2 d (cV i) = tab2 X I (i 0)) (hst : σ.st = rowOf (p2 X I (i 0) (i 1).val)) : ∀ p ∈ rowS (i 1).val, v.t2 d (cV i) p = σ.st (ix1 (p 1)) := by
  intro p hp
  simp only [rowS, Finset.mem_filter, Finset.mem_univ, true_and] at hp
  rw [ht2, hst]
  unfold tab2
  rw [hp]

/-- What pass 1 leaves in a tile's buffers. -/
structure After1 (X : Vec F S2x32x262144 .f32) (I : S2x262144.Idx → BitVec 32) (i : grid0.Coords) (σ : St F) : Prop where
  a0 : σ.a0 = (p1 X I (i 0) (i 1).val).a0
  a1 : σ.a1 = (p1 X I (i 0) (i 1).val).a1
  a2 : σ.a2 = (p1 X I (i 0) (i 1).val).a2
  a3 : σ.a3 = (p1 X I (i 0) (i 1).val).a3

theorem ov_row {σ π σ' : St F} (h : σ' = { ovA σ π with st := full (mrg (ovA σ π).a0 (ovA σ π).a1 (ovA σ π).a2 (ovA σ π).a3) }) :
    σ'.st = rowOf π ∧ σ'.a0 = π.a0 ∧ σ'.a1 = π.a1 ∧ σ'.a2 = π.a2 ∧ σ'.a3 = π.a3 := by
  subst h; exact ⟨rfl, rfl, rfl, rfl, rfl⟩

/-- Pass 1, the row of sums, and the first meeting. -/
theorem W_first75 (hO : High (F := F) O) (hI : ∀ j, (I j).toNat < 32) (ht1 : v.t1 d (cV i) = tab1 X I (i 0)) (h0 : σ.a0 = zs) (h1 : σ.a1 = zs) (h2' : σ.a2 = zs) (h3' : σ.a3 = zs)
    {arg1 v0 c16 c17 c18 : BitVec 32} {k : PUnit → Prog (TpuEff nD τ sig (Elt F) Λ₀ (thr d i).2) α} {u : BitVec 32}
    {w1 w3 : (Memref.whole cc0_scratch6 : Memref sig .scVector .vmem S1088 .f32).view.WordExact} {w2 w4 : (rowV (k0_off48 i) (k0_off48_inb i)).view.WordExact}
    {hsem : (DmaTarget.here (rowV (k0_off48 i) (k0_off48_inb i)) : DmaTarget nD τ sig (thr d i).2 .shared S1088 .f32).Typed .vmem (.dma cc0_scoped0.sem)} :
    iprop(LEV (F := F) ∗ cells (F := F) κ d (cV i) ∗ (bigSep Finset.univ fun j => escs v d (cV i) j)
        ∗ fly d i (qs q 0) X I 0 0 ∗ idle d i (qs q 1) X I 1
        ∗ ow d (cV i) (jV i) W₀ (owed O d (cV i) 0) ∗ toks d (cV i) (i 1) 0
        ∗ cred (tallyAt (bcell d (cV i) (i 1)) (some 0) 16) ∗ Pos (F := F) d (cV i) (i 1) 0 ∗ sv d i cc0_scoped0
        ∗ (∃ g, rowP d (cV i) (i 1).val g) ∗ bufs d (cV i) (jV i) σ)
      ⊢ iprop((∀ σ', ⌜After1 X I i σ'⌝ -∗ iprop(ow d (cV i) (jV i) W₀ (owed O d (cV i) 1) ∗ Pos (F := F) d (cV i) (i 1) 1 ∗ C0 (F := F) d (cV i) ∗ sv d i cc0_scoped0
            ∗ idle d i (qs q 0) X I 0 ∗ idle d i (qs q 1) X I 1 ∗ bufs d (cV i) (jV i) σ') -∗ wp frame (wpE (defs₀ (F := F)) 𝒱₀ (thr d i) none) Set.univ (k ⟨⟩) Φ)
        -∗ wp frame (wpE (defs₀ (F := F)) 𝒱₀ (thr d i) none) Set.univ (Scf.Loop.for k0_t2_loop k0_t2_ok u (k0_t2_body i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 arg1 v0 k0_pay386 k0_pay387 io k0_pay388 c16 c17 c18) >>= fun _ =>
          Scf.Loop.for k0_t4_loop k0_t4_ok 0#32 (k0_t4_body i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 arg1 v0 k0_pay386 k0_pay387 io k0_pay388 c16 c17 c18) >>= fun _ =>
          Prog.lift (.enqueueDma (p := (thr d i).2) (Memref.whole cc0_scratch6) (.here (rowV (k0_off48 i) (k0_off48_inb i))) (.dma cc0_scoped0.sem) w1 w2 hsem) >>= fun _ =>
          Prog.lift (.waitDma2 (p := (thr d i).2) cc0_scoped0.sem (Memref.whole cc0_scratch6) (rowV (k0_off48 i) (k0_off48_inb i)) w3 w4) >>= fun _ =>
          SparseCore.subcoreBarrier sc_bar0 (grid0.bound 1) hsub0 >>= k) Φ) := by
  iintro ⟨#HL, #Hc, #HE, Hf, Hi, HO, Ht, Hcr, HP, Hs, ⟨%g, HR⟩, HB⟩ HK
  iapply (W_pass1 (q := q) hI) $$ [Hf Hi HB HO]
  · isplitl [Hf]; · iexact Hf
    isplitl [Hi]; · iexact Hi
    isplitl [HB]; · iexact HB
    isplitl [HO]; · iexact HO
    iapply (mayW hO d i (cV i) 0) $$ HL
  iintro %_ ⟨Hi0, Hi1, HB, HO⟩
  rw [show iter (chk1 X I (i 0) (i 1).val) 16 σ = ovA σ (p1 X I (i 0) (i 1).val) from pass1_ov X I (i 0) (i 1).val 16 σ h0 h1 h2' h3']
  iapply (W_T (T_t4 (d := d) (i := i) (h2 := h2) (h3 := h3) (h4 := h4) (h5 := h5) (h6 := h6) (h7 := h7) (h8 := h8) (h9 := h9) (h10 := h10) (h11 := h11)
    (h12 := h12) (h13 := h13) (h14 := h14) (h15 := h15) (h16 := h16) (h17 := h17) (h20 := h20) (h21 := h21) (R := iprop(⌜True⌝)) (hok := k0_t4_ok) (arg1 := arg1) (v0 := v0) (v2 := k0_pay387) (v7 := k0_pay388) (c16 := c16) (c17 := c17) (c18 := c18) (ovA σ (p1 X I (i 0) (i 1).val)))) $$ [HB]
  · iexact HB
  iintro %_ %σ' %hq HB
  obtain ⟨hst, e0, e1, e2, e3⟩ := ov_row hq
  have ha : After1 X I i σ' := ⟨e0, e1, e2, e3⟩
  clear hq
  iapply (W_row (d := d) (i := i) (σ := σ') (n := (i 1).val) (k0_off48_eq i) g (v.t1 d (cV i)) (tab1_row ht1 hst)) $$ [HB HR Hs HO]
  · isplitl [HB]; · iexact HB
    isplitl [HR]; · iexact HR
    isplitl [Hs]; · iexact Hs
    isplitl [HO]; · iexact HO
    iapply (mayW hO d i (cV i) 0) $$ HL
  iintro ⟨HB, HR, Hs, HO⟩
  have he : (bigSep Finset.univ fun j => escs v d (cV i) j) ⊢ escs v d (cV i) (i 1) := BI.bigSep_elim (Finset.mem_univ (i 1))
  ihave HEi := he $$ HE
  imod (put0 (v := v) (i 1)) $$ [HEi HR] with HA
  · isplitl [HEi] <;> iassumption
  iapply (W_meets hO κ 0 (by decide)) $$ [HO Ht HA Hcr HP]
  · isplitr; · iexact HL
    isplitr; · iexact Hc
    isplitl [HO]; · iexact HO
    isplitl [Ht]; · iexact Ht
    isplitl [HA]; · iapply (Entails.of_eq (show A0 (F := F) d (cV i) (i 1) = Ar (F := F) d (cV i) (0 : Fin 3).val (i 1) from rfl)); iexact HA
    isplitl [Hcr]; · iexact Hcr
    iexact HP
  iintro ⟨HO, HP, HC⟩
  ispecialize HK $$ %σ' %ha [HO HP HC Hs Hi0 Hi1 HB]
  · isplitl [HO]; · iexact HO
    isplitl [HP]; · iexact HP
    isplitl [HC]; · iapply (Entails.of_eq (show Cr (F := F) d (cV i) (0 : Fin 3).val = C0 (F := F) d (cV i) from rfl)); iexact HC
    isplitl [Hs]; · iexact Hs
    isplitl [Hi0]; · iexact Hi0
    isplitl [Hi1] <;> iassumption
  iexact HK

end Tile

end Cert.Proof.Embed
-- ==== Proof.Tile.lean ====
/-
  A tile's work, first half.
-/
module

public import proofs.«01_k».proof.Proof.Body

@[expose] public section

set_option maxRecDepth 16384

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 3) (Elt F) ℕ UU ℕ

section Tile

variable {d : Dev nD} {i : grid0.Coords} {α β : Type} {W₀ : Waits sig (HIx 3)} {O : CellTallies nD τ sig (HIx 3)}
  {h2 : (Memref.whole main_v0_scv).IsWhole}
  {h3 : (Memref.whole main_v1_scv).IsWhole}
  {h4 : (Memref.whole main_v2_scv).IsWhole}
  {h5 : (Memref.whole cc0_scratch0).IsWhole}
  {h6 : (Memref.whole cc0_scratch1).IsWhole}
  {h7 : (Memref.whole cc0_scratch2).IsWhole}
  {h8 : (Memref.whole cc0_scratch3).IsWhole}
  {h9 : (Memref.whole cc0_scratch4).IsWhole}
  {h10 : (Memref.whole cc0_scratch5).IsWhole}
  {h11 : (Memref.whole cc0_scratch6).IsWhole}
  {h12 : (Memref.whole cc0_scratch7).IsWhole}
  {h13 : (Memref.whole cc0_scratch8).IsWhole}
  {h14 : (Memref.whole cc0_scratch9).IsWhole}
  {h15 : (Memref.whole cc0_scratch10).IsWhole}
  {h16 : (Memref.whole cc0_scratch11).IsWhole}
  {h17 : (Memref.whole cc0_scratch12).IsWhole}
  {h20 : (Memref.whole cc0_scratch15).IsWhole}
  {h21 : (Memref.whole cc0_scratch16).IsWhole}
  {X : Vec F S2x32x262144 .f32} {I : S2x262144.Idx → BitVec 32} {q : PosShare TreeShare} {σ : St F} {v : BV F}
  {Φ : α → sProp (MT nD τ sig (HIx 3) (Elt F) ℕ UU ℕ)}

variable {κ : GSem nD τ sig → ℕ}

theorem A1_zero {c : Fin τ.nSC} {j : Fin 16} (h : j.val = 0) : iprop(C0 (F := F) d c ∗ M1 (F := F) d c) ⊢ A1 (F := F) d c j := by
  have e : j = 0 := Fin.ext h
  subst e
  unfold A1
  rw [if_pos rfl]
theorem A1_pos {c : Fin τ.nSC} {j : Fin 16} (h : ¬ j.val = 0) : C0 (F := F) d c ⊢ A1 (F := F) d c j := by
  unfold A1
  rw [if_neg (fun e => h (congrArg Fin.val e))]
  exact (BI.sep_emp (P := C0 (F := F) d c)).2

theorem via {A B : sProp (MT nD τ sig (HIx 3) (Elt F) ℕ UU ℕ)} (h : A ⊢ B) : A ⊢ B := h

/-- What the first half leaves in a tile's buffers. -/
structure Mid (v : BV F) (X : Vec F S2x32x262144 .f32) (I : S2x262144.Idx → BitVec 32) (d : Dev nD) (i : grid0.Coords) (σ : St F) : Prop where
  acc : After1 X I i σ
  mf : σ.mf = v.mf d (cV i)
  m4 : σ.m4 = full fun t => gat (v.mf d (cV i)) (rix t)
  rd : (i 1).val = 0 → σ.rd = rdV X I (i 0)

set_option maxHeartbeats 1000000 in
/-- The first half of a tile's work. -/
theorem W_p75 (hO : High (F := F) O) (hI : ∀ j, (I j).toNat < 32) (ht1 : v.t1 d (cV i) = tab1 X I (i 0)) (hmf : v.mf d (cV i) = mfV X I (i 0))
    (h0 : σ.a0 = zs) (h1 : σ.a1 = zs) (h2' : σ.a2 = zs) (h3' : σ.a3 = zs) {arg1 v0 : BitVec 32} :
    iprop(LEV (F := F) ∗ cells (F := F) κ d (cV i) ∗ (bigSep Finset.univ fun j => escs v d (cV i) j)
        ∗ fly d i (qs q 0) X I 0 0 ∗ idle d i (qs q 1) X I 1
        ∗ ow d (cV i) (jV i) W₀ (owed O d (cV i) 0) ∗ toks d (cV i) (i 1) 0 ∗ toks d (cV i) (i 1) 1
        ∗ cred (tallyAt (bcell d (cV i) (i 1)) (some 0) 16) ∗ cred (tallyAt (bcell d (cV i) (i 1)) (some 1) 16) ∗ Pos (F := F) d (cV i) (i 1) 0
        ∗ etok d (cV i) (i 1) 1 ∗ tile0 i (bigSep Finset.univ fun j => etok d (cV i) j 0)
        ∗ sv d i cc0_scoped0 ∗ sv d i cc0_scoped1 ∗ sv d i cc0_scoped2 ∗ sv d i cc0_scoped3
        ∗ (∃ g, rowP d (cV i) (i 1).val g) ∗ tile0 i iprop(∃ g : Vec F S1024 .f32, smLoc d (cV i) ↦{fullShare} (g : Buf (Elt F) (smLoc d (cV i)))) ∗ bufs d (cV i) (jV i) σ)
      ⊢ wp frame (wpE (defs₀ (F := F)) 𝒱₀ (thr d i) none) Set.univ (k0_part75 i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6 arg1 v0 k0_pay386 k0_pay387 io k0_pay388 0#32 0#32 1#32) (fun r =>
        iprop(⌜r = k0_pay392 io⌝ ∗ idle d i (qs q 0) X I 0 ∗ idle d i (qs q 1) X I 1
          ∗ ow d (cV i) (jV i) W₀ (owed O d (cV i) 2) ∗ Pos (F := F) d (cV i) (i 1) 2 ∗ C1 (F := F) d (cV i)
          ∗ sv d i cc0_scoped0 ∗ sv d i cc0_scoped1 ∗ sv d i cc0_scoped2 ∗ sv d i cc0_scoped3
          ∗ rowP d (cV i) (i 1).val (v.t1 d (cV i)) ∗ meanP d (cV i) (i 1) (v.mf d (cV i))
          ∗ ∃ σ', ⌜Mid v X I d i σ'⌝ ∗ bufs d (cV i) (jV i) σ')) := by
  rw [k0_part75_eq_skeleton]
  unfold k0_part75_skel
  dsimp only
  by_cases hc : k0_cond2 i = 1#1
  · have hi : (i 1).val = 0 := (cond2_iff i).mp hc
    rw [dif_pos hc]
    unfold tile0
    rw [if_pos hi, if_pos hi]
    iintro ⟨#HL, #Hc, #HE, Hf, Hi, HO, Ht0, Ht1, Hcr0, Hcr1, HP, Htk, Htk0, Hs0, Hs1, Hs2, Hs3, HR, HM, HB⟩
    iapply (W_first75 (q := q) hO hI ht1 h0 h1 h2' h3') $$ [Hf Hi HO Ht0 Hcr0 HP Hs0 HR HB]
    · isplitr; · iexact HL
      isplitr; · iexact Hc
      isplitr; · iexact HE
      isplitl [Hf]; · iexact Hf
      isplitl [Hi]; · iexact Hi
      isplitl [HO]; · iexact HO
      isplitl [Ht0]; · iexact Ht0
      isplitl [Hcr0]; · iexact Hcr0
      isplitl [HP]; · iexact HP
      isplitl [Hs0]; · iexact Hs0
      isplitl [HR]; · iexact HR
      iexact HB
    iintro %σ1 %ha ⟨HO, HP, #HC, Hs0, Hi0, Hi1, HB⟩
    imod (take0 (v := v)) $$ [Htk0] with Hsh
    · isplitr; · iexact HE
      isplitr; · iexact HC
      iexact Htk0
    obtain ⟨a0, a1, a2, a3, st, mf, m4, mt, rd, sa, ob⟩ := σ1
    iapply (via (A := iprop((LEV (F := F) ∗ cells (F := F) κ d (cV i) ∗ (bigSep Finset.univ fun j => escs v d (cV i) j) ∗ C0 (F := F) d (cV i)
        ∗ (∃ g : Vec F S1024 .f32, smLoc d (cV i) ↦{fullShare} (g : Buf (Elt F) (smLoc d (cV i)))) ∗ sv d i cc0_scoped2
        ∗ idle d i (qs q 0) X I 0 ∗ idle d i (qs q 1) X I 1 ∗ sv d i cc0_scoped0 ∗ sv d i cc0_scoped3 ∗ toks d (cV i) (i 1) 1
        ∗ cred (tallyAt (bcell d (cV i) (i 1)) (some 1) 16) ∗ Pos (F := F) d (cV i) (i 1) 1 ∗ etok d (cV i) (i 1) 1)
      ∗ cpR d (cV i) (jV i) cc0_scoped1.sem W₀ (owed O d (cV i) 1) (v.t1 d (cV i)) ∗ bufs d (cV i) (jV i) ⟨a0, a1, a2, a3, st, mf, m4, mt, rd, sa, ob⟩)) ?_)
    rotate_left
    · isplitr [Hsh Hs1 HO HB]
      · isplitr; · iexact HL
        isplitr; · iexact Hc
        isplitr; · iexact HE
        isplitr; · iexact HC
        isplitl [HM]; · iexact HM
        isplitl [Hs2]; · iexact Hs2
        isplitl [Hi0]; · iexact Hi0
        isplitl [Hi1]; · iexact Hi1
        isplitl [Hs0]; · iexact Hs0
        isplitl [Hs3]; · iexact Hs3
        isplitl [Ht1]; · iexact Ht1
        isplitl [Hcr1]; · iexact Hcr1
        isplitl [HP]; · iexact HP
        iexact Htk
      isplitl [Hsh Hs1 HO]
      · unfold cpR
        isplitl [Hsh]; · iexact Hsh
        isplitl [Hs1]; · iexact Hs1
        isplitl [HO]; · iexact HO
        iapply (mayW hO d i (cV i) 1) $$ HL
      iexact HB
    refine W_seqX (T_part9 hc) ?_
    rintro _ _ ⟨hw, rfl, rfl⟩
    refine W_seqX (T_part10 hc hw) ?_
    rintro _ _ ⟨rfl, rfl⟩
    refine W_seqX (T_part11 hc) ?_
    rintro _ _ ⟨rfl, rfl⟩
    refine W_seqX (T_part12 hc) ?_
    rintro _ _ ⟨rfl, rfl⟩
    refine W_seqX (T_part13 hc) ?_
    rintro _ _ ⟨hw, rfl, rfl⟩
    refine W_seqX (T_part14 hc hw) ?_
    rintro _ _ ⟨rfl, rfl⟩
    refine W_seqX (T_part15 hc) ?_
    rintro _ _ ⟨rfl, rfl⟩
    refine W_seqX (T_part16 hc) ?_
    rintro _ _ ⟨rfl, rfl⟩
    refine W_seqX (T_part17 hc) ?_
    rintro _ _ ⟨hw, rfl, rfl⟩
    refine W_seqX (T_part18 hc hw) ?_
    rintro _ _ ⟨rfl, rfl⟩
    refine W_seqX (T_part19 hc) ?_
    rintro _ _ ⟨rfl, rfl⟩
    refine W_seqX (T_part20 hc) ?_
    rintro _ _ ⟨rfl, rfl⟩
    refine W_seqX (T_part21 hc) ?_
    rintro _ _ ⟨hw, rfl, rfl⟩
    refine W_seqX (T_part22 hc hw) ?_
    rintro _ _ ⟨rfl, rfl⟩
    refine W_seqX (T_part23 hc) ?_
    rintro _ _ ⟨rfl, rfl⟩
    refine W_seqX (T_part24 hc) ?_
    rintro _ _ ⟨rfl, rfl⟩
    refine W_seqX (T_part25 hc) ?_
    rintro _ _ ⟨hw, rfl, rfl⟩
    generalize hf : v.t1 d (cV i) = f
    refine W_seqX (Q := fun r σ' => r = gat (full (redW f)) (broadcast S16 1055#32) ∧ σ' = ⟨a0, a1, a2, a3, st, blk (meanW (full (redW f))) 63 mf, m4, mt, full (redW f), f, ob⟩)
      (Tgat_rd_last ⟨rfl, rfl⟩) ?_
    rintro _ _ ⟨rfl, rfl⟩
    refine W_seqX (Q := fun r σ' => r = seg (full (redW f)) 1008 ∧ σ' = ⟨a0, a1, a2, a3, st, blk (meanW (full (redW f))) 63 mf, m4, mt, full (redW f), f, ob⟩)
      (Tseg_rd rfl (k := pure) (T_pure ⟨rfl, rfl⟩)) ?_
    rintro _ _ ⟨rfl, rfl⟩
    refine W_seqX (Q := fun r σ' => σ' = ⟨a0, a1, a2, a3, st, blk (meanW (full (redW f))) 63 mf, m4, mt, full (redW f), f, ob⟩)
      (Tseg_mf rfl (k := pure) (T_pure rfl)) ?_
    rintro _ _ rfl
    refine W_seqX (Q := fun r σ' => σ' = ⟨a0, a1, a2, a3, st, blk (meanW (full (redW f))) 64 mf, m4, mt, full (redW f), f, ob⟩)
      (Tblk_mf (meanW (full (redW f))) 63 rfl rfl (k := pure) (T_pure rfl)) ?_
    rintro _ _ rfl
    rw [show blk (meanW (full (redW f))) 64 mf = full (meanW (full (redW f))) from blk_full (by decide)]
    have hg : full (meanW (full (redW f))) = v.mf d (cV i) := by rw [hmf, ← hf, ht1]; rfl
    rw [hg]
    unfold cpR
    iintro ⟨⟨#HL, #Hc, #HE, #HC, ⟨%g, Hg⟩, Hs2, Hi0, Hi1, Hs0, Hs3, Ht1, Hcr1, HP, Htk⟩, ⟨Hsh, Hs1, HO, #HMW⟩, HB⟩
    iapply (W_put g) $$ [Hg Hs2 HO HB]
    · isplitl [HB]; · iexact HB
      isplitl [Hg]; · iexact Hg
      isplitl [Hs2]; · iexact Hs2
      isplitl [HO]; · iexact HO
      iexact HMW
    iintro ⟨HB, Hg, Hs2, HO⟩
    dsimp only
    rw [← hf]
    imod (put1 (v := v)) $$ [Hsh Hg] with #HM1
    · isplitr; · iexact HE
      isplitl [Hsh]; · iexact Hsh
      iexact Hg
    have hA : iprop(C0 (F := F) d (cV i) ∗ M1 (F := F) d (cV i)) ⊢ A1 (F := F) d (cV i) (i 1) := A1_zero hi
    iapply (W_tail75 (v := v) hO) $$ [HO Ht1 Hcr1 HP Htk Hs3 HB]
    · isplitr; · iexact HL
      isplitr; · iexact Hc
      isplitr; · iexact HE
      isplitl [HO]; · iexact HO
      isplitl [Ht1]; · iexact Ht1
      isplitr
      · iapply hA
        isplitr; · iexact HC
        iexact HM1
      isplitl [Hcr1]; · iexact Hcr1
      isplitl [HP]; · iexact HP
      isplitl [Htk]; · iexact Htk
      isplitl [Hs3]; · iexact Hs3
      iexact HB
    iintro ⟨HO, HP, HC1, Hs3, HR, Hm, HB⟩
    isplitr; · ipureintro; rfl
    isplitl [Hi0]; · iexact Hi0
    isplitl [Hi1]; · iexact Hi1
    isplitl [HO]; · iexact HO
    isplitl [HP]; · iexact HP
    isplitl [HC1]; · iexact HC1
    isplitl [Hs0]; · iexact Hs0
    isplitl [Hs1]; · iexact Hs1
    isplitl [Hs2]; · iexact Hs2
    isplitl [Hs3]; · iexact Hs3
    isplitl [HR]; · iexact HR
    isplitl [Hm]; · iexact Hm
    iexists _
    isplitr; swap; · iexact HB
    ipureintro
    exact ⟨⟨ha.a0, ha.a1, ha.a2, ha.a3⟩, rfl, rfl, fun _ => by rw [ht1]; rfl⟩
  · have hi : ¬ (i 1).val = 0 := fun h => hc ((cond2_iff i).mpr h)
    rw [dif_neg hc]
    unfold tile0
    rw [if_neg hi, if_neg hi]
    iintro ⟨#HL, #Hc, #HE, Hf, Hi, HO, Ht0, Ht1, Hcr0, Hcr1, HP, Htk, -, Hs0, Hs1, Hs2, Hs3, HR, -, HB⟩
    iapply (W_first75 (q := q) hO hI ht1 h0 h1 h2' h3') $$ [Hf Hi HO Ht0 Hcr0 HP Hs0 HR HB]
    · isplitr; · iexact HL
      isplitr; · iexact Hc
      isplitr; · iexact HE
      isplitl [Hf]; · iexact Hf
      isplitl [Hi]; · iexact Hi
      isplitl [HO]; · iexact HO
      isplitl [Ht0]; · iexact Ht0
      isplitl [Hcr0]; · iexact Hcr0
      isplitl [HP]; · iexact HP
      isplitl [Hs0]; · iexact Hs0
      isplitl [HR]; · iexact HR
      iexact HB
    iintro %σ1 %ha ⟨HO, HP, #HC, Hs0, Hi0, Hi1, HB⟩
    have hA : C0 (F := F) d (cV i) ⊢ A1 (F := F) d (cV i) (i 1) := A1_pos hi
    iapply (W_tail75 (v := v) hO) $$ [HO Ht1 Hcr1 HP Htk Hs3 HB]
    · isplitr; · iexact HL
      isplitr; · iexact Hc
      isplitr; · iexact HE
      isplitl [HO]; · iexact HO
      isplitl [Ht1]; · iexact Ht1
      isplitr
      · iapply hA
        iexact HC
      isplitl [Hcr1]; · iexact Hcr1
      isplitl [HP]; · iexact HP
      isplitl [Htk]; · iexact Htk
      isplitl [Hs3]; · iexact Hs3
      iexact HB
    iintro ⟨HO, HP, HC1, Hs3, HR, Hm, HB⟩
    isplitr; · ipureintro; rfl
    isplitl [Hi0]; · iexact Hi0
    isplitl [Hi1]; · iexact Hi1
    isplitl [HO]; · iexact HO
    isplitl [HP]; · iexact HP
    isplitl [HC1]; · iexact HC1
    isplitl [Hs0]; · iexact Hs0
    isplitl [Hs1]; · iexact Hs1
    isplitl [Hs2]; · iexact Hs2
    isplitl [Hs3]; · iexact Hs3
    isplitl [HR]; · iexact HR
    isplitl [Hm]; · iexact Hm
    iexists _
    isplitr; swap; · iexact HB
    ipureintro
    exact ⟨⟨ha.a0, ha.a1, ha.a2, ha.a3⟩, rfl, rfl, fun h => absurd h hi⟩

end Tile

end Cert.Proof.Embed
-- ==== Proof.Tile2.lean ====
/-
  A tile's work, whole.
-/
module

public import proofs.«01_k».proof.Proof.Tile

@[expose] public section

set_option maxRecDepth 16384

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 3) (Elt F) ℕ UU ℕ

section Tile

variable {d : Dev nD} {i : grid0.Coords} {α β : Type} {W₀ : Waits sig (HIx 3)} {O : CellTallies nD τ sig (HIx 3)}
  {h2 : (Memref.whole main_v0_scv).IsWhole}
  {h3 : (Memref.whole main_v1_scv).IsWhole}
  {h4 : (Memref.whole main_v2_scv).IsWhole}
  {h5 : (Memref.whole cc0_scratch0).IsWhole}
  {h6 : (Memref.whole cc0_scratch1).IsWhole}
  {h7 : (Memref.whole cc0_scratch2).IsWhole}
  {h8 : (Memref.whole cc0_scratch3).IsWhole}
  {h9 : (Memref.whole cc0_scratch4).IsWhole}
  {h10 : (Memref.whole cc0_scratch5).IsWhole}
  {h11 : (Memref.whole cc0_scratch6).IsWhole}
  {h12 : (Memref.whole cc0_scratch7).IsWhole}
  {h13 : (Memref.whole cc0_scratch8).IsWhole}
  {h14 : (Memref.whole cc0_scratch9).IsWhole}
  {h15 : (Memref.whole cc0_scratch10).IsWhole}
  {h16 : (Memref.whole cc0_scratch11).IsWhole}
  {h17 : (Memref.whole cc0_scratch12).IsWhole}
  {h20 : (Memref.whole cc0_scratch15).IsWhole}
  {h21 : (Memref.whole cc0_scratch16).IsWhole}
  {X : Vec F S2x32x262144 .f32} {I : S2x262144.Idx → BitVec 32} {q : PosShare TreeShare} {σ : St F} {v : BV F}
  {Φ : α → sProp (MT nD τ sig (HIx 3) (Elt F) ℕ UU ℕ)}

variable {κ : GSem nD τ sig → ℕ}

theorem ovM_row {σ π σ' : St F} (h : σ' = { ovM σ π with st := full (mrg (ovM σ π).a0 (ovM σ π).a1 (ovM σ π).a2 (ovM σ π).a3) }) :
    σ'.st = rowOf π ∧ σ'.mf = σ.mf ∧ σ'.rd = σ.rd := by
  subst h; exact ⟨rfl, rfl, rfl⟩

/-- The wait for the result row. -/
theorem W_last6 {R : sProp 𝕄} {k : PUnit → Prog (TpuEff nD τ sig (Elt F) Λ₀ (thr d i).2) α} {off : Fin 2 → ℕ} {inb : ∀ a, off a + S1x16.size a ≤ S2x16.size a}
    {w1 : (Memref.whole cc0_scratch12 : Memref sig .scVector .vmem S16 .f32).view.WordExact} {w2 : (outR off inb).view.WordExact} :
    iprop(Transfers.Flight countersEmb (thr d i) (.dma cc0_scoped6.sem) none ((outR off inb).view.dmaCredit) R ∗ ow d (cV i) (jV i) W₀ O ∗ Transfers.MayWaits (thr d i) none O)
      ⊢ iprop((iprop(R ∗ sv d i cc0_scoped6 ∗ ow d (cV i) (jV i) W₀ O) -∗ wp frame (wpE (defs₀ (F := F)) 𝒱₀ (thr d i) none) Set.univ (k ⟨⟩) Φ)
        -∗ wp frame (wpE (defs₀ (F := F)) 𝒱₀ (thr d i) none) Set.univ (Prog.lift (.waitDma2 (p := (thr d i).2) cc0_scoped6.sem (Memref.whole cc0_scratch12) (outR off inb) w1 w2) >>= k) Φ) := by
  change _ ⊢ iprop(_ -∗ wp _ _ _ (.op (.waitDma2 (p := (thr d i).2) cc0_scoped6.sem (Memref.whole cc0_scratch12) (outR off inb) w1 w2) k) _)
  unfold ow
  iintro ⟨Hfl, ⟨%W, %hW, HO⟩, #HM⟩ HK
  iapply (Transfers.wp_waitLocalO countersEmb 𝒱₀ (thr d i) none none rfl) $$ [Hfl HO]
  · isplitl [Hfl]; · iexact Hfl
    isplitl [HO]; · iexact HO
    iapply (Transfers.MayWaits.elim (SemLoc.dma cc0_scoped6.sem)) $$ HM
  iintro ⟨HR, Hv, HO⟩
  iapply HK
  isplitl [HR]; · iexact HR
  isplitl [Hv]; · iexact Hv
  iexists _; isplitr; swap; · iexact HO
  ipureintro; intro p _; exact .inr (em _)

theorem tile0_eq {P : sProp (MT nD τ sig (HIx 3) (Elt F) ℕ UU ℕ)} (h : (i 1).val = 0) : tile0 i P = P := if_pos h

theorem tile0_ne {P : sProp (MT nD τ sig (HIx 3) (Elt F) ℕ UU ℕ)} (h : ¬ (i 1).val = 0) : tile0 i P = iprop(emp) := if_neg h

/-- What tile 0 has at the end. -/
def fin0 (v : BV F) (X : Vec F S2x32x262144 .f32) (I : S2x262144.Idx → BitVec 32) (d : Dev nD) (i : grid0.Coords) : sProp 𝕄 :=
  iprop((shLoc d (cV i) ↦{fullShare} (v.t2 d (cV i) : Buf (Elt F) (shLoc d (cV i)))) ∗ (smLoc d (cV i) ↦{fullShare} (v.mf d (cV i) : Buf (Elt F) (smLoc d (cV i))))
    ∗ ((thr d i).loc main_v2_scv ↦[outS (i 0).val]{fullShare} outP (outV X I (i 0))))

set_option maxHeartbeats 1000000 in
/-- A tile's work, whole. -/
theorem W_tile (hO : High (F := F) O) (hI : ∀ j, (I j).toNat < 32) (ht1 : v.t1 d (cV i) = tab1 X I (i 0)) (ht2 : v.t2 d (cV i) = tab2 X I (i 0)) (hmf : v.mf d (cV i) = mfV X I (i 0)) :
    iprop(LEV (F := F) ∗ cells (F := F) κ d (cV i) ∗ (bigSep Finset.univ fun j => escs v d (cV i) j)
        ∗ idle d i (qs q 0) X I 0 ∗ idle d i (qs q 1) X I 1
        ∗ ow d (cV i) (jV i) W₀ (owed O d (cV i) 0) ∗ (toks d (cV i) (i 1) 0 ∗ toks d (cV i) (i 1) 1 ∗ toks d (cV i) (i 1) 2)
        ∗ (cred (tallyAt (bcell d (cV i) (i 1)) (some 0) 16) ∗ cred (tallyAt (bcell d (cV i) (i 1)) (some 1) 16) ∗ cred (tallyAt (bcell d (cV i) (i 1)) (some 2) 16))
        ∗ Pos (F := F) d (cV i) (i 1) 0
        ∗ etok d (cV i) (i 1) 1 ∗ tile0 i (bigSep Finset.univ fun j => etok d (cV i) j 0) ∗ tile0 i (bigSep Finset.univ fun j => etok d (cV i) j 2)
        ∗ (sv d i cc0_scoped0 ∗ sv d i cc0_scoped1 ∗ sv d i cc0_scoped2 ∗ sv d i cc0_scoped3 ∗ sv d i cc0_scoped4 ∗ sv d i cc0_scoped5 ∗ sv d i cc0_scoped6)
        ∗ (∃ g, rowP d (cV i) (i 1).val g) ∗ tile0 i iprop(∃ g : Vec F S1024 .f32, smLoc d (cV i) ↦{fullShare} (g : Buf (Elt F) (smLoc d (cV i))))
        ∗ tile0 i iprop(∃ g : Vec F S2x16 .f32, (thr d i).loc main_v2_scv ↦[outS (i 0).val]{fullShare} g)
        ∗ bufs d (cV i) (jV i) σ)
      ⊢ wp frame (wpE (defs₀ (F := F)) 𝒱₀ (thr d i) none) Set.univ (cc0__sc_loss_body i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6) (fun _ =>
        iprop(idle d i (qs q 0) X I 0 ∗ idle d i (qs q 1) X I 1
          ∗ ow d (cV i) (jV i) W₀ O ∗ semVal (bcell d (cV i) (i 1)) 0
          ∗ (sv d i cc0_scoped0 ∗ sv d i cc0_scoped1 ∗ sv d i cc0_scoped2 ∗ sv d i cc0_scoped3 ∗ sv d i cc0_scoped4 ∗ sv d i cc0_scoped5 ∗ sv d i cc0_scoped6)
          ∗ tile0 i (fin0 v X I d i) ∗ ∃ σ', bufs d (cV i) (jV i) σ')) := by
  rw [cc0__sc_loss_body_eq_skeleton]
  unfold cc0__sc_loss_body_skel
  dsimp only
  iintro ⟨#HL, #Hc, #HE, Hi0, Hi1, HO, ⟨Ht0, Ht1, Ht2⟩, ⟨Hcr0, Hcr1, Hcr2⟩, HP, Htk, Htk0, Htk2, ⟨Hs0, Hs1, Hs2, Hs3, Hs4, Hs5, Hs6⟩, HR, HM, Hout, HB⟩
  rw [wp_bind]
  iapply (wp_wand_r frame (wpE (defs₀ (F := F)) 𝒱₀ (thr d i) none) Set.univ)
  isplitl [Hi0 HB]
  · iapply (W_p74 (q := qs q 0) (X := X) (I := I) (σ := σ))
    isplitl [Hi0] <;> iassumption
  iintro %r ⟨%hr, Hf, HB⟩
  subst hr
  dsimp only
  rw [wp_bind]
  iapply (wp_wand_r frame (wpE (defs₀ (F := F)) 𝒱₀ (thr d i) none) Set.univ)
  isplitr [Ht2 Hcr2 Htk2 Hs4 Hs5 Hs6 Hout]
  · iapply (W_p75 (q := q) (X := X) (I := I) (v := v) (κ := κ) (W₀ := W₀) (σ := { σ with a0 := full (fun _ => k0_pay386), a1 := full (fun _ => k0_pay386), a2 := full (fun _ => k0_pay386), a3 := full (fun _ => k0_pay386) }) hO hI ht1 hmf rfl rfl rfl rfl)
    isplitr; · iexact HL
    isplitr; · iexact Hc
    isplitr; · iexact HE
    isplitl [Hf]; · iexact Hf
    isplitl [Hi1]; · iexact Hi1
    isplitl [HO]; · iexact HO
    isplitl [Ht0]; · iexact Ht0
    isplitl [Ht1]; · iexact Ht1
    isplitl [Hcr0]; · iexact Hcr0
    isplitl [Hcr1]; · iexact Hcr1
    isplitl [HP]; · iexact HP
    isplitl [Htk]; · iexact Htk
    isplitl [Htk0]; · iexact Htk0
    isplitl [Hs0]; · iexact Hs0
    isplitl [Hs1]; · iexact Hs1
    isplitl [Hs2]; · iexact Hs2
    isplitl [Hs3]; · iexact Hs3
    isplitl [HR]; · iexact HR
    isplitl [HM]; · iexact HM
    iexact HB
  iintro %r ⟨%hr, Hi0, Hi1, HO, HP, #HC1, Hs0, Hs1, Hs2, Hs3, HR, Hm, ⟨%σ1, %hσ, HB⟩⟩
  subst hr
  iapply (W_fetch (d := d) (i := i) (q := qs q 0) (X := X) (I := I) (s := 0) (t := 0) (by decide) rfl rfl rfl (k0_off2_eq i) rfl (k0_off3_eq i)) $$ Hi0
  iintro Hf
  iapply (W_pass2 (q := q) hI) $$ [Hf Hi1 HB HO]
  · isplitl [Hf]; · iexact Hf
    isplitl [Hi1]; · iexact Hi1
    isplitl [HB]; · iexact HB
    isplitl [HO]; · iexact HO
    iapply (mayW hO d i (cV i) 2) $$ HL
  iintro %_ ⟨Hi0, Hi1, HB, HO⟩
  rw [show iter (chk2 X I (i 0) (i 1).val) 16 σ1 = ovM σ1 (p2 X I (i 0) (i 1).val) from
    pass2_ov X I (i 0) (i 1).val 16 σ1 { p1 X I (i 0) (i 1).val with m4 := m4V X I (i 0) } hσ.acc.a0 hσ.acc.a1 hσ.acc.a2 hσ.acc.a3 (hσ.m4.trans (by rw [hmf]; rfl))]
  iapply (W_T (T_t9 (d := d) (i := i) (h2 := h2) (h3 := h3) (h4 := h4) (h5 := h5) (h6 := h6) (h7 := h7) (h8 := h8) (h9 := h9) (h10 := h10) (h11 := h11)
    (h12 := h12) (h13 := h13) (h14 := h14) (h15 := h15) (h16 := h16) (h17 := h17) (h20 := h20) (h21 := h21) (R := iprop(⌜True⌝)) (hok := k0_t9_ok) (ovM σ1 (p2 X I (i 0) (i 1).val)))) $$ [HB]
  · iexact HB
  iintro %_ %σ2 %hq HB
  obtain ⟨hst, hm2, hr2⟩ := ovM_row hq
  clear hq
  iapply (W_row (d := d) (i := i) (σ := σ2) (n := (i 1).val) (k0_off48_eq i) (v.t1 d (cV i)) (v.t2 d (cV i)) (tab2_row ht2 hst)) $$ [HB HR Hs4 HO]
  · isplitl [HB]; · iexact HB
    isplitl [HR]; · iexact HR
    isplitl [Hs4]; · iexact Hs4
    isplitl [HO]; · iexact HO
    iapply (mayW hO d i (cV i) 2) $$ HL
  iintro ⟨HB, HR, Hs4, HO⟩
  have he : (bigSep Finset.univ fun j => escs v d (cV i) j) ⊢ escs v d (cV i) (i 1) := BI.bigSep_elim (Finset.mem_univ (i 1))
  ihave HEi := he $$ HE
  imod (put2 (v := v) (i 1)) $$ [HEi HR Hm] with #HA
  · isplitl [HEi]; · iexact HEi
    isplitl [HR] <;> iassumption
  iapply (W_lasts hO κ) $$ [HO Ht2 Hcr2 HP]
  · isplitr; · iexact HL
    isplitr; · iexact Hc
    isplitl [HO]; · iexact HO
    isplitl [Ht2]; · iexact Ht2
    isplitr
    · unfold A2
      isplitr; · iexact HC1
      iexact HA
    isplitl [Hcr2]; · iexact Hcr2
    iexact HP
  iintro ⟨HO, Hv, #HC2⟩
  by_cases hc : k0_cond4 i = 1#1
  · have hi : (i 1).val = 0 := (cond4_iff i).mp hc
    rw [dif_pos hc]
    ihave Hout := (Entails.of_eq (tile0_eq hi)) $$ Hout
    ihave Htk2 := (Entails.of_eq (tile0_eq hi)) $$ Htk2
    icases Hout with ⟨%g, Hout⟩
    imod (take2 (v := v)) $$ [Htk2] with ⟨Hsh, Hsm⟩
    · isplitr; · iexact HE
      isplitr; · iexact HC2
      iexact Htk2
    have hrd : σ2.rd = rdV X I (i 0) := hr2.trans (hσ.rd hi)
    have hmf2 : σ2.mf = mfV X I (i 0) := hm2.trans (hσ.mf.trans hmf)
    obtain ⟨a0, a1, a2, a3, st, mf, m4, mt, rd, sa, ob⟩ := σ2
    dsimp only at hrd hmf2
    subst hrd hmf2
    rw [wp_bind]
    iapply (wp_wand_r frame (wpE (defs₀ (F := F)) 𝒱₀ (thr d i) none) Set.univ)
    isplitl [Hout Hs6 Hsh Hs5 HO HB]
    · iapply (W_fin (W₀ := W₀) (O := O) (X := iprop(⌜True⌝)) (f := v.t2 d (cV i)) hc g)
      isplitl [Hout Hs6]
      · isplitr; · ipureintro; trivial
        isplitl [Hout] <;> iassumption
      isplitl [Hsh Hs5 HO]
      · unfold cpR
        isplitl [Hsh]; · iexact Hsh
        isplitl [Hs5]; · iexact Hs5
        isplitl [HO]; · iexact HO
        iapply (mayW hO d i (cV i) 3) $$ HL
      iexact HB
    iintro %_ ⟨-, HC, Hfl, HB⟩
    unfold cpR
    icases HC with ⟨Hsh, Hs5, HO, #HM⟩
    iapply (W_last6 (d := d) (i := i)) $$ [Hfl HO]
    · isplitl [Hfl]; · iexact Hfl
      isplitl [HO]; · iexact HO
      iexact HM
    iintro ⟨⟨Hout, Hob⟩, Hs6, HO⟩
    rw [wp_pure]
    imodintro
    isplitl [Hi0]; · iexact Hi0
    isplitl [Hi1]; · iexact Hi1
    isplitl [HO]; · iexact HO
    isplitl [Hv]; · iexact Hv
    isplitl [Hs0 Hs1 Hs2 Hs3 Hs4 Hs5 Hs6]
    · isplitl [Hs0]; · iexact Hs0
      isplitl [Hs1]; · iexact Hs1
      isplitl [Hs2]; · iexact Hs2
      isplitl [Hs3]; · iexact Hs3
      isplitl [Hs4]; · iexact Hs4
      isplitl [Hs5] <;> iassumption
    isplitl [Hsh Hsm Hout]
    · iapply (Entails.of_eq (tile0_eq hi).symm)
      unfold fin0
      isplitl [Hsh]; · iexact Hsh
      isplitl [Hsm]; · iexact Hsm
      rw [ht2]
      iexact Hout
    iapply HB $$ %_ Hob
  · have hi : ¬ (i 1).val = 0 := fun h => hc ((cond4_iff i).mpr h)
    rw [dif_neg hc]
    rw [wp_pure]
    imodintro
    isplitl [Hi0]; · iexact Hi0
    isplitl [Hi1]; · iexact Hi1
    isplitl [HO]; · iexact HO
    isplitl [Hv]; · iexact Hv
    isplitl [Hs0 Hs1 Hs2 Hs3 Hs4 Hs5 Hs6]
    · isplitl [Hs0]; · iexact Hs0
      isplitl [Hs1]; · iexact Hs1
      isplitl [Hs2]; · iexact Hs2
      isplitl [Hs3]; · iexact Hs3
      isplitl [Hs4]; · iexact Hs4
      isplitl [Hs5] <;> iassumption
    isplitl [Hout]; · iapply (Entails.of_eq ((tile0_ne hi).trans (tile0_ne hi).symm)); iexact Hout
    iexists _; iexact HB

end Tile

end Cert.Proof.Embed
-- ==== Proof.Tile3.lean ====
/-
  A tile's task from what the launch hands it to what it hands back.
-/
module

public import proofs.«01_k».proof.Proof.Tile2

@[expose] public section

set_option maxRecDepth 16384

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 3) (Elt F) ℕ UU ℕ

/-! ## A tile's own memory and semaphores, as the launch hands them over -/

theorem fin_succ {n : ℕ} (Φ : Fin (n + 1) → sProp (MT nD τ sig (HIx 3) (Elt F) ℕ UU ℕ)) :
    bigSep Finset.univ Φ = iprop(Φ 0 ∗ bigSep Finset.univ fun k : Fin n => Φ k.succ) := by
  rw [SparseCore.bigSep_erase' (Finset.mem_univ 0)]
  congr 1
  rw [show (Finset.univ : Finset (Fin (n + 1))).erase 0 = Finset.univ.map (Fin.succEmb n) from by
    ext k; simp only [Finset.mem_erase, Finset.mem_univ, and_true, Finset.mem_map, true_and]
    exact ⟨fun h => ⟨k.pred h, Fin.succ_pred k h⟩, fun ⟨a, ha⟩ => ha ▸ Fin.succ_ne_zero a⟩, BI.bigSep_map]
  rfl

theorem fin11 (Φ : Fin 11 → sProp (MT nD τ sig (HIx 3) (Elt F) ℕ UU ℕ)) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ bigSep Finset.univ fun k : Fin 0 => Φ k.elim0) := by
  rw [fin_succ, fin_succ, fin_succ, fin_succ, fin_succ, fin_succ, fin_succ, fin_succ, fin_succ, fin_succ, fin_succ]; rfl
theorem fin13 (Φ : Fin 13 → sProp (MT nD τ sig (HIx 3) (Elt F) ℕ UU ℕ)) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ bigSep Finset.univ fun k : Fin 0 => Φ k.elim0) := by
  rw [fin_succ, fin_succ, fin_succ, fin_succ, fin_succ, fin_succ, fin_succ, fin_succ, fin_succ, fin_succ, fin_succ, fin_succ, fin_succ]; rfl

section Own

variable (d : Dev nD) (c : Fin τ.nSC) (j : Fin τ.nSub)

def dcell (n : Fin 11) : GSem nD τ sig := (V d c j, .dma n)
theorem dcell_inj : Function.Injective (dcell d c j) := fun a b h => SemLoc.dma.inj (Prod.mk.inj h).2
theorem dscoped : ∀ n : Fin 11, (SemLoc.dma n : SemLoc sig).isScoped .scVector = true := by decide
def dcells : Finset (GSem nD τ sig) := Finset.univ.image (dcell d c j)
theorem dcells_sub : dcells d c j ⊆ ownCells (V d c j) := by
  intro g hg
  obtain ⟨n, -, rfl⟩ := Finset.mem_image.mp hg
  refine mem_ownCells.mpr ⟨rfl, ?_⟩
  exact dscoped n

theorem sems_V : (ownSems0 (V d c j) : sProp 𝕄)
    = iprop((semVal (dcell d c j 0) 0 ∗ semVal (dcell d c j 1) 0 ∗ semVal (dcell d c j 2) 0 ∗ semVal (dcell d c j 3) 0 ∗ semVal (dcell d c j 4) 0
        ∗ semVal (dcell d c j 5) 0 ∗ semVal (dcell d c j 6) 0 ∗ semVal (dcell d c j 7) 0 ∗ semVal (dcell d c j 8) 0 ∗ semVal (dcell d c j 9) 0 ∗ semVal (dcell d c j 10) 0
        ∗ bigSep Finset.univ fun k : Fin 0 => semVal (dcell d c j k.elim0) 0)
      ∗ bigSep (ownCells (V d c j) \ dcells d c j) fun g => semVal g 0) := by
  unfold SparseCore.Cfg.ownSems0
  rw [SparseCore.bigSep_sdiff_split' (dcells_sub d c j)]
  unfold dcells
  rw [SparseCore.bigSep_image_of_injOn (fun a _ b _ e => dcell_inj d c j e), fin11]

def vref (n : Fin 13) : DevRef τ sig := (Proc.scVector c j).devRef (⟨.vmem, n, rfl⟩ : Ref sig .scVector)
theorem vref_inj : Function.Injective (vref c j) := fun a b h => by
  revert h; unfold vref; intro h
  have : (Proc.devRef (τ := τ) (Proc.scVector c j) (⟨.vmem, a, rfl⟩ : Ref sig .scVector)).idx.val = (Proc.devRef (τ := τ) (Proc.scVector c j) (⟨.vmem, b, rfl⟩ : Ref sig .scVector)).idx.val := by rw [h]
  exact Fin.ext this
def vrefs : Finset (DevRef τ sig) := Finset.univ.image (vref c j)
theorem vrefs_sub : vrefs c j ⊆ ownRefs (τ := τ) (sig := sig) (.scVector c j) := by
  intro g hg
  obtain ⟨n, -, rfl⟩ := Finset.mem_image.mp hg
  exact SparseCore.Cfg.mem_ownRefs_of_owner (p := Proc.scVector c j) rfl

abbrev someV (n : Fin 13) : sProp 𝕄 := iprop(∃ f, ((d, vref c j n) : Loc nD τ sig) ↦{fullShare} f)

theorem bufs_V : (ownBufs (V d c j) : sProp 𝕄)
    = iprop((someV d c j 0 ∗ someV d c j 1 ∗ someV d c j 2 ∗ someV d c j 3 ∗ someV d c j 4 ∗ someV d c j 5 ∗ someV d c j 6 ∗ someV d c j 7 ∗ someV d c j 8
        ∗ someV d c j 9 ∗ someV d c j 10 ∗ someV d c j 11 ∗ someV d c j 12 ∗ bigSep Finset.univ fun k : Fin 0 => someV (F := F) d c j k.elim0)
      ∗ bigSep (ownRefs (τ := τ) (.scVector c j) \ vrefs c j) fun b => iprop(∃ f, ((d, b) : Loc nD τ sig) ↦{fullShare} f)) := by
  unfold SparseCore.Cfg.ownBufs
  rw [SparseCore.bigSep_sdiff_split' (vrefs_sub c j)]
  unfold vrefs
  rw [SparseCore.bigSep_image_of_injOn (fun a _ b _ e => vref_inj c j e), fin13]

end Own

/-! ## The two slots -/

section Slots

variable {d : Dev nD} {i : grid0.Coords} {q : PosShare TreeShare} {X : Vec F S2x32x262144 .f32} {I : S2x262144.Idx → BitVec 32}

theorem two_split {ℓ : Loc nD τ sig} {A B : Finset (Idx ℓ)} (hd : Disjoint A B) (hu : A ∪ B = Finset.univ) (f : Buf (Elt F) ℓ) :
    (ℓ ↦{fullShare} f : sProp 𝕄) ⊢ iprop((ℓ ↦[A]{fullShare} f) ∗ ℓ ↦[B]{fullShare} f) := by
  rw [← hu]; exact (pointsTo_union hd).1
theorem two_join {ℓ : Loc nD τ sig} {A B : Finset (Idx ℓ)} (hd : Disjoint A B) (hu : A ∪ B = Finset.univ) (f g : Buf (Elt F) ℓ) :
    (iprop((ℓ ↦[A]{fullShare} f) ∗ ℓ ↦[B]{fullShare} g) : sProp 𝕄) ⊢ iprop(∃ h, ℓ ↦{fullShare} h) := by
  have h := pointsTo_join (q := fullShare) (f := f) (g := g) (ℓ := ℓ) (Ix := HIx 3) (Name := ℕ) (U := UU) (Lvl := ℕ) hd
  rw [hu] at h
  refine h.trans ?_
  iintro H; iexists _; iexact H
theorem slotX_d : Disjoint (slotX 0) (slotX 1) := by
  refine Finset.disjoint_left.mpr fun p hp hq => ?_
  simp only [slotX, Finset.mem_filter, Finset.mem_univ, true_and] at hp hq
  omega
theorem slotX_u : slotX 0 ∪ slotX 1 = Finset.univ := by
  refine Finset.eq_univ_of_forall fun p => ?_
  simp only [slotX, Finset.mem_union, Finset.mem_filter, Finset.mem_univ, true_and]
  have : (p 0).val < 2 := (p 0).isLt
  omega
theorem slotI_d : Disjoint (slotI 0) (slotI 1) := by
  refine Finset.disjoint_left.mpr fun p hp hq => ?_
  simp only [slotI, Finset.mem_filter, Finset.mem_univ, true_and] at hp hq
  omega
theorem slotI_u : slotI 0 ∪ slotI 1 = Finset.univ := by
  refine Finset.eq_univ_of_forall fun p => ?_
  simp only [slotI, Finset.mem_union, Finset.mem_filter, Finset.mem_univ, true_and]
  have : (p 0).val < 2 := (p 0).isLt
  omega

theorem idle_in : iprop((∃ f : Buf (Elt F) ((thr d i).loc cc0_scratch0), (thr d i).loc cc0_scratch0 ↦{fullShare} f) ∗ (∃ f : Buf (Elt F) ((thr d i).loc cc0_scratch1), (thr d i).loc cc0_scratch1 ↦{fullShare} f)
      ∗ ((thr d i).loc main_v0_scv ↦{q} X) ∗ ((thr d i).loc main_v1_scv ↦{q} I)
      ∗ (semVal (thr d i, .dma (sX 0)) 0 ∗ semVal (thr d i, .dma (sX 1)) 0 ∗ semVal (thr d i, .dma (sI 0)) 0 ∗ semVal (thr d i, .dma (sI 1)) 0))
    ⊢ (iprop(idle d i (qs q 0) X I 0 ∗ idle d i (qs q 1) X I 1) : sProp 𝕄) := by
  iintro ⟨⟨%f, H0⟩, ⟨%g, H1⟩, HX, HI, S0, S1, S2, S3⟩
  ihave H0 := (two_split (ℓ := (thr d i).loc cc0_scratch0) slotX_d slotX_u f) $$ H0
  icases H0 with ⟨Ha, Hb⟩
  ihave H1 := (two_split (ℓ := (thr d i).loc cc0_scratch1) slotI_d slotI_u g) $$ H1
  icases H1 with ⟨Hc, Hd⟩
  ihave HX := (pointsTo_share (PosShare.mem_left_op_right q)).1 $$ HX
  icases HX with ⟨X0, X1⟩
  ihave HI := (pointsTo_share (PosShare.mem_left_op_right q)).1 $$ HI
  icases HI with ⟨I0, I1⟩
  unfold idle
  isplitl [Ha Hc X0 I0 S0 S2]
  · isplitl [Ha X0 S0]
    · isplitl [Ha]; · iexists f; iexact Ha
      isplitl [X0]; · iexact X0
      iexact S0
    isplitl [Hc]; · iexists g; iexact Hc
    isplitl [I0]; · iexact I0
    iexact S2
  · isplitl [Hb X1 S1]
    · isplitl [Hb]; · iexists f; iexact Hb
      isplitl [X1]; · iexact X1
      iexact S1
    isplitl [Hd]; · iexists g; iexact Hd
    isplitl [I1]; · iexact I1
    iexact S3

theorem idle_out : (iprop(idle d i (qs q 0) X I 0 ∗ idle d i (qs q 1) X I 1) : sProp 𝕄)
    ⊢ iprop((∃ f : Buf (Elt F) ((thr d i).loc cc0_scratch0), (thr d i).loc cc0_scratch0 ↦{fullShare} f) ∗ (∃ f : Buf (Elt F) ((thr d i).loc cc0_scratch1), (thr d i).loc cc0_scratch1 ↦{fullShare} f)
      ∗ ((thr d i).loc main_v0_scv ↦{q} X) ∗ ((thr d i).loc main_v1_scv ↦{q} I)
      ∗ (semVal (thr d i, .dma (sX 0)) 0 ∗ semVal (thr d i, .dma (sX 1)) 0 ∗ semVal (thr d i, .dma (sI 0)) 0 ∗ semVal (thr d i, .dma (sI 1)) 0)) := by
  unfold idle
  iintro ⟨⟨⟨⟨%f, Ha⟩, X0, S0⟩, ⟨%g, Hc⟩, I0, S2⟩, ⟨⟨%f', Hb⟩, X1, S1⟩, ⟨%g', Hd⟩, I1, S3⟩
  isplitl [Ha Hb]
  · iapply (two_join (ℓ := (thr d i).loc cc0_scratch0) slotX_d slotX_u f f')
    isplitl [Ha] <;> iassumption
  isplitl [Hc Hd]
  · iapply (two_join (ℓ := (thr d i).loc cc0_scratch1) slotI_d slotI_u g g')
    isplitl [Hc] <;> iassumption
  isplitl [X0 X1]
  · iapply (pointsTo_share (PosShare.mem_left_op_right q)).2
    isplitl [X0]; · iexact X0
    iexact X1
  isplitl [I0 I1]
  · iapply (pointsTo_share (PosShare.mem_left_op_right q)).2
    isplitl [I0]; · iexact I0
    iexact I1
  isplitl [S0]; · iexact S0
  isplitl [S1]; · iexact S1
  isplitl [S2] <;> iassumption

end Slots

/-! ## A tile's task, from what the launch hands it -/

/-- What a tile has for its meetings. -/
def bkit (v : BV F) (d : Dev nD) (c : Fin τ.nSC) (j : Fin 16) : sProp 𝕄 :=
  iprop((∃ κ : GSem nD τ sig → ℕ, cells (F := F) κ d c) ∗ (bigSep Finset.univ fun j => escs v d c j)
    ∗ atPos EB (bcell d c j) 0 ∅ 0
    ∗ (toks d c j 0 ∗ toks d c j 1 ∗ toks d c j 2)
    ∗ (cred (tallyAt (bcell d c j) (some 0) 16) ∗ cred (tallyAt (bcell d c j) (some 1) 16) ∗ cred (tallyAt (bcell d c j) (some 2) 16))
    ∗ etok d c j 1 ∗ (if j.val = 0 then bigSep Finset.univ fun j => etok d c j 0 else iprop(emp)) ∗ (if j.val = 0 then bigSep Finset.univ fun j => etok d c j 2 else iprop(emp)))

/-- What a task is handed, and what it hands back. -/
def goP (d : Dev nD) (i : grid0.Coords) (q : PosShare TreeShare) (X : Vec F S2x32x262144 .f32) (I : S2x262144.Idx → BitVec 32) : sProp 𝕄 :=
  iprop(((thr d i).loc main_v0_scv ↦{q} X) ∗ ((thr d i).loc main_v1_scv ↦{q} I)
    ∗ (∃ g, rowP (F := F) d (cV i) (i 1).val g) ∗ tile0 i iprop(∃ g : Vec F S1024 .f32, smLoc d (cV i) ↦{fullShare} (g : Buf (Elt F) (smLoc d (cV i))))
    ∗ tile0 i iprop(∃ g : Vec F S2x16 .f32, (thr d i).loc main_v2_scv ↦[outS (i 0).val]{fullShare} g))
def tdP (v : BV F) (d : Dev nD) (i : grid0.Coords) (q : PosShare TreeShare) (X : Vec F S2x32x262144 .f32) (I : S2x262144.Idx → BitVec 32) : sProp 𝕄 :=
  iprop(((thr d i).loc main_v0_scv ↦{q} X) ∗ ((thr d i).loc main_v1_scv ↦{q} I)
    ∗ semVal (bcell d (cV i) (i 1)) 0 ∗ tile0 i (fin0 v X I d i))

theorem tile0_of (d : Dev nD) (i : grid0.Coords) (r : Fin 3) : (if (i 1).val = 0 then bigSep Finset.univ fun j => etok (F := F) d (cV i) j r else iprop(emp))
    ⊢ tile0 i (bigSep Finset.univ fun j => etok (F := F) d (cV i) j r) := BI.Entails.refl _

section Task

variable
  {h2 : (Memref.whole main_v0_scv).IsWhole}
  {h3 : (Memref.whole main_v1_scv).IsWhole}
  {h4 : (Memref.whole main_v2_scv).IsWhole}
  {h5 : (Memref.whole cc0_scratch0).IsWhole}
  {h6 : (Memref.whole cc0_scratch1).IsWhole}
  {h7 : (Memref.whole cc0_scratch2).IsWhole}
  {h8 : (Memref.whole cc0_scratch3).IsWhole}
  {h9 : (Memref.whole cc0_scratch4).IsWhole}
  {h10 : (Memref.whole cc0_scratch5).IsWhole}
  {h11 : (Memref.whole cc0_scratch6).IsWhole}
  {h12 : (Memref.whole cc0_scratch7).IsWhole}
  {h13 : (Memref.whole cc0_scratch8).IsWhole}
  {h14 : (Memref.whole cc0_scratch9).IsWhole}
  {h15 : (Memref.whole cc0_scratch10).IsWhole}
  {h16 : (Memref.whole cc0_scratch11).IsWhole}
  {h17 : (Memref.whole cc0_scratch12).IsWhole}
  {h20 : (Memref.whole cc0_scratch15).IsWhole}
  {h21 : (Memref.whole cc0_scratch16).IsWhole}
variable {d : Dev nD} {i : grid0.Coords} {q : PosShare TreeShare} {X : Vec F S2x32x262144 .f32} {I : S2x262144.Idx → BitVec 32} {v : BV F}

set_option maxHeartbeats 1000000 in
theorem tile_body (hF : (K (F := F)).Facts) (O : CellTallies nD τ sig (HIx 3)) (W : Waits sig (HIx 3)) (hO : High (F := F) O)
    (hI : ∀ j, (I j).toNat < 32) (ht1 : v.t1 d (cV i) = tab1 X I (i 0)) (ht2 : v.t2 d (cV i) = tab2 X I (i 0)) (hmf : v.mf d (cV i) = mfV X I (i 0)) :
    iprop(levAts (K (F := F)).L (K (F := F)).lev ∗ bkit v d (cV i) (i 1) ∗ goP d i q X I
        ∗ scopedBufs (thr d i) ∗ scopedSems0 (thr d i) ∗ owes (thr d i) (owed O d (cV i) 0) W)
      ⊢ wp frame (wpE (defs₀ (F := F)) 𝒱₀ (thr d i) none) Set.univ (cc0__sc_loss_body i (Memref.whole main_v0_scv) h2 (Memref.whole main_v1_scv) h3 (Memref.whole main_v2_scv) h4 (Memref.whole cc0_scratch0) h5 (Memref.whole cc0_scratch1) h6 (Memref.whole cc0_scratch2) h7 (Memref.whole cc0_scratch3) h8 (Memref.whole cc0_scratch4) h9 (Memref.whole cc0_scratch5) h10 (Memref.whole cc0_scratch6) h11 (Memref.whole cc0_scratch7) h12 (Memref.whole cc0_scratch8) h13 (Memref.whole cc0_scratch9) h14 (Memref.whole cc0_scratch10) h15 (Memref.whole cc0_scratch11) h16 (Memref.whole cc0_scratch12) h17 cc0_scratch13 cc0_scratch14 (Memref.whole cc0_scratch15) h20 (Memref.whole cc0_scratch16) h21 cc0_scoped0 cc0_scoped1 cc0_scoped2 cc0_scoped3 cc0_scoped4 cc0_scoped5 cc0_scoped6)
          fun _ => iprop(tdP v d i q X I ∗ scopedBufs (thr d i) ∗ scopedSems0 (thr d i)
            ∗ ∃ W', ⌜∀ p ∈ W', p ∈ W ∨ p.2 = none ∨ blocks.blk 0 p.2⌝ ∗ owes (thr d i) O W') := by
  have hk := fun (κ : GSem nD τ sig → ℕ) (σ : St F) => W_tile (κ := κ) (σ := σ) (q := q) (X := X) (I := I) (v := v) (d := d) (i := i) (W₀ := W) (O := O) (h2 := h2) (h3 := h3) (h4 := h4) (h5 := h5) (h6 := h6) (h7 := h7) (h8 := h8) (h9 := h9) (h10 := h10) (h11 := h11) (h12 := h12) (h13 := h13) (h14 := h14) (h15 := h15) (h16 := h16) (h17 := h17) (h20 := h20) (h21 := h21) hO hI ht1 ht2 hmf
  rw [(K (F := F)).scopedBufs_V hF d (cV i) (jV i), SparseCore.Cfg.scopedSems0_V (Val := Elt F) d (cV i) (jV i), sems_V, bufs_V]
  unfold bkit goP tdP
  iintro ⟨#HL, ⟨⟨%κ, #Hc⟩, #HE, HP, Ht, Hcr, Htk, Htk0, Htk2⟩, ⟨HX, HI, HR, HM, Hout⟩,
    ⟨⟨⟨%b0, B0⟩, ⟨%b1, B1⟩, ⟨%b2, B2⟩, ⟨%b3, B3⟩, ⟨%b4, B4⟩, ⟨%b5, B5⟩, ⟨%b6, B6⟩, ⟨%b7, B7⟩, ⟨%b8, B8⟩, ⟨%b9, B9⟩, ⟨%b10, B10⟩, ⟨%b11, B11⟩, ⟨%b12, B12⟩, Be⟩, Brest⟩,
    ⟨⟨S0, S1, S2, S3, S4, S5, S6, S7, S8, S9, S10, Se⟩, Srest⟩, HO⟩
  ihave Hidle := (idle_in (d := d) (i := i) (q := q) (X := X) (I := I)) $$ [B0 B1 HX HI S0 S1 S2 S3]
  · isplitl [B0]; · iexists b0; iexact B0
    isplitl [B1]; · iexists b1; iexact B1
    isplitl [HX]; · iexact HX
    isplitl [HI]; · iexact HI
    isplitl [S0]; · iexact S0
    isplitl [S1]; · iexact S1
    isplitl [S2]; · iexact S2
    iexact S3
  icases Hidle with ⟨Hi0, Hi1⟩
  iapply (wp_wand_r frame (wpE (defs₀ (F := F)) 𝒱₀ (thr d i) none) Set.univ)
  isplitl [HP Ht Hcr Htk Htk0 Htk2 HR HM Hout Hi0 Hi1 B2 B3 B4 B5 B6 B7 B8 B9 B10 B11 B12 S4 S5 S6 S7 S8 S9 S10 HO]
  · iapply (hk κ ⟨b2, b3, b4, b5, b6, b7, b8, b9, b10, b11, b12⟩)
    isplitr; · iexact HL
    isplitr; · iexact Hc
    isplitr; · iexact HE
    isplitl [Hi0]; · iexact Hi0
    isplitl [Hi1]; · iexact Hi1
    isplitl [HO]
    · unfold ow; iexists W; isplitr; swap; · iexact HO
      ipureintro; exact fun p hp => .inl hp
    isplitl [Ht]; · iexact Ht
    isplitl [Hcr]; · iexact Hcr
    isplitl [HP]
    · unfold Pos; iexists ∅; isplitr; · ipureintro; exact ⟨Finset.empty_subset _, le_rfl⟩
      isplitl [HP]; · iexact HP
      rw [BI.bigSep_empty]; iempintro
    isplitl [Htk]; · iexact Htk
    isplitl [Htk0]; · iapply (tile0_of d i 0); iexact Htk0
    isplitl [Htk2]; · iapply (tile0_of d i 2); iexact Htk2
    isplitl [S4 S5 S6 S7 S8 S9 S10]
    · isplitl [S4]; · iexact S4
      isplitl [S5]; · iexact S5
      isplitl [S6]; · iexact S6
      isplitl [S7]; · iexact S7
      isplitl [S8]; · iexact S8
      isplitl [S9]; · iexact S9
      iexact S10
    isplitl [HR]; · iexact HR
    isplitl [HM]; · iexact HM
    isplitl [Hout]; · iexact Hout
    unfold bufs pt
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    iexact B12
  iintro %_ ⟨Hi0, Hi1, HO, Hv, ⟨S4, S5, S6, S7, S8, S9, S10⟩, Hf, ⟨%σ, HB⟩⟩
  ihave Hidle := (idle_out (d := d) (i := i) (q := q) (X := X) (I := I)) $$ [Hi0 Hi1]
  · isplitl [Hi0] <;> iassumption
  icases Hidle with ⟨⟨%c0, B0⟩, ⟨%c1, B1⟩, HX, HI, S0, S1, S2, S3⟩
  unfold bufs pt
  icases HB with ⟨B2, B3, B4, B5, B6, B7, B8, B9, B10, B11, B12⟩
  isplitl [HX HI Hv Hf]
  · isplitl [HX]; · iexact HX
    isplitl [HI]; · iexact HI
    isplitl [Hv] <;> iassumption
  isplitl [B0 B1 B2 B3 B4 B5 B6 B7 B8 B9 B10 B11 B12 Be Brest]
  · isplitr [Brest]; swap; · iexact Brest
    isplitl [B0]; · iexists _; iexact B0
    isplitl [B1]; · iexists _; iexact B1
    isplitl [B2]; · iexists _; iexact B2
    isplitl [B3]; · iexists _; iexact B3
    isplitl [B4]; · iexists _; iexact B4
    isplitl [B5]; · iexists _; iexact B5
    isplitl [B6]; · iexists _; iexact B6
    isplitl [B7]; · iexists _; iexact B7
    isplitl [B8]; · iexists _; iexact B8
    isplitl [B9]; · iexists _; iexact B9
    isplitl [B10]; · iexists _; iexact B10
    isplitl [B11]; · iexists _; iexact B11
    isplitl [B12]; · iexists _; iexact B12
    iexact Be
  isplitl [S0 S1 S2 S3 S4 S5 S6 S7 S8 S9 S10 Se Srest]
  · isplitr [Srest]; swap; · iexact Srest
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    iexact Se
  unfold ow
  icases HO with ⟨%W', %hW, HO⟩
  iexists W'; isplitr; swap; · iexact HO
  ipureintro
  intro p hp
  rcases hW p hp with h | h | h
  · exact .inl h
  · exact .inr (.inl h)
  · exact .inr (.inr (Option.ne_none_iff_exists'.mp h))

end Task

end Cert.Proof.Embed
-- ==== Proof.Deal.lean ====
/-
  What the one call takes, how it splits over the SparseCores and their tiles, and what comes back.
-/
module

public import proofs.«01_k».proof.Proof.Tile3

@[expose] public section

set_option maxRecDepth 16384

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 3) (Elt F) ℕ UU ℕ

/-! ## The call: what it takes, what each task takes, and what comes back -/

def coordsV (c : Fin (grid0.bound 0)) (s : Fin (grid0.bound 1)) : grid0.Coords :=
  fun | 0 => c | 1 => s | ⟨_ + 2, h⟩ => absurd h (Nat.not_lt.2 (Nat.le_add_left _ _))

abbrev v0L (d : Dev nD) : Loc nD τ sig := (SparseCore.T d).loc (main_v0 : Ref sig .tc)
abbrev v1L (d : Dev nD) : Loc nD τ sig := (SparseCore.T d).loc (main_v1 : Ref sig .tc)
abbrev v2L (d : Dev nD) : Loc nD τ sig := (SparseCore.T d).loc (main_v2 : Ref sig .tc)

/-- The share of a table that a SparseCore reads with, and a tile's part of it. -/
def qc (c : Fin 2) : PosShare TreeShare := Transfers.dealOf fullShare (Finset.univ : Finset (Fin 2)) c
def qt (c : Fin 2) (s : Fin 16) : PosShare TreeShare := Transfers.dealOf (qc c) (Finset.univ : Finset (Fin 16)) s

/-- A debt of every arrival of a tile. -/
def oxV (d : Dev nD) (c : Fin τ.nSC) : CellTallies nD τ sig (HIx 3) := oxR d c 2 + oxR d c 1 + oxR d c 0

theorem owed_eq (O : CellTallies nD τ sig (HIx 3)) (d : Dev nD) (c : Fin τ.nSC) : O + oxV d c = owed O d c 0 := by
  show O + (oxR d c 2 + oxR d c 1 + oxR d c 0) = O + oxR d c 2 + oxR d c 1 + oxR d c 0
  rw [add_assoc, add_assoc, add_assoc]

theorem oxV_band {d : Dev nD} {c : Fin τ.nSC} {g : GSem nD τ sig} {ι : HIx 3} (h : 0 < oxV d c g ι) :
    3 ≤ (K (F := F)).lev g ι ∧ (K (F := F)).lev g ι ≤ 19 := by
  have a0 := oxR_lev (F := F) d c 0 g ι
  have a1 := oxR_lev (F := F) d c 1 g ι
  have a2 := oxR_lev (F := F) d c 2 g ι
  have e : oxV d c g ι = oxR d c 2 g ι + oxR d c 1 g ι + oxR d c 0 g ι := rfl
  rw [e] at h
  rcases Nat.eq_zero_or_pos (oxR d c 0 g ι) with h0 | h0
  · rcases Nat.eq_zero_or_pos (oxR d c 1 g ι) with h1 | h1
    · have := a2 (by omega)
      rw [this]; decide
    · rw [a1 h1]; decide
  · rw [a0 h0]; decide

section Call

variable (X : Dev nD → Vec F S2x32x262144 .f32) (I : Dev nD → S2x262144.Idx → BitVec 32)

/-- What the passes leave. -/
def vals : BV F where
  t1 d c := tab1 (X d) (I d) c
  t2 d c := tab2 (X d) (I d) c
  mf d c := mfV (X d) (I d) c

def stP (d : Dev nD) (c : Fin 2) : sProp 𝕄 :=
  iprop((v0L d ↦{qc c} (X d : Buf (Elt F) (v0L d))) ∗ (v1L d ↦{qc c} (I d : Buf (Elt F) (v1L d))) ∗ ∃ g : Vec F S2x16 .f32, v2L d ↦[outS c.val]{fullShare} (g : Buf (Elt F) (v2L d)))
def bars (d : Dev nD) (c : Fin 2) : sProp 𝕄 := bigSep Finset.univ fun s : Fin 16 => semVal (bcell d (c.castLE hcore0) s) 0
def dnP (d : Dev nD) (c : Fin 2) : sProp 𝕄 :=
  iprop((v0L d ↦{qc c} (X d : Buf (Elt F) (v0L d))) ∗ (v1L d ↦{qc c} (I d : Buf (Elt F) (v1L d))) ∗ bars (F := F) d c
    ∗ v2L d ↦[outS c.val]{fullShare} (outP (outV (X d) (I d) c) : Buf (Elt F) (v2L d)))

set_option backward.proofsInPublic true in
def P : (K (F := F)).Pay (N := 3) (nD := nD) (Val := Elt F) (Name := ℕ) (U := UU) where
  st := fun q d c => match q with | 0 => stP X I d c
  dn := fun q d c => match q with | 0 => dnP X I d c
  go := fun q d c s => match q with | 0 => goP d (coordsV c s) (qt c s) (X d) (I d)
  td := fun q d c s => match q with | 0 => tdP (vals X I) d (coordsV c s) (qt c s) (X d) (I d)
  x := fun _ thr => match thr with
    | (d, .scVector c j) => bkit (vals X I) d c j
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · have hb := oxV_band (F := F) h
      refine ⟨hb.1, ?_⟩
      show _ ≤ 8 * 2 + 5
      omega
  ox_tc := fun _ _ => rfl
  ox_sc := fun _ _ _ h => absurd rfl h
  ox_vc := by
    intro q d c i h
    obtain rfl : q = 0 := Subsingleton.elim _ _
    exact ⟨rfl, c.isLt, i.isLt⟩

instance stP_s (d : Dev nD) (c : Fin 2) : BI.Storable (upEmb : UEmb _ 𝕄) (stP X I d c) := by unfold stP; infer_instance
instance bars_s (d : Dev nD) (c : Fin 2) : BI.Storable (upEmb : UEmb _ 𝕄) (bars (F := F) d c) := by unfold bars; infer_instance
instance dnP_s (d : Dev nD) (c : Fin 2) : BI.Storable (upEmb : UEmb _ 𝕄) (dnP X I d c) := by unfold dnP; infer_instance
instance tile0_s (i : grid0.Coords) (R : sProp (MT nD τ sig (HIx 3) (Elt F) ℕ UU ℕ)) [BI.Storable (upEmb : UEmb _ 𝕄) R] : BI.Storable (upEmb : UEmb _ 𝕄) (tile0 i R) := by
  unfold tile0; split <;> infer_instance
instance goP_s (d : Dev nD) (i : grid0.Coords) (q : PosShare TreeShare) (X : Vec F S2x32x262144 .f32) (I : S2x262144.Idx → BitVec 32) :
    BI.Storable (upEmb : UEmb _ 𝕄) (goP d i q X I) := by unfold goP; infer_instance
instance tdP_s (v : BV F) (d : Dev nD) (i : grid0.Coords) (q : PosShare TreeShare) (X : Vec F S2x32x262144 .f32) (I : S2x262144.Idx → BitVec 32) :
    BI.Storable (upEmb : UEmb _ 𝕄) (tdP v d i q X I) := by unfold tdP fin0; infer_instance

instance P_storable : (P X I).IsStorable where
  st q d c := match q with | 0 => stP_s X I d c
  dn q d c := match q with | 0 => dnP_s X I d c
  go q d c s := match q with | 0 => goP_s d (coordsV c s) (qt c s) (X d) (I d)
  td q d c s := match q with | 0 => tdP_s (vals X I) d (coordsV c s) (qt c s) (X d) (I d)

/-! ## The task -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem defs₀_vector (c : Fin τ.nSC) (s : Fin τ.nSub) :
    defs₀ (F := F) (.scVector c s) 0 ()
      = SparseCore.onTile hcore0 hsub0 (fun c s => cc0__sc_loss_body (coordsV c s) (Memref.whole main_v0_scv) (Memref.isWhole_whole _) (Memref.whole main_v1_scv) (Memref.isWhole_whole _) (Memref.whole main_v2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 (Memref.whole cc0_scratch15) (Memref.isWhole_whole _) (Memref.whole cc0_scratch16) (Memref.isWhole_whole _) cc0_scoped0 cc0_scoped1 cc0_scoped2 cc0_scoped3 cc0_scoped4 cc0_scoped5 cc0_scoped6) ⟨⟩ c s := rfl

theorem tileObl (hI : ∀ d j, (I d j).toNat < 32) : (K (F := F)).TileObl (D (F := F)) 𝒱 (P X I) v₀ 0 := by
  intro d c i O W hO hOlev _
  have hci : ((K (F := F)).core 0 c).val < grid0.bound 0 ∧ ((K (F := F)).sub 0 i).val < grid0.bound 1 := ⟨c.isLt, i.isLt⟩
  rw [show (P X I).ox 0 (V d ((K (F := F)).core 0 c) ((K (F := F)).sub 0 i)) = oxV d ((K (F := F)).core 0 c) from rfl, owed_eq]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body (v := vals X I) (q := qt c i) (X := X d) (I := I d) (d := d) (i := coordsV ⟨_, hci.1⟩ ⟨_, hci.2⟩) facts O W ⟨hO, fun g ι h => hOlev g ι h⟩ (hI d) rfl rfl rfl

/-! ## The call's operands split over the tasks -/

theorem bigSep_emps {J : Type} (s : Finset J) : (bigSep s fun _ => iprop(emp)) = (iprop(emp) : sProp 𝕄) := bigSep_emp_const s

/-- What goes to tile 0 alone. -/
theorem at0 (R : Fin 16 → sProp (MT nD τ sig (HIx 3) (Elt F) ℕ UU ℕ)) : R 0 ⊢ bigSep Finset.univ fun s : Fin 16 => if s.val = 0 then R s else iprop(emp) := by
  rw [SparseCore.bigSep_erase' (Finset.mem_univ (0 : Fin 16)), show (if (0 : Fin 16).val = 0 then R 0 else iprop(emp)) = R 0 from if_pos rfl,
    show (bigSep ((Finset.univ : Finset (Fin 16)).erase 0) fun s : Fin 16 => if s.val = 0 then R s else iprop(emp)) = bigSep ((Finset.univ : Finset (Fin 16)).erase 0) fun _ => iprop(emp) from
      BI.bigSep_congr fun s hs => if_neg fun h => (Finset.mem_erase.mp hs).1 (Fin.ext h), bigSep_emps]
  iintro H
  isplitl; · iexact H
  iempintro
theorem of0 (R : Fin 16 → sProp (MT nD τ sig (HIx 3) (Elt F) ℕ UU ℕ)) : (bigSep Finset.univ fun s : Fin 16 => if s.val = 0 then R s else iprop(emp)) ⊢ R 0 := by
  have h : (bigSep Finset.univ fun s : Fin 16 => if s.val = 0 then R s else iprop(emp)) ⊢ (if (0 : Fin 16).val = 0 then R 0 else iprop(emp)) := BI.bigSep_elim (Finset.mem_univ (0 : Fin 16))
  exact h

theorem ownBufs_S (d : Dev nD) (c : Fin τ.nSC) :
    (ownBufs (S d c) : sProp 𝕄)
      = iprop((∃ f : Buf (Elt F) (shLoc d c), shLoc d c ↦{fullShare} f) ∗ (∃ f : Buf (Elt F) (smLoc d c), smLoc d c ↦{fullShare} f)
        ∗ bigSep (((ownRefs (τ := τ) (.scScalar c)).erase ⟨.shared, ⟨0, by decide⟩, c⟩).erase ⟨.shared, ⟨1, by decide⟩, c⟩) fun b => iprop(∃ f, ((d, b) : Loc nD τ sig) ↦{fullShare} f)) := by
  unfold SparseCore.Cfg.ownBufs
  have h0 : (⟨.shared, ⟨0, by decide⟩, c⟩ : DevRef τ sig) ∈ ownRefs (τ := τ) (sig := sig) (.scScalar c) := (mem_ownRefs (p := Proc.scScalar c) (b := ⟨.shared, ⟨0, by decide⟩, c⟩)).mpr rfl
  have h1 : (⟨.shared, ⟨1, by decide⟩, c⟩ : DevRef τ sig) ∈ (ownRefs (τ := τ) (sig := sig) (.scScalar c)).erase ⟨.shared, ⟨0, by decide⟩, c⟩ :=
    Finset.mem_erase.mpr ⟨fun h => by injection h with _ h; exact absurd (congrArg Fin.val h) (by decide), (mem_ownRefs (p := Proc.scScalar c) (b := ⟨.shared, ⟨1, by decide⟩, c⟩)).mpr rfl⟩
  rw [SparseCore.bigSep_erase' h0, SparseCore.bigSep_erase' h1]

theorem gos (d : Dev nD) (c : Fin 2) :
    (bigSep Finset.univ fun s : Fin 16 => goP d (coordsV c s) (qt c s) (X d) (I d))
      = iprop((bigSep Finset.univ fun s : Fin 16 => v0L d ↦{qt c s} (X d : Buf (Elt F) (v0L d))) ∗ (bigSep Finset.univ fun s : Fin 16 => v1L d ↦{qt c s} (I d : Buf (Elt F) (v1L d)))
        ∗ (bigSep Finset.univ fun s : Fin 16 => iprop(∃ g, rowP (F := F) d (c.castLE hcore0) s.val g))
        ∗ (bigSep Finset.univ fun s : Fin 16 => if s.val = 0 then iprop(∃ g : Vec F S1024 .f32, smLoc d (c.castLE hcore0) ↦{fullShare} (g : Buf (Elt F) (smLoc d (c.castLE hcore0)))) else iprop(emp))
        ∗ bigSep Finset.univ fun s : Fin 16 => if s.val = 0 then iprop(∃ g : Vec F S2x16 .f32, v2L d ↦[outS c.val]{fullShare} (g : Buf (Elt F) (v2L d))) else iprop(emp)) := by
  rw [← BI.bigSep_sep', ← BI.bigSep_sep', ← BI.bigSep_sep', ← BI.bigSep_sep']
  exact BI.bigSep_congr fun s _ => rfl

theorem tds (d : Dev nD) (c : Fin 2) :
    (bigSep Finset.univ fun s : Fin 16 => tdP (vals X I) d (coordsV c s) (qt c s) (X d) (I d))
      = iprop((bigSep Finset.univ fun s : Fin 16 => v0L d ↦{qt c s} (X d : Buf (Elt F) (v0L d))) ∗ (bigSep Finset.univ fun s : Fin 16 => v1L d ↦{qt c s} (I d : Buf (Elt F) (v1L d)))
        ∗ bars (F := F) d c
        ∗ bigSep Finset.univ fun s : Fin 16 => if s.val = 0 then fin0 (vals X I) (X d) (I d) d (coordsV c s) else iprop(emp)) := by
  unfold bars
  rw [← BI.bigSep_sep', ← BI.bigSep_sep', ← BI.bigSep_sep']
  exact BI.bigSep_congr fun s _ => rfl

theorem split_core (d : Dev nD) (c : Fin 2) :
    iprop(stP X I d c ∗ ownBufs (S d (c.castLE hcore0))) ⊢ (iprop(|={Set.univ}=> iprop(
      (bigSep Finset.univ fun s : Fin 16 => goP d (coordsV c s) (qt c s) (X d) (I d))
      ∗ ((bigSep Finset.univ fun s : Fin 16 => tdP (vals X I) d (coordsV c s) (qt c s) (X d) (I d)) -∗ iprop(dnP X I d c ∗ ownBufs (S d (c.castLE hcore0)))))) : sProp 𝕄) := by
  rw [gos, tds, ownBufs_S]
  unfold stP dnP
  have e0 : (v0L d ↦{qc c} (X d : Buf (Elt F) (v0L d)) : sProp 𝕄) = bigSep Finset.univ fun s : Fin 16 => v0L d ↦{qt c s} (X d : Buf (Elt F) (v0L d)) :=
    Transfers.pointsTo_deal Finset.univ Finset.univ_nonempty (qc c)
  have e1 : (v1L d ↦{qc c} (I d : Buf (Elt F) (v1L d)) : sProp 𝕄) = bigSep Finset.univ fun s : Fin 16 => v1L d ↦{qt c s} (I d : Buf (Elt F) (v1L d)) :=
    Transfers.pointsTo_deal Finset.univ Finset.univ_nonempty (qc c)
  rw [e0, e1]
  iintro ⟨⟨HX, HI, HO⟩, ⟨%f, Hf⟩, Hm, Hrest⟩; imodintro
  isplitl [HX HI HO Hf Hm]
  · isplitl [HX]; · iexact HX
    isplitl [HI]; · iexact HI
    isplitl [Hf]
    · ihave Hf := (Entails.of_eq (sh_rows (F := F) (d := d) (c := c.castLE hcore0) f)) $$ Hf
      iapply (SparseCore.ent (BI.bigSep_mono (Φ := fun s : Fin 16 => rowP (F := F) d (c.castLE hcore0) s.val f)
        (Ψ := fun s : Fin 16 => iprop(∃ g, rowP (F := F) d (c.castLE hcore0) s.val g)) fun s _ => BI.BIClass.exists_intro (Φ := fun g => rowP (F := F) d (c.castLE hcore0) s.val g) f))
      iexact Hf
    isplitl [Hm]
    · iapply (at0 (F := F) fun _ => iprop(∃ g : Vec F S1024 .f32, smLoc d (c.castLE hcore0) ↦{fullShare} (g : Buf (Elt F) (smLoc d (c.castLE hcore0)))))
      iexact Hm
    · iapply (at0 (F := F) fun _ => iprop(∃ g : Vec F S2x16 .f32, v2L d ↦[outS c.val]{fullShare} (g : Buf (Elt F) (v2L d))))
      iexact HO
  iintro ⟨HX, HI, Hb, Hf⟩
  ihave Hf := (of0 (F := F) fun s => fin0 (vals X I) (X d) (I d) d (coordsV c s)) $$ Hf
  unfold fin0
  icases Hf with ⟨Hs, Hm, Ho⟩
  isplitl [HX HI Hb Ho]
  · isplitl [HX]; · iexact HX
    isplitl [HI]; · iexact HI
    isplitl [Hb]; · iexact Hb
    iexact Ho
  isplitl [Hs]; · iexists _; iexact Hs
  isplitl [Hm]; · iexists _; iexact Hm
  iexact Hrest

theorem vecSplit : (K (F := F)).VecSplit (P X I) 0 := by
  intro d c
  exact split_core X I d c

end Call

end Cert.Proof.Embed
-- ==== Proof.Fund.lean ====
/-
  The ghost state that the launch starts from, and each tile's kit out of it.
-/
module

public import proofs.«01_k».proof.Proof.Deal

@[expose] public section

set_option maxRecDepth 16384

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 3) (Elt F) ℕ UU ℕ

/-! ## The ghost state that the launch starts from -/

abbrev DCJ : Type := Dev nD × Fin τ.nSC × Fin 16
abbrev b3 (x : DCJ) : GSem nD τ sig := bcell x.1 x.2.1 x.2.2
abbrev e4 (x : DCJ × Fin 3) : GSem nD τ sig := ecell x.1.1 x.1.2.1 x.1.2.2 x.2
def bCells : Finset (GSem nD τ sig) := Finset.univ.image b3
def eCells : Finset (GSem nD τ sig) := Finset.univ.image e4
abbrev t0 (x : DCJ × Fin 3 × Fin 16) : GSem nD τ sig × ℕ × ℕ := (b3 x.1, 0, 16 * x.2.1.val + x.2.2.val)
abbrev t1 (x : DCJ × Fin 3) : GSem nD τ sig × ℕ × ℕ := (b3 x.1, 1, x.2.val)
def aToks : Finset (GSem nD τ sig × ℕ × ℕ) := Finset.univ.image t0
def eToks : Finset (GSem nD τ sig × ℕ × ℕ) := Finset.univ.image t1
def u₀ : UU := (initOf (K (F := F)).hsCells (K (F := F)).hsToks, (initOf (bCells ∪ eCells) (aToks ∪ eToks), 1))

theorem b3_inj : Function.Injective b3 := fun a b e => by
  obtain ⟨h1, h2⟩ := Prod.mk.inj (Prod.mk.inj e).1
  obtain ⟨h3, h4⟩ := Proc.scVector.inj h2
  exact Prod.ext h1 (Prod.ext h3 (Fin.ext (congrArg Fin.val h4)))
theorem e4_inj : Function.Injective e4 := fun a b e => by
  obtain ⟨h1, h2⟩ := Prod.mk.inj (Prod.mk.inj e).1
  obtain ⟨h3, h4⟩ := Proc.scVector.inj h2
  have h5 := SemLoc.dma.inj (Prod.mk.inj e).2
  exact Prod.ext (Prod.ext h1 (Prod.ext h3 (Fin.ext (congrArg Fin.val h4)))) (Fin.ext (by have h6 := congrArg Fin.val h5; exact h6))
theorem t0_inj : Function.Injective t0 := fun a b e => by
  have h1 := b3_inj (Prod.mk.inj e).1
  have h2 : 16 * a.2.1.val + a.2.2.val = 16 * b.2.1.val + b.2.2.val := (Prod.mk.inj (Prod.mk.inj e).2).2
  have l1 := a.2.2.isLt
  have l2 := b.2.2.isLt
  exact Prod.ext h1 (Prod.ext (Fin.ext (by omega)) (Fin.ext (by omega)))
theorem t1_inj : Function.Injective t1 := fun a b e => by
  have h1 := b3_inj (Prod.mk.inj e).1
  have h2 : a.2.val = b.2.val := (Prod.mk.inj (Prod.mk.inj e).2).2
  exact Prod.ext h1 (Fin.ext h2)
theorem cells_disj : Disjoint bCells eCells := by
  refine Finset.disjoint_left.mpr fun g h1 h2 => ?_
  obtain ⟨x, -, rfl⟩ := Finset.mem_image.mp h1
  obtain ⟨y, -, h⟩ := Finset.mem_image.mp h2
  exact absurd (Prod.mk.inj h).2 (by intro h; cases h)
theorem toks_disj : Disjoint aToks eToks := by
  refine Finset.disjoint_left.mpr fun g h1 h2 => ?_
  obtain ⟨x, -, rfl⟩ := Finset.mem_image.mp h1
  obtain ⟨y, -, h⟩ := Finset.mem_image.mp h2
  exact absurd (Prod.mk.inj (Prod.mk.inj h).2).1 (by decide)

theorem all_b (Φ : GSem nD τ sig → sProp (MT nD τ sig (HIx 3) (Elt F) ℕ UU ℕ)) :
    bigSep bCells Φ = bigSep Finset.univ fun d : Dev nD => bigSep Finset.univ fun c : Fin τ.nSC => bigSep Finset.univ fun j : Fin 16 => Φ (bcell d c j) := by
  unfold bCells
  rw [SparseCore.bigSep_image_of_injOn (fun a _ b _ e => b3_inj e), BI.bigSep_univ_prod]
  exact BI.bigSep_congr fun d _ => BI.bigSep_univ_prod _
theorem all_e (Φ : GSem nD τ sig → sProp (MT nD τ sig (HIx 3) (Elt F) ℕ UU ℕ)) :
    bigSep eCells Φ = bigSep Finset.univ fun d : Dev nD => bigSep Finset.univ fun c : Fin τ.nSC => bigSep Finset.univ fun j : Fin 16 =>
      bigSep Finset.univ fun e : Fin 3 => Φ (ecell d c j e) := by
  unfold eCells
  rw [SparseCore.bigSep_image_of_injOn (fun a _ b _ e => e4_inj e), BI.bigSep_univ_prod, BI.bigSep_univ_prod]
  exact BI.bigSep_congr fun d _ => BI.bigSep_univ_prod _
theorem all_a (Φ : GSem nD τ sig × ℕ × ℕ → sProp (MT nD τ sig (HIx 3) (Elt F) ℕ UU ℕ)) :
    bigSep aToks Φ = bigSep Finset.univ fun d : Dev nD => bigSep Finset.univ fun c : Fin τ.nSC => bigSep Finset.univ fun j : Fin 16 =>
      bigSep Finset.univ fun r : Fin 3 => bigSep Finset.univ fun k : Fin 16 => Φ (bcell d c j, 0, 16 * r.val + k.val) := by
  unfold aToks
  rw [SparseCore.bigSep_image_of_injOn (fun a _ b _ e => t0_inj e), BI.bigSep_univ_prod, BI.bigSep_univ_prod]
  refine BI.bigSep_congr fun d _ => ?_
  rw [BI.bigSep_univ_prod]
  exact BI.bigSep_congr fun c _ => BI.bigSep_congr fun j _ => BI.bigSep_univ_prod _
theorem all_t (Φ : GSem nD τ sig × ℕ × ℕ → sProp (MT nD τ sig (HIx 3) (Elt F) ℕ UU ℕ)) :
    bigSep eToks Φ = bigSep Finset.univ fun d : Dev nD => bigSep Finset.univ fun c : Fin τ.nSC => bigSep Finset.univ fun j : Fin 16 =>
      bigSep Finset.univ fun r : Fin 3 => Φ (bcell d c j, 1, r.val) := by
  unfold eToks
  rw [SparseCore.bigSep_image_of_injOn (fun a _ b _ e => t1_inj e), BI.bigSep_univ_prod, BI.bigSep_univ_prod]
  exact BI.bigSep_congr fun d _ => BI.bigSep_univ_prod _

theorem ownU_two (a : UH) (b : UB) : (ownU ((a, (b, 1)) : UU) : sProp 𝕄) ⊢ iprop(BI.own (EH a) ∗ BI.own (EB b)) :=
  BI.own_op_elim ((uEmb (nD := nD) (sig := sig) (Ix := HIx 3) (Val := Elt F) (Name := ℕ) (U := UU) (Lvl := ℕ)).toEmb.op_of_mem
    (Prod.mk_mem_op (URA.mem_op_one a) (URA.mem_one_op (b, (1 : Counters)))))

theorem bar_scoped : ¬ (SemLoc.reg sc_bar0 : SemLoc sig).isScoped .scVector := by decide
theorem bar_go : (SemLoc.reg sc_bar0 : SemLoc sig) ≠ .reg sc_go := by decide

theorem bcell_mem (d : Dev nD) (c : Fin τ.nSC) (j : Fin 16) : bcell d c j ∈ bCells := Finset.mem_image_of_mem b3 (Finset.mem_univ ((d, c, j) : DCJ))

/-- The barrier semaphores at zero, of what the launch leaves free. -/
theorem bar_sems : ((K (F := F)).freeOn (· ∈ bCells) : sProp 𝕄) ⊢ bigSep bCells fun g => semVal g 0 := by
  rw [all_b]
  unfold SparseCore.Cfg.freeOn
  refine sep_elim_right.trans ?_
  rw [BI.bigSep_univ_prod]
  refine BI.bigSep_mono fun d _ => ?_
  rw [BI.bigSep_univ_prod]
  refine BI.bigSep_mono fun c _ => ?_
  refine BI.bigSep_mono fun j _ => ?_
  have hm : (SemLoc.reg sc_bar0 : SemLoc sig) ∈ (((Finset.univ.filter fun sm : SemLoc sig => ¬sm.isScoped .scVector).erase (.reg sc_go)).filter fun sm => ((V d c j, sm) : GSem nD τ sig) ∈ bCells) :=
    Finset.mem_filter.mpr ⟨Finset.mem_erase.mpr ⟨bar_go, Finset.mem_filter.mpr ⟨Finset.mem_univ _, bar_scoped⟩⟩, bcell_mem d c j⟩
  exact BI.bigSep_elim (Φ := fun sm : SemLoc sig => (semVal (V d c j, sm) 0 : sProp 𝕄)) hm

theorem bar_invs : iprop((bigSep bCells fun g => (semVal g 0 : sProp 𝕄)) ∗ bigSep bCells fun g => roundState EB (bRd (F := F)) g 0)
    ⊢ |={Set.univ}=> iprop(∃ κ : GSem nD τ sig → ℕ, bigSep bCells fun g => cellInv EB (bRd (F := F)) (κ g) g) := by
  refine (Rounds.bodies_intro EB (bRd (F := F)) bCells).trans ((inv_alloc_family bCells (Rounds.body EB (bRd (F := F))) ∅ (E := Set.univ)).trans ?_)
  iintro H
  imod H with ⟨%κ, -, Hi⟩
  imodintro; iexists κ; iexact Hi

/-! ## The places -/

theorem esc1 (g : GSem nD τ sig) (R τk : sProp (MT nD τ sig (HIx 3) (Elt F) ℕ UU ℕ)) [BI.Storable (upEmb : UEmb _ 𝕄) R] [BI.Storable (upEmb : UEmb _ 𝕄) τk] :
    iprop(roundState EB (bRd (F := F)) g 0 ∗ atPos EB g 0 ∅ 0) ⊢ iprop(|={Set.univ}=> Esc g R τk) := by
  unfold Rounds.roundState
  iintro ⟨⟨%r, %T, %m, %A, %L, %P, HA, -⟩, HP⟩
  ihave %h := (roundAuth_atPos_agree EB) $$ [HA HP]
  · isplitl [HA] <;> iassumption
  obtain ⟨h1, h2, h3⟩ := h
  subst h1 h2 h3
  iapply (Esc_alloc (g := g) (R := R) (τk := τk))
  isplitl [HA] <;> iassumption

theorem fin3 (Φ : Fin 3 → sProp (MT nD τ sig (HIx 3) (Elt F) ℕ UU ℕ)) : bigSep Finset.univ Φ = iprop(Φ 0 ∗ Φ 1 ∗ Φ 2) := by
  rw [fin_succ, fin_succ, show (bigSep Finset.univ fun k : Fin 1 => Φ k.succ.succ) = Φ 2 from bigSep_univ_of_subsingleton (0 : Fin 1)]
  rfl

theorem escs1 (v : BV F) (d : Dev nD) (c : Fin τ.nSC) (j : Fin 16) :
    (bigSep Finset.univ fun e : Fin 3 => iprop(roundState EB (bRd (F := F)) (ecell d c j e) 0 ∗ atPos EB (ecell d c j e) 0 ∅ 0)) ⊢ iprop(|={Set.univ}=> escs v d c j) := by
  rw [fin3]
  unfold escs
  iintro ⟨H0, H1, H2⟩
  imod (esc1 (ecell d c j 0) (rowP d c j.val (v.t1 d c)) (etok d c j 0)) $$ H0 with H0
  imod (esc1 (ecell d c j 1) iprop(rowP d c j.val (v.t1 d c) ∗ meanP d c j (v.mf d c)) (etok d c j 1)) $$ H1 with H1
  imod (esc1 (ecell d c j 2) iprop(rowP d c j.val (v.t2 d c) ∗ meanP d c j (v.mf d c)) (etok d c j 2)) $$ H2 with H2
  imodintro
  isplitl [H0]; · iexact H0
  isplitl [H1]; · iexact H1
  iexact H2

theorem escs_all (v : BV F) : iprop((bigSep eCells fun g => roundState EB (bRd (F := F)) g 0) ∗ bigSep eCells fun g => atPos EB g 0 ∅ 0)
    ⊢ iprop(|={Set.univ}=> bigSep Finset.univ fun d : Dev nD => bigSep Finset.univ fun c : Fin τ.nSC => bigSep Finset.univ fun j : Fin 16 => escs v d c j) := by
  rw [← BI.bigSep_sep', all_e]
  refine BI.Entails.trans (BI.bigSep_mono fun d _ => ?_) (bigSep_fupd _ _)
  refine BI.Entails.trans (BI.bigSep_mono fun c _ => ?_) (bigSep_fupd _ _)
  exact BI.Entails.trans (BI.bigSep_mono fun j _ => escs1 v d c j) (bigSep_fupd _ _)

/-! ## The credit -/

theorem sum_ones (g : GSem nD τ sig) (ι : HIx 3) : ∀ n : ℕ, ∑ _ : Fin n, tallyAt g ι 1 = (tallyAt g ι n : CellTallies nD τ sig (HIx 3))
  | 0 => by rw [Fin.sum_univ_zero, tallyAt_zero]
  | n + 1 => by rw [Fin.sum_univ_castSucc, sum_ones g ι n, tallyAt_add]

theorem cred_r (d : Dev nD) (c : Fin τ.nSC) (r : Fin 3) :
    (bigSep Finset.univ fun _ : Fin 16 => (cred (oxR d c r) : sProp 𝕄)) = bigSep Finset.univ fun j : Fin 16 => cred (tallyAt (bcell d c j) (some r) 16) := by
  unfold oxR
  rw [SparseCore.Cfg.cred_finsum, BI.bigSep_univ_comm]
  refine BI.bigSep_congr fun j _ => ?_
  rw [← SparseCore.Cfg.cred_finsum, sum_ones]

theorem flip3 (A B C : sProp (MT nD τ sig (HIx 3) (Elt F) ℕ UU ℕ)) : (iprop((A ∗ B) ∗ C) : sProp 𝕄) ⊢ iprop(C ∗ B ∗ A) := by
  iintro ⟨⟨H2, H1⟩, H0⟩
  isplitl [H0]; · iexact H0
  isplitl [H1] <;> iassumption

theorem creds_all (X : Dev nD → Vec F S2x32x262144 .f32) (I : Dev nD → S2x262144.Idx → BitVec 32) :
    ((P X I).oxCred : sProp 𝕄) ⊢ bigSep Finset.univ fun d : Dev nD => bigSep Finset.univ fun c : Fin τ.nSC => bigSep Finset.univ fun j : Fin 16 =>
      iprop(cred (tallyAt (bcell d c j) (some 0) 16) ∗ cred (tallyAt (bcell d c j) (some 1) 16) ∗ cred (tallyAt (bcell d c j) (some 2) 16)) := by
  unfold SparseCore.Cfg.Pay.oxCred
  rw [SparseCore.Cfg.bigSep_threads (fun thr : Thread nD τ => (cred ((P X I).oxFrom 0 thr) : sProp 𝕄))]
  refine sep_elim_right.trans (sep_elim_right.trans ?_)
  rw [BI.bigSep_univ_prod]
  refine BI.bigSep_mono fun d _ => ?_
  rw [BI.bigSep_univ_prod]
  refine BI.bigSep_mono fun c _ => ?_
  have hox : ∀ i : Fin τ.nSub, (P X I).oxFrom 0 (V d c i) = oxV d c := fun i => by
    rw [show (0 : ℕ) = (0 : Fin 1).val from rfl, (P X I).oxFrom_step, (P X I).oxFrom_end _ (n := (0 : Fin 1).val + 1) le_rfl, add_zero]; rfl
  rw [BI.bigSep_sep', BI.bigSep_sep', ← cred_r, ← cred_r, ← cred_r, ← BI.bigSep_sep', ← BI.bigSep_sep']
  refine BI.bigSep_mono fun i _ => ?_
  dsimp only
  rw [hox i]
  unfold oxV
  rw [SparseCore.Cfg.cred_add_eq, SparseCore.Cfg.cred_add_eq]
  exact flip3 _ _ _

/-! ## The kits -/

theorem mono_with {J : Type} [DecidableEq J] {s : Finset J} {R : sProp (MT nD τ sig (HIx 3) (Elt F) ℕ UU ℕ)} [BI.Persistent R] {Φ Ψ : J → sProp (MT nD τ sig (HIx 3) (Elt F) ℕ UU ℕ)}
    (h : ∀ j ∈ s, iprop(R ∗ Φ j) ⊢ Ψ j) : iprop(R ∗ bigSep s Φ) ⊢ bigSep s Ψ := by
  refine BI.Entails.trans (BI.sep_mono_l (bigSep_intro_persistent (S := s) (Φ := fun _ => R) fun _ _ => BI.Entails.refl _)) ?_
  show iprop((bigSep s fun _ => R) ∗ bigSep s Φ) ⊢ _
  rw [← BI.bigSep_sep']
  exact BI.bigSep_mono h

theorem six {J : Type} [DecidableEq J] [Fintype J] (A B C D E G : J → sProp (MT nD τ sig (HIx 3) (Elt F) ℕ UU ℕ)) :
    (iprop(bigSep Finset.univ A ∗ bigSep Finset.univ B ∗ bigSep Finset.univ C ∗ bigSep Finset.univ D ∗ bigSep Finset.univ E ∗ bigSep Finset.univ G) : sProp 𝕄)
      ⊢ bigSep Finset.univ fun j => iprop(A j ∗ B j ∗ C j ∗ D j ∗ E j ∗ G j) := by
  rw [BI.bigSep_sep', BI.bigSep_sep', BI.bigSep_sep', BI.bigSep_sep', BI.bigSep_sep']
theorem seven {J J' : Type} [DecidableEq J] [Fintype J] [DecidableEq J'] [Fintype J'] (A B C D E G H : J → J' → sProp (MT nD τ sig (HIx 3) (Elt F) ℕ UU ℕ)) :
    (iprop((bigSep Finset.univ fun a => bigSep Finset.univ fun b => A a b) ∗ (bigSep Finset.univ fun a => bigSep Finset.univ fun b => B a b)
        ∗ (bigSep Finset.univ fun a => bigSep Finset.univ fun b => C a b) ∗ (bigSep Finset.univ fun a => bigSep Finset.univ fun b => D a b)
        ∗ (bigSep Finset.univ fun a => bigSep Finset.univ fun b => E a b) ∗ (bigSep Finset.univ fun a => bigSep Finset.univ fun b => G a b)
        ∗ (bigSep Finset.univ fun a => bigSep Finset.univ fun b => H a b)) : sProp 𝕄)
      ⊢ bigSep Finset.univ fun a => bigSep Finset.univ fun b => iprop(A a b ∗ B a b ∗ C a b ∗ D a b ∗ E a b ∗ G a b ∗ H a b) := by
  simp only [BI.bigSep_sep']
  exact BI.Entails.refl _

theorem toks_turn (d : Dev nD) (c : Fin τ.nSC) :
    (bigSep Finset.univ fun j : Fin 16 => bigSep Finset.univ fun r : Fin 3 => bigSep Finset.univ fun k : Fin 16 => (dutyTok EB (bcell d c j) 0 (16 * r.val + k.val) : sProp 𝕄))
      = bigSep Finset.univ fun k : Fin 16 => iprop(toks d c k 0 ∗ toks d c k 1 ∗ toks d c k 2) := by
  unfold toks
  simp only [fin3]
  rw [BI.bigSep_sep', BI.bigSep_sep', BI.bigSep_sep', BI.bigSep_sep']
  exact congrArg₂ _ (BI.bigSep_univ_comm _) (congrArg₂ _ (BI.bigSep_univ_comm _) (BI.bigSep_univ_comm _))

theorem kits (v : BV F) (κ : GSem nD τ sig → ℕ) (d : Dev nD) (c : Fin τ.nSC) :
    iprop((bigSep Finset.univ fun j : Fin 16 => cellInv EB (bRd (F := F)) (κ (bcell d c j)) (bcell d c j)) ∗ (bigSep Finset.univ fun j : Fin 16 => reached EB (bcell d c j) 0)
        ∗ (bigSep Finset.univ fun j : Fin 16 => escs v d c j) ∗ (bigSep Finset.univ fun j : Fin 16 => atPos EB (bcell d c j) 0 ∅ 0)
        ∗ (bigSep Finset.univ fun j : Fin 16 => bigSep Finset.univ fun r : Fin 3 => bigSep Finset.univ fun k : Fin 16 => dutyTok EB (bcell d c j) 0 (16 * r.val + k.val))
        ∗ (bigSep Finset.univ fun j : Fin 16 => iprop(cred (tallyAt (bcell d c j) (some 0) 16) ∗ cred (tallyAt (bcell d c j) (some 1) 16) ∗ cred (tallyAt (bcell d c j) (some 2) 16)))
        ∗ (bigSep Finset.univ fun j : Fin 16 => bigSep Finset.univ fun r : Fin 3 => dutyTok EB (bcell d c j) 1 r.val))
      ⊢ (bigSep Finset.univ fun j : Fin 16 => bkit v d c j : sProp 𝕄) := by
  rw [toks_turn]
  simp only [fin3 (F := F) fun r : Fin 3 => dutyTok EB (bcell d c _) 1 r.val]
  rw [BI.bigSep_sep' Finset.univ (fun j : Fin 16 => (dutyTok EB (bcell d c j) 1 (0 : Fin 3).val : sProp 𝕄)), BI.bigSep_sep' Finset.univ (fun j : Fin 16 => (dutyTok EB (bcell d c j) 1 (1 : Fin 3).val : sProp 𝕄))]
  iintro ⟨Hi, Hr, #HE, HP, Ht, Hc, H0, H1, H2⟩
  ihave #Hcells := (show iprop((bigSep Finset.univ fun j : Fin 16 => cellInv EB (bRd (F := F)) (κ (bcell d c j)) (bcell d c j)) ∗ (bigSep Finset.univ fun j : Fin 16 => reached EB (bcell d c j) 0)) ⊢ cells (F := F) κ d c from by
    unfold cells; rw [BI.bigSep_sep']) $$ [Hi Hr]
  · isplitl [Hi] <;> iassumption
  iapply (mono_with (F := F) (R := iprop(cells (F := F) κ d c ∗ bigSep Finset.univ fun j => escs v d c j))
    (Φ := fun j : Fin 16 => iprop(atPos EB (bcell d c j) 0 ∅ 0 ∗ (toks d c j 0 ∗ toks d c j 1 ∗ toks d c j 2)
      ∗ (cred (tallyAt (bcell d c j) (some 0) 16) ∗ cred (tallyAt (bcell d c j) (some 1) 16) ∗ cred (tallyAt (bcell d c j) (some 2) 16))
      ∗ etok d c j 1 ∗ (if j.val = 0 then bigSep Finset.univ fun j => etok d c j 0 else iprop(emp)) ∗ (if j.val = 0 then bigSep Finset.univ fun j => etok d c j 2 else iprop(emp)))) fun j _ => ?_)
  swap
  · isplitr
    · isplitl; · iexact Hcells
      iexact HE
    iapply (six (F := F) _ _ _ _ _ _)
    isplitl [HP]; · iexact HP
    isplitl [Ht]; · iexact Ht
    isplitl [Hc]; · iexact Hc
    isplitl [H1]; · iexact H1
    isplitl [H0]
    · iapply (at0 (F := F) fun _ => bigSep Finset.univ fun j => etok d c j 0); iexact H0
    · iapply (at0 (F := F) fun _ => bigSep Finset.univ fun j => etok d c j 2); iexact H2
  unfold bkit
  iintro ⟨⟨#Hc, #HE⟩, HP, Ht, Hcr, H1, H0, H2⟩
  isplitr; · iexists κ; iexact Hc
  isplitr; · iexact HE
  isplitl [HP]; · iexact HP
  isplitl [Ht]; · iexact Ht
  isplitl [Hcr]; · iexact Hcr
  isplitl [H1]; · iexact H1
  isplitl [H0]; · iexact H0
  iexact H2

section Launch

variable (X : Dev nD → Vec F S2x32x262144 .f32) (I : Dev nD → S2x262144.Idx → BitVec 32)

theorem Px_all : (bigSep Finset.univ fun d : Dev nD => bigSep Finset.univ fun c : Fin τ.nSC => bigSep Finset.univ fun j : Fin 16 => bkit (vals X I) d c j)
    ⊢ (bigSep Finset.univ fun thr : Thread nD τ => bigSep Finset.univ fun q : Fin 1 => (P X I).x q thr : sProp 𝕄) := by
  rw [SparseCore.Cfg.bigSep_threads (fun thr : Thread nD τ => bigSep Finset.univ fun q : Fin 1 => (P X I).x q thr)]
  have hT : ∀ d : Dev nD, (bigSep Finset.univ fun q : Fin 1 => (P X I).x q (SparseCore.T d)) = iprop(emp) := fun d => bigSep_univ_of_subsingleton (0 : Fin 1)
  have hS : ∀ x : Dev nD × Fin τ.nSC, (bigSep Finset.univ fun q : Fin 1 => (P X I).x q (S x.1 x.2)) = iprop(emp) := fun d => bigSep_univ_of_subsingleton (0 : Fin 1)
  have hV : ∀ x : Dev nD × Fin τ.nSC × Fin τ.nSub, (bigSep Finset.univ fun q : Fin 1 => (P X I).x q (V x.1 x.2.1 x.2.2)) = bkit (vals X I) x.1 x.2.1 x.2.2 := fun d => bigSep_univ_of_subsingleton (0 : Fin 1)
  rw [BI.bigSep_congr fun d _ => hT d, BI.bigSep_congr fun d _ => hS d, BI.bigSep_congr fun d _ => hV d, bigSep_emps, bigSep_emps, BI.bigSep_univ_prod]
  iintro H
  isplitr; · iempintro
  isplitr; · iempintro
  iapply (Entails.of_eq (show (bigSep Finset.univ fun d : Dev nD => bigSep Finset.univ fun c : Fin τ.nSC => bigSep Finset.univ fun j : Fin 16 => bkit (vals X I) d c j) = _ from
    BI.bigSep_congr fun d _ => (BI.bigSep_univ_prod (fun y : Fin τ.nSC × Fin τ.nSub => bkit (vals X I) d y.1 y.2)).symm))
  iexact H

theorem hu₀ : iprop(ownU (u₀ (F := F)) ∗ (P X I).oxCred ∗ (K (F := F)).freeOn (· ∈ bCells))
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P X I).x q thr) : sProp 𝕄) := by
  unfold u₀
  iintro ⟨Hu, Hcred, Hfree⟩
  ihave H := (ownU_two _ _) $$ Hu
  icases H with ⟨HH, HB⟩
  imod (Rounds.fund EB (bRd (F := F)) (bCells ∪ eCells) (aToks ∪ eToks)) $$ HB with ⟨Hst, Hr, Hat, Htok⟩
  ihave Hst := (Entails.of_eq (SparseCore.bigSep_union' cells_disj (Φ := fun g => roundState EB (bRd (F := F)) g 0))) $$ Hst
  icases Hst with ⟨Hstb, Hste⟩
  ihave Hat := (Entails.of_eq (SparseCore.bigSep_union' cells_disj (Φ := fun g => (atPos EB g 0 ∅ 0 : sProp 𝕄)))) $$ Hat
  icases Hat with ⟨Hatb, Hate⟩
  ihave Hr := (Entails.of_eq (SparseCore.bigSep_union' cells_disj (Φ := fun g => (reached EB g 0 : sProp 𝕄)))) $$ Hr
  icases Hr with ⟨Hrb, -⟩
  ihave Htok := (Entails.of_eq (SparseCore.bigSep_union' toks_disj (Φ := fun x => (dutyTok EB x.1 x.2.1 x.2.2 : sProp 𝕄)))) $$ Htok
  icases Htok with ⟨Hta, Hte⟩
  ihave Hs := (bar_sems (F := F)) $$ Hfree
  imod (bar_invs (F := F)) $$ [Hs Hstb] with ⟨%κ, Hinv⟩
  · isplitl [Hs] <;> iassumption
  imod (escs_all (vals X I)) $$ [Hste Hate] with HE
  · isplitl [Hste] <;> iassumption
  ihave Hc := (creds_all X I) $$ Hcred
  ihave Hinv := (Entails.of_eq (all_b (F := F) fun g => cellInv EB (bRd (F := F)) (κ g) g)) $$ Hinv
  ihave Hrb := (Entails.of_eq (all_b (F := F) fun g => reached EB g 0)) $$ Hrb
  ihave Hatb := (Entails.of_eq (all_b (F := F) fun g => atPos EB g 0 ∅ 0)) $$ Hatb
  ihave Hta := (Entails.of_eq (all_a (F := F) fun x => dutyTok EB x.1 x.2.1 x.2.2)) $$ Hta
  ihave Hte := (Entails.of_eq (all_t (F := F) fun x => dutyTok EB x.1 x.2.1 x.2.2)) $$ Hte
  imodintro
  isplitl [HH]; · iexact HH
  isplitr; · rw [bigSep_emps]; iempintro
  iapply (Px_all X I)
  iapply (SparseCore.ent (BI.bigSep_mono fun d _ => BI.bigSep_mono fun c _ => kits (vals X I) κ d c))
  iapply (seven (F := F) _ _ _ _ _ _ _)
  isplitl [Hinv]; · iexact Hinv
  isplitl [Hrb]; · iexact Hrb
  isplitl [HE]; · iexact HE
  isplitl [Hatb]; · iexact Hatb
  isplitl [Hta]; · iexact Hta
  isplitl [Hc]; · iexact Hc
  iexact Hte

end Launch

end Cert.Proof.Embed
-- ==== Proof.Launch.lean ====
/-
  The whole program: the host's operations around the call, and what every run ends with.
-/
module

public import proofs.«01_k».proof.Proof.Fund
public import Idealize.ShloMosaic.Lib.Pipeline.Frame

@[expose] public section

set_option maxRecDepth 16384

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 3) (Elt F) ℕ UU ℕ

open Idealize.ShloMosaic.StableHlo (held wp_hlo_within tcRefs)
open Idealize.ShloMosaic.Pipeline (ucRefs)

variable (m : (ℓ : Loc nD τ sig) → Buf (Elt F) ℓ) (ρ : Dev nD → PrngReg)

/-! ## The host's operations and the arrays they leave -/

abbrev dr (b : Ref sig .tc) : DevRef τ sig := Proc.devRef .tc b
abbrev op0 : HloOp τ sig (Elt F) := StableHlo.reshape main_arg0 main_v0 (rfl : (.f32 : EltTy) = .f32) shapeCasts_S2x32x512x512_S2x32x262144
abbrev op1 : HloOp τ sig (Elt F) := StableHlo.reshape main_arg1 main_v1 (rfl : (.i32 : EltTy) = .i32) shapeCasts_S2x1x512x512_S2x262144
abbrev op3 : HloOp τ sig (Elt F) := StableHlo.unary main_v2 main_v3 ((extractStridedSlice S1x1 ![0, 0] · slices_S2x16_S1x1_0_0) : (⟨S2x16, .f32⟩ : BufTy).Contents (Elt F) → (⟨S1x1, .f32⟩ : BufTy).Contents (Elt F))
abbrev op4 : HloOp τ sig (Elt F) := StableHlo.reshape main_v3 main_v4 (rfl : (.f32 : EltTy) = .f32) shapeCasts_S1x1_S_
abbrev op5 : HloOp τ sig (Elt F) := StableHlo.unary main_v2 main_v5 ((extractStridedSlice S1x1 ![1, 0] · slices_S2x16_S1x1_1_0) : (⟨S2x16, .f32⟩ : BufTy).Contents (Elt F) → (⟨S1x1, .f32⟩ : BufTy).Contents (Elt F))
abbrev op6 : HloOp τ sig (Elt F) := StableHlo.reshape main_v5 main_v6 (rfl : (.f32 : EltTy) = .f32) shapeCasts_S1x1_S_
abbrev op7 : HloOp τ sig (Elt F) := StableHlo.binary main_v4 main_v6 main_v7 (addf : (⟨S_, .f32⟩ : BufTy).Contents (Elt F) → (⟨S_, .f32⟩ : BufTy).Contents (Elt F) → (⟨S_, .f32⟩ : BufTy).Contents (Elt F))
abbrev op8 : HloOp τ sig (Elt F) := StableHlo.nullary main_cst (constant S_ .f32 0x3F000000#32)
abbrev op9 : HloOp τ sig (Elt F) := StableHlo.binary main_v7 main_cst main_v8 (mulf : (⟨S_, .f32⟩ : BufTy).Contents (Elt F) → (⟨S_, .f32⟩ : BufTy).Contents (Elt F) → (⟨S_, .f32⟩ : BufTy).Contents (Elt F))

abbrev Uc : Finset (DevRef τ sig) := ucRefs τ sig

def Wv0 (d : Dev nD) : Valuation τ sig (Elt F) := fun b => m (d, b)
abbrev Wv2 (d : Dev nD) : Valuation τ sig (Elt F) := (op1 (F := F)).result ((op0 (F := F)).result (Wv0 m d))
def Xv (d : Dev nD) : Vec F S2x32x262144 .f32 := Wv2 m d (dr main_v0)
def Iv (d : Dev nD) : S2x262144.Idx → BitVec 32 := Wv2 m d (dr main_v1)
/-- What the call leaves: row `c` is SparseCore `c`'s. -/
def outAll (d : Dev nD) : Vec F S2x16 .f32 := fun p => outP (outV (Xv m d) (Iv m d) (p 0)) p
def Wv3 (d : Dev nD) : Valuation τ sig (Elt F) := Function.update (Wv2 m d) (dr main_v2) (outAll m d)
def Wv4 (d : Dev nD) : Valuation τ sig (Elt F) := (op3 (F := F)).result (Wv3 m d)
def Wv5 (d : Dev nD) : Valuation τ sig (Elt F) := (op4 (F := F)).result (Wv4 m d)
def Wv6 (d : Dev nD) : Valuation τ sig (Elt F) := (op5 (F := F)).result (Wv5 m d)
def Wv7 (d : Dev nD) : Valuation τ sig (Elt F) := (op6 (F := F)).result (Wv6 m d)
def Wv8 (d : Dev nD) : Valuation τ sig (Elt F) := (op7 (F := F)).result (Wv7 m d)
def Wv9 (d : Dev nD) : Valuation τ sig (Elt F) := (op8 (F := F)).result (Wv8 m d)
def Wv10 (d : Dev nD) : Valuation τ sig (Elt F) := (op9 (F := F)).result (Wv9 m d)

theorem uc {b : Ref sig .tc} (h : b.isScoped = false) : dr b ∈ Uc := Finset.mem_filter.mpr ⟨StableHlo.devRef_mem_tcRefs b, by
    intro hs
    have h' : (dr b).isScoped = b.isScoped := rfl
    exact absurd (h'.symm.trans hs) (by rw [h]; decide)⟩

theorem uc2 {a b : Ref sig .tc} (ha : a.isScoped = false) (hb : b.isScoped = false) : ({dr a, dr b} : Finset (DevRef τ sig)) ⊆ Uc := by
  intro x hx
  simp only [Finset.mem_insert, Finset.mem_singleton] at hx
  rcases hx with rfl | rfl
  · exact uc ha
  · exact uc hb
theorem uc3 {a b c : Ref sig .tc} (ha : a.isScoped = false) (hb : b.isScoped = false) (hc : c.isScoped = false) : ({dr a, dr b, dr c} : Finset (DevRef τ sig)) ⊆ Uc := by
  intro x hx
  simp only [Finset.mem_insert, Finset.mem_singleton] at hx
  rcases hx with rfl | rfl | rfl
  · exact uc ha
  · exact uc hb
  · exact uc hc

theorem b0 : (op0 (F := F)).bufs ⊆ Uc := show ({dr main_arg0, dr main_v0} : Finset (DevRef τ sig)) ⊆ Uc from uc2 rfl rfl
theorem b1 : (op1 (F := F)).bufs ⊆ Uc := show ({dr main_arg1, dr main_v1} : Finset (DevRef τ sig)) ⊆ Uc from uc2 rfl rfl
theorem b3' : (op3 (F := F)).bufs ⊆ Uc := show ({dr main_v2, dr main_v3} : Finset (DevRef τ sig)) ⊆ Uc from uc2 rfl rfl
theorem b4 : (op4 (F := F)).bufs ⊆ Uc := show ({dr main_v3, dr main_v4} : Finset (DevRef τ sig)) ⊆ Uc from uc2 rfl rfl
theorem b5 : (op5 (F := F)).bufs ⊆ Uc := show ({dr main_v2, dr main_v5} : Finset (DevRef τ sig)) ⊆ Uc from uc2 rfl rfl
theorem b6 : (op6 (F := F)).bufs ⊆ Uc := show ({dr main_v5, dr main_v6} : Finset (DevRef τ sig)) ⊆ Uc from uc2 rfl rfl
theorem b7 : (op7 (F := F)).bufs ⊆ Uc := show ({dr main_v4, dr main_v6, dr main_v7} : Finset (DevRef τ sig)) ⊆ Uc from uc3 rfl rfl rfl
theorem b8 : (op8 (F := F)).bufs ⊆ Uc := show ({dr main_cst} : Finset (DevRef τ sig)) ⊆ Uc from Finset.singleton_subset_iff.mpr (uc rfl)
theorem b9 : (op9 (F := F)).bufs ⊆ Uc := show ({dr main_v7, dr main_cst, dr main_v8} : Finset (DevRef τ sig)) ⊆ Uc from uc3 rfl rfl rfl

/-! ## The call's arrays off the rest, and their split over the SparseCores -/

abbrev S3 : Finset (DevRef τ sig) := {dr main_v0, dr main_v1, dr main_v2}
abbrev restH (d : Dev nD) (W : Valuation τ sig (Elt F)) : sProp 𝕄 := held (SparseCore.T d) (Uc \ S3) W

theorem held_call (d : Dev nD) (W : Valuation τ sig (Elt F)) :
    (held (SparseCore.T d) Uc W : sProp 𝕄)
      = iprop(((v0L d ↦{fullShare} W (dr main_v0)) ∗ (v1L d ↦{fullShare} W (dr main_v1)) ∗ (v2L d ↦{fullShare} W (dr main_v2))) ∗ restH d W) := by
  unfold restH held
  rw [SparseCore.bigSep_sdiff_split' (show S3 ⊆ Uc from uc3 rfl rfl rfl),
    SparseCore.bigSep_insert' (by decide), SparseCore.bigSep_insert' (by decide), bigSep_singleton]

theorem rest_congr (d : Dev nD) (W : Valuation τ sig (Elt F)) (g : Vec F S2x16 .f32) :
    restH d W = restH d (Function.update W (dr main_v2) g) :=
  bigSep_congr fun b hb => by
    have hb' : b ∈ Uc \ S3 := hb
    have hne : b ≠ dr main_v2 := fun e => (Finset.mem_sdiff.mp hb').2 (by rw [e]; simp)
    rw [Function.update_of_ne hne]

theorem outS_disj : ∀ t ∈ (Finset.univ : Finset (Fin 2)), ∀ t' ∈ (Finset.univ : Finset (Fin 2)), t ≠ t' → Disjoint (outS t.val) (outS t'.val) := by
  intro t _ t' _ h
  refine Finset.disjoint_left.mpr fun p hp hp' => h (Fin.ext ?_)
  rw [← (Finset.mem_filter.mp hp).2, (Finset.mem_filter.mp hp').2]
theorem outS_all : (Finset.univ : Finset (Fin 2)).biUnion (fun c => outS c.val) = Finset.univ := by
  ext p
  simp only [Finset.mem_biUnion, Finset.mem_univ, true_and, iff_true]
  exact ⟨p 0, Finset.mem_filter.mpr ⟨Finset.mem_univ _, rfl⟩⟩

theorem out_rows (d : Dev nD) (g : Buf (Elt F) (v2L d)) :
    (v2L d ↦{fullShare} g : sProp 𝕄) = bigSep Finset.univ fun c : Fin 2 => v2L d ↦[outS c.val]{fullShare} g := by
  have h := pointsTo_biUnion (Val := Elt F) (Ix := HIx 3) (Name := ℕ) (U := UU) (Lvl := ℕ) (ℓ := v2L d) (q := fullShare) (f := g) Finset.univ (fun c : Fin 2 => outS c.val) outS_disj
  rw [outS_all] at h
  exact h

theorem tab_deal (ℓ : Loc nD τ sig) (g : Buf (Elt F) ℓ) :
    (ℓ ↦{fullShare} g : sProp 𝕄) = bigSep Finset.univ fun c : Fin 2 => ℓ ↦{qc c} g :=
  Transfers.pointsTo_deal Finset.univ Finset.univ_nonempty fullShare

theorem st_ex (d : Dev nD) (c : Fin 2) (g : Buf (Elt F) (v2L d)) :
    (v2L d ↦[outS c.val]{fullShare} g : sProp 𝕄) ⊢ iprop(∃ g : Vec F S2x16 .f32, v2L d ↦[outS c.val]{fullShare} (g : Buf (Elt F) (v2L d))) := by
  iintro HO
  iexists g; iexact HO

theorem st_in (X : Dev nD → Vec F S2x32x262144 .f32) (I : Dev nD → S2x262144.Idx → BitVec 32) (d : Dev nD) (g : Buf (Elt F) (v2L d)) :
    iprop((v0L d ↦{fullShare} (X d : Buf (Elt F) (v0L d))) ∗ (v1L d ↦{fullShare} (I d : Buf (Elt F) (v1L d))) ∗ (v2L d ↦{fullShare} g))
      ⊢ (bigSep Finset.univ fun c : Fin 2 => stP X I d c : sProp 𝕄) := by
  rw [tab_deal, tab_deal, out_rows]
  have e : ∀ (A B C : Fin 2 → sProp 𝕄), iprop(bigSep Finset.univ A ∗ bigSep Finset.univ B ∗ bigSep Finset.univ C) = bigSep Finset.univ fun c => iprop(A c ∗ B c ∗ C c) := fun A B C => by
    rw [← BI.bigSep_sep', ← BI.bigSep_sep']
  rw [e]
  refine bigSep_mono fun c _ => ?_
  exact sep_mono_right (sep_mono_right (st_ex d c g))

theorem dn_out (d : Dev nD) :
    (bigSep Finset.univ fun c : Fin 2 => dnP (Xv m) (Iv m) d c : sProp 𝕄)
      ⊢ iprop(((v0L d ↦{fullShare} (Xv m d : Buf (Elt F) (v0L d))) ∗ (v1L d ↦{fullShare} (Iv m d : Buf (Elt F) (v1L d))) ∗ (v2L d ↦{fullShare} (outAll m d : Buf (Elt F) (v2L d))))
          ∗ bigSep Finset.univ fun c : Fin 2 => bars (F := F) d c) := by
  rw [tab_deal, tab_deal, out_rows]
  have e : ∀ (A B C D : Fin 2 → sProp 𝕄), (bigSep Finset.univ fun c => iprop(A c ∗ B c ∗ D c ∗ C c)) = iprop(bigSep Finset.univ A ∗ bigSep Finset.univ B ∗ bigSep Finset.univ D ∗ bigSep Finset.univ C) := fun A B C D => by
    rw [← BI.bigSep_sep', ← BI.bigSep_sep', ← BI.bigSep_sep']
  have e2 : (fun c : Fin 2 => (v2L d ↦[outS c.val]{fullShare} (outAll m d : Buf (Elt F) (v2L d)) : sProp 𝕄))
      = fun c => v2L d ↦[outS c.val]{fullShare} (outP (outV (Xv m d) (Iv m d) c) : Buf (Elt F) (v2L d)) := funext fun c =>
    pointsTo_congr fun p hp => by
      have hc : p 0 = c := Fin.ext (Finset.mem_filter.mp hp).2
      subst hc; rfl
  rw [e2]
  unfold dnP
  rw [e]
  iintro ⟨HX, HI, Hb, HO⟩
  isplitl [HX HI HO]
  · isplitl [HX]; · iexact HX
    isplitl [HI]; · iexact HI
    iexact HO
  iexact Hb

/-! ## The host's run -/

theorem st0 (d : Dev nD) : (bigSep Finset.univ fun c : Fin ((K (F := F)).nCore 0) => (P (Xv m) (Iv m)).st 0 d c) = (bigSep Finset.univ fun c : Fin 2 => stP (Xv m) (Iv m) d c : sProp 𝕄) := rfl
theorem dn0 (d : Dev nD) : (bigSep Finset.univ fun c : Fin ((K (F := F)).nCore 0) => (P (Xv m) (Iv m)).dn 0 d c) = (bigSep Finset.univ fun c : Fin 2 => dnP (Xv m) (Iv m) d c : sProp 𝕄) := rfl

/-- What the host leaves the claim: every array of its own at its last contents, and the barriers' cells at zero. -/
def FIN (d : Dev nD) : sProp 𝕄 := iprop(held (SparseCore.T d) Uc (Wv10 m d) ∗ bigSep Finset.univ fun c : Fin 2 => bars (F := F) d c)

theorem to_call (d : Dev nD) : (held (SparseCore.T d) Uc (Wv2 m d) : sProp 𝕄) ⊢ iprop((bigSep Finset.univ fun c : Fin ((K (F := F)).nCore 0) => (P (Xv m) (Iv m)).st 0 d c) ∗ restH d (Wv2 m d)) := by
  rw [held_call, st0]
  exact sep_mono_left (st_in (Xv m) (Iv m) d _)

theorem of_call (d : Dev nD) : iprop((bigSep Finset.univ fun c : Fin ((K (F := F)).nCore 0) => (P (Xv m) (Iv m)).dn 0 d c) ∗ restH d (Wv2 m d))
    ⊢ (iprop(held (SparseCore.T d) Uc (Wv3 m d) ∗ bigSep Finset.univ fun c : Fin 2 => bars (F := F) d c) : sProp 𝕄) := by
  rw [dn0, held_call d (Wv3 m d)]
  have e : restH d (Wv3 m d) = restH d (Wv2 m d) := (rest_congr d (Wv2 m d) (outAll m d)).symm
  rw [e, show Wv3 m d (dr main_v0) = Wv2 m d (dr main_v0) from Function.update_of_ne (by decide) _ _,
    show Wv3 m d (dr main_v1) = Wv2 m d (dr main_v1) from Function.update_of_ne (by decide) _ _,
    show Wv3 m d (dr main_v2) = outAll m d from Function.update_self _ _ _]
  refine (sep_mono_left (dn_out m d)).trans ?_
  iintro ⟨⟨H, Hb⟩, Hr⟩
  isplitr [Hb]
  · isplitl [H]; · iexact H
    iexact Hr
  iexact Hb

theorem start_held (d : Dev nD) : (unscopedBufs d (fun b => m ((SparseCore.T d).loc b)) : sProp 𝕄) = held (SparseCore.T d) Uc (Wv0 m d) :=
  Pipeline.unscopedBufs_held d (Wv0 m d)

theorem hmain (κ : GSem nD τ sig → ℕ) (d : Dev nD) :
    iprop((K (F := F)).ctx EH (P (Xv m) (Iv m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [start_held]
  simp only [main, wp_bind, wp_pure]
  iintro ⟨#Hctx, Hst, ⟨Hb, Hh, Hts, -⟩, -⟩
  iapply (wp_hlo_within 𝒱 (SparseCore.T d) none Set.univ (op := op0) (S := Uc) b0 (V := Wv0 m d)) $$ [Hb Hh]
  · isplitl [Hb]; · iexact Hb
    iexact Hh
  iintro ⟨Hb, Hh⟩; rw [wp_ret]; imodintro
  iapply (wp_hlo_within 𝒱 (SparseCore.T d) none Set.univ (op := op1) (S := Uc) b1 (V := (op0 (F := F)).result (Wv0 m d))) $$ [Hb Hh]
  · isplitl [Hb]; · iexact Hb
    iexact Hh
  iintro ⟨Hb, Hh⟩; rw [wp_ret]; imodintro
  ihave Hh := (to_call m d) $$ Hh
  icases Hh with ⟨Hs, Hr⟩
  iapply ((K (F := F)).wp_run (D (F := F)) 𝒱 (EH := EH) (P := P (Xv m) (Iv m)) κ d 0) $$ [Hst Hs Hb Hr Hts]
  isplitr; · iexact Hctx
  isplitl [Hst]; · iexact Hst
  isplitl [Hs]; · iexact Hs
  iintro ⟨Hst, Hdn⟩
  ihave Hh := (of_call m d) $$ [Hdn Hr]
  · isplitl [Hdn]; · iexact Hdn
    iexact Hr
  icases Hh with ⟨Hh, Hbars⟩
  iapply (wp_hlo_within 𝒱 (SparseCore.T d) none Set.univ (op := op3) (S := Uc) b3' (V := Wv3 m d)) $$ [Hb Hh]
  · isplitl [Hb]; · iexact Hb
    iexact Hh
  iintro ⟨Hb, Hh⟩; rw [wp_ret]; imodintro
  iapply (wp_hlo_within 𝒱 (SparseCore.T d) none Set.univ (op := op4) (S := Uc) b4 (V := Wv4 m d)) $$ [Hb Hh]
  · isplitl [Hb]; · iexact Hb
    iexact Hh
  iintro ⟨Hb, Hh⟩; rw [wp_ret]; imodintro
  iapply (wp_hlo_within 𝒱 (SparseCore.T d) none Set.univ (op := op5) (S := Uc) b5 (V := Wv5 m d)) $$ [Hb Hh]
  · isplitl [Hb]; · iexact Hb
    iexact Hh
  iintro ⟨Hb, Hh⟩; rw [wp_ret]; imodintro
  iapply (wp_hlo_within 𝒱 (SparseCore.T d) none Set.univ (op := op6) (S := Uc) b6 (V := Wv6 m d)) $$ [Hb Hh]
  · isplitl [Hb]; · iexact Hb
    iexact Hh
  iintro ⟨Hb, Hh⟩; rw [wp_ret]; imodintro
  iapply (wp_hlo_within 𝒱 (SparseCore.T d) none Set.univ (op := op7) (S := Uc) b7 (V := Wv7 m d)) $$ [Hb Hh]
  · isplitl [Hb]; · iexact Hb
    iexact Hh
  iintro ⟨Hb, Hh⟩; rw [wp_ret]; imodintro
  iapply (wp_hlo_within 𝒱 (SparseCore.T d) none Set.univ (op := op8) (S := Uc) b8 (V := Wv8 m d)) $$ [Hb Hh]
  · isplitl [Hb]; · iexact Hb
    iexact Hh
  iintro ⟨Hb, Hh⟩; rw [wp_ret]; imodintro
  iapply (wp_hlo_within 𝒱 (SparseCore.T d) none Set.univ (op := op9) (S := Uc) b9 (V := Wv9 m d)) $$ [Hb Hh]
  · isplitl [Hb]; · iexact Hb
    iexact Hh
  iintro ⟨Hb, Hh⟩; rw [wp_ret]; imodintro
  imodintro
  isplitl [Hst]; · iexact Hst
  isplitr [Hb Hts]
  · unfold FIN
    isplitl [Hh]; · iexact Hh
    iexact Hbars
  isplitl [Hb]; · iexact Hb
  iexact Hts

/-! ## What the end shows -/

def fq (d : Dev nD) (s' : Phys nD τ sig (Elt F)) : Prop :=
  (∀ b ∈ Uc, s'.mem.mem (d, b) = Wv10 m d b) ∧ ∀ (c : Fin 2) (j : Fin 16), s'.mem.sem (bcell d (c.castLE hcore0) j) = 0

theorem hfin_b (d : Dev nD) (s' : Phys nD τ sig (Elt F)) (ℓ : Loc nD τ sig) (g : Buf (Elt F) ℓ) :
    iprop((ℓ ↦{fullShare} g) ∗ SI s') ⊢ (⌜s'.mem.mem ℓ = g⌝ : sProp 𝕄) := by
  iintro ⟨Hx, HSI⟩
  ihave H := (SI_pointsTo_agree (st := s') (ℓ := ℓ) (I := Finset.univ) (q := fullShare) (f := g)) $$ [HSI Hx]
  · isplitl [HSI] <;> iassumption
  icases H with %hx
  ipureintro; exact funext fun i => hx i (Finset.mem_univ i)

theorem held_one (d : Dev nD) (W : Valuation τ sig (Elt F)) {b : DevRef τ sig} (hb : b ∈ Uc) :
    (held (SparseCore.T d) Uc W : sProp 𝕄) ⊢ (((d, b) : Loc nD τ sig) ↦{fullShare} W b) :=
  SparseCore.ent (bigSep_elim hb)

theorem bars_one (d : Dev nD) (c : Fin 2) (j : Fin 16) :
    (bigSep Finset.univ fun c : Fin 2 => bars (F := F) d c : sProp 𝕄) ⊢ (semVal (bcell d (c.castLE hcore0) j) 0 : sProp 𝕄) :=
  (SparseCore.ent (bigSep_elim (Finset.mem_univ c))).trans (SparseCore.ent (bigSep_elim (Finset.mem_univ j)))

theorem hfin (d : Dev nD) (s' : Phys nD τ sig (Elt F)) : iprop(FIN m d ∗ SI s') ⊢ (⌜fq m d s'⌝ : sProp 𝕄) :=
  fun x hx => ⟨fun b hb => ((sep_mono_left (sep_elim_left.trans (held_one d (Wv10 m d) hb))).trans (hfin_b d s' (d, b) (Wv10 m d b))) x hx, fun c j =>
    ((sep_mono_left (sep_elim_right.trans (bars_one d c j))).trans (SparseCore.Cfg.semVal_zero_read _ s')) x hx⟩

theorem hA (s' : Phys nD τ sig (Elt F)) (h : ∀ d, fq m d s') (g : GSem nD τ sig) (hg : g ∈ bCells) : s'.mem.sem g = 0 := by
  obtain ⟨⟨d, c, j⟩, -, rfl⟩ := Finset.mem_image.mp hg
  exact (h d).2 ⟨c.val, c.isLt⟩ j

def QC : PUnit × MemSt nD τ sig (Elt F) → Prop := fun r => (∀ d, ∀ b ∈ Uc, r.2.mem (d, b) = Wv10 m d b) ∧ r.2.sem = fun _ => 0

/-- Every run of the program ends, with the arrays at their last contents and every semaphore at zero. -/
theorem run_main [∀ e, Nonempty (Elt F e)] (hI : ∀ d j, (Iv m d j).toNat < 32) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (Xv m) (Iv m)) (hA := hA m) facts v₀
    (fun q hq => match q with | 0 => nomatch hq)
    (fun q _ => match q with | 0 => tileObl (Xv m) (Iv m) hI)
    (fun q _ => match q with | 0 => vecSplit (Xv m) (Iv m))
    m ρ main (fun _ => iprop(emp)) (FIN m) u₀ (hu₀ (Xv m) (Iv m)) (hmain m ρ) (fq m) (hfin m) (QC m) (fun _ h hz => ⟨fun d => (h d).1, hz⟩)

/-! ## The arguments at the end -/

theorem end_arg0 (d : Dev nD) : Wv10 m d (dr main_arg0) = m (d, dr main_arg0) := by
  unfold Wv10 Wv9 Wv8 Wv7 Wv6 Wv5 Wv4
  rw [HloOp.result_of_not_mem _ _ (b := dr main_arg0) (show dr main_arg0 ∉ ({dr main_v8} : Finset (DevRef τ sig)) by decide),
    HloOp.result_of_not_mem _ _ (b := dr main_arg0) (show dr main_arg0 ∉ ({dr main_cst} : Finset (DevRef τ sig)) by decide),
    HloOp.result_of_not_mem _ _ (b := dr main_arg0) (show dr main_arg0 ∉ ({dr main_v7} : Finset (DevRef τ sig)) by decide),
    HloOp.result_of_not_mem _ _ (b := dr main_arg0) (show dr main_arg0 ∉ ({dr main_v6} : Finset (DevRef τ sig)) by decide),
    HloOp.result_of_not_mem _ _ (b := dr main_arg0) (show dr main_arg0 ∉ ({dr main_v5} : Finset (DevRef τ sig)) by decide),
    HloOp.result_of_not_mem _ _ (b := dr main_arg0) (show dr main_arg0 ∉ ({dr main_v4} : Finset (DevRef τ sig)) by decide),
    HloOp.result_of_not_mem _ _ (b := dr main_arg0) (show dr main_arg0 ∉ ({dr main_v3} : Finset (DevRef τ sig)) by decide)]
  unfold Wv3 Wv2
  rw [Function.update_of_ne (by decide), HloOp.result_of_not_mem _ _ (b := dr main_arg0) (show dr main_arg0 ∉ ({dr main_v1} : Finset (DevRef τ sig)) by decide),
    HloOp.result_of_not_mem _ _ (b := dr main_arg0) (show dr main_arg0 ∉ ({dr main_v0} : Finset (DevRef τ sig)) by decide)]
  rfl
theorem end_arg1 (d : Dev nD) : Wv10 m d (dr main_arg1) = m (d, dr main_arg1) := by
  unfold Wv10 Wv9 Wv8 Wv7 Wv6 Wv5 Wv4
  rw [HloOp.result_of_not_mem _ _ (b := dr main_arg1) (show dr main_arg1 ∉ ({dr main_v8} : Finset (DevRef τ sig)) by decide),
    HloOp.result_of_not_mem _ _ (b := dr main_arg1) (show dr main_arg1 ∉ ({dr main_cst} : Finset (DevRef τ sig)) by decide),
    HloOp.result_of_not_mem _ _ (b := dr main_arg1) (show dr main_arg1 ∉ ({dr main_v7} : Finset (DevRef τ sig)) by decide),
    HloOp.result_of_not_mem _ _ (b := dr main_arg1) (show dr main_arg1 ∉ ({dr main_v6} : Finset (DevRef τ sig)) by decide),
    HloOp.result_of_not_mem _ _ (b := dr main_arg1) (show dr main_arg1 ∉ ({dr main_v5} : Finset (DevRef τ sig)) by decide),
    HloOp.result_of_not_mem _ _ (b := dr main_arg1) (show dr main_arg1 ∉ ({dr main_v4} : Finset (DevRef τ sig)) by decide),
    HloOp.result_of_not_mem _ _ (b := dr main_arg1) (show dr main_arg1 ∉ ({dr main_v3} : Finset (DevRef τ sig)) by decide)]
  unfold Wv3 Wv2
  rw [Function.update_of_ne (by decide), HloOp.result_of_not_mem _ _ (b := dr main_arg1) (show dr main_arg1 ∉ ({dr main_v1} : Finset (DevRef τ sig)) by decide),
    HloOp.result_of_not_mem _ _ (b := dr main_arg1) (show dr main_arg1 ∉ ({dr main_v0} : Finset (DevRef τ sig)) by decide)]
  rfl

end Cert.Proof.Embed
-- ==== Proof.Frames.lean ====
/-
  The frames of the kernel and of its idealization.
-/
module

public import proofs.«01_k».proof.Proof.Launch
public import proofs.«01_k».proof.Defs
public import proofs.«01_k».proof.Proof.Gen.Kernel
public import proofs.«01_k».proof.Proof.Gen.Pre_ids_in_range
public import Idealize.ShloMosaic.Lib.ReduceAll
public import Idealize.ShloMosaic.Lib.Affine

@[expose] public section

set_option maxRecDepth 16384

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 3) (Elt F) ℕ UU ℕ

variable (m : (ℓ : Loc nD τ sig) → Buf (Elt F) ℓ) (ρ : Dev nD → PrngReg)

/-! ## The class ids lie in range -/

theorem pre_range (a0 : FVec F S2x32x512x512 .f32) (a1 : IVec S2x1x512x512 32)
    (h : Cert.Pre_ids_in_range.fn (F := F) a0 a1 = fun _ => 1#1) (i : S2x1x512x512.Idx) : (a1 i).toNat < 32 := by
  have h0 := congrFun h (fun k => k.elim0)
  unfold Cert.Pre_ids_in_range.fn at h0
  simp only [andi, IntOp.andi_eq_one] at h0
  haveI : Subsingleton Cert.Pre_ids_in_range.S_.Idx := ⟨fun a b => funext fun k => k.elim0⟩
  have hge := Host.reduce_andi_all _ _ _ _ _ h0.1 i
  have hlt := Host.reduce_andi_all _ _ _ _ _ h0.2 i
  have g1 : (0#32 : BitVec 32).toInt ≤ (a1 i).toInt := IntOp.cmpi_sge.mp hge
  have g2 : (a1 i).toInt < (32#32 : BitVec 32).toInt := IntOp.cmpi_slt.mp hlt
  rw [show (0#32 : BitVec 32).toInt = 0 from by decide] at g1
  rw [show (32#32 : BitVec 32).toInt = 32 from by decide] at g2
  rw [BitVec.toInt_eq_toNat_cond] at g1 g2
  have := (a1 i).isLt
  split at g1 <;> omega

theorem Iv_eq (d : Dev nD) : Iv m d = shapeCast S2x262144 (m ((SparseCore.T d).loc main_arg1)) shapeCasts_S2x1x512x512_S2x262144 := by
  unfold Iv Wv2
  rw [StableHlo.reshape_result', HloOp.result_of_not_mem _ _ (b := dr main_arg1) (show dr main_arg1 ∉ ({dr main_v0} : Finset (DevRef τ sig)) by decide)]
  rfl

theorem Xv_eq (d : Dev nD) : Xv m d = shapeCast S2x32x262144 (m ((SparseCore.T d).loc main_arg0)) shapeCasts_S2x32x512x512_S2x32x262144 := by
  unfold Xv Wv2
  rw [HloOp.result_of_not_mem _ _ (b := dr main_v0) (show dr main_v0 ∉ ({dr main_v1} : Finset (DevRef τ sig)) by decide), StableHlo.reshape_result']
  rfl

theorem ids_lt (h : ∀ c : Dev nD, Cert.Pre_ids_in_range.fn (F := F) (m ((SparseCore.T c).loc main_arg0)) (m ((SparseCore.T c).loc main_arg1)) = fun _ => 1#1)
    (d : Dev nD) (j : S2x262144.Idx) : (Iv m d j).toNat < 32 := by
  rw [Iv_eq]
  exact pre_range (F := F) _ _ (h d) _

/-! ## The frames -/

theorem frame_ideal : Cert.quiescent_KernelIdeal := fun m ρ hp =>
  (θ_run Cert.KernelIdeal.defs _ _).mono
    (fun _ h => ⟨fun c => ⟨(h.1 c _ (uc rfl)).trans (end_arg0 m c), (h.1 c _ (uc rfl)).trans (end_arg1 m c)⟩, h.2⟩)
    (run_main (F := Ideal) m ρ (ids_lt (F := Ideal) m hp))

/-- At the bit-exact instance the named constant is its own bits. -/
instance namedBits : Named Bits where
  named _ _ {φ} b := Scalar.ofBits φ b

/-- The kernel's frame, written of the program as the idealization prints it, at the bit-exact instance. -/
def frameBits : Prop :=
  ∀ (m : (ℓ : Loc nD τ sig) → Buf (Elt Bits) ℓ) (g : Dev nD → PrngReg),
    (∀ c : Dev nD, Cert.Pre_ids_in_range.fn (F := Bits) (m ((c.tc : Thread nD τ).loc main_arg0)) (m ((c.tc : Thread nD τ).loc main_arg1)) = fun _ => 1#1) →
    θ_run (Cert.KernelIdeal.defs (F := Bits)) (Cert.KernelIdeal.threads (F := Bits)) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem frame_bits : frameBits := fun m ρ hp =>
  (θ_run Cert.KernelIdeal.defs _ _).mono
    (fun _ h => ⟨fun c => ⟨(h.1 c _ (uc rfl)).trans (end_arg0 m c), (h.1 c _ (uc rfl)).trans (end_arg1 m c)⟩, h.2⟩)
    (run_main (F := Bits) m ρ (ids_lt (F := Bits) m hp))

/-- The two printed programs are one text, but for the named constant. -/
theorem same_text : Cert.quiescent_Kernel = frameBits := by eq_refl

theorem frame_kernel : Cert.quiescent_Kernel := same_text.symm ▸ frame_bits

end Cert.Proof.Embed
-- ==== Proof.Refs.lean ====
/-
  The reference's frames, and the constant that the idealization names.
-/
module

public import proofs.«01_k».proof.Defs
public import proofs.«01_k».proof.Proof.Gen.ReferenceIdeal
public import proofs.«01_k».proof.Proof.Gen.ReferenceIdeal.Run
public import proofs.«01_k».proof.Proof.Gen.Pre_ids_in_range

@[expose] public section

noncomputable section

namespace Cert.Proof.Refs

open Idealize.ShloMosaic Idealize.SL.Sem

/-- The reference declares no semaphore, so its counters read zero; its run keeps its arguments. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ref_pre : Cert.quiescent_ReferenceIdeal_pre_ids_in_range := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Refs

end
-- ==== Proof.Sums.lean ====
/-
  The sums that the first pass leaves, over the extended reals: a table's entry is the sum over all pixels of what each adds.
-/
module

public import proofs.«01_k».proof.Proof.Frames

@[expose] public section

set_option maxRecDepth 16384

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-! ## Sums over ranges -/

/-- A sum over sixteen times as many places, sixteen at a time. -/
theorem sum_blocks (f : ℕ → EReal) (b n : ℕ) : ∑ g ∈ Finset.range n, ∑ l ∈ Finset.range b, f (b * g + l) = ∑ p ∈ Finset.range (b * n), f p := by
  induction n with
  | zero => simp
  | succ n ih => rw [Finset.sum_range_succ, ih, Nat.mul_succ, Finset.sum_range_add]

/-- What a function built from trips adds, trip by trip. -/
theorem iter_sum {α : Type} (f : ℕ → α → α) (T : α → EReal) (δ : ℕ → EReal) (K : α → Prop) (hK : ∀ n σ, K σ → K (f n σ))
    (h : ∀ n σ, K σ → T (f n σ) = T σ + δ n) (a : α) (ha : K a) (n : ℕ) :
    K (iter f n a) ∧ T (iter f n a) = T a + ∑ k ∈ Finset.range n, δ k := by
  induction n with
  | zero => exact ⟨ha, by simp [iter]⟩
  | succ n ih =>
    refine ⟨hK _ _ ih.1, ?_⟩
    rw [show iter f (n + 1) a = f n (iter f n a) from rfl, h _ _ ih.1, ih.2, Finset.sum_range_succ, add_assoc]

/-! ## An accumulator's four places of a sum -/

/-- Lane `l` of sixteen. -/
def ln (l : ℕ) : S16.Idx := ixm 16 l

theorem ofLane_ln (k : Fin 16) : (Shape.ofLane (d := ![16]) k : S16.Idx) = ln k.val := by
  funext a; rw [Fin.eq_zero a]; exact Fin.ext (Nat.mod_eq_of_lt k.isLt).symm
theorem ln_val (l : ℕ) (h : l < 16) : ((ln l : S16.Idx) 0).val = l := Nat.mod_eq_of_lt h

theorem foldl_ite_sum (P : Fin 16 → Prop) [DecidablePred P] (v : Fin 16 → EReal) (L : List (Fin 16)) (a : EReal) :
    L.foldl (fun a k => if P k then a + v k else a) a = a + (L.map fun k => if P k then v k else 0).sum := by
  induction L generalizing a with
  | nil => simp
  | cons k L ih =>
    rw [List.foldl_cons, ih, List.map_cons, List.sum_cons, ← add_assoc]
    by_cases h : P k
    · simp only [if_pos h]
    · simp only [if_neg h, add_zero]

theorem sum_lanes (f : ℕ → EReal) : ((List.finRange 16).map fun k => f k.val).sum = ∑ l ∈ Finset.range 16, f l := by
  rw [Finset.sum_range]
  exact (Fin.sum_univ_def fun k : Fin 16 => f k.val).symm

theorem sadd_nv (idx : IVec S16 32) (v : Vec Ideal S16 .f32) (f : Vec Ideal S4352 .f32) (n : ℕ) (hn : n < 4352) :
    (nv (N := 4352) (sadd idx v f) n : EReal) = nv (N := 4352) f n + ∑ l ∈ Finset.range 16, if (idx (ln l)).toNat = n then (v (ln l) : EReal) else 0 := by
  have h : ((ixm 4352 n : S4352.Idx) 0).val = n := Nat.mod_eq_of_lt hn
  show (List.finRange 16).foldl (fun (a : EReal) (k : Fin 16) =>
    if (idx (Shape.ofLane (d := ![16]) k)).toNat = ((ixm 4352 n : S4352.Idx) 0).val then a + v (Shape.ofLane (d := ![16]) k) else a) _ = _
  rw [foldl_ite_sum, h, ← sum_lanes]
  simp only [ofLane_ln]

/-- The sum of the four places of `t`. -/
def Q4 (f : Vec Ideal S4352 .f32) (t : ℕ) : EReal := ∑ m ∈ Finset.range 4, (nv (N := 4352) f (4 * t + m) : EReal)

theorem sum4_ite (n t : ℕ) (v : EReal) : (∑ m ∈ Finset.range 4, if n = 4 * t + m then v else 0) = if n / 4 = t then v else 0 := by
  by_cases h : n / 4 = t
  · rw [if_pos h, Finset.sum_eq_single (n % 4)]
    · rw [if_pos (by omega)]
    · intro m hm hne; rw [if_neg]; have := Finset.mem_range.mp hm; omega
    · intro hh; exact absurd (Finset.mem_range.mpr (Nat.mod_lt _ (by decide))) hh
  · rw [if_neg h]
    refine Finset.sum_eq_zero fun m hm => if_neg ?_
    have := Finset.mem_range.mp hm; omega

theorem sadd_Q4 (idx : IVec S16 32) (v : Vec Ideal S16 .f32) (f : Vec Ideal S4352 .f32) (t : ℕ) (ht : t < 1088) (key : ℕ → ℕ)
    (hk : ∀ l < 16, (idx (ln l)).toNat / 4 = key l) (w : ℕ → EReal) (hw : ∀ l < 16, v (ln l) = w l) :
    Q4 (sadd idx v f) t = Q4 f t + ∑ l ∈ Finset.range 16, if key l = t then w l else 0 := by
  unfold Q4
  rw [Finset.sum_congr rfl fun m hm => sadd_nv idx v f (4 * t + m) (by have := Finset.mem_range.mp hm; omega), Finset.sum_add_distrib, Finset.sum_comm (s := Finset.range 4)]
  congr 1
  refine Finset.sum_congr rfl fun l hl => ?_
  have hl' := Finset.mem_range.mp hl
  rw [sum4_ite, hk l hl', hw l hl']

/-- One group's values of the channels `cs`. -/
theorem addL_Q4 {ids : ℕ → BitVec 32} (hids : ∀ n, (ids n).toNat < 32) (xs : ℕ → ℕ → Ideal .f32) (o t : ℕ) (ht : t < 1088) (cs : List ℕ) (hcs : ∀ c ∈ cs, c < 32)
    (f : Vec Ideal S4352 .f32) :
    Q4 (addL (gb ids o) xs o cs f) t
      = Q4 f t + (cs.map fun c => ∑ l ∈ Finset.range 16, if 32 * (ids (o + l)).toNat + c = t then (xs c (o + l) : EReal) else 0).sum := by
  induction cs generalizing f with
  | nil => simp [addL]
  | cons c cs ih =>
    rw [show addL (gb ids o) xs o (c :: cs) f = addL (gb ids o) xs o cs (sadd (cix (gb ids o) c) (xv xs c o) f) from rfl,
      ih (fun c' h => hcs c' (List.mem_cons_of_mem _ h)), List.map_cons, List.sum_cons, ← add_assoc]
    congr 1
    refine sadd_Q4 _ _ _ t ht (fun l => 32 * (ids (o + l)).toNat + c) (fun l hl => ?_) (fun l => xs c (o + l)) (fun l hl => ?_)
    · have h1 := gb_toNat hids o (ln l)
      have h2 := cix_toNat (gb_lt hids o (ln l)) (hcs c (List.mem_cons_self ..))
      rw [ln_val l hl] at h1
      rw [h2, h1]
      have : l % 4 < 4 := Nat.mod_lt _ (by decide)
      omega
    · rw [xv_apply, ln_val l hl]

/-- The sum of the four accumulators' places of `t`. -/
def tot (σ : St Ideal) (t : ℕ) : EReal := Q4 σ.a0 t + Q4 σ.a1 t + Q4 σ.a2 t + Q4 σ.a3 t

/-- What a pixel of id `i` with the channels `x` adds at `t`. -/
def px1 (i : ℕ) (x : ℕ → EReal) (t : ℕ) : EReal := (if 1024 + i = t then 1 else 0) + ∑ c ∈ Finset.range 32, if 32 * i + c = t then x c else 0

theorem one_bits : Ideal.ofBits .f32 0x3F800000#32 = 1 := IdealRules.sign_bit.ideal_onePat .f32

theorem sum32 (f : ℕ → EReal) : ∑ c ∈ Finset.range 32, f c
    = ([0, 4, 8, 12, 16, 20, 24, 28].map f).sum + ([1, 5, 9, 13, 17, 21, 25, 29].map f).sum + ([2, 6, 10, 14, 18, 22, 26, 30].map f).sum + ([3, 7, 11, 15, 19, 23, 27, 31].map f).sum := by
  simp only [Finset.sum_range_succ, Finset.sum_range_zero, List.map_cons, List.map_nil, List.sum_cons, List.sum_nil, add_zero, zero_add]
  ac_rfl

theorem grp1_tot {ids : ℕ → BitVec 32} (hids : ∀ n, (ids n).toNat < 32) (xs : ℕ → ℕ → Ideal .f32) (o t : ℕ) (ht : t < 1088) (σ : St Ideal) :
    tot (grp1 ids xs o σ) t = tot σ t + ∑ l ∈ Finset.range 16, px1 (ids (o + l)).toNat (fun c => xs c (o + l)) t := by
  unfold tot grp1 px1
  dsimp only
  rw [addL_Q4 hids xs o t ht _ (by decide), addL_Q4 hids xs o t ht _ (by decide), addL_Q4 hids xs o t ht _ (by decide), addL_Q4 hids xs o t ht _ (by decide),
    sadd_Q4 (kix ids o) (k0_pay387 (F := Ideal)) σ.a0 t ht (fun l => 1024 + (ids (o + l)).toNat) (fun l hl => by
      rw [kix_toNat hids, ln_val l hl]; have : l % 4 < 4 := Nat.mod_lt _ (by decide); omega) (fun _ => 1) (fun l _ => one_bits),
    Finset.sum_add_distrib, Finset.sum_comm (s := Finset.range 16) (t := Finset.range 32), sum32]
  ac_rfl

end Cert.Proof.Embed
-- ==== Proof.Sums2.lean ====
/-
  What the first pass leaves, over the extended reals: the clusters' counts, sums and means.
-/
module

public import proofs.«01_k».proof.Proof.Sums
public import Idealize.ShloMosaic.PureOps.Ideal.Laws

@[expose] public section

set_option maxRecDepth 16384

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

section Vals

variable (X : Vec Ideal S2x32x262144 .f32) (I : S2x262144.Idx → BitVec 32) (c : Fin 2)

/-- Channel `k` of pixel `p`, and its id. -/
def xx (k p : ℕ) : EReal := X (pxI c k p)
def ii (p : ℕ) : ℕ := (I (idI c p)).toNat
/-- What pixel `p` adds at `t` in the first pass. -/
def pp (t p : ℕ) : EReal := px1 (ii I c p) (fun k => xx X c k p) t

theorem chk1_tot (hI : ∀ j, (I j).toNat < 32) (s t u : ℕ) (hu : u < 1088) (σ : St Ideal) :
    tot (chk1 X I c s t σ) u = tot σ u + ∑ p ∈ Finset.range 1024, pp X I c u (16384 * s + 1024 * t + p) := by
  rw [chk1_def, (iter_sum _ (fun σ => tot σ u) (fun g => ∑ l ∈ Finset.range 16, pp X I c u (16384 * s + 1024 * t + (16 * g + l))) (fun _ => True)
    (fun _ _ _ => trivial) (fun n σ _ => grp1_tot (fun n => idsOf_lt hI c s t n) (xsOf X c s t) (16 * n) u hu σ) σ trivial 64).2,
    sum_blocks (fun q => pp X I c u (16384 * s + 1024 * t + q)) 16 64]

theorem z0_tot (u : ℕ) : tot (z0 (F := Ideal)) u = 0 := by
  have h : Q4 (zs (F := Ideal)) u = 0 := Finset.sum_eq_zero fun m _ => Ideal.ofBits_zero_f32
  show Q4 (zs (F := Ideal)) u + Q4 (zs (F := Ideal)) u + Q4 (zs (F := Ideal)) u + Q4 (zs (F := Ideal)) u = 0
  rw [h]; simp

theorem p1_tot (hI : ∀ j, (I j).toNat < 32) (s u : ℕ) (hu : u < 1088) :
    tot (p1 X I c s) u = ∑ p ∈ Finset.range 16384, pp X I c u (16384 * s + p) := by
  unfold p1
  rw [(iter_sum _ (fun σ => tot σ u) (fun t => ∑ p ∈ Finset.range 1024, pp X I c u (16384 * s + (1024 * t + p))) (fun _ => True)
    (fun _ _ _ => trivial) (fun n σ _ => by rw [chk1_tot X I c hI s n u hu σ]; simp only [Nat.add_assoc]) z0 trivial 16).2,
    sum_blocks (fun q => pp X I c u (16384 * s + q)) 1024 16, z0_tot, zero_add]

end Vals

/-! ## The merge and the reduction -/

theorem mix_toNat (t : ℕ) (ht : t < 68) (m : ℕ) (hm : m < 4) (l : ℕ) (hl : l < 16) : (mix t (BitVec.ofNat 32 m) (ln l)).toNat = 4 * (16 * t + l) + m := by
  have h : ∀ t : Fin 68, ∀ m : Fin 4, ∀ l : Fin 16, (mix t.val (BitVec.ofNat 32 m.val) (ln l.val)).toNat = 4 * (16 * t.val + l.val) + m.val := by decide +kernel
  exact h ⟨t, ht⟩ ⟨m, hm⟩ ⟨l, hl⟩

theorem mrg_tot (σ : St Ideal) (t : ℕ) (ht : t < 68) (l : ℕ) (hl : l < 16) : (mrg σ.a0 σ.a1 σ.a2 σ.a3 t (ln l) : EReal) = tot σ (16 * t + l) := by
  have h0 := mix_toNat t ht 0 (by decide) l hl
  have h1 := mix_toNat t ht 1 (by decide) l hl
  have h2 := mix_toNat t ht 2 (by decide) l hl
  have h3 := mix_toNat t ht 3 (by decide) l hl
  have g0 : ∀ f : Vec Ideal S4352 .f32, gat (N := 4352) f (mix t 0#32) (ln l) = nv (N := 4352) f (4 * (16 * t + l) + 0) := fun f => congrArg (nv (N := 4352) f) h0
  have g1 : ∀ f : Vec Ideal S4352 .f32, gat (N := 4352) f (mix t 1#32) (ln l) = nv (N := 4352) f (4 * (16 * t + l) + 1) := fun f => congrArg (nv (N := 4352) f) h1
  have g2 : ∀ f : Vec Ideal S4352 .f32, gat (N := 4352) f (mix t 2#32) (ln l) = nv (N := 4352) f (4 * (16 * t + l) + 2) := fun f => congrArg (nv (N := 4352) f) h2
  have g3 : ∀ f : Vec Ideal S4352 .f32, gat (N := 4352) f (mix t 3#32) (ln l) = nv (N := 4352) f (4 * (16 * t + l) + 3) := fun f => congrArg (nv (N := 4352) f) h3
  show ((((Ideal.ofBits .f32 0#32 + ((gat (N := 4352) σ.a0 (mix t 0#32) (ln l) + gat (N := 4352) σ.a1 (mix t 0#32) (ln l)) + (gat (N := 4352) σ.a2 (mix t 0#32) (ln l) + gat (N := 4352) σ.a3 (mix t 0#32) (ln l))))
    + ((gat (N := 4352) σ.a0 (mix t 1#32) (ln l) + gat (N := 4352) σ.a1 (mix t 1#32) (ln l)) + (gat (N := 4352) σ.a2 (mix t 1#32) (ln l) + gat (N := 4352) σ.a3 (mix t 1#32) (ln l))))
    + ((gat (N := 4352) σ.a0 (mix t 2#32) (ln l) + gat (N := 4352) σ.a1 (mix t 2#32) (ln l)) + (gat (N := 4352) σ.a2 (mix t 2#32) (ln l) + gat (N := 4352) σ.a3 (mix t 2#32) (ln l))))
    + ((gat (N := 4352) σ.a0 (mix t 3#32) (ln l) + gat (N := 4352) σ.a1 (mix t 3#32) (ln l)) + (gat (N := 4352) σ.a2 (mix t 3#32) (ln l) + gat (N := 4352) σ.a3 (mix t 3#32) (ln l))) : EReal) = _
  simp only [g0, g1, g2, g3, tot, Q4, Finset.sum_range_succ, Finset.sum_range_zero]
  rw [show Ideal.ofBits .f32 0#32 = 0 from Ideal.ofBits_zero_f32]
  simp only [zero_add]
  ac_rfl

/-- An entry of a buffer built of blocks of sixteen. -/
theorem full_ix1 {N : ℕ} (W : ℕ → Vec Ideal S16 .f32) (u : Fin N) : full (N := N) W (ix1 u) = W (u.val / 16) (ln (u.val % 16)) := rfl
theorem full_nv {N : ℕ} [NeZero N] (W : ℕ → Vec Ideal S16 .f32) (u : ℕ) (h : u < N) : nv (full (N := N) W) u = W (u / 16) (ln (u % 16)) := by
  have h' : ((ixm N u : (⟨1, ![N]⟩ : Shape).Idx) 0).val = u := Nat.mod_eq_of_lt h
  show W (((ixm N u : (⟨1, ![N]⟩ : Shape).Idx) 0).val / 16) (ln (((ixm N u : (⟨1, ![N]⟩ : Shape).Idx) 0).val % 16)) = _
  rw [h']

theorem rowOf_tot (σ : St Ideal) (u : Fin 1088) : (rowOf σ (ix1 u) : EReal) = tot σ u.val := by
  show (full (mrg σ.a0 σ.a1 σ.a2 σ.a3) (ix1 u) : EReal) = _
  rw [full_ix1, mrg_tot σ _ (by have := u.isLt; omega) _ (Nat.mod_lt _ (by decide)), Nat.div_add_mod]

theorem sum16 (f : ℕ → EReal) : ∑ c ∈ Finset.range 16, f c
    = 0 + f 0 + f 1 + f 2 + f 3 + f 4 + f 5 + f 6 + f 7 + f 8 + f 9 + f 10 + f 11 + f 12 + f 13 + f 14 + f 15 := by
  simp only [Finset.sum_range_succ, Finset.sum_range_zero]

theorem flat_seg2 (sa : Vec Ideal S16x1088 .f32) (r o l : ℕ) (hl : l < 16) :
    (shapeCast S16 (seg2 sa r o) shapeCasts_S1x16_S16 : Vec Ideal S16 .f32) (ln l) = sa (ix2 r (o + l)) := by
  refine (flat16 (fun n => sa (ix2 r (o + n))) (ln l)).trans ?_
  rw [ln_val l hl]

/-- The sum of a table's column. -/
theorem redW_sum (sa : Vec Ideal S16x1088 .f32) (t l : ℕ) (hl : l < 16) :
    (redW sa t (ln l) : EReal) = ∑ s ∈ Finset.range 16, (sa (ix2 s (16 * t + l)) : EReal) := by
  rw [sum16, ← Ideal.ofBits_zero_f32]
  simp only [← flat_seg2 sa _ (16 * t) l hl]
  rfl

theorem ix2_0 (s u : ℕ) (hs : s < 16) : (ix2 s u 0).val = s := Nat.mod_eq_of_lt hs
theorem ix2_1 (s u : ℕ) (hu : u < 1088) : (ix2 s u 1).val = u := Nat.mod_eq_of_lt hu

section Vals

variable (X : Vec Ideal S2x32x262144 .f32) (I : S2x262144.Idx → BitVec 32) (c : Fin 2)

theorem tab1_apply (hI : ∀ j, (I j).toNat < 32) (s u : ℕ) (hs : s < 16) (hu : u < 1088) :
    (tab1 X I c (ix2 s u) : EReal) = ∑ p ∈ Finset.range 16384, pp X I c u (16384 * s + p) := by
  show (rowOf (p1 X I c (ix2 s u 0).val) (ix1 (ix2 s u 1)) : EReal) = _
  refine (rowOf_tot (p1 X I c (ix2 s u 0).val) (ix2 s u 1)).trans ?_
  rw [ix2_0 s u hs, ix2_1 s u hu, p1_tot X I c hI s u hu]

theorem rdV_sum (hI : ∀ j, (I j).toNat < 32) (u : ℕ) (hu : u < 1088) :
    (nv (N := 1088) (rdV X I c) u : EReal) = ∑ p ∈ Finset.range 262144, pp X I c u p := by
  show nv (full (N := 1088) (redW (tab1 X I c))) u = _
  rw [full_nv _ u hu, redW_sum _ _ _ (Nat.mod_lt _ (by decide)), Nat.div_add_mod,
    Finset.sum_congr rfl fun s hs => tab1_apply X I c hI s u (Finset.mem_range.mp hs) hu, sum_blocks (fun p => pp X I c u p) 16384 16]

/-- The number of pixels of cluster `a`, its sum of channel `k`, and its mean. -/
def cnt (a : ℕ) : EReal := ∑ p ∈ Finset.range 262144, if ii I c p = a then 1 else 0
def sm (a k : ℕ) : EReal := ∑ p ∈ Finset.range 262144, if ii I c p = a then xx X c k p else 0
def mean (a k : ℕ) : EReal := Ideal.div (sm X I c a k) (max (cnt I c a) 1)

theorem rd_sm (hI : ∀ j, (I j).toNat < 32) (a k : ℕ) (ha : a < 32) (hk : k < 32) : (nv (N := 1088) (rdV X I c) (32 * a + k) : EReal) = sm X I c a k := by
  rw [rdV_sum X I c hI _ (by omega)]
  refine Finset.sum_congr rfl fun p _ => ?_
  have hi : ii I c p < 32 := hI _
  unfold pp px1
  rw [if_neg (by omega), zero_add]
  by_cases h : ii I c p = a
  · rw [if_pos h, Finset.sum_eq_single k]
    · rw [if_pos (by omega)]
    · intro b hb hne; rw [if_neg (by omega)]
    · intro hh; exact absurd (Finset.mem_range.mpr hk) hh
  · rw [if_neg h]
    refine Finset.sum_eq_zero fun b hb => if_neg ?_
    have := Finset.mem_range.mp hb; omega

theorem rd_cnt (hI : ∀ j, (I j).toNat < 32) (a : ℕ) (ha : a < 32) : (nv (N := 1088) (rdV X I c) (1024 + a) : EReal) = cnt I c a := by
  rw [rdV_sum X I c hI _ (by omega)]
  refine Finset.sum_congr rfl fun p _ => ?_
  have hi : ii I c p < 32 := hI _
  unfold pp px1
  rw [Finset.sum_eq_zero fun b hb => if_neg (by have := Finset.mem_range.mp hb; omega), add_zero]
  by_cases h : ii I c p = a
  · rw [if_pos h, if_pos (by omega)]
  · rw [if_neg h, if_neg (by omega)]

/-- The first pass puts nothing at the places of the hinge sums. -/
theorem p1_hinge (hI : ∀ j, (I j).toNat < 32) (s a : ℕ) (ha : a < 32) : tot (p1 X I c s) (1056 + a) = 0 := by
  rw [p1_tot X I c hI s _ (by omega)]
  refine Finset.sum_eq_zero fun p _ => ?_
  have hi : ii I c (16384 * s + p) < 32 := hI _
  unfold pp px1
  rw [if_neg (by omega), Finset.sum_eq_zero fun b hb => if_neg (by have := Finset.mem_range.mp hb; omega), add_zero]

theorem mul_inv_count (x y : EReal) : x * Ideal.div 1 y = Ideal.div x y ∨ y = 0 := by
  by_cases h : y = 0
  · exact .inr h
  · left; unfold Ideal.div; rw [if_neg h, if_neg h, one_mul]

theorem mf_mean (hI : ∀ j, (I j).toNat < 32) (a k : ℕ) (ha : a < 32) (hk : k < 32) : (nv (N := 1024) (mfV X I c) (32 * a + k) : EReal) = mean X I c a k := by
  show nv (full (N := 1024) (meanW (rdV X I c))) (32 * a + k) = _
  rw [full_nv _ _ (by omega)]
  have h1 : (seg (rdV X I c) (16 * ((32 * a + k) / 16)) (ln ((32 * a + k) % 16)) : EReal) = sm X I c a k := by
    show (nv (N := 1088) (rdV X I c) (16 * ((32 * a + k) / 16) + ((ln ((32 * a + k) % 16) : S16.Idx) 0).val) : EReal) = _
    rw [ln_val _ (Nat.mod_lt _ (by decide)), Nat.div_add_mod, rd_sm X I c hI a k ha hk]
  have h2 : (gat (N := 1088) (rdV X I c) (broadcast S16 (BitVec.ofNat 32 (1024 + (32 * a + k) / 16 / 2))) (ln ((32 * a + k) % 16)) : EReal) = cnt I c a := by
    show (nv (N := 1088) (rdV X I c) (BitVec.ofNat 32 (1024 + (32 * a + k) / 16 / 2)).toNat : EReal) = _
    rw [BitVec.toNat_ofNat, show (1024 + (32 * a + k) / 16 / 2) % 2 ^ 32 = 1024 + a by omega, rd_cnt X I c hI a ha]
  show (seg (rdV X I c) (16 * ((32 * a + k) / 16)) (ln ((32 * a + k) % 16)) : EReal) * Ideal.div (Ideal.ofBits .f32 0x3F800000#32)
    (max (gat (N := 1088) (rdV X I c) (broadcast S16 (BitVec.ofNat 32 (1024 + (32 * a + k) / 16 / 2))) (ln ((32 * a + k) % 16)) : EReal) (Ideal.ofBits .f32 0x3F800000#32)) = _
  rw [h1, h2, one_bits]
  refine (mul_inv_count _ _).resolve_right fun h => ?_
  have : (1 : EReal) ≤ max (cnt I c a) 1 := le_max_right _ _
  rw [h] at this
  exact absurd this (not_le.mpr zero_lt_one)

end Vals

end Cert.Proof.Embed
-- ==== Proof.Sums3.lean ====
/-
  What the second pass leaves, over the extended reals: each cluster's sum of squared hinges.
-/
module

public import proofs.«01_k».proof.Proof.Sums2

@[expose] public section

set_option maxRecDepth 16384

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-- The small number under a root, and the margins of the two hinges. -/
def epsE : EReal := Ideal.ofBits .f32 0x2B8CBCCC#32
def halfE : EReal := Ideal.ofBits .f32 0x3F000000#32

/-- The squared hinge of a distance whose square is `q`. -/
def hq (q : EReal) : EReal := max (Ideal.sqrt (q + epsE) - halfE) 0 * max (Ideal.sqrt (q + epsE) - halfE) 0
/-- A square. -/
def sq (x : EReal) : EReal := x * x

theorem accL_sum {ids : ℕ → BitVec 32} (hids : ∀ n, (ids n).toNat < 32) (xs : ℕ → ℕ → Ideal .f32) (o : ℕ) (m4 : Vec Ideal S4096 .f32) (M : ℕ → EReal)
    (hm : ∀ n < 4096, (nv (N := 4096) m4 n : EReal) = M (n / 4)) (l : ℕ) (hl : l < 16) (cs : List ℕ) (hcs : ∀ c ∈ cs, c < 32) :
    (accL (gb ids o) xs o m4 cs (ln l) : EReal) = (cs.map fun c => sq ((xs c (o + l) : EReal) - M (32 * (ids (o + l)).toNat + c))).sum := by
  have key : ∀ (cs : List ℕ) (hcs : ∀ c ∈ cs, c < 32) (f : FVec Ideal S16 .f32),
      (cs.foldl (fun a c => addf a (mulf (subf (xv xs c o) (gat m4 (cix (gb ids o) c))) (subf (xv xs c o) (gat m4 (cix (gb ids o) c))))) f (ln l) : EReal)
        = f (ln l) + (cs.map fun c => sq ((xs c (o + l) : EReal) - M (32 * (ids (o + l)).toNat + c))).sum := by
    intro cs
    induction cs with
    | nil => intro _ f; simp
    | cons c cs ih =>
      intro hcs f
      rw [List.foldl_cons, ih (fun c' h => hcs c' (List.mem_cons_of_mem _ h)), List.map_cons, List.sum_cons, ← add_assoc]
      congr 1
      have h1 := gb_toNat hids o (ln l)
      have h2 := cix_toNat (gb_lt hids o (ln l)) (hcs c (List.mem_cons_self ..))
      rw [ln_val l hl] at h1
      have h3 := hids (o + l)
      have hc := hcs c (List.mem_cons_self ..)
      have h4 : l % 4 < 4 := Nat.mod_lt _ (by decide)
      have hx : (xv xs c o (ln l) : EReal) = xs c (o + l) := by rw [xv_apply, ln_val l hl]
      have hg : (gat (N := 4096) m4 (cix (gb ids o) c) (ln l) : EReal) = M (32 * (ids (o + l)).toNat + c) := by
        show (nv (N := 4096) m4 (cix (gb ids o) c (ln l)).toNat : EReal) = _
        rw [h2, h1, hm _ (by omega)]
        congr 1
        omega
      show (f (ln l) : EReal) + ((xv xs c o (ln l) : EReal) - gat (N := 4096) m4 (cix (gb ids o) c) (ln l)) * ((xv xs c o (ln l) : EReal) - gat (N := 4096) m4 (cix (gb ids o) c) (ln l)) = _
      rw [hx, hg]
      rfl
  refine (key cs hcs (k0_pay386 (F := Ideal))).trans ?_
  rw [show ((k0_pay386 (F := Ideal)) (ln l) : EReal) = 0 from Ideal.ofBits_zero_f32, zero_add]

/-- What a pixel of id `i` with the channels `x` adds at `t` in the second pass, the means being `M`. -/
def px2 (M : ℕ → EReal) (i : ℕ) (x : ℕ → EReal) (t : ℕ) : EReal := if 1056 + i = t then hq (∑ k ∈ Finset.range 32, sq (x k - M (32 * i + k))) else 0

theorem grp2_tot {ids : ℕ → BitVec 32} (hids : ∀ n, (ids n).toNat < 32) (xs : ℕ → ℕ → Ideal .f32) (o t : ℕ) (ht : t < 1088) (σ : St Ideal) (M : ℕ → EReal)
    (hm : ∀ n < 4096, (nv (N := 4096) σ.m4 n : EReal) = M (n / 4)) :
    tot (grp2 ids xs o σ) t = tot σ t + ∑ l ∈ Finset.range 16, px2 M (ids (o + l)).toNat (fun c => xs c (o + l)) t := by
  unfold tot grp2 px2
  dsimp only
  rw [sadd_Q4 (hix ids o) _ σ.a0 t ht (fun l => 1056 + (ids (o + l)).toNat) (fun l hl => by
      rw [hix_toNat hids, ln_val l hl]; have : l % 4 < 4 := Nat.mod_lt _ (by decide); omega)
    (fun l => hq (∑ k ∈ Finset.range 32, sq ((xs k (o + l) : EReal) - M (32 * (ids (o + l)).toNat + k)))) (fun l hl => ?_)]
  · ac_rfl
  · rw [sum32 fun k => sq ((xs k (o + l) : EReal) - M (32 * (ids (o + l)).toNat + k)),
      ← accL_sum hids xs o σ.m4 M hm l hl [0, 4, 8, 12, 16, 20, 24, 28] (by decide), ← accL_sum hids xs o σ.m4 M hm l hl [1, 5, 9, 13, 17, 21, 25, 29] (by decide),
      ← accL_sum hids xs o σ.m4 M hm l hl [2, 6, 10, 14, 18, 22, 26, 30] (by decide), ← accL_sum hids xs o σ.m4 M hm l hl [3, 7, 11, 15, 19, 23, 27, 31] (by decide),
      add_assoc (_ + _) _ _]
    unfold hq
    rw [← Ideal.ofBits_zero_f32]
    rfl

theorem rix_toNat (t : ℕ) (ht : t < 256) (l : ℕ) (hl : l < 16) : (rix t (ln l)).toNat = (16 * t + l) / 4 := by
  have h : ∀ t : Fin 256, ∀ l : Fin 16, (rix t.val (ln l.val)).toNat = (16 * t.val + l.val) / 4 := by decide +kernel
  exact h ⟨t, ht⟩ ⟨l, hl⟩

section Vals

variable (X : Vec Ideal S2x32x262144 .f32) (I : S2x262144.Idx → BitVec 32) (c : Fin 2)

theorem m4_mf (n : ℕ) (hn : n < 4096) : (nv (N := 4096) (m4V X I c) n : EReal) = nv (N := 1024) (mfV X I c) (n / 4) := by
  show nv (full (N := 4096) fun t => gat (N := 1024) (mfV X I c) (rix t)) n = _
  rw [full_nv _ n hn]
  show nv (N := 1024) (mfV X I c) (rix (n / 16) (ln (n % 16))).toNat = _
  rw [rix_toNat _ (by omega) _ (Nat.mod_lt _ (by decide)), Nat.div_add_mod]

/-- The squared hinge of pixel `p`'s distance from its cluster's mean, and the sum of these over a cluster. -/
def hin (p : ℕ) : EReal := hq (∑ k ∈ Finset.range 32, sq (xx X c k p - mean X I c (ii I c p) k))
def hs (a : ℕ) : EReal := ∑ p ∈ Finset.range 262144, if ii I c p = a then hin X I c p else 0

/-- What pixel `p` adds at `t` in the second pass. -/
def qq (t p : ℕ) : EReal := px2 (fun n => nv (N := 1024) (mfV X I c) n) (ii I c p) (fun k => xx X c k p) t

theorem chk2_tot (hI : ∀ j, (I j).toNat < 32) (s t u : ℕ) (hu : u < 1088) (σ : St Ideal) (hσ : σ.m4 = m4V X I c) :
    (chk2 X I c s t σ).m4 = m4V X I c ∧ tot (chk2 X I c s t σ) u = tot σ u + ∑ p ∈ Finset.range 1024, qq X I c u (16384 * s + 1024 * t + p) := by
  have h := iter_sum (fun g => grp2 (idsOf I c s t) (xsOf X c s t) (16 * g)) (fun σ => tot σ u) (fun g => ∑ l ∈ Finset.range 16, qq X I c u (16384 * s + 1024 * t + (16 * g + l)))
    (fun σ => σ.m4 = m4V X I c) (fun n σ h => h)
    (fun n σ h => grp2_tot (fun n => idsOf_lt hI c s t n) (xsOf X c s t) (16 * n) u hu σ (fun n => nv (N := 1024) (mfV X I c) n) (fun n hn => by rw [h]; exact m4_mf X I c n hn)) σ hσ 64
  rw [sum_blocks (fun q => qq X I c u (16384 * s + 1024 * t + q)) 16 64] at h
  exact h

theorem p2_tot (hI : ∀ j, (I j).toNat < 32) (s a : ℕ) (ha : a < 32) :
    tot (p2 X I c s) (1056 + a) = ∑ p ∈ Finset.range 16384, qq X I c (1056 + a) (16384 * s + p) := by
  have hr : ∀ (σ : St Ideal) (m : Vec Ideal S4096 .f32), tot { σ with m4 := m } (1056 + a) = tot σ (1056 + a) := fun _ _ => rfl
  have h : tot (iter (chk2 X I c s) 16 { p1 X I c s with m4 := m4V X I c }) (1056 + a) = _ := (iter_sum (chk2 X I c s) (fun σ => tot σ (1056 + a)) (fun t => ∑ p ∈ Finset.range 1024, qq X I c (1056 + a) (16384 * s + (1024 * t + p)))
    (fun σ => σ.m4 = m4V X I c) (fun n σ h => (chk2_tot X I c hI s n 0 (by decide) σ h).1)
    (fun n σ h => by simp only [← Nat.add_assoc]; exact (chk2_tot X I c hI s n _ (by omega) σ h).2) { p1 X I c s with m4 := m4V X I c } rfl 16).2
  rw [sum_blocks (fun q => qq X I c (1056 + a) (16384 * s + q)) 1024 16] at h
  unfold p2
  rw [h]
  beta_reduce
  rw [hr, p1_hinge X I c hI s a ha, zero_add]

theorem tab2_sum (hI : ∀ j, (I j).toNat < 32) (a : ℕ) (ha : a < 32) :
    ∑ s ∈ Finset.range 16, (tab2 X I c (ix2 s (1056 + a)) : EReal) = hs X I c a := by
  rw [Finset.sum_congr rfl fun s hs => show (tab2 X I c (ix2 s (1056 + a)) : EReal) = ∑ p ∈ Finset.range 16384, qq X I c (1056 + a) (16384 * s + p) from by
      refine (rowOf_tot (p2 X I c (ix2 s (1056 + a) 0).val) (ix2 s (1056 + a) 1)).trans ?_
      rw [ix2_0 s _ (Finset.mem_range.mp hs), ix2_1 s _ (by omega), p2_tot X I c hI s a ha], sum_blocks (fun q => qq X I c (1056 + a) q) 16384 16]
  refine Finset.sum_congr rfl fun p _ => ?_
  have hi : ii I c p < 32 := hI _
  unfold qq px2
  by_cases h : ii I c p = a
  · rw [if_pos h, if_pos (by omega)]
    unfold hin
    refine congrArg hq (Finset.sum_congr rfl fun k hk => ?_)
    beta_reduce
    rw [mf_mean X I c hI _ k hi (Finset.mem_range.mp hk)]
  · rw [if_neg h, if_neg (by omega)]

end Vals

end Cert.Proof.Embed
-- ==== Proof.Sums4.lean ====
/-
  What a SparseCore leaves in its row of the result, over the extended reals: the weighted sum of three terms.
-/
module

public import proofs.«01_k».proof.Proof.Sums3

@[expose] public section

set_option maxRecDepth 16384

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-! ## A vector's lanes, one at a time -/

theorem ext_lane {α : Type} (V : S16.Idx → α) (j : ℕ) (h : S16.Slices ![j] S1) (hp : ∀ a, (![0] : Fin 1 → Nat) a < S1.size a) :
    extractAt ![0] (extractStridedSlice S1 ![j] V h) hp = V (ln j) := by
  have hj : j < 16 := by
    have h1 := h.2 0
    change j + 1 ≤ 16 at h1
    omega
  unfold extractAt extractStridedSlice
  refine congrArg V (funext fun a => ?_)
  rw [Fin.eq_zero a]
  exact Fin.ext (Nat.mod_eq_of_lt hj).symm

/-- The sum of a vector's lanes. -/
def hsum (V : Vec Ideal S16 .f32) : EReal := ∑ l ∈ Finset.range 16, (V (ln l) : EReal)

theorem hsum_eq (V : Vec Ideal S16 .f32) : hsum V = V (ln 0) + V (ln 1) + V (ln 2) + V (ln 3) + V (ln 4) + V (ln 5) + V (ln 6) + V (ln 7) + V (ln 8) + V (ln 9)
    + V (ln 10) + V (ln 11) + V (ln 12) + V (ln 13) + V (ln 14) + V (ln 15) := by
  unfold hsum
  rw [sum16, zero_add]

theorem sum_halves (f : ℕ → EReal) (A B : Vec Ideal S16 .f32) (hA : ∀ l < 16, (A (ln l) : EReal) = f l) (hB : ∀ l < 16, (B (ln l) : EReal) = f (16 + l)) :
    hsum A + hsum B = ∑ a ∈ Finset.range 32, f a := by
  rw [show (32 : ℕ) = 16 + 16 from rfl, Finset.sum_range_add]
  unfold hsum
  congr 1
  · exact Finset.sum_congr rfl fun l hl => hA l (Finset.mem_range.mp hl)
  · exact Finset.sum_congr rfl fun l hl => hB l (Finset.mem_range.mp hl)

theorem h_var0 (v w s) : k0_pay295 (F := Ideal) (k0_pay293 v w s) (k0_pay294 v w s) = hsum (k0_pay293 v w s) := by
  unfold k0_pay295 k0_pay294
  simp only [ext_lane]
  exact (hsum_eq _).symm
theorem h_var1 (v w) : k0_pay296 (F := Ideal) v w = hsum (divf v w) := by
  unfold k0_pay296
  simp only [ext_lane]
  exact (hsum_eq _).symm
theorem h_reg (a v x y) : k0_pay383 (F := Ideal) a (k0_pay381 v x y) (k0_pay382 v x y)
    = (hsum (k0_pay381 v x y) + hsum (sqrt (addf a (broadcast S16 (Scalar.ofBits .f32 0x2B8CBCCC#32))))) * Ideal.ofBits .f32 0x3D000000#32 := by
  unfold k0_pay383 k0_pay382
  simp only [ext_lane]
  rw [hsum_eq, hsum_eq]
  rfl
theorem h_row (a t p q r) : k0_pay283 (F := Ideal) a (k0_pay280 io t p q r) (k0_pay282 io t p q r) = (a + hsum (k0_pay280 io t p q r) : EReal) := by
  unfold k0_pay283 k0_pay282
  simp only [ext_lane]
  rw [hsum_eq]
  rfl
theorem h_row1 (a V) : k0_pay384 (F := Ideal) V a (k0_pay284 V) = (a + hsum V : EReal) := by
  unfold k0_pay384 k0_pay284
  simp only [ext_lane]
  rw [hsum_eq]
  rfl

/-! ## The pull term -/

theorem varT_eq (sa : Vec Ideal S16x1088 .f32) (rd : Vec Ideal S1088 .f32) (f : ℕ → EReal)
    (hf : ∀ a < 32, f a = Ideal.div (∑ s ∈ Finset.range 16, (sa (ix2 s (1056 + a)) : EReal)) (max (nv (N := 1088) rd (1024 + a) : EReal) 1)) :
    varT sa rd = ((∑ a ∈ Finset.range 32, f a) * Ideal.ofBits .f32 0x3D000000#32 : EReal) := by
  unfold varT
  rw [h_var0, h_var1]
  show ((hsum _ + hsum _) * Ideal.ofBits .f32 0x3D000000#32 : EReal) = _
  rw [sum_halves f]
  · intro l hl
    have h1 : (nv (N := 1088) rd (1024 + l) : EReal) = seg rd 1024 (ln l) := by
      show _ = nv (N := 1088) rd (1024 + ((ln l : S16.Idx) 0).val)
      rw [ln_val l hl]
    rw [hf l (by omega), sum16, ← Ideal.ofBits_zero_f32, ← one_bits, h1]
    simp only [← flat_seg2 sa _ 1056 l hl]
    rfl
  · intro l hl
    have h1 : (nv (N := 1088) rd (1024 + (16 + l)) : EReal) = seg rd 1040 (ln l) := by
      show _ = nv (N := 1088) rd (1040 + ((ln l : S16.Idx) 0).val)
      rw [ln_val l hl, show 1024 + (16 + l) = 1040 + l by omega]
    rw [hf (16 + l) (by omega), sum16, ← Ideal.ofBits_zero_f32, ← one_bits, h1]
    simp only [← Nat.add_assoc, show 1056 + 16 = 1072 from rfl]
    simp only [← flat_seg2 sa _ 1072 l hl]
    rfl

/-! ## The means transposed -/

theorem tix_toNat (n : ℕ) (hn : n < 64) (l : ℕ) (hl : l < 16) : (tix n (ln l)).toNat = 32 * (16 * (n % 2) + l) + n / 2 := by
  have h : ∀ n : Fin 64, ∀ l : Fin 16, (tix n.val (ln l.val)).toNat = 32 * (16 * (n.val % 2) + l.val) + n.val / 2 := by decide +kernel
  exact h ⟨n, hn⟩ ⟨l, hl⟩

theorem mt_mf (mf : Vec Ideal S1024 .f32) (k h l : ℕ) (hk : k < 32) (hh : h < 2) (hl : l < 16) :
    (seg (full (N := 1024) (mtW mf)) (32 * k + 16 * h) (ln l) : EReal) = nv (N := 1024) mf (32 * (16 * h + l) + k) := by
  show nv (full (N := 1024) (mtW mf)) (32 * k + 16 * h + ((ln l : S16.Idx) 0).val) = _
  rw [ln_val l hl, full_nv _ _ (by omega)]
  show nv (N := 1024) mf (tix ((32 * k + 16 * h + l) / 16) (ln ((32 * k + 16 * h + l) % 16))).toNat = _
  rw [tix_toNat _ (by omega) _ (Nat.mod_lt _ (by decide)),
    show 32 * (16 * ((32 * k + 16 * h + l) / 16 % 2) + (32 * k + 16 * h + l) % 16) + (32 * k + 16 * h + l) / 16 / 2 = 32 * (16 * h + l) + k by omega]

/-! ## The size of the means -/

theorem sum32' (f : ℕ → EReal) : ∑ c ∈ Finset.range 32, f c = 0 + f 0 + f 1 + f 2 + f 3 + f 4 + f 5 + f 6 + f 7 + f 8 + f 9 + f 10 + f 11 + f 12 + f 13 + f 14 + f 15
    + f 16 + f 17 + f 18 + f 19 + f 20 + f 21 + f 22 + f 23 + f 24 + f 25 + f 26 + f 27 + f 28 + f 29 + f 30 + f 31 := by
  simp only [Finset.sum_range_succ, Finset.sum_range_zero]

theorem regT_eq (mt : Vec Ideal S1024 .f32) (M : ℕ → ℕ → EReal)
    (hM : ∀ k h l, k < 32 → h < 2 → l < 16 → (seg mt (32 * k + 16 * h) (ln l) : EReal) = M (16 * h + l) k) :
    regT mt = ((∑ a ∈ Finset.range 32, Ideal.sqrt ((∑ k ∈ Finset.range 32, sq (M a k)) + epsE)) * Ideal.ofBits .f32 0x3D000000#32 : EReal) := by
  unfold regT
  rw [h_reg, sum_halves fun a => Ideal.sqrt ((∑ k ∈ Finset.range 32, sq (M a k)) + epsE)]
  · intro l hl
    have h := fun k hk => hM k 0 l hk (by decide) hl
    simp only [Nat.mul_zero, Nat.add_zero, Nat.zero_add] at h
    rw [Finset.sum_congr rfl fun k hk => by rw [← h k (Finset.mem_range.mp hk)], sum32', ← Ideal.ofBits_zero_f32]
    rfl
  · intro l hl
    have h := fun k hk => hM k 1 l hk (by decide) hl
    simp only [Nat.mul_one] at h
    rw [Finset.sum_congr rfl fun k hk => by rw [← h k (Finset.mem_range.mp hk)], sum32', ← Ideal.ofBits_zero_f32]
    rfl

/-! ## The push term -/

/-- The push of a pair of clusters whose means' distance has the square `q`. -/
def rq (q : EReal) : EReal := max (Ideal.ofBits .f32 0x40400000#32 - Ideal.sqrt (q + epsE)) 0 * max (Ideal.ofBits .f32 0x40400000#32 - Ideal.sqrt (q + epsE)) 0

theorem io_toNat (l : ℕ) (hl : l < 16) : io (ln l) = BitVec.ofNat 32 l := by
  have h : ∀ l : Fin 16, io (ln l.val) = BitVec.ofNat 32 l.val := by decide +kernel
  exact h ⟨l, hl⟩

theorem select_eq (a b : BitVec 32) (x y : EReal) : Scalar.select (IntOp.cmpi .eq a b) x y = if a = b then x else y := by
  unfold Scalar.select IntOp.cmpi
  by_cases h : a = b
  · subst h; simp
  · have h' : (a == b) = false := by simpa using h
    simp only [h', if_neg h]
    rfl

theorem pix_toNat (t c : ℕ) (ht : t < 32) (hc : c < 32) (x : S16.Idx) : (pix t c x).toNat = 32 * t + c := by
  have h : ∀ t : Fin 32, ∀ c : Fin 32, ∀ x : S16.Idx, (pix t.val c.val x).toNat = 32 * t.val + c.val := by decide +kernel
  exact h ⟨t, ht⟩ ⟨c, hc⟩ x

theorem ofNat_inj32 {a b : ℕ} (ha : a < 32) (hb : b < 32) : (BitVec.ofNat 32 a = BitVec.ofNat 32 b) ↔ a = b := by
  constructor
  · intro h
    have h' := congrArg BitVec.toNat h
    rw [BitVec.toNat_ofNat, BitVec.toNat_ofNat] at h'
    omega
  · rintro rfl; rfl

theorem pacc_sum (mf mt : Vec Ideal S1024 .f32) (h t l : ℕ) (f : ℕ → EReal)
    (hf : ∀ k < 31, f k = sq ((seg mt (32 * k + 16 * h) (ln l) : EReal) - gat (N := 1024) mf (pix t k) (ln l))) :
    (pacc mf mt h t (ln l) : EReal) = ∑ k ∈ Finset.range 31, f k := by
  rw [Finset.sum_congr rfl fun k hk => hf k (Finset.mem_range.mp hk)]
  simp only [Finset.sum_range_succ, Finset.sum_range_zero]
  rw [← Ideal.ofBits_zero_f32]
  rfl

section Pairs

variable (mf mt : Vec Ideal S1024 .f32) (M : ℕ → ℕ → EReal)

/-- What a pair of clusters adds. -/
def rep (t a : ℕ) : EReal := if a = t then 0 else rq (∑ k ∈ Finset.range 32, sq (M a k - M t k))

theorem lane_sum (hM : ∀ k h l, k < 32 → h < 2 → l < 16 → (seg mt (32 * k + 16 * h) (ln l) : EReal) = M (16 * h + l) k)
    (hm : ∀ a k, a < 32 → k < 32 → (nv (N := 1024) mf (32 * a + k) : EReal) = M a k) (h t l : ℕ) (hh : h < 2) (ht : t < 32) (hl : l < 16) :
    (pacc mf mt h t (ln l) : EReal) + sq ((seg mt (992 + 16 * h) (ln l) : EReal) - gat (N := 1024) mf (pix t 31) (ln l)) = ∑ k ∈ Finset.range 32, sq (M (16 * h + l) k - M t k) := by
  have hg : ∀ k < 32, (gat (N := 1024) mf (pix t k) (ln l) : EReal) = M t k := fun k hk => by
    show (nv (N := 1024) mf (pix t k (ln l)).toNat : EReal) = _
    rw [pix_toNat t k ht hk, hm t k ht hk]
  rw [Finset.sum_range_succ, ← hM 31 h l (by decide) hh hl, hg 31 (by decide)]
  congr 1
  refine pacc_sum mf mt h t l _ fun k hk => ?_
  rw [← hM k h l (by omega) hh hl, hg k (by omega)]

theorem prow_eq (hM : ∀ k h l, k < 32 → h < 2 → l < 16 → (seg mt (32 * k + 16 * h) (ln l) : EReal) = M (16 * h + l) k)
    (hm : ∀ a k, a < 32 → k < 32 → (nv (N := 1024) mf (32 * a + k) : EReal) = M a k) (t : ℕ) (ht : t < 32) (a : EReal) :
    prow mf mt t a = (a + ∑ b ∈ Finset.range 32, rep M t b : EReal) := by
  unfold prow
  rw [h_row1, h_row a (Scf.iv 0#32 1#32 t) (pacc mf mt 0 t) (gat mf (pix t 31)) (seg mt 992), add_assoc, iv01]
  rw [sum_halves (rep M t)]
  · intro l hl
    have h := lane_sum mf mt M hM hm 0 t l (by decide) ht hl
    rw [Nat.mul_zero, Nat.add_zero, Nat.zero_add] at h
    unfold rep rq
    rw [← h, ← Ideal.ofBits_zero_f32]
    refine (select_eq (io (ln l)) (BitVec.ofNat 32 t) _ _).trans ?_
    rw [io_toNat l hl]
    simp only [ofNat_inj32 (show l < 32 by omega) ht]
    rfl
  · intro l hl
    have h := lane_sum mf mt M hM hm 1 t l (by decide) ht hl
    rw [Nat.mul_one] at h
    unfold rep rq
    rw [← h, ← Ideal.ofBits_zero_f32]
    refine (select_eq (io (ln l) + 16#32) (BitVec.ofNat 32 t) _ _).trans ?_
    rw [io_toNat l hl, show (BitVec.ofNat 32 l + 16#32 : BitVec 32) = BitVec.ofNat 32 (16 + l) by
      rw [← BitVec.ofNat_add, Nat.add_comm]]
    simp only [ofNat_inj32 (show 16 + l < 32 by omega) ht]
    rfl

theorem ploss_eq (hM : ∀ k h l, k < 32 → h < 2 → l < 16 → (seg mt (32 * k + 16 * h) (ln l) : EReal) = M (16 * h + l) k)
    (hm : ∀ a k, a < 32 → k < 32 → (nv (N := 1024) mf (32 * a + k) : EReal) = M a k) (n : ℕ) (hn : n ≤ 32) :
    ploss mf mt n = (∑ t ∈ Finset.range n, ∑ b ∈ Finset.range 32, rep M t b : EReal) := by
  induction n with
  | zero => exact Ideal.ofBits_zero_f32.trans (Finset.sum_range_zero _).symm
  | succ n ih =>
    rw [show ploss mf mt (n + 1) = prow mf mt n (ploss mf mt n) from rfl, ih (by omega), prow_eq mf mt M hM hm n (by omega), Finset.sum_range_succ (fun t => ∑ b ∈ Finset.range 32, rep M t b) n]

end Pairs

/-! ## What a SparseCore leaves -/

section Vals

variable (X : Vec Ideal S2x32x262144 .f32) (I : S2x262144.Idx → BitVec 32) (c : Fin 2)

/-- The pull, push and size terms of one batch, before their weights. -/
def pull : EReal := ∑ a ∈ Finset.range 32, Ideal.div (hs X I c a) (max (cnt I c a) 1)
def push : EReal := ∑ t ∈ Finset.range 32, ∑ b ∈ Finset.range 32, rep (mean X I c) t b
def size : EReal := ∑ a ∈ Finset.range 32, Ideal.sqrt ((∑ k ∈ Finset.range 32, sq (mean X I c a k)) + epsE)

theorem outV_eq (hI : ∀ j, (I j).toNat < 32) :
    (outV X I c (ln 0) : EReal) = 1 * (pull X I c * Ideal.ofBits .f32 0x3D000000#32) + 1 * (push X I c * ((1 / 992 : ℝ) : EReal))
      + Ideal.ofBits .f32 0x3A83126F#32 * (size X I c * Ideal.ofBits .f32 0x3D000000#32) := by
  have hM : ∀ k h l, k < 32 → h < 2 → l < 16 → (seg (full (N := 1024) (mtW (mfV X I c))) (32 * k + 16 * h) (ln l) : EReal) = mean X I c (16 * h + l) k :=
    fun k h l hk hh hl => by rw [mt_mf _ k h l hk hh hl, mf_mean X I c hI _ k (by omega) hk]
  have hm : ∀ a k, a < 32 → k < 32 → (nv (N := 1024) (mfV X I c) (32 * a + k) : EReal) = mean X I c a k := fun a k ha hk => mf_mean X I c hI a k ha hk
  have h1 : varT (tab2 X I c) (rdV X I c) = (pull X I c * Ideal.ofBits .f32 0x3D000000#32 : EReal) := varT_eq (tab2 X I c) (rdV X I c) (fun a => Ideal.div (hs X I c a) (max (cnt I c a) 1)) (fun a ha => by rw [tab2_sum X I c hI a ha, rd_cnt X I c hI a ha])
  have h2 : regT (full (N := 1024) (mtW (mfV X I c))) = (size X I c * Ideal.ofBits .f32 0x3D000000#32 : EReal) := regT_eq (full (N := 1024) (mtW (mfV X I c))) (mean X I c) hM
  have h3 : ploss (mfV X I c) (full (N := 1024) (mtW (mfV X I c))) 32 = push X I c := ploss_eq (mfV X I c) (full (N := 1024) (mtW (mfV X I c))) (mean X I c) hM hm 32 le_rfl
  unfold outV
  rw [h1, h2, h3]
  generalize pull X I c = A, push X I c = B, size X I c = C
  have hκ : Named.named (F := Ideal) κ "inv_pairs" (φ := .f32) 0x3A842108#32 = ((1 / 992 : ℝ) : EReal) := by
    have h : κ "inv_pairs" = some ((1 / 992 : ℝ) : EReal) := rfl
    show (κ "inv_pairs").getD _ = _
    rw [h]
    rfl
  unfold k0_pay385
  rw [← one_bits, hκ]
  generalize ((1 / 992 : ℝ) : EReal) = D
  refine (select_eq (io (ln 0)) 0#32 _ _).trans ?_
  rw [io_toNat 0 (by decide), if_pos rfl]
  rfl

end Vals

end Cert.Proof.Embed
-- ==== Proof.RefSums.lean ====
/-
  The reference's scatters, its gather and its reductions, over the extended reals, read at a place.
-/
module

public import proofs.«01_k».proof.Proof.Refs
public import proofs.«01_k».proof.Proof.Sums4
public import Idealize.ShloMosaic.Lib.Routing.Ops
public import Idealize.ShloMosaic.Lib.Routing.OpsPair
public import Idealize.ShloMosaic.Lib.Pointwise.Reduce
public import Idealize.ShloMosaic.PureOps.Ideal.Laws

@[expose] public section

set_option maxRecDepth 16384

noncomputable section

namespace Cert.Proof.Refs

open Cert.ReferenceIdeal Cert.ReferenceIdeal.Gen
open Idealize.ShloMosaic Idealize.SL.Sem

/-- Pixel `p`. -/
def px (p : Fin 262144) : S262144.Idx := ix1 p
/-- Pixel `p`, component `k`. -/
def pk (p : Fin 262144) (k : Fin 32) : S262144x32.Idx := ix2 p k
/-- Segment `a`. -/
def sg (a : Fin 32) : S32.Idx := ix1 a
/-- Segment `a`, component `k`. -/
def sk (a k : Fin 32) : S32x32.Idx := ix2 a k

variable (v6 : IVec S262144 32) (v5 : Vec Ideal S262144x32 .f32)

/-- The ids as the column of start indices. -/
def col : IVec S262144x1 32 := broadcastInDim S262144x1 ![0] bcast_S262144_S262144x1_0 v6

theorem col_at (p : Fin 262144) : col v6 (ix2 p (0 : Fin 1)) = v6 (px p) :=
  broadcastInDim_apply _ _ _ _ _ fun a => match a with | ⟨0, _⟩ => rfl

theorem start1 (p : Fin 262144) (a : Fin 1) :
    scatter_S32_S262144x1_S262144_n_0_0_1.start (px p) (col v6) a = (col v6 (ix2 p (0 : Fin 1))).toInt := by
  match a with
  | ⟨0, _⟩ =>
    refine congrArg (fun i => (col v6 i).toInt) (funext fun b => ?_)
    match b with
    | ⟨0, _⟩ => rfl
    | ⟨1, _⟩ => rfl

theorem start2 (p : Fin 262144) (k : Fin 32) :
    scatter_S32x32_S262144x1_S262144x32_1_0_0_1.start (pk p k) (col v6) 0 = (col v6 (ix2 p (0 : Fin 1))).toInt := by
  refine congrArg (fun i => (col v6 i).toInt) (funext fun b => ?_)
  match b with
  | ⟨0, _⟩ => rfl
  | ⟨1, _⟩ => rfl

theorem lands1 (p : Fin 262144) (a : Fin 32) (h : (v6 (px p)).toNat < 32) :
    scatter_S32_S262144x1_S262144_n_0_0_1.resultIdx? (px p) (col v6) = some (sg a) ↔ (v6 (px p)).toNat = a.val := by
  refine (Routing.resultIdx?_ix1 _ _ _ a).trans ?_
  rw [start1, col_at, show scatter_S32_S262144x1_S262144_n_0_0_1.window (px p) 0 = 0 from rfl,
    BitVec.toInt_eq_toNat_of_lt (by omega)]
  omega

theorem lands2 (p : Fin 262144) (k : Fin 32) (a c : Fin 32) (h : (v6 (px p)).toNat < 32) :
    scatter_S32x32_S262144x1_S262144x32_1_0_0_1.resultIdx? (pk p k) (col v6) = some (sk a c) ↔ (v6 (px p)).toNat = a.val ∧ k = c := by
  refine (Routing.resultIdx?_ix2 _ _ _ a c).trans ?_
  rw [start2, col_at, show scatter_S32x32_S262144x1_S262144x32_1_0_0_1.window (pk p k) 0 = 0 from rfl,
    show scatter_S32x32_S262144x1_S262144x32_1_0_0_1.window (pk p k) 1 = k.val from rfl,
    show scatter_S32x32_S262144x1_S262144x32_1_0_0_1.start (pk p k) (col v6) 1 = 0 from rfl,
    BitVec.toInt_eq_toNat_of_lt (by omega), Fin.ext_iff]
  omega

/-- A scatter of one number per pixel: each segment's entry is the sum over the pixels of that id. -/
theorem scatter1_eq (u : Vec Ideal S262144 .f32) (h : ∀ p, (v6 (px p)).toNat < 32) (z : Vec Ideal S32 .f32) (a : Fin 32) :
    (Host.scatterAdd (F := Ideal) (φ := .f32) scatter_S32_S262144x1_S262144_n_0_0_1 z (col v6) u (sg a) : Ideal .f32)
      = z (sg a) + ∑ p : Fin 262144, (if (v6 (px p)).toNat = a.val then (u (px p) : EReal) else 0) := by
  refine congrArg (fun e : EReal => (z (sg a) : EReal) + e) ?_
  rw [Finset.sum_filter]
  refine (sum_idx1 _).trans (Finset.sum_congr rfl fun p _ => ?_)
  exact if_congr (lands1 v6 p a (h p)) rfl rfl

/-- A scatter of one vector per pixel: each segment's vector is the sum over the pixels of that id. -/
theorem scatter2_eq (u : Vec Ideal S262144x32 .f32) (h : ∀ p, (v6 (px p)).toNat < 32) (z : Vec Ideal S32x32 .f32) (a c : Fin 32) :
    (Host.scatterAdd (F := Ideal) (φ := .f32) scatter_S32x32_S262144x1_S262144x32_1_0_0_1 z (col v6) u (sk a c) : Ideal .f32)
      = z (sk a c) + ∑ p : Fin 262144, (if (v6 (px p)).toNat = a.val then (u (pk p c) : EReal) else 0) := by
  refine congrArg (fun e : EReal => (z (sk a c) : EReal) + e) ?_
  rw [Finset.sum_filter]
  refine (sum_idx2 _).trans (Finset.sum_congr rfl fun p _ => ?_)
  rw [Finset.sum_eq_single c]
  · exact if_congr ((lands2 v6 p c a c (h p)).trans (and_iff_left rfl)) rfl rfl
  · exact fun k _ hk => if_neg fun e => hk ((lands2 v6 p k a c (h p)).1 e).2
  · exact fun e => absurd (Finset.mem_univ c) e

/-- The ids with a negative one wrapped: as they are, below 32. -/
def wrap : IVec S262144 32 :=
  select (cmpi .slt v6 (broadcastInDim S262144 ![] bcast_S_S262144 (constantI S_ 32 0#32))) (addi v6 (broadcastInDim S262144 ![] bcast_S_S262144 (constantI S_ 32 32#32))) v6

theorem wrap_eq (h : ∀ p, (v6 (px p)).toNat < 32) : wrap v6 = v6 := by
  funext j
  exact Routing.wrap_of_lt (v6 j) _ (by have := h (j 0); rw [show px (j 0) = j from ix1_eta j] at this; omega)

/-- The gather of each pixel's mean. -/
theorem gather_eq (h : ∀ p, (v6 (px p)).toNat < 32) (M : Vec Ideal S32x32 .f32) (p : Fin 262144) (k : Fin 32) :
    Host.gather gather_S32x32_S262144x1_S262144x32_1_0_n_n_0_1_132 M (col (wrap v6)) (pk p k) = M (sk ⟨(v6 (px p)).toNat, h p⟩ k) := by
  rw [wrap_eq v6 h]
  exact Routing.gather_row _ rfl rfl rfl rfl rfl M (col v6) p k ⟨(v6 (px p)).toNat, h p⟩
    ((col_at v6 p).trans (BitVec.ofNat_toNat 32 _ ▸ (BitVec.setWidth_eq _).symm)) (by norm_num)

end Cert.Proof.Refs

end
-- ==== Proof.RefLoss.lean ====
/-
  The reference's loss of one batch element as a function of its components and its ids, over the extended reals.
-/
module

public import proofs.«01_k».proof.Proof.RefSums
public import Idealize.ShloMosaic.Lib.IdealHost

@[expose] public section

set_option maxRecDepth 16384

noncomputable section

namespace Cert.Proof.Refs

open Cert.ReferenceIdeal Cert.ReferenceIdeal.Gen
open Idealize.ShloMosaic Idealize.SL.Sem
open Cert.Proof.Embed (xx ii cnt sm mean epsE halfE hq sq hin hs rq rep pull push size one_bits)

/-! ## The reference's operations, of any components and ids -/

section terms
variable (v5 : FVec Ideal S262144x32 .f32) (v6 : IVec S262144 32)

/-- Each segment's count of pixels, at least one. -/
def cntV : FVec Ideal S32 .f32 :=
  maximumf (Host.scatterAdd scatter_S32_S262144x1_S262144_n_0_0_1 (broadcastInDim S32 ![] bcast_S_S32 (constant S_ .f32 0x00000000#32)) (col v6) (broadcastInDim S262144 ![] bcast_S_S262144 (constant S_ .f32 0x3F800000#32))) (broadcastInDim S32 ![] bcast_S_S32 (constant S_ .f32 0x3F800000#32))

/-- Each segment's mean. -/
def meanV : FVec Ideal S32x32 .f32 :=
  Host.divf (Host.scatterAdd scatter_S32x32_S262144x1_S262144x32_1_0_0_1 (broadcastInDim S32x32 ![] bcast_S_S32x32 (constant S_ .f32 0x00000000#32)) (col v6) v5) (broadcastInDim S32x32 ![0, 1] bcast_S32x1_S32x32_0_1 (broadcastInDim S32x1 ![0] bcast_S32_S32x1_0 (cntV v6)))

/-- Each pixel less its segment's mean. -/
def devV : FVec Ideal S262144x32 .f32 :=
  subf v5 (Host.gather gather_S32x32_S262144x1_S262144x32_1_0_n_n_0_1_132 (meanV v5 v6) (col (wrap v6)))

/-- What of each pixel's distance exceeds a half. -/
def hinV : FVec Ideal S262144 .f32 :=
  maximumf (broadcastInDim S262144 ![] bcast_S_S262144 (id (constant S_ .f32 0x00000000#32))) (subf (Host.sqrt (addf (Host.reduceAdd (mulf (devV v5 v6) (devV v5 v6)) (constant S_ .f32 0x00000000#32) reducesTo_S262144x32_S262144_d1 h_S_) (broadcastInDim S262144 ![] bcast_S_S262144 (constant S_ .f32 0x2B8CBCCC#32)))) (broadcastInDim S262144 ![] bcast_S_S262144 (constant S_ .f32 0x3F000000#32)))

/-- The differences of the means, pair by pair. -/
def gapV : FVec Ideal S32x32x32 .f32 :=
  subf (broadcastInDim S32x32x32 ![0, 1, 2] bcast_S32x1x32_S32x32x32_0_1_2 (broadcastInDim S32x1x32 ![0, 2] bcast_S32x32_S32x1x32_0_2 (meanV v5 v6))) (broadcastInDim S32x32x32 ![0, 1, 2] bcast_S1x32x32_S32x32x32_0_1_2 (broadcastInDim S1x32x32 ![1, 2] bcast_S32x32_S1x32x32_1_2 (meanV v5 v6)))

/-- What each pair's distance falls short of three by. -/
def repV : FVec Ideal S32x32 .f32 :=
  maximumf (broadcastInDim S32x32 ![] bcast_S_S32x32 (id (constant S_ .f32 0x00000000#32))) (subf (broadcastInDim S32x32 ![] bcast_S_S32x32 (constant S_ .f32 0x40400000#32)) (Host.sqrt (addf (Host.reduceAdd (mulf (gapV v5 v6) (gapV v5 v6)) (constant S_ .f32 0x00000000#32) reducesTo_S32x32x32_S32x32_d2 h_S_) (broadcastInDim S32x32 ![] bcast_S_S32x32 (constant S_ .f32 0x2B8CBCCC#32)))))

/-- One off the diagonal, zero on it. -/
def offV : FVec Ideal S32x32 .f32 :=
  subf (broadcastInDim S32x32 ![] bcast_S_S32x32 (constant S_ .f32 0x3F800000#32)) (uitofp .f32 (cmpi .eq (addi (iotaInDim S32x32 32 0) (broadcastInDim S32x32 ![] bcast_S_S32x32 (constantI S_ 32 0#32))) (iotaInDim S32x32 32 1)))

/-- The pull term, not yet divided. -/
def pullV : FVec Ideal S_ .f32 :=
  Host.reduceAdd (Host.divf (Host.scatterAdd scatter_S32_S262144x1_S262144_n_0_0_1 (broadcastInDim S32 ![] bcast_S_S32 (constant S_ .f32 0x00000000#32)) (col v6) (mulf (hinV v5 v6) (hinV v5 v6))) (cntV v6)) (constant S_ .f32 0x00000000#32) reducesTo_S32_S_d0 h_S_

/-- The push term, not yet divided. -/
def pushV : FVec Ideal S_ .f32 :=
  Host.reduceAdd (mulf (mulf (repV v5 v6) (repV v5 v6)) offV) (constant S_ .f32 0x00000000#32) reducesTo_S32x32_S_d0_1 h_S_

/-- The size term, not yet divided. -/
def sizeV : FVec Ideal S_ .f32 :=
  Host.reduceAdd (Host.sqrt (addf (Host.reduceAdd (mulf (meanV v5 v6) (meanV v5 v6)) (constant S_ .f32 0x00000000#32) reducesTo_S32x32_S32_d1 h_S_) (broadcastInDim S32 ![] bcast_S_S32 (constant S_ .f32 0x2B8CBCCC#32)))) (constant S_ .f32 0x00000000#32) reducesTo_S32_S_d0 h_S_

/-- The loss of one batch element. -/
def lossV : FVec Ideal S_ .f32 :=
  addf (addf (mulf (constant S_ .f32 0x3F800000#32) (Host.divf (pullV v5 v6) (constant S_ .f32 0x42000000#32))) (mulf (constant S_ .f32 0x3F800000#32) (Host.divf (pushV v5 v6) (constant S_ .f32 0x44780000#32)))) (mulf (constant S_ .f32 0x3A83126F#32) (Host.divf (sizeV v5 v6) (constant S_ .f32 0x42000000#32)))

end terms

/-! ## Their values -/

/-- A sum from zero over `n` places of what a function of a number gives there. -/
theorem zero_sum (n : ℕ) (z : EReal) (hz : z = 0) (g : Fin n → EReal) (f : ℕ → EReal) (h : ∀ i, g i = f i.val) :
    z + ∑ i : Fin n, g i = ∑ i ∈ Finset.range n, f i := by
  rw [hz, zero_add, Finset.sum_range]
  exact Finset.sum_congr rfl fun i _ => h i

theorem max_at {s : Shape} (a b : FVec Ideal s .f32) (i : s.Idx) : (maximumf a b i : EReal) = max (a i) (b i) := rfl
theorem sub_at {s : Shape} (a b : FVec Ideal s .f32) (i : s.Idx) : (subf a b i : EReal) = a i - b i := rfl
theorem add_at {s : Shape} (a b : FVec Ideal s .f32) (i : s.Idx) : (addf a b i : EReal) = a i + b i := rfl
theorem mul_at {s : Shape} (a b : FVec Ideal s .f32) (i : s.Idx) : (mulf a b i : EReal) = a i * b i := rfl
theorem sqrt_at {s : Shape} (a : FVec Ideal s .f32) (i : s.Idx) : (Host.sqrt a i : EReal) = Ideal.sqrt (a i) := rfl

section values
variable (X : Vec Ideal Cert.KernelIdeal.S2x32x262144 .f32) (I : Cert.KernelIdeal.S2x262144.Idx → BitVec 32) (c : Fin 2)
variable (v5 : FVec Ideal S262144x32 .f32) (v6 : IVec S262144 32)
variable (h5 : ∀ p k, v5 (pk p k) = xx X c k.val p.val) (h6 : ∀ p, (v6 (px p)).toNat = ii I c p.val) (hlt : ∀ p, (v6 (px p)).toNat < 32)

include h6 hlt in
theorem cntV_at (a : Fin 32) : cntV v6 (sg a) = max (cnt I c a.val) 1 := by
  refine (congrArg (fun e : EReal => max e (Ideal.ofBits .f32 0x3F800000#32)) (scatter1_eq v6 _ hlt _ a)).trans ?_
  rw [one_bits]
  refine congrArg (fun e : EReal => max e 1) ?_
  refine zero_sum 262144 _ Ideal.ofBits_zero_f32 _ (fun p => if ii I c p = a.val then (1 : EReal) else 0) fun p => ?_
  rw [h6 p]
  exact if_congr Iff.rfl one_bits rfl

include h5 h6 hlt in
theorem meanV_at (a k : Fin 32) : meanV v5 v6 (sk a k) = mean X I c a.val k.val := by
  unfold meanV
  rw [ValueIdx.hostDivf_apply]
  rw [scatter2_eq v6 v5 hlt _ a k]
  unfold mean sm
  refine congrArg₂ Ideal.div ?_ ((broadcastInDim_apply _ _ _ _ (ix2 a (0 : Fin 1)) fun b => match b with | ⟨0, _⟩ => rfl | ⟨1, _⟩ => rfl).trans ((broadcastInDim_apply _ _ _ _ (sg a) fun b => match b with | ⟨0, _⟩ => rfl).trans (cntV_at I c v6 h6 hlt a)))
  refine zero_sum 262144 _ Ideal.ofBits_zero_f32 _ (fun p => if ii I c p = a.val then xx X c k.val p else 0) fun p => ?_
  rw [h6 p, h5 p k]

include h5 h6 hlt in
theorem devV_at (p : Fin 262144) (k : Fin 32) : devV v5 v6 (pk p k) = xx X c k.val p.val - mean X I c (ii I c p.val) k.val := by
  refine congrArg₂ (fun x y : EReal => x - y) (h5 p k) ((gather_eq v6 hlt _ p k).trans ((meanV_at X I c v5 v6 h5 h6 hlt _ k).trans ?_))
  exact congrArg (fun n => mean X I c n k.val) (h6 p)

include h5 h6 hlt in
theorem hinV_at (p : Fin 262144) : (hinV v5 v6 (px p) * hinV v5 v6 (px p) : EReal) = hin X I c p.val := by
  have e : hinV v5 v6 (px p) = max (Ideal.sqrt ((∑ k ∈ Finset.range 32, sq (xx X c k p.val - mean X I c (ii I c p.val) k)) + epsE) - halfE) 0 := by
    unfold hinV
    rw [max_at, sub_at, sqrt_at, add_at, ValueIdx.hostReduceAdd_apply, max_comm]
    refine congrArg₂ (fun x y : EReal => max x y) ?_ Ideal.ofBits_zero_f32
    refine congrArg (fun q : EReal => Ideal.sqrt (q + epsE) - halfE) ?_
    refine (Ideal.hostReduceAdd_r2_a1 _ _ _ _).trans ?_
    refine zero_sum 32 _ Ideal.ofBits_zero_f32 _ (fun k => sq (xx X c k p.val - mean X I c (ii I c p.val) k)) fun k => ?_
    exact congrArg sq (devV_at X I c v5 v6 h5 h6 hlt p k)
  rw [e]; rfl

include h5 h6 hlt in
theorem pullV_at (j : S_.Idx) : pullV v5 v6 j = pull X I c := by
  refine (Ideal.hostReduceAdd_r1_a0 _ _ _ _).trans ?_
  refine zero_sum 32 _ Ideal.ofBits_zero_f32 _ (fun a => Ideal.div (hs X I c a) (max (cnt I c a) 1)) fun a => ?_
  rw [ValueIdx.hostDivf_apply]
  rw [show (ix1 a : S32.Idx) = sg a from rfl, scatter1_eq v6 _ hlt _ a, cntV_at I c v6 h6 hlt a]
  refine congrArg (fun x : EReal => Ideal.div x (max (cnt I c a.val) 1)) ?_
  unfold hs
  refine zero_sum 262144 _ Ideal.ofBits_zero_f32 _ (fun p => if ii I c p = a.val then hin X I c p else 0) fun p => ?_
  rw [h6 p]
  exact if_congr Iff.rfl (hinV_at X I c v5 v6 h5 h6 hlt p) rfl

include h5 h6 hlt in
theorem sizeV_at (j : S_.Idx) : sizeV v5 v6 j = size X I c := by
  refine (Ideal.hostReduceAdd_r1_a0 _ _ _ _).trans ?_
  refine zero_sum 32 _ Ideal.ofBits_zero_f32 _ (fun a => Ideal.sqrt ((∑ k ∈ Finset.range 32, sq (mean X I c a k)) + epsE)) fun a => ?_
  refine congrArg (fun q : EReal => Ideal.sqrt (q + epsE)) ?_
  refine (Ideal.hostReduceAdd_r2_a1 _ _ _ _).trans ?_
  refine zero_sum 32 _ Ideal.ofBits_zero_f32 _ (fun k => sq (mean X I c a.val k)) fun k => ?_
  exact congrArg sq (meanV_at X I c v5 v6 h5 h6 hlt a k)

include h5 h6 hlt in
theorem gapV_at (i t k : Fin 32) : gapV v5 v6 (ix3 i t k) = mean X I c i.val k.val - mean X I c t.val k.val := by
  refine congrArg₂ (fun x y : EReal => x - y) ?_ ?_
  · refine (broadcastInDim_apply _ _ _ _ (ix3 i (0 : Fin 1) k) fun b => match b with | ⟨0, _⟩ => rfl | ⟨1, _⟩ => rfl | ⟨2, _⟩ => rfl).trans ?_
    refine (broadcastInDim_apply _ _ _ _ (sk i k) fun b => match b with | ⟨0, _⟩ => rfl | ⟨1, _⟩ => rfl).trans ?_
    exact meanV_at X I c v5 v6 h5 h6 hlt i k
  · refine (broadcastInDim_apply _ _ _ _ (ix3 (0 : Fin 1) t k) fun b => match b with | ⟨0, _⟩ => rfl | ⟨1, _⟩ => rfl | ⟨2, _⟩ => rfl).trans ?_
    refine (broadcastInDim_apply _ _ _ _ (sk t k) fun b => match b with | ⟨0, _⟩ => rfl | ⟨1, _⟩ => rfl).trans ?_
    exact meanV_at X I c v5 v6 h5 h6 hlt t k

include h5 h6 hlt in
theorem repV_at (i t : Fin 32) : (repV v5 v6 (sk i t) * repV v5 v6 (sk i t) : EReal) = rq (∑ k ∈ Finset.range 32, sq (mean X I c i.val k - mean X I c t.val k)) := by
  have e : repV v5 v6 (sk i t) = max (Ideal.ofBits .f32 0x40400000#32 - Ideal.sqrt ((∑ k ∈ Finset.range 32, sq (mean X I c i.val k - mean X I c t.val k)) + epsE)) 0 := by
    refine (max_comm _ _).trans (congrArg₂ (fun x y : EReal => max x y) ?_ Ideal.ofBits_zero_f32)
    refine congrArg (fun q : EReal => Ideal.ofBits .f32 0x40400000#32 - Ideal.sqrt (q + epsE)) ?_
    refine (Ideal.hostReduceAdd_r3_a2 _ _ _ _).trans ?_
    refine zero_sum 32 _ Ideal.ofBits_zero_f32 _ (fun k => sq (mean X I c i.val k - mean X I c t.val k)) fun k => ?_
    exact congrArg sq (gapV_at X I c v5 v6 h5 h6 hlt i t k)
  rw [e]; rfl

theorem offV_at (i t : Fin 32) : offV (sk i t) = if i.val = t.val then (0 : EReal) else 1 := by
  have e : (cmpi .eq (addi (iotaInDim S32x32 32 0) (broadcastInDim S32x32 ![] bcast_S_S32x32 (constantI S_ 32 0#32))) (iotaInDim S32x32 32 1) (sk i t) : BitVec 1) = if i.val = t.val then 1#1 else 0#1 := by
    revert i t; decide
  have e2 : offV (sk i t) = (1 : EReal) - (((if i.val = t.val then 1#1 else 0#1 : BitVec 1).toNat : ℝ) : EReal) := by
    refine congrArg₂ (fun x y : EReal => x - y) one_bits ?_
    exact congrArg (fun b : BitVec 1 => ((b.toNat : ℝ) : EReal)) e
  rw [e2]
  by_cases h : i.val = t.val
  · rw [if_pos h, if_pos h, show ((1#1 : BitVec 1).toNat : ℝ) = 1 by norm_num]; exact EReal.sub_self (EReal.coe_ne_top 1) (EReal.coe_ne_bot 1)
  · rw [if_neg h, if_neg h]; norm_num

include h5 h6 hlt in
theorem pushV_at (j : S_.Idx) : pushV v5 v6 j = push X I c := by
  refine (Ideal.hostReduceAdd_r2_a01 _ _ _ _).trans ?_
  refine (congrArg₂ (fun x y : EReal => x + y) Ideal.ofBits_zero_f32 Finset.sum_comm).trans ((zero_add _).trans ?_)
  refine Eq.trans (Finset.sum_congr rfl fun t _ => ?_) (Finset.sum_range (n := 32) fun t => ∑ b ∈ Finset.range 32, rep (mean X I c) t b).symm
  refine Eq.trans (Finset.sum_congr rfl fun i _ => ?_) (Finset.sum_range (n := 32) fun b => rep (mean X I c) t.val b).symm
  refine (congrArg₂ (fun x y : EReal => x * y) (repV_at X I c v5 v6 h5 h6 hlt i t) (offV_at i t)).trans ?_
  unfold rep
  by_cases h : i.val = t.val
  · rw [if_pos h, if_pos h, mul_zero]
  · rw [if_neg h, if_neg h, mul_one]

include h5 h6 hlt in
/-- The loss in the sums of the components and the ids. -/
theorem lossV_at (j : S_.Idx) : (lossV v5 v6 j : EReal)
    = 1 * Ideal.div (pull X I c) (Ideal.ofBits .f32 0x42000000#32) + 1 * Ideal.div (push X I c) (Ideal.ofBits .f32 0x44780000#32)
      + Ideal.ofBits .f32 0x3A83126F#32 * Ideal.div (size X I c) (Ideal.ofBits .f32 0x42000000#32) := by
  rw [← pullV_at X I c v5 v6 h5 h6 hlt j, ← pushV_at X I c v5 v6 h5 h6 hlt j, ← sizeV_at X I c v5 v6 h5 h6 hlt j, ← one_bits]
  rfl

end values

end Cert.Proof.Refs

end
-- ==== Proof.Ends.lean ====
/-
  The kernel's result at the end of its run: half the sum of the two SparseCores' losses.
-/
module

public import proofs.«01_k».proof.Proof.Sums4
public import Idealize.ShloMosaic.Lib.Pipeline.Value
public import Idealize.ShloMosaic.Lib.Pointwise.Index

@[expose] public section

set_option maxRecDepth 16384

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable (m : (ℓ : Loc nD τ sig) → Buf (Elt Ideal) ℓ)

/-- Device `d`'s result: half the sum of the two losses. -/
theorem end_v8 (d : Dev nD) (j : S_.Idx) : (Wv10 m d (dr main_v8) j : EReal)
    = ((outV (Xv m d) (Iv m d) 0 (ln 0) : EReal) + (outV (Xv m d) (Iv m d) 1 (ln 0) : EReal)) * Ideal.ofBits .f32 0x3F000000#32 := by
  have hv2 : Wv3 m d (dr main_v2) = outAll m d := Function.update_self _ _ _
  have hv3 : Wv4 m d (dr main_v3) = extractStridedSlice S1x1 ![0, 0] (outAll m d) slices_S2x16_S1x1_0_0 := by
    unfold Wv4; rw [StableHlo.unary_result', hv2]
  have hv4 : Wv5 m d (dr main_v4) = shapeCast S_ (extractStridedSlice S1x1 ![0, 0] (outAll m d) slices_S2x16_S1x1_0_0) shapeCasts_S1x1_S_ := by
    unfold Wv5; rw [StableHlo.reshape_result', hv3]; rfl
  have hv2' : Wv5 m d (dr main_v2) = outAll m d := by
    unfold Wv5 Wv4
    rw [HloOp.result_of_not_mem _ _ (b := dr main_v2) (show dr main_v2 ∉ ({dr main_v4} : Finset (DevRef τ sig)) by decide),
      HloOp.result_of_not_mem _ _ (b := dr main_v2) (show dr main_v2 ∉ ({dr main_v3} : Finset (DevRef τ sig)) by decide), hv2]
  have hv5 : Wv6 m d (dr main_v5) = extractStridedSlice S1x1 ![1, 0] (outAll m d) slices_S2x16_S1x1_1_0 := by
    unfold Wv6; rw [StableHlo.unary_result', hv2']
  have hv6 : Wv7 m d (dr main_v6) = shapeCast S_ (extractStridedSlice S1x1 ![1, 0] (outAll m d) slices_S2x16_S1x1_1_0) shapeCasts_S1x1_S_ := by
    unfold Wv7; rw [StableHlo.reshape_result', hv5]; rfl
  have hv4' : Wv7 m d (dr main_v4) = shapeCast S_ (extractStridedSlice S1x1 ![0, 0] (outAll m d) slices_S2x16_S1x1_0_0) shapeCasts_S1x1_S_ := by
    unfold Wv7 Wv6
    rw [HloOp.result_of_not_mem _ _ (b := dr main_v4) (show dr main_v4 ∉ ({dr main_v6} : Finset (DevRef τ sig)) by decide),
      HloOp.result_of_not_mem _ _ (b := dr main_v4) (show dr main_v4 ∉ ({dr main_v5} : Finset (DevRef τ sig)) by decide), hv4]
  have hv7 : Wv9 m d (dr main_v7) = addf (F := Ideal) (s := S_) (φ := .f32) (shapeCast S_ (extractStridedSlice S1x1 ![0, 0] (outAll m d) slices_S2x16_S1x1_0_0) shapeCasts_S1x1_S_)
      (shapeCast S_ (extractStridedSlice S1x1 ![1, 0] (outAll m d) slices_S2x16_S1x1_1_0) shapeCasts_S1x1_S_) := by
    unfold Wv9 Wv8
    rw [HloOp.result_of_not_mem _ _ (b := dr main_v7) (show dr main_v7 ∉ ({dr main_cst} : Finset (DevRef τ sig)) by decide),
      StableHlo.binary_result', hv4', hv6]
  have hc : Wv9 m d (dr main_cst) = constant (F := Ideal) S_ .f32 0x3F000000#32 := by
    unfold Wv9; rw [StableHlo.nullary_result']
  have h8 : Wv10 m d (dr main_v8) = mulf (F := Ideal) (s := S_) (φ := .f32) (addf (F := Ideal) (s := S_) (φ := .f32) (shapeCast S_ (extractStridedSlice S1x1 ![0, 0] (outAll m d) slices_S2x16_S1x1_0_0) shapeCasts_S1x1_S_)
      (shapeCast S_ (extractStridedSlice S1x1 ![1, 0] (outAll m d) slices_S2x16_S1x1_1_0) shapeCasts_S1x1_S_)) (constant (F := Ideal) S_ .f32 0x3F000000#32) := by
    unfold Wv10; rw [StableHlo.binary_result', hv7, hc]
  have e0 : shapeCast S_ (extractStridedSlice S1x1 ![0, 0] (outAll m d) slices_S2x16_S1x1_0_0) shapeCasts_S1x1_S_ j = outV (Xv m d) (Iv m d) 0 (ln 0) := by
    refine (extractStridedSlice_apply _ _ _ _ (Idealize.ShloMosaic.ix2 (0 : Fin 2) (0 : Fin 16)) fun a => ?_).trans rfl
    have h1 : ∀ q : S1x1.Idx, (q a).val = 0 := fun q => by match a with
      | ⟨0, _⟩ => exact Nat.lt_one_iff.1 (q 0).isLt
      | ⟨1, _⟩ => exact Nat.lt_one_iff.1 (q 1).isLt
    refine Eq.trans ?_ (congrArg (fun n => (![0, 0] : Fin 2 → ℕ) a + n) (h1 _)).symm
    match a with
    | ⟨0, _⟩ => rfl
    | ⟨1, _⟩ => rfl
  have e1 : shapeCast S_ (extractStridedSlice S1x1 ![1, 0] (outAll m d) slices_S2x16_S1x1_1_0) shapeCasts_S1x1_S_ j = outV (Xv m d) (Iv m d) 1 (ln 0) := by
    refine (extractStridedSlice_apply _ _ _ _ (Idealize.ShloMosaic.ix2 (1 : Fin 2) (0 : Fin 16)) fun a => ?_).trans rfl
    have h1 : ∀ q : S1x1.Idx, (q a).val = 0 := fun q => by match a with
      | ⟨0, _⟩ => exact Nat.lt_one_iff.1 (q 0).isLt
      | ⟨1, _⟩ => exact Nat.lt_one_iff.1 (q 1).isLt
    refine Eq.trans ?_ (congrArg (fun n => (![1, 0] : Fin 2 → ℕ) a + n) (h1 _)).symm
    match a with
    | ⟨0, _⟩ => rfl
    | ⟨1, _⟩ => rfl
  rw [h8, ← e0, ← e1]
  rfl

end Cert.Proof.Embed
-- ==== Proof.Agree.lean ====
/-
  The kernel and the reference agree over the extended reals: each result is half the sum of the two batch elements' losses.
-/
module

public import proofs.«01_k».proof.Proof.RefLoss
public import proofs.«01_k».proof.Proof.Ends

@[expose] public section

set_option maxRecDepth 16384

noncomputable section

namespace Cert.Proof.Refs

open Cert.ReferenceIdeal Cert.ReferenceIdeal.Gen Cert.ReferenceIdeal.Value
open Idealize.ShloMosaic Idealize.SL.Sem
open Cert.Proof.Embed (xx ii pull push size one_bits pxI idI Xv Iv Xv_eq Iv_eq ids_lt outV ln outV_eq end_v8 Wv10 dr uc end_arg0 end_arg1 run_main)

/-! ## The reference's arguments read at a pixel -/

section reads
variable (A0 : FVec Ideal S2x32x512x512 .f32) (A1 : IVec S2x1x512x512 32)

theorem read5_0 (p : Fin 262144) (k : Fin 32) :
    transpose S262144x32 [1, 0] (shapeCast S32x262144 (shapeCast S32x512x512 (extractStridedSlice S1x32x512x512 ![0, 0, 0, 0] A0 slices_S2x32x512x512_S1x32x512x512_0_0_0_0) shapeCasts_S1x32x512x512_S32x512x512) shapeCasts_S32x512x512_S32x262144) transposes_S32x262144_S262144x32_1_0 (pk p k)
      = A0 (ix4 (0 : Fin 2) k ⟨p.val / 512, by omega⟩ ⟨p.val % 512, by omega⟩) := by
  refine (transpose_apply _ _ _ _ (ix2 k p) fun c => match c with | ⟨0, _⟩ => rfl | ⟨1, _⟩ => rfl).trans ?_
  refine (shapeCast_apply _ _ _ (ix3 k ⟨p.val / 512, by omega⟩ ⟨p.val % 512, by omega⟩) ?_).trans ?_
  · refine (Shape.rowMajor_val_three _).trans (Eq.trans ?_ (Shape.rowMajor_val_two _).symm)
    show (k.val * 512 + p.val / 512) * 512 + p.val % 512 = k.val * 262144 + p.val
    omega
  refine (shapeCast_apply _ _ _ (ix4 (0 : Fin 1) k ⟨p.val / 512, by omega⟩ ⟨p.val % 512, by omega⟩) ?_).trans ?_
  · refine (Shape.rowMajor_val_four _).trans (Eq.trans ?_ (Shape.rowMajor_val_three _).symm)
    show ((0 * 32 + k.val) * 512 + p.val / 512) * 512 + p.val % 512 = (k.val * 512 + p.val / 512) * 512 + p.val % 512
    omega
  exact extractStridedSlice_apply _ _ _ _ _ fun a => match a with
    | ⟨0, _⟩ => rfl
    | ⟨1, _⟩ => (Nat.zero_add _).symm
    | ⟨2, _⟩ => (Nat.zero_add _).symm
    | ⟨3, _⟩ => (Nat.zero_add _).symm

theorem read5_1 (p : Fin 262144) (k : Fin 32) :
    transpose S262144x32 [1, 0] (shapeCast S32x262144 (shapeCast S32x512x512 (extractStridedSlice S1x32x512x512 ![1, 0, 0, 0] A0 slices_S2x32x512x512_S1x32x512x512_1_0_0_0) shapeCasts_S1x32x512x512_S32x512x512) shapeCasts_S32x512x512_S32x262144) transposes_S32x262144_S262144x32_1_0 (pk p k)
      = A0 (ix4 (1 : Fin 2) k ⟨p.val / 512, by omega⟩ ⟨p.val % 512, by omega⟩) := by
  refine (transpose_apply _ _ _ _ (ix2 k p) fun c => match c with | ⟨0, _⟩ => rfl | ⟨1, _⟩ => rfl).trans ?_
  refine (shapeCast_apply _ _ _ (ix3 k ⟨p.val / 512, by omega⟩ ⟨p.val % 512, by omega⟩) ?_).trans ?_
  · refine (Shape.rowMajor_val_three _).trans (Eq.trans ?_ (Shape.rowMajor_val_two _).symm)
    show (k.val * 512 + p.val / 512) * 512 + p.val % 512 = k.val * 262144 + p.val
    omega
  refine (shapeCast_apply _ _ _ (ix4 (0 : Fin 1) k ⟨p.val / 512, by omega⟩ ⟨p.val % 512, by omega⟩) ?_).trans ?_
  · refine (Shape.rowMajor_val_four _).trans (Eq.trans ?_ (Shape.rowMajor_val_three _).symm)
    show ((0 * 32 + k.val) * 512 + p.val / 512) * 512 + p.val % 512 = (k.val * 512 + p.val / 512) * 512 + p.val % 512
    omega
  exact extractStridedSlice_apply _ _ _ _ _ fun a => match a with
    | ⟨0, _⟩ => rfl
    | ⟨1, _⟩ => (Nat.zero_add _).symm
    | ⟨2, _⟩ => (Nat.zero_add _).symm
    | ⟨3, _⟩ => (Nat.zero_add _).symm

theorem read6_0 (p : Fin 262144) :
    shapeCast S262144 (shapeCast S1x512x512 (extractStridedSlice S1x1x512x512 ![0, 0, 0, 0] A1 slices_S2x1x512x512_S1x1x512x512_0_0_0_0) shapeCasts_S1x1x512x512_S1x512x512) shapeCasts_S1x512x512_S262144 (px p)
      = A1 (ix4 (0 : Fin 2) (0 : Fin 1) ⟨p.val / 512, by omega⟩ ⟨p.val % 512, by omega⟩) := by
  refine (shapeCast_apply _ _ _ (ix3 (0 : Fin 1) ⟨p.val / 512, by omega⟩ ⟨p.val % 512, by omega⟩) ?_).trans ?_
  · refine (Shape.rowMajor_val_three _).trans (Eq.trans ?_ (Shape.rowMajor_val_one _).symm)
    show (0 * 512 + p.val / 512) * 512 + p.val % 512 = p.val
    omega
  refine (shapeCast_apply _ _ _ (ix4 (0 : Fin 1) (0 : Fin 1) ⟨p.val / 512, by omega⟩ ⟨p.val % 512, by omega⟩) ?_).trans ?_
  · refine (Shape.rowMajor_val_four _).trans (Eq.trans ?_ (Shape.rowMajor_val_three _).symm)
    show ((0 * 1 + 0) * 512 + p.val / 512) * 512 + p.val % 512 = (0 * 512 + p.val / 512) * 512 + p.val % 512
    omega
  exact extractStridedSlice_apply _ _ _ _ _ fun a => match a with
    | ⟨0, _⟩ => rfl
    | ⟨1, _⟩ => (Nat.zero_add _).symm
    | ⟨2, _⟩ => (Nat.zero_add _).symm
    | ⟨3, _⟩ => (Nat.zero_add _).symm

theorem read6_1 (p : Fin 262144) :
    shapeCast S262144 (shapeCast S1x512x512 (extractStridedSlice S1x1x512x512 ![1, 0, 0, 0] A1 slices_S2x1x512x512_S1x1x512x512_1_0_0_0) shapeCasts_S1x1x512x512_S1x512x512) shapeCasts_S1x512x512_S262144 (px p)
      = A1 (ix4 (1 : Fin 2) (0 : Fin 1) ⟨p.val / 512, by omega⟩ ⟨p.val % 512, by omega⟩) := by
  refine (shapeCast_apply _ _ _ (ix3 (0 : Fin 1) ⟨p.val / 512, by omega⟩ ⟨p.val % 512, by omega⟩) ?_).trans ?_
  · refine (Shape.rowMajor_val_three _).trans (Eq.trans ?_ (Shape.rowMajor_val_one _).symm)
    show (0 * 512 + p.val / 512) * 512 + p.val % 512 = p.val
    omega
  refine (shapeCast_apply _ _ _ (ix4 (0 : Fin 1) (0 : Fin 1) ⟨p.val / 512, by omega⟩ ⟨p.val % 512, by omega⟩) ?_).trans ?_
  · refine (Shape.rowMajor_val_four _).trans (Eq.trans ?_ (Shape.rowMajor_val_three _).symm)
    show ((0 * 1 + 0) * 512 + p.val / 512) * 512 + p.val % 512 = (0 * 512 + p.val / 512) * 512 + p.val % 512
    omega
  exact extractStridedSlice_apply _ _ _ _ _ fun a => match a with
    | ⟨0, _⟩ => rfl
    | ⟨1, _⟩ => (Nat.zero_add _).symm
    | ⟨2, _⟩ => (Nat.zero_add _).symm
    | ⟨3, _⟩ => (Nat.zero_add _).symm

/-- The kernel's flattened components at a pixel. -/
theorem readX (h : S2x32x512x512.ShapeCasts Cert.KernelIdeal.S2x32x262144) (c : Fin 2) (p : Fin 262144) (k : Fin 32) :
    shapeCast Cert.KernelIdeal.S2x32x262144 A0 h (pxI c k.val p.val) = A0 (ix4 c k ⟨p.val / 512, by omega⟩ ⟨p.val % 512, by omega⟩) := by
  refine shapeCast_apply _ _ _ _ ?_
  refine (Shape.rowMajor_val_four _).trans (Eq.trans ?_ (Shape.rowMajor_val_three _).symm)
  show ((c.val * 32 + k.val) * 512 + p.val / 512) * 512 + p.val % 512 = (c.val * 32 + k.val % 32) * 262144 + p.val % 262144
  omega

/-- The kernel's flattened ids at a pixel. -/
theorem readI (h : S2x1x512x512.ShapeCasts Cert.KernelIdeal.S2x262144) (c : Fin 2) (p : Fin 262144) :
    shapeCast Cert.KernelIdeal.S2x262144 A1 h (idI c p.val) = A1 (ix4 c (0 : Fin 1) ⟨p.val / 512, by omega⟩ ⟨p.val % 512, by omega⟩) := by
  refine shapeCast_apply _ _ _ _ ?_
  refine (Shape.rowMajor_val_four _).trans (Eq.trans ?_ (Shape.rowMajor_val_two _).symm)
  show ((c.val * 1 + 0) * 512 + p.val / 512) * 512 + p.val % 512 = c.val * 262144 + p.val % 262144
  omega

end reads

/-! ## The constants -/

theorem c32 : Ideal.ofBits .f32 0x42000000#32 = ((32 : ℝ) : EReal) := by
  simp [Ideal.ofBits, Ideal.ieee]; rw [← EReal.coe_mul]; norm_num
theorem c32i : Ideal.ofBits .f32 0x3D000000#32 = ((1 / 32 : ℝ) : EReal) := by
  simp [Ideal.ofBits, Ideal.ieee]; rw [← EReal.coe_mul]; norm_num
theorem c992 : Ideal.ofBits .f32 0x44780000#32 = ((992 : ℝ) : EReal) := by
  simp [Ideal.ofBits, Ideal.ieee]; rw [← EReal.coe_mul]; norm_num
theorem c2 : Ideal.ofBits .f32 0x40000000#32 = ((2 : ℝ) : EReal) := by
  simp [Ideal.ofBits, Ideal.ieee]; rw [← EReal.coe_mul]; norm_num
theorem c2i : Ideal.ofBits .f32 0x3F000000#32 = ((1 / 2 : ℝ) : EReal) := by
  simp [Ideal.ofBits, Ideal.ieee]; rw [← EReal.coe_mul]; norm_num

theorem div_real (x : EReal) (r : ℝ) (hr : r ≠ 0) : Ideal.div x (r : EReal) = x * ((1 / r : ℝ) : EReal) := by
  unfold Ideal.div
  rw [if_neg (by exact_mod_cast hr), one_div, EReal.coe_inv]

/-! ## One batch element, and both -/

/-- A batch element's loss is what the kernel's SparseCore leaves. -/
theorem loss_eq (X : Vec Ideal Cert.KernelIdeal.S2x32x262144 .f32) (I : Cert.KernelIdeal.S2x262144.Idx → BitVec 32) (c : Fin 2)
    (hI : ∀ j, (I j).toNat < 32) (v5 : FVec Ideal S262144x32 .f32) (v6 : IVec S262144 32)
    (h5 : ∀ p k, v5 (pk p k) = xx X c k.val p.val) (h6 : ∀ p, v6 (px p) = I (idI c p.val)) (j : S_.Idx) :
    (lossV v5 v6 j : EReal) = outV X I c (ln 0) := by
  rw [lossV_at X I c v5 v6 h5 (fun p => congrArg BitVec.toNat (h6 p)) (fun p => by rw [h6 p]; exact hI _) j, outV_eq X I c hI,
    c32, c32i, c992, div_real _ 32 (by norm_num), div_real _ 992 (by norm_num), div_real _ 32 (by norm_num)]

/-- The reference's run, its result in the losses of its two batch elements. -/
theorem run_loss (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v160) = Host.divf (F := Ideal) (s := S_) (φ := .f32) (addf (addf (constant S_ .f32 0x00000000#32)
        (lossV (res_main_v5 (StableHlo.launchContents m c)) (res_main_v6 (StableHlo.launchContents m c)))) (lossV (res_main_v85 (StableHlo.launchContents m c)) (res_main_v86 (StableHlo.launchContents m c)))) (constant S_ .f32 0x40000000#32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run (F := Ideal) m ρ

/-- From one memory's arguments the two results are equal. -/
theorem result_eq (m : (ℓ : Loc Cert.KernelIdeal.nD Cert.KernelIdeal.τ Cert.KernelIdeal.sig) → Buf (Elt Ideal) ℓ)
    (m' : (ℓ : Loc nD τ sig) → Buf (Elt Ideal) ℓ) (c : Dev nD) (hI : ∀ j, (Iv (F := Ideal) m c j).toNat < 32)
    (h0 : m' ((c.tc : Thread nD τ).loc main_arg0) = m ((SparseCore.T c).loc Cert.KernelIdeal.main_arg0))
    (h1 : m' ((c.tc : Thread nD τ).loc main_arg1) = m ((SparseCore.T c).loc Cert.KernelIdeal.main_arg1)) :
    Host.divf (F := Ideal) (s := S_) (φ := .f32) (addf (addf (constant S_ .f32 0x00000000#32)
        (lossV (res_main_v5 (StableHlo.launchContents m' c)) (res_main_v6 (StableHlo.launchContents m' c)))) (lossV (res_main_v85 (StableHlo.launchContents m' c)) (res_main_v86 (StableHlo.launchContents m' c)))) (constant S_ .f32 0x40000000#32)
      = Wv10 (F := Ideal) m c (dr Cert.KernelIdeal.main_v8) := by
  funext j
  refine Eq.trans ?_ (end_v8 m c j).symm
  have hX := Xv_eq (F := Ideal) m c
  have hV := Iv_eq (F := Ideal) m c
  have a0 : (lossV (res_main_v5 (StableHlo.launchContents m' c)) (res_main_v6 (StableHlo.launchContents m' c)) j : EReal) = outV (Xv m c) (Iv m c) 0 (ln 0) := by
    refine loss_eq _ _ 0 hI _ _ (fun p k => ?_) (fun p => ?_) j
    · unfold xx; rw [hX]
      exact (read5_0 _ p k).trans ((congrFun h0 _).trans (readX _ _ 0 p k).symm)
    · rw [hV]
      exact (read6_0 _ p).trans ((congrFun h1 _).trans (readI _ _ 0 p).symm)
  have a1 : (lossV (res_main_v85 (StableHlo.launchContents m' c)) (res_main_v86 (StableHlo.launchContents m' c)) j : EReal) = outV (Xv m c) (Iv m c) 1 (ln 0) := by
    refine loss_eq _ _ 1 hI _ _ (fun p k => ?_) (fun p => ?_) j
    · unfold xx; rw [hX]
      exact (read5_1 _ p k).trans ((congrFun h0 _).trans (readX _ _ 1 p k).symm)
    · rw [hV]
      exact (read6_1 _ p).trans ((congrFun h1 _).trans (readI _ _ 1 p).symm)
  rw [ValueIdx.hostDivf_apply, add_at, add_at, a0, a1]
  generalize (outV (Xv m c) (Iv m c) 0 (ln 0) : EReal) = x, (outV (Xv m c) (Iv m c) 1 (ln 0) : EReal) = y
  show Ideal.div ((Ideal.ofBits .f32 0x00000000#32 + x) + y) (Ideal.ofBits .f32 0x40000000#32) = _
  rw [Ideal.ofBits_zero_f32, zero_add, c2, c2i, div_real _ 2 (by norm_num)]

/-- The kernel and the reference leave the same result. -/
theorem algebraic : Cert.algebraic_KernelIdeal_ReferenceIdeal := fun m g m' g' hp hin =>
  ⟨fun c => Wv10 (F := Ideal) m c (dr Cert.KernelIdeal.main_v8),
    (θ_run Cert.KernelIdeal.defs _ _).mono
      (fun _ h c => ⟨h.1 c _ (uc rfl), (h.1 c _ (uc rfl)).trans (end_arg0 m c), (h.1 c _ (uc rfl)).trans (end_arg1 m c)⟩)
      (run_main (F := Ideal) m g (ids_lt (F := Ideal) m hp)),
    (θ_run defs _ _).mono
      (fun _ h c => ⟨(h c).1.trans (result_eq m m' c (ids_lt (F := Ideal) m hp c) (hin c).1 (hin c).2), (h c).2⟩)
      (run_loss m' g')⟩

end Cert.Proof.Refs

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_ids_in_range
public import proofs.«01_k».proof.Proof.Frames
public import proofs.«01_k».proof.Proof.Refs
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_ids_in_range.Gen.facts,
  Embed.frame_kernel, Embed.frame_ideal, Refs.frame_ref, Refs.frame_ref_pre, IdealRules.named_const.statement Cert.KernelIdeal.κ "inv_pairs" .f32 0x3A842108#32 _ rfl, Refs.algebraic⟩

end Cert.Proof

end
